-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite [hPre_finite : Cert.Pre_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite [hPre_finite : Cert.Pre_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Kernel15Ideal_pre_finite [hKernel15Ideal : Cert.Kernel15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Reference15Ideal_pre_finite [hReference15Ideal : Cert.Reference15Ideal.Facts] [hPre_finite : Cert.Pre_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9)
      ∧ r.2.mem ((c.tc : Thread Cert.Kernel20.nD Cert.Kernel20.τ).loc Cert.Kernel20.main_arg10) = m ((c.tc : Thread Cert.Kernel20.nD Cert.Kernel20.τ).loc Cert.Kernel20.main_arg10)
      ∧ r.2.mem ((c.tc : Thread Cert.Kernel20.nD Cert.Kernel20.τ).loc Cert.Kernel20.main_arg11) = m ((c.tc : Thread Cert.Kernel20.nD Cert.Kernel20.τ).loc Cert.Kernel20.main_arg11)
      ∧ r.2.mem ((c.tc : Thread Cert.Kernel20.nD Cert.Kernel20.τ).loc Cert.Kernel20.main_arg12) = m ((c.tc : Thread Cert.Kernel20.nD Cert.Kernel20.τ).loc Cert.Kernel20.main_arg12))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
      ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
      ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
      ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9)
      ∧ r.2.mem ((c.tc : Thread Cert.Reference20Ideal.nD Cert.Reference20Ideal.τ).loc Cert.Reference20Ideal.main_arg10) = m ((c.tc : Thread Cert.Reference20Ideal.nD Cert.Reference20Ideal.τ).loc Cert.Reference20Ideal.main_arg10)
      ∧ r.2.mem ((c.tc : Thread Cert.Reference20Ideal.nD Cert.Reference20Ideal.τ).loc Cert.Reference20Ideal.main_arg11) = m ((c.tc : Thread Cert.Reference20Ideal.nD Cert.Reference20Ideal.τ).loc Cert.Reference20Ideal.main_arg11)
      ∧ r.2.mem ((c.tc : Thread Cert.Reference20Ideal.nD Cert.Reference20Ideal.τ).loc Cert.Reference20Ideal.main_arg12) = m ((c.tc : Thread Cert.Reference20Ideal.nD Cert.Reference20Ideal.τ).loc Cert.Reference20Ideal.main_arg12))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v79) = v5 c
          ∧ r.2.mem ((c.tc : Thread Cert.ReferenceIdeal.nD Cert.ReferenceIdeal.τ).loc Cert.ReferenceIdeal.main_v82) = v6 c
          ∧ r.2.mem ((c.tc : Thread Cert.ReferenceIdeal.nD Cert.ReferenceIdeal.τ).loc Cert.ReferenceIdeal.main_v85) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_v6) = v3 c
          ∧ r.2.mem ((c.tc : Thread Cert.Reference7Ideal.nD Cert.Reference7Ideal.τ).loc Cert.Reference7Ideal.main_v7) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v32) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v42) = v0 c
          ∧ r.2.mem ((c.tc : Thread Cert.Reference11Ideal.nD Cert.Reference11Ideal.τ).loc Cert.Reference11Ideal.main_v80) = v1 c
          ∧ r.2.mem ((c.tc : Thread Cert.Reference11Ideal.nD Cert.Reference11Ideal.τ).loc Cert.Reference11Ideal.main_v81) = v2 c
          ∧ r.2.mem ((c.tc : Thread Cert.Reference11Ideal.nD Cert.Reference11Ideal.τ).loc Cert.Reference11Ideal.main_v82) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_v80) = v1 c
          ∧ r.2.mem ((c.tc : Thread Cert.Reference12Ideal.nD Cert.Reference12Ideal.τ).loc Cert.Reference12Ideal.main_v81) = v2 c
          ∧ r.2.mem ((c.tc : Thread Cert.Reference12Ideal.nD Cert.Reference12Ideal.τ).loc Cert.Reference12Ideal.main_v82) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)) (v3 : (c : Dev Cert.Kernel13Ideal.nD) → Buf (Elt Ideal) ((c.tc : Thread Cert.Kernel13Ideal.nD Cert.Kernel13Ideal.τ).loc Cert.Kernel13Ideal.main_v7_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_v7_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v72) = v1 c
          ∧ r.2.mem ((c.tc : Thread Cert.Reference13Ideal.nD Cert.Reference13Ideal.τ).loc Cert.Reference13Ideal.main_v73) = v2 c
          ∧ r.2.mem ((c.tc : Thread Cert.Reference13Ideal.nD Cert.Reference13Ideal.τ).loc Cert.Reference13Ideal.main_v74) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v42) = v0 c
          ∧ r.2.mem ((c.tc : Thread Cert.Reference14Ideal.nD Cert.Reference14Ideal.τ).loc Cert.Reference14Ideal.main_v43) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "gelu_a" .f32 0x3D372713#32 ((8943 / 200000 : ℝ) : EReal)
  ∧ IdealRules.named_const.Statement Cert.Kernel15Ideal.κ "gelu_3a" .f32 0x3E095D4F#32 ((26829 / 200000 : ℝ) : EReal)

def algebraic_Kernel15Ideal_Reference15Ideal_pre_finite [hKernel15Ideal : Cert.Kernel15Ideal.Facts] [hReference15Ideal : Cert.Reference15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v93) = v0 c
          ∧ r.2.mem ((c.tc : Thread Cert.Reference15Ideal.nD Cert.Reference15Ideal.τ).loc Cert.Reference15Ideal.main_v105) = v1 c
          ∧ r.2.mem ((c.tc : Thread Cert.Reference15Ideal.nD Cert.Reference15Ideal.τ).loc Cert.Reference15Ideal.main_v91) = v2 c
          ∧ r.2.mem ((c.tc : Thread Cert.Reference15Ideal.nD Cert.Reference15Ideal.τ).loc Cert.Reference15Ideal.main_v69) = v3 c
          ∧ r.2.mem ((c.tc : Thread Cert.Reference15Ideal.nD Cert.Reference15Ideal.τ).loc Cert.Reference15Ideal.main_v106) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "gelu_a" .f32 0x3D372713#32 ((8943 / 200000 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v43) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)
      ∧ m' ((c.tc : Thread Cert.Reference20Ideal.nD Cert.Reference20Ideal.τ).loc Cert.Reference20Ideal.main_arg10) = m ((c.tc : Thread Cert.Kernel20Ideal.nD Cert.Kernel20Ideal.τ).loc Cert.Kernel20Ideal.main_arg10)
      ∧ m' ((c.tc : Thread Cert.Reference20Ideal.nD Cert.Reference20Ideal.τ).loc Cert.Reference20Ideal.main_arg11) = m ((c.tc : Thread Cert.Kernel20Ideal.nD Cert.Kernel20Ideal.τ).loc Cert.Kernel20Ideal.main_arg11)
      ∧ m' ((c.tc : Thread Cert.Reference20Ideal.nD Cert.Reference20Ideal.τ).loc Cert.Reference20Ideal.main_arg12) = m ((c.tc : Thread Cert.Kernel20Ideal.nD Cert.Kernel20Ideal.τ).loc Cert.Kernel20Ideal.main_arg12)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
          ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
          ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
          ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v17) = v0 c
          ∧ r.2.mem ((c.tc : Thread Cert.Reference20Ideal.nD Cert.Reference20Ideal.τ).loc Cert.Reference20Ideal.main_v9) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9)
          ∧ r.2.mem ((c.tc : Thread Cert.Reference20Ideal.nD Cert.Reference20Ideal.τ).loc Cert.Reference20Ideal.main_arg10) = m' ((c.tc : Thread Cert.Reference20Ideal.nD Cert.Reference20Ideal.τ).loc Cert.Reference20Ideal.main_arg10)
          ∧ r.2.mem ((c.tc : Thread Cert.Reference20Ideal.nD Cert.Reference20Ideal.τ).loc Cert.Reference20Ideal.main_arg11) = m' ((c.tc : Thread Cert.Reference20Ideal.nD Cert.Reference20Ideal.τ).loc Cert.Reference20Ideal.main_arg11)
          ∧ r.2.mem ((c.tc : Thread Cert.Reference20Ideal.nD Cert.Reference20Ideal.τ).loc Cert.Reference20Ideal.main_arg12) = m' ((c.tc : Thread Cert.Reference20Ideal.nD Cert.Reference20Ideal.τ).loc Cert.Reference20Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_moderate : Cert.Pre_moderate.Facts) (hPre_finite : Cert.Pre_finite.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite (hKernel15Ideal := hKernel15Ideal) (hPre_finite := hPre_finite)
    ∧ quiescent_Reference15Ideal (hReference15Ideal := hReference15Ideal)
    ∧ quiescent_Reference15Ideal_pre_finite (hReference15Ideal := hReference15Ideal) (hPre_finite := hPre_finite)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_moderate (hKernelIdeal := hKernelIdeal) (hReferenceIdeal := hReferenceIdeal) (hPre_moderate := hPre_moderate)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite (hKernel15Ideal := hKernel15Ideal) (hReference15Ideal := hReference15Ideal) (hPre_finite := hPre_finite)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S8448x1024 : Shape := ⟨2, ![8448, 1024]⟩
abbrev S1024x1024 : Shape := ⟨2, ![1024, 1024]⟩
abbrev S8448x512 : Shape := ⟨2, ![8448, 512]⟩
abbrev S1x512 : Shape := ⟨2, ![1, 512]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8448x512 : S_.BroadcastsInDim S8448x512 (![] : Fin 0 → Fin S8448x512.rank)
  reducesTo_S8448x512_S_d0_1 : S8448x512.ReducesTo [0, 1] S_
  bcast_S_S1x512 : S_.BroadcastsInDim S1x512 (![] : Fin 0 → Fin S1x512.rank)
  reducesTo_S1x512_S_d0_1 : S1x512.ReducesTo [0, 1] S_

variable [Facts]

def fn_part2 {F : FTy → Type} [FloatOps F] (main_arg7 : FVec F S8448x512 .f32) (main_arg8 : FVec F S1x512 .f32) (main_v30 : IVec S_ 1) (main_v33 : IVec S8448x512 1) (main_c_11 : IVec S_ 1) : IVec S_ 1 :=
  let main_v34 : IVec S_ 1 := (fun x v => Host.reduce IntOp.andi x v reducesTo_S8448x512_S_d0_1 h_S_) main_v33 main_c_11
  let main_v35 : IVec S_ 1 := andi main_v30 main_v34
  let main_v36 : FVec F S8448x512 .f32 := Host.absf main_arg7
  let main_cst_12 : FVec F S_ .f32 := constant S_ .f32 0x7F800000#32
  let main_v37 : FVec F S8448x512 .f32 := broadcastInDim S8448x512 ![] bcast_S_S8448x512 main_cst_12
  let main_v38 : IVec S8448x512 1 := cmpf .olt main_v36 main_v37
  let main_c_13 : IVec S_ 1 := constantI S_ 1 1#1
  let main_v39 : IVec S_ 1 := (fun x v => Host.reduce IntOp.andi x v reducesTo_S8448x512_S_d0_1 h_S_) main_v38 main_c_13
  let main_v40 : IVec S_ 1 := andi main_v35 main_v39
  let main_v41 : FVec F S1x512 .f32 := Host.absf main_arg8
  let main_cst_14 : FVec F S_ .f32 := constant S_ .f32 0x7F800000#32
  let main_v42 : FVec F S1x512 .f32 := broadcastInDim S1x512 ![] bcast_S_S1x512 main_cst_14
  let main_v43 : IVec S1x512 1 := cmpf .olt main_v41 main_v42
  let main_c_15 : IVec S_ 1 := constantI S_ 1 1#1
  let main_v44 : IVec S_ 1 := (fun x v => Host.reduce IntOp.andi x v reducesTo_S1x512_S_d0_1 h_S_) main_v43 main_c_15
  let main_v45 : IVec S_ 1 := andi main_v40 main_v44
  main_v45

def fn_part1 {F : FTy → Type} [FloatOps F] (main_arg4 : FVec F S8448x1024 .f32) (main_arg5 : FVec F S8448x512 .f32) (main_arg6 : FVec F S8448x512 .f32) (main_arg7 : FVec F S8448x512 .f32) (main_arg8 : FVec F S1x512 .f32) (main_v15 : IVec S_ 1) (main_v16 : FVec F S8448x512 .f32) (main_cst_4 : FVec F S_ .f32) : IVec S_ 1 :=
  let main_v17 : FVec F S8448x512 .f32 := broadcastInDim S8448x512 ![] bcast_S_S8448x512 main_cst_4
  let main_v18 : IVec S8448x512 1 := cmpf .olt main_v16 main_v17
  let main_c_5 : IVec S_ 1 := constantI S_ 1 1#1
  let main_v19 : IVec S_ 1 := (fun x v => Host.reduce IntOp.andi x v reducesTo_S8448x512_S_d0_1 h_S_) main_v18 main_c_5
  let main_v20 : IVec S_ 1 := andi main_v15 main_v19
  let main_v21 : FVec F S8448x1024 .f32 := Host.absf main_arg4
  let main_cst_6 : FVec F S_ .f32 := constant S_ .f32 0x7F800000#32
  let main_v22 : FVec F S8448x1024 .f32 := broadcastInDim S8448x1024 ![] bcast_S_S8448x1024 main_cst_6
  let main_v23 : IVec S8448x1024 1 := cmpf .olt main_v21 main_v22
  let main_c_7 : IVec S_ 1 := constantI S_ 1 1#1
  let main_v24 : IVec S_ 1 := (fun x v => Host.reduce IntOp.andi x v reducesTo_S8448x1024_S_d0_1 h_S_) main_v23 main_c_7
  let main_v25 : IVec S_ 1 := andi main_v20 main_v24
  let main_v26 : FVec F S8448x512 .f32 := Host.absf main_arg5
  let main_cst_8 : FVec F S_ .f32 := constant S_ .f32 0x7F800000#32
  let main_v27 : FVec F S8448x512 .f32 := broadcastInDim S8448x512 ![] bcast_S_S8448x512 main_cst_8
  let main_v28 : IVec S8448x512 1 := cmpf .olt main_v26 main_v27
  let main_c_9 : IVec S_ 1 := constantI S_ 1 1#1
  let main_v29 : IVec S_ 1 := (fun x v => Host.reduce IntOp.andi x v reducesTo_S8448x512_S_d0_1 h_S_) main_v28 main_c_9
  let main_v30 : IVec S_ 1 := andi main_v25 main_v29
  let main_v31 : FVec F S8448x512 .f32 := Host.absf main_arg6
  let main_cst_10 : FVec F S_ .f32 := constant S_ .f32 0x7F800000#32
  let main_v32 : FVec F S8448x512 .f32 := broadcastInDim S8448x512 ![] bcast_S_S8448x512 main_cst_10
  let main_v33 : IVec S8448x512 1 := cmpf .olt main_v31 main_v32
  let main_c_11 : IVec S_ 1 := constantI S_ 1 1#1
  fn_part2 (F := F) main_arg7 main_arg8 main_v30 main_v33 main_c_11

def fn {F : FTy → Type} [FloatOps F] (main_arg0 : FVec F S8448x1024 .bf16) (main_arg1 : FVec F S1024x1024 .bf16) (main_arg2 : FVec F S8448x512 .f32) (main_arg3 : FVec F S8448x512 .f32) (main_arg4 : FVec F S8448x1024 .f32) (main_arg5 : FVec F S8448x512 .f32) (main_arg6 : FVec F S8448x512 .f32) (main_arg7 : FVec F S8448x512 .f32) (main_arg8 : FVec F S1x512 .f32) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8448x512 .f32 := Host.absf main_arg2
  let main_cst_2 : FVec F S_ .f32 := constant S_ .f32 0x7F800000#32
  let main_v12 : FVec F S8448x512 .f32 := broadcastInDim S8448x512 ![] bcast_S_S8448x512 main_cst_2
  let main_v13 : IVec S8448x512 1 := cmpf .olt main_v11 main_v12
  let main_c_3 : IVec S_ 1 := constantI S_ 1 1#1
  let main_v14 : IVec S_ 1 := (fun x v => Host.reduce IntOp.andi x v reducesTo_S8448x512_S_d0_1 h_S_) main_v13 main_c_3
  let main_v15 : IVec S_ 1 := andi main_v10 main_v14
  let main_v16 : FVec F S8448x512 .f32 := Host.absf main_arg3
  let main_cst_4 : FVec F S_ .f32 := constant S_ .f32 0x7F800000#32
  fn_part1 (F := F) main_arg4 main_arg5 main_arg6 main_arg7 main_arg8 main_v15 main_v16 main_cst_4
-- ==== Pre_moderate.lean ====
abbrev S8448x512 : Shape := ⟨2, ![8448, 512]⟩
abbrev S8448x128 : Shape := ⟨2, ![8448, 128]⟩
abbrev S128x512 : Shape := ⟨2, ![128, 512]⟩
abbrev S1x512 : Shape := ⟨2, ![1, 512]⟩
abbrev S132x4x128x64 : Shape := ⟨4, ![132, 4, 128, 64]⟩
abbrev S_ : Shape := ⟨0, ![]⟩

class Facts : Prop where
  bitsLt_bf16_f32 : FTy.bits .bf16 < FTy.bits .f32
  bcast_S_S8448x512 : S_.BroadcastsInDim S8448x512 (![] : Fin 0 → Fin S8448x512.rank)
  reducesTo_S8448x512_S_d0_1 : S8448x512.ReducesTo [0, 1] S_
  h_S_ : 0 < S_.numel
  bcast_S_S8448x128 : S_.BroadcastsInDim S8448x128 (![] : Fin 0 → Fin S8448x128.rank)
  reducesTo_S8448x128_S_d0_1 : S8448x128.ReducesTo [0, 1] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S132x4x128x64 : S_.BroadcastsInDim S132x4x128x64 (![] : Fin 0 → Fin S132x4x128x64.rank)
  reducesTo_S132x4x128x64_S_d0_1_2_3 : S132x4x128x64.ReducesTo [0, 1, 2, 3] S_
  bcast_S1x512_S8448x512_0_1 : S1x512.BroadcastsInDim S8448x512 (![0, 1] : Fin 2 → Fin S8448x512.rank)
  dot_S8448x128_S128x512_S8448x512_1_0_0_1_n_n_wf : DotDims.WF S8448x128 S128x512 S8448x512 [1] [0] [0] [1] [] []

variable [Facts]

def dot_S8448x128_S128x512_S8448x512_1_0_0_1_n_n : DotDims S8448x128 S128x512 S8448x512 where
  lhsContracting := [1]
  rhsContracting := [0]
  lhsNonContracting := [0]
  rhsNonContracting := [1]
  lhsBatch := []
  rhsBatch := []
  wf := dot_S8448x128_S128x512_S8448x512_1_0_0_1_n_n_wf
def fn_part2 {F : FTy → Type} [FloatOps F] (main_arg2 : FVec F S8448x128 .f32) (main_arg4 : FVec F S1x512 .f32) (main_arg7 : FVec F S132x4x128x64 .f32) (main_v0 : FVec F S128x512 .f32) (main_v29 : IVec S_ 1) (main_v33 : IVec S_ 1) : IVec S_ 1 :=
  let main_v34 : IVec S_ 1 := andi main_v29 main_v33
  let main_v35 : FVec F S132x4x128x64 .f32 := Host.absf main_arg7
  let main_cst_12 : FVec F S_ .f32 := constant S_ .f32 0x7F800000#32
  let main_v36 : FVec F S132x4x128x64 .f32 := broadcastInDim S132x4x128x64 ![] bcast_S_S132x4x128x64 main_cst_12
  let main_v37 : IVec S132x4x128x64 1 := cmpf .olt main_v35 main_v36
  let main_c_13 : IVec S_ 1 := constantI S_ 1 1#1
  let main_v38 : IVec S_ 1 := (fun x v => Host.reduce IntOp.andi x v reducesTo_S132x4x128x64_S_d0_1_2_3 h_S_) main_v37 main_c_13
  let main_v39 : IVec S_ 1 := andi main_v34 main_v38
  let main_v40 : FVec F S8448x512 .f32 := (fun l r => Host.dotGeneral dot_S8448x128_S128x512_S8448x512_1_0_0_1_n_n none l r) main_arg2 main_v0
  let main_v41 : FVec F S8448x512 .f32 := broadcastInDim S8448x512 ![0, 1] bcast_S1x512_S8448x512_0_1 main_arg4
  let main_v42 : FVec F S8448x512 .f32 := addf main_v40 main_v41
  let main_cst_14 : FVec F S_ .f32 := constant S_ .f32 0xC21C0000#32
  let main_v43 : FVec F S8448x512 .f32 := broadcastInDim S8448x512 ![] bcast_S_S8448x512 main_cst_14
  let main_v44 : IVec S8448x512 1 := cmpf .oge main_v42 main_v43
  let main_c_15 : IVec S_ 1 := constantI S_ 1 1#1
  let main_v45 : IVec S_ 1 := (fun x v => Host.reduce IntOp.andi x v reducesTo_S8448x512_S_d0_1 h_S_) main_v44 main_c_15
  let main_v46 : IVec S_ 1 := andi main_v39 main_v45
  main_v46

def fn_part1 {F : FTy → Type} [FloatOps F] (main_arg2 : FVec F S8448x128 .f32) (main_arg4 : FVec F S1x512 .f32) (main_arg5 : FVec F S8448x512 .f32) (main_arg6 : FVec F S132x4x128x64 .f32) (main_arg7 : FVec F S132x4x128x64 .f32) (main_v0 : FVec F S128x512 .f32) (main_v14 : IVec S_ 1) (main_v15 : FVec F S128x512 .f32) (main_v16 : FVec F S128x512 .f32) : IVec S_ 1 :=
  let main_v17 : IVec S128x512 1 := cmpf .olt main_v15 main_v16
  let main_c_5 : IVec S_ 1 := constantI S_ 1 1#1
  let main_v18 : IVec S_ 1 := (fun x v => Host.reduce IntOp.andi x v reducesTo_S128x512_S_d0_1 h_S_) main_v17 main_c_5
  let main_v19 : IVec S_ 1 := andi main_v14 main_v18
  let main_v20 : FVec F S1x512 .f32 := Host.absf main_arg4
  let main_cst_6 : FVec F S_ .f32 := constant S_ .f32 0x7F800000#32
  let main_v21 : FVec F S1x512 .f32 := broadcastInDim S1x512 ![] bcast_S_S1x512 main_cst_6
  let main_v22 : IVec S1x512 1 := cmpf .olt main_v20 main_v21
  let main_c_7 : IVec S_ 1 := constantI S_ 1 1#1
  let main_v23 : IVec S_ 1 := (fun x v => Host.reduce IntOp.andi x v reducesTo_S1x512_S_d0_1 h_S_) main_v22 main_c_7
  let main_v24 : IVec S_ 1 := andi main_v19 main_v23
  let main_v25 : FVec F S8448x512 .f32 := Host.absf main_arg5
  let main_cst_8 : FVec F S_ .f32 := constant S_ .f32 0x7F800000#32
  let main_v26 : FVec F S8448x512 .f32 := broadcastInDim S8448x512 ![] bcast_S_S8448x512 main_cst_8
  let main_v27 : IVec S8448x512 1 := cmpf .olt main_v25 main_v26
  let main_c_9 : IVec S_ 1 := constantI S_ 1 1#1
  let main_v28 : IVec S_ 1 := (fun x v => Host.reduce IntOp.andi x v reducesTo_S8448x512_S_d0_1 h_S_) main_v27 main_c_9
  let main_v29 : IVec S_ 1 := andi main_v24 main_v28
  let main_v30 : FVec F S132x4x128x64 .f32 := Host.absf main_arg6
  let main_cst_10 : FVec F S_ .f32 := constant S_ .f32 0x7F800000#32
  let main_v31 : FVec F S132x4x128x64 .f32 := broadcastInDim S132x4x128x64 ![] bcast_S_S132x4x128x64 main_cst_10
  let main_v32 : IVec S132x4x128x64 1 := cmpf .olt main_v30 main_v31
  let main_c_11 : IVec S_ 1 := constantI S_ 1 1#1
  let main_v33 : IVec S_ 1 := (fun x v => Host.reduce IntOp.andi x v reducesTo_S132x4x128x64_S_d0_1_2_3 h_S_) main_v32 main_c_11
  fn_part2 (F := F) main_arg2 main_arg4 main_arg7 main_v0 main_v29 main_v33

def fn {F : FTy → Type} [FloatOps F] (main_arg0 : FVec F S8448x512 .f32) (main_arg1 : FVec F S8448x512 .f32) (main_arg2 : FVec F S8448x128 .f32) (main_arg3 : FVec F S128x512 .bf16) (main_arg4 : FVec F S1x512 .f32) (main_arg5 : FVec F S8448x512 .f32) (main_arg6 : FVec F S132x4x128x64 .f32) (main_arg7 : FVec F S132x4x128x64 .f32) : IVec S_ 1 :=
  let main_v0 : FVec F S128x512 .f32 := (extf .f32 · bitsLt_bf16_f32) main_arg3
  let main_v1 : FVec F S8448x512 .f32 := Host.absf main_arg0
  let main_cst : FVec F S_ .f32 := constant S_ .f32 0x7F800000#32
  let main_v2 : FVec F S8448x512 .f32 := broadcastInDim S8448x512 ![] bcast_S_S8448x512 main_cst
  let main_v3 : IVec S8448x512 1 := cmpf .olt main_v1 main_v2
  let main_c : IVec S_ 1 := constantI S_ 1 1#1
  let main_v4 : IVec S_ 1 := (fun x v => Host.reduce IntOp.andi x v reducesTo_S8448x512_S_d0_1 h_S_) main_v3 main_c
  let main_v5 : FVec F S8448x512 .f32 := Host.absf main_arg1
  let main_cst_0 : FVec F S_ .f32 := constant S_ .f32 0x7F800000#32
  let main_v6 : FVec F S8448x512 .f32 := broadcastInDim S8448x512 ![] bcast_S_S8448x512 main_cst_0
  let main_v7 : IVec S8448x512 1 := cmpf .olt main_v5 main_v6
  let main_c_1 : IVec S_ 1 := constantI S_ 1 1#1
  let main_v8 : IVec S_ 1 := (fun x v => Host.reduce IntOp.andi x v reducesTo_S8448x512_S_d0_1 h_S_) main_v7 main_c_1
  let main_v9 : IVec S_ 1 := andi main_v4 main_v8
  let main_v10 : FVec F S8448x128 .f32 := Host.absf main_arg2
  let main_cst_2 : FVec F S_ .f32 := constant S_ .f32 0x7F800000#32
  let main_v11 : FVec F S8448x128 .f32 := broadcastInDim S8448x128 ![] bcast_S_S8448x128 main_cst_2
  let main_v12 : IVec S8448x128 1 := cmpf .olt main_v10 main_v11
  let main_c_3 : IVec S_ 1 := constantI S_ 1 1#1
  let main_v13 : IVec S_ 1 := (fun x v => Host.reduce IntOp.andi x v reducesTo_S8448x128_S_d0_1 h_S_) main_v12 main_c_3
  let main_v14 : IVec S_ 1 := andi main_v9 main_v13
  let main_v15 : FVec F S128x512 .f32 := Host.absf main_v0
  let main_cst_4 : FVec F S_ .f32 := constant S_ .f32 0x7F800000#32
  let main_v16 : FVec F S128x512 .f32 := broadcastInDim S128x512 ![] bcast_S_S128x512 main_cst_4
  fn_part1 (F := F) main_arg2 main_arg4 main_arg5 main_arg6 main_arg7 main_v0 main_v14 main_v15 main_v16
-- ==== Kernel.lean ====
abbrev S8448x512 : Shape := ⟨2, ![8448, 512]⟩
abbrev S8448x128 : Shape := ⟨2, ![8448, 128]⟩
abbrev S128x512 : Shape := ⟨2, ![128, 512]⟩
abbrev S1x512 : Shape := ⟨2, ![1, 512]⟩
abbrev S132x4x128x64 : Shape := ⟨4, ![132, 4, 128, 64]⟩
abbrev S8448x256 : Shape := ⟨2, ![8448, 256]⟩
abbrev S384x256 : Shape := ⟨2, ![384, 256]⟩
abbrev S384x512 : Shape := ⟨2, ![384, 512]⟩
abbrev S384x128 : Shape := ⟨2, ![384, 128]⟩
abbrev S6x4x128x64 : Shape := ⟨4, ![6, 4, 128, 64]⟩
abbrev S4x128x64 : Shape := ⟨3, ![4, 128, 64]⟩
abbrev S64x64 : Shape := ⟨2, ![64, 64]⟩
abbrev S64x256 : Shape := ⟨2, ![64, 256]⟩
abbrev S64x128 : Shape := ⟨2, ![64, 128]⟩
abbrev S64x512 : Shape := ⟨2, ![64, 512]⟩
abbrev S1x256 : Shape := ⟨2, ![1, 256]⟩
abbrev S1x1x128x64 : Shape := ⟨4, ![1, 1, 128, 64]⟩
abbrev S128x64 : Shape := ⟨2, ![128, 64]⟩
abbrev S1x128x64 : Shape := ⟨3, ![1, 128, 64]⟩
abbrev S1x64 : Shape := ⟨2, ![1, 64]⟩
abbrev S64 : Shape := ⟨1, ![64]⟩

abbrev nBuf : Space → Nat
  | .hbm => 16
  | .vmem => 44
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x128, .f32⟩
  | .hbm, ⟨3, _⟩ => ⟨S128x512, .bf16⟩
  | .hbm, ⟨4, _⟩ => ⟨S1x512, .f32⟩
  | .hbm, ⟨5, _⟩ => ⟨S8448x512, .f32⟩
  | .hbm, ⟨6, _⟩ => ⟨S132x4x128x64, .f32⟩
  | .hbm, ⟨7, _⟩ => ⟨S132x4x128x64, .f32⟩
  | .hbm, ⟨8, _⟩ => ⟨S8448x256, .f32⟩
  | .hbm, ⟨9, _⟩ => ⟨S8448x256, .f32⟩
  | .hbm, ⟨10, _⟩ => ⟨S8448x512, .f32⟩
  | .hbm, ⟨11, _⟩ => ⟨S8448x256, .f32⟩
  | .hbm, ⟨12, _⟩ => ⟨S8448x256, .f32⟩
  | .hbm, ⟨13, _⟩ => ⟨S8448x256, .f32⟩
  | .hbm, ⟨14, _⟩ => ⟨S8448x512, .f32⟩
  | .hbm, ⟨15, _⟩ => ⟨S8448x256, .f32⟩
  | .local _ .vmem, ⟨0, _⟩ => ⟨S384x256, .f32⟩
  | .local _ .vmem, ⟨1, _⟩ => ⟨S384x256, .f32⟩
  | .local _ .vmem, ⟨2, _⟩ => ⟨S384x256, .f32⟩
  | .local _ .vmem, ⟨3, _⟩ => ⟨S384x256, .f32⟩
  | .local _ .vmem, ⟨4, _⟩ => ⟨S384x512, .f32⟩
  | .local _ .vmem, ⟨5, _⟩ => ⟨S384x512, .f32⟩
  | .local _ .vmem, ⟨6, _⟩ => ⟨S384x128, .f32⟩
  | .local _ .vmem, ⟨7, _⟩ => ⟨S384x128, .f32⟩
  | .local _ .vmem, ⟨8, _⟩ => ⟨S384x512, .f32⟩
  | .local _ .vmem, ⟨9, _⟩ => ⟨S384x512, .f32⟩
  | .local _ .vmem, ⟨10, _⟩ => ⟨S6x4x128x64, .f32⟩
  | .local _ .vmem, ⟨11, _⟩ => ⟨S6x4x128x64, .f32⟩
  | .local _ .vmem, ⟨12, _⟩ => ⟨S384x256, .f32⟩
  | .local _ .vmem, ⟨13, _⟩ => ⟨S384x256, .f32⟩
  | .local _ .vmem, ⟨14, _⟩ => ⟨S384x256, .f32⟩
  | .local _ .vmem, ⟨15, _⟩ => ⟨S384x256, .f32⟩
  | .local _ .vmem, ⟨16, _⟩ => ⟨S384x512, .f32⟩
  | .local _ .vmem, ⟨17, _⟩ => ⟨S384x512, .f32⟩
  | .local _ .vmem, ⟨18, _⟩ => ⟨S384x128, .f32⟩
  | .local _ .vmem, ⟨19, _⟩ => ⟨S384x128, .f32⟩
  | .local _ .vmem, ⟨20, _⟩ => ⟨S384x512, .f32⟩
  | .local _ .vmem, ⟨21, _⟩ => ⟨S384x512, .f32⟩
  | .local _ .vmem, ⟨22, _⟩ => ⟨S6x4x128x64, .f32⟩
  | .local _ .vmem, ⟨23, _⟩ => ⟨S6x4x128x64, .f32⟩
  | .local _ .vmem, ⟨24, _⟩ => ⟨S128x512, .bf16⟩
  | .local _ .vmem, ⟨25, _⟩ => ⟨S1x512, .f32⟩
  | .local _ .vmem, ⟨26, _⟩ => ⟨S384x256, .f32⟩
  | .local _ .vmem, ⟨27, _⟩ => ⟨S384x256, .f32⟩
  | .local _ .vmem, ⟨28, _⟩ => ⟨S384x256, .f32⟩
  | .local _ .vmem, ⟨29, _⟩ => ⟨S384x256, .f32⟩
  | .local _ .vmem, ⟨30, _⟩ => ⟨S384x512, .f32⟩
  | .local _ .vmem, ⟨31, _⟩ => ⟨S384x512, .f32⟩
  | .local _ .vmem, ⟨32, _⟩ => ⟨S384x256, .f32⟩
  | .local _ .vmem, ⟨33, _⟩ => ⟨S384x256, .f32⟩
  | .local _ .vmem, ⟨34, _⟩ => ⟨S384x256, .f32⟩
  | .local _ .vmem, ⟨35, _⟩ => ⟨S384x256, .f32⟩
  | .local _ .vmem, ⟨36, _⟩ => ⟨S384x256, .f32⟩
  | .local _ .vmem, ⟨37, _⟩ => ⟨S384x256, .f32⟩
  | .local _ .vmem, ⟨38, _⟩ => ⟨S384x512, .f32⟩
  | .local _ .vmem, ⟨39, _⟩ => ⟨S384x512, .f32⟩
  | .local _ .vmem, ⟨40, _⟩ => ⟨S384x256, .f32⟩
  | .local _ .vmem, ⟨41, _⟩ => ⟨S384x256, .f32⟩
  | .local _ .vmem, ⟨42, _⟩ => ⟨S4x128x64, .f32⟩
  | .local _ .vmem, ⟨43, _⟩ => ⟨S4x128x64, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c21_i32 : BitVec 32 := 21#32
  let v0 : BitVec 32 := Scalar.subi c21_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6x4x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S384x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S384x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S384x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S384x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S8448x512 : Shape := ⟨2, ![8448, 512]⟩
abbrev S8448x128 : Shape := ⟨2, ![8448, 128]⟩
abbrev S128x512 : Shape := ⟨2, ![128, 512]⟩
abbrev S1x512 : Shape := ⟨2, ![1, 512]⟩
abbrev S132x4x128x64 : Shape := ⟨4, ![132, 4, 128, 64]⟩
abbrev S8448x256 : Shape := ⟨2, ![8448, 256]⟩
abbrev S_ : Shape := ⟨0, ![]⟩
abbrev S64x64 : Shape := ⟨2, ![64, 64]⟩
abbrev S1x64x64 : Shape := ⟨3, ![1, 64, 64]⟩
abbrev S2x64x64 : Shape := ⟨3, ![2, 64, 64]⟩
abbrev S1x8448x256 : Shape := ⟨3, ![1, 8448, 256]⟩
abbrev S2x8448x256 : Shape := ⟨3, ![2, 8448, 256]⟩
abbrev S2x132x64x4x64 : Shape := ⟨5, ![2, 132, 64, 4, 64]⟩
abbrev S132x2x4x64x64 : Shape := ⟨5, ![132, 2, 4, 64, 64]⟩
abbrev S1x8448x512 : Shape := ⟨3, ![1, 8448, 512]⟩
abbrev S2x8448x512 : Shape := ⟨3, ![2, 8448, 512]⟩
abbrev S2x132x64x4x128 : Shape := ⟨5, ![2, 132, 64, 4, 128]⟩
abbrev S132x2x4x64x128 : Shape := ⟨5, ![132, 2, 4, 64, 128]⟩
abbrev S132x1x4x128x64 : Shape := ⟨5, ![132, 1, 4, 128, 64]⟩
abbrev S132x2x4x128x64 : Shape := ⟨5, ![132, 2, 4, 128, 64]⟩
abbrev S2x4x64x128 : Shape := ⟨4, ![2, 4, 64, 128]⟩
abbrev S1x2x4x64x128 : Shape := ⟨5, ![1, 2, 4, 64, 128]⟩
abbrev S1x2x4x64x64 : Shape := ⟨5, ![1, 2, 4, 64, 64]⟩
abbrev S2x4x64x64 : Shape := ⟨4, ![2, 4, 64, 64]⟩
abbrev S2x4x64x1x64 : Shape := ⟨5, ![2, 4, 64, 1, 64]⟩
abbrev S2x4x1x64x64 : Shape := ⟨5, ![2, 4, 1, 64, 64]⟩
abbrev S2x4x64x64x64 : Shape := ⟨5, ![2, 4, 64, 64, 64]⟩
abbrev S2x1x64x64x1 : Shape := ⟨5, ![2, 1, 64, 64, 1]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S2x4x128x64 : Shape := ⟨4, ![2, 4, 128, 64]⟩

abbrev nBuf : Space → Nat
  | .hbm => 392
  | .vmem => 0
  | .smem => 0
  | _ => 0

abbrev hbmTy0_0 (i : Nat) : BufTy := match i % 128 with
  | 0 => ⟨S8448x512, .f32⟩
  | 1 => ⟨S8448x512, .f32⟩
  | 2 => ⟨S8448x128, .f32⟩
  | 3 => ⟨S128x512, .bf16⟩
  | 4 => ⟨S1x512, .f32⟩
  | 5 => ⟨S8448x512, .f32⟩
  | 6 => ⟨S132x4x128x64, .f32⟩
  | 7 => ⟨S132x4x128x64, .f32⟩
  | 8 => ⟨S8448x256, .f32⟩
  | 9 => ⟨S_, .f32⟩
  | 10 => ⟨S8448x256, .f32⟩
  | 11 => ⟨S8448x256, .f32⟩
  | 12 => ⟨S8448x256, .f32⟩
  | 13 => ⟨S128x512, .f32⟩
  | 14 => ⟨S8448x512, .f32⟩
  | 15 => ⟨S8448x512, .f32⟩
  | 16 => ⟨S8448x512, .f32⟩
  | 17 => ⟨S_, .i1⟩
  | 18 => ⟨S64x64, .i1⟩
  | 19 => ⟨S64x64, .i32⟩
  | 20 => ⟨S_, .i32⟩
  | 21 => ⟨S64x64, .i32⟩
  | 22 => ⟨S64x64, .i32⟩
  | 23 => ⟨S64x64, .i32⟩
  | 24 => ⟨S64x64, .i1⟩
  | 25 => ⟨S_, .i1⟩
  | 26 => ⟨S64x64, .i1⟩
  | 27 => ⟨S64x64, .i1⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i1⟩
  | 37 => ⟨S64x64, .i1⟩
  | 38 => ⟨S64x64, .i1⟩
  | 39 => ⟨S1x64x64, .i1⟩
  | 40 => ⟨S1x64x64, .i1⟩
  | 41 => ⟨S2x64x64, .i1⟩
  | 42 => ⟨S8448x256, .f32⟩
  | 43 => ⟨S1x8448x256, .f32⟩
  | 44 => ⟨S1x8448x256, .f32⟩
  | 45 => ⟨S2x8448x256, .f32⟩
  | 46 => ⟨S2x132x64x4x64, .f32⟩
  | 47 => ⟨S132x2x4x64x64, .f32⟩
  | 48 => ⟨S8448x256, .f32⟩
  | 49 => ⟨S1x8448x256, .f32⟩
  | 50 => ⟨S1x8448x256, .f32⟩
  | 51 => ⟨S2x8448x256, .f32⟩
  | 52 => ⟨S2x132x64x4x64, .f32⟩
  | 53 => ⟨S132x2x4x64x64, .f32⟩
  | 54 => ⟨S8448x512, .f32⟩
  | 55 => ⟨S1x8448x512, .f32⟩
  | 56 => ⟨S1x8448x512, .f32⟩
  | 57 => ⟨S2x8448x512, .f32⟩
  | 58 => ⟨S2x132x64x4x128, .f32⟩
  | 59 => ⟨S132x2x4x64x128, .f32⟩
  | 60 => ⟨S8448x256, .f32⟩
  | 61 => ⟨S8448x256, .f32⟩
  | 62 => ⟨S8448x256, .f32⟩
  | 63 => ⟨S1x8448x256, .f32⟩
  | 64 => ⟨S1x8448x256, .f32⟩
  | 65 => ⟨S2x8448x256, .f32⟩
  | 66 => ⟨S2x132x64x4x64, .f32⟩
  | 67 => ⟨S132x2x4x64x64, .f32⟩
  | 68 => ⟨S132x4x128x64, .f32⟩
  | 69 => ⟨S132x1x4x128x64, .f32⟩
  | 70 => ⟨S132x1x4x128x64, .f32⟩
  | 71 => ⟨S132x2x4x128x64, .f32⟩
  | 72 => ⟨S132x2x4x64x128, .f32⟩
  | 73 => ⟨S_, .f32⟩
  | 74 => ⟨S2x4x64x128, .f32⟩
  | 75 => ⟨S8448x512, .f32⟩
  | 76 => ⟨S1x8448x512, .f32⟩
  | 77 => ⟨S1x8448x512, .f32⟩
  | 78 => ⟨S2x8448x512, .f32⟩
  | 79 => ⟨S2x132x64x4x128, .f32⟩
  | 80 => ⟨S132x2x4x64x128, .f32⟩
  | 81 => ⟨S_, .f32⟩
  | 82 => ⟨S132x2x4x64x64, .f32⟩
  | 83 => ⟨S_, .f32⟩
  | 84 => ⟨S132x2x4x64x64, .f32⟩
  | 85 => ⟨S_, .f32⟩
  | 86 => ⟨S132x2x4x64x128, .f32⟩
  | 87 => ⟨S_, .f32⟩
  | 88 => ⟨S132x2x4x64x64, .f32⟩
  | 89 => ⟨S_, .i32⟩
  | 90 => ⟨S132x2x4x64x128, .f32⟩
  | 91 => ⟨S132x2x4x64x128, .f32⟩
  | 92 => ⟨S132x2x4x64x64, .f32⟩
  | 93 => ⟨S132x2x4x64x64, .f32⟩
  | 94 => ⟨S132x2x4x64x128, .f32⟩
  | 95 => ⟨S132x2x4x64x64, .f32⟩
  | 96 => ⟨S2x64x64, .i1⟩
  | 97 => ⟨S_, .i32⟩
  | 98 => ⟨S2x4x64x128, .f32⟩
  | 99 => ⟨S132x2x4x64x64, .f32⟩
  | 100 => ⟨S132x2x4x64x64, .f32⟩
  | 101 => ⟨S132x2x4x64x128, .f32⟩
  | 102 => ⟨S132x2x4x64x64, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S1x2x4x64x128, .f32⟩
  | 114 => ⟨S2x4x64x128, .f32⟩
  | 115 => ⟨S_, .i32⟩
  | 116 => ⟨S_, .i32⟩
  | 117 => ⟨S_, .i32⟩
  | 118 => ⟨S_, .i32⟩
  | 119 => ⟨S1x2x4x64x128, .f32⟩
  | 120 => ⟨S2x4x64x128, .f32⟩
  | 121 => ⟨S_, .i32⟩
  | 122 => ⟨S_, .i32⟩
  | 123 => ⟨S_, .i32⟩
  | 124 => ⟨S_, .i32⟩
  | 125 => ⟨S1x2x4x64x64, .f32⟩
  | 126 => ⟨S2x4x64x64, .f32⟩
  | 127 => ⟨S_, .i32⟩
  | _ => ⟨S8448x512, .f32⟩

abbrev hbmTy0_1 (i : Nat) : BufTy := match i % 128 with
  | 0 => ⟨S_, .i32⟩
  | 1 => ⟨S_, .i32⟩
  | 2 => ⟨S_, .i32⟩
  | 3 => ⟨S1x2x4x64x64, .f32⟩
  | 4 => ⟨S2x4x64x64, .f32⟩
  | 5 => ⟨S_, .i32⟩
  | 6 => ⟨S_, .i32⟩
  | 7 => ⟨S_, .i32⟩
  | 8 => ⟨S_, .i32⟩
  | 9 => ⟨S1x2x4x64x128, .f32⟩
  | 10 => ⟨S2x4x64x128, .f32⟩
  | 11 => ⟨S_, .i32⟩
  | 12 => ⟨S_, .i32⟩
  | 13 => ⟨S_, .i32⟩
  | 14 => ⟨S_, .i32⟩
  | 15 => ⟨S1x2x4x64x64, .f32⟩
  | 16 => ⟨S2x4x64x64, .f32⟩
  | 17 => ⟨S2x4x64x64, .f32⟩
  | 18 => ⟨S_, .f32⟩
  | 19 => ⟨S2x4x64x64, .f32⟩
  | 20 => ⟨S2x4x64x64, .f32⟩
  | 21 => ⟨S2x4x64x64, .f32⟩
  | 22 => ⟨S2x4x64x64, .f32⟩
  | 23 => ⟨S2x4x64x64, .i1⟩
  | 24 => ⟨S2x4x64x64, .f32⟩
  | 25 => ⟨S2x4x64x64, .f32⟩
  | 26 => ⟨S2x4x64x64, .f32⟩
  | 27 => ⟨S2x4x64x64, .f32⟩
  | 28 => ⟨S2x4x64x64, .f32⟩
  | 29 => ⟨S2x4x64x64, .f32⟩
  | 30 => ⟨S2x4x64x64, .f32⟩
  | 31 => ⟨S2x4x64x64, .f32⟩
  | 32 => ⟨S_, .f32⟩
  | 33 => ⟨S2x4x64x64, .f32⟩
  | 34 => ⟨S2x4x64x64, .i1⟩
  | 35 => ⟨S_, .f32⟩
  | 36 => ⟨S2x4x64x64, .f32⟩
  | 37 => ⟨S2x4x64x64, .f32⟩
  | 38 => ⟨S_, .f32⟩
  | 39 => ⟨S2x4x64x64, .f32⟩
  | 40 => ⟨S2x4x64x64, .i1⟩
  | 41 => ⟨S_, .f32⟩
  | 42 => ⟨S2x4x64x64, .f32⟩
  | 43 => ⟨S2x4x64x64, .f32⟩
  | 44 => ⟨S2x4x64x64, .f32⟩
  | 45 => ⟨S2x4x64x64, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S2x4x64x64, .f32⟩
  | 54 => ⟨S2x4x64x64, .i1⟩
  | 55 => ⟨S_, .f32⟩
  | 56 => ⟨S2x4x64x64, .f32⟩
  | 57 => ⟨S2x4x64x64, .f32⟩
  | 58 => ⟨S2x4x64x64, .f32⟩
  | 59 => ⟨S2x4x64x64, .f32⟩
  | 60 => ⟨S2x4x64x64, .f32⟩
  | 61 => ⟨S_, .f32⟩
  | 62 => ⟨S2x4x64x64, .f32⟩
  | 63 => ⟨S2x4x64x64, .f32⟩
  | 64 => ⟨S2x4x64x64, .f32⟩
  | 65 => ⟨S_, .f32⟩
  | 66 => ⟨S2x4x64x64, .f32⟩
  | 67 => ⟨S2x4x64x64, .f32⟩
  | 68 => ⟨S_, .f32⟩
  | 69 => ⟨S_, .f32⟩
  | 70 => ⟨S2x4x64x64, .f32⟩
  | 71 => ⟨S2x4x64x1x64, .f32⟩
  | 72 => ⟨S2x4x1x64x64, .f32⟩
  | 73 => ⟨S2x4x64x64x64, .f32⟩
  | 74 => ⟨S2x4x64x64x64, .f32⟩
  | 75 => ⟨S2x4x64x64x64, .f32⟩
  | 76 => ⟨S2x1x64x64x1, .i1⟩
  | 77 => ⟨S_, .f32⟩
  | 78 => ⟨S2x4x64x64x64, .f32⟩
  | 79 => ⟨S2x4x64x64x64, .f32⟩
  | 80 => ⟨S_, .f32⟩
  | 81 => ⟨S2x4x64x64x64, .f32⟩
  | 82 => ⟨S2x4x64x64x64, .i1⟩
  | 83 => ⟨S_, .f32⟩
  | 84 => ⟨S2x4x64x64x64, .f32⟩
  | 85 => ⟨S2x4x64x64x64, .i1⟩
  | 86 => ⟨S_, .f32⟩
  | 87 => ⟨S2x4x64x64x64, .f32⟩
  | 88 => ⟨S_, .f32⟩
  | 89 => ⟨S2x4x64x64x64, .f32⟩
  | 90 => ⟨S_, .f32⟩
  | 91 => ⟨S2x4x64x64x64, .f32⟩
  | 92 => ⟨S2x4x64x64x64, .f32⟩
  | 93 => ⟨S2x4x64x64x64, .f32⟩
  | 94 => ⟨S2x4x64x64x64, .f32⟩
  | 95 => ⟨S_, .f32⟩
  | 96 => ⟨S_, .f32⟩
  | 97 => ⟨S2x4x64x64x64, .i1⟩
  | 98 => ⟨S2x4x64x64x64, .f32⟩
  | 99 => ⟨S2x4x64x64x64, .f32⟩
  | 100 => ⟨S_, .f32⟩
  | 101 => ⟨S2x4x64x64x64, .f32⟩
  | 102 => ⟨S2x4x64x1x64, .f32⟩
  | 103 => ⟨S2x4x64x64x64, .f32⟩
  | 104 => ⟨S2x4x64x64x64, .f32⟩
  | 105 => ⟨S2x4x1x64x64, .f32⟩
  | 106 => ⟨S2x4x64x64x64, .f32⟩
  | 107 => ⟨S2x4x64x64x64, .f32⟩
  | 108 => ⟨S_, .f32⟩
  | 109 => ⟨S2x4x64x64, .f32⟩
  | 110 => ⟨S2x4x64x128, .f32⟩
  | 111 => ⟨S2x4x64x64, .f32⟩
  | 112 => ⟨S2x4x64x64, .f32⟩
  | 113 => ⟨S2x4x64x128, .f32⟩
  | 114 => ⟨S2x4x1x64, .f32⟩
  | 115 => ⟨S2x4x1x64, .f32⟩
  | 116 => ⟨S2x4x64, .f32⟩
  | 117 => ⟨S2x4x64x1, .f32⟩
  | 118 => ⟨S2x4x64x128, .f32⟩
  | 119 => ⟨S2x4x64x128, .f32⟩
  | 120 => ⟨S2x4x64x64, .f32⟩
  | 121 => ⟨S2x4x64x64, .f32⟩
  | 122 => ⟨S2x4x64x64, .f32⟩
  | 123 => ⟨S2x4x64x64, .f32⟩
  | 124 => ⟨S2x4x64x128, .f32⟩
  | 125 => ⟨S2x4x64x128, .f32⟩
  | 126 => ⟨S2x4x64x128, .f32⟩
  | 127 => ⟨S2x4x128x64, .f32⟩
  | _ => ⟨S8448x512, .f32⟩

abbrev hbmTy0_2 (i : Nat) : BufTy := match i % 128 with
  | 0 => ⟨S2x4x64x128, .f32⟩
  | 1 => ⟨S2x4x64x64, .f32⟩
  | 2 => ⟨S2x4x64x64, .f32⟩
  | 3 => ⟨S2x4x64x64, .f32⟩
  | 4 => ⟨S2x4x64x64, .f32⟩
  | 5 => ⟨S2x4x64x64, .f32⟩
  | 6 => ⟨S_, .f32⟩
  | 7 => ⟨S2x4x64, .f32⟩
  | 8 => ⟨S2x4x1x64, .f32⟩
  | 9 => ⟨S2x4x64x64, .f32⟩
  | 10 => ⟨S2x4x64x128, .f32⟩
  | 11 => ⟨S2x4x64x128, .f32⟩
  | 12 => ⟨S2x4x64x128, .f32⟩
  | 13 => ⟨S_, .f32⟩
  | 14 => ⟨S2x4x64, .f32⟩
  | 15 => ⟨S2x4x64x1, .f32⟩
  | 16 => ⟨S_, .f32⟩
  | 17 => ⟨S2x4x64, .f32⟩
  | 18 => ⟨S2x4x1x64, .f32⟩
  | 19 => ⟨S2x4x1x64, .f32⟩
  | 20 => ⟨S2x4x1x64, .f32⟩
  | 21 => ⟨S_, .f32⟩
  | 22 => ⟨S2x4x64x64, .f32⟩
  | 23 => ⟨S2x4x64x64, .f32⟩
  | 24 => ⟨S2x4x128x64, .f32⟩
  | 25 => ⟨S2x4x64x128, .f32⟩
  | 26 => ⟨S2x4x64x128, .f32⟩
  | 27 => ⟨S2x4x64x64, .f32⟩
  | 28 => ⟨S2x4x64x64, .f32⟩
  | 29 => ⟨S2x4x64x64, .f32⟩
  | 30 => ⟨S2x4x64x64, .f32⟩
  | 31 => ⟨S2x4x64x64, .f32⟩
  | 32 => ⟨S2x4x128x64, .f32⟩
  | 33 => ⟨S2x4x64x128, .f32⟩
  | 34 => ⟨S2x4x64x128, .f32⟩
  | 35 => ⟨S2x4x64x64, .f32⟩
  | 36 => ⟨S2x4x64x64x64, .f32⟩
  | 37 => ⟨S2x4x64x64x64, .f32⟩
  | 38 => ⟨S_, .f32⟩
  | 39 => ⟨S2x4x64x64, .f32⟩
  | 40 => ⟨S2x4x1x64x64, .f32⟩
  | 41 => ⟨S2x4x64x64x64, .f32⟩
  | 42 => ⟨S2x4x64x64x64, .f32⟩
  | 43 => ⟨S_, .f32⟩
  | 44 => ⟨S2x4x64x64, .f32⟩
  | 45 => ⟨S2x4x64x64, .f32⟩
  | 46 => ⟨S2x4x64x64x64, .f32⟩
  | 47 => ⟨S2x4x64x64x64, .f32⟩
  | 48 => ⟨S2x4x64x64x64, .f32⟩
  | 49 => ⟨S_, .f32⟩
  | 50 => ⟨S2x4x64x64, .f32⟩
  | 51 => ⟨S2x4x64x1x64, .f32⟩
  | 52 => ⟨S_, .f32⟩
  | 53 => ⟨S2x4x64x64, .f32⟩
  | 54 => ⟨S2x4x64x64, .f32⟩
  | 55 => ⟨S_, .f32⟩
  | 56 => ⟨S2x4x64x64x64, .f32⟩
  | 57 => ⟨S2x4x64x64x64, .f32⟩
  | 58 => ⟨S2x4x64x64x64, .f32⟩
  | 59 => ⟨S2x4x64x64x64, .f32⟩
  | 60 => ⟨S_, .f32⟩
  | 61 => ⟨S2x4x64x64, .f32⟩
  | 62 => ⟨S2x4x64x1x64, .f32⟩
  | 63 => ⟨S2x4x64x64x64, .f32⟩
  | 64 => ⟨S_, .f32⟩
  | 65 => ⟨S2x4x64x64, .f32⟩
  | 66 => ⟨S2x4x1x64x64, .f32⟩
  | 67 => ⟨S_, .f32⟩
  | 68 => ⟨S2x4x64x64, .f32⟩
  | 69 => ⟨S2x4x64x64, .f32⟩
  | 70 => ⟨S_, .f32⟩
  | 71 => ⟨S2x4x64x64, .f32⟩
  | 72 => ⟨S2x4x64x64, .f32⟩
  | 73 => ⟨S_, .f32⟩
  | 74 => ⟨S_, .f32⟩
  | 75 => ⟨S2x4x64x64, .f32⟩
  | 76 => ⟨S_, .f32⟩
  | 77 => ⟨S2x4x64x64, .f32⟩
  | 78 => ⟨S2x4x64x64, .f32⟩
  | 79 => ⟨S2x4x64x64, .f32⟩
  | 80 => ⟨S2x4x64x64, .f32⟩
  | 81 => ⟨S2x4x64x64, .f32⟩
  | 82 => ⟨S1x2x4x64x64, .f32⟩
  | 83 => ⟨S_, .i32⟩
  | 84 => ⟨S_, .i32⟩
  | 85 => ⟨S_, .i32⟩
  | 86 => ⟨S_, .i32⟩
  | 87 => ⟨S132x2x4x64x64, .f32⟩
  | 88 => ⟨S1x2x4x64x64, .f32⟩
  | 89 => ⟨S_, .i32⟩
  | 90 => ⟨S_, .i32⟩
  | 91 => ⟨S_, .i32⟩
  | 92 => ⟨S_, .i32⟩
  | 93 => ⟨S132x2x4x64x64, .f32⟩
  | 94 => ⟨S1x2x4x64x128, .f32⟩
  | 95 => ⟨S_, .i32⟩
  | 96 => ⟨S_, .i32⟩
  | 97 => ⟨S_, .i32⟩
  | 98 => ⟨S_, .i32⟩
  | 99 => ⟨S132x2x4x64x128, .f32⟩
  | 100 => ⟨S1x2x4x64x64, .f32⟩
  | 101 => ⟨S_, .i32⟩
  | 102 => ⟨S_, .i32⟩
  | 103 => ⟨S_, .i32⟩
  | 104 => ⟨S_, .i32⟩
  | 105 => ⟨S132x2x4x64x64, .f32⟩
  | 106 => ⟨S_, .i32⟩
  | 107 => ⟨S_, .i32⟩
  | 108 => ⟨S2x132x64x4x64, .f32⟩
  | 109 => ⟨S2x8448x256, .f32⟩
  | 110 => ⟨S2x132x64x4x64, .f32⟩
  | 111 => ⟨S2x8448x256, .f32⟩
  | 112 => ⟨S2x132x64x4x128, .f32⟩
  | 113 => ⟨S2x8448x512, .f32⟩
  | 114 => ⟨S2x132x64x4x64, .f32⟩
  | 115 => ⟨S2x8448x256, .f32⟩
  | 116 => ⟨S1x8448x256, .f32⟩
  | 117 => ⟨S8448x256, .f32⟩
  | 118 => ⟨S1x8448x256, .f32⟩
  | 119 => ⟨S8448x256, .f32⟩
  | 120 => ⟨S1x8448x512, .f32⟩
  | 121 => ⟨S8448x512, .f32⟩
  | 122 => ⟨S1x8448x256, .f32⟩
  | 123 => ⟨S8448x256, .f32⟩
  | 124 => ⟨S1x8448x256, .f32⟩
  | 125 => ⟨S1x8448x256, .f32⟩
  | 126 => ⟨S8448x256, .f32⟩
  | 127 => ⟨S1x8448x256, .f32⟩
  | _ => ⟨S8448x512, .f32⟩

abbrev hbmTy0_3 (i : Nat) : BufTy := match i % 128 with
  | 0 => ⟨S1x8448x256, .f32⟩
  | 1 => ⟨S8448x256, .f32⟩
  | 2 => ⟨S1x8448x512, .f32⟩
  | 3 => ⟨S1x8448x512, .f32⟩
  | 4 => ⟨S8448x512, .f32⟩
  | 5 => ⟨S1x8448x256, .f32⟩
  | 6 => ⟨S1x8448x256, .f32⟩
  | 7 => ⟨S8448x256, .f32⟩
  | _ => ⟨S8448x512, .f32⟩

abbrev hbmTy (i : Nat) : BufTy := match i / 128 with
  | 0 => hbmTy0_0 i
  | 1 => hbmTy0_1 i
  | 2 => hbmTy0_2 i
  | 3 => hbmTy0_3 i
  | _ => ⟨S8448x512, .f32⟩

abbrev bufTy : (tb : Table) → Fin (tcTables nBuf tb) → BufTy
  | .hbm, ⟨i, _⟩ => hbmTy i
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_1 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_2 : Ref sig .tc := ⟨.hbm, 81, rfl⟩
abbrev main_v53 : Ref sig .tc := ⟨.hbm, 82, rfl⟩
abbrev main_cst_3 : Ref sig .tc := ⟨.hbm, 83, rfl⟩
abbrev main_v54 : Ref sig .tc := ⟨.hbm, 84, rfl⟩
abbrev main_cst_4 : Ref sig .tc := ⟨.hbm, 85, rfl⟩
abbrev main_v55 : Ref sig .tc := ⟨.hbm, 86, rfl⟩
abbrev main_cst_5 : Ref sig .tc := ⟨.hbm, 87, rfl⟩
abbrev main_v56 : Ref sig .tc := ⟨.hbm, 88, rfl⟩
abbrev main_c_6 : Ref sig .tc := ⟨.hbm, 89, rfl⟩
abbrev main_v57_0 : Ref sig .tc := ⟨.hbm, 90, rfl⟩
abbrev main_v57_1 : Ref sig .tc := ⟨.hbm, 91, rfl⟩
abbrev main_v57_2 : Ref sig .tc := ⟨.hbm, 92, rfl⟩
abbrev main_v57_3 : Ref sig .tc := ⟨.hbm, 93, rfl⟩
abbrev main_v57_4 : Ref sig .tc := ⟨.hbm, 94, rfl⟩
abbrev main_v57_5 : Ref sig .tc := ⟨.hbm, 95, rfl⟩
abbrev main_v57_6 : Ref sig .tc := ⟨.hbm, 96, rfl⟩
abbrev main_v57_7 : Ref sig .tc := ⟨.hbm, 97, rfl⟩
abbrev main_v57_8 : Ref sig .tc := ⟨.hbm, 98, rfl⟩
abbrev main_v57_9 : Ref sig .tc := ⟨.hbm, 99, rfl⟩
abbrev main_v57_10 : Ref sig .tc := ⟨.hbm, 100, rfl⟩
abbrev main_v57_11 : Ref sig .tc := ⟨.hbm, 101, rfl⟩
abbrev main_v57_12 : Ref sig .tc := ⟨.hbm, 102, rfl⟩
abbrev main_while0c_c_19 : Ref sig .tc := ⟨.hbm, 103, rfl⟩
abbrev main_while0c_v86 : Ref sig .tc := ⟨.hbm, 104, rfl⟩
abbrev main_while0b_c_19 : Ref sig .tc := ⟨.hbm, 105, rfl⟩
abbrev main_while0b_v86 : Ref sig .tc := ⟨.hbm, 106, rfl⟩
abbrev main_while0b_c_20 : Ref sig .tc := ⟨.hbm, 107, rfl⟩
abbrev main_while0b_v87 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_call2_c_1 : Ref sig .tc := ⟨.hbm, 111, rfl⟩
abbrev main_while0b_call2_c_2 : Ref sig .tc := ⟨.hbm, 112, rfl⟩
abbrev main_while0b_call2_v0 : Ref sig .tc := ⟨.hbm, 113, rfl⟩
abbrev main_while0b_v88 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_call3_c_1 : Ref sig .tc := ⟨.hbm, 117, rfl⟩
abbrev main_while0b_call3_c_2 : Ref sig .tc := ⟨.hbm, 118, rfl⟩
abbrev main_while0b_call3_v0 : Ref sig .tc := ⟨.hbm, 119, rfl⟩
abbrev main_while0b_v89 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_c_1 : Ref sig .tc := ⟨.hbm, 123, rfl⟩
abbrev main_while0b_call4_c_2 : Ref sig .tc := ⟨.hbm, 124, rfl⟩
abbrev main_while0b_call4_v0 : Ref sig .tc := ⟨.hbm, 125, rfl⟩
abbrev main_while0b_v90 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_c_1 : Ref sig .tc := ⟨.hbm, 129, rfl⟩
abbrev main_while0b_call5_c_2 : Ref sig .tc := ⟨.hbm, 130, rfl⟩
abbrev main_while0b_call5_v0 : Ref sig .tc := ⟨.hbm, 131, rfl⟩
abbrev main_while0b_v91 : Ref sig .tc := ⟨.hbm, 132, rfl⟩
abbrev main_while0b_call6_c : Ref sig .tc := ⟨.hbm, 133, rfl⟩
abbrev main_while0b_call6_c_0 : Ref sig .tc := ⟨.hbm, 134, rfl⟩
abbrev main_while0b_call6_c_1 : Ref sig .tc := ⟨.hbm, 135, rfl⟩
abbrev main_while0b_call6_c_2 : Ref sig .tc := ⟨.hbm, 136, rfl⟩
abbrev main_while0b_call6_v0 : Ref sig .tc := ⟨.hbm, 137, rfl⟩
abbrev main_while0b_v92 : Ref sig .tc := ⟨.hbm, 138, rfl⟩
abbrev main_while0b_call7_c : Ref sig .tc := ⟨.hbm, 139, rfl⟩
abbrev main_while0b_call7_c_0 : Ref sig .tc := ⟨.hbm, 140, rfl⟩
abbrev main_while0b_call7_c_1 : Ref sig .tc := ⟨.hbm, 141, rfl⟩
abbrev main_while0b_call7_c_2 : Ref sig .tc := ⟨.hbm, 142, rfl⟩
abbrev main_while0b_call7_v0 : Ref sig .tc := ⟨.hbm, 143, rfl⟩
abbrev main_while0b_v93 : Ref sig .tc := ⟨.hbm, 144, rfl⟩
abbrev main_while0b_v94 : Ref sig .tc := ⟨.hbm, 145, rfl⟩
abbrev main_while0b_cst_21 : Ref sig .tc := ⟨.hbm, 146, rfl⟩
abbrev main_while0b_v95 : Ref sig .tc := ⟨.hbm, 147, rfl⟩
abbrev main_while0b_v96 : Ref sig .tc := ⟨.hbm, 148, rfl⟩
abbrev main_while0b_v97 : Ref sig .tc := ⟨.hbm, 149, rfl⟩
abbrev main_while0b_v98 : Ref sig .tc := ⟨.hbm, 150, rfl⟩
abbrev main_while0b_v99 : Ref sig .tc := ⟨.hbm, 151, rfl⟩
abbrev main_while0b_v100 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_cst_22 : Ref sig .tc := ⟨.hbm, 160, rfl⟩
abbrev main_while0b_v108 : Ref sig .tc := ⟨.hbm, 161, rfl⟩
abbrev main_while0b_v109 : Ref sig .tc := ⟨.hbm, 162, rfl⟩
abbrev main_while0b_cst_23 : Ref sig .tc := ⟨.hbm, 163, rfl⟩
abbrev main_while0b_v110 : Ref sig .tc := ⟨.hbm, 164, rfl⟩
abbrev main_while0b_v111 : Ref sig .tc := ⟨.hbm, 165, rfl⟩
abbrev main_while0b_cst_24 : Ref sig .tc := ⟨.hbm, 166, rfl⟩
abbrev main_while0b_v112 : Ref sig .tc := ⟨.hbm, 167, rfl⟩
abbrev main_while0b_v113 : Ref sig .tc := ⟨.hbm, 168, rfl⟩
abbrev main_while0b_cst_25 : Ref sig .tc := ⟨.hbm, 169, rfl⟩
abbrev main_while0b_v114 : Ref sig .tc := ⟨.hbm, 170, rfl⟩
abbrev main_while0b_v115 : Ref sig .tc := ⟨.hbm, 171, rfl⟩
abbrev main_while0b_v116 : Ref sig .tc := ⟨.hbm, 172, rfl⟩
abbrev main_while0b_v117 : Ref sig .tc := ⟨.hbm, 173, rfl⟩
abbrev main_while0b_cst_26 : Ref sig .tc := ⟨.hbm, 174, rfl⟩
abbrev main_while0b_cst_27 : Ref sig .tc := ⟨.hbm, 175, rfl⟩
abbrev main_while0b_v118 : Ref sig .tc := ⟨.hbm, 176, rfl⟩
abbrev main_while0b_cst_28 : Ref sig .tc := ⟨.hbm, 177, rfl⟩
abbrev main_while0b_cst_29 : Ref sig .tc := ⟨.hbm, 178, rfl⟩
abbrev main_while0b_v119 : Ref sig .tc := ⟨.hbm, 179, rfl⟩
abbrev main_while0b_cst_30 : Ref sig .tc := ⟨.hbm, 180, rfl⟩
abbrev main_while0b_v120 : Ref sig .tc := ⟨.hbm, 181, rfl⟩
abbrev main_while0b_v121 : Ref sig .tc := ⟨.hbm, 182, rfl⟩
abbrev main_while0b_cst_31 : Ref sig .tc := ⟨.hbm, 183, rfl⟩
abbrev main_while0b_v122 : Ref sig .tc := ⟨.hbm, 184, rfl⟩
abbrev main_while0b_v123 : Ref sig .tc := ⟨.hbm, 185, rfl⟩
abbrev main_while0b_v124 : Ref sig .tc := ⟨.hbm, 186, rfl⟩
abbrev main_while0b_v125 : Ref sig .tc := ⟨.hbm, 187, rfl⟩
abbrev main_while0b_v126 : Ref sig .tc := ⟨.hbm, 188, rfl⟩
abbrev main_while0b_cst_32 : Ref sig .tc := ⟨.hbm, 189, rfl⟩
abbrev main_while0b_v127 : Ref sig .tc := ⟨.hbm, 190, rfl⟩
abbrev main_while0b_v128 : Ref sig .tc := ⟨.hbm, 191, rfl⟩
abbrev main_while0b_v129 : Ref sig .tc := ⟨.hbm, 192, rfl⟩
abbrev main_while0b_cst_33 : Ref sig .tc := ⟨.hbm, 193, rfl⟩
abbrev main_while0b_v130 : Ref sig .tc := ⟨.hbm, 194, rfl⟩
abbrev main_while0b_v131 : Ref sig .tc := ⟨.hbm, 195, rfl⟩
abbrev main_while0b_call8_call0_cst : Ref sig .tc := ⟨.hbm, 196, rfl⟩
abbrev main_while0b_call8_call0_v0 : Ref sig .tc := ⟨.hbm, 197, rfl⟩
abbrev main_while0b_v132 : Ref sig .tc := ⟨.hbm, 198, rfl⟩
abbrev main_while0b_v133 : Ref sig .tc := ⟨.hbm, 199, rfl⟩
abbrev main_while0b_v134 : Ref sig .tc := ⟨.hbm, 200, rfl⟩
abbrev main_while0b_v135 : Ref sig .tc := ⟨.hbm, 201, rfl⟩
abbrev main_while0b_v136 : Ref sig .tc := ⟨.hbm, 202, rfl⟩
abbrev main_while0b_v137 : Ref sig .tc := ⟨.hbm, 203, rfl⟩
abbrev main_while0b_v138 : Ref sig .tc := ⟨.hbm, 204, rfl⟩
abbrev main_while0b_cst_34 : Ref sig .tc := ⟨.hbm, 205, rfl⟩
abbrev main_while0b_v139 : Ref sig .tc := ⟨.hbm, 206, rfl⟩
abbrev main_while0b_v140 : Ref sig .tc := ⟨.hbm, 207, rfl⟩
abbrev main_while0b_cst_35 : Ref sig .tc := ⟨.hbm, 208, rfl⟩
abbrev main_while0b_v141 : Ref sig .tc := ⟨.hbm, 209, rfl⟩
abbrev main_while0b_v142 : Ref sig .tc := ⟨.hbm, 210, rfl⟩
abbrev main_while0b_cst_36 : Ref sig .tc := ⟨.hbm, 211, rfl⟩
abbrev main_while0b_v143 : Ref sig .tc := ⟨.hbm, 212, rfl⟩
abbrev main_while0b_v144 : Ref sig .tc := ⟨.hbm, 213, rfl⟩
abbrev main_while0b_cst_37 : Ref sig .tc := ⟨.hbm, 214, rfl⟩
abbrev main_while0b_v145 : Ref sig .tc := ⟨.hbm, 215, rfl⟩
abbrev main_while0b_cst_38 : Ref sig .tc := ⟨.hbm, 216, rfl⟩
abbrev main_while0b_v146 : Ref sig .tc := ⟨.hbm, 217, rfl⟩
abbrev main_while0b_cst_39 : Ref sig .tc := ⟨.hbm, 218, rfl⟩
abbrev main_while0b_v147 : Ref sig .tc := ⟨.hbm, 219, rfl⟩
abbrev main_while0b_v148 : Ref sig .tc := ⟨.hbm, 220, rfl⟩
abbrev main_while0b_v149 : Ref sig .tc := ⟨.hbm, 221, rfl⟩
abbrev main_while0b_v150 : Ref sig .tc := ⟨.hbm, 222, rfl⟩
abbrev main_while0b_cst_40 : Ref sig .tc := ⟨.hbm, 223, rfl⟩
abbrev main_while0b_call9_v0 : Ref sig .tc := ⟨.hbm, 224, rfl⟩
abbrev main_while0b_v151_1 : Ref sig .tc := ⟨.hbm, 225, rfl⟩
abbrev main_while0b_call9_v2 : Ref sig .tc := ⟨.hbm, 226, rfl⟩
abbrev main_while0b_v151_0 : Ref sig .tc := ⟨.hbm, 227, rfl⟩
abbrev main_while0b_call9_cst : Ref sig .tc := ⟨.hbm, 228, rfl⟩
abbrev main_while0b_v151_2 : Ref sig .tc := ⟨.hbm, 229, rfl⟩
abbrev main_while0b_v152 : Ref sig .tc := ⟨.hbm, 230, rfl⟩
abbrev main_while0b_v153 : Ref sig .tc := ⟨.hbm, 231, rfl⟩
abbrev main_while0b_v154 : Ref sig .tc := ⟨.hbm, 232, rfl⟩
abbrev main_while0b_v155 : Ref sig .tc := ⟨.hbm, 233, rfl⟩
abbrev main_while0b_v156 : Ref sig .tc := ⟨.hbm, 234, rfl⟩
abbrev main_while0b_v157 : Ref sig .tc := ⟨.hbm, 235, rfl⟩
abbrev main_while0b_cst_41 : Ref sig .tc := ⟨.hbm, 236, rfl⟩
abbrev main_while0b_v158 : Ref sig .tc := ⟨.hbm, 237, rfl⟩
abbrev main_while0b_v159 : Ref sig .tc := ⟨.hbm, 238, rfl⟩
abbrev main_while0b_v160 : Ref sig .tc := ⟨.hbm, 239, rfl⟩
abbrev main_while0b_v161 : Ref sig .tc := ⟨.hbm, 240, rfl⟩
abbrev main_while0b_v162 : Ref sig .tc := ⟨.hbm, 241, rfl⟩
abbrev main_while0b_v163 : Ref sig .tc := ⟨.hbm, 242, rfl⟩
abbrev main_while0b_v164 : Ref sig .tc := ⟨.hbm, 243, rfl⟩
abbrev main_while0b_v165 : Ref sig .tc := ⟨.hbm, 244, rfl⟩
abbrev main_while0b_v166 : Ref sig .tc := ⟨.hbm, 245, rfl⟩
abbrev main_while0b_v167 : Ref sig .tc := ⟨.hbm, 246, rfl⟩
abbrev main_while0b_v168 : Ref sig .tc := ⟨.hbm, 247, rfl⟩
abbrev main_while0b_v169 : Ref sig .tc := ⟨.hbm, 248, rfl⟩
abbrev main_while0b_v170 : Ref sig .tc := ⟨.hbm, 249, rfl⟩
abbrev main_while0b_v171 : Ref sig .tc := ⟨.hbm, 250, rfl⟩
abbrev main_while0b_v172 : Ref sig .tc := ⟨.hbm, 251, rfl⟩
abbrev main_while0b_v173 : Ref sig .tc := ⟨.hbm, 252, rfl⟩
abbrev main_while0b_v174 : Ref sig .tc := ⟨.hbm, 253, rfl⟩
abbrev main_while0b_v175 : Ref sig .tc := ⟨.hbm, 254, rfl⟩
abbrev main_while0b_v176 : Ref sig .tc := ⟨.hbm, 255, rfl⟩
abbrev main_while0b_v177 : Ref sig .tc := ⟨.hbm, 256, rfl⟩
abbrev main_while0b_v178 : Ref sig .tc := ⟨.hbm, 257, rfl⟩
abbrev main_while0b_v179 : Ref sig .tc := ⟨.hbm, 258, rfl⟩
abbrev main_while0b_v180 : Ref sig .tc := ⟨.hbm, 259, rfl⟩
abbrev main_while0b_v181 : Ref sig .tc := ⟨.hbm, 260, rfl⟩
abbrev main_while0b_v182 : Ref sig .tc := ⟨.hbm, 261, rfl⟩
abbrev main_while0b_cst_42 : Ref sig .tc := ⟨.hbm, 262, rfl⟩
abbrev main_while0b_v183 : Ref sig .tc := ⟨.hbm, 263, rfl⟩
abbrev main_while0b_v184 : Ref sig .tc := ⟨.hbm, 264, rfl⟩
abbrev main_while0b_v185 : Ref sig .tc := ⟨.hbm, 265, rfl⟩
abbrev main_while0b_v186 : Ref sig .tc := ⟨.hbm, 266, rfl⟩
abbrev main_while0b_v187 : Ref sig .tc := ⟨.hbm, 267, rfl⟩
abbrev main_while0b_v188 : Ref sig .tc := ⟨.hbm, 268, rfl⟩
abbrev main_while0b_cst_43 : Ref sig .tc := ⟨.hbm, 269, rfl⟩
abbrev main_while0b_v189 : Ref sig .tc := ⟨.hbm, 270, rfl⟩
abbrev main_while0b_v190 : Ref sig .tc := ⟨.hbm, 271, rfl⟩
abbrev main_while0b_cst_44 : Ref sig .tc := ⟨.hbm, 272, rfl⟩
abbrev main_while0b_v191 : Ref sig .tc := ⟨.hbm, 273, rfl⟩
abbrev main_while0b_v192 : Ref sig .tc := ⟨.hbm, 274, rfl⟩
abbrev main_while0b_v193 : Ref sig .tc := ⟨.hbm, 275, rfl⟩
abbrev main_while0b_v194 : Ref sig .tc := ⟨.hbm, 276, rfl⟩
abbrev main_while0b_cst_45 : Ref sig .tc := ⟨.hbm, 277, rfl⟩
abbrev main_while0b_v195 : Ref sig .tc := ⟨.hbm, 278, rfl⟩
abbrev main_while0b_v196 : Ref sig .tc := ⟨.hbm, 279, rfl⟩
abbrev main_while0b_v197 : Ref sig .tc := ⟨.hbm, 280, rfl⟩
abbrev main_while0b_v198 : Ref sig .tc := ⟨.hbm, 281, rfl⟩
abbrev main_while0b_v199 : Ref sig .tc := ⟨.hbm, 282, rfl⟩
abbrev main_while0b_v200 : Ref sig .tc := ⟨.hbm, 283, rfl⟩
abbrev main_while0b_v201 : Ref sig .tc := ⟨.hbm, 284, rfl⟩
abbrev main_while0b_v202 : Ref sig .tc := ⟨.hbm, 285, rfl⟩
abbrev main_while0b_v203 : Ref sig .tc := ⟨.hbm, 286, rfl⟩
abbrev main_while0b_v204 : Ref sig .tc := ⟨.hbm, 287, rfl⟩
abbrev main_while0b_v205 : Ref sig .tc := ⟨.hbm, 288, rfl⟩
abbrev main_while0b_v206 : Ref sig .tc := ⟨.hbm, 289, rfl⟩
abbrev main_while0b_v207 : Ref sig .tc := ⟨.hbm, 290, rfl⟩
abbrev main_while0b_v208 : Ref sig .tc := ⟨.hbm, 291, rfl⟩
abbrev main_while0b_v209 : Ref sig .tc := ⟨.hbm, 292, rfl⟩
abbrev main_while0b_v210 : Ref sig .tc := ⟨.hbm, 293, rfl⟩
abbrev main_while0b_cst_46 : Ref sig .tc := ⟨.hbm, 294, rfl⟩
abbrev main_while0b_v211 : Ref sig .tc := ⟨.hbm, 295, rfl⟩
abbrev main_while0b_v212 : Ref sig .tc := ⟨.hbm, 296, rfl⟩
abbrev main_while0b_v213 : Ref sig .tc := ⟨.hbm, 297, rfl⟩
abbrev main_while0b_v214 : Ref sig .tc := ⟨.hbm, 298, rfl⟩
abbrev main_while0b_cst_47 : Ref sig .tc := ⟨.hbm, 299, rfl⟩
abbrev main_while0b_v215 : Ref sig .tc := ⟨.hbm, 300, rfl⟩
abbrev main_while0b_v216 : Ref sig .tc := ⟨.hbm, 301, rfl⟩
abbrev main_while0b_v217 : Ref sig .tc := ⟨.hbm, 302, rfl⟩
abbrev main_while0b_v218 : Ref sig .tc := ⟨.hbm, 303, rfl⟩
abbrev main_while0b_v219 : Ref sig .tc := ⟨.hbm, 304, rfl⟩
abbrev main_while0b_cst_48 : Ref sig .tc := ⟨.hbm, 305, rfl⟩
abbrev main_while0b_v220 : Ref sig .tc := ⟨.hbm, 306, rfl⟩
abbrev main_while0b_v221 : Ref sig .tc := ⟨.hbm, 307, rfl⟩
abbrev main_while0b_cst_49 : Ref sig .tc := ⟨.hbm, 308, rfl⟩
abbrev main_while0b_v222 : Ref sig .tc := ⟨.hbm, 309, rfl⟩
abbrev main_while0b_v223 : Ref sig .tc := ⟨.hbm, 310, rfl⟩
abbrev main_while0b_call10_cst : Ref sig .tc := ⟨.hbm, 311, rfl⟩
abbrev main_while0b_call10_v0 : Ref sig .tc := ⟨.hbm, 312, rfl⟩
abbrev main_while0b_v224 : Ref sig .tc := ⟨.hbm, 313, rfl⟩
abbrev main_while0b_v225 : Ref sig .tc := ⟨.hbm, 314, rfl⟩
abbrev main_while0b_v226 : Ref sig .tc := ⟨.hbm, 315, rfl⟩
abbrev main_while0b_cst_50 : Ref sig .tc := ⟨.hbm, 316, rfl⟩
abbrev main_while0b_v227 : Ref sig .tc := ⟨.hbm, 317, rfl⟩
abbrev main_while0b_v228 : Ref sig .tc := ⟨.hbm, 318, rfl⟩
abbrev main_while0b_v229 : Ref sig .tc := ⟨.hbm, 319, rfl⟩
abbrev main_while0b_cst_51 : Ref sig .tc := ⟨.hbm, 320, rfl⟩
abbrev main_while0b_v230 : Ref sig .tc := ⟨.hbm, 321, rfl⟩
abbrev main_while0b_v231 : Ref sig .tc := ⟨.hbm, 322, rfl⟩
abbrev main_while0b_cst_52 : Ref sig .tc := ⟨.hbm, 323, rfl⟩
abbrev main_while0b_v232 : Ref sig .tc := ⟨.hbm, 324, rfl⟩
abbrev main_while0b_v233 : Ref sig .tc := ⟨.hbm, 325, rfl⟩
abbrev main_while0b_cst_53 : Ref sig .tc := ⟨.hbm, 326, rfl⟩
abbrev main_while0b_v234 : Ref sig .tc := ⟨.hbm, 327, rfl⟩
abbrev main_while0b_v235 : Ref sig .tc := ⟨.hbm, 328, rfl⟩
abbrev main_while0b_call11_call0_cst : Ref sig .tc := ⟨.hbm, 329, rfl⟩
abbrev main_while0b_call11_call0_v0 : Ref sig .tc := ⟨.hbm, 330, rfl⟩
abbrev main_while0b_v236 : Ref sig .tc := ⟨.hbm, 331, rfl⟩
abbrev main_while0b_cst_54 : Ref sig .tc := ⟨.hbm, 332, rfl⟩
abbrev main_while0b_v237 : Ref sig .tc := ⟨.hbm, 333, rfl⟩
abbrev main_while0b_v238 : Ref sig .tc := ⟨.hbm, 334, rfl⟩
abbrev main_while0b_v239 : Ref sig .tc := ⟨.hbm, 335, rfl⟩
abbrev main_while0b_v240 : Ref sig .tc := ⟨.hbm, 336, rfl⟩
abbrev main_while0b_v241 : Ref sig .tc := ⟨.hbm, 337, rfl⟩
abbrev main_while0b_call12_v0 : Ref sig .tc := ⟨.hbm, 338, rfl⟩
abbrev main_while0b_call12_c : Ref sig .tc := ⟨.hbm, 339, rfl⟩
abbrev main_while0b_call12_c_0 : Ref sig .tc := ⟨.hbm, 340, rfl⟩
abbrev main_while0b_call12_c_1 : Ref sig .tc := ⟨.hbm, 341, rfl⟩
abbrev main_while0b_call12_c_2 : Ref sig .tc := ⟨.hbm, 342, rfl⟩
abbrev main_while0b_v242 : Ref sig .tc := ⟨.hbm, 343, rfl⟩
abbrev main_while0b_call13_v0 : Ref sig .tc := ⟨.hbm, 344, rfl⟩
abbrev main_while0b_call13_c : Ref sig .tc := ⟨.hbm, 345, rfl⟩
abbrev main_while0b_call13_c_0 : Ref sig .tc := ⟨.hbm, 346, rfl⟩
abbrev main_while0b_call13_c_1 : Ref sig .tc := ⟨.hbm, 347, rfl⟩
abbrev main_while0b_call13_c_2 : Ref sig .tc := ⟨.hbm, 348, rfl⟩
abbrev main_while0b_v243 : Ref sig .tc := ⟨.hbm, 349, rfl⟩
abbrev main_while0b_call14_v0 : Ref sig .tc := ⟨.hbm, 350, rfl⟩
abbrev main_while0b_call14_c : Ref sig .tc := ⟨.hbm, 351, rfl⟩
abbrev main_while0b_call14_c_0 : Ref sig .tc := ⟨.hbm, 352, rfl⟩
abbrev main_while0b_call14_c_1 : Ref sig .tc := ⟨.hbm, 353, rfl⟩
abbrev main_while0b_call14_c_2 : Ref sig .tc := ⟨.hbm, 354, rfl⟩
abbrev main_while0b_v244 : Ref sig .tc := ⟨.hbm, 355, rfl⟩
abbrev main_while0b_call15_v0 : Ref sig .tc := ⟨.hbm, 356, rfl⟩
abbrev main_while0b_call15_c : Ref sig .tc := ⟨.hbm, 357, rfl⟩
abbrev main_while0b_call15_c_0 : Ref sig .tc := ⟨.hbm, 358, rfl⟩
abbrev main_while0b_call15_c_1 : Ref sig .tc := ⟨.hbm, 359, rfl⟩
abbrev main_while0b_call15_c_2 : Ref sig .tc := ⟨.hbm, 360, rfl⟩
abbrev main_while0b_v245 : Ref sig .tc := ⟨.hbm, 361, rfl⟩
abbrev main_while0b_c_55 : Ref sig .tc := ⟨.hbm, 362, rfl⟩
abbrev main_while0b_v246 : Ref sig .tc := ⟨.hbm, 363, rfl⟩
abbrev main_v58 : Ref sig .tc := ⟨.hbm, 364, rfl⟩
abbrev main_v59 : Ref sig .tc := ⟨.hbm, 365, rfl⟩
abbrev main_v60 : Ref sig .tc := ⟨.hbm, 366, rfl⟩
abbrev main_v61 : Ref sig .tc := ⟨.hbm, 367, rfl⟩
abbrev main_v62 : Ref sig .tc := ⟨.hbm, 368, rfl⟩
abbrev main_v63 : Ref sig .tc := ⟨.hbm, 369, rfl⟩
abbrev main_v64 : Ref sig .tc := ⟨.hbm, 370, rfl⟩
abbrev main_v65 : Ref sig .tc := ⟨.hbm, 371, rfl⟩
abbrev main_v66 : Ref sig .tc := ⟨.hbm, 372, rfl⟩
abbrev main_v67 : Ref sig .tc := ⟨.hbm, 373, rfl⟩
abbrev main_v68 : Ref sig .tc := ⟨.hbm, 374, rfl⟩
abbrev main_v69 : Ref sig .tc := ⟨.hbm, 375, rfl⟩
abbrev main_v70 : Ref sig .tc := ⟨.hbm, 376, rfl⟩
abbrev main_v71 : Ref sig .tc := ⟨.hbm, 377, rfl⟩
abbrev main_v72 : Ref sig .tc := ⟨.hbm, 378, rfl⟩
abbrev main_v73 : Ref sig .tc := ⟨.hbm, 379, rfl⟩
abbrev main_v74 : Ref sig .tc := ⟨.hbm, 380, rfl⟩
abbrev main_v75 : Ref sig .tc := ⟨.hbm, 381, rfl⟩
abbrev main_v76 : Ref sig .tc := ⟨.hbm, 382, rfl⟩
abbrev main_v77 : Ref sig .tc := ⟨.hbm, 383, rfl⟩
abbrev main_v78 : Ref sig .tc := ⟨.hbm, 384, rfl⟩
abbrev main_v79 : Ref sig .tc := ⟨.hbm, 385, rfl⟩
abbrev main_v80 : Ref sig .tc := ⟨.hbm, 386, rfl⟩
abbrev main_v81 : Ref sig .tc := ⟨.hbm, 387, rfl⟩
abbrev main_v82 : Ref sig .tc := ⟨.hbm, 388, rfl⟩
abbrev main_v83 : Ref sig .tc := ⟨.hbm, 389, rfl⟩
abbrev main_v84 : Ref sig .tc := ⟨.hbm, 390, rfl⟩
abbrev main_v85 : Ref sig .tc := ⟨.hbm, 391, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S8448x1024 : Shape := ⟨2, ![8448, 1024]⟩
abbrev S1024x4096 : Shape := ⟨2, ![1024, 4096]⟩
abbrev S4096x1024 : Shape := ⟨2, ![4096, 1024]⟩
abbrev S8448x4096 : Shape := ⟨2, ![8448, 4096]⟩
abbrev S2816x1024 : Shape := ⟨2, ![2816, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S4096x1024, .bf16⟩
  | .hbm, ⟨3, _⟩ => ⟨S8448x1024, .bf16⟩
  | .hbm, ⟨4, _⟩ => ⟨S8448x1024, .f32⟩
  | .hbm, ⟨5, _⟩ => ⟨S1024x4096, .f32⟩
  | .hbm, ⟨6, _⟩ => ⟨S8448x4096, .f32⟩
  | .hbm, ⟨7, _⟩ => ⟨S8448x4096, .bf16⟩
  | .hbm, ⟨8, _⟩ => ⟨S8448x4096, .bf16⟩
  | .local _ .vmem, ⟨0, _⟩ => ⟨S2816x1024, .bf16⟩
  | .local _ .vmem, ⟨1, _⟩ => ⟨S2816x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S2816x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8448x1024 : Shape := ⟨2, ![8448, 1024]⟩
abbrev S1024x4096 : Shape := ⟨2, ![1024, 4096]⟩
abbrev S4096x1024 : Shape := ⟨2, ![4096, 1024]⟩
abbrev S8448x4096 : Shape := ⟨2, ![8448, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S4096x1024, .bf16⟩
  | .hbm, ⟨3, _⟩ => ⟨S8448x1024, .bf16⟩
  | .hbm, ⟨4, _⟩ => ⟨S8448x1024, .f32⟩
  | .hbm, ⟨5, _⟩ => ⟨S1024x4096, .f32⟩
  | .hbm, ⟨6, _⟩ => ⟨S4096x1024, .f32⟩
  | .hbm, ⟨7, _⟩ => ⟨S8448x1024, .f32⟩
  | .hbm, ⟨8, _⟩ => ⟨S8448x4096, .f32⟩
  | .hbm, ⟨9, _⟩ => ⟨S_, .f32⟩
  | .hbm, ⟨10, _⟩ => ⟨S8448x4096, .f32⟩
  | .hbm, ⟨11, _⟩ => ⟨S8448x4096, .f32⟩
  | .hbm, ⟨12, _⟩ => ⟨S_, .f32⟩
  | .hbm, ⟨13, _⟩ => ⟨S8448x4096, .f32⟩
  | .hbm, ⟨14, _⟩ => ⟨S8448x4096, .i1⟩
  | .hbm, ⟨15, _⟩ => ⟨S_, .f32⟩
  | .hbm, ⟨16, _⟩ => ⟨S8448x4096, .f32⟩
  | .hbm, ⟨17, _⟩ => ⟨S8448x4096, .f32⟩
  | .hbm, ⟨18, _⟩ => ⟨S_, .f32⟩
  | .hbm, ⟨19, _⟩ => ⟨S8448x4096, .f32⟩
  | .hbm, ⟨20, _⟩ => ⟨S8448x4096, .f32⟩
  | .hbm, ⟨21, _⟩ => ⟨S8448x1024, .f32⟩
  | .hbm, ⟨22, _⟩ => ⟨S8448x4096, .f32⟩
  | .hbm, ⟨23, _⟩ => ⟨S8448x4096, .f32⟩
  | .hbm, ⟨24, _⟩ => ⟨S_, .f32⟩
  | .hbm, ⟨25, _⟩ => ⟨S8448x4096, .f32⟩
  | .hbm, ⟨26, _⟩ => ⟨S8448x4096, .f32⟩
  | .hbm, ⟨27, _⟩ => ⟨S8448x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel3.lean ====
abbrev S8448x1024 : Shape := ⟨2, ![8448, 1024]⟩
abbrev S1024x4096 : Shape := ⟨2, ![1024, 4096]⟩
abbrev S8448x4096 : Shape := ⟨2, ![8448, 4096]⟩
abbrev S_ : Shape := ⟨0, ![]⟩
abbrev S4096x1024 : Shape := ⟨2, ![4096, 1024]⟩
abbrev S2816x1024 : Shape := ⟨2, ![2816, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x1024, .bf16⟩
  | .hbm, ⟨3, _⟩ => ⟨S8448x1024, .f32⟩
  | .hbm, ⟨4, _⟩ => ⟨S1024x4096, .f32⟩
  | .hbm, ⟨5, _⟩ => ⟨S8448x4096, .f32⟩
  | .hbm, ⟨6, _⟩ => ⟨S_, .f32⟩
  | .hbm, ⟨7, _⟩ => ⟨S8448x4096, .f32⟩
  | .hbm, ⟨8, _⟩ => ⟨S8448x4096, .f32⟩
  | .hbm, ⟨9, _⟩ => ⟨S8448x4096, .f32⟩
  | .hbm, ⟨10, _⟩ => ⟨S8448x4096, .bf16⟩
  | .hbm, ⟨11, _⟩ => ⟨S4096x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S1024x4096 : Shape := ⟨2, ![1024, 4096]⟩
abbrev S_ : Shape := ⟨0, ![]⟩
abbrev S4096x1024 : Shape := ⟨2, ![4096, 1024]⟩
abbrev S8448x4096 : Shape := ⟨2, ![8448, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x1024, .bf16⟩
  | .hbm, ⟨3, _⟩ => ⟨S8448x1024, .f32⟩
  | .hbm, ⟨4, _⟩ => ⟨S1024x4096, .f32⟩
  | .hbm, ⟨5, _⟩ => ⟨S8448x1024, .f32⟩
  | .hbm, ⟨6, _⟩ => ⟨S_, .f32⟩
  | .hbm, ⟨7, _⟩ => ⟨S4096x1024, .f32⟩
  | .hbm, ⟨8, _⟩ => ⟨S8448x4096, .f32⟩
  | .hbm, ⟨9, _⟩ => ⟨S_, .f32⟩
  | .hbm, ⟨10, _⟩ => ⟨S8448x4096, .f32⟩
  | .hbm, ⟨11, _⟩ => ⟨S8448x4096, .f32⟩
  | .hbm, ⟨12, _⟩ => ⟨S8448x4096, .f32⟩
  | .hbm, ⟨13, _⟩ => ⟨S8448x1024, .f32⟩
  | .hbm, ⟨14, _⟩ => ⟨S1024x4096, .f32⟩
  | .hbm, ⟨15, _⟩ => ⟨S4096x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S8448x1024 : Shape := ⟨2, ![8448, 1024]⟩
abbrev S8448x4096 : Shape := ⟨2, ![8448, 4096]⟩
abbrev S4x1024x1024 : Shape := ⟨3, ![4, 1024, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S4x1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S8448x1024, .f32⟩
  | .hbm, ⟨3, _⟩ => ⟨S8448x4096, .f32⟩
  | .hbm, ⟨4, _⟩ => ⟨S_, .f32⟩
  | .hbm, ⟨5, _⟩ => ⟨S1024x4096, .f32⟩
  | .hbm, ⟨6, _⟩ => ⟨S8448x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8448x1024 : Shape := ⟨2, ![8448, 1024]⟩
abbrev S1024x4096 : Shape := ⟨2, ![1024, 4096]⟩
abbrev S8448x4096 : Shape := ⟨2, ![8448, 4096]⟩
abbrev S2816x1024 : Shape := ⟨2, ![2816, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .bf16⟩
  | .hbm, ⟨3, _⟩ => ⟨S8448x4096, .bf16⟩
  | .local _ .vmem, ⟨0, _⟩ => ⟨S2816x1024, .bf16⟩
  | .local _ .vmem, ⟨1, _⟩ => ⟨S2816x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S2816x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8448x1024 : Shape := ⟨2, ![8448, 1024]⟩
abbrev S1024x4096 : Shape := ⟨2, ![1024, 4096]⟩
abbrev S8448x4096 : Shape := ⟨2, ![8448, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x1024, .f32⟩
  | .hbm, ⟨3, _⟩ => ⟨S1024x4096, .f32⟩
  | .hbm, ⟨4, _⟩ => ⟨S8448x4096, .f32⟩
  | .hbm, ⟨5, _⟩ => ⟨S8448x4096, .bf16⟩
  | .hbm, ⟨6, _⟩ => ⟨S_, .f32⟩
  | .hbm, ⟨7, _⟩ => ⟨S8448x4096, .f32⟩
  | .hbm, ⟨8, _⟩ => ⟨S8448x4096, .f32⟩
  | .hbm, ⟨9, _⟩ => ⟨S8448x4096, .f32⟩
  | .hbm, ⟨10, _⟩ => ⟨S8448x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S8448x1024 : Shape := ⟨2, ![8448, 1024]⟩
abbrev S8448x2688 : Shape := ⟨2, ![8448, 2688]⟩
abbrev S1024x2688 : Shape := ⟨2, ![1024, 2688]⟩
abbrev S2816x1024 : Shape := ⟨2, ![2816, 1024]⟩
abbrev S2816x896 : Shape := ⟨2, ![2816, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2688, .bf16⟩
  | .hbm, ⟨2, _⟩ => ⟨S1024x2688, .f32⟩
  | .local _ .vmem, ⟨0, _⟩ => ⟨S2816x1024, .bf16⟩
  | .local _ .vmem, ⟨1, _⟩ => ⟨S2816x1024, .bf16⟩
  | .local _ .vmem, ⟨2, _⟩ => ⟨S2816x896, .bf16⟩
  | .local _ .vmem, ⟨3, _⟩ => ⟨S2816x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S8448x2688 : Shape := ⟨2, ![8448, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2688, .bf16⟩
  | .hbm, ⟨2, _⟩ => ⟨S8448x1024, .f32⟩
  | .hbm, ⟨3, _⟩ => ⟨S8448x2688, .f32⟩
  | .hbm, ⟨4, _⟩ => ⟨S_, .f32⟩
  | .hbm, ⟨5, _⟩ => ⟨S1024x2688, .f32⟩
  | .hbm, ⟨6, _⟩ => ⟨S8448x2688, .f32⟩
  | .hbm, ⟨7, _⟩ => ⟨S2688x1024, .f32⟩
  | .hbm, ⟨8, _⟩ => ⟨S1024x2688, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8448x1024 : Shape := ⟨2, ![8448, 1024]⟩
abbrev S1024x2688 : Shape := ⟨2, ![1024, 2688]⟩
abbrev S8448x512 : Shape := ⟨2, ![8448, 512]⟩
abbrev S8448x128 : Shape := ⟨2, ![8448, 128]⟩
abbrev S768x1024 : Shape := ⟨2, ![768, 1024]⟩
abbrev S768x512 : Shape := ⟨2, ![768, 512]⟩
abbrev S768x128 : Shape := ⟨2, ![768, 128]⟩
abbrev S768x2688 : Shape := ⟨2, ![768, 2688]⟩

abbrev nBuf : Space → Nat
  | .hbm => 7
  | .vmem => 13
  | .smem => 0
  | _ => 0

abbrev bufTy : (tb : Table) → Fin (tcTables nBuf tb) → BufTy
  | .hbm, ⟨0, _⟩ => ⟨S8448x1024, .bf16⟩
  | .hbm, ⟨1, _⟩ => ⟨S1024x2688, .bf16⟩
  | .hbm, ⟨2, _⟩ => ⟨S8448x1024, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S8448x128, .f32⟩
  | .local _ .vmem, ⟨0, _⟩ => ⟨S768x1024, .bf16⟩
  | .local _ .vmem, ⟨1, _⟩ => ⟨S768x1024, .bf16⟩
  | .local _ .vmem, ⟨2, _⟩ => ⟨S1024x2688, .bf16⟩
  | .local _ .vmem, ⟨3, _⟩ => ⟨S768x1024, .f32⟩
  | .local _ .vmem, ⟨4, _⟩ => ⟨S768x1024, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S768x512, .f32⟩
  | .local _ .vmem, ⟨9, _⟩ => ⟨S768x512, .f32⟩
  | .local _ .vmem, ⟨10, _⟩ => ⟨S768x512, .f32⟩
  | .local _ .vmem, ⟨11, _⟩ => ⟨S768x128, .f32⟩
  | .local _ .vmem, ⟨12, _⟩ => ⟨S768x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference7Ideal.lean ====
abbrev S8448x1024 : Shape := ⟨2, ![8448, 1024]⟩
abbrev S1024x2688 : Shape := ⟨2, ![1024, 2688]⟩
abbrev S8448x2688 : Shape := ⟨2, ![8448, 2688]⟩
abbrev S8448x512 : Shape := ⟨2, ![8448, 512]⟩
abbrev S8448x128 : Shape := ⟨2, ![8448, 128]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2688, .bf16⟩
  | .hbm, ⟨2, _⟩ => ⟨S8448x1024, .f32⟩
  | .hbm, ⟨3, _⟩ => ⟨S1024x2688, .f32⟩
  | .hbm, ⟨4, _⟩ => ⟨S8448x2688, .f32⟩
  | .hbm, ⟨5, _⟩ => ⟨S8448x1024, .f32⟩
  | .hbm, ⟨6, _⟩ => ⟨S8448x512, .f32⟩
  | .hbm, ⟨7, _⟩ => ⟨S8448x512, .f32⟩
  | .hbm, ⟨8, _⟩ => ⟨S8448x512, .f32⟩
  | .hbm, ⟨9, _⟩ => ⟨S8448x128, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel8.lean ====
abbrev S8448x4096 : Shape := ⟨2, ![8448, 4096]⟩
abbrev S4096x1024 : Shape := ⟨2, ![4096, 1024]⟩
abbrev S8448x1024 : Shape := ⟨2, ![8448, 1024]⟩
abbrev S1x1024 : Shape := ⟨2, ![1, 1024]⟩
abbrev S768x4096 : Shape := ⟨2, ![768, 4096]⟩
abbrev S768x1024 : Shape := ⟨2, ![768, 1024]⟩
abbrev S768 : Shape := ⟨1, ![768]⟩
abbrev S768x1 : Shape := ⟨2, ![768, 1]⟩

abbrev nBuf : Space → Nat
  | .hbm => 8
  | .vmem => 13
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x1024, .f32⟩
  | .hbm, ⟨3, _⟩ => ⟨S1x1024, .f32⟩
  | .hbm, ⟨4, _⟩ => ⟨S1x1024, .f32⟩
  | .hbm, ⟨5, _⟩ => ⟨S8448x1024, .f32⟩
  | .hbm, ⟨6, _⟩ => ⟨S8448x1024, .f32⟩
  | .hbm, ⟨7, _⟩ => ⟨S8448x1024, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference8Ideal.lean ====
abbrev S8448x4096 : Shape := ⟨2, ![8448, 4096]⟩
abbrev S4096x1024 : Shape := ⟨2, ![4096, 1024]⟩
abbrev S8448x1024 : Shape := ⟨2, ![8448, 1024]⟩
abbrev S1x1024 : Shape := ⟨2, ![1, 1024]⟩
abbrev S1024 : Shape := ⟨1, ![1024]⟩
abbrev S_ : Shape := ⟨0, ![]⟩
abbrev S8448 : Shape := ⟨1, ![8448]⟩
abbrev S8448x1 : Shape := ⟨2, ![8448, 1]⟩

abbrev nBuf : Space → Nat
  | .hbm => 44
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x1024, .f32⟩
  | .hbm, ⟨3, _⟩ => ⟨S1x1024, .f32⟩
  | .hbm, ⟨4, _⟩ => ⟨S1x1024, .f32⟩
  | .hbm, ⟨5, _⟩ => ⟨S8448x4096, .f32⟩
  | .hbm, ⟨6, _⟩ => ⟨S4096x1024, .f32⟩
  | .hbm, ⟨7, _⟩ => ⟨S8448x1024, .f32⟩
  | .hbm, ⟨8, _⟩ => ⟨S1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S1024, .f32⟩
  | .hbm, ⟨27, _⟩ => ⟨S8448x1024, .f32⟩
  | .hbm, ⟨28, _⟩ => ⟨S_, .f32⟩
  | .hbm, ⟨29, _⟩ => ⟨S8448, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S8448x1024, .f32⟩
  | .hbm, ⟨39, _⟩ => ⟨S8448x1024, .f32⟩
  | .hbm, ⟨40, _⟩ => ⟨S1x1024, .f32⟩
  | .hbm, ⟨41, _⟩ => ⟨S8448x1024, .f32⟩
  | .hbm, ⟨42, _⟩ => ⟨S8448x1024, .f32⟩
  | .hbm, ⟨43, _⟩ => ⟨S8448x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel9.lean ====
abbrev S8448x1024 : Shape := ⟨2, ![8448, 1024]⟩
abbrev S1024x1024 : Shape := ⟨2, ![1024, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 8
  | .vmem => 13
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1x1024, .f32⟩
  | .hbm, ⟨4, _⟩ => ⟨S1x1024, .f32⟩
  | .hbm, ⟨5, _⟩ => ⟨S8448x1024, .f32⟩
  | .hbm, ⟨6, _⟩ => ⟨S8448x1024, .f32⟩
  | .hbm, ⟨7, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference9Ideal.lean ====
abbrev S8448x1024 : Shape := ⟨2, ![8448, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8448 : Shape := ⟨1, ![8448]⟩
abbrev S8448x1 : Shape := ⟨2, ![8448, 1]⟩

abbrev nBuf : Space → Nat
  | .hbm => 44
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1x1024, .f32⟩
  | .hbm, ⟨4, _⟩ => ⟨S1x1024, .f32⟩
  | .hbm, ⟨5, _⟩ => ⟨S8448x1024, .f32⟩
  | .hbm, ⟨6, _⟩ => ⟨S1024x1024, .f32⟩
  | .hbm, ⟨7, _⟩ => ⟨S8448x1024, .f32⟩
  | .hbm, ⟨8, _⟩ => ⟨S1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S1024, .f32⟩
  | .hbm, ⟨27, _⟩ => ⟨S8448x1024, .f32⟩
  | .hbm, ⟨28, _⟩ => ⟨S_, .f32⟩
  | .hbm, ⟨29, _⟩ => ⟨S8448, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S8448x1024, .f32⟩
  | .hbm, ⟨39, _⟩ => ⟨S8448x1024, .f32⟩
  | .hbm, ⟨40, _⟩ => ⟨S1x1024, .f32⟩
  | .hbm, ⟨41, _⟩ => ⟨S8448x1024, .f32⟩
  | .hbm, ⟨42, _⟩ => ⟨S8448x1024, .f32⟩
  | .hbm, ⟨43, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel10.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S_, .f32⟩
  | .hbm, ⟨5, _⟩ => ⟨S1024x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8448x4096 : Shape := ⟨2, ![8448, 4096]⟩
abbrev S1024x4096 : Shape := ⟨2, ![1024, 4096]⟩
abbrev S8448x1024 : Shape := ⟨2, ![8448, 1024]⟩
abbrev S1x1024 : Shape := ⟨2, ![1, 1024]⟩
abbrev S768x4096 : Shape := ⟨2, ![768, 4096]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8448x4096, .bf16⟩
  | .hbm, ⟨1, _⟩ => ⟨S1024x4096, .bf16⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S1x1024, .f32⟩
  | .hbm, ⟨6, _⟩ => ⟨S1x1024, .f32⟩
  | .hbm, ⟨7, _⟩ => ⟨S8448x1024, .f32⟩
  | .hbm, ⟨8, _⟩ => ⟨S8448x1024, .bf16⟩
  | .hbm, ⟨9, _⟩ => ⟨S1x1024, .f32⟩
  | .hbm, ⟨10, _⟩ => ⟨S1x1024, .f32⟩
  | .local _ .vmem, ⟨0, _⟩ => ⟨S768x4096, .bf16⟩
  | .local _ .vmem, ⟨1, _⟩ => ⟨S768x4096, .bf16⟩
  | .local _ .vmem, ⟨2, _⟩ => ⟨S1024x4096, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S1x1024, .f32⟩
  | .local _ .vmem, ⟨10, _⟩ => ⟨S1x1024, .f32⟩
  | .local _ .vmem, ⟨11, _⟩ => ⟨S768x1024, .f32⟩
  | .local _ .vmem, ⟨12, _⟩ => ⟨S768x1024, .f32⟩
  | .local _ .vmem, ⟨13, _⟩ => ⟨S768x1024, .bf16⟩
  | .local _ .vmem, ⟨14, _⟩ => ⟨S768x1024, .bf16⟩
  | .local _ .vmem, ⟨15, _⟩ => ⟨S1x1024, .f32⟩
  | .local _ .vmem, ⟨16, _⟩ => ⟨S1x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference11Ideal.lean ====
abbrev S8448x4096 : Shape := ⟨2, ![8448, 4096]⟩
abbrev S1024x4096 : Shape := ⟨2, ![1024, 4096]⟩
abbrev S8448x1024 : Shape := ⟨2, ![8448, 1024]⟩
abbrev S1x1024 : Shape := ⟨2, ![1, 1024]⟩
abbrev S_ : Shape := ⟨0, ![]⟩
abbrev S1024 : Shape := ⟨1, ![1024]⟩
abbrev S8448 : Shape := ⟨1, ![8448]⟩
abbrev S8448x1 : Shape := ⟨2, ![8448, 1]⟩

abbrev nBuf : Space → Nat
  | .hbm => 109
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S1024x4096, .bf16⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S8448x4096, .f32⟩
  | .hbm, ⟨9, _⟩ => ⟨S_, .f32⟩
  | .hbm, ⟨10, _⟩ => ⟨S8448x1024, .f32⟩
  | .hbm, ⟨11, _⟩ => ⟨S8448x4096, .f32⟩
  | .hbm, ⟨12, _⟩ => ⟨S8448x1024, .f32⟩
  | .hbm, ⟨13, _⟩ => ⟨S1024, .f32⟩
  | .hbm, ⟨14, _⟩ => ⟨S8448x1024, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1024, .f32⟩
  | .hbm, ⟨30, _⟩ => ⟨S8448x1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8448x1024, .f32⟩
  | .hbm, ⟨39, _⟩ => ⟨S8448x1024, .f32⟩
  | .hbm, ⟨40, _⟩ => ⟨S_, .f32⟩
  | .hbm, ⟨41, _⟩ => ⟨S1024, .f32⟩
  | .hbm, ⟨42, _⟩ => ⟨S8448x1024, .f32⟩
  | .hbm, ⟨43, _⟩ => ⟨S_, .f32⟩
  | .hbm, ⟨44, _⟩ => ⟨S8448, .f32⟩
  | .hbm, ⟨45, _⟩ => ⟨S8448x1, .f32⟩
  | .hbm, ⟨46, _⟩ => ⟨S8448x1024, .f32⟩
  | .hbm, ⟨47, _⟩ => ⟨S8448x1024, .f32⟩
  | .hbm, ⟨48, _⟩ => ⟨S8448x1, .f32⟩
  | .hbm, ⟨49, _⟩ => ⟨S_, .f32⟩
  | .hbm, ⟨50, _⟩ => ⟨S8448x1, .f32⟩
  | .hbm, ⟨51, _⟩ => ⟨S8448x1, .f32⟩
  | .hbm, ⟨52, _⟩ => ⟨S_, .f32⟩
  | .hbm, ⟨53, _⟩ => ⟨S8448, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S1024, .f32⟩
  | .hbm, ⟨61, _⟩ => ⟨S8448x1024, .f32⟩
  | .hbm, ⟨62, _⟩ => ⟨S_, .f32⟩
  | .hbm, ⟨63, _⟩ => ⟨S8448, .f32⟩
  | .hbm, ⟨64, _⟩ => ⟨S8448x1, .f32⟩
  | .hbm, ⟨65, _⟩ => ⟨S_, .f32⟩
  | .hbm, ⟨66, _⟩ => ⟨S8448x1, .f32⟩
  | .hbm, ⟨67, _⟩ => ⟨S8448x1, .f32⟩
  | .hbm, ⟨68, _⟩ => ⟨S_, .f32⟩
  | .hbm, ⟨69, _⟩ => ⟨S8448x1, .f32⟩
  | .hbm, ⟨70, _⟩ => ⟨S8448x1, .f32⟩
  | .hbm, ⟨71, _⟩ => ⟨S8448x1, .f32⟩
  | .hbm, ⟨72, _⟩ => ⟨S8448x1, .f32⟩
  | .hbm, ⟨73, _⟩ => ⟨S_, .f32⟩
  | .hbm, ⟨74, _⟩ => ⟨S8448x1, .f32⟩
  | .hbm, ⟨75, _⟩ => ⟨S8448x1, .f32⟩
  | .hbm, ⟨76, _⟩ => ⟨S8448x1024, .f32⟩
  | .hbm, ⟨77, _⟩ => ⟨S8448x1024, .f32⟩
  | .hbm, ⟨78, _⟩ => ⟨S1x1024, .f32⟩
  | .hbm, ⟨79, _⟩ => ⟨S8448x1024, .f32⟩
  | .hbm, ⟨80, _⟩ => ⟨S8448x1024, .f32⟩
  | .hbm, ⟨81, _⟩ => ⟨S8448x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8448x1024, .f32⟩
  | .hbm, ⟨86, _⟩ => ⟨S8448x1024, .f32⟩
  | .hbm, ⟨87, _⟩ => ⟨S_, .f32⟩
  | .hbm, ⟨88, _⟩ => ⟨S1024, .f32⟩
  | .hbm, ⟨89, _⟩ => ⟨S8448x1024, .f32⟩
  | .hbm, ⟨90, _⟩ => ⟨S_, .f32⟩
  | .hbm, ⟨91, _⟩ => ⟨S8448, .f32⟩
  | .hbm, ⟨92, _⟩ => ⟨S8448x1, .f32⟩
  | .hbm, ⟨93, _⟩ => ⟨S8448x1024, .f32⟩
  | .hbm, ⟨94, _⟩ => ⟨S8448x1024, .f32⟩
  | .hbm, ⟨95, _⟩ => ⟨S8448x1, .f32⟩
  | .hbm, ⟨96, _⟩ => ⟨S_, .f32⟩
  | .hbm, ⟨97, _⟩ => ⟨S8448x1, .f32⟩
  | .hbm, ⟨98, _⟩ => ⟨S8448x1, .f32⟩
  | .hbm, ⟨99, _⟩ => ⟨S_, .f32⟩
  | .hbm, ⟨100, _⟩ => ⟨S8448, .f32⟩
  | .hbm, ⟨101, _⟩ => ⟨S8448x1024, .f32⟩
  | .hbm, ⟨102, _⟩ => ⟨S8448x1024, .f32⟩
  | .hbm, ⟨103, _⟩ => ⟨S8448x1024, .f32⟩
  | .hbm, ⟨104, _⟩ => ⟨S8448x1024, .f32⟩
  | .hbm, ⟨105, _⟩ => ⟨S8448x1024, .f32⟩
  | .hbm, ⟨106, _⟩ => ⟨S8448x1024, .bf16⟩
  | .hbm, ⟨107, _⟩ => ⟨S1x1024, .f32⟩
  | .hbm, ⟨108, _⟩ => ⟨S1x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Kernel12.lean ====
abbrev S8448x2688 : Shape := ⟨2, ![8448, 2688]⟩
abbrev S1024x2688 : Shape := ⟨2, ![1024, 2688]⟩
abbrev S8448x1024 : Shape := ⟨2, ![8448, 1024]⟩
abbrev S1x1024 : Shape := ⟨2, ![1, 1024]⟩
abbrev S768x2688 : Shape := ⟨2, ![768, 2688]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8448x2688, .bf16⟩
  | .hbm, ⟨1, _⟩ => ⟨S1024x2688, .bf16⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S1x1024, .f32⟩
  | .hbm, ⟨6, _⟩ => ⟨S1x1024, .f32⟩
  | .hbm, ⟨7, _⟩ => ⟨S8448x1024, .f32⟩
  | .hbm, ⟨8, _⟩ => ⟨S8448x1024, .bf16⟩
  | .hbm, ⟨9, _⟩ => ⟨S1x1024, .f32⟩
  | .hbm, ⟨10, _⟩ => ⟨S1x1024, .f32⟩
  | .local _ .vmem, ⟨0, _⟩ => ⟨S768x2688, .bf16⟩
  | .local _ .vmem, ⟨1, _⟩ => ⟨S768x2688, .bf16⟩
  | .local _ .vmem, ⟨2, _⟩ => ⟨S1024x2688, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S1x1024, .f32⟩
  | .local _ .vmem, ⟨10, _⟩ => ⟨S1x1024, .f32⟩
  | .local _ .vmem, ⟨11, _⟩ => ⟨S768x1024, .f32⟩
  | .local _ .vmem, ⟨12, _⟩ => ⟨S768x1024, .f32⟩
  | .local _ .vmem, ⟨13, _⟩ => ⟨S768x1024, .bf16⟩
  | .local _ .vmem, ⟨14, _⟩ => ⟨S768x1024, .bf16⟩
  | .local _ .vmem, ⟨15, _⟩ => ⟨S1x1024, .f32⟩
  | .local _ .vmem, ⟨16, _⟩ => ⟨S1x1024, .f32⟩
  | _, _ => ⟨S8448x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference12Ideal.lean ====
abbrev S8448x2688 : Shape := ⟨2, ![8448, 2688]⟩
abbrev S1024x2688 : Shape := ⟨2, ![1024, 2688]⟩
abbrev S8448x1024 : Shape := ⟨2, ![8448, 1024]⟩
abbrev S1x1024 : Shape := ⟨2, ![1, 1024]⟩
abbrev S_ : Shape := ⟨0, ![]⟩
abbrev S1024 : Shape := ⟨1, ![1024]⟩
abbrev S8448 : Shape := ⟨1, ![8448]⟩
abbrev S8448x1 : Shape := ⟨2, ![8448, 1]⟩

abbrev nBuf : Space → Nat
  | .hbm => 109
  | .vmem => 0
  | .smem => 0
  | _ => 0

abbrev bufTy : (tb : Table) → Fin (tcTables nBuf tb) → BufTy
  | .hbm, ⟨0, _⟩ => ⟨S8448x2688, .bf16⟩
  | .hbm, ⟨1, _⟩ => ⟨S1024x2688, .bf16⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S1x1024, .f32⟩
  | .hbm, ⟨6, _⟩ => ⟨S1x1024, .f32⟩
  | .hbm, ⟨7, _⟩ => ⟨S1024x2688, .f32⟩
  | .hbm, ⟨8, _⟩ => ⟨S8448x2688, .f32⟩
  | .hbm, ⟨9, _⟩ => ⟨S_, .f32⟩
  | .hbm, ⟨10, _⟩ => ⟨S8448x1024, .f32⟩
  | .hbm, ⟨11, _⟩ => ⟨S8448x2688, .f32⟩
  | .hbm, ⟨12, _⟩ => ⟨S8448x1024, .f32⟩
  | .hbm, ⟨13, _⟩ => ⟨S1024, .f32⟩
  | .hbm, ⟨14, _⟩ => ⟨S8448x1024, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1024, .f32⟩
  | .hbm, ⟨30, _⟩ => ⟨S8448x1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8448x1024, .f32⟩
  | .hbm, ⟨39, _⟩ => ⟨S8448x1024, .f32⟩
  | .hbm, ⟨40, _⟩ => ⟨S_, .f32⟩
  | .hbm, ⟨41, _⟩ => ⟨S1024, .f32⟩
  | .hbm, ⟨42, _⟩ => ⟨S8448x1024, .f32⟩
  | .hbm, ⟨43, _⟩ => ⟨S_, .f32⟩
  | .hbm, ⟨44, _⟩ => ⟨S8448, .f32⟩
  | .hbm, ⟨45, _⟩ => ⟨S8448x1, .f32⟩
  | .hbm, ⟨46, _⟩ => ⟨S8448x1024, .f32⟩
  | .hbm, ⟨47, _⟩ => ⟨S8448x1024, .f32⟩
  | .hbm, ⟨48, _⟩ => ⟨S8448x1, .f32⟩
  | .hbm, ⟨49, _⟩ => ⟨S_, .f32⟩
  | .hbm, ⟨50, _⟩ => ⟨S8448x1, .f32⟩
  | .hbm, ⟨51, _⟩ => ⟨S8448x1, .f32⟩
  | .hbm, ⟨52, _⟩ => ⟨S_, .f32⟩
  | .hbm, ⟨53, _⟩ => ⟨S8448, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S1024, .f32⟩
  | .hbm, ⟨61, _⟩ => ⟨S8448x1024, .f32⟩
  | .hbm, ⟨62, _⟩ => ⟨S_, .f32⟩
  | .hbm, ⟨63, _⟩ => ⟨S8448, .f32⟩
  | .hbm, ⟨64, _⟩ => ⟨S8448x1, .f32⟩
  | .hbm, ⟨65, _⟩ => ⟨S_, .f32⟩
  | .hbm, ⟨66, _⟩ => ⟨S8448x1, .f32⟩
  | .hbm, ⟨67, _⟩ => ⟨S8448x1, .f32⟩
  | .hbm, ⟨68, _⟩ => ⟨S_, .f32⟩
  | .hbm, ⟨69, _⟩ => ⟨S8448x1, .f32⟩
  | .hbm, ⟨70, _⟩ => ⟨S8448x1, .f32⟩
  | .hbm, ⟨71, _⟩ => ⟨S8448x1, .f32⟩
  | .hbm, ⟨72, _⟩ => ⟨S8448x1, .f32⟩
  | .hbm, ⟨73, _⟩ => ⟨S_, .f32⟩
  | .hbm, ⟨74, _⟩ => ⟨S8448x1, .f32⟩
  | .hbm, ⟨75, _⟩ => ⟨S8448x1, .f32⟩
  | .hbm, ⟨76, _⟩ => ⟨S8448x1024, .f32⟩
  | .hbm, ⟨77, _⟩ => ⟨S8448x1024, .f32⟩
  | .hbm, ⟨78, _⟩ => ⟨S1x1024, .f32⟩
  | .hbm, ⟨79, _⟩ => ⟨S8448x1024, .f32⟩
  | .hbm, ⟨80, _⟩ => ⟨S8448x1024, .f32⟩
  | .hbm, ⟨81, _⟩ => ⟨S8448x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8448x1024, .f32⟩
  | .hbm, ⟨86, _⟩ => ⟨S8448x1024, .f32⟩
  | .hbm, ⟨87, _⟩ => ⟨S_, .f32⟩
  | .hbm, ⟨88, _⟩ => ⟨S1024, .f32⟩
  | .hbm, ⟨89, _⟩ => ⟨S8448x1024, .f32⟩
  | .hbm, ⟨90, _⟩ => ⟨S_, .f32⟩
  | .hbm, ⟨91, _⟩ => ⟨S8448, .f32⟩
  | .hbm, ⟨92, _⟩ => ⟨S8448x1, .f32⟩
  | .hbm, ⟨93, _⟩ => ⟨S8448x1024, .f32⟩
  | .hbm, ⟨94, _⟩ => ⟨S8448x1024, .f32⟩
  | .hbm, ⟨95, _⟩ => ⟨S8448x1, .f32⟩
  | .hbm, ⟨96, _⟩ => ⟨S_, .f32⟩
  | .hbm, ⟨97, _⟩ => ⟨S8448x1, .f32⟩
  | .hbm, ⟨98, _⟩ => ⟨S8448x1, .f32⟩
  | .hbm, ⟨99, _⟩ => ⟨S_, .f32⟩
  | .hbm, ⟨100, _⟩ => ⟨S8448, .f32⟩
  | .hbm, ⟨101, _⟩ => ⟨S8448x1024, .f32⟩
  | .hbm, ⟨102, _⟩ => ⟨S8448x1024, .f32⟩
  | .hbm, ⟨103, _⟩ => ⟨S8448x1024, .f32⟩
  | .hbm, ⟨104, _⟩ => ⟨S8448x1024, .f32⟩
  | .hbm, ⟨105, _⟩ => ⟨S8448x1024, .f32⟩
  | .hbm, ⟨106, _⟩ => ⟨S8448x1024, .bf16⟩
  | .hbm, ⟨107, _⟩ => ⟨S1x1024, .f32⟩
  | .hbm, ⟨108, _⟩ => ⟨S1x1024, .f32⟩
  | _, _ => ⟨S8448x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Kernel13.lean ====
abbrev S8448x4096 : Shape := ⟨2, ![8448, 4096]⟩
abbrev S4096x1024 : Shape := ⟨2, ![4096, 1024]⟩
abbrev S8448x1024 : Shape := ⟨2, ![8448, 1024]⟩
abbrev S8192x1024 : Shape := ⟨2, ![8192, 1024]⟩
abbrev S1x1024 : Shape := ⟨2, ![1, 1024]⟩
abbrev S_ : Shape := ⟨0, ![]⟩
abbrev S128x1024 : Shape := ⟨2, ![128, 1024]⟩
abbrev S128x128 : Shape := ⟨2, ![128, 128]⟩
abbrev S8192x128 : Shape := ⟨2, ![8192, 128]⟩
abbrev S8448x128 : Shape := ⟨2, ![8448, 128]⟩
abbrev S8x128 : Shape := ⟨2, ![8, 128]⟩
abbrev S768x4096 : Shape := ⟨2, ![768, 4096]⟩
abbrev S768x1024 : Shape := ⟨2, ![768, 1024]⟩
abbrev S768x128 : Shape := ⟨2, ![768, 128]⟩
abbrev S768 : Shape := ⟨1, ![768]⟩
abbrev S768x1 : Shape := ⟨2, ![768, 1]⟩
abbrev S1024 : Shape := ⟨1, ![1024]⟩
abbrev S1x768x1024 : Shape := ⟨3, ![1, 768, 1024]⟩
abbrev S1 : Shape := ⟨1, ![1]⟩
abbrev S1x1x1 : Shape := ⟨3, ![1, 1, 1]⟩

abbrev nBuf : Space → Nat
  | .hbm => 21
  | .vmem => 16
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S8448x1024, .f32⟩
  | .hbm, ⟨10, _⟩ => ⟨S_, .f32⟩
  | .hbm, ⟨11, _⟩ => ⟨S128x128, .f32⟩
  | .hbm, ⟨12, _⟩ => ⟨S_, .f32⟩
  | .hbm, ⟨13, _⟩ => ⟨S8192x128, .f32⟩
  | .hbm, ⟨14, _⟩ => ⟨S_, .f32⟩
  | .hbm, ⟨15, _⟩ => ⟨S128x128, .f32⟩
  | .hbm, ⟨16, _⟩ => ⟨S8448x128, .f32⟩
  | .hbm, ⟨17, _⟩ => ⟨S8448x1024, .f32⟩
  | .hbm, ⟨18, _⟩ => ⟨S8448x1024, .bf16⟩
  | .hbm, ⟨19, _⟩ => ⟨S8x128, .f32⟩
  | .hbm, ⟨20, _⟩ => ⟨S1x1024, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x128, .f32⟩
  | .local _ .vmem, ⟨8, _⟩ => ⟨S768x128, .f32⟩
  | .local _ .vmem, ⟨9, _⟩ => ⟨S1x1024, .f32⟩
  | .local _ .vmem, ⟨10, _⟩ => ⟨S768x1024, .f32⟩
  | .local _ .vmem, ⟨11, _⟩ => ⟨S768x1024, .f32⟩
  | .local _ .vmem, ⟨12, _⟩ => ⟨S768x1024, .bf16⟩
  | .local _ .vmem, ⟨13, _⟩ => ⟨S768x1024, .bf16⟩
  | .local _ .vmem, ⟨14, _⟩ => ⟨S8x128, .f32⟩
  | .local _ .vmem, ⟨15, _⟩ => ⟨S1x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== Reference13Ideal.lean ====
abbrev S8448x4096 : Shape := ⟨2, ![8448, 4096]⟩
abbrev S4096x1024 : Shape := ⟨2, ![4096, 1024]⟩
abbrev S8448x1024 : Shape := ⟨2, ![8448, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S8192 : Shape := ⟨1, ![8192]⟩
abbrev S8x128 : Shape := ⟨2, ![8, 128]⟩

abbrev nBuf : Space → Nat
  | .hbm => 101
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x1024, .f32⟩
  | .hbm, ⟨3, _⟩ => ⟨S8192x1024, .f32⟩
  | .hbm, ⟨4, _⟩ => ⟨S1x1024, .f32⟩
  | .hbm, ⟨5, _⟩ => ⟨S8448x4096, .f32⟩
  | .hbm, ⟨6, _⟩ => ⟨S4096x1024, .f32⟩
  | .hbm, ⟨7, _⟩ => ⟨S8448x1024, .f32⟩
  | .hbm, ⟨8, _⟩ => ⟨S1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8448x1024, .f32⟩
  | .hbm, ⟨52, _⟩ => ⟨S1024, .f32⟩
  | .hbm, ⟨53, _⟩ => ⟨S8448x1024, .f32⟩
  | .hbm, ⟨54, _⟩ => ⟨S_, .f32⟩
  | .hbm, ⟨55, _⟩ => ⟨S8448, .f32⟩
  | .hbm, ⟨56, _⟩ => ⟨S8448x1, .f32⟩
  | .hbm, ⟨57, _⟩ => ⟨S_, .f32⟩
  | .hbm, ⟨58, _⟩ => ⟨S8448x1, .f32⟩
  | .hbm, ⟨59, _⟩ => ⟨S8448x1, .f32⟩
  | .hbm, ⟨60, _⟩ => ⟨S_, .f32⟩
  | .hbm, ⟨61, _⟩ => ⟨S8448x1, .f32⟩
  | .hbm, ⟨62, _⟩ => ⟨S8448x1, .f32⟩
  | .hbm, ⟨63, _⟩ => ⟨S8448x1, .f32⟩
  | .hbm, ⟨64, _⟩ => ⟨S8448x1, .f32⟩
  | .hbm, ⟨65, _⟩ => ⟨S_, .f32⟩
  | .hbm, ⟨66, _⟩ => ⟨S8448x1, .f32⟩
  | .hbm, ⟨67, _⟩ => ⟨S8448x1, .f32⟩
  | .hbm, ⟨68, _⟩ => ⟨S8448x1024, .f32⟩
  | .hbm, ⟨69, _⟩ => ⟨S8448x1024, .f32⟩
  | .hbm, ⟨70, _⟩ => ⟨S1x1024, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8448x1024, .f32⟩
  | .hbm, ⟨78, _⟩ => ⟨S8448x1024, .f32⟩
  | .hbm, ⟨79, _⟩ => ⟨S_, .f32⟩
  | .hbm, ⟨80, _⟩ => ⟨S1024, .f32⟩
  | .hbm, ⟨81, _⟩ => ⟨S8448x1024, .f32⟩
  | .hbm, ⟨82, _⟩ => ⟨S_, .f32⟩
  | .hbm, ⟨83, _⟩ => ⟨S8448, .f32⟩
  | .hbm, ⟨84, _⟩ => ⟨S8448x1, .f32⟩
  | .hbm, ⟨85, _⟩ => ⟨S8448x1024, .f32⟩
  | .hbm, ⟨86, _⟩ => ⟨S8448x1024, .f32⟩
  | .hbm, ⟨87, _⟩ => ⟨S8448x1, .f32⟩
  | .hbm, ⟨88, _⟩ => ⟨S_, .f32⟩
  | .hbm, ⟨89, _⟩ => ⟨S8448x1, .f32⟩
  | .hbm, ⟨90, _⟩ => ⟨S8448x1, .f32⟩
  | .hbm, ⟨91, _⟩ => ⟨S_, .f32⟩
  | .hbm, ⟨92, _⟩ => ⟨S8448, .f32⟩
  | .hbm, ⟨93, _⟩ => ⟨S8448x1024, .f32⟩
  | .hbm, ⟨94, _⟩ => ⟨S8448x1024, .f32⟩
  | .hbm, ⟨95, _⟩ => ⟨S8448x1024, .f32⟩
  | .hbm, ⟨96, _⟩ => ⟨S8448x1024, .f32⟩
  | .hbm, ⟨97, _⟩ => ⟨S8448x1024, .f32⟩
  | .hbm, ⟨98, _⟩ => ⟨S8448x1024, .bf16⟩
  | .hbm, ⟨99, _⟩ => ⟨S8x128, .f32⟩
  | .hbm, ⟨100, _⟩ => ⟨S1x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel14.lean ====
abbrev S8448x2688 : Shape := ⟨2, ![8448, 2688]⟩
abbrev S1024x2688 : Shape := ⟨2, ![1024, 2688]⟩
abbrev S8448x1024 : Shape := ⟨2, ![8448, 1024]⟩
abbrev S1x1024 : Shape := ⟨2, ![1, 1024]⟩
abbrev S768x2688 : Shape := ⟨2, ![768, 2688]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8448x2688, .bf16⟩
  | .hbm, ⟨1, _⟩ => ⟨S1024x2688, .bf16⟩
  | .hbm, ⟨2, _⟩ => ⟨S8448x1024, .f32⟩
  | .hbm, ⟨3, _⟩ => ⟨S8448x1024, .f32⟩
  | .hbm, ⟨4, _⟩ => ⟨S1x1024, .f32⟩
  | .hbm, ⟨5, _⟩ => ⟨S8448x1024, .f32⟩
  | .hbm, ⟨6, _⟩ => ⟨S1x1024, .f32⟩
  | .local _ .vmem, ⟨0, _⟩ => ⟨S768x2688, .bf16⟩
  | .local _ .vmem, ⟨1, _⟩ => ⟨S768x2688, .bf16⟩
  | .local _ .vmem, ⟨2, _⟩ => ⟨S1024x2688, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S1x1024, .f32⟩
  | .local _ .vmem, ⟨8, _⟩ => ⟨S768x1024, .f32⟩
  | .local _ .vmem, ⟨9, _⟩ => ⟨S768x1024, .f32⟩
  | .local _ .vmem, ⟨10, _⟩ => ⟨S1x1024, .f32⟩
  | _, _ => ⟨S8448x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference14Ideal.lean ====
abbrev S8448x2688 : Shape := ⟨2, ![8448, 2688]⟩
abbrev S1024x2688 : Shape := ⟨2, ![1024, 2688]⟩
abbrev S8448x1024 : Shape := ⟨2, ![8448, 1024]⟩
abbrev S1x1024 : Shape := ⟨2, ![1, 1024]⟩
abbrev S_ : Shape := ⟨0, ![]⟩
abbrev S1024 : Shape := ⟨1, ![1024]⟩
abbrev S8448 : Shape := ⟨1, ![8448]⟩
abbrev S8448x1 : Shape := ⟨2, ![8448, 1]⟩

abbrev nBuf : Space → Nat
  | .hbm => 59
  | .vmem => 0
  | .smem => 0
  | _ => 0

abbrev bufTy : (tb : Table) → Fin (tcTables nBuf tb) → BufTy
  | .hbm, ⟨0, _⟩ => ⟨S8448x2688, .bf16⟩
  | .hbm, ⟨1, _⟩ => ⟨S1024x2688, .bf16⟩
  | .hbm, ⟨2, _⟩ => ⟨S8448x1024, .f32⟩
  | .hbm, ⟨3, _⟩ => ⟨S8448x1024, .f32⟩
  | .hbm, ⟨4, _⟩ => ⟨S1x1024, .f32⟩
  | .hbm, ⟨5, _⟩ => ⟨S1024x2688, .f32⟩
  | .hbm, ⟨6, _⟩ => ⟨S8448x2688, .f32⟩
  | .hbm, ⟨7, _⟩ => ⟨S_, .f32⟩
  | .hbm, ⟨8, _⟩ => ⟨S8448x1024, .f32⟩
  | .hbm, ⟨9, _⟩ => ⟨S8448x2688, .f32⟩
  | .hbm, ⟨10, _⟩ => ⟨S8448x1024, .f32⟩
  | .hbm, ⟨11, _⟩ => ⟨S1024, .f32⟩
  | .hbm, ⟨12, _⟩ => ⟨S8448x1024, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448x1024, .f32⟩
  | .hbm, ⟨28, _⟩ => ⟨S8448x1024, .f32⟩
  | .hbm, ⟨29, _⟩ => ⟨S1x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S1024, .f32⟩
  | .hbm, ⟨40, _⟩ => ⟨S8448x1024, .f32⟩
  | .hbm, ⟨41, _⟩ => ⟨S_, .f32⟩
  | .hbm, ⟨42, _⟩ => ⟨S8448, .f32⟩
  | .hbm, ⟨43, _⟩ => ⟨S8448x1, .f32⟩
  | .hbm, ⟨44, _⟩ => ⟨S8448x1024, .f32⟩
  | .hbm, ⟨45, _⟩ => ⟨S8448x1024, .f32⟩
  | .hbm, ⟨46, _⟩ => ⟨S8448x1, .f32⟩
  | .hbm, ⟨47, _⟩ => ⟨S_, .f32⟩
  | .hbm, ⟨48, _⟩ => ⟨S8448x1, .f32⟩
  | .hbm, ⟨49, _⟩ => ⟨S8448x1, .f32⟩
  | .hbm, ⟨50, _⟩ => ⟨S_, .f32⟩
  | .hbm, ⟨51, _⟩ => ⟨S8448, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S1x1024, .f32⟩
  | _, _ => ⟨S8448x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel15.lean ====
abbrev S8448x1024 : Shape := ⟨2, ![8448, 1024]⟩
abbrev S1024x1024 : Shape := ⟨2, ![1024, 1024]⟩
abbrev S8448x512 : Shape := ⟨2, ![8448, 512]⟩
abbrev S1x512 : Shape := ⟨2, ![1, 512]⟩
abbrev S768x1024 : Shape := ⟨2, ![768, 1024]⟩
abbrev S768x512 : Shape := ⟨2, ![768, 512]⟩
abbrev S768x128 : Shape := ⟨2, ![768, 128]⟩
abbrev S768 : Shape := ⟨1, ![768]⟩
abbrev S768x1 : Shape := ⟨2, ![768, 1]⟩
abbrev S1x128 : Shape := ⟨2, ![1, 128]⟩
abbrev S128 : Shape := ⟨1, ![128]⟩

abbrev nBuf : Space → Nat
  | .hbm => 14
  | .vmem => 25
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x512, .f32⟩
  | .hbm, ⟨3, _⟩ => ⟨S8448x512, .f32⟩
  | .hbm, ⟨4, _⟩ => ⟨S8448x1024, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S1x512, .f32⟩
  | .hbm, ⟨9, _⟩ => ⟨S8448x512, .f32⟩
  | .hbm, ⟨10, _⟩ => ⟨S8448x512, .f32⟩
  | .hbm, ⟨11, _⟩ => ⟨S8448x512, .f32⟩
  | .hbm, ⟨12, _⟩ => ⟨S8448x512, .f32⟩
  | .hbm, ⟨13, _⟩ => ⟨S1x512, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x1024, .f32⟩
  | .local _ .vmem, ⟨8, _⟩ => ⟨S768x1024, .f32⟩
  | .local _ .vmem, ⟨9, _⟩ => ⟨S768x512, .f32⟩
  | .local _ .vmem, ⟨10, _⟩ => ⟨S768x512, .f32⟩
  | .local _ .vmem, ⟨11, _⟩ => ⟨S768x512, .f32⟩
  | .local _ .vmem, ⟨12, _⟩ => ⟨S768x512, .f32⟩
  | .local _ .vmem, ⟨13, _⟩ => ⟨S768x512, .f32⟩
  | .local _ .vmem, ⟨14, _⟩ => ⟨S768x512, .f32⟩
  | .local _ .vmem, ⟨15, _⟩ => ⟨S1x512, .f32⟩
  | .local _ .vmem, ⟨16, _⟩ => ⟨S768x512, .f32⟩
  | .local _ .vmem, ⟨17, _⟩ => ⟨S768x512, .f32⟩
  | .local _ .vmem, ⟨18, _⟩ => ⟨S768x512, .f32⟩
  | .local _ .vmem, ⟨19, _⟩ => ⟨S768x512, .f32⟩
  | .local _ .vmem, ⟨20, _⟩ => ⟨S768x512, .f32⟩
  | .local _ .vmem, ⟨21, _⟩ => ⟨S768x512, .f32⟩
  | .local _ .vmem, ⟨22, _⟩ => ⟨S768x512, .f32⟩
  | .local _ .vmem, ⟨23, _⟩ => ⟨S768x512, .f32⟩
  | .local _ .vmem, ⟨24, _⟩ => ⟨S1x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S768x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S768x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S768x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]
-- ==== Kernel15Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference15Ideal.lean ====
abbrev S8448x1024 : Shape := ⟨2, ![8448, 1024]⟩
abbrev S1024x1024 : Shape := ⟨2, ![1024, 1024]⟩
abbrev S8448x512 : Shape := ⟨2, ![8448, 512]⟩
abbrev S1x512 : Shape := ⟨2, ![1, 512]⟩
abbrev S_ : Shape := ⟨0, ![]⟩
abbrev S512 : Shape := ⟨1, ![512]⟩
abbrev S8448x4x128 : Shape := ⟨3, ![8448, 4, 128]⟩
abbrev S8448x4 : Shape := ⟨2, ![8448, 4]⟩
abbrev S8448x4x1 : Shape := ⟨3, ![8448, 4, 1]⟩

abbrev nBuf : Space → Nat
  | .hbm => 139
  | .vmem => 0
  | .smem => 0
  | _ => 0

abbrev hbmTy0_0 (i : Nat) : BufTy := match i % 128 with
  | 0 => ⟨S8448x1024, .bf16⟩
  | 1 => ⟨S1024x1024, .bf16⟩
  | 2 => ⟨S8448x512, .f32⟩
  | 3 => ⟨S8448x512, .f32⟩
  | 4 => ⟨S8448x1024, .f32⟩
  | 5 => ⟨S8448x512, .f32⟩
  | 6 => ⟨S8448x512, .f32⟩
  | 7 => ⟨S8448x512, .f32⟩
  | 8 => ⟨S1x512, .f32⟩
  | 9 => ⟨S1024x1024, .f32⟩
  | 10 => ⟨S8448x1024, .f32⟩
  | 11 => ⟨S_, .f32⟩
  | 12 => ⟨S8448x1024, .f32⟩
  | 13 => ⟨S8448x1024, .f32⟩
  | 14 => ⟨S8448x1024, .f32⟩
  | 15 => ⟨S8448x512, .f32⟩
  | 16 => ⟨S8448x512, .f32⟩
  | 17 => ⟨S8448x512, .f32⟩
  | 18 => ⟨S512, .f32⟩
  | 19 => ⟨S_, .f32⟩
  | 20 => ⟨S_, .f32⟩
  | 21 => ⟨S_, .f32⟩
  | 22 => ⟨S_, .f32⟩
  | 23 => ⟨S8448x512, .f32⟩
  | 24 => ⟨S8448x512, .f32⟩
  | 25 => ⟨S8448x512, .f32⟩
  | 26 => ⟨S8448x512, .f32⟩
  | 27 => ⟨S8448x512, .f32⟩
  | 28 => ⟨S_, .f32⟩
  | 29 => ⟨S8448x512, .f32⟩
  | 30 => ⟨S8448x512, .f32⟩
  | 31 => ⟨S8448x512, .f32⟩
  | 32 => ⟨S8448x512, .f32⟩
  | 33 => ⟨S8448x512, .f32⟩
  | 34 => ⟨S_, .f32⟩
  | 35 => ⟨S8448x512, .f32⟩
  | 36 => ⟨S8448x512, .f32⟩
  | 37 => ⟨S8448x512, .f32⟩
  | 38 => ⟨S_, .f32⟩
  | 39 => ⟨S8448x512, .f32⟩
  | 40 => ⟨S8448x512, .f32⟩
  | 41 => ⟨S_, .f32⟩
  | 42 => ⟨S8448x512, .f32⟩
  | 43 => ⟨S8448x512, .f32⟩
  | 44 => ⟨S8448x512, .f32⟩
  | 45 => ⟨S_, .f32⟩
  | 46 => ⟨S8448x512, .f32⟩
  | 47 => ⟨S8448x512, .f32⟩
  | 48 => ⟨S8448x512, .f32⟩
  | 49 => ⟨S8448x512, .f32⟩
  | 50 => ⟨S8448x4x128, .f32⟩
  | 51 => ⟨S8448x4x128, .f32⟩
  | 52 => ⟨S_, .f32⟩
  | 53 => ⟨S8448x4, .f32⟩
  | 54 => ⟨S8448x4x1, .f32⟩
  | 55 => ⟨S_, .f32⟩
  | 56 => ⟨S8448x4x1, .f32⟩
  | 57 => ⟨S8448x4x1, .f32⟩
  | 58 => ⟨S_, .f32⟩
  | 59 => ⟨S8448x4x1, .f32⟩
  | 60 => ⟨S8448x4x1, .f32⟩
  | 61 => ⟨S8448x4x1, .f32⟩
  | 62 => ⟨S8448x4x1, .f32⟩
  | 63 => ⟨S_, .f32⟩
  | 64 => ⟨S8448x4x1, .f32⟩
  | 65 => ⟨S8448x4x1, .f32⟩
  | 66 => ⟨S8448x4x128, .f32⟩
  | 67 => ⟨S8448x4x128, .f32⟩
  | 68 => ⟨S8448x512, .f32⟩
  | 69 => ⟨S1x512, .f32⟩
  | 70 => ⟨S8448x512, .f32⟩
  | 71 => ⟨S8448x512, .f32⟩
  | 72 => ⟨S8448x512, .f32⟩
  | 73 => ⟨S8448x512, .f32⟩
  | 74 => ⟨S_, .f32⟩
  | 75 => ⟨S8448x512, .f32⟩
  | 76 => ⟨S8448x512, .f32⟩
  | 77 => ⟨S_, .f32⟩
  | 78 => ⟨S8448x512, .f32⟩
  | 79 => ⟨S8448x512, .f32⟩
  | 80 => ⟨S_, .f32⟩
  | 81 => ⟨S8448x512, .f32⟩
  | 82 => ⟨S8448x512, .f32⟩
  | 83 => ⟨S8448x512, .f32⟩
  | 84 => ⟨S8448x512, .f32⟩
  | 85 => ⟨S8448x512, .f32⟩
  | 86 => ⟨S8448x1024, .f32⟩
  | 87 => ⟨S8448x512, .f32⟩
  | 88 => ⟨S8448x512, .f32⟩
  | 89 => ⟨S8448x512, .f32⟩
  | 90 => ⟨S8448x512, .f32⟩
  | 91 => ⟨S8448x512, .f32⟩
  | 92 => ⟨S8448x512, .f32⟩
  | 93 => ⟨S8448x512, .f32⟩
  | 94 => ⟨S8448x512, .f32⟩
  | 95 => ⟨S8448x512, .f32⟩
  | 96 => ⟨S_, .f32⟩
  | 97 => ⟨S512, .f32⟩
  | 98 => ⟨S1x512, .f32⟩
  | 99 => ⟨S8448x512, .f32⟩
  | 100 => ⟨S8448x512, .f32⟩
  | 101 => ⟨S_, .f32⟩
  | 102 => ⟨S512, .f32⟩
  | 103 => ⟨S8448x4x128, .f32⟩
  | 104 => ⟨S8448x4x128, .f32⟩
  | 105 => ⟨S_, .f32⟩
  | 106 => ⟨S8448x4, .f32⟩
  | 107 => ⟨S8448x4x1, .f32⟩
  | 108 => ⟨S8448x4x128, .f32⟩
  | 109 => ⟨S8448x4x128, .f32⟩
  | 110 => ⟨S8448x4x1, .f32⟩
  | 111 => ⟨S_, .f32⟩
  | 112 => ⟨S8448x4x1, .f32⟩
  | 113 => ⟨S8448x4x1, .f32⟩
  | 114 => ⟨S_, .f32⟩
  | 115 => ⟨S8448x4, .f32⟩
  | 116 => ⟨S8448x4x128, .f32⟩
  | 117 => ⟨S8448x4x128, .f32⟩
  | 118 => ⟨S8448x4x128, .f32⟩
  | 119 => ⟨S8448x4x128, .f32⟩
  | 120 => ⟨S8448x4x128, .f32⟩
  | 121 => ⟨S8448x512, .f32⟩
  | 122 => ⟨S8448x512, .f32⟩
  | 123 => ⟨S8448x512, .f32⟩
  | 124 => ⟨S8448x512, .f32⟩
  | 125 => ⟨S8448x512, .f32⟩
  | 126 => ⟨S8448x512, .f32⟩
  | 127 => ⟨S_, .f32⟩
  | _ => ⟨S8448x1024, .bf16⟩

abbrev hbmTy0_1 (i : Nat) : BufTy := match i % 128 with
  | 0 => ⟨S8448x512, .f32⟩
  | 1 => ⟨S8448x512, .f32⟩
  | 2 => ⟨S8448x512, .f32⟩
  | 3 => ⟨S8448x512, .f32⟩
  | 4 => ⟨S8448x512, .f32⟩
  | 5 => ⟨S8448x512, .f32⟩
  | 6 => ⟨S_, .f32⟩
  | 7 => ⟨S8448x512, .f32⟩
  | 8 => ⟨S8448x512, .f32⟩
  | 9 => ⟨S8448x512, .f32⟩
  | 10 => ⟨S1x512, .f32⟩
  | _ => ⟨S8448x1024, .bf16⟩

abbrev hbmTy (i : Nat) : BufTy := match i / 128 with
  | 0 => hbmTy0_0 i
  | 1 => hbmTy0_1 i
  | _ => ⟨S8448x1024, .bf16⟩

abbrev bufTy : (tb : Table) → Fin (tcTables nBuf tb) → BufTy
  | .hbm, ⟨i, _⟩ => hbmTy i
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== Kernel16.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel16Ideal.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S2x1024x648 : Shape := ⟨3, ![2, 1024, 648]⟩
abbrev S1024x648 : Shape := ⟨2, ![1024, 648]⟩
abbrev S1x256x648 : Shape := ⟨3, ![1, 256, 648]⟩
abbrev S256x648 : Shape := ⟨2, ![256, 648]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x648, .f32⟩
  | .hbm, ⟨1, _⟩ => ⟨S2x1024x648, .f32⟩
  | .hbm, ⟨2, _⟩ => ⟨S2x1024x648, .f32⟩
  | .hbm, ⟨3, _⟩ => ⟨S1024x648, .f32⟩
  | .hbm, ⟨4, _⟩ => ⟨S1024x648, .f32⟩
  | .hbm, ⟨5, _⟩ => ⟨S2x1024x648, .f32⟩
  | .hbm, ⟨6, _⟩ => ⟨S2x1024x648, .f32⟩
  | .hbm, ⟨7, _⟩ => ⟨S2x1024x648, .f32⟩
  | .hbm, ⟨8, _⟩ => ⟨S2x1024x648, .f32⟩
  | .local _ .vmem, ⟨0, _⟩ => ⟨S1x256x648, .f32⟩
  | .local _ .vmem, ⟨1, _⟩ => ⟨S1x256x648, .f32⟩
  | .local _ .vmem, ⟨2, _⟩ => ⟨S1x256x648, .f32⟩
  | .local _ .vmem, ⟨3, _⟩ => ⟨S1x256x648, .f32⟩
  | .local _ .vmem, ⟨4, _⟩ => ⟨S1x256x648, .f32⟩
  | .local _ .vmem, ⟨5, _⟩ => ⟨S1x256x648, .f32⟩
  | .local _ .vmem, ⟨6, _⟩ => ⟨S256x648, .f32⟩
  | .local _ .vmem, ⟨7, _⟩ => ⟨S256x648, .f32⟩
  | .local _ .vmem, ⟨8, _⟩ => ⟨S256x648, .f32⟩
  | .local _ .vmem, ⟨9, _⟩ => ⟨S256x648, .f32⟩
  | .local _ .vmem, ⟨10, _⟩ => ⟨S1x256x648, .f32⟩
  | .local _ .vmem, ⟨11, _⟩ => ⟨S1x256x648, .f32⟩
  | .local _ .vmem, ⟨12, _⟩ => ⟨S1x256x648, .f32⟩
  | .local _ .vmem, ⟨13, _⟩ => ⟨S1x256x648, .f32⟩
  | .local _ .vmem, ⟨14, _⟩ => ⟨S1x256x648, .f32⟩
  | .local _ .vmem, ⟨15, _⟩ => ⟨S1x256x648, .f32⟩
  | .local _ .vmem, ⟨16, _⟩ => ⟨S1x256x648, .f32⟩
  | .local _ .vmem, ⟨17, _⟩ => ⟨S1x256x648, .f32⟩
  | _, _ => ⟨S2x1024x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x648 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel17Ideal.lean ====
abbrev S2x1024x648 : Shape := ⟨3, ![2, 1024, 648]⟩
abbrev S1024x648 : Shape := ⟨2, ![1024, 648]⟩
abbrev S1x256x648 : Shape := ⟨3, ![1, 256, 648]⟩
abbrev S256x648 : Shape := ⟨2, ![256, 648]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x648, .f32⟩
  | .hbm, ⟨1, _⟩ => ⟨S2x1024x648, .f32⟩
  | .hbm, ⟨2, _⟩ => ⟨S2x1024x648, .f32⟩
  | .hbm, ⟨3, _⟩ => ⟨S1024x648, .f32⟩
  | .hbm, ⟨4, _⟩ => ⟨S1024x648, .f32⟩
  | .hbm, ⟨5, _⟩ => ⟨S2x1024x648, .f32⟩
  | .hbm, ⟨6, _⟩ => ⟨S2x1024x648, .f32⟩
  | .hbm, ⟨7, _⟩ => ⟨S2x1024x648, .f32⟩
  | .hbm, ⟨8, _⟩ => ⟨S2x1024x648, .f32⟩
  | .local _ .vmem, ⟨0, _⟩ => ⟨S1x256x648, .f32⟩
  | .local _ .vmem, ⟨1, _⟩ => ⟨S1x256x648, .f32⟩
  | .local _ .vmem, ⟨2, _⟩ => ⟨S1x256x648, .f32⟩
  | .local _ .vmem, ⟨3, _⟩ => ⟨S1x256x648, .f32⟩
  | .local _ .vmem, ⟨4, _⟩ => ⟨S1x256x648, .f32⟩
  | .local _ .vmem, ⟨5, _⟩ => ⟨S1x256x648, .f32⟩
  | .local _ .vmem, ⟨6, _⟩ => ⟨S256x648, .f32⟩
  | .local _ .vmem, ⟨7, _⟩ => ⟨S256x648, .f32⟩
  | .local _ .vmem, ⟨8, _⟩ => ⟨S256x648, .f32⟩
  | .local _ .vmem, ⟨9, _⟩ => ⟨S256x648, .f32⟩
  | .local _ .vmem, ⟨10, _⟩ => ⟨S1x256x648, .f32⟩
  | .local _ .vmem, ⟨11, _⟩ => ⟨S1x256x648, .f32⟩
  | .local _ .vmem, ⟨12, _⟩ => ⟨S1x256x648, .f32⟩
  | .local _ .vmem, ⟨13, _⟩ => ⟨S1x256x648, .f32⟩
  | .local _ .vmem, ⟨14, _⟩ => ⟨S1x256x648, .f32⟩
  | .local _ .vmem, ⟨15, _⟩ => ⟨S1x256x648, .f32⟩
  | .local _ .vmem, ⟨16, _⟩ => ⟨S1x256x648, .f32⟩
  | .local _ .vmem, ⟨17, _⟩ => ⟨S1x256x648, .f32⟩
  | _, _ => ⟨S2x1024x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x648 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S2x1024x648 : Shape := ⟨3, ![2, 1024, 648]⟩
abbrev S1024x648 : Shape := ⟨2, ![1024, 648]⟩
abbrev S1x1024x648 : Shape := ⟨3, ![1, 1024, 648]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x648, .f32⟩
  | .hbm, ⟨1, _⟩ => ⟨S2x1024x648, .f32⟩
  | .hbm, ⟨2, _⟩ => ⟨S2x1024x648, .f32⟩
  | .hbm, ⟨3, _⟩ => ⟨S1024x648, .f32⟩
  | .hbm, ⟨4, _⟩ => ⟨S1024x648, .f32⟩
  | .hbm, ⟨5, _⟩ => ⟨S1x1024x648, .f32⟩
  | .hbm, ⟨6, _⟩ => ⟨S1x1024x648, .f32⟩
  | .hbm, ⟨7, _⟩ => ⟨S2x1024x648, .f32⟩
  | .hbm, ⟨8, _⟩ => ⟨S_, .f32⟩
  | .hbm, ⟨9, _⟩ => ⟨S2x1024x648, .f32⟩
  | .hbm, ⟨10, _⟩ => ⟨S2x1024x648, .f32⟩
  | .hbm, ⟨11, _⟩ => ⟨S_, .f32⟩
  | .hbm, ⟨12, _⟩ => ⟨S2x1024x648, .f32⟩
  | .hbm, ⟨13, _⟩ => ⟨S2x1024x648, .f32⟩
  | .hbm, ⟨14, _⟩ => ⟨S2x1024x648, .f32⟩
  | .hbm, ⟨15, _⟩ => ⟨S_, .f32⟩
  | .hbm, ⟨16, _⟩ => ⟨S2x1024x648, .f32⟩
  | .hbm, ⟨17, _⟩ => ⟨S2x1024x648, .f32⟩
  | .hbm, ⟨18, _⟩ => ⟨S2x1024x648, .f32⟩
  | .hbm, ⟨19, _⟩ => ⟨S_, .f32⟩
  | .hbm, ⟨20, _⟩ => ⟨S2x1024x648, .f32⟩
  | .hbm, ⟨21, _⟩ => ⟨S2x1024x648, .f32⟩
  | .hbm, ⟨22, _⟩ => ⟨S2x1024x648, .f32⟩
  | .hbm, ⟨23, _⟩ => ⟨S_, .f32⟩
  | .hbm, ⟨24, _⟩ => ⟨S2x1024x648, .f32⟩
  | .hbm, ⟨25, _⟩ => ⟨S2x1024x648, .f32⟩
  | .hbm, ⟨26, _⟩ => ⟨S_, .f32⟩
  | .hbm, ⟨27, _⟩ => ⟨S2x1024x648, .f32⟩
  | .hbm, ⟨28, _⟩ => ⟨S2x1024x648, .f32⟩
  | .hbm, ⟨29, _⟩ => ⟨S2x1024x648, .f32⟩
  | .hbm, ⟨30, _⟩ => ⟨S_, .f32⟩
  | .hbm, ⟨31, _⟩ => ⟨S2x1024x648, .f32⟩
  | .hbm, ⟨32, _⟩ => ⟨S2x1024x648, .f32⟩
  | .hbm, ⟨33, _⟩ => ⟨S2x1024x648, .f32⟩
  | .hbm, ⟨34, _⟩ => ⟨S_, .f32⟩
  | .hbm, ⟨35, _⟩ => ⟨S2x1024x648, .f32⟩
  | .hbm, ⟨36, _⟩ => ⟨S2x1024x648, .f32⟩
  | .hbm, ⟨37, _⟩ => ⟨S2x1024x648, .f32⟩
  | .hbm, ⟨38, _⟩ => ⟨S_, .f32⟩
  | .hbm, ⟨39, _⟩ => ⟨S2x1024x648, .f32⟩
  | .hbm, ⟨40, _⟩ => ⟨S2x1024x648, .f32⟩
  | _, _ => ⟨S2x1024x648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S8448x512 : Shape := ⟨2, ![8448, 512]⟩
abbrev S8448x1024 : Shape := ⟨2, ![8448, 1024]⟩
abbrev S1x512 : Shape := ⟨2, ![1, 512]⟩
abbrev S384x512 : Shape := ⟨2, ![384, 512]⟩
abbrev S384x1024 : Shape := ⟨2, ![384, 1024]⟩
abbrev S384x128 : Shape := ⟨2, ![384, 128]⟩
abbrev S384 : Shape := ⟨1, ![384]⟩
abbrev S384x1 : Shape := ⟨2, ![384, 1]⟩
abbrev S1x128 : Shape := ⟨2, ![1, 128]⟩

abbrev nBuf : Space → Nat
  | .hbm => 8
  | .vmem => 15
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x1024, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S1x512, .f32⟩
  | .hbm, ⟨7, _⟩ => ⟨S8448x1024, .bf16⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S1x512, .f32⟩
  | .local _ .vmem, ⟨13, _⟩ => ⟨S384x1024, .bf16⟩
  | .local _ .vmem, ⟨14, _⟩ => ⟨S384x1024, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
variable {F : FTy → Type} [FloatOps F] [Named F]
def κ : String → Option EReal := fun
  | "gelu_a" => some ((8943 / 200000 : ℝ) : EReal)
  | _ => none
-- ==== Reference19Ideal.lean ====
abbrev S8448x512 : Shape := ⟨2, ![8448, 512]⟩
abbrev S8448x1024 : Shape := ⟨2, ![8448, 1024]⟩
abbrev S1x512 : Shape := ⟨2, ![1, 512]⟩
abbrev S512 : Shape := ⟨1, ![512]⟩
abbrev S_ : Shape := ⟨0, ![]⟩
abbrev S8448x4x128 : Shape := ⟨3, ![8448, 4, 128]⟩
abbrev S8448x4 : Shape := ⟨2, ![8448, 4]⟩
abbrev S8448x4x1 : Shape := ⟨3, ![8448, 4, 1]⟩

abbrev nBuf : Space → Nat
  | .hbm => 61
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x1024, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S1x512, .f32⟩
  | .hbm, ⟨7, _⟩ => ⟨S8448x512, .f32⟩
  | .hbm, ⟨8, _⟩ => ⟨S8448x512, .f32⟩
  | .hbm, ⟨9, _⟩ => ⟨S8448x512, .f32⟩
  | .hbm, ⟨10, _⟩ => ⟨S512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8448x512, .f32⟩
  | .hbm, ⟨16, _⟩ => ⟨S8448x512, .f32⟩
  | .hbm, ⟨17, _⟩ => ⟨S8448x512, .f32⟩
  | .hbm, ⟨18, _⟩ => ⟨S8448x512, .f32⟩
  | .hbm, ⟨19, _⟩ => ⟨S8448x512, .f32⟩
  | .hbm, ⟨20, _⟩ => ⟨S8448x512, .f32⟩
  | .hbm, ⟨21, _⟩ => ⟨S8448x512, .f32⟩
  | .hbm, ⟨22, _⟩ => ⟨S_, .f32⟩
  | .hbm, ⟨23, _⟩ => ⟨S8448x512, .f32⟩
  | .hbm, ⟨24, _⟩ => ⟨S8448x512, .f32⟩
  | .hbm, ⟨25, _⟩ => ⟨S8448x512, .f32⟩
  | .hbm, ⟨26, _⟩ => ⟨S_, .f32⟩
  | .hbm, ⟨27, _⟩ => ⟨S8448x512, .f32⟩
  | .hbm, ⟨28, _⟩ => ⟨S8448x512, .f32⟩
  | .hbm, ⟨29, _⟩ => ⟨S8448x512, .f32⟩
  | .hbm, ⟨30, _⟩ => ⟨S8448x512, .f32⟩
  | .hbm, ⟨31, _⟩ => ⟨S8448x4x128, .f32⟩
  | .hbm, ⟨32, _⟩ => ⟨S8448x4x128, .f32⟩
  | .hbm, ⟨33, _⟩ => ⟨S_, .f32⟩
  | .hbm, ⟨34, _⟩ => ⟨S8448x4, .f32⟩
  | .hbm, ⟨35, _⟩ => ⟨S8448x4x1, .f32⟩
  | .hbm, ⟨36, _⟩ => ⟨S_, .f32⟩
  | .hbm, ⟨37, _⟩ => ⟨S8448x4x1, .f32⟩
  | .hbm, ⟨38, _⟩ => ⟨S8448x4x1, .f32⟩
  | .hbm, ⟨39, _⟩ => ⟨S_, .f32⟩
  | .hbm, ⟨40, _⟩ => ⟨S8448x4x1, .f32⟩
  | .hbm, ⟨41, _⟩ => ⟨S8448x4x1, .f32⟩
  | .hbm, ⟨42, _⟩ => ⟨S8448x4x1, .f32⟩
  | .hbm, ⟨43, _⟩ => ⟨S8448x4x128, .f32⟩
  | .hbm, ⟨44, _⟩ => ⟨S8448x4x128, .f32⟩
  | .hbm, ⟨45, _⟩ => ⟨S8448x512, .f32⟩
  | .hbm, ⟨46, _⟩ => ⟨S1x512, .f32⟩
  | .hbm, ⟨47, _⟩ => ⟨S8448x512, .f32⟩
  | .hbm, ⟨48, _⟩ => ⟨S8448x512, .f32⟩
  | .hbm, ⟨49, _⟩ => ⟨S8448x512, .f32⟩
  | .hbm, ⟨50, _⟩ => ⟨S8448x512, .f32⟩
  | .hbm, ⟨51, _⟩ => ⟨S_, .f32⟩
  | .hbm, ⟨52, _⟩ => ⟨S8448x512, .f32⟩
  | .hbm, ⟨53, _⟩ => ⟨S8448x512, .f32⟩
  | .hbm, ⟨54, _⟩ => ⟨S_, .f32⟩
  | .hbm, ⟨55, _⟩ => ⟨S8448x512, .f32⟩
  | .hbm, ⟨56, _⟩ => ⟨S8448x512, .f32⟩
  | .hbm, ⟨57, _⟩ => ⟨S8448x512, .f32⟩
  | .hbm, ⟨58, _⟩ => ⟨S8448x512, .f32⟩
  | .hbm, ⟨59, _⟩ => ⟨S8448x1024, .f32⟩
  | .hbm, ⟨60, _⟩ => ⟨S8448x1024, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel20.lean ====
abbrev S8448x512 : Shape := ⟨2, ![8448, 512]⟩
abbrev S8448x256 : Shape := ⟨2, ![8448, 256]⟩
abbrev S8448x128 : Shape := ⟨2, ![8448, 128]⟩
abbrev S128x512 : Shape := ⟨2, ![128, 512]⟩
abbrev S8448x2688 : Shape := ⟨2, ![8448, 2688]⟩
abbrev S1x512 : Shape := ⟨2, ![1, 512]⟩
abbrev S384x512 : Shape := ⟨2, ![384, 512]⟩
abbrev S384x256 : Shape := ⟨2, ![384, 256]⟩
abbrev S384x128 : Shape := ⟨2, ![384, 128]⟩
abbrev S384x2688 : Shape := ⟨2, ![384, 2688]⟩
abbrev S512 : Shape := ⟨1, ![512]⟩

abbrev nBuf : Space → Nat
  | .hbm => 16
  | .vmem => 29
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x256, .f32⟩
  | .hbm, ⟨3, _⟩ => ⟨S8448x256, .f32⟩
  | .hbm, ⟨4, _⟩ => ⟨S8448x512, .f32⟩
  | .hbm, ⟨5, _⟩ => ⟨S8448x256, .f32⟩
  | .hbm, ⟨6, _⟩ => ⟨S8448x256, .f32⟩
  | .hbm, ⟨7, _⟩ => ⟨S8448x256, .f32⟩
  | .hbm, ⟨8, _⟩ => ⟨S8448x512, .f32⟩
  | .hbm, ⟨9, _⟩ => ⟨S8448x256, .f32⟩
  | .hbm, ⟨10, _⟩ => ⟨S8448x512, .f32⟩
  | .hbm, ⟨11, _⟩ => ⟨S8448x128, .f32⟩
  | .hbm, ⟨12, _⟩ => ⟨S128x512, .bf16⟩
  | .hbm, ⟨13, _⟩ => ⟨S8448x2688, .bf16⟩
  | .hbm, ⟨14, _⟩ => ⟨S128x512, .f32⟩
  | .hbm, ⟨15, _⟩ => ⟨S1x512, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x256, .f32⟩
  | .local _ .vmem, ⟨5, _⟩ => ⟨S384x256, .f32⟩
  | .local _ .vmem, ⟨6, _⟩ => ⟨S384x256, .f32⟩
  | .local _ .vmem, ⟨7, _⟩ => ⟨S384x256, .f32⟩
  | .local _ .vmem, ⟨8, _⟩ => ⟨S384x256, .f32⟩
  | .local _ .vmem, ⟨9, _⟩ => ⟨S384x256, .f32⟩
  | .local _ .vmem, ⟨10, _⟩ => ⟨S384x256, .f32⟩
  | .local _ .vmem, ⟨11, _⟩ => ⟨S384x256, .f32⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x512, .f32⟩
  | .local _ .vmem, ⟨17, _⟩ => ⟨S384x512, .f32⟩
  | .local _ .vmem, ⟨18, _⟩ => ⟨S384x256, .f32⟩
  | .local _ .vmem, ⟨19, _⟩ => ⟨S384x256, .f32⟩
  | .local _ .vmem, ⟨20, _⟩ => ⟨S384x256, .f32⟩
  | .local _ .vmem, ⟨21, _⟩ => ⟨S384x256, .f32⟩
  | .local _ .vmem, ⟨22, _⟩ => ⟨S384x128, .f32⟩
  | .local _ .vmem, ⟨23, _⟩ => ⟨S384x128, .f32⟩
  | .local _ .vmem, ⟨24, _⟩ => ⟨S128x512, .bf16⟩
  | .local _ .vmem, ⟨25, _⟩ => ⟨S384x2688, .bf16⟩
  | .local _ .vmem, ⟨26, _⟩ => ⟨S384x2688, .bf16⟩
  | .local _ .vmem, ⟨27, _⟩ => ⟨S128x512, .f32⟩
  | .local _ .vmem, ⟨28, _⟩ => ⟨S1x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem15_0 : DmaSem sig := 28

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S384x2688 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference20Ideal.lean ====
abbrev S8448x512 : Shape := ⟨2, ![8448, 512]⟩
abbrev S8448x256 : Shape := ⟨2, ![8448, 256]⟩
abbrev S8448x128 : Shape := ⟨2, ![8448, 128]⟩
abbrev S128x512 : Shape := ⟨2, ![128, 512]⟩
abbrev S_ : Shape := ⟨0, ![]⟩
abbrev S1x512 : Shape := ⟨2, ![1, 512]⟩
abbrev S512 : Shape := ⟨1, ![512]⟩
abbrev S512x128 : Shape := ⟨2, ![512, 128]⟩
abbrev S8448x2688 : Shape := ⟨2, ![8448, 2688]⟩

abbrev nBuf : Space → Nat
  | .hbm => 34
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x256, .f32⟩
  | .hbm, ⟨3, _⟩ => ⟨S8448x256, .f32⟩
  | .hbm, ⟨4, _⟩ => ⟨S8448x512, .f32⟩
  | .hbm, ⟨5, _⟩ => ⟨S8448x256, .f32⟩
  | .hbm, ⟨6, _⟩ => ⟨S8448x256, .f32⟩
  | .hbm, ⟨7, _⟩ => ⟨S8448x256, .f32⟩
  | .hbm, ⟨8, _⟩ => ⟨S8448x512, .f32⟩
  | .hbm, ⟨9, _⟩ => ⟨S8448x256, .f32⟩
  | .hbm, ⟨10, _⟩ => ⟨S8448x512, .f32⟩
  | .hbm, ⟨11, _⟩ => ⟨S8448x128, .f32⟩
  | .hbm, ⟨12, _⟩ => ⟨S128x512, .bf16⟩
  | .hbm, ⟨13, _⟩ => ⟨S8448x512, .f32⟩
  | .hbm, ⟨14, _⟩ => ⟨S128x512, .f32⟩
  | .hbm, ⟨15, _⟩ => ⟨S_, .f32⟩
  | .hbm, ⟨16, _⟩ => ⟨S1x512, .f32⟩
  | .hbm, ⟨17, _⟩ => ⟨S8448x512, .f32⟩
  | .hbm, ⟨18, _⟩ => ⟨S8448x512, .f32⟩
  | .hbm, ⟨19, _⟩ => ⟨S8448x512, .f32⟩
  | .hbm, ⟨20, _⟩ => ⟨S_, .f32⟩
  | .hbm, ⟨21, _⟩ => ⟨S512, .f32⟩
  | .hbm, ⟨22, _⟩ => ⟨S1x512, .f32⟩
  | .hbm, ⟨23, _⟩ => ⟨S512x128, .f32⟩
  | .hbm, ⟨24, _⟩ => ⟨S128x512, .f32⟩
  | .hbm, ⟨25, _⟩ => ⟨S8448x128, .f32⟩
  | .hbm, ⟨26, _⟩ => ⟨S8448x256, .f32⟩
  | .hbm, ⟨27, _⟩ => ⟨S_, .f32⟩
  | .hbm, ⟨28, _⟩ => ⟨S8448x256, .f32⟩
  | .hbm, ⟨29, _⟩ => ⟨S8448x256, .f32⟩
  | .hbm, ⟨30, _⟩ => ⟨S8448x256, .f32⟩
  | .hbm, ⟨31, _⟩ => ⟨S8448x512, .f32⟩
  | .hbm, ⟨32, _⟩ => ⟨S8448x2688, .f32⟩
  | .hbm, ⟨33, _⟩ => ⟨S8448x2688, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Proof.Chunk.lean ====
module

public import proofs.«01_k».proof.Proof.Gen.KernelIdeal.Value

/-!
# One chunk of the kernel, as functions of the rows it loads

The kernel treats 64 rows at a time, for four heads and two directions; the text it repeats is stated
once here. `Block` holds what a chunk loads, `r` says which direction it belongs to (`false`: rows
counted upwards, `true`: downwards), and the definitions are the values the kernel computes of it, in
the kernel's own operations, for any float interpretation.
-/

@[expose] public section

set_option maxRecDepth 16384

noncomputable section

namespace Cert.Gla

open Idealize.ShloMosaic Cert.KernelIdeal Cert.KernelIdeal.Gen

variable {F : FTy → Type} [FloatOps F]

theorem slices_head (h : Nat) (hh : h < 4) : S64x256.Slices ![0, 64 * h] S64x64 :=
  (by decide : ∀ h < 4, S64x256.Slices ![0, 64 * h] S64x64) h hh

theorem slices_headV (h : Nat) (hh : h < 4) : S64x512.Slices ![0, 128 * h] S64x128 :=
  (by decide : ∀ h < 4, S64x512.Slices ![0, 128 * h] S64x128) h hh

theorem slices_headRow (h : Nat) (hh : h < 4) : S1x256.Slices ![0, 64 * h] S1x64 :=
  (by decide : ∀ h < 4, S1x256.Slices ![0, 64 * h] S1x64) h hh

/-- Columns `64 h … 64 h + 63`. -/
def head (h : Nat) (hh : h < 4) (x : FVec F S64x256 .f32) : FVec F S64x64 .f32 :=
  extractStridedSlice S64x64 ![0, 64 * h] x (slices_head h hh)

/-- Columns `128 h … 128 h + 127`, narrowed. -/
def headV (h : Nat) (hh : h < 4) (x : FVec F S64x512 .f32) : FVec F S64x128 .bf16 :=
  truncf .bf16 (extractStridedSlice S64x128 ![0, 128 * h] x (slices_headV h hh)) bitsLt_bf16_f32

/-- A constant vector. -/
def bits (s : Shape) (b : BitVec 32) : FVec F s .f32 := broadcast s (Scalar.ofBits .f32 b)

/-- One doubling of a running sum down the rows: add the row `d` above, where there is one. -/
def up (d : BitVec 32) (x : FVec F S64x256 .f32) : FVec F S64x256 .f32 :=
  addf x (select (cmpi .sge (iota .tc S64x256 32 [0] iota_S64x256_d0_w32) (broadcast S64x256 d))
    (dynamicRotate 0 d none x rotates_S64x256_d0) (bits S64x256 0x00000000#32))

/-- One doubling of a running sum up the rows: add the row `64 − d` below, where there is one. -/
def down (d : BitVec 32) (x : FVec F S64x256 .f32) : FVec F S64x256 .f32 :=
  addf x (select (cmpi .slt (iota .tc S64x256 32 [0] iota_S64x256_d0_w32) (broadcast S64x256 d))
    (dynamicRotate 0 d none x rotates_S64x256_d0) (bits S64x256 0x00000000#32))

/-- The running sum of the rows in the direction of time. -/
def cum : Bool → FVec F S64x256 .f32 → FVec F S64x256 .f32
  | false, x => up 32#32 (up 16#32 (up 8#32 (up 4#32 (up 2#32 (up 1#32 x)))))
  | true, x => down 32#32 (down 48#32 (down 56#32 (down 60#32 (down 62#32 (down 63#32 x)))))

/-- The row of the last token in the direction of time. -/
def lastRow : Bool → FVec F S64x256 .f32 → FVec F S1x256 .f32
  | false, x => extractStridedSlice S1x256 ![63, 0] x slices_S64x256_o63_0_S1x256
  | true, x => extractStridedSlice S1x256 ![0, 0] x slices_S64x256_o0_0_S1x256

/-- Which pairs (row, column) of a score matrix count. -/
def mask : Bool → IVec S64x64 1
  | false => cmpi .sle (iota .tc S64x64 32 [1] iota_S64x64_d1_w32) (iota .tc S64x64 32 [0] iota_S64x64_d0_w32)
  | true => cmpi .sgt (iota .tc S64x64 32 [1] iota_S64x64_d1_w32) (iota .tc S64x64 32 [0] iota_S64x64_d0_w32)

/-- The half of the gate projection that belongs to the direction. -/
def gateHalf : Bool → FVec F S64x512 .f32 → FVec F S64x256 .f32
  | false, x => extractStridedSlice S64x256 ![0, 0] x slices_S64x512_o0_0_S64x256
  | true, x => extractStridedSlice S64x256 ![0, 256] x slices_S64x512_o0_256_S64x256

/-- What a chunk loads. -/
structure Block (F : FTy → Type) [FloatOps F] where
  /-- direction -/
  r : Bool
  q : Vec F S64x256 .f32
  k : Vec F S64x256 .f32
  v : Vec F S64x512 .f32
  z : Vec F S64x128 .f32
  y : Vec F S64x512 .f32
  s : (h : Nat) → h < 4 → Vec F S1x1x128x64 .f32
  wg : Vec F S128x512 .bf16
  bg : Vec F S1x512 .f32

namespace Block

variable (B : Block F)

/-- The gate's logits. -/
def pre : FVec F S64x256 .f32 :=
  gateHalf B.r (addf (matmul dot_S64x128_S128x512_S64x512_1_0_0_1_n_n none (truncf .bf16 B.z bitsLt_bf16_f32) B.wg
    (constant S64x512 .f32 0x00000000#32)) (broadcastTo S64x512 B.bg broadcasts_S1x512_S64x512))

/-- A sixteenth of their log sigmoid. -/
def g : FVec F S64x256 .f32 :=
  mulf (subf (minimumf B.pre (bits S64x256 0x00000000#32))
    (log (addf (bits S64x256 0x3F800000#32) (exp (subf (bits S64x256 0x00000000#32) (absf B.pre))))))
    (bits S64x256 0x3D800000#32)

/-- Its running sum. -/
def b : FVec F S64x256 .f32 := cum B.r B.g
def bl : FVec F S1x256 .f32 := lastRow B.r B.b
def bm : FVec F S1x256 .f32 := extractStridedSlice S1x256 ![32, 0] B.b slices_S64x256_o32_0_S1x256
def qs : FVec F S64x256 .f32 := mulf B.q (bits S64x256 0x3E000000#32)
def eb : FVec F S64x256 .f32 := exp B.b
def ek : FVec F S64x256 .f32 := exp (subf (broadcastTo S64x256 B.bl broadcasts_S1x256_S64x256) B.b)
def el : FVec F S1x256 .f32 := exp B.bl
def eqm : FVec F S64x256 .f32 :=
  exp (minimumf (subf B.b (broadcastTo S64x256 B.bm broadcasts_S1x256_S64x256)) (bits S64x256 0x42A00000#32))
def ekm : FVec F S64x256 .f32 :=
  exp (minimumf (subf (broadcastTo S64x256 B.bm broadcasts_S1x256_S64x256) B.b) (bits S64x256 0x42A00000#32))

variable (h : Nat) (hh : h < 4)

def qb : FVec F S64x64 .bf16 := truncf .bf16 (mulf (head h hh B.qs) (head h hh B.eb)) bitsLt_bf16_f32
def ke : FVec F S64x64 .bf16 := truncf .bf16 (mulf (head h hh B.k) (head h hh B.ek)) bitsLt_bf16_f32
def qm : FVec F S64x64 .bf16 := truncf .bf16 (mulf (head h hh B.qs) (head h hh B.eqm)) bitsLt_bf16_f32
def km : FVec F S64x64 .bf16 := truncf .bf16 (mulf (head h hh B.k) (head h hh B.ekm)) bitsLt_bf16_f32

/-- The scores. -/
def a : FVec F S64x64 .bf16 :=
  truncf .bf16 (select (mask B.r) (matmul dot_S64x64_S64x64_S64x64_1_1_0_0_n_n none (B.qm h hh) (B.km h hh)
    (constant S64x64 .f32 0x00000000#32)) (bits S64x64 0x00000000#32)) bitsLt_bf16_f32

/-- Their cotangent. -/
def da : FVec F S64x64 .bf16 :=
  truncf .bf16 (select (mask B.r) (matmul dot_S64x128_S64x128_S64x64_1_1_0_0_n_n none (headV h hh B.y) (headV h hh B.v)
    (constant S64x64 .f32 0x00000000#32)) (bits S64x64 0x00000000#32)) bitsLt_bf16_f32

/-- The state before the chunk. -/
def st : FVec F S128x64 .f32 := shapeCast S128x64 (B.s h hh) shapeCasts_S1x1x128x64_S128x64

variable (d : Vec F S1x128x64 .f32)

/-- The cotangent of the state after the chunk, as a matrix. -/
def ds : FVec F S128x64 .f32 := shapeCast S128x64 d shapeCasts_S1x128x64_S128x64

def dv : FVec F S64x128 .f32 :=
  addf (matmul dot_S64x64_S64x128_S64x128_0_0_1_1_n_n none (B.a h hh) (headV h hh B.y) (constant S64x128 .f32 0x00000000#32))
    (matmul dot_S64x64_S128x64_S64x128_1_1_0_0_n_n none (B.ke h hh) (truncf .bf16 (ds d) bitsLt_bf16_f32)
      (constant S64x128 .f32 0x00000000#32))

def dq : FVec F S64x64 .f32 :=
  addf (mulf (matmul dot_S64x64_S64x64_S64x64_1_0_0_1_n_n none (B.da h hh) (B.km h hh) (constant S64x64 .f32 0x00000000#32))
      (head h hh B.eqm))
    (mulf (matmul dot_S64x128_S128x64_S64x64_1_0_0_1_n_n none (headV h hh B.y) (truncf .bf16 (B.st h hh) bitsLt_bf16_f32)
      (constant S64x64 .f32 0x00000000#32)) (head h hh B.eb))

def dk : FVec F S64x64 .f32 :=
  addf (mulf (matmul dot_S64x64_S64x64_S64x64_0_0_1_1_n_n none (B.da h hh) (B.qm h hh) (constant S64x64 .f32 0x00000000#32))
      (head h hh B.ekm))
    (mulf (matmul dot_S64x128_S128x64_S64x64_1_0_0_1_n_n none (headV h hh B.v) (truncf .bf16 (ds d) bitsLt_bf16_f32)
      (constant S64x64 .f32 0x00000000#32)) (head h hh B.ek))

/-- The decay of the whole chunk. -/
def elh : FVec F S128x64 .f32 :=
  broadcastTo S128x64 (extractStridedSlice S1x64 ![0, 64 * h] B.el (slices_headRow h hh)) broadcasts_S1x64_S128x64

/-- The cotangent of the state before the chunk. -/
def new : FVec F S1x128x64 .f32 :=
  shapeCast S1x128x64 (addf (mulf (ds d) (B.elh h hh))
    (matmul dot_S64x128_S64x64_S128x64_0_0_1_1_n_n none (headV h hh B.y) (B.qb h hh) (constant S128x64 .f32 0x00000000#32)))
    shapeCasts_S128x64_S1x128x64

/-- What the running sum of the gate's cotangent takes of a head, without the state's share. -/
def db : FVec F S64x64 .f32 :=
  subf (mulf (head h hh B.qs) (B.dq h hh)) (mulf (head h hh B.k) (B.dk h hh d))

/-- The state's share: the state after the chunk against its cotangent. -/
def cross : FVec F S1x64 .f32 :=
  shapeCast S1x64 (multiReduction .add [0] S64 (mulf (addf (mulf (B.st h hh) (B.elh h hh))
    (matmul dot_S64x128_S64x64_S128x64_0_0_1_1_n_n none (headV h hh B.v) (B.ke h hh) (constant S128x64 .f32 0x00000000#32)))
    (ds d)) 0x00000000#32 reduces_S128x64_S64 (.inl rfl) rfl) shapeCasts_S64_S1x64

omit h hh d in
/-- The cotangent of the gate's logits. -/
def dp (d : (h : Nat) → h < 4 → Vec F S1x128x64 .f32) : FVec F S64x256 .f32 :=
  mulf (mulf (addf
      (cum (!B.r) (concatenate S64x256 1
        [⟨S64x64, B.db 0 (by decide) (d 0 (by decide))⟩, ⟨S64x64, B.db 1 (by decide) (d 1 (by decide))⟩,
         ⟨S64x64, B.db 2 (by decide) (d 2 (by decide))⟩, ⟨S64x64, B.db 3 (by decide) (d 3 (by decide))⟩]
        concatenates_S64x64_S64x64_S64x64_S64x64_S64x256_d1))
      (broadcastTo S64x256 (concatenate S1x256 1
        [⟨S1x64, B.cross 0 (by decide) (d 0 (by decide))⟩, ⟨S1x64, B.cross 1 (by decide) (d 1 (by decide))⟩,
         ⟨S1x64, B.cross 2 (by decide) (d 2 (by decide))⟩, ⟨S1x64, B.cross 3 (by decide) (d 3 (by decide))⟩]
        concatenates_S1x64_S1x64_S1x64_S1x64_S1x256_d1) broadcasts_S1x256_S64x256))
      (bits S64x256 0x3D800000#32))
    (divf (bits S64x256 0x3F800000#32) (addf (bits S64x256 0x3F800000#32)
      (exp (subf (bits S64x256 0x00000000#32) (subf (bits S64x256 0x00000000#32) B.pre)))))

end Block

end Cert.Gla
-- ==== Proof.Spec.lean ====
module

public import Mathlib.Analysis.SpecialFunctions.Log.Basic
public import Mathlib.Algebra.BigOperators.Fin
public import Mathlib.Algebra.Order.BigOperators.Group.Finset
public import Mathlib.Order.Interval.Finset.Fin

/-!
# One chunk of gated linear attention's backward pass, over the reals

A chunk has 64 tokens, in the order of the direction's time, one head has 64 key channels and 128 value
channels. `Chunk` is what the backward pass of a chunk is given besides the cotangent `D` of the state it
leaves; the definitions are the cotangents it returns. `refDP` is the gate's cotangent as the
differentiated reference arranges it, and `refDP_eq` says it is `dP`, which the kernel computes.
-/

@[expose] public section

noncomputable section

namespace Cert.Gla

open scoped BigOperators

/-- A chunk's inputs. -/
structure Chunk where
  /-- whether a token's own score is left out -/
  strict : Bool
  q : Fin 64 → Fin 64 → ℝ
  k : Fin 64 → Fin 64 → ℝ
  /-- the gate's logits -/
  P : Fin 64 → Fin 64 → ℝ
  v : Fin 64 → Fin 128 → ℝ
  /-- the output's cotangent -/
  y : Fin 64 → Fin 128 → ℝ
  /-- the state before the chunk -/
  S : Fin 128 → Fin 64 → ℝ

namespace Chunk

variable (X : Chunk) (D : Fin 128 → Fin 64 → ℝ)

/-- Minus the log sigmoid of the logits. -/
def L (t c : Fin 64) : ℝ := Real.log (1 + Real.exp (-X.P t c))

def g (t c : Fin 64) : ℝ := -X.L t c / 16

def b (t c : Fin 64) : ℝ := ∑ r, if r ≤ t then X.g r c else 0

/-- The decay of the whole chunk, as a logarithm. -/
def bl (c : Fin 64) : ℝ := X.b 63 c

/-- Token `t` reads token `s`. -/
def M (t s : Fin 64) : Prop := s < t ∨ (X.strict = false ∧ s = t)

instance (t s : Fin 64) : Decidable (X.M t s) := by unfold M; infer_instance

def dec (t s c : Fin 64) : ℝ := if X.M t s then Real.exp (X.b t c - X.b s c) else 0

def A (t s : Fin 64) : ℝ := ∑ c, X.q t c * X.k s c * X.dec t s c

def dA (t s : Fin 64) : ℝ := ∑ j, X.y t j * X.v s j

def yS (t c : Fin 64) : ℝ := ∑ j, X.y t j * X.S j c

def vD (s c : Fin 64) : ℝ := ∑ j, X.v s j * D j c

def dq (t c : Fin 64) : ℝ := ∑ s, X.dA t s * X.k s c * X.dec t s c + X.yS t c * Real.exp (X.b t c)

def dk (s c : Fin 64) : ℝ :=
  ∑ t, X.dA t s * X.q t c * X.dec t s c + X.vD D s c * Real.exp (X.bl c - X.b s c)

def dv (s : Fin 64) (j : Fin 128) : ℝ :=
  ∑ t, X.A t s * X.y t j + ∑ c, X.k s c * Real.exp (X.bl c - X.b s c) * D j c

/-- The cotangent of the state before the chunk. -/
def new (j : Fin 128) (c : Fin 64) : ℝ :=
  D j c * Real.exp (X.bl c) + ∑ t, X.y t j * (X.q t c * Real.exp (X.b t c))

def db (t c : Fin 64) : ℝ := X.q t c * X.dq t c - X.k t c * X.dk D t c

def cross (c : Fin 64) : ℝ :=
  ∑ j, (X.S j c * Real.exp (X.bl c) + ∑ s, X.v s j * (X.k s c * Real.exp (X.bl c - X.b s c))) * D j c

/-- The cotangent of the gate's logits. -/
def dP (t c : Fin 64) : ℝ :=
  ((∑ r, if t ≤ r then X.db D r c else 0) + X.cross D c) / 16 * (1 / (1 + Real.exp (X.P t c)))

/-! ### The running sum falls, and not too fast -/

theorem L_pos (t c : Fin 64) : 0 < X.L t c :=
  Real.log_pos (by have := Real.exp_pos (-X.P t c); linarith)

theorem L_le (hP : ∀ t c, -39 ≤ X.P t c) (t c : Fin 64) : X.L t c ≤ 40 := by
  unfold L
  rw [Real.log_le_iff_le_exp (by positivity)]
  have h1 : Real.exp (-X.P t c) ≤ Real.exp 39 := Real.exp_le_exp.mpr (by linarith [hP t c])
  have h2 : Real.exp 40 = Real.exp 39 * Real.exp 1 := by rw [← Real.exp_add]; norm_num
  have h3 : (2 : ℝ) ≤ Real.exp 1 := by have := Real.add_one_le_exp (1 : ℝ); linarith
  have h4 : (1 : ℝ) ≤ Real.exp 39 := Real.one_le_exp (by norm_num)
  nlinarith

theorem b_sub (s t c : Fin 64) (h : s ≤ t) :
    X.b s c - X.b t c = ∑ r, if s < r ∧ r ≤ t then X.L r c / 16 else 0 := by
  unfold b
  rw [← Finset.sum_sub_distrib]
  refine Finset.sum_congr rfl fun r _ => ?_
  by_cases h1 : r ≤ s
  · rw [if_pos h1, if_pos (h1.trans h), if_neg (fun h2 => absurd h1 (not_le.mpr h2.1)), sub_self]
  · by_cases h2 : r ≤ t
    · rw [if_neg h1, if_pos h2, if_pos ⟨not_le.mp h1, h2⟩, g]; ring
    · rw [if_neg h1, if_neg h2, if_neg (fun h3 => h2 h3.2), sub_self]

theorem b_lt (s t c : Fin 64) (h : s < t) : X.b t c < X.b s c := by
  rw [← sub_pos, X.b_sub s t c h.le]
  refine Finset.sum_pos' (fun r _ => ?_) ⟨t, Finset.mem_univ _, ?_⟩
  · split
    · exact div_nonneg (X.L_pos r c).le (by norm_num)
    · exact le_rfl
  · rw [if_pos ⟨h, le_rfl⟩]
    exact div_pos (X.L_pos t c) (by norm_num)

theorem b_le (s t c : Fin 64) (h : s ≤ t) : X.b t c ≤ X.b s c := by
  rcases h.lt_or_eq with h | rfl
  · exact (X.b_lt s t c h).le
  · exact le_rfl

theorem b_sub_le (hP : ∀ t c, -39 ≤ X.P t c) (s t c : Fin 64) (h : s ≤ t) :
    X.b s c - X.b t c ≤ 5 / 2 * ((t : ℕ) - (s : ℕ) : ℝ) := by
  rw [X.b_sub s t c h]
  calc (∑ r, if s < r ∧ r ≤ t then X.L r c / 16 else 0)
      ≤ ∑ r, if s < r ∧ r ≤ t then (5 / 2 : ℝ) else 0 := by
        refine Finset.sum_le_sum fun r _ => ?_
        split
        · have := X.L_le hP r c; linarith
        · exact le_rfl
    _ = 5 / 2 * ((t : ℕ) - (s : ℕ) : ℝ) := by
        rw [← Finset.sum_filter, Finset.sum_const, nsmul_eq_mul]
        have : (Finset.univ.filter fun r : Fin 64 => s < r ∧ r ≤ t) = Finset.Ioc s t := by
          ext r; simp
        rw [this, Fin.card_Ioc, Nat.cast_sub (Fin.le_def.mp h)]; ring

/-- Around the middle of the chunk the clamp at 80 changes nothing. -/
theorem clamp (hP : ∀ t c, -39 ≤ X.P t c) (m t c : Fin 64) (hm : 31 ≤ m.val) (hm' : m.val ≤ 32) :
    min (X.b t c - X.b m c) 80 = X.b t c - X.b m c ∧ min (X.b m c - X.b t c) 80 = X.b m c - X.b t c := by
  have hm1 : (31 : ℝ) ≤ (m : ℕ) := by exact_mod_cast hm
  have hm2 : ((m : ℕ) : ℝ) ≤ 32 := by exact_mod_cast hm'
  have ht : ((t : ℕ) : ℝ) ≤ 63 := by exact_mod_cast Nat.lt_succ_iff.mp t.isLt
  have ht0 : (0 : ℝ) ≤ (t : ℕ) := Nat.cast_nonneg _
  rcases le_total m t with h | h
  · have h1 := X.b_le m t c h
    have h2 := X.b_sub_le hP m t c h
    exact ⟨min_eq_left (by linarith), min_eq_left (by linarith)⟩
  · have h1 := X.b_le t m c h
    have h2 := X.b_sub_le hP t m c h
    exact ⟨min_eq_left (by linarith), min_eq_left (by linarith)⟩

/-! ### The kernel's arrangement: a pair's decay in two factors, around any `m` -/

theorem dec_split (m : Fin 64 → ℝ) (t s c : Fin 64) : X.dec t s c
    = if X.M t s then Real.exp (X.b t c - m c) * Real.exp (m c - X.b s c) else 0 := by
  unfold dec
  rw [← Real.exp_add, sub_add_sub_cancel]

theorem A_split (m : Fin 64 → ℝ) (t s : Fin 64) : (if X.M t s then
    ∑ c, X.q t c * Real.exp (X.b t c - m c) * (X.k s c * Real.exp (m c - X.b s c)) else 0) = X.A t s := by
  unfold A
  split
  next h => exact Finset.sum_congr rfl fun c _ => by rw [X.dec_split m, if_pos h]; ring
  next h => exact (Finset.sum_eq_zero fun c _ => by rw [X.dec_split m, if_neg h, mul_zero]).symm

theorem dq_split (m : Fin 64 → ℝ) (t c : Fin 64) :
    (∑ s, (if X.M t s then X.dA t s else 0) * (X.k s c * Real.exp (m c - X.b s c))) * Real.exp (X.b t c - m c)
      = ∑ s, X.dA t s * X.k s c * X.dec t s c := by
  rw [Finset.sum_mul]
  refine Finset.sum_congr rfl fun s _ => ?_
  rw [X.dec_split m]
  split <;> ring

theorem dk_split (m : Fin 64 → ℝ) (s c : Fin 64) :
    (∑ t, (if X.M t s then X.dA t s else 0) * (X.q t c * Real.exp (X.b t c - m c))) * Real.exp (m c - X.b s c)
      = ∑ t, X.dA t s * X.q t c * X.dec t s c := by
  rw [Finset.sum_mul]
  refine Finset.sum_congr rfl fun t _ => ?_
  rw [X.dec_split m]
  split <;> ring

/-! ### The reference's arrangement of the gate's cotangent -/

/-- The derivative of `min · 0`, a half at the tie. -/
def tie (x : ℝ) : ℝ := if x < 0 then 1 else if x = 0 then 1 / 2 else 0

def E (t s c : Fin 64) : ℝ :=
  (if X.M t s then X.q t c * (X.dA t s * X.k s c) else 0) * Real.exp (min (X.b t c - X.b s c) 0)
    * tie (X.b t c - X.b s c)

def u (s c : Fin 64) : ℝ := X.k s c * X.vD D s c * Real.exp (X.bl c - X.b s c)

def w (c : Fin 64) : ℝ := ∑ s, X.u D s c + (∑ j, D j c * X.S j c) * Real.exp (X.bl c)

def refDb (t c : Fin 64) : ℝ :=
  -X.u D t c + (if t = 63 then X.w D c else 0) + X.q t c * (X.yS t c * Real.exp (X.b t c))
    + ∑ r, -X.E r t c + ∑ s, X.E t s c

def refDP (t c : Fin 64) : ℝ :=
  (∑ r, if t ≤ r then X.refDb D r c else 0) / 16 * Real.exp (-X.P t c - X.L t c)

theorem cross_eq (c : Fin 64) : X.cross D c = X.w D c := by
  unfold cross w u vD
  simp only [add_mul, Finset.sum_add_distrib, Finset.sum_mul, Finset.mul_sum]
  rw [add_comm]
  congr 1
  · rw [Finset.sum_comm]
    exact Finset.sum_congr rfl fun s _ => Finset.sum_congr rfl fun j _ => by ring
  · exact Finset.sum_congr rfl fun j _ => by ring

/-- A pair's share of the gate's cotangent. -/
def pair (t s c : Fin 64) : ℝ := X.q t c * X.dA t s * X.k s c * X.dec t s c

theorem E_eq (t s c : Fin 64) : X.E t s c = X.pair t s c - if s = t then X.pair t s c / 2 else 0 := by
  unfold E pair dec
  by_cases hM : X.M t s
  · rw [if_pos hM, if_pos hM]
    rcases hM with h | ⟨-, rfl⟩
    · have hb := X.b_lt s t c h
      rw [min_eq_left (by linarith), if_neg h.ne, tie, if_pos (by linarith)]
      ring
    · rw [if_pos rfl, sub_self, min_self, Real.exp_zero, tie, if_neg (lt_irrefl _), if_pos rfl]
      ring
  · rw [if_neg hM, if_neg hM]; simp

theorem refDb_eq (t c : Fin 64) : X.refDb D t c = X.db D t c + if t = 63 then X.cross D c else 0 := by
  have h1 : ∑ s, X.E t s c = ∑ s, X.pair t s c - X.pair t t c / 2 := by
    simp only [E_eq, Finset.sum_sub_distrib, Finset.sum_ite_eq', Finset.mem_univ, if_true]
  have h2 : ∑ r, -X.E r t c = -∑ r, X.pair r t c + X.pair t t c / 2 := by
    simp only [Finset.sum_neg_distrib, E_eq, Finset.sum_sub_distrib, Finset.sum_ite_eq, Finset.mem_univ, if_true]
    ring
  have h3 : X.q t c * ∑ s, X.dA t s * X.k s c * X.dec t s c = ∑ s, X.pair t s c := by
    rw [Finset.mul_sum]; exact Finset.sum_congr rfl fun s _ => by unfold pair; ring
  have h4 : X.k t c * ∑ r, X.dA r t * X.q r c * X.dec r t c = ∑ r, X.pair r t c := by
    rw [Finset.mul_sum]; exact Finset.sum_congr rfl fun s _ => by unfold pair; ring
  unfold refDb db dq dk
  rw [h1, h2, cross_eq, mul_add, mul_add, h3, h4]
  unfold u
  ring

theorem refDP_eq (t c : Fin 64) : X.refDP D t c = X.dP D t c := by
  have h1 : (∑ r, if t ≤ r then X.refDb D r c else 0) = (∑ r, if t ≤ r then X.db D r c else 0) + X.cross D c := by
    have : ∀ r : Fin 64, (if t ≤ r then X.refDb D r c else 0)
        = (if t ≤ r then X.db D r c else 0) + if r = 63 then X.cross D c else 0 := by
      intro r
      by_cases h : t ≤ r
      · rw [if_pos h, if_pos h, refDb_eq]
      · rw [if_neg h, if_neg h, if_neg (fun h' => h (by rw [h']; exact Fin.le_def.mpr (by have := t.isLt; show t.val ≤ 63; omega))), add_zero]
    simp only [this, Finset.sum_add_distrib, Finset.sum_ite_eq', Finset.mem_univ, if_true]
  have h2 : Real.exp (-X.P t c - X.L t c) = 1 / (1 + Real.exp (X.P t c)) := by
    have hp := Real.exp_pos (X.P t c)
    have hn := Real.exp_pos (-X.P t c)
    rw [Real.exp_sub, L, Real.exp_log (by linarith), Real.exp_neg]
    field_simp
    ring
  unfold refDP dP
  rw [h1, h2]

end Chunk

end Cert.Gla
-- ==== Proof.RunningSum.lean ====
module

public import proofs.«01_k».proof.Proof.Chunk
public import proofs.«01_k».proof.Proof.Spec
public import Idealize.ShloMosaic.Lib.Pointwise
public import Idealize.ShloMosaic.Lib.WordCmp

/-!
# The running sum by doubling

Six doublings, each adding a shifted copy, are the sum of the rows so far, upwards or downwards.
-/

@[expose] public section

set_option maxRecDepth 16384

noncomputable section

namespace Cert.Gla

open Idealize.ShloMosaic Cert.KernelIdeal Cert.KernelIdeal.Gen

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row of token `t` in the direction of time (and the token of a row). -/
def turn : Bool → Fin 64 → Fin 64
  | false, t => t
  | true, t => t.rev

theorem turn_turn (r : Bool) (t : Fin 64) : turn r (turn r t) = t := by
  cases r
  · rfl
  · exact Fin.rev_rev t

theorem turn_not (r : Bool) (t : Fin 64) : turn (!r) t = (turn r t).rev := by
  cases r
  · rfl
  · exact (Fin.rev_rev t).symm

theorem sum_turn {α : Type*} [AddCommMonoid α] (r : Bool) (f : Fin 64 → α) : ∑ x, f x = ∑ t, f (turn r t) :=
  (Equiv.sum_comp (⟨turn r, turn r, turn_turn r, turn_turn r⟩ : Fin 64 ≃ Fin 64) f).symm

/-- The sum of the last `n` values up to `t`. -/
def win (f : Fin 64 → ℝ) (n : Nat) (t : Fin 64) : ℝ := ∑ s : Fin 64, if s ≤ t ∧ t.val < s.val + n then f s else 0

theorem win_one (f : Fin 64 → ℝ) (t : Fin 64) : win f 1 t = f t := by
  unfold win
  rw [Finset.sum_eq_single t]
  · rw [if_pos ⟨le_rfl, Nat.lt_succ_self _⟩]
  · intro s _ hs
    rw [if_neg]
    rintro ⟨h1, h2⟩
    exact hs (Fin.ext (le_antisymm (Fin.le_def.mp h1) (by omega)))
  · exact fun h => absurd (Finset.mem_univ _) h

theorem win_all (f : Fin 64 → ℝ) (t : Fin 64) : win f 64 t = ∑ s, if s ≤ t then f s else 0 := by
  unfold win
  refine Finset.sum_congr rfl fun s _ => ?_
  by_cases h : s ≤ t
  · rw [if_pos ⟨h, by omega⟩, if_pos h]
  · rw [if_neg (fun h' => h h'.1), if_neg h]

theorem win_double (f : Fin 64 → ℝ) (n : Nat) (t : Fin 64) :
    (win f n t + if h : n ≤ t.val then win f n ⟨t.val - n, by omega⟩ else 0) = win f (2 * n) t := by
  unfold win
  split
  next h =>
    rw [← Finset.sum_add_distrib]
    refine Finset.sum_congr rfl fun s _ => ?_
    simp only [Fin.le_def]
    split <;> split <;> split <;> first | rfl | (exfalso; omega) | simp
  next h =>
    rw [add_zero]
    refine Finset.sum_congr rfl fun s _ => ?_
    simp only [Fin.le_def]
    split <;> split <;> first | rfl | (exfalso; omega) | simp

theorem select_bool {α : Type} (p : Prop) [Decidable p] (x y : α) :
    Scalar.select (BitVec.ofBool (decide p)) x y = if p then x else y := by
  by_cases h : p <;> simp [h, WordCmp.select_one, WordCmp.select_zero]

/-- One doubling in the direction of time. -/
def step : Bool → Nat → FVec Ideal S64x256 .f32 → FVec Ideal S64x256 .f32
  | false, n, x => up (BitVec.ofNat 32 n) x
  | true, n, x => down (BitVec.ofNat 32 (64 - n)) x

theorem cum_eq (r : Bool) (x : FVec Ideal S64x256 .f32) :
    cum r x = step r 32 (step r 16 (step r 8 (step r 4 (step r 2 (step r 1 x))))) := by
  cases r <;> rfl

theorem step_apply (r : Bool) (n : Nat) (hn : 0 < n) (hn' : n < 64) (x : FVec Ideal S64x256 .f32) (t : Fin 64) (c : Fin 256) :
    step r n x (ix2 (turn r t) c)
      = x (ix2 (turn r t) c) + if h : n ≤ t.val then x (ix2 (turn r ⟨t.val - n, by omega⟩) c) else 0 := by
  have hr : t.rev.val = 63 - t.val := by rw [Fin.val_rev]; omega
  cases r
  · pointwise [step, up, bits, turn]
    rw [WordCmp.cmpi_sge_ofNat (by omega) (by omega), select_bool]
    congr 1
    split
    · congr 3
      rw [BitVec.toNat_ofNat]
      omega
    · rfl
  · pointwise [step, down, bits, turn]
    rw [WordCmp.cmpi_slt_ofNat (by omega) (by omega), select_bool]
    congr 1
    by_cases h : n ≤ t.val
    · rw [dif_pos h, if_pos (by omega)]
      congr 2
      apply Fin.ext
      show (t.rev.val + 64 - (BitVec.ofNat 32 (64 - n)).toNat % 64) % 64 = 64 - (t.val - n + 1)
      rw [hr, BitVec.toNat_ofNat]
      omega
    · rw [dif_neg h, if_neg (by omega)]

theorem step_win (r : Bool) (n : Nat) (hn : 0 < n) (hn' : n < 64) (x : FVec Ideal S64x256 .f32) (f : Fin 64 → Fin 256 → ℝ)
    (h : ∀ t c, x (ix2 (turn r t) c) = ((win (fun s => f s c) n t : ℝ) : EReal)) (t : Fin 64) (c : Fin 256) :
    step r n x (ix2 (turn r t) c) = ((win (fun s => f s c) (2 * n) t : ℝ) : EReal) := by
  rw [step_apply r n hn hn', h, ← win_double, EReal.coe_add]
  congr 1
  split
  · exact h _ _
  · rfl

theorem cum_apply (r : Bool) (x : FVec Ideal S64x256 .f32) (f : Fin 64 → Fin 256 → ℝ)
    (h : ∀ t c, x (ix2 (turn r t) c) = (f t c : EReal)) (t : Fin 64) (c : Fin 256) :
    cum r x (ix2 (turn r t) c) = ((∑ s, if s ≤ t then f s c else 0 : ℝ) : EReal) := by
  rw [cum_eq, ← win_all]
  refine step_win r 32 (by decide) (by decide) _ f ?_ t c
  refine step_win r 16 (by decide) (by decide) _ f ?_
  refine step_win r 8 (by decide) (by decide) _ f ?_
  refine step_win r 4 (by decide) (by decide) _ f ?_
  refine step_win r 2 (by decide) (by decide) _ f ?_
  refine step_win r 1 (by decide) (by decide) _ f ?_
  exact fun t c => by rw [win_one]; exact h t c

end Cert.Gla
-- ==== Proof.ChunkReal.lean ====
module

public import proofs.«01_k».proof.Proof.RunningSum
public import Idealize.ShloMosaic.Lib.IdealHost

/-!
# The kernel's chunk is the chunk over the reals

`Rows` is what a chunk loads, as real numbers, and `Rows.chunk` the head's `Chunk` in the direction of
time. `Block.Is` says that a block holds those rows, with gate logits of at least −39; then every value the
kernel computes of the block is the real one.
-/

@[expose] public section

set_option maxRecDepth 16384

noncomputable section

namespace Cert.Gla

open Idealize.ShloMosaic Cert.KernelIdeal Cert.KernelIdeal.Gen

/-- A chunk's rows, in the order of the arrays. -/
structure Rows where
  q : Fin 64 → Fin 256 → ℝ
  k : Fin 64 → Fin 256 → ℝ
  P : Fin 64 → Fin 256 → ℝ
  v : Fin 64 → Fin 512 → ℝ
  y : Fin 64 → Fin 512 → ℝ
  s : (h : Nat) → h < 4 → Fin 128 → Fin 64 → ℝ

/-- Column `c` of head `h`. -/
abbrev col (h : Nat) (hh : h < 4) (c : Fin 64) : Fin 256 := ⟨64 * h + c.val, by omega⟩
abbrev colV (h : Nat) (hh : h < 4) (j : Fin 128) : Fin 512 := ⟨128 * h + j.val, by omega⟩

def Rows.chunk (R : Rows) (r : Bool) (h : Nat) (hh : h < 4) : Chunk where
  strict := r
  q t c := R.q (turn r t) (col h hh c) * (1 / 8)
  k t c := R.k (turn r t) (col h hh c)
  P t c := R.P (turn r t) (col h hh c)
  v t j := R.v (turn r t) (colV h hh j)
  y t j := R.y (turn r t) (colV h hh j)
  S := R.s h hh

/-- The block holds the rows. -/
structure Block.Is (B : Block Ideal) (R : Rows) : Prop where
  q : ∀ t c, B.q (ix2 t c) = (R.q t c : EReal)
  k : ∀ t c, B.k (ix2 t c) = (R.k t c : EReal)
  v : ∀ t c, B.v (ix2 t c) = (R.v t c : EReal)
  y : ∀ t c, B.y (ix2 t c) = (R.y t c : EReal)
  pre : ∀ t c, B.pre (ix2 t c) = (R.P t c : EReal)
  s : ∀ h hh j c, B.s h hh (ix4 0 0 j c) = (R.s h hh j c : EReal)
  big : ∀ t c, -39 ≤ R.P t c

/-! ### Scalars -/

theorem bits_sixteenth : Ideal.ofBits .f32 0x3D800000#32 = ((1 / 16 : ℝ) : EReal) := by
  simp only [Ideal.ofBits, Ideal.ieee]
  simp
  rw [← EReal.coe_mul]
  norm_num

theorem bits_eighth : Ideal.ofBits .f32 0x3E000000#32 = ((1 / 8 : ℝ) : EReal) := by
  simp only [Ideal.ofBits, Ideal.ieee]
  simp
  rw [← EReal.coe_mul]
  norm_num

theorem bits_eighty : Ideal.ofBits .f32 0x42A00000#32 = ((80 : ℝ) : EReal) := by
  simp only [Ideal.ofBits, Ideal.ieee]
  simp
  rw [← EReal.coe_mul]
  norm_num

theorem coe_min (x y : ℝ) : min (x : EReal) (y : EReal) = ((min x y : ℝ) : EReal) :=
  (EReal.coe_strictMono.monotone.map_min).symm

theorem coe_max (x y : ℝ) : max (x : EReal) (y : EReal) = ((max x y : ℝ) : EReal) :=
  (EReal.coe_strictMono.monotone.map_max).symm

theorem coe_ite (p : Prop) [Decidable p] (x : ℝ) :
    (if p then (x : EReal) else 0) = ((if p then x else 0 : ℝ) : EReal) := by
  split <;> simp

theorem log_coe_pos (x : ℝ) (h : 0 < x) : Ideal.log (x : EReal) = (Real.log x : EReal) := by
  rw [Ideal.log_coe, if_neg (not_le.mpr h)]

theorem absf_coe (x : ℝ) : FloatOps.absf (F := Ideal) (φ := .f32) (x : EReal) = ((|x| : ℝ) : EReal) := by
  show max (x : EReal) (-(x : EReal)) = _
  rw [← EReal.coe_neg, coe_max]
  rfl

theorem softplus (p : ℝ) : min p 0 - Real.log (1 + Real.exp (-|p|)) = -Real.log (1 + Real.exp (-p)) := by
  rcases le_total 0 p with h | h
  · rw [min_eq_right h, abs_of_nonneg h, zero_sub]
  · rw [min_eq_left h, abs_of_nonpos h, neg_neg]
    have h1 : 1 + Real.exp (-p) = Real.exp (-p) * (1 + Real.exp p) := by
      rw [mul_add, ← Real.exp_add]; simp [add_comm]
    rw [h1, Real.log_mul (Real.exp_pos _).ne' (by positivity), Real.log_exp]
    ring

/-! ### The block's values -/

namespace Block.Is

variable {B : Block Ideal} {R : Rows} (H : B.Is R)
include H

theorem g (t : Fin 64) (c : Fin 256) :
    B.g (ix2 t c) = ((-Real.log (1 + Real.exp (-R.P t c)) / 16 : ℝ) : EReal) := by
  pointwise [Block.g, bits]
  rw [H.pre, bits_sixteenth, absf_coe, zero_sub, ← EReal.coe_neg, Ideal.exp_coe, ← EReal.coe_one, ← EReal.coe_add,
    log_coe_pos _ (by positivity), ← EReal.coe_zero, coe_min, ← EReal.coe_sub, ← EReal.coe_mul, softplus]
  congr 1
  ring

variable (h : Nat) (hh : h < 4)

theorem b (t c : Fin 64) : B.b (ix2 (turn B.r t) (col h hh c)) = ((R.chunk B.r h hh).b t c : EReal) :=
  cum_apply B.r B.g (fun t c => -Real.log (1 + Real.exp (-R.P (turn B.r t) c)) / 16) (fun t c => H.g _ c) t (col h hh c)

theorem bl (c : Fin 64) : B.bl (ix2 0 (col h hh c)) = ((R.chunk B.r h hh).bl c : EReal) := by
  rw [Chunk.bl, ← H.b h hh]
  unfold Block.bl
  cases B.r
  · pointwise [lastRow, turn]
  · pointwise [lastRow, turn]
    rfl

theorem bm (c : Fin 64) : B.bm (ix2 0 (col h hh c)) = ((R.chunk B.r h hh).b (turn B.r 32) c : EReal) := by
  rw [← H.b h hh, turn_turn]
  pointwise [Block.bm]

theorem qs (t c : Fin 64) : B.qs (ix2 (turn B.r t) (col h hh c)) = ((R.chunk B.r h hh).q t c : EReal) := by
  pointwise [Block.qs, bits]
  rw [H.q, bits_eighth, ← EReal.coe_mul]
  rfl

theorem eb (t c : Fin 64) : B.eb (ix2 (turn B.r t) (col h hh c)) = (Real.exp ((R.chunk B.r h hh).b t c) : EReal) := by
  pointwise [Block.eb]
  rw [H.b h hh, Ideal.exp_coe]

theorem ek (t c : Fin 64) : B.ek (ix2 (turn B.r t) (col h hh c))
    = (Real.exp ((R.chunk B.r h hh).bl c - (R.chunk B.r h hh).b t c) : EReal) := by
  pointwise [Block.ek]
  rw [H.b h hh, H.bl h hh, ← EReal.coe_sub, Ideal.exp_coe]

theorem el (c : Fin 64) : B.el (ix2 0 (col h hh c)) = (Real.exp ((R.chunk B.r h hh).bl c) : EReal) := by
  pointwise [Block.el]
  rw [H.bl h hh, Ideal.exp_coe]

theorem middle : 31 ≤ (turn B.r 32).val ∧ (turn B.r 32).val ≤ 32 := by
  cases B.r <;> decide

theorem eqm (t c : Fin 64) : B.eqm (ix2 (turn B.r t) (col h hh c))
    = (Real.exp ((R.chunk B.r h hh).b t c - (R.chunk B.r h hh).b (turn B.r 32) c) : EReal) := by
  pointwise [Block.eqm, bits]
  rw [H.b h hh, H.bm h hh, bits_eighty, ← EReal.coe_sub, coe_min,
    ((R.chunk B.r h hh).clamp (fun _ _ => H.big _ _) _ t c H.middle.1 H.middle.2).1, Ideal.exp_coe]

theorem ekm (t c : Fin 64) : B.ekm (ix2 (turn B.r t) (col h hh c))
    = (Real.exp ((R.chunk B.r h hh).b (turn B.r 32) c - (R.chunk B.r h hh).b t c) : EReal) := by
  pointwise [Block.ekm, bits]
  rw [H.b h hh, H.bm h hh, bits_eighty, ← EReal.coe_sub, coe_min,
    ((R.chunk B.r h hh).clamp (fun _ _ => H.big _ _) _ t c H.middle.1 H.middle.2).2, Ideal.exp_coe]

end Block.Is

end Cert.Gla
-- ==== Proof.Data.lean ====
module
public import proofs.«01_k».proof.Proof.ChunkReal

/-!
# The arrays over the reals

`Data` holds the arguments' real values. The sequence is cut into 132 chunks of 64 rows. Each direction
treats the chunks against its time: trip `j` of the forward direction treats chunk `131 − j`, and trip `j`
of the other one chunk `j`. `carry` is the state cotangent before a trip, and the four gradients of each
direction are stated row by row from the chunk that holds the row.
-/

@[expose] public section
noncomputable section
namespace Cert.Gla

/-- The real values of the arguments: queries beside keys, values, output cotangents, gate logits, and the
saved states of each direction. -/
structure Data where
  z : ℕ → ℕ → ℝ
  v : ℕ → ℕ → ℝ
  y : ℕ → ℕ → ℝ
  P : ℕ → ℕ → ℝ
  s : Bool → ℕ → ℕ → ℕ → ℕ → ℝ

/-- The chunk of trip `j`, and the trip of chunk `j`. -/
def turnChunk (r : Bool) (j : ℕ) : ℕ := bif r then j else 131 - j

theorem turnChunk_turnChunk (r : Bool) (j : ℕ) (hj : j ≤ 131) : turnChunk r (turnChunk r j) = j := by
  cases r
  · exact Nat.sub_sub_self hj
  · rfl

theorem turnChunk_lt (r : Bool) (j : ℕ) (hj : j < 132) : turnChunk r j < 132 := by
  cases r
  · show 131 - j < 132
    omega
  · exact hj

namespace Data
variable (A : Data) (r : Bool)

/-- The rows of chunk `n`. -/
def rows (n : ℕ) : Rows where
  q t c := A.z (64 * n + t.val) c.val
  k t c := A.z (64 * n + t.val) (256 + c.val)
  P t c := A.P (64 * n + t.val) ((bif r then 256 else 0) + c.val)
  v t j := A.v (64 * n + t.val) j.val
  y t j := A.y (64 * n + t.val) j.val
  s h _ j c := A.s r n h j.val c.val

/-- Head `h` of chunk `n`, in the direction's time. -/
def chunk (n h : ℕ) (hh : h < 4) : Chunk := (A.rows r n).chunk r h hh

/-- The state cotangent before trip `j`. -/
def carry : ℕ → (h : ℕ) → h < 4 → Fin 128 → Fin 64 → ℝ
  | 0 => fun _ _ _ _ => 0
  | j + 1 => fun h hh => (A.chunk r (turnChunk r j) h hh).new (carry j h hh)

theorem mod_lt (n k : ℕ) (hk : 0 < k) : n % k < k := Nat.mod_lt n hk

/-- The gradient of the queries at row `a`, column `b`. -/
def dq (a b : ℕ) : ℝ :=
  (A.chunk r (a / 64) (b / 64 % 4) (mod_lt _ 4 (by decide))).dq
    (turn r ⟨a % 64, mod_lt _ 64 (by decide)⟩) ⟨b % 64, mod_lt _ 64 (by decide)⟩

/-- The gradient of the keys. -/
def dk (a b : ℕ) : ℝ :=
  (A.chunk r (a / 64) (b / 64 % 4) (mod_lt _ 4 (by decide))).dk
    (A.carry r (turnChunk r (a / 64)) (b / 64 % 4) (mod_lt _ 4 (by decide)))
    (turn r ⟨a % 64, mod_lt _ 64 (by decide)⟩) ⟨b % 64, mod_lt _ 64 (by decide)⟩

/-- The gradient of the values. -/
def dv (a b : ℕ) : ℝ :=
  (A.chunk r (a / 64) (b / 128 % 4) (mod_lt _ 4 (by decide))).dv
    (A.carry r (turnChunk r (a / 64)) (b / 128 % 4) (mod_lt _ 4 (by decide)))
    (turn r ⟨a % 64, mod_lt _ 64 (by decide)⟩) ⟨b % 128, mod_lt _ 128 (by decide)⟩

/-- The gradient of the gate's logits. -/
def dP (a b : ℕ) : ℝ :=
  (A.chunk r (a / 64) (b / 64 % 4) (mod_lt _ 4 (by decide))).dP
    (A.carry r (turnChunk r (a / 64)) (b / 64 % 4) (mod_lt _ 4 (by decide)))
    (turn r ⟨a % 64, mod_lt _ 64 (by decide)⟩) ⟨b % 64, mod_lt _ 64 (by decide)⟩

variable (a b n h : ℕ) (hh : h < 4) (t : Fin 64)

theorem dq_eq (c : Fin 64) (ha : a = 64 * n + t.val) (hb : b = 64 * h + c.val) :
    A.dq r a b = (A.chunk r n h hh).dq (turn r t) c := by
  obtain rfl : n = a / 64 := by omega
  obtain rfl : h = b / 64 % 4 := by omega
  obtain rfl : t = ⟨a % 64, mod_lt _ 64 (by decide)⟩ := Fin.ext (by show t.val = a % 64; omega)
  obtain rfl : c = ⟨b % 64, mod_lt _ 64 (by decide)⟩ := Fin.ext (by show c.val = b % 64; omega)
  rfl

theorem dk_eq (c : Fin 64) (ha : a = 64 * n + t.val) (hb : b = 64 * h + c.val) :
    A.dk r a b = (A.chunk r n h hh).dk (A.carry r (turnChunk r n) h hh) (turn r t) c := by
  obtain rfl : n = a / 64 := by omega
  obtain rfl : h = b / 64 % 4 := by omega
  obtain rfl : t = ⟨a % 64, mod_lt _ 64 (by decide)⟩ := Fin.ext (by show t.val = a % 64; omega)
  obtain rfl : c = ⟨b % 64, mod_lt _ 64 (by decide)⟩ := Fin.ext (by show c.val = b % 64; omega)
  rfl

theorem dP_eq (c : Fin 64) (ha : a = 64 * n + t.val) (hb : b = 64 * h + c.val) :
    A.dP r a b = (A.chunk r n h hh).dP (A.carry r (turnChunk r n) h hh) (turn r t) c := by
  obtain rfl : n = a / 64 := by omega
  obtain rfl : h = b / 64 % 4 := by omega
  obtain rfl : t = ⟨a % 64, mod_lt _ 64 (by decide)⟩ := Fin.ext (by show t.val = a % 64; omega)
  obtain rfl : c = ⟨b % 64, mod_lt _ 64 (by decide)⟩ := Fin.ext (by show c.val = b % 64; omega)
  rfl

theorem dv_eq (c : Fin 128) (ha : a = 64 * n + t.val) (hb : b = 128 * h + c.val) :
    A.dv r a b = (A.chunk r n h hh).dv (A.carry r (turnChunk r n) h hh) (turn r t) c := by
  obtain rfl : n = a / 64 := by omega
  obtain rfl : h = b / 128 % 4 := by omega
  obtain rfl : t = ⟨a % 64, mod_lt _ 64 (by decide)⟩ := Fin.ext (by show t.val = a % 64; omega)
  obtain rfl : c = ⟨b % 128, mod_lt _ 128 (by decide)⟩ := Fin.ext (by show c.val = b % 128; omega)
  rfl

end Data
end Cert.Gla
-- ==== Proof.DataIs.lean ====
module
public import proofs.«01_k».proof.Proof.Data

/-!
# The arguments hold the data
-/

@[expose] public section
noncomputable section
namespace Cert.Gla
open Idealize.ShloMosaic

/-- The eight arguments hold the data: every entry is a real, and no gate logit lies below −39. -/
structure Data.Is (A : Data) (zqk zv : FVec Ideal ⟨2, ![8448, 512]⟩ .f32) (zg : FVec Ideal ⟨2, ![8448, 128]⟩ .f32)
    (wg : FVec Ideal ⟨2, ![128, 512]⟩ .bf16) (bg : FVec Ideal ⟨2, ![1, 512]⟩ .f32) (y : FVec Ideal ⟨2, ![8448, 512]⟩ .f32)
    (sf sb : FVec Ideal ⟨4, ![132, 4, 128, 64]⟩ .f32) : Prop where
  z : ∀ a b, zqk (ix2 a b) = (A.z a.val b.val : EReal)
  v : ∀ a b, zv (ix2 a b) = (A.v a.val b.val : EReal)
  y : ∀ a b, y (ix2 a b) = (A.y a.val b.val : EReal)
  P : ∀ a b, (∑ l : Fin 128, zg (ix2 a l) * wg (ix2 l b)) + bg (ix2 0 b) = (A.P a.val b.val : EReal)
  sf : ∀ n h j c, sf (ix4 n h j c) = (A.s false n.val h.val j.val c.val : EReal)
  sb : ∀ n h j c, sb (ix4 n h j c) = (A.s true n.val h.val j.val c.val : EReal)
  big : ∀ a < 8448, ∀ b < 512, -39 ≤ A.P a b

end Cert.Gla
-- ==== Proof.Arr.lean ====
module
public import proofs.«01_k».proof.Proof.DataIs
public import Idealize.ShloMosaic.Lib.ValueIdx

/-!
# Real arrays as values of the programs
-/

@[expose] public section
noncomputable section
namespace Cert.Gla
open Idealize.ShloMosaic

/-- A real array as a value of the program's. -/
def asArr (w : ℕ) (f : ℕ → ℕ → ℝ) : FVec Ideal ⟨2, ![8448, w]⟩ .f32 := fun y => ((f (y 0).val (y 1).val : ℝ) : EReal)

theorem arr_of {w : ℕ} (X : FVec Ideal ⟨2, ![8448, w]⟩ .f32) (f : ℕ → ℕ → ℝ)
    (h : ∀ (a : Fin 8448) (b : Fin w), X (ix2 a b) = (f a.val b.val : EReal)) : X = asArr w f :=
  funext fun y => (congrArg X (eq_ix2 y)).trans (h (y 0) (y 1))

end Cert.Gla
-- ==== Proof.Pieces.lean ====
module

public import proofs.«01_k».proof.Proof.Chunk

/-!
# The stores of one grid step, as lists over its six chunks

A grid step handles six chunks in each direction. The lists of stores that its run leaves are stated
over the chunk functions: each chunk reads, head by head, the state cotangent the chunk before it
left, and stores the one it leaves.
-/

@[expose] public section

set_option maxRecDepth 16384

noncomputable section

namespace Cert.Gla

open Idealize.ShloMosaic Cert.KernelIdeal Cert.KernelIdeal.Gen

variable {F : FTy → Type} [FloatOps F]

theorem inb_rows256 (c : Nat) (hc : c < 6) : ∀ a, (![64 * c, 0] : Fin 2 → Nat) a + S64x256.size a ≤ S384x256.size a :=
  (by decide : ∀ c < 6, ∀ a, (![64 * c, 0] : Fin 2 → Nat) a + S64x256.size a ≤ S384x256.size a) c hc

theorem inb_rows512 (c : Nat) (hc : c < 6) : ∀ a, (![64 * c, 0] : Fin 2 → Nat) a + S64x512.size a ≤ S384x512.size a :=
  (by decide : ∀ c < 6, ∀ a, (![64 * c, 0] : Fin 2 → Nat) a + S64x512.size a ≤ S384x512.size a) c hc

theorem inb_rows128 (c : Nat) (hc : c < 6) : ∀ a, (![64 * c, 0] : Fin 2 → Nat) a + S64x128.size a ≤ S384x128.size a :=
  (by decide : ∀ c < 6, ∀ a, (![64 * c, 0] : Fin 2 → Nat) a + S64x128.size a ≤ S384x128.size a) c hc

theorem inb_state (c : Nat) (hc : c < 6) (h : Nat) (hh : h < 4) :
    ∀ a, (![c, h, 0, 0] : Fin 4 → Nat) a + S1x1x128x64.size a ≤ S6x4x128x64.size a :=
  (by decide : ∀ c < 6, ∀ h < 4, ∀ a, (![c, h, 0, 0] : Fin 4 → Nat) a + S1x1x128x64.size a ≤ S6x4x128x64.size a) c hc h hh

theorem inb_carry (h : Nat) (hh : h < 4) : ∀ a, (![h, 0, 0] : Fin 3 → Nat) a + S1x128x64.size a ≤ S4x128x64.size a :=
  (by decide : ∀ h < 4, ∀ a, (![h, 0, 0] : Fin 3 → Nat) a + S1x128x64.size a ≤ S4x128x64.size a) h hh

theorem inb_out (c : Nat) (hc : c < 6) (h : Nat) (hh : h < 4) :
    ∀ a, (![64 * c, 64 * h] : Fin 2 → Nat) a + S64x64.size a ≤ S384x256.size a :=
  (by decide : ∀ c < 6, ∀ h < 4, ∀ a, (![64 * c, 64 * h] : Fin 2 → Nat) a + S64x64.size a ≤ S384x256.size a) c hc h hh

theorem inb_outV (c : Nat) (hc : c < 6) (h : Nat) (hh : h < 4) :
    ∀ a, (![64 * c, 128 * h] : Fin 2 → Nat) a + S64x128.size a ≤ S384x512.size a :=
  (by decide : ∀ c < 6, ∀ h < 4, ∀ a, (![64 * c, 128 * h] : Fin 2 → Nat) a + S64x128.size a ≤ S384x512.size a) c hc h hh

/-- The place of head `h` in the carried state cotangent. -/
def slot (h : Nat) (hh : h < 4) : Rect S4x128x64 := Rect.unit ![h, 0, 0] S1x128x64.size (inb_carry h hh)

/-- One direction's staging buffers at a grid step, with their contents, and the shared gate weights. -/
structure Step (F : FTy → Type) [FloatOps F] where of ::
  r : Bool
  mq : Memref sig .tc .vmem S384x256 .f32
  hq : mq.IsWhole
  mk : Memref sig .tc .vmem S384x256 .f32
  hk : mk.IsWhole
  mv : Memref sig .tc .vmem S384x512 .f32
  hv : mv.IsWhole
  mz : Memref sig .tc .vmem S384x128 .f32
  hz : mz.IsWhole
  my : Memref sig .tc .vmem S384x512 .f32
  hy : my.IsWhole
  ms : Memref sig .tc .vmem S6x4x128x64 .f32
  hs : ms.IsWhole
  mwg : Memref sig .tc .vmem S128x512 .bf16
  hwg : mwg.IsWhole
  mbg : Memref sig .tc .vmem S1x512 .f32
  hbg : mbg.IsWhole
  q : Vec F S384x256 .f32
  k : Vec F S384x256 .f32
  v : Vec F S384x512 .f32
  z : Vec F S384x128 .f32
  y : Vec F S384x512 .f32
  s : Vec F S6x4x128x64 .f32
  wg : Vec F S128x512 .bf16
  bg : Vec F S1x512 .f32

namespace Step

variable (T : Step F)

/-- What chunk `c` of the step loads. -/
def block (c : Nat) (hc : c < 6) : Block F where
  r := T.r
  q := View.readAt (Elt F) T.mq.view (Rect.unit (s := S384x256) ![64 * c, 0] S64x256.size (inb_rows256 c hc)).toLoadRect (T.hq.unread T.q)
  k := View.readAt (Elt F) T.mk.view (Rect.unit (s := S384x256) ![64 * c, 0] S64x256.size (inb_rows256 c hc)).toLoadRect (T.hk.unread T.k)
  v := View.readAt (Elt F) T.mv.view (Rect.unit (s := S384x512) ![64 * c, 0] S64x512.size (inb_rows512 c hc)).toLoadRect (T.hv.unread T.v)
  z := View.readAt (Elt F) T.mz.view (Rect.unit (s := S384x128) ![64 * c, 0] S64x128.size (inb_rows128 c hc)).toLoadRect (T.hz.unread T.z)
  y := View.readAt (Elt F) T.my.view (Rect.unit (s := S384x512) ![64 * c, 0] S64x512.size (inb_rows512 c hc)).toLoadRect (T.hy.unread T.y)
  s h hh := View.readAt (Elt F) T.ms.view (Rect.unit (s := S6x4x128x64) ![c, h, 0, 0] S1x1x128x64.size (inb_state c hc h hh)).toLoadRect (T.hs.unread T.s)
  wg := View.readAt (Elt F) T.mwg.view (Rect.unit (s := S128x512) ![0, 0] S128x512.size inb_S128x512_S128x512_0_0).toLoadRect (T.hwg.unread T.wg)
  bg := View.readAt (Elt F) T.mbg.view (Rect.unit (s := S1x512) ![0, 0] S1x512.size inb_S1x512_S1x512_0_0).toLoadRect (T.hbg.unread T.bg)

/-- The chunk treated as the `u`-th of the step: the forward direction's chunks come last first, the
other's first first. -/
def nth (u : Nat) : Nat := match T.r with
  | false => 5 - u % 6
  | true => u % 6

theorem nth_lt (u : Nat) : T.nth u < 6 := by
  unfold nth; split <;> omega

def blockAt (u : Nat) : Block F := T.block (T.nth u) (T.nth_lt u)

end Step

theorem head_lt (n : Nat) : n % 4 < 4 := Nat.mod_lt n (by decide)

namespace Step

variable (T : Step F)

/-- The stores into the carried scratch after `n` of the step's 24 heads, over the stores `L`. In the
    first chunk a head's cotangent is loaded as `ld₀` says; later it is read from the stores so far. -/
def stores (m : Memref sig .tc .vmem S4x128x64 .f32)
    (ld₀ : List (View.Piece (Elt F) S4x128x64 .f32) → (h : Nat) → h < 4 → Vec F S1x128x64 .f32)
    (L : List (View.Piece (Elt F) S4x128x64 .f32)) : Nat → List (View.Piece (Elt F) S4x128x64 .f32)
  | 0 => L
  | n + 1 => ⟨slot (n % 4) (head_lt n),
      (T.blockAt (n / 4)).new (n % 4) (head_lt n)
        (bif Nat.blt n 4 then ld₀ (stores m ld₀ L n) (n % 4) (head_lt n)
         else View.readCov m.view (stores m ld₀ L n) (slot (n % 4) (head_lt n)).toLoadRect)⟩
      :: stores m ld₀ L n

/-- The cotangent head `n % 4` of chunk `n / 4` loads. -/
def loaded (m : Memref sig .tc .vmem S4x128x64 .f32)
    (ld₀ : List (View.Piece (Elt F) S4x128x64 .f32) → (h : Nat) → h < 4 → Vec F S1x128x64 .f32)
    (L : List (View.Piece (Elt F) S4x128x64 .f32)) (n : Nat) : Vec F S1x128x64 .f32 :=
  bif Nat.blt n 4 then ld₀ (T.stores m ld₀ L n) (n % 4) (head_lt n)
  else View.readCov m.view (T.stores m ld₀ L n) (slot (n % 4) (head_lt n)).toLoadRect

end Step

/-- The pieces `f 0 … f (n − 1)`, the last first. -/
def pile {α : Type*} (f : Nat → α) : Nat → List α
  | 0 => []
  | n + 1 => f n :: pile f n

namespace Step

variable (T : Step F) (D : Nat → Vec F S1x128x64 .f32)

def dqPiece (n : Nat) : View.Piece (Elt F) S384x256 .f32 :=
  ⟨Rect.unit ![64 * T.nth (n / 4), 64 * (n % 4)] S64x64.size (inb_out _ (T.nth_lt _) _ (head_lt n)),
    (T.blockAt (n / 4)).dq (n % 4) (head_lt n)⟩

def dkPiece (n : Nat) : View.Piece (Elt F) S384x256 .f32 :=
  ⟨Rect.unit ![64 * T.nth (n / 4), 64 * (n % 4)] S64x64.size (inb_out _ (T.nth_lt _) _ (head_lt n)),
    (T.blockAt (n / 4)).dk (n % 4) (head_lt n) (D n)⟩

def dvPiece (n : Nat) : View.Piece (Elt F) S384x512 .f32 :=
  ⟨Rect.unit ![64 * T.nth (n / 4), 128 * (n % 4)] S64x128.size (inb_outV _ (T.nth_lt _) _ (head_lt n)),
    (T.blockAt (n / 4)).dv (n % 4) (head_lt n) (D n)⟩

def dpPiece (u : Nat) : View.Piece (Elt F) S384x256 .f32 :=
  ⟨Rect.unit ![64 * T.nth u, 0] S64x256.size (inb_rows256 _ (T.nth_lt _)),
    (T.blockAt u).dp fun h _ => D (4 * u + h)⟩

end Step

end Cert.Gla
-- ==== Proof.Run.lean ====
module
public import proofs.«01_k».proof.Proof.Pieces

/-!
# What a grid step stores, over the chunk functions

A run of the body leaves ten lists of stores: four outputs for each direction and the two carried
scratches. They are the lists of `Pieces`, at the first point (`runA`: the scratches start at zero) and at
a later one (`runB`: they start as the point before left them). Both sides are the same operations, so the
kernel decides the equations by evaluating them.
-/

@[expose] public section
set_option maxRecDepth 16384
noncomputable section
namespace Cert.Gla
open Idealize.ShloMosaic Cert.KernelIdeal Cert.KernelIdeal.Gen
variable {F : FTy → Type} [FloatOps F]
variable (c : Dev nD) (i : grid0.Coords)
  (arg1 : Memref sig .tc .vmem S384x256 .f32) (harg1 : arg1.IsWhole)
  (arg2 : Memref sig .tc .vmem S384x256 .f32) (harg2 : arg2.IsWhole)
  (arg3 : Memref sig .tc .vmem S384x512 .f32) (harg3 : arg3.IsWhole)
  (arg4 : Memref sig .tc .vmem S384x128 .f32) (harg4 : arg4.IsWhole)
  (arg5 : Memref sig .tc .vmem S384x512 .f32) (harg5 : arg5.IsWhole)
  (arg6 : Memref sig .tc .vmem S6x4x128x64 .f32) (harg6 : arg6.IsWhole)
  (arg7 : Memref sig .tc .vmem S384x256 .f32) (harg7 : arg7.IsWhole)
  (arg8 : Memref sig .tc .vmem S384x256 .f32) (harg8 : arg8.IsWhole)
  (arg9 : Memref sig .tc .vmem S384x512 .f32) (harg9 : arg9.IsWhole)
  (arg10 : Memref sig .tc .vmem S384x128 .f32) (harg10 : arg10.IsWhole)
  (arg11 : Memref sig .tc .vmem S384x512 .f32) (harg11 : arg11.IsWhole)
  (arg12 : Memref sig .tc .vmem S6x4x128x64 .f32) (harg12 : arg12.IsWhole)
  (arg13 : Memref sig .tc .vmem S128x512 .bf16) (harg13 : arg13.IsWhole)
  (arg14 : Memref sig .tc .vmem S1x512 .f32) (harg14 : arg14.IsWhole)
  (arg15 : Memref sig .tc .vmem S384x256 .f32) (harg15 : arg15.IsWhole)
  (arg16 : Memref sig .tc .vmem S384x256 .f32) (harg16 : arg16.IsWhole)
  (arg17 : Memref sig .tc .vmem S384x512 .f32) (harg17 : arg17.IsWhole)
  (arg18 : Memref sig .tc .vmem S384x256 .f32) (harg18 : arg18.IsWhole)
  (arg19 : Memref sig .tc .vmem S384x256 .f32) (harg19 : arg19.IsWhole)
  (arg20 : Memref sig .tc .vmem S384x256 .f32) (harg20 : arg20.IsWhole)
  (arg21 : Memref sig .tc .vmem S384x512 .f32) (harg21 : arg21.IsWhole)
  (arg22 : Memref sig .tc .vmem S384x256 .f32) (harg22 : arg22.IsWhole)
  (arg23 : Memref sig .tc .vmem S4x128x64 .f32) (harg23 : arg23.IsWhole)
  (arg24 : Memref sig .tc .vmem S4x128x64 .f32) (harg24 : arg24.IsWhole)
  (x0 : Vec F S384x256 .f32) (x1 : Vec F S384x256 .f32) (x2 : Vec F S384x512 .f32) (x3 : Vec F S384x128 .f32) (x4 : Vec F S384x512 .f32) (x5 : Vec F S6x4x128x64 .f32) (x6 : Vec F S384x256 .f32) (x7 : Vec F S384x256 .f32) (x8 : Vec F S384x512 .f32) (x9 : Vec F S384x128 .f32) (x10 : Vec F S384x512 .f32) (x11 : Vec F S6x4x128x64 .f32) (x12 : Vec F S128x512 .bf16) (x13 : Vec F S1x512 .f32)
  (xs0 xs1 : Vec F S4x128x64 .f32)

/-- The forward direction's buffers. -/
def fwd : Step F := .of false arg1 harg1 arg2 harg2 arg3 harg3 arg4 harg4 arg5 harg5 arg6 harg6 arg13 harg13 arg14 harg14
  x0 x1 x2 x3 x4 x5 x12 x13

/-- The other direction's. -/
def bwd : Step F := .of true arg7 harg7 arg8 harg8 arg9 harg9 arg10 harg10 arg11 harg11 arg12 harg12 arg13 harg13 arg14 harg14
  x6 x7 x8 x9 x10 x11 x12 x13

theorem runA (hc0 : cond0_0 i) :
    let R := kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13
    let T := fwd arg1 harg1 arg2 harg2 arg3 harg3 arg4 harg4 arg5 harg5 arg6 harg6 arg13 harg13 arg14 harg14 x0 x1 x2 x3 x4 x5 x12 x13
    let U := bwd arg7 harg7 arg8 harg8 arg9 harg9 arg10 harg10 arg11 harg11 arg12 harg12 arg13 harg13 arg14 harg14 x6 x7 x8 x9 x10 x11 x12 x13
    R.1 = pile T.dqPiece 24
      ∧ R.2.1 = pile (T.dkPiece (T.loaded arg23 (fun L h hh => View.readCov arg23.view L (slot h hh).toLoadRect) [⟨Rect.unit ![0, 0, 0] S4x128x64.size inb_S4x128x64_S4x128x64_0_0_0, k0_pay2⟩])) 24
      ∧ R.2.2.1 = pile (T.dvPiece (T.loaded arg23 (fun L h hh => View.readCov arg23.view L (slot h hh).toLoadRect) [⟨Rect.unit ![0, 0, 0] S4x128x64.size inb_S4x128x64_S4x128x64_0_0_0, k0_pay2⟩])) 24
      ∧ R.2.2.2.1 = pile (T.dpPiece (T.loaded arg23 (fun L h hh => View.readCov arg23.view L (slot h hh).toLoadRect) [⟨Rect.unit ![0, 0, 0] S4x128x64.size inb_S4x128x64_S4x128x64_0_0_0, k0_pay2⟩])) 6
      ∧ R.2.2.2.2.1 = pile U.dqPiece 24
      ∧ R.2.2.2.2.2.1 = pile (U.dkPiece (U.loaded arg24 (fun L h hh => View.readCov arg24.view L (slot h hh).toLoadRect) [⟨Rect.unit ![0, 0, 0] S4x128x64.size inb_S4x128x64_S4x128x64_0_0_0, k0_pay3⟩])) 24
      ∧ R.2.2.2.2.2.2.1 = pile (U.dvPiece (U.loaded arg24 (fun L h hh => View.readCov arg24.view L (slot h hh).toLoadRect) [⟨Rect.unit ![0, 0, 0] S4x128x64.size inb_S4x128x64_S4x128x64_0_0_0, k0_pay3⟩])) 24
      ∧ R.2.2.2.2.2.2.2.1 = pile (U.dpPiece (U.loaded arg24 (fun L h hh => View.readCov arg24.view L (slot h hh).toLoadRect) [⟨Rect.unit ![0, 0, 0] S4x128x64.size inb_S4x128x64_S4x128x64_0_0_0, k0_pay3⟩])) 6
      ∧ R.2.2.2.2.2.2.2.2.1 = T.stores arg23 (fun L h hh => View.readCov arg23.view L (slot h hh).toLoadRect) [⟨Rect.unit ![0, 0, 0] S4x128x64.size inb_S4x128x64_S4x128x64_0_0_0, k0_pay2⟩] 24
      ∧ R.2.2.2.2.2.2.2.2.2.1 = U.stores arg24 (fun L h hh => View.readCov arg24.view L (slot h hh).toLoadRect) [⟨Rect.unit ![0, 0, 0] S4x128x64.size inb_S4x128x64_S4x128x64_0_0_0, k0_pay3⟩] 24 :=
  ⟨by sl_kernel_rfl, by sl_kernel_rfl, by sl_kernel_rfl, by sl_kernel_rfl, by sl_kernel_rfl, by sl_kernel_rfl, by sl_kernel_rfl, by sl_kernel_rfl, by sl_kernel_rfl, by sl_kernel_rfl⟩

theorem runB (hc0 : ¬cond0_0 i) :
    let R := kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1
    let T := fwd arg1 harg1 arg2 harg2 arg3 harg3 arg4 harg4 arg5 harg5 arg6 harg6 arg13 harg13 arg14 harg14 x0 x1 x2 x3 x4 x5 x12 x13
    let U := bwd arg7 harg7 arg8 harg8 arg9 harg9 arg10 harg10 arg11 harg11 arg12 harg12 arg13 harg13 arg14 harg14 x6 x7 x8 x9 x10 x11 x12 x13
    R.1 = pile T.dqPiece 24
      ∧ R.2.1 = pile (T.dkPiece (T.loaded arg23 (fun _ h hh => View.readAt (Elt F) arg23.view (slot h hh).toLoadRect (harg23.unread xs0)) [])) 24
      ∧ R.2.2.1 = pile (T.dvPiece (T.loaded arg23 (fun _ h hh => View.readAt (Elt F) arg23.view (slot h hh).toLoadRect (harg23.unread xs0)) [])) 24
      ∧ R.2.2.2.1 = pile (T.dpPiece (T.loaded arg23 (fun _ h hh => View.readAt (Elt F) arg23.view (slot h hh).toLoadRect (harg23.unread xs0)) [])) 6
      ∧ R.2.2.2.2.1 = pile U.dqPiece 24
      ∧ R.2.2.2.2.2.1 = pile (U.dkPiece (U.loaded arg24 (fun _ h hh => View.readAt (Elt F) arg24.view (slot h hh).toLoadRect (harg24.unread xs1)) [])) 24
      ∧ R.2.2.2.2.2.2.1 = pile (U.dvPiece (U.loaded arg24 (fun _ h hh => View.readAt (Elt F) arg24.view (slot h hh).toLoadRect (harg24.unread xs1)) [])) 24
      ∧ R.2.2.2.2.2.2.2.1 = pile (U.dpPiece (U.loaded arg24 (fun _ h hh => View.readAt (Elt F) arg24.view (slot h hh).toLoadRect (harg24.unread xs1)) [])) 6
      ∧ R.2.2.2.2.2.2.2.2.1 = T.stores arg23 (fun _ h hh => View.readAt (Elt F) arg23.view (slot h hh).toLoadRect (harg23.unread xs0)) [] 24
      ∧ R.2.2.2.2.2.2.2.2.2.1 = U.stores arg24 (fun _ h hh => View.readAt (Elt F) arg24.view (slot h hh).toLoadRect (harg24.unread xs1)) [] 24 :=
  ⟨by sl_kernel_rfl, by sl_kernel_rfl, by sl_kernel_rfl, by sl_kernel_rfl, by sl_kernel_rfl, by sl_kernel_rfl, by sl_kernel_rfl, by sl_kernel_rfl, by sl_kernel_rfl, by sl_kernel_rfl⟩

end Cert.Gla
-- ==== Proof.Carry.lean ====
module

public import proofs.«01_k».proof.Proof.Pieces

/-!
# What a grid step reads back of its own stores

The carried state cotangent of a head is read back, chunk after chunk, from the stores made so far: a
chunk reads what the chunk before it left. The four output blocks hold what their pieces say.
-/

@[expose] public section

set_option maxRecDepth 16384

noncomputable section

namespace Cert.Gla

open Idealize.ShloMosaic Cert.KernelIdeal Cert.KernelIdeal.Gen

variable {F : FTy → Type} [FloatOps F]

theorem mem_pile {α : Type*} (f : Nat → α) (a : α) : ∀ n, a ∈ pile f n ↔ ∃ k < n, a = f k
  | 0 => by simp [pile]
  | n + 1 => by
    rw [pile, List.mem_cons, mem_pile f a n]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.mp hk with h | rfl
      · exact .inr ⟨k, h, rfl⟩
      · exact .inl rfl

/-- A block filled by a pile of pieces that all agree with `G` is `G` wherever a piece lies. -/
theorem canon_pile {S : Shape} {e : EltTy} (G : S.Idx → Elt F e) (f : Nat → View.Piece (Elt F) S e) (n : Nat)
    (hf : ∀ k < n, ∀ x : (f k).1.shape.Idx, (f k).2 x = G ((f k).1.emb x)) (y : S.Idx)
    (hy : ∃ k < n, y ∈ (f k).1.set) : View.canon (pile f n) y = G y := by
  refine View.canon_apply_of_pieces G _ (fun p hp x => ?_) y ?_
  · obtain ⟨k, hk, rfl⟩ := (mem_pile f p n).mp hp
    exact hf k hk x
  · obtain ⟨k, hk, h⟩ := hy
    exact ⟨f k, (mem_pile f _ n).mpr ⟨k, hk, rfl⟩, h⟩

theorem slot_not_mem (h h' : Nat) (hh : h < 4) (hh' : h' < 4) (hne : h ≠ h') (x : S1x128x64.Idx) :
    (slot h hh).emb x ∉ (slot h' hh').set := by
  intro hm
  have h0 := (Rect.mem_set_unit.mp hm) 0
  have hx : ((slot h hh).emb x 0).val = h + (x 0).val := congrArg (h + ·) (Nat.one_mul _)
  have hx0 : (x 0).val < 1 := (x 0).isLt
  rw [hx] at h0
  have h1 : h' ≤ h + (x 0).val := h0.1
  have h2 : h + (x 0).val < h' + 1 := h0.2
  omega

namespace Step

variable (T : Step F) (m : Memref sig .tc .vmem S4x128x64 .f32)
  (ld₀ : List (View.Piece (Elt F) S4x128x64 .f32) → (h : Nat) → h < 4 → Vec F S1x128x64 .f32)
  (L : List (View.Piece (Elt F) S4x128x64 .f32))

theorem stores_succ (n : Nat) : T.stores m ld₀ L (n + 1)
    = ⟨slot (n % 4) (head_lt n), (T.blockAt (n / 4)).new (n % 4) (head_lt n) (T.loaded m ld₀ L n)⟩
      :: T.stores m ld₀ L n := rfl

/-- A store is read back at its own head; -/
theorem canon_stores_hit (n : Nat) (x : S1x128x64.Idx) :
    View.canon (T.stores m ld₀ L (n + 1)) ((slot (n % 4) (head_lt n)).emb x)
      = (T.blockAt (n / 4)).new (n % 4) (head_lt n) (T.loaded m ld₀ L n) x := by
  rw [T.stores_succ m ld₀ L n]
  generalize (T.blockAt (n / 4)).new (n % 4) (head_lt n) (T.loaded m ld₀ L n) = w
  exact View.canon_cons_emb (Val := Elt F) (e := .f32) (slot (n % 4) (head_lt n)) w _ x

/-- another head keeps what it held. -/
theorem canon_stores_skip (n h : Nat) (hh : h < 4) (hne : h ≠ n % 4) (x : S1x128x64.Idx) :
    View.canon (T.stores m ld₀ L (n + 1)) ((slot h hh).emb x)
      = View.canon (T.stores m ld₀ L n) ((slot h hh).emb x) := by
  rw [T.stores_succ m ld₀ L n]
  exact View.canon_cons_of_not_mem (Val := Elt F) _ _ (slot_not_mem h (n % 4) hh (head_lt n) hne x)

/-- Before its first store a head holds what it held at the start. -/
theorem canon_stores_first (h : Nat) (hh : h < 4) (x : S1x128x64.Idx) : ∀ n ≤ h,
    View.canon (T.stores m ld₀ L n) ((slot h hh).emb x) = View.canon L ((slot h hh).emb x)
  | 0, _ => rfl
  | n + 1, hn => by
    rw [T.canon_stores_skip m ld₀ L n h hh (by omega) x]
    exact canon_stores_first h hh x n (by omega)

/-- After the heads that follow it, a store is still there. -/
theorem canon_stores_four (n : Nat) (x : S1x128x64.Idx) :
    View.canon (T.stores m ld₀ L (n + 4)) ((slot (n % 4) (head_lt n)).emb x)
      = (T.blockAt (n / 4)).new (n % 4) (head_lt n) (T.loaded m ld₀ L n) x := by
  rw [T.canon_stores_skip m ld₀ L (n + 3) _ _ (by omega) x, T.canon_stores_skip m ld₀ L (n + 2) _ _ (by omega) x,
    T.canon_stores_skip m ld₀ L (n + 1) _ _ (by omega) x, T.canon_stores_hit m ld₀ L n x]

theorem loaded_first (n : Nat) (hn : n < 4) :
    T.loaded m ld₀ L n = ld₀ (T.stores m ld₀ L n) (n % 4) (head_lt n) := by
  unfold loaded
  rw [show Nat.blt n 4 = true from Nat.ble_eq.mpr hn]
  rfl

/-- A later chunk reads what the chunk before it left of the head. -/
theorem loaded_next (n : Nat) (x : S1x128x64.Idx) :
    T.loaded m ld₀ L (n + 4) x = (T.blockAt (n / 4)).new (n % 4) (head_lt n) (T.loaded m ld₀ L n) x := by
  have h4 : Nat.blt (n + 4) 4 = false := by
    cases hb : Nat.blt (n + 4) 4 with
    | false => rfl
    | true => exact absurd (Nat.le_of_ble_eq_true hb) (by omega)
  have e : T.loaded m ld₀ L (n + 4)
      = View.readCov m.view (T.stores m ld₀ L (n + 4)) (slot ((n + 4) % 4) (head_lt (n + 4))).toLoadRect := by
    unfold loaded
    rw [h4]
    rfl
  rw [e, View.readCov_eq_canon' (Val := Elt F), ← T.canon_stores_four m ld₀ L n x]
  generalize View.canon (T.stores m ld₀ L (n + 4)) = C
  have h : (n + 4) % 4 = n % 4 := by omega
  have : ∀ (h h' : Nat) (e : h = h') (hh : h < 4) (hh' : h' < 4),
      C ((slot h hh).toLoadRect.idx x) = C ((slot h' hh').emb x) := by
    intro h h' e hh hh'
    subst e
    rfl
  exact this _ _ h _ _

end Step

end Cert.Gla
-- ==== Proof.Point.lean ====
module
public import proofs.«01_k».proof.Proof.Run
public import proofs.«01_k».proof.Proof.Carry
public import proofs.«01_k».proof.Proof.Gen.KernelIdeal.Frame
public import Idealize.ShloMosaic.Lib.WholeRead

/-!
# What a grid point leaves

`Left T C o₁ o₂ o₃ o₄ C'`: from the state cotangents `C`, the step `T` leaves the four outputs `o₁ … o₄`
and the cotangents `C'`. Each of the step's 24 heads loads a cotangent: the first four load `C`, and each
later one loads what the same head of the chunk before it made. At every grid point both directions do
this, from zero at the first point and from what the point before left at a later one.
-/

@[expose] public section
set_option maxRecDepth 16384
noncomputable section
namespace Cert.Gla
open Idealize.ShloMosaic Idealize.ShloMosaic.TcCoe Cert.KernelIdeal Cert.KernelIdeal.Gen
variable {F : FTy → Type} [FloatOps F]

/-- What one step leaves of one direction, from the cotangents `C`. -/
def Left (T : Step F) (C : Vec F S4x128x64 .f32) (o₁ o₂ : Vec F S384x256 .f32) (o₃ : Vec F S384x512 .f32)
    (o₄ : Vec F S384x256 .f32) (C' : Vec F S4x128x64 .f32) : Prop :=
  ∃ D : Nat → Vec F S1x128x64 .f32,
    (∀ n (_ : n < 4) x, D n x = C ((slot (n % 4) (head_lt n)).emb x))
      ∧ (∀ n x, D (n + 4) x = (T.blockAt (n / 4)).new (n % 4) (head_lt n) (D n) x)
      ∧ (∀ n x, n / 4 = 5 → C' ((slot (n % 4) (head_lt n)).emb x) = (T.blockAt 5).new (n % 4) (head_lt n) (D n) x)
      ∧ o₁ = View.canon (Val := Elt F) (pile T.dqPiece 24)
      ∧ o₂ = View.canon (Val := Elt F) (pile (T.dkPiece D) 24)
      ∧ o₃ = View.canon (Val := Elt F) (pile (T.dvPiece D) 24)
      ∧ o₄ = View.canon (Val := Elt F) (pile (T.dpPiece D) 6)

variable (T : Step F) (m : Memref sig .tc .vmem S4x128x64 .f32)
  (ld₀ : List (View.Piece (Elt F) S4x128x64 .f32) → (h : Nat) → h < 4 → Vec F S1x128x64 .f32)
  (L : List (View.Piece (Elt F) S4x128x64 .f32)) (C : Vec F S4x128x64 .f32)

/-- A head's last store is still there at the end. -/
theorem Step.canon_stores_after (n : Nat) (x : S1x128x64.Idx) : ∀ k < 4,
    View.canon (T.stores m ld₀ L (n + 1 + k)) ((slot (n % 4) (head_lt n)).emb x)
      = (T.blockAt (n / 4)).new (n % 4) (head_lt n) (T.loaded m ld₀ L n) x
  | 0, _ => T.canon_stores_hit m ld₀ L n x
  | k + 1, hk => (T.canon_stores_skip m ld₀ L (n + 1 + k) _ (head_lt n) (by omega) x).trans
      (Step.canon_stores_after n x k (by omega))

/-- The stores of one direction leave this, once the first four loads are known. -/
theorem left_of (hfirst : ∀ n (_ : n < 4) x, T.loaded m ld₀ L n x = C ((slot (n % 4) (head_lt n)).emb x)) :
    Left T C (View.canon (pile T.dqPiece 24)) (View.canon (pile (T.dkPiece (T.loaded m ld₀ L)) 24))
      (View.canon (pile (T.dvPiece (T.loaded m ld₀ L)) 24)) (View.canon (pile (T.dpPiece (T.loaded m ld₀ L)) 6))
      (View.canon (T.stores m ld₀ L 24)) := by
  refine ⟨T.loaded m ld₀ L, hfirst, T.loaded_next m ld₀ L, fun n x hn => ?_, rfl, rfl, rfl, rfl⟩
  have h := T.canon_stores_after m ld₀ L n x (23 - n) (by omega)
  rw [show n + 1 + (23 - n) = 24 by omega, hn] at h
  exact h

theorem left_cast {T : Step F} {C : Vec F S4x128x64 .f32} {o₁ o₂ p₁ p₂ : Vec F S384x256 .f32} {o₃ p₃ : Vec F S384x512 .f32}
    {o₄ p₄ : Vec F S384x256 .f32} {C' E : Vec F S4x128x64 .f32} (h₁ : o₁ = p₁) (h₂ : o₂ = p₂) (h₃ : o₃ = p₃)
    (h₄ : o₄ = p₄) (h₅ : C' = E) (h : Left T C p₁ p₂ p₃ p₄ E) : Left T C o₁ o₂ o₃ o₄ C' := by
  subst h₁ h₂ h₃ h₄ h₅
  exact h

/-- At the first point the loads read the zeros stored before them; -/
theorem firstA (k : Vec F S4x128x64 .f32) (n : Nat) (hn : n < 4) (x : S1x128x64.Idx) :
    T.loaded m (fun L h hh => View.readCov m.view L (slot h hh).toLoadRect)
      [⟨Rect.unit ![0, 0, 0] S4x128x64.size inb_S4x128x64_S4x128x64_0_0_0, k⟩] n x
      = k ((slot (n % 4) (head_lt n)).emb x) := by
  refine (congrFun (T.loaded_first m _ _ n hn) x).trans ?_
  refine (congrFun (View.readCov_eq_canon' (Val := Elt F) m.view _ (slot (n % 4) (head_lt n)).toLoadRect) x).trans ?_
  refine (T.canon_stores_first m _ _ (n % 4) (head_lt n) x n (by omega)).trans ?_
  exact congrFun (View.canon_cons_unit_zero (Val := Elt F) (e := .f32) (by decide) _ _ _) _

/-- at a later point they read what the point before left. -/
theorem firstB (hm : m.IsWhole) (k : Vec F S4x128x64 .f32) (n : Nat) (hn : n < 4) (x : S1x128x64.Idx) :
    T.loaded m (fun _ h hh => View.readAt (Elt F) m.view (slot h hh).toLoadRect (hm.unread k)) [] n x
      = k ((slot (n % 4) (head_lt n)).emb x) := by
  refine (congrFun (T.loaded_first m _ _ n hn) x).trans ?_
  exact Memref.IsWhole.readAt_unread hm k (slot (n % 4) (head_lt n)).toLoadRect x

section
variable (c : Dev nD) (i : grid0.Coords)
  (arg1 : Memref sig .tc .vmem S384x256 .f32) (harg1 : arg1.IsWhole)
  (arg2 : Memref sig .tc .vmem S384x256 .f32) (harg2 : arg2.IsWhole)
  (arg3 : Memref sig .tc .vmem S384x512 .f32) (harg3 : arg3.IsWhole)
  (arg4 : Memref sig .tc .vmem S384x128 .f32) (harg4 : arg4.IsWhole)
  (arg5 : Memref sig .tc .vmem S384x512 .f32) (harg5 : arg5.IsWhole)
  (arg6 : Memref sig .tc .vmem S6x4x128x64 .f32) (harg6 : arg6.IsWhole)
  (arg7 : Memref sig .tc .vmem S384x256 .f32) (harg7 : arg7.IsWhole)
  (arg8 : Memref sig .tc .vmem S384x256 .f32) (harg8 : arg8.IsWhole)
  (arg9 : Memref sig .tc .vmem S384x512 .f32) (harg9 : arg9.IsWhole)
  (arg10 : Memref sig .tc .vmem S384x128 .f32) (harg10 : arg10.IsWhole)
  (arg11 : Memref sig .tc .vmem S384x512 .f32) (harg11 : arg11.IsWhole)
  (arg12 : Memref sig .tc .vmem S6x4x128x64 .f32) (harg12 : arg12.IsWhole)
  (arg13 : Memref sig .tc .vmem S128x512 .bf16) (harg13 : arg13.IsWhole)
  (arg14 : Memref sig .tc .vmem S1x512 .f32) (harg14 : arg14.IsWhole)
  (arg15 : Memref sig .tc .vmem S384x256 .f32) (harg15 : arg15.IsWhole)
  (arg16 : Memref sig .tc .vmem S384x256 .f32) (harg16 : arg16.IsWhole)
  (arg17 : Memref sig .tc .vmem S384x512 .f32) (harg17 : arg17.IsWhole)
  (arg18 : Memref sig .tc .vmem S384x256 .f32) (harg18 : arg18.IsWhole)
  (arg19 : Memref sig .tc .vmem S384x256 .f32) (harg19 : arg19.IsWhole)
  (arg20 : Memref sig .tc .vmem S384x256 .f32) (harg20 : arg20.IsWhole)
  (arg21 : Memref sig .tc .vmem S384x512 .f32) (harg21 : arg21.IsWhole)
  (arg22 : Memref sig .tc .vmem S384x256 .f32) (harg22 : arg22.IsWhole)
  (arg23 : Memref sig .tc .vmem S4x128x64 .f32) (harg23 : arg23.IsWhole)
  (arg24 : Memref sig .tc .vmem S4x128x64 .f32) (harg24 : arg24.IsWhole)
  (x0 : Vec F S384x256 .f32) (x1 : Vec F S384x256 .f32) (x2 : Vec F S384x512 .f32) (x3 : Vec F S384x128 .f32) (x4 : Vec F S384x512 .f32) (x5 : Vec F S6x4x128x64 .f32) (x6 : Vec F S384x256 .f32) (x7 : Vec F S384x256 .f32) (x8 : Vec F S384x512 .f32) (x9 : Vec F S384x128 .f32) (x10 : Vec F S384x512 .f32) (x11 : Vec F S6x4x128x64 .f32) (x12 : Vec F S128x512 .bf16) (x13 : Vec F S1x512 .f32)
  (xs0 xs1 : Vec F S4x128x64 .f32)

/-- The forward direction at the first point, -/
theorem fwdA (hc0 : cond0_0 i) :
    Left (fwd arg1 harg1 arg2 harg2 arg3 harg3 arg4 harg4 arg5 harg5 arg6 harg6 arg13 harg13 arg14 harg14 x0 x1 x2 x3 x4 x5 x12 x13) k0_pay2
      (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13) := by
  have R := runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 hc0
  have e1 := (View.read_writes_junk_eq_canon (Val := Elt F) VO0_14 _).trans (congrArg (View.canon (Val := Elt F)) R.1)
  have e2 := (View.read_writes_junk_eq_canon (Val := Elt F) VO0_15 _).trans (congrArg (View.canon (Val := Elt F)) R.2.1)
  have e3 := (View.read_writes_junk_eq_canon (Val := Elt F) VO0_16 _).trans (congrArg (View.canon (Val := Elt F)) R.2.2.1)
  have e4 := (View.read_writes_junk_eq_canon (Val := Elt F) VO0_17 _).trans (congrArg (View.canon (Val := Elt F)) R.2.2.2.1)
  have e5 := (View.read_writes_junk_eq_canon (Val := Elt F) VS0_0 _).trans (congrArg (View.canon (Val := Elt F)) R.2.2.2.2.2.2.2.2.1)
  exact left_cast e1 e2 e3 e4 e5 (left_of _ _ _ _ _ (firstA _ _ _))

theorem bwdA (hc0 : cond0_0 i) :
    Left (bwd arg7 harg7 arg8 harg8 arg9 harg9 arg10 harg10 arg11 harg11 arg12 harg12 arg13 harg13 arg14 harg14 x6 x7 x8 x9 x10 x11 x12 x13) k0_pay3
      (out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)
      (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13) := by
  have R := runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 hc0
  have e1 := (View.read_writes_junk_eq_canon (Val := Elt F) VO0_18 _).trans (congrArg (View.canon (Val := Elt F)) R.2.2.2.2.1)
  have e2 := (View.read_writes_junk_eq_canon (Val := Elt F) VO0_19 _).trans (congrArg (View.canon (Val := Elt F)) R.2.2.2.2.2.1)
  have e3 := (View.read_writes_junk_eq_canon (Val := Elt F) VO0_20 _).trans (congrArg (View.canon (Val := Elt F)) R.2.2.2.2.2.2.1)
  have e4 := (View.read_writes_junk_eq_canon (Val := Elt F) VO0_21 _).trans (congrArg (View.canon (Val := Elt F)) R.2.2.2.2.2.2.2.1)
  have e5 := (View.read_writes_junk_eq_canon (Val := Elt F) VS0_1 _).trans (congrArg (View.canon (Val := Elt F)) R.2.2.2.2.2.2.2.2.2)
  exact left_cast e1 e2 e3 e4 e5 (left_of _ _ _ _ _ (firstA _ _ _))

/-- and at a later one. -/
theorem fwdB (hc0 : ¬cond0_0 i) :
    Left (fwd arg1 harg1 arg2 harg2 arg3 harg3 arg4 harg4 arg5 harg5 arg6 harg6 arg13 harg13 arg14 harg14 x0 x1 x2 x3 x4 x5 x12 x13) xs0
      (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1) := by
  have R := runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 xs0 xs1 hc0
  have e1 := (View.read_writes_junk_eq_canon (Val := Elt F) VO0_14 _).trans (congrArg (View.canon (Val := Elt F)) R.1)
  have e2 := (View.read_writes_junk_eq_canon (Val := Elt F) VO0_15 _).trans (congrArg (View.canon (Val := Elt F)) R.2.1)
  have e3 := (View.read_writes_junk_eq_canon (Val := Elt F) VO0_16 _).trans (congrArg (View.canon (Val := Elt F)) R.2.2.1)
  have e4 := (View.read_writes_junk_eq_canon (Val := Elt F) VO0_17 _).trans (congrArg (View.canon (Val := Elt F)) R.2.2.2.1)
  have e5 := (View.read_writes_junk_eq_canon (Val := Elt F) VS0_0 _).trans (congrArg (View.canon (Val := Elt F)) R.2.2.2.2.2.2.2.2.1)
  exact left_cast e1 e2 e3 e4 e5 (left_of _ _ _ _ _ (firstB _ _ _ _))

theorem bwdB (hc0 : ¬cond0_0 i) :
    Left (bwd arg7 harg7 arg8 harg8 arg9 harg9 arg10 harg10 arg11 harg11 arg12 harg12 arg13 harg13 arg14 harg14 x6 x7 x8 x9 x10 x11 x12 x13) xs1
      (out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1)
      (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1) := by
  have R := runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 xs0 xs1 hc0
  have e1 := (View.read_writes_junk_eq_canon (Val := Elt F) VO0_18 _).trans (congrArg (View.canon (Val := Elt F)) R.2.2.2.2.1)
  have e2 := (View.read_writes_junk_eq_canon (Val := Elt F) VO0_19 _).trans (congrArg (View.canon (Val := Elt F)) R.2.2.2.2.2.1)
  have e3 := (View.read_writes_junk_eq_canon (Val := Elt F) VO0_20 _).trans (congrArg (View.canon (Val := Elt F)) R.2.2.2.2.2.2.1)
  have e4 := (View.read_writes_junk_eq_canon (Val := Elt F) VO0_21 _).trans (congrArg (View.canon (Val := Elt F)) R.2.2.2.2.2.2.2.1)
  have e5 := (View.read_writes_junk_eq_canon (Val := Elt F) VS0_1 _).trans (congrArg (View.canon (Val := Elt F)) R.2.2.2.2.2.2.2.2.2)
  exact left_cast e1 e2 e3 e4 e5 (left_of _ _ _ _ _ (firstB _ _ _ _))

end

variable (m : (ℓ : Loc nD τ sig) → Buf (Elt F) ℓ) (c : Dev nD) (t : Fin cfg0.N)

/-- The forward direction's step at grid point `t`. -/
def fwdAt : Step F := fwd (ms0_0 t) (hs0_0 t) (ms0_1 t) (hs0_1 t) (ms0_2 t) (hs0_2 t) (ms0_3 t) (hs0_3 t) (ms0_4 t) (hs0_4 t) (ms0_5 t) (hs0_5 t) (ms0_12 t) (hs0_12 t) (ms0_13 t) (hs0_13 t) (iblk m c 0 t) (iblk m c 1 t) (iblk m c 2 t) (iblk m c 3 t) (iblk m c 4 t) (iblk m c 5 t) (iblk m c 12 t) (iblk m c 13 t)

/-- The other direction's. -/
def bwdAt : Step F := bwd (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t) (iblk m c 8 t) (iblk m c 9 t) (iblk m c 10 t) (iblk m c 11 t) (iblk m c 12 t) (iblk m c 13 t)

/-- The first point starts from zero; -/
theorem pointA (h0 : t.val % 22 = 0) :
    Left (fwdAt m c t) k0_pay2 (outsAt0 m c t.val t.isLt).1 (outsAt0 m c t.val t.isLt).2.1 (outsAt0 m c t.val t.isLt).2.2.1
        (outsAt0 m c t.val t.isLt).2.2.2.1 (outsAt0 m c t.val t.isLt).2.2.2.2.2.2.2.2.1
      ∧ Left (bwdAt m c t) k0_pay3 (outsAt0 m c t.val t.isLt).2.2.2.2.1 (outsAt0 m c t.val t.isLt).2.2.2.2.2.1
        (outsAt0 m c t.val t.isLt).2.2.2.2.2.2.1 (outsAt0 m c t.val t.isLt).2.2.2.2.2.2.2.1 (outsAt0 m c t.val t.isLt).2.2.2.2.2.2.2.2.2 := by
  rw [outsAt0_A m c t h0]
  have h := fwdA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0)
  have h' := bwdA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0)
  dsimp only
  exact ⟨h, h'⟩

/-- a later one from what the point before left. -/
theorem pointB (h0 : ¬t.val % 22 = 0) :
    Left (fwdAt m c t) (outsAt0 m c (t.val - 1) (Nat.lt_of_le_of_lt (Nat.sub_le _ _) t.isLt)).2.2.2.2.2.2.2.2.1 (outsAt0 m c t.val t.isLt).1 (outsAt0 m c t.val t.isLt).2.1 (outsAt0 m c t.val t.isLt).2.2.1
        (outsAt0 m c t.val t.isLt).2.2.2.1 (outsAt0 m c t.val t.isLt).2.2.2.2.2.2.2.2.1
      ∧ Left (bwdAt m c t) (outsAt0 m c (t.val - 1) (Nat.lt_of_le_of_lt (Nat.sub_le _ _) t.isLt)).2.2.2.2.2.2.2.2.2 (outsAt0 m c t.val t.isLt).2.2.2.2.1 (outsAt0 m c t.val t.isLt).2.2.2.2.2.1
        (outsAt0 m c t.val t.isLt).2.2.2.2.2.2.1 (outsAt0 m c t.val t.isLt).2.2.2.2.2.2.2.1 (outsAt0 m c t.val t.isLt).2.2.2.2.2.2.2.2.2 := by
  rw [outsAt0_B m c t h0]
  have h := fwdB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (fun h => h0 ((hcond0_0 t).mp h))
  have h' := bwdB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (fun h => h0 ((hcond0_0 t).mp h))
  dsimp only
  exact ⟨h, h'⟩

end Cert.Gla
-- ==== Proof.ChunkHead.lean ====
module

public import proofs.«01_k».proof.Proof.ChunkReal

/-!
# A head's cotangents in the kernel's chunk

The kernel splits a pair's decay at the middle of the chunk; the two halves multiply to the decay itself,
so the head's four cotangents and the state's new cotangent are those of `Chunk`.
-/

@[expose] public section

set_option maxRecDepth 16384

noncomputable section

namespace Cert.Gla

open Idealize.ShloMosaic Cert.KernelIdeal Cert.KernelIdeal.Gen

theorem mask_apply (r : Bool) (t s : Fin 64) (x y : EReal) :
    Scalar.select (mask r (ix2 (turn r t) (turn r s))) x y = if s < t ∨ (r = false ∧ s = t) then x else y := by
  cases r
  · pointwise [mask, turn]
    rw [WordCmp.cmpi_sle_ofNat (by omega) (by omega), select_bool]
    refine if_congr ?_ rfl rfl
    rw [← Fin.le_def, le_iff_lt_or_eq]
  · pointwise [mask, turn]
    rw [WordCmp.cmpi_sgt_ofNat (by omega) (by omega), select_bool]
    refine if_congr ?_ rfl rfl
    rw [← Fin.lt_def, Fin.rev_lt_rev]
    simp

namespace Block.Is

variable {B : Block Ideal} {R : Rows} (H : B.Is R) (h : Nat) (hh : h < 4)
include H

theorem qb (t c : Fin 64) : B.qb h hh (ix2 (turn B.r t) c)
    = (((R.chunk B.r h hh).q t c * Real.exp ((R.chunk B.r h hh).b t c) : ℝ) : EReal) := by
  pointwise [Block.qb, head]
  rw [H.qs h hh, H.eb h hh, ← EReal.coe_mul]

theorem ke (t c : Fin 64) : B.ke h hh (ix2 (turn B.r t) c)
    = (((R.chunk B.r h hh).k t c * Real.exp ((R.chunk B.r h hh).bl c - (R.chunk B.r h hh).b t c) : ℝ) : EReal) := by
  pointwise [Block.ke, head]
  rw [H.k, H.ek h hh, ← EReal.coe_mul]
  rfl

theorem qm (t c : Fin 64) : B.qm h hh (ix2 (turn B.r t) c)
    = (((R.chunk B.r h hh).q t c
        * Real.exp ((R.chunk B.r h hh).b t c - (R.chunk B.r h hh).b (turn B.r 32) c) : ℝ) : EReal) := by
  pointwise [Block.qm, head]
  rw [H.qs h hh, H.eqm h hh, ← EReal.coe_mul]

theorem km (t c : Fin 64) : B.km h hh (ix2 (turn B.r t) c)
    = (((R.chunk B.r h hh).k t c
        * Real.exp ((R.chunk B.r h hh).b (turn B.r 32) c - (R.chunk B.r h hh).b t c) : ℝ) : EReal) := by
  pointwise [Block.km, head]
  rw [H.k, H.ekm h hh, ← EReal.coe_mul]
  rfl

theorem hv (t : Fin 64) (j : Fin 128) : headV (F := Ideal) h hh B.v (ix2 (turn B.r t) j) = ((R.chunk B.r h hh).v t j : EReal) := by
  pointwise [headV]
  rw [H.v]
  rfl

theorem hy (t : Fin 64) (j : Fin 128) : headV (F := Ideal) h hh B.y (ix2 (turn B.r t) j) = ((R.chunk B.r h hh).y t j : EReal) := by
  pointwise [headV]
  rw [H.y]
  rfl

theorem a (t s : Fin 64) : B.a h hh (ix2 (turn B.r t) (turn B.r s)) = ((R.chunk B.r h hh).A t s : EReal) := by
  pointwise [Block.a, bits]
  rw [mask_apply]
  simp only [H.qm h hh, H.km h hh, ← EReal.coe_mul, ← coe_sum]
  rw [coe_ite]
  exact congrArg _ ((R.chunk B.r h hh).A_split (fun c => (R.chunk B.r h hh).b (turn B.r 32) c) t s)

theorem da (t s : Fin 64) : B.da h hh (ix2 (turn B.r t) (turn B.r s))
    = ((if (R.chunk B.r h hh).M t s then (R.chunk B.r h hh).dA t s else 0 : ℝ) : EReal) := by
  pointwise [Block.da, bits]
  rw [mask_apply]
  simp only [H.hv h hh, H.hy h hh, ← EReal.coe_mul, ← coe_sum]
  rw [coe_ite]
  rfl

theorem st (j : Fin 128) (c : Fin 64) : B.st h hh (ix2 j c) = ((R.chunk B.r h hh).S j c : EReal) := by
  pointwise [Block.st]
  exact H.s h hh j c

theorem elh (j : Fin 128) (c : Fin 64) : B.elh h hh (ix2 j c) = (Real.exp ((R.chunk B.r h hh).bl c) : EReal) := by
  pointwise [Block.elh]
  exact H.el h hh c

theorem dq (t c : Fin 64) : B.dq h hh (ix2 (turn B.r t) c) = ((R.chunk B.r h hh).dq t c : EReal) := by
  pointwise [Block.dq, head]
  rw [sum_turn B.r]
  simp only [H.da h hh, H.km h hh, H.eqm h hh, H.hy h hh, H.st h hh, H.eb h hh, ← EReal.coe_mul, ← coe_sum, ← EReal.coe_add]
  refine congrArg Real.toEReal (congrArg (· + _)
    ((R.chunk B.r h hh).dq_split (fun c => (R.chunk B.r h hh).b (turn B.r 32) c) t c))

variable (d : Vec Ideal S1x128x64 .f32) (D : Fin 128 → Fin 64 → ℝ) (hd : ∀ j c, d (ix3 0 j c) = (D j c : EReal))
include hd

omit H in
theorem ds (j : Fin 128) (c : Fin 64) : Block.ds d (ix2 j c) = (D j c : EReal) := by
  pointwise [Block.ds]
  exact hd j c

theorem dk (t c : Fin 64) : B.dk h hh d (ix2 (turn B.r t) c) = ((R.chunk B.r h hh).dk D t c : EReal) := by
  pointwise [Block.dk, head]
  rw [sum_turn B.r]
  simp only [H.da h hh, H.qm h hh, H.ekm h hh, H.hv h hh, ds d D hd, H.ek h hh, ← EReal.coe_mul, ← coe_sum, ← EReal.coe_add]
  refine congrArg Real.toEReal (congrArg (· + _)
    ((R.chunk B.r h hh).dk_split (fun c => (R.chunk B.r h hh).b (turn B.r 32) c) t c))

theorem dv (t : Fin 64) (j : Fin 128) : B.dv h hh d (ix2 (turn B.r t) j) = ((R.chunk B.r h hh).dv D t j : EReal) := by
  pointwise [Block.dv]
  rw [sum_turn B.r]
  simp only [H.a h hh, H.hy h hh, H.ke h hh, ds d D hd, ← EReal.coe_mul, ← coe_sum, ← EReal.coe_add]
  rfl

theorem new (j : Fin 128) (c : Fin 64) : B.new h hh d (ix3 0 j c) = ((R.chunk B.r h hh).new D j c : EReal) := by
  pointwise [Block.new]
  rw [sum_turn B.r]
  simp only [H.elh h hh, H.hy h hh, H.qb h hh, ds d D hd, ← EReal.coe_mul, ← coe_sum, ← EReal.coe_add]
  rfl

theorem db (t c : Fin 64) : B.db h hh d (ix2 (turn B.r t) c) = ((R.chunk B.r h hh).db D t c : EReal) := by
  pointwise [Block.db, head]
  rw [H.qs h hh, H.dq h hh, H.k, H.dk h hh d D hd, ← EReal.coe_mul, ← EReal.coe_mul, ← EReal.coe_sub]
  rfl

theorem cross (c : Fin 64) : B.cross h hh d (ix2 0 c) = ((R.chunk B.r h hh).cross D c : EReal) := by
  pointwise [Block.cross]
  simp only [sum_turn B.r (fun x : Fin 64 => headV h hh B.v (ix2 x _) * B.ke h hh (ix2 x c))]
  simp only [H.elh h hh, H.st h hh, H.hv h hh, H.ke h hh, ds d D hd, ← EReal.coe_mul, ← coe_sum, ← EReal.coe_add]
  rfl

end Block.Is

end Cert.Gla
-- ==== Proof.ChunkGate.lean ====
module

public import proofs.«01_k».proof.Proof.ChunkHead

/-!
# The gate's cotangent in the kernel's chunk

The heads' shares lie side by side; they are summed against time, the state's share is added, and the
derivative of the log sigmoid multiplies the sum.
-/

@[expose] public section

set_option maxRecDepth 16384

noncomputable section

namespace Cert.Gla

open Idealize.ShloMosaic Cert.KernelIdeal Cert.KernelIdeal.Gen

theorem col_split (c : Fin 256) : c = col (c.val / 64) (by omega) ⟨c.val % 64, Nat.mod_lt _ (by decide)⟩ :=
  Fin.ext (Nat.div_add_mod c.val 64).symm

/-- A function of head and column, as a function of the column of the four heads side by side. -/
def wide {α : Type*} (f : (h : Nat) → h < 4 → Fin 64 → α) (c : Fin 256) : α :=
  f (c.val / 64) (by omega) ⟨c.val % 64, Nat.mod_lt _ (by decide)⟩

theorem wide_col {α : Type*} (f : (h : Nat) → h < 4 → Fin 64 → α) (h : Nat) (hh : h < 4) (c : Fin 64) :
    wide f (col h hh c) = f h hh c := by
  have : ∀ (n : Nat) (hn : n < 4) (m : Fin 64), n = h → m = c → f n hn m = f h hh c := by
    rintro _ _ _ rfl rfl
    rfl
  exact this _ _ _ (by show (64 * h + c.val) / 64 = h; omega) (Fin.ext (by show (64 * h + c.val) % 64 = c.val; omega))

theorem turn_rev (r : Bool) (t : Fin 64) : turn (!r) t.rev = turn r t := by
  cases r
  · exact Fin.rev_rev t
  · rfl

/-- Column `c` of head `h`, found among four heads side by side. -/
theorem beside (x : (h : Nat) → h < 4 → Fin 64 → EReal) (h : Nat) (hh : h < 4) (c : Fin 64) :
    (if h1 : 64 * h + c.val < 64 then x 0 (by decide) ⟨64 * h + c.val, h1⟩
      else if h2 : 64 * h + c.val - 64 < 64 then x 1 (by decide) ⟨64 * h + c.val - 64, h2⟩
      else if h3 : 64 * h + c.val - 64 - 64 < 64 then x 2 (by decide) ⟨64 * h + c.val - 64 - 64, h3⟩
      else x 3 (by decide) ⟨64 * h + c.val - 64 - 64 - 64, by omega⟩) = x h hh c := by
  match h, hh with
  | 0, _ => rw [dif_pos (by omega)]; exact congrArg (x 0 _) (Fin.ext (by show 64 * 0 + c.val = _; omega))
  | 1, _ => rw [dif_neg (by omega), dif_pos (by omega)]; exact congrArg (x 1 _) (Fin.ext (by show 64 * 1 + c.val - 64 = _; omega))
  | 2, _ =>
    rw [dif_neg (by omega), dif_neg (by omega), dif_pos (by omega)]
    exact congrArg (x 2 _) (Fin.ext (by show 64 * 2 + c.val - 64 - 64 = _; omega))
  | 3, _ =>
    rw [dif_neg (by omega), dif_neg (by omega), dif_neg (by omega)]
    exact congrArg (x 3 _) (Fin.ext (by show 64 * 3 + c.val - 64 - 64 - 64 = _; omega))

theorem sum_rev (f : Fin 64 → ℝ) (t : Fin 64) :
    (∑ s, if s ≤ t.rev then f s.rev else 0) = ∑ s, if t ≤ s then f s else 0 := by
  rw [← Equiv.sum_comp Fin.revPerm]
  refine Finset.sum_congr rfl fun s _ => ?_
  rw [Fin.revPerm_apply, Fin.rev_rev]
  exact if_congr Fin.rev_le_rev rfl rfl

namespace Block.Is

variable {B : Block Ideal} {R : Rows} (H : B.Is R)
include H

theorem dp (d : (h : Nat) → h < 4 → Vec Ideal S1x128x64 .f32) (D : (h : Nat) → h < 4 → Fin 128 → Fin 64 → ℝ)
    (hd : ∀ h hh j c, d h hh (ix3 0 j c) = (D h hh j c : EReal)) (h : Nat) (hh : h < 4) (t c : Fin 64) :
    B.dp d (ix2 (turn B.r t) (col h hh c)) = ((R.chunk B.r h hh).dP (D h hh) t c : EReal) := by
  pointwise [Block.dp, bits]
  rw [beside (fun h hh c => B.cross h hh (d h hh) (ix2 0 c)) h hh c]
  rw [← turn_rev B.r t, cum_apply (!B.r) _
    (fun t => wide fun h hh c => (R.chunk B.r h hh).db (D h hh) t.rev c) ?_ t.rev (col h hh c)]
  · simp only [wide_col]
    rw [turn_rev, H.cross h hh _ _ (hd h hh), H.pre, bits_sixteenth,
      sum_rev (fun s => (R.chunk B.r h hh).db (D h hh) s c), zero_sub, zero_sub, neg_neg, Ideal.exp_coe, ← EReal.coe_one,
      ← EReal.coe_add, ← EReal.coe_add, Ideal.div_coe (by positivity), ← EReal.coe_mul, ← EReal.coe_mul, ← EReal.coe_mul]
    congr 1
    unfold Chunk.dP
    rw [one_mul, mul_one_div _ (16 : ℝ)]
    rfl
  · intro t c
    rw [col_split c, wide_col]
    pointwise
    refine (beside (fun h hh c => B.db h hh (d h hh) (ix2 (turn (!B.r) t) c)) (c.val / 64) (by omega)
      ⟨c.val % 64, Nat.mod_lt _ (by decide)⟩).trans ?_
    rw [← H.db _ _ _ _ (hd _ _), ← turn_rev B.r t.rev, Fin.rev_rev]

end Block.Is

end Cert.Gla
-- ==== Proof.StepReal.lean ====
module
public import proofs.«01_k».proof.Proof.Point
public import proofs.«01_k».proof.Proof.Data
public import proofs.«01_k».proof.Proof.ChunkGate

/-!
# A grid step over the reals

A step whose six chunks hold the rows of the arrays, and which starts from the state cotangents before its
first trip, leaves the four gradients at its 384 rows and the cotangents after its last trip.
-/

@[expose] public section
set_option maxRecDepth 16384
noncomputable section
namespace Cert.Gla
open Idealize.ShloMosaic Cert.KernelIdeal Cert.KernelIdeal.Gen

theorem emb_unit_val {S : Shape} (off size : Fin S.rank → Nat) (inb : ∀ a, off a + size a ≤ S.size a)
    (x : (Rect.unit off size inb).shape.Idx) (a : Fin S.rank) :
    ((Rect.unit off size inb).emb x a).val = off a + (x a).val := congrArg (off a + ·) (Nat.one_mul _)

theorem slot_emb (h : Nat) (hh : h < 4) (j : Fin 128) (c : Fin 64) :
    (slot h hh).emb (ix3 (0 : Fin 1) j c) = ix3 (⟨h, hh⟩ : Fin 4) j c := by
  funext a
  apply Fin.ext
  refine (emb_unit_val _ _ _ _ a).trans ?_
  fin_cases a
  · rfl
  · exact Nat.zero_add _
  · exact Nat.zero_add _

/-- The first chunk of the window that the direction's step `i` reads, over the chunks of a window. -/
def block6 (r : Bool) (i : ℕ) : ℕ := bif r then i else 21 - i

variable {T : Step Ideal} {A : Data} {i : ℕ}

/-- Trip `6 i + u` treats the step's `u`-th chunk. -/
theorem turnChunk_nth (T : Step Ideal) (i : ℕ) (hi : i < 22) (u : ℕ) (hu : u < 6) :
    turnChunk T.r (6 * i + u) = 6 * block6 T.r i + T.nth u := by
  unfold turnChunk block6 Step.nth
  cases T.r
  · show 131 - (6 * i + u) = 6 * (21 - i) + (5 - u % 6)
    omega
  · show 6 * i + u = 6 * i + u % 6
    omega

/-- The `u`-th chunk of the step that has `n` as its place in the window. -/
theorem nth_nth (T : Step Ideal) (n : ℕ) (hn : n < 6) : ∃ u < 6, T.nth u = n := by
  unfold Step.nth
  cases T.r
  · exact ⟨5 - n, by omega, by show 5 - (5 - n) % 6 = n; omega⟩
  · exact ⟨n, hn, by show n % 6 = n; omega⟩

variable (hi : i < 22)
  (H : ∀ u < 6, (T.blockAt u).Is (A.rows T.r (turnChunk T.r (6 * i + u))))

include H in
/-- The cotangents that the heads load. -/
theorem loads (D : Nat → Vec Ideal S1x128x64 .f32) (C : Vec Ideal S4x128x64 .f32)
    (hC : ∀ h hh j c, C (ix3 (⟨h, hh⟩ : Fin 4) j c) = (A.carry T.r (6 * i) h hh j c : EReal))
    (h0 : ∀ n (_ : n < 4) x, D n x = C ((slot (n % 4) (head_lt n)).emb x))
    (hs : ∀ n x, D (n + 4) x = (T.blockAt (n / 4)).new (n % 4) (head_lt n) (D n) x) (h : ℕ) (hh : h < 4) :
    ∀ u < 6, ∀ j c, D (4 * u + h) (ix3 (0 : Fin 1) j c) = (A.carry T.r (6 * i + u) h hh j c : EReal)
  | 0, _ => fun j c => by
    have e : ∀ n, n = h → n % 4 = h → D n (ix3 (0 : Fin 1) j c) = C ((slot h hh).emb (ix3 (0 : Fin 1) j c)) := by
      rintro n rfl e
      refine (h0 n hh _).trans (congrArg C ?_)
      have : ∀ k (hk : k < 4), k = n → (slot k hk).emb (ix3 (0 : Fin 1) j c) = (slot n hh).emb (ix3 (0 : Fin 1) j c) := by
        rintro k hk rfl
        rfl
      exact this _ _ e
    rw [e (4 * 0 + h) (by omega) (by omega), slot_emb]
    exact hC h hh j c
  | u + 1, hu => fun j c => by
    have ih := loads D C hC h0 hs h hh u (by omega)
    have e : ∀ n k l (hl : l < 4), n / 4 = k → n % 4 = l → D (n + 4) (ix3 (0 : Fin 1) j c) = (T.blockAt k).new l hl (D n) (ix3 (0 : Fin 1) j c) := by
      rintro n _ _ hl rfl rfl
      exact hs n _
    rw [show 4 * (u + 1) + h = (4 * u + h) + 4 by omega, e (4 * u + h) u h hh (by omega) (by omega)]
    exact (H u (by omega)).new h hh (D (4 * u + h)) _ ih j c

/-- A real array's rows from `base` on, as a window's contents. -/
def onRows (w : ℕ) (f : ℕ → ℕ → ℝ) (base : ℕ) : Vec Ideal ⟨2, ![384, w]⟩ .f32 :=
  fun y => ((f (base + (y 0).val) (y 1).val : ℝ) : EReal)

/-- A piece agrees with such contents if its payload does. -/
theorem piece_agrees {w : ℕ} (p : View.Piece (Elt Ideal) ⟨2, ![384, w]⟩ .f32) (off size : Fin 2 → ℕ)
    (inb : ∀ a, off a + size a ≤ (![384, w] : Fin 2 → ℕ) a)
    (pay : Vec Ideal (Rect.unit (s := ⟨2, ![384, w]⟩) off size inb).shape .f32)
    (hp : p = ⟨Rect.unit (s := ⟨2, ![384, w]⟩) off size inb, pay⟩) (f : ℕ → ℕ → ℝ) (base : ℕ)
    (h : ∀ x, pay x = ((f (base + (off 0 + (x 0).val)) (off 1 + (x 1).val) : ℝ) : EReal)) (x : p.1.shape.Idx) :
    p.2 x = onRows w f base (p.1.emb x) := by
  subst hp
  refine (h x).trans ?_
  unfold onRows
  rw [emb_unit_val, emb_unit_val]

/-- An output index lies in one of the step's 24 pieces. -/
theorem in_piece (T : Step Ideal) (w : ℕ) (hw : w = 64 ∨ w = 128) (a : Fin 384) (b : ℕ) (hb : b < 4 * w) : ∃ k < 24,
    (64 * T.nth (k / 4) ≤ a.val ∧ a.val < 64 * T.nth (k / 4) + 64) ∧ (w * (k % 4) ≤ b ∧ b < w * (k % 4) + w) := by
  obtain ⟨u, hu, hn⟩ := nth_nth T (a.val / 64) (by omega)
  refine ⟨4 * u + b / w, ?_, ?_, ?_⟩
  · rcases hw with rfl | rfl <;> omega
  · rw [show (4 * u + b / w) / 4 = u by rcases hw with rfl | rfl <;> omega, hn]
    omega
  · rcases hw with rfl | rfl <;> omega

/-- The array row of a chunk's row. -/
theorem place (T : Step Ideal) (i : ℕ) (hi : i < 22) (u : ℕ) (hu : u < 6) (t : Fin 64) :
    384 * block6 T.r i + (64 * T.nth u + t.val) = 64 * turnChunk T.r (6 * i + u) + t.val := by
  rw [turnChunk_nth T i hi u hu]
  omega

theorem back (T : Step Ideal) (i : ℕ) (hi : i < 22) (u : ℕ) (hu : u < 6) :
    turnChunk T.r (turnChunk T.r (6 * i + u)) = 6 * i + u := turnChunk_turnChunk _ _ (by omega)

include hi H in
theorem real_dq (a : Fin 384) (b : Fin 256) :
    View.canon (Val := Elt Ideal) (e := .f32) (pile T.dqPiece 24) (ix2 a b)
      = (A.dq T.r (384 * block6 T.r i + a.val) b.val : EReal) := by
  refine canon_pile (F := Ideal) (S := S384x256) (e := .f32) (onRows 256 (A.dq T.r) (384 * block6 T.r i)) T.dqPiece 24 (fun k hk' => ?_) (ix2 a b) ?_
  · have hu : k / 4 < 6 := by omega
    refine piece_agrees (T.dqPiece k) _ _ _ _ rfl _ _ fun x => ?_
    obtain ⟨t, c, rfl⟩ : ∃ t c, x = ix2 (n0 := 64) (n1 := 64) t c := ⟨x 0, x 1, eq_ix2 x⟩
    have hq : (T.blockAt (k / 4)).dq (k % 4) (head_lt k) (ix2 t c)
        = ((A.chunk T.r (turnChunk T.r (6 * i + k / 4)) (k % 4) (head_lt k)).dq (turn T.r t) c : EReal) := by
      have h := (H (k / 4) hu).dq (k % 4) (head_lt k) (turn T.r t) c
      rwa [show turn (T.blockAt (k / 4)).r (turn T.r t) = t from turn_turn T.r t] at h
    have he := A.dq_eq T.r _ _ (turnChunk T.r (6 * i + k / 4)) (k % 4) (head_lt k) t c (place T i hi _ hu t) rfl

    exact Eq.trans hq (congrArg ((↑) : ℝ → EReal) he.symm)
  · obtain ⟨k, hk, h1, h2⟩ := in_piece T 64 (Or.inl rfl) a b.val (by omega)
    refine ⟨k, hk, (Rect.mem_set_unit (inb := inb_out _ (T.nth_lt _) _ (head_lt k))).mpr fun d => ?_⟩
    fin_cases d
    exacts [h1, h2]

include hi H in
theorem real_dk (D : Nat → Vec Ideal S1x128x64 .f32)
    (hk : ∀ k < 24, ∀ j c, D k (ix3 (0 : Fin 1) j c) = (A.carry T.r (6 * i + k / 4) (k % 4) (head_lt k) j c : EReal)) (a : Fin 384) (b : Fin 256) :
    View.canon (Val := Elt Ideal) (e := .f32) (pile (T.dkPiece D) 24) (ix2 a b)
      = (A.dk T.r (384 * block6 T.r i + a.val) b.val : EReal) := by
  refine canon_pile (F := Ideal) (S := S384x256) (e := .f32) (onRows 256 (A.dk T.r) (384 * block6 T.r i)) (T.dkPiece D) 24 (fun k hk' => ?_) (ix2 a b) ?_
  · have hu : k / 4 < 6 := by omega
    refine piece_agrees ((T.dkPiece D) k) _ _ _ _ rfl _ _ fun x => ?_
    obtain ⟨t, c, rfl⟩ : ∃ t c, x = ix2 (n0 := 64) (n1 := 64) t c := ⟨x 0, x 1, eq_ix2 x⟩
    have hq : (T.blockAt (k / 4)).dk (k % 4) (head_lt k) (D k) (ix2 t c)
        = ((A.chunk T.r (turnChunk T.r (6 * i + k / 4)) (k % 4) (head_lt k)).dk (A.carry T.r (6 * i + k / 4) (k % 4) (head_lt k)) (turn T.r t) c : EReal) := by
      have h := (H (k / 4) hu).dk (k % 4) (head_lt k) (D k) _ (hk k hk') (turn T.r t) c
      rwa [show turn (T.blockAt (k / 4)).r (turn T.r t) = t from turn_turn T.r t] at h
    have he := A.dk_eq T.r _ _ (turnChunk T.r (6 * i + k / 4)) (k % 4) (head_lt k) t c (place T i hi _ hu t) rfl
    rw [back T i hi _ hu] at he
    exact Eq.trans hq (congrArg ((↑) : ℝ → EReal) he.symm)
  · obtain ⟨k, hk, h1, h2⟩ := in_piece T 64 (Or.inl rfl) a b.val (by omega)
    refine ⟨k, hk, (Rect.mem_set_unit (inb := inb_out _ (T.nth_lt _) _ (head_lt k))).mpr fun d => ?_⟩
    fin_cases d
    exacts [h1, h2]

include hi H in
theorem real_dv (D : Nat → Vec Ideal S1x128x64 .f32)
    (hk : ∀ k < 24, ∀ j c, D k (ix3 (0 : Fin 1) j c) = (A.carry T.r (6 * i + k / 4) (k % 4) (head_lt k) j c : EReal)) (a : Fin 384) (b : Fin 512) :
    View.canon (Val := Elt Ideal) (e := .f32) (pile (T.dvPiece D) 24) (ix2 a b)
      = (A.dv T.r (384 * block6 T.r i + a.val) b.val : EReal) := by
  refine canon_pile (F := Ideal) (S := S384x512) (e := .f32) (onRows 512 (A.dv T.r) (384 * block6 T.r i)) (T.dvPiece D) 24 (fun k hk' => ?_) (ix2 a b) ?_
  · have hu : k / 4 < 6 := by omega
    refine piece_agrees ((T.dvPiece D) k) _ _ _ _ rfl _ _ fun x => ?_
    obtain ⟨t, c, rfl⟩ : ∃ t c, x = ix2 (n0 := 64) (n1 := 128) t c := ⟨x 0, x 1, eq_ix2 x⟩
    have hq : (T.blockAt (k / 4)).dv (k % 4) (head_lt k) (D k) (ix2 t c)
        = ((A.chunk T.r (turnChunk T.r (6 * i + k / 4)) (k % 4) (head_lt k)).dv (A.carry T.r (6 * i + k / 4) (k % 4) (head_lt k)) (turn T.r t) c : EReal) := by
      have h := (H (k / 4) hu).dv (k % 4) (head_lt k) (D k) _ (hk k hk') (turn T.r t) c
      rwa [show turn (T.blockAt (k / 4)).r (turn T.r t) = t from turn_turn T.r t] at h
    have he := A.dv_eq T.r _ _ (turnChunk T.r (6 * i + k / 4)) (k % 4) (head_lt k) t c (place T i hi _ hu t) rfl
    rw [back T i hi _ hu] at he
    exact Eq.trans hq (congrArg ((↑) : ℝ → EReal) he.symm)
  · obtain ⟨k, hk, h1, h2⟩ := in_piece T 128 (Or.inr rfl) a b.val (by omega)
    refine ⟨k, hk, (Rect.mem_set_unit (inb := inb_outV _ (T.nth_lt _) _ (head_lt k))).mpr fun d => ?_⟩
    fin_cases d
    exacts [h1, h2]

include hi H in
theorem real_dP (D : Nat → Vec Ideal S1x128x64 .f32) (hD : ∀ h hh, ∀ u < 6, ∀ j c,
      D (4 * u + h) (ix3 (0 : Fin 1) j c) = (A.carry T.r (6 * i + u) h hh j c : EReal)) (a : Fin 384) (b : Fin 256) :
    View.canon (Val := Elt Ideal) (e := .f32) (pile (T.dpPiece D) 6) (ix2 a b)
      = (A.dP T.r (384 * block6 T.r i + a.val) b.val : EReal) := by
  refine canon_pile (F := Ideal) (S := S384x256) (e := .f32) (onRows 256 (A.dP T.r) (384 * block6 T.r i)) (T.dpPiece D) 6 (fun u hu => ?_) (ix2 a b) ?_
  · refine piece_agrees (T.dpPiece D u) _ _ _ _ rfl _ _ fun x => ?_
    obtain ⟨t, b, rfl⟩ : ∃ t b, x = ix2 (n0 := 64) (n1 := 256) t b := ⟨x 0, x 1, eq_ix2 x⟩
    obtain ⟨h, hh, c, rfl⟩ : ∃ h, ∃ hh : h < 4, ∃ c, b = col h hh c :=
      ⟨b.val / 64, by omega, ⟨b.val % 64, by omega⟩, Fin.ext (by show b.val = 64 * (b.val / 64) + b.val % 64; omega)⟩
    have hq : (T.blockAt u).dp (fun h _ => D (4 * u + h)) (ix2 t (col h hh c))
        = ((A.chunk T.r (turnChunk T.r (6 * i + u)) h hh).dP (A.carry T.r (6 * i + u) h hh) (turn T.r t) c : EReal) := by
      have h := (H u hu).dp (fun h _ => D (4 * u + h)) _ (fun h hh => hD h hh u hu) h hh (turn T.r t) c
      rwa [show turn (T.blockAt u).r (turn T.r t) = t from turn_turn T.r t] at h
    have he := A.dP_eq T.r _ _ (turnChunk T.r (6 * i + u)) h hh t c (place T i hi _ hu t) (Nat.zero_add _)
    rw [back T i hi _ hu] at he
    exact Eq.trans hq (congrArg ((↑) : ℝ → EReal) he.symm)
  · obtain ⟨u, hu, hn⟩ := nth_nth T (a.val / 64) (by omega)
    refine ⟨u, hu, (Rect.mem_set_unit (inb := inb_rows256 _ (T.nth_lt _))).mpr fun d => ?_⟩
    fin_cases d
    · show 64 * T.nth u ≤ a.val ∧ a.val < 64 * T.nth u + 64
      rw [hn]
      omega
    · exact ⟨Nat.zero_le _, Nat.lt_of_lt_of_eq b.isLt (Nat.zero_add _).symm⟩

include hi H in
/-- What the step leaves. -/
theorem Left.real {C C' : Vec Ideal S4x128x64 .f32} {o₁ o₂ : Vec Ideal S384x256 .f32} {o₃ : Vec Ideal S384x512 .f32}
    {o₄ : Vec Ideal S384x256 .f32} (L : Left T C o₁ o₂ o₃ o₄ C')
    (hC : ∀ h hh j c, C (ix3 (⟨h, hh⟩ : Fin 4) j c) = (A.carry T.r (6 * i) h hh j c : EReal)) :
    (∀ h hh j c, C' (ix3 (⟨h, hh⟩ : Fin 4) j c) = (A.carry T.r (6 * (i + 1)) h hh j c : EReal))
      ∧ (∀ a b, o₁ (ix2 a b) = (A.dq T.r (384 * block6 T.r i + a.val) b.val : EReal))
      ∧ (∀ a b, o₂ (ix2 a b) = (A.dk T.r (384 * block6 T.r i + a.val) b.val : EReal))
      ∧ (∀ a b, o₃ (ix2 a b) = (A.dv T.r (384 * block6 T.r i + a.val) b.val : EReal))
      ∧ (∀ a b, o₄ (ix2 a b) = (A.dP T.r (384 * block6 T.r i + a.val) b.val : EReal)) := by
  obtain ⟨D, h0, hs, hlast, rfl, rfl, rfl, rfl⟩ := L
  have hD := loads H D C hC h0 hs
  have hk : ∀ k < 24, ∀ j c, D k (ix3 (0 : Fin 1) j c) = (A.carry T.r (6 * i + k / 4) (k % 4) (head_lt k) j c : EReal) := by
    intro k hk j c
    have h := hD (k % 4) (head_lt k) (k / 4) (by omega) j c
    rwa [show 4 * (k / 4) + k % 4 = k by omega] at h
  refine ⟨fun h hh j c => ?_, real_dq hi H, real_dk hi H D hk, real_dv hi H D hk, real_dP hi H D hD⟩
  have e : ∀ n l (hl : l < 4), n / 4 = 5 → n % 4 = l → C' ((slot l hl).emb (ix3 (0 : Fin 1) j c)) = (T.blockAt 5).new l hl (D n) (ix3 (0 : Fin 1) j c) := by
    rintro n _ hl h5 rfl
    exact hlast n _ h5
  rw [← slot_emb h hh j c, e (4 * 5 + h) h hh (by omega) (by omega)]
  exact (H 5 (by omega)).new h hh (D (4 * 5 + h)) _ (hD h hh 5 (by omega)) j c

end Cert.Gla
-- ==== Proof.Blocks.lean ====
module
public import proofs.«01_k».proof.Proof.StepReal
public import proofs.«01_k».proof.Proof.DataIs
public import Idealize.ShloMosaic.Lib.Pipeline.ValueKit

/-!
# The blocks of a grid point hold the rows

The forward direction's windows come last first, the other direction's first first. A chunk of a window is
64 rows of the array, and its gate logits are the product that the data's logits name.
-/

@[expose] public section
set_option maxRecDepth 16384
noncomputable section
namespace Cert.Gla
open Idealize.ShloMosaic Idealize.ShloMosaic.TcCoe Cert.KernelIdeal Cert.KernelIdeal.Gen

variable (m : (ℓ : Loc nD τ sig) → Buf (Elt Ideal) ℓ) (c : Dev nD)

/-- The arguments hold the data. -/
abbrev Holds (A : Data) : Prop := A.Is (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

/-- Where the input windows lie. -/
theorem index_in : ∀ t : Fin grid0.N,
    win0_0.index t = ![21 - t.val, 0] ∧ win0_1.index t = ![21 - t.val, 1] ∧ win0_2.index t = ![21 - t.val, 0]
      ∧ win0_3.index t = ![21 - t.val, 0] ∧ win0_4.index t = ![21 - t.val, 0] ∧ win0_5.index t = ![21 - t.val, 0, 0, 0]
      ∧ win0_6.index t = ![t.val, 0] ∧ win0_7.index t = ![t.val, 1] ∧ win0_8.index t = ![t.val, 0]
      ∧ win0_9.index t = ![t.val, 0] ∧ win0_10.index t = ![t.val, 0] ∧ win0_11.index t = ![t.val, 0, 0, 0]
      ∧ win0_12.index t = ![0, 0] ∧ win0_13.index t = ![0, 0] := by
  decide +kernel

variable (t : Fin cfg0.N)

/-- What the forward direction's windows read. -/
theorem fwd_reads :
    (∀ (a : Fin 384) (b : Fin 256) (i : Fin 8448) (k : Fin 512), i.val = 384 * (21 - t.val) + a.val → k.val = b.val →
        iblk m c 0 t (ix2 a b) = m ((c : Thread nD τ).loc main_arg0) (ix2 i k))
      ∧ (∀ (a : Fin 384) (b : Fin 256) (i : Fin 8448) (k : Fin 512), i.val = 384 * (21 - t.val) + a.val → k.val = 256 + b.val →
        iblk m c 1 t (ix2 a b) = m ((c : Thread nD τ).loc main_arg0) (ix2 i k))
      ∧ (∀ (a : Fin 384) (b : Fin 512) (i : Fin 8448), i.val = 384 * (21 - t.val) + a.val →
        iblk m c 2 t (ix2 a b) = m ((c : Thread nD τ).loc main_arg1) (ix2 i b))
      ∧ (∀ (a : Fin 384) (b : Fin 128) (i : Fin 8448), i.val = 384 * (21 - t.val) + a.val →
        iblk m c 3 t (ix2 a b) = m ((c : Thread nD τ).loc main_arg2) (ix2 i b))
      ∧ (∀ (a : Fin 384) (b : Fin 512) (i : Fin 8448), i.val = 384 * (21 - t.val) + a.val →
        iblk m c 4 t (ix2 a b) = m ((c : Thread nD τ).loc main_arg5) (ix2 i b))
      ∧ (∀ (n : Fin 6) (h : Fin 4) (j : Fin 128) (k : Fin 64) (i : Fin 132), i.val = 6 * (21 - t.val) + n.val →
        iblk m c 5 t (ix4 n h j k) = m ((c : Thread nD τ).loc main_arg6) (ix4 i h j k)) := by
  obtain ⟨e0, e1, e2, e3, e4, e5, -, -, -, -, -, -, -, -⟩ := index_in t
  refine ⟨fun a b i k hi hk => ?_, fun a b i k hi hk => ?_, fun a b i hi => ?_, fun a b i hi => ?_, fun a b i hi => ?_,
    fun n h j k i hi => ?_⟩
  · blk_ext [iblk, V, e0]
  · blk_ext [iblk, V, e1]
  · blk_ext [iblk, V, e2]
  · blk_ext [iblk, V, e3]
  · blk_ext [iblk, V, e4]
  · blk_ext [iblk, V, e5]

/-- What the other direction's windows read. -/
theorem bwd_reads :
    (∀ (a : Fin 384) (b : Fin 256) (i : Fin 8448) (k : Fin 512), i.val = 384 * t.val + a.val → k.val = b.val →
        iblk m c 6 t (ix2 a b) = m ((c : Thread nD τ).loc main_arg0) (ix2 i k))
      ∧ (∀ (a : Fin 384) (b : Fin 256) (i : Fin 8448) (k : Fin 512), i.val = 384 * t.val + a.val → k.val = 256 + b.val →
        iblk m c 7 t (ix2 a b) = m ((c : Thread nD τ).loc main_arg0) (ix2 i k))
      ∧ (∀ (a : Fin 384) (b : Fin 512) (i : Fin 8448), i.val = 384 * t.val + a.val →
        iblk m c 8 t (ix2 a b) = m ((c : Thread nD τ).loc main_arg1) (ix2 i b))
      ∧ (∀ (a : Fin 384) (b : Fin 128) (i : Fin 8448), i.val = 384 * t.val + a.val →
        iblk m c 9 t (ix2 a b) = m ((c : Thread nD τ).loc main_arg2) (ix2 i b))
      ∧ (∀ (a : Fin 384) (b : Fin 512) (i : Fin 8448), i.val = 384 * t.val + a.val →
        iblk m c 10 t (ix2 a b) = m ((c : Thread nD τ).loc main_arg5) (ix2 i b))
      ∧ (∀ (n : Fin 6) (h : Fin 4) (j : Fin 128) (k : Fin 64) (i : Fin 132), i.val = 6 * t.val + n.val →
        iblk m c 11 t (ix4 n h j k) = m ((c : Thread nD τ).loc main_arg7) (ix4 i h j k)) := by
  obtain ⟨-, -, -, -, -, -, e6, e7, e8, e9, e10, e11, -, -⟩ := index_in t
  refine ⟨fun a b i k hi hk => ?_, fun a b i k hi hk => ?_, fun a b i hi => ?_, fun a b i hi => ?_, fun a b i hi => ?_,
    fun n h j k i hi => ?_⟩
  · blk_ext [iblk, V, e6]
  · blk_ext [iblk, V, e7]
  · blk_ext [iblk, V, e8]
  · blk_ext [iblk, V, e9]
  · blk_ext [iblk, V, e10]
  · blk_ext [iblk, V, e11]

/-- What the gate's windows read: the whole arrays. -/
theorem gate_reads : (∀ (a : Fin 128) (b : Fin 512), iblk m c 12 t (ix2 a b) = m ((c : Thread nD τ).loc main_arg3) (ix2 a b))
      ∧ (∀ (a : Fin 1) (b : Fin 512), iblk m c 13 t (ix2 a b) = m ((c : Thread nD τ).loc main_arg4) (ix2 a b)) := by
  obtain ⟨-, -, -, -, -, -, -, -, -, -, -, -, e12, e13⟩ := index_in t
  refine ⟨fun a b => ?_, fun a b => ?_⟩
  · blk_ext [iblk, V, e12]
  · blk_ext [iblk, V, e13]

section
variable (T : Step Ideal) (n : ℕ) (hn : n < 6)

/-- A load of a rectangle reads the buffer at the rectangle's places. -/
theorem load_apply {S : Shape} {e : EltTy} {b : Memref sig .tc .vmem S e} (hb : b.IsWhole) (X : Vec Ideal S e)
    (off size : Fin S.rank → ℕ) (inb : ∀ a, off a + size a ≤ S.size a) (x : (Rect.unit off size inb).shape.Idx) (y : S.Idx)
    (h : ∀ a, (y a).val = off a + (x a).val) :
    View.readAt (Elt Ideal) b.view (Rect.unit off size inb).toLoadRect (hb.unread X) x = X y := by
  refine (Memref.IsWhole.readAt_unread hb X _ x).trans (congrArg X (funext fun a => Fin.ext ?_))
  exact (emb_unit_val off size inb x a).trans (h a).symm

/-- What a chunk's loads read of the step's buffers. -/
theorem block_reads :
    (∀ (a : Fin 64) (b : Fin 256) (i : Fin 384), i.val = 64 * n + a.val → (T.block n hn).q (ix2 a b) = T.q (ix2 i b))
      ∧ (∀ (a : Fin 64) (b : Fin 256) (i : Fin 384), i.val = 64 * n + a.val → (T.block n hn).k (ix2 a b) = T.k (ix2 i b))
      ∧ (∀ (a : Fin 64) (b : Fin 512) (i : Fin 384), i.val = 64 * n + a.val → (T.block n hn).v (ix2 a b) = T.v (ix2 i b))
      ∧ (∀ (a : Fin 64) (b : Fin 128) (i : Fin 384), i.val = 64 * n + a.val → (T.block n hn).z (ix2 a b) = T.z (ix2 i b))
      ∧ (∀ (a : Fin 64) (b : Fin 512) (i : Fin 384), i.val = 64 * n + a.val → (T.block n hn).y (ix2 a b) = T.y (ix2 i b))
      ∧ (∀ (h : ℕ) (hh : h < 4) (j : Fin 128) (k : Fin 64),
        (T.block n hn).s h hh (ix4 0 0 j k) = T.s (ix4 (⟨n, hn⟩ : Fin 6) (⟨h, hh⟩ : Fin 4) j k))
      ∧ (∀ (a : Fin 128) (b : Fin 512), (T.block n hn).wg (ix2 a b) = T.wg (ix2 a b))
      ∧ (∀ (a : Fin 1) (b : Fin 512), (T.block n hn).bg (ix2 a b) = T.bg (ix2 a b)) := by
  have two : ∀ {N M : ℕ} {N' M' : ℕ} (o o' : ℕ) (a : Fin N') (b : Fin M') (i : Fin N) (k : Fin M), i.val = o + a.val → k.val = o' + b.val →
      ∀ d : Fin 2, ((ix2 i k : (⟨2, ![N, M]⟩ : Shape).Idx) d).val = (![o, o'] : Fin 2 → ℕ) d + ((ix2 a b : (⟨2, ![N', M']⟩ : Shape).Idx) d).val := by
    intro N M N' M' o o' a b i k h1 h2 d
    fin_cases d
    exacts [h1, h2]
  refine ⟨fun a b i h => ?_, fun a b i h => ?_, fun a b i h => ?_, fun a b i h => ?_, fun a b i h => ?_, fun h hh j k => ?_,
    fun a b => ?_, fun a b => ?_⟩
  · exact load_apply T.hq T.q _ _ _ _ _ (two _ 0 a b i b h (Nat.zero_add _).symm)
  · exact load_apply T.hk T.k _ _ _ _ _ (two _ 0 a b i b h (Nat.zero_add _).symm)
  · exact load_apply T.hv T.v _ _ _ _ _ (two _ 0 a b i b h (Nat.zero_add _).symm)
  · exact load_apply T.hz T.z _ _ _ _ _ (two _ 0 a b i b h (Nat.zero_add _).symm)
  · exact load_apply T.hy T.y _ _ _ _ _ (two _ 0 a b i b h (Nat.zero_add _).symm)
  · refine load_apply T.hs T.s _ _ _ _ _ fun d => ?_
    fin_cases d
    exacts [rfl, rfl, (Nat.zero_add _).symm, (Nat.zero_add _).symm]
  · exact load_apply T.hwg T.wg _ _ _ _ _ (two 0 0 a b a b (Nat.zero_add _).symm (Nat.zero_add _).symm)
  · exact load_apply T.hbg T.bg _ _ _ _ _ (two 0 0 a b a b (Nat.zero_add _).symm (Nat.zero_add _).symm)
end

/-- The gate's logits of a chunk. -/
theorem pre_apply (B : Block Ideal) (a : Fin 64) (b : Fin 256) (k : Fin 512) (hk : k.val = (bif B.r then 256 else 0) + b.val) :
    B.pre (ix2 a b) = (∑ l : Fin 128, B.z (ix2 a l) * B.wg (ix2 l k)) + B.bg (ix2 0 k) := by
  obtain ⟨r, q, kk, v, z, y, s, wg, bg⟩ := B
  cases r
  · obtain rfl : k = ⟨b.val, Nat.lt_of_lt_of_le b.isLt (by decide)⟩ := Fin.ext (hk.trans (Nat.zero_add _))
    pointwise [Block.pre, gateHalf]
  · obtain rfl : k = ⟨256 + b.val, Nat.add_lt_add_left b.isLt 256⟩ := Fin.ext hk
    pointwise [Block.pre, gateHalf]

variable {m c t} {A : Data} (H : Holds m c A)
include H

/-- Every chunk of the forward direction's step holds its rows; -/
theorem fwd_is (n : ℕ) (hn : n < 6) (N : ℕ) (hN : N = 6 * (21 - t.val) + n) : ((fwdAt m c t).block n hn).Is (A.rows false N) := by
  obtain ⟨q, k, v, z, y, s, wg, bg⟩ := block_reads (fwdAt m c t) n hn
  obtain ⟨rq, rk, rv, rz, ry, rs⟩ := fwd_reads m c t
  obtain ⟨rwg, rbg⟩ := gate_reads m c t
  have ht : t.val < 22 := t.isLt
  have b0 : ∀ a : Fin 64, 64 * n + a.val < 384 := fun a => by omega
  have b1 : ∀ a : Fin 64, 64 * N + a.val < 8448 := fun a => by omega
  have e1 : ∀ a : Fin 64, 64 * N + a.val = 384 * (21 - t.val) + (64 * n + a.val) := fun a => by omega
  refine ⟨fun a b => ?_, fun a b => ?_, fun a b => ?_, fun a b => ?_, fun a b => ?_, fun h hh j b => ?_, fun a b => ?_⟩
  · exact (q a b ⟨_, b0 a⟩ rfl).trans ((rq _ b ⟨_, b1 a⟩ ⟨b.val, by omega⟩ (e1 a) rfl).trans (H.z _ _))
  · exact (k a b ⟨_, b0 a⟩ rfl).trans ((rk _ b ⟨_, b1 a⟩ ⟨256 + b.val, by omega⟩ (e1 a) rfl).trans (H.z _ _))
  · exact (v a b ⟨_, b0 a⟩ rfl).trans ((rv _ b ⟨_, b1 a⟩ (e1 a)).trans (H.v _ _))
  · exact (y a b ⟨_, b0 a⟩ rfl).trans ((ry _ b ⟨_, b1 a⟩ (e1 a)).trans (H.y _ _))
  · refine (pre_apply _ a b ⟨b.val, by omega⟩ (Nat.zero_add _).symm).trans ?_
    refine Eq.trans ?_ ((H.P ⟨_, b1 a⟩ ⟨b.val, by omega⟩).trans (congrArg (fun k => (A.P (64 * N + a.val) k : EReal)) (Nat.zero_add _).symm))
    refine congrArg₂ (· + ·) (Finset.sum_congr rfl fun l _ => congrArg₂ (· * ·) ?_ ?_) ?_
    · exact (z a l ⟨_, b0 a⟩ rfl).trans (rz _ l ⟨_, b1 a⟩ (e1 a))
    · exact (wg l _).trans (rwg l _)
    · exact (bg 0 _).trans (rbg 0 _)
  · exact (s h hh j b).trans ((rs _ _ j b ⟨N, by omega⟩ hN).trans (H.sf _ _ _ _))
  · exact H.big _ (b1 a) _ (by show (0 : ℕ) + b.val < 512; omega)

/-- and so does every chunk of the other direction's. -/
theorem bwd_is (n : ℕ) (hn : n < 6) (N : ℕ) (hN : N = 6 * t.val + n) : ((bwdAt m c t).block n hn).Is (A.rows true N) := by
  obtain ⟨q, k, v, z, y, s, wg, bg⟩ := block_reads (bwdAt m c t) n hn
  obtain ⟨rq, rk, rv, rz, ry, rs⟩ := bwd_reads m c t
  obtain ⟨rwg, rbg⟩ := gate_reads m c t
  have ht : t.val < 22 := t.isLt
  have b0 : ∀ a : Fin 64, 64 * n + a.val < 384 := fun a => by omega
  have b1 : ∀ a : Fin 64, 64 * N + a.val < 8448 := fun a => by omega
  have e1 : ∀ a : Fin 64, 64 * N + a.val = 384 * t.val + (64 * n + a.val) := fun a => by omega
  refine ⟨fun a b => ?_, fun a b => ?_, fun a b => ?_, fun a b => ?_, fun a b => ?_, fun h hh j b => ?_, fun a b => ?_⟩
  · exact (q a b ⟨_, b0 a⟩ rfl).trans ((rq _ b ⟨_, b1 a⟩ ⟨b.val, by omega⟩ (e1 a) rfl).trans (H.z _ _))
  · exact (k a b ⟨_, b0 a⟩ rfl).trans ((rk _ b ⟨_, b1 a⟩ ⟨256 + b.val, by omega⟩ (e1 a) rfl).trans (H.z _ _))
  · exact (v a b ⟨_, b0 a⟩ rfl).trans ((rv _ b ⟨_, b1 a⟩ (e1 a)).trans (H.v _ _))
  · exact (y a b ⟨_, b0 a⟩ rfl).trans ((ry _ b ⟨_, b1 a⟩ (e1 a)).trans (H.y _ _))
  · refine (pre_apply _ a b ⟨256 + b.val, by omega⟩ rfl).trans ?_
    refine Eq.trans ?_ (H.P ⟨_, b1 a⟩ ⟨256 + b.val, by omega⟩)
    refine congrArg₂ (· + ·) (Finset.sum_congr rfl fun l _ => congrArg₂ (· * ·) ?_ ?_) ?_
    · exact (z a l ⟨_, b0 a⟩ rfl).trans (rz _ l ⟨_, b1 a⟩ (e1 a))
    · exact (wg l _).trans (rwg l _)
    · exact (bg 0 _).trans (rbg 0 _)
  · exact (s h hh j b).trans ((rs _ _ j b ⟨N, by omega⟩ hN).trans (H.sb _ _ _ _))
  · exact H.big _ (b1 a) _ (by show 256 + b.val < 512; omega)

end Cert.Gla
-- ==== Proof.Grid.lean ====
module
public import proofs.«01_k».proof.Proof.Arr
public import proofs.«01_k».proof.Proof.Blocks
public import proofs.«01_k».proof.Proof.Gen.KernelIdeal.Value

/-!
# The kernel's arrays

By induction over the 22 grid points, each point leaves the gradients at its rows and the state cotangents
after its six trips. The blocks tile the arrays, so the eight arrays are the data's gradients.
-/

@[expose] public section
set_option maxRecDepth 16384
noncomputable section
namespace Cert.Gla
open Idealize.ShloMosaic Idealize.ShloMosaic.TcCoe Cert.KernelIdeal Cert.KernelIdeal.Gen

/-- What step `i` of a direction leaves. -/
def Good (A : Data) (r : Bool) (i : ℕ) (o₁ o₂ : Vec Ideal S384x256 .f32) (o₃ : Vec Ideal S384x512 .f32)
    (o₄ : Vec Ideal S384x256 .f32) (C : Vec Ideal S4x128x64 .f32) : Prop :=
  (∀ h hh j c, C (ix3 (⟨h, hh⟩ : Fin 4) j c) = (A.carry r (6 * (i + 1)) h hh j c : EReal))
    ∧ (∀ a b, o₁ (ix2 a b) = (A.dq r (384 * block6 r i + a.val) b.val : EReal))
    ∧ (∀ a b, o₂ (ix2 a b) = (A.dk r (384 * block6 r i + a.val) b.val : EReal))
    ∧ (∀ a b, o₃ (ix2 a b) = (A.dv r (384 * block6 r i + a.val) b.val : EReal))
    ∧ (∀ a b, o₄ (ix2 a b) = (A.dP r (384 * block6 r i + a.val) b.val : EReal))

variable {m : (ℓ : Loc nD τ sig) → Buf (Elt Ideal) ℓ} {c : Dev nD} {A : Data} (H : Holds m c A)

include H in
theorem fwd_step (t : Fin cfg0.N) {C C' : Vec Ideal S4x128x64 .f32} {o₁ o₂ : Vec Ideal S384x256 .f32} {o₃ : Vec Ideal S384x512 .f32}
    {o₄ : Vec Ideal S384x256 .f32} (L : Left (fwdAt m c t) C o₁ o₂ o₃ o₄ C')
    (hC : ∀ h hh j c, C (ix3 (⟨h, hh⟩ : Fin 4) j c) = (A.carry false (6 * t.val) h hh j c : EReal)) :
    Good A false t.val o₁ o₂ o₃ o₄ C' :=
  Left.real (T := fwdAt m c t) (i := t.val) t.isLt
    (fun u hu => fwd_is H _ _ _ (turnChunk_nth (fwdAt m c t) t.val t.isLt u hu)) L hC

include H in
theorem bwd_step (t : Fin cfg0.N) {C C' : Vec Ideal S4x128x64 .f32} {o₁ o₂ : Vec Ideal S384x256 .f32} {o₃ : Vec Ideal S384x512 .f32}
    {o₄ : Vec Ideal S384x256 .f32} (L : Left (bwdAt m c t) C o₁ o₂ o₃ o₄ C')
    (hC : ∀ h hh j c, C (ix3 (⟨h, hh⟩ : Fin 4) j c) = (A.carry true (6 * t.val) h hh j c : EReal)) :
    Good A true t.val o₁ o₂ o₃ o₄ C' :=
  Left.real (T := bwdAt m c t) (i := t.val) t.isLt
    (fun u hu => bwd_is H _ _ _ (turnChunk_nth (bwdAt m c t) t.val t.isLt u hu)) L hC

theorem zero2 (x : S4x128x64.Idx) : k0_pay2 (F := Ideal) x = ((0 : ℝ) : EReal) := by
  obtain ⟨h, j, c, rfl⟩ : ∃ h j c, x = ix3 (n0 := 4) (n1 := 128) (n2 := 64) h j c := ⟨x 0, x 1, x 2, eq_ix3 x⟩
  pointwise [k0_pay2]
  exact EReal.coe_zero.symm

theorem zero3 (x : S4x128x64.Idx) : k0_pay3 (F := Ideal) x = ((0 : ℝ) : EReal) := by
  obtain ⟨h, j, c, rfl⟩ : ∃ h j c, x = ix3 (n0 := 4) (n1 := 128) (n2 := 64) h j c := ⟨x 0, x 1, x 2, eq_ix3 x⟩
  pointwise [k0_pay3]
  exact EReal.coe_zero.symm

include H in
/-- Every grid point is good in both directions. -/
theorem grid : ∀ (n : ℕ) (hn : n < cfg0.N),
    Good A false n (outsAt0 m c n hn).1 (outsAt0 m c n hn).2.1 (outsAt0 m c n hn).2.2.1
        (outsAt0 m c n hn).2.2.2.1 (outsAt0 m c n hn).2.2.2.2.2.2.2.2.1
      ∧ Good A true n (outsAt0 m c n hn).2.2.2.2.1 (outsAt0 m c n hn).2.2.2.2.2.1 (outsAt0 m c n hn).2.2.2.2.2.2.1
        (outsAt0 m c n hn).2.2.2.2.2.2.2.1 (outsAt0 m c n hn).2.2.2.2.2.2.2.2.2
  | 0, hn => by
    have P := pointA m c ⟨0, hn⟩ rfl
    exact ⟨fwd_step H ⟨0, hn⟩ P.1 fun h hh j k => zero2 _, bwd_step H ⟨0, hn⟩ P.2 fun h hh j k => zero3 _⟩
  | n + 1, hn => by
    have hN : n + 1 < 22 := hn
    have ih := grid n (Nat.lt_of_succ_lt hn)
    have P := pointB m c ⟨n + 1, hn⟩ (by show ¬(n + 1) % 22 = 0; omega)
    exact ⟨fwd_step H ⟨n + 1, hn⟩ P.1 ih.1.1, bwd_step H ⟨n + 1, hn⟩ P.2 ih.2.1⟩

/-- Where the output windows lie. -/
theorem index_out : ∀ t : Fin grid0.N,
    win0_14.index t = ![21 - t.val, 0] ∧ win0_15.index t = ![21 - t.val, 0] ∧ win0_16.index t = ![21 - t.val, 0]
      ∧ win0_17.index t = ![21 - t.val, 0] ∧ win0_18.index t = ![t.val, 0] ∧ win0_19.index t = ![t.val, 0]
      ∧ win0_20.index t = ![t.val, 0] ∧ win0_21.index t = ![t.val, 0] := by
  decide +kernel

/-- A block's rows, counted either way. -/
theorem onBlock (f : ℕ → ℕ → ℝ) (n a b : ℕ) : ((f (384 * n + a) b : ℝ) : EReal) = ((f (n * 384 + a) b : ℝ) : EReal) := by
  rw [Nat.mul_comm]

include H in
/-- The eight output arrays after the last point. -/
theorem arrays :
    (dats m 0 c).arrAt 14 cfg0.N = asArr 256 (A.dq false)
      ∧ (dats m 0 c).arrAt 15 cfg0.N = asArr 256 (A.dk false)
      ∧ (dats m 0 c).arrAt 16 cfg0.N = asArr 512 (A.dv false)
      ∧ (dats m 0 c).arrAt 17 cfg0.N = asArr 256 (A.dP false)
      ∧ (dats m 0 c).arrAt 18 cfg0.N = asArr 256 (A.dq true)
      ∧ (dats m 0 c).arrAt 19 cfg0.N = asArr 256 (A.dk true)
      ∧ (dats m 0 c).arrAt 20 cfg0.N = asArr 512 (A.dv true)
      ∧ (dats m 0 c).arrAt 21 cfg0.N = asArr 256 (A.dP true) := by
  refine ⟨?_, ?_, ?_, ?_, ?_, ?_, ?_, ?_⟩
  · refine (dats m 0 c).arrAt_eq_of_covers 14 _ (by decide +kernel) fun t hf y => ?_
    have e := (index_out t).1
    have h := (grid H t.val t.isLt).1.2.1 (y 0) (y 1)
    rw [after0_14]
    blk_simp [asArr, e]
    exact (congrArg _ (eq_ix2 y)).trans (h.trans (onBlock _ _ _ _))
  · refine (dats m 0 c).arrAt_eq_of_covers 15 _ (by decide +kernel) fun t hf y => ?_
    have e := (index_out t).2.1
    have h := (grid H t.val t.isLt).1.2.2.1 (y 0) (y 1)
    rw [after0_15]
    blk_simp [asArr, e]
    exact (congrArg _ (eq_ix2 y)).trans (h.trans (onBlock _ _ _ _))
  · refine (dats m 0 c).arrAt_eq_of_covers 16 _ (by decide +kernel) fun t hf y => ?_
    have e := (index_out t).2.2.1
    have h := (grid H t.val t.isLt).1.2.2.2.1 (y 0) (y 1)
    rw [after0_16]
    blk_simp [asArr, e]
    exact (congrArg _ (eq_ix2 y)).trans (h.trans (onBlock _ _ _ _))
  · refine (dats m 0 c).arrAt_eq_of_covers 17 _ (by decide +kernel) fun t hf y => ?_
    have e := (index_out t).2.2.2.1
    have h := (grid H t.val t.isLt).1.2.2.2.2 (y 0) (y 1)
    rw [after0_17]
    blk_simp [asArr, e]
    exact (congrArg _ (eq_ix2 y)).trans (h.trans (onBlock _ _ _ _))
  · refine (dats m 0 c).arrAt_eq_of_covers 18 _ (by decide +kernel) fun t hf y => ?_
    have e := (index_out t).2.2.2.2.1
    have h := (grid H t.val t.isLt).2.2.1 (y 0) (y 1)
    rw [after0_18]
    blk_simp [asArr, e]
    exact (congrArg _ (eq_ix2 y)).trans (h.trans (onBlock _ _ _ _))
  · refine (dats m 0 c).arrAt_eq_of_covers 19 _ (by decide +kernel) fun t hf y => ?_
    have e := (index_out t).2.2.2.2.2.1
    have h := (grid H t.val t.isLt).2.2.2.1 (y 0) (y 1)
    rw [after0_19]
    blk_simp [asArr, e]
    exact (congrArg _ (eq_ix2 y)).trans (h.trans (onBlock _ _ _ _))
  · refine (dats m 0 c).arrAt_eq_of_covers 20 _ (by decide +kernel) fun t hf y => ?_
    have e := (index_out t).2.2.2.2.2.2.1
    have h := (grid H t.val t.isLt).2.2.2.2.1 (y 0) (y 1)
    rw [after0_20]
    blk_simp [asArr, e]
    exact (congrArg _ (eq_ix2 y)).trans (h.trans (onBlock _ _ _ _))
  · refine (dats m 0 c).arrAt_eq_of_covers 21 _ (by decide +kernel) fun t hf y => ?_
    have e := (index_out t).2.2.2.2.2.2.2
    have h := (grid H t.val t.isLt).2.2.2.2.2 (y 0) (y 1)
    rw [after0_21]
    blk_simp [asArr, e]
    exact (congrArg _ (eq_ix2 y)).trans (h.trans (onBlock _ _ _ _))

end Cert.Gla
-- ==== Proof.WindowSum.lean ====
module
public import Idealize.ShloMosaic.Lib.Pointwise
public import Mathlib.Data.EReal.Basic
/-!
# Running sums along the third of four axes

The reference's running sums are printed as windows as long as the axis, padded below (sum of the entries
up to this one) or above (sum of the entries from this one on).
-/

@[expose] public section

noncomputable section

namespace Cert.Gla

open Idealize.ShloMosaic
open scoped BigOperators

theorem foldl_sum {α : Type} (g : α → EReal) (l : List α) (a : EReal) :
    l.foldl (fun r n => r + g n) a = a + (l.map g).sum := by
  induction l generalizing a with
  | nil => simp
  | cons x l ih => rw [List.foldl_cons, ih, List.map_cons, List.sum_cons, add_assoc]

/-- The places of a window that is 64 long on one axis. -/
theorem sum_places (f : (⟨4, ![1, 1, 64, 1]⟩ : Shape).Idx → EReal) :
    ∑ w, f w = ∑ s : Fin 64, f (ix4 (0 : Fin 1) (0 : Fin 1) s (0 : Fin 1)) := by
  refine (Fintype.sum_bijective (fun s : Fin 64 => (ix4 (0 : Fin 1) (0 : Fin 1) s (0 : Fin 1) : (⟨4, ![1, 1, 64, 1]⟩ : Shape).Idx))
    ⟨fun a b h => congrFun h 2, fun w => ⟨w 2, funext fun a => ?_⟩⟩ _ _ fun s => rfl).symm
  match a with
  | ⟨0, _⟩ => exact (Fin.eq_zero _).symm
  | ⟨1, _⟩ => exact (Fin.eq_zero _).symm
  | ⟨2, _⟩ => rfl
  | ⟨3, _⟩ => exact (Fin.eq_zero _).symm

variable {m n p : ℕ}

/-- The window's sum at one place. -/
theorem window_sum (l : ℕ) (hi : Fin 4 → ℕ) (x : (⟨4, ![m, n, 64, p]⟩ : Shape).Idx → EReal)
    (h : (⟨4, ![m, n, 64, p]⟩ : Shape).ReduceWindows ![1, 1, 64, 1] ![1, 1, 1, 1] ![0, 0, l, 0] hi ⟨4, ![m, n, 64, p]⟩)
    (a : Fin m) (b : Fin n) (t : Fin 64) (c : Fin p) :
    Ideal.hostReduceWindowAdd ![1, 1, 64, 1] ![1, 1, 1, 1] ![0, 0, l, 0] hi h x 0 (ix4 a b t c)
      = ∑ s : Fin 64, if hs : l ≤ t.val + s.val ∧ t.val + s.val - l < 64 then x (ix4 a b ⟨_, hs.2⟩ c) else 0 := by
  unfold Ideal.hostReduceWindowAdd Host.reduceWindow
  refine (foldl_sum _ _ _).trans ?_
  rw [zero_add, ← List.ofFn_eq_map, List.sum_ofFn]
  refine (Equiv.sum_comp (⟨4, ![1, 1, 64, 1]⟩ : Shape).rowMajor.symm (fun w => @dite _ (∀ e : Fin 4,
      (![0, 0, l, 0] : Fin 4 → ℕ) e ≤ ((ix4 a b t c : (⟨4, ![m, n, 64, p]⟩ : Shape).Idx) e).val * (![1, 1, 1, 1] : Fin 4 → ℕ) e + (w e).val
      ∧ ((ix4 a b t c : (⟨4, ![m, n, 64, p]⟩ : Shape).Idx) e).val * (![1, 1, 1, 1] : Fin 4 → ℕ) e + (w e).val - (![0, 0, l, 0] : Fin 4 → ℕ) e
        < (![m, n, 64, p] : Fin 4 → ℕ) e)
      (Nat.decidableForallFin _) (fun hin => x (fun e => ⟨_, (hin e).2⟩)) (fun _ => 0))).trans ?_
  rw [sum_places]
  refine Finset.sum_congr rfl fun s _ => ?_
  by_cases hs : l ≤ t.val + s.val ∧ t.val + s.val - l < 64
  · rw [dif_pos hs, dif_pos]
    · refine congrArg x (funext fun e => Fin.ext ?_)
      match e with
      | ⟨0, _⟩ => show a.val * 1 + 0 - 0 = a.val; omega
      | ⟨1, _⟩ => show b.val * 1 + 0 - 0 = b.val; omega
      | ⟨2, _⟩ => show t.val * 1 + s.val - l = t.val + s.val - l; rw [Nat.mul_one]
      | ⟨3, _⟩ => show c.val * 1 + 0 - 0 = c.val; omega
    · intro e
      match e with
      | ⟨0, _⟩ => show 0 ≤ a.val * 1 + 0 ∧ a.val * 1 + 0 - 0 < m; have := a.isLt; omega
      | ⟨1, _⟩ => show 0 ≤ b.val * 1 + 0 ∧ b.val * 1 + 0 - 0 < n; have := b.isLt; omega
      | ⟨2, _⟩ => show l ≤ t.val * 1 + s.val ∧ t.val * 1 + s.val - l < 64; omega
      | ⟨3, _⟩ => show 0 ≤ c.val * 1 + 0 ∧ c.val * 1 + 0 - 0 < p; have := c.isLt; omega
  · rw [dif_neg hs, dif_neg]
    intro hin
    have h2 : l ≤ t.val * 1 + s.val ∧ t.val * 1 + s.val - l < 64 := hin 2
    exact hs (by omega)

/-- The entries up to this one. -/
theorem sum_upto (x : FVec Ideal ⟨4, ![m, n, 64, p]⟩ .f32) (z : FVec Ideal ⟨0, ![]⟩ .f32)
    (h : (⟨4, ![m, n, 64, p]⟩ : Shape).ReduceWindows ![1, 1, 64, 1] ![1, 1, 1, 1] ![0, 0, 63, 0] ![0, 0, 0, 0] ⟨4, ![m, n, 64, p]⟩)
    (hu : 0 < (⟨0, ![]⟩ : Shape).numel) (hz : ∀ i, z i = (0 : EReal)) (a : Fin m) (b : Fin n) (t : Fin 64) (c : Fin p) :
    Host.reduceWindowAdd ![1, 1, 64, 1] ![1, 1, 1, 1] ![0, 0, 63, 0] ![0, 0, 0, 0] x z h hu (ix4 a b t c)
      = ∑ s : Fin 64, if s ≤ t then (x (ix4 a b s c) : EReal) else 0 := by
  refine Eq.trans (b := Ideal.hostReduceWindowAdd ![1, 1, 64, 1] ![1, 1, 1, 1] ![0, 0, 63, 0] ![0, 0, 0, 0] h x (0 : EReal)
    (ix4 a b t c)) (by rw [← hz (Shape.Idx.first hu)]; rfl) ((window_sum 63 _ x h a b t c).trans ?_)
  rw [← Finset.sum_filter]
  have ht := t.isLt
  refine (Finset.sum_filter_of_ne (p := fun s : Fin 64 => 63 ≤ t.val + s.val) fun s _ hs => ?_).symm.trans ?_
  · by_contra hn
    exact hs (dif_neg fun h' => hn h'.1)
  · refine Finset.sum_bij' (fun s hs => (⟨t.val + s.val - 63, by omega⟩ : Fin 64)) (fun s hs => (⟨s.val + 63 - t.val, by
      have := Fin.le_def.mp (Finset.mem_filter.mp hs).2; omega⟩ : Fin 64)) ?_ ?_ ?_ ?_ ?_
    · intro s hs
      exact Finset.mem_filter.mpr ⟨Finset.mem_univ _, Fin.le_def.mpr (by show t.val + s.val - 63 ≤ t.val; omega)⟩
    · intro s hs
      have := Fin.le_def.mp (Finset.mem_filter.mp hs).2
      exact Finset.mem_filter.mpr ⟨Finset.mem_univ _, by show 63 ≤ t.val + (s.val + 63 - t.val); omega⟩
    · intro s hs
      have := (Finset.mem_filter.mp hs).2
      exact Fin.ext (by show t.val + s.val - 63 + 63 - t.val = s.val; omega)
    · intro s hs
      have := Fin.le_def.mp (Finset.mem_filter.mp hs).2
      exact Fin.ext (by show t.val + (s.val + 63 - t.val) - 63 = s.val; omega)
    · intro s hs
      have := (Finset.mem_filter.mp hs).2
      exact dif_pos ⟨this, by omega⟩

/-- The entries from this one on. -/
theorem sum_from (x : FVec Ideal ⟨4, ![m, n, 64, p]⟩ .f32) (z : FVec Ideal ⟨0, ![]⟩ .f32)
    (h : (⟨4, ![m, n, 64, p]⟩ : Shape).ReduceWindows ![1, 1, 64, 1] ![1, 1, 1, 1] ![0, 0, 0, 0] ![0, 0, 63, 0] ⟨4, ![m, n, 64, p]⟩)
    (hu : 0 < (⟨0, ![]⟩ : Shape).numel) (hz : ∀ i, z i = (0 : EReal)) (a : Fin m) (b : Fin n) (t : Fin 64) (c : Fin p) :
    Host.reduceWindowAdd ![1, 1, 64, 1] ![1, 1, 1, 1] ![0, 0, 0, 0] ![0, 0, 63, 0] x z h hu (ix4 a b t c)
      = ∑ s : Fin 64, if t ≤ s then (x (ix4 a b s c) : EReal) else 0 := by
  refine Eq.trans (b := Ideal.hostReduceWindowAdd ![1, 1, 64, 1] ![1, 1, 1, 1] ![0, 0, 0, 0] ![0, 0, 63, 0] h x (0 : EReal)
    (ix4 a b t c)) (by rw [← hz (Shape.Idx.first hu)]; rfl) ((window_sum 0 _ x h a b t c).trans ?_)
  rw [← Finset.sum_filter]
  have ht := t.isLt
  refine (Finset.sum_filter_of_ne (p := fun s : Fin 64 => t.val + s.val < 64) fun s _ hs => ?_).symm.trans ?_
  · by_contra hn
    exact hs (dif_neg fun h' => hn h'.2)
  · refine Finset.sum_bij' (fun s hs => (⟨t.val + s.val, (Finset.mem_filter.mp hs).2⟩ : Fin 64)) (fun s hs => (⟨s.val - t.val, by omega⟩ : Fin 64)) ?_ ?_ ?_ ?_ ?_
    · intro s hs
      exact Finset.mem_filter.mpr ⟨Finset.mem_univ _, Fin.le_def.mpr (by show t.val ≤ t.val + s.val; omega)⟩
    · intro s hs
      have := Fin.le_def.mp (Finset.mem_filter.mp hs).2
      exact Finset.mem_filter.mpr ⟨Finset.mem_univ _, by show t.val + (s.val - t.val) < 64; omega⟩
    · intro s hs
      exact Fin.ext (by show t.val + s.val - t.val = s.val; omega)
    · intro s hs
      have := Fin.le_def.mp (Finset.mem_filter.mp hs).2
      exact Fin.ext (by show t.val + (s.val - t.val) = s.val; omega)
    · intro s hs
      have := (Finset.mem_filter.mp hs).2
      exact dif_pos ⟨Nat.zero_le _, this⟩

end Cert.Gla
-- ==== Proof.RefTrip.lean ====
module
public import proofs.«01_k».proof.Proof.Gen.ReferenceIdeal.Run
public import proofs.«01_k».proof.Proof.DataIs
public import proofs.«01_k».proof.Proof.WindowSum
public import Idealize.ShloMosaic.Lib.Pointwise
public import Idealize.ShloMosaic.Lib.DynamicIndex

/-!
# What one trip of the reference's loop reads and computes

`Trip V X D n` says that the loop's variables hold, at the trip that treats the time chunk `n`, the chunk
`X d h` of every direction and head and the cotangent `D d h` of the state it leaves. The lemmas give the
values the trip's body computes, up to the gate's running sum and the decays, as real numbers.
-/

@[expose] public section
set_option maxRecDepth 16384
noncomputable section
namespace Cert.Gla
open Idealize.ShloMosaic Idealize.ShloMosaic.TcCoe Cert.ReferenceIdeal Cert.ReferenceIdeal.Gen Cert.ReferenceIdeal.Value
open scoped BigOperators

/-- A chunk starts at its number and takes the whole of the other axes. -/
theorem fits (e : Fin 4 → ℕ) (n : Fin 132) : (⟨5, Matrix.vecCons 132 e⟩ : Shape).Slices ![n.val, 0, 0, 0, 0] ⟨5, Matrix.vecCons 1 e⟩ := by
  refine ⟨rfl, fun a => ?_⟩
  match a with
  | ⟨0, _⟩ => show n.val + 1 ≤ 132; omega
  | ⟨1, _⟩ => show 0 + e 0 ≤ e 0; omega
  | ⟨2, _⟩ => show 0 + e 1 ≤ e 1; omega
  | ⟨3, _⟩ => show 0 + e 2 ≤ e 2; omega
  | ⟨4, _⟩ => show 0 + e 3 ≤ e 3; omega

theorem start (V : Valuation τ sig (Elt Ideal)) (n : Fin 132) (hn : res_main_while0b_v87 V = fun _ => BitVec.ofNat 32 n.val) (k : Fin 5) :
    ((((![res_main_while0b_v87 V, constantI S_ 32 0#32, constantI S_ 32 0#32, constantI S_ 32 0#32, constantI S_ 32 0#32] :
      Fin 5 → (⟨S_, .i32⟩ : BufTy).Contents (Elt Ideal))) k (Shape.Idx.first h_S_)).toInt) = (((![n.val, 0, 0, 0, 0] : Fin 5 → ℕ) k : ℕ) : ℤ) := by
  fin_cases k
  · show (res_main_while0b_v87 V _).toInt = _
    rw [hn]
    exact toInt_ofNat_of_lt (by omega)
  all_goals rfl

theorem bits_sixteen : Ideal.ofBits .f32 0x41800000#32 = ((16 : ℝ) : EReal) := by
  simp only [Ideal.ofBits, Ideal.ieee]
  simp
  rw [← EReal.coe_mul]
  norm_num

theorem bits_half : Ideal.ofBits .f32 0x3F000000#32 = ((1 / 2 : ℝ) : EReal) := by
  simp only [Ideal.ofBits, Ideal.ieee]
  simp
  rw [← EReal.coe_mul]
  norm_num

theorem sum_is {m : ℕ} (f g : Fin m → ℝ) (hf : ∀ i, f i = g i) : ∑ i, (f i : EReal) = ((∑ i, g i : ℝ) : EReal) := by
  rw [coe_sum]
  exact Finset.sum_congr rfl fun i _ => by rw [hf i]

structure Trip (V : Valuation τ sig (Elt Ideal)) (X : Fin 2 → Fin 4 → Chunk) (D : Fin 2 → Fin 4 → Fin 128 → Fin 64 → ℝ)
    (n : Fin 132) : Prop where
  no : res_main_while0b_v87 V = fun _ => BitVec.ofNat 32 n.val
  S : ∀ d h c j, V (Proc.devRef .tc main_v57_0) (ix5 n d h c j) = ((X d h).S j c : EReal)
  y : ∀ d h t j, V (Proc.devRef .tc main_v57_1) (ix5 n d h t j) = ((X d h).y t j : EReal)
  q : ∀ d h t c, V (Proc.devRef .tc main_v57_2) (ix5 n d h t c) = ((X d h).q t c : EReal)
  k : ∀ d h t c, V (Proc.devRef .tc main_v57_3) (ix5 n d h t c) = ((X d h).k t c : EReal)
  v : ∀ d h t j, V (Proc.devRef .tc main_v57_4) (ix5 n d h t j) = ((X d h).v t j : EReal)
  P : ∀ d h t c, V (Proc.devRef .tc main_v57_5) (ix5 n d h t c) = ((X d h).P t c : EReal)
  mask : ∀ d h t s, V (Proc.devRef .tc main_v57_6) (ix3 d t s) = BitVec.ofBool (decide ((X d h).M t s))
  D : ∀ d h c j, V (Proc.devRef .tc main_v57_8) (ix4 d h c j) = (D d h j c : EReal)

namespace Trip

variable {V : Valuation τ sig (Elt Ideal)} {X : Fin 2 → Fin 4 → Chunk} {D : Fin 2 → Fin 4 → Fin 128 → Fin 64 → ℝ}
  {n : Fin 132} (H : Trip V X D n) (d : Fin 2) (h : Fin 4) (t s c : Fin 64) (j : Fin 128)
include H

theorem v88 : res_main_while0b_v88 V (ix4 d h c j) = ((X d h).S j c : EReal) := by
  rw [← H.S]
  unfold res_main_while0b_v88
  rw [Host.dynamicSlice_eq_extractStridedSlice _ _ _ ![n.val, 0, 0, 0, 0] _ (fits ![2, 4, 64, 128] n) (start V n H.no)]
  pointwise

theorem v89 : res_main_while0b_v89 V (ix4 d h t j) = ((X d h).y t j : EReal) := by
  rw [← H.y]
  unfold res_main_while0b_v89
  rw [Host.dynamicSlice_eq_extractStridedSlice _ _ _ ![n.val, 0, 0, 0, 0] _ (fits ![2, 4, 64, 128] n) (start V n H.no)]
  pointwise

theorem v90 : res_main_while0b_v90 V (ix4 d h t c) = ((X d h).q t c : EReal) := by
  rw [← H.q]
  unfold res_main_while0b_v90
  rw [Host.dynamicSlice_eq_extractStridedSlice _ _ _ ![n.val, 0, 0, 0, 0] _ (fits ![2, 4, 64, 64] n) (start V n H.no)]
  pointwise

theorem v91 : res_main_while0b_v91 V (ix4 d h t c) = ((X d h).k t c : EReal) := by
  rw [← H.k]
  unfold res_main_while0b_v91
  rw [Host.dynamicSlice_eq_extractStridedSlice _ _ _ ![n.val, 0, 0, 0, 0] _ (fits ![2, 4, 64, 64] n) (start V n H.no)]
  pointwise

theorem v92 : res_main_while0b_v92 V (ix4 d h t j) = ((X d h).v t j : EReal) := by
  rw [← H.v]
  unfold res_main_while0b_v92
  rw [Host.dynamicSlice_eq_extractStridedSlice _ _ _ ![n.val, 0, 0, 0, 0] _ (fits ![2, 4, 64, 128] n) (start V n H.no)]
  pointwise

theorem v94 : res_main_while0b_v94 V (ix4 d h t c) = ((-(X d h).P t c : ℝ) : EReal) := by
  rw [EReal.coe_neg, ← H.P]
  unfold res_main_while0b_v94
  rw [Host.dynamicSlice_eq_extractStridedSlice _ _ _ ![n.val, 0, 0, 0, 0] _ (fits ![2, 4, 64, 64] n) (start V n H.no)]
  pointwise

theorem v98 : res_main_while0b_v98 V (ix4 d h t c) = ((-(X d h).P t c : ℝ) : EReal) := by
  pointwise [res_main_while0b_v98, res_main_while0b_cst_21]
  exact H.v94 d h t c

theorem v107 : res_main_while0b_v107 V (ix4 d h t c) = ((X d h).L t c : EReal) := by
  pointwise [res_main_while0b_v107, res_main_while0b_cst_21]
  rw [H.v98, H.v94, if_neg (fun hne => hne rfl), absf_coe, ← EReal.coe_neg, Ideal.exp_coe, Ideal.log1p, ← EReal.coe_one, ← EReal.coe_add,
    log_coe_pos _ (by positivity), ← EReal.coe_zero, coe_max, ← EReal.coe_add, abs_neg, Chunk.L]
  have h1 := softplus ((X d h).P t c)
  have h2 : max (-(X d h).P t c) 0 = -min ((X d h).P t c) 0 := by rw [← max_neg_neg, neg_zero]
  exact congrArg _ (by rw [h2]; linarith)

theorem g : (Host.divf (Host.negf (res_main_while0b_v107 V)) (broadcastInDim S2x4x64x64 ![] bcast_S_S2x4x64x64
    (constant S_ FTy.f32 0x41800000#32)) (ix4 d h t c) : EReal) = ((X d h).g t c : EReal) := by
  pointwise
  rw [H.v107, bits_sixteen, Ideal.div_coe (by norm_num), ← EReal.coe_neg, ← EReal.coe_mul, Chunk.g]
  congr 1
  ring

theorem v132 : res_main_while0b_v132 V (ix4 d h t c) = ((X d h).b t c : EReal) := by
  unfold res_main_while0b_v132
  rw [sum_upto _ _ _ _ (fun i => by pointwise)]
  simp only [H.g, coe_ite, coe_sum]
  rfl

theorem v137 : res_main_while0b_v137 V (ix5 d h t s c) = (((X d h).b t c - (X d h).b s c : ℝ) : EReal) := by
  pointwise [res_main_while0b_v137]
  rw [H.v132, H.v132, ← EReal.coe_sub]

theorem v150 : res_main_while0b_v150 V (ix5 d h t s c) = ((Real.exp (min ((X d h).b t c - (X d h).b s c) 0) : ℝ) : EReal) := by
  pointwise [res_main_while0b_v150]
  rw [H.v137, ← EReal.coe_zero, coe_min, Ideal.exp_coe]

theorem v151_1 : res_main_while0b_v151_1 V (ix5 d h t s c) = BitVec.ofBool (decide ((X d h).M t s)) := by
  pointwise [res_main_while0b_v151_1]
  exact H.mask d h t s

theorem v151_0 : res_main_while0b_v151_0 V (ix5 d h t s c) = ((X d h).dec t s c : EReal) := by
  pointwise [res_main_while0b_v151_0]
  rw [H.v151_1, H.v150, select_bool]
  refine Eq.trans (b := if (X d h).M t s then ((Real.exp (min ((X d h).b t c - (X d h).b s c) 0) : ℝ) : EReal) else 0) ?_ ?_
  · split
    · rfl
    · show (constant (F := Ideal) S_ .f32 0x00000000#32) ix0 = _
      pointwise
  rw [coe_ite, Chunk.dec]
  congr 1
  split
  next hM =>
    refine congrArg Real.exp (min_eq_left ?_)
    have hb : s ≤ t := hM.elim le_of_lt fun hM => hM.2.le
    have := (X d h).b_le s t c hb
    linarith
  · rfl

theorem v154 : res_main_while0b_v154 V (ix5 d h t s c) = (((X d h).q t c * (X d h).dec t s c : ℝ) : EReal) := by
  pointwise [res_main_while0b_v154, res_main_while0b_v152]
  rw [H.v90, H.v151_0, ← EReal.coe_mul]

theorem v158 : res_main_while0b_v158 V (ix4 d h t s) = ((X d h).A t s : EReal) := by
  pointwise [res_main_while0b_v158, res_main_while0b_v155]
  simp only [H.v154, H.v91, ← EReal.coe_mul, coe_sum]
  rw [Chunk.A]
  exact sum_is _ _ fun c => by ring

theorem v160 : res_main_while0b_v160 V (ix4 d h t c) = ((Real.exp ((X d h).b t c) : ℝ) : EReal) := by
  pointwise [res_main_while0b_v160]
  rw [H.v132, Ideal.exp_coe]

theorem v161 : res_main_while0b_v161 V (ix4 d h t c) = (((X d h).q t c * Real.exp ((X d h).b t c) : ℝ) : EReal) := by
  pointwise [res_main_while0b_v161]
  rw [H.v90, H.v160, ← EReal.coe_mul]

theorem v163 (t : Fin 1) : res_main_while0b_v163 V (ix4 d h t c) = ((X d h).bl c : EReal) := by
  obtain rfl := Fin.eq_zero t
  pointwise [res_main_while0b_v163]
  exact H.v132 d h 63 c

theorem v164 (t : Fin 1) : res_main_while0b_v164 V (ix4 d h t c) = ((Real.exp ((X d h).bl c) : ℝ) : EReal) := by
  pointwise [res_main_while0b_v164]
  rw [H.v163, Ideal.exp_coe]

theorem v166 (t : Fin 1) : res_main_while0b_v166 V (ix4 d h c t) = ((Real.exp ((X d h).bl c) : ℝ) : EReal) := by
  obtain rfl := Fin.eq_zero t
  pointwise [res_main_while0b_v166]
  exact H.v164 d h c 0

theorem v171 : res_main_while0b_v171 V (ix4 d h s c) = ((Real.exp ((X d h).bl c - (X d h).b s c) : ℝ) : EReal) := by
  pointwise [res_main_while0b_v171]
  rw [H.v163, H.v132, ← EReal.coe_sub, Ideal.exp_coe]

theorem v172 : res_main_while0b_v172 V (ix4 d h s c) = (((X d h).k s c * Real.exp ((X d h).bl c - (X d h).b s c) : ℝ) : EReal) := by
  pointwise [res_main_while0b_v172]
  rw [H.v91, H.v171, ← EReal.coe_mul]

theorem v179 : res_main_while0b_v179 V (ix4 d h s c) = ((X d h).vD (D d h) s c : EReal) := by
  pointwise [res_main_while0b_v179]
  simp only [H.D, H.v92, ← EReal.coe_mul, coe_sum]
  rw [Chunk.vD]
  exact sum_is _ _ fun j => by ring

theorem v182 : res_main_while0b_v182 V (ix4 d h s c) = ((X d h).u (D d h) s c : EReal) := by
  pointwise [res_main_while0b_v182]
  rw [H.v91, H.v179, H.v171, ← EReal.coe_mul, ← EReal.coe_mul, Chunk.u]

theorem v200 : res_main_while0b_v200 V (ix4 d h t c) = ((X d h).yS t c : EReal) := by
  pointwise [res_main_while0b_v200]
  simp only [H.v88, H.v89, ← EReal.coe_mul, coe_sum]
  rfl

theorem v209 : res_main_while0b_v209 V (ix5 d h t s c) = ((X d h).dA t s : EReal) := by
  pointwise [res_main_while0b_v209]
  simp only [H.v89, H.v92, ← EReal.coe_mul, coe_sum]
  rfl

theorem v214 : res_main_while0b_v214 V (ix5 d h t s c) = (((X d h).dA t s * (X d h).k s c : ℝ) : EReal) := by
  pointwise [res_main_while0b_v214, res_main_while0b_v155]
  rw [H.v209, H.v91, ← EReal.coe_mul]

theorem v226 : res_main_while0b_v226 V (ix5 d h t s c) = ((X d h).E t s c : EReal) := by
  pointwise [res_main_while0b_v226, res_main_while0b_v152]
  rw [H.v151_1, H.v90, H.v214, H.v150, H.v137, select_bool, bits_half]
  have h0 : ∀ x : ℝ, (if (x : EReal) < 0 then (1 : EReal) else if (0 : EReal) = x then ((1 / 2 : ℝ) : EReal) else 0) = (Chunk.tie x : EReal) := by
    intro x
    unfold Chunk.tie
    by_cases hx : x < 0
    · rw [if_pos hx, if_pos (show (x : EReal) < 0 by exact_mod_cast hx), EReal.coe_one]
    · rw [if_neg hx, if_neg (fun hh => hx (by exact_mod_cast hh))]
      by_cases hz : x = 0
      · rw [if_pos hz, if_pos (by rw [hz]; rfl)]
      · rw [if_neg hz, if_neg (fun hh => hz (by exact_mod_cast hh.symm)), EReal.coe_zero]
  rw [h0]
  unfold Chunk.E
  split
  · rw [← EReal.coe_mul, ← EReal.coe_mul, ← EReal.coe_mul]
  · rw [zero_mul, zero_mul, EReal.coe_zero]

end Trip
end Cert.Gla
-- ==== Proof.RefGrads.lean ====
module
public import proofs.«01_k».proof.Proof.RefTrip
public import Idealize.ShloMosaic.Lib.WordCmp

/-!
# What one trip of the reference's loop leaves

The cotangent of the state before the chunk, and at the chunk's place of the stacked results its cotangents.
-/

@[expose] public section
set_option maxRecDepth 16384
noncomputable section
namespace Cert.Gla
open Idealize.ShloMosaic Idealize.ShloMosaic.TcCoe Cert.ReferenceIdeal Cert.ReferenceIdeal.Gen Cert.ReferenceIdeal.Value
open scoped BigOperators

section Put

variable {a b e f : ℕ} (x : FVec Ideal ⟨5, ![132, a, b, e, f]⟩ .f32) (u : FVec Ideal ⟨5, ![1, a, b, e, f]⟩ .f32)
  (st : Fin 5 → ℤ) (n : Fin 132) (hs : ∀ k, st k = (((![n.val, 0, 0, 0, 0] : Fin 5 → ℕ) k : ℕ) : ℤ))
  (hf : (⟨5, ![132, a, b, e, f]⟩ : Shape).Slices (fun _ => 0) ⟨5, ![1, a, b, e, f]⟩)
  (i : Fin a) (j : Fin b) (k : Fin e) (l : Fin f)
include hs

/-- The chunk's own place holds the update. -/
theorem put_at : Host.dynamicUpdateSlice x u st hf (ix5 n i j k l) = u (ix5 (0 : Fin 1) i j k l) := by
  rw [WordCmp.dynamicUpdateSlice_eq_update x u st hf ![n.val, 0, 0, 0, 0] (fits ![a, b, e, f] n) hs]
  refine (dif_pos fun q => ?_).trans (congrArg u (funext fun q => Fin.ext ?_))
  · match q with
    | ⟨0, _⟩ => show n.val ≤ n.val ∧ n.val < n.val + 1; omega
    | ⟨1, _⟩ => show 0 ≤ i.val ∧ i.val < 0 + a; omega
    | ⟨2, _⟩ => show 0 ≤ j.val ∧ j.val < 0 + b; omega
    | ⟨3, _⟩ => show 0 ≤ k.val ∧ k.val < 0 + e; omega
    | ⟨4, _⟩ => show 0 ≤ l.val ∧ l.val < 0 + f; omega
  · match q with
    | ⟨0, _⟩ => show n.val - n.val = 0; omega
    | ⟨1, _⟩ => rfl
    | ⟨2, _⟩ => rfl
    | ⟨3, _⟩ => rfl
    | ⟨4, _⟩ => rfl

/-- Every other place is as it was. -/
theorem put_off (m : Fin 132) (hm : m ≠ n) : Host.dynamicUpdateSlice x u st hf (ix5 m i j k l) = x (ix5 m i j k l) := by
  rw [WordCmp.dynamicUpdateSlice_eq_update x u st hf ![n.val, 0, 0, 0, 0] (fits ![a, b, e, f] n) hs]
  refine dif_neg fun hin => hm (Fin.ext ?_)
  have : n.val ≤ m.val ∧ m.val < n.val + 1 := hin 0
  omega

end Put

theorem bits_inf : Ideal.ofBits .f32 0x7F800000#32 = (⊤ : EReal) := by
  simp only [Ideal.ofBits, Ideal.ieee]
  simp

namespace Trip

variable {V : Valuation τ sig (Elt Ideal)} {X : Fin 2 → Fin 4 → Chunk} {D : Fin 2 → Fin 4 → Fin 128 → Fin 64 → ℝ}
  {n : Fin 132} (H : Trip V X D n) (d : Fin 2) (h : Fin 4) (t s c : Fin 64) (j : Fin 128)
include H

theorem new : step_main_v57_8 V (ix4 d h c j) = ((X d h).new (D d h) j c : EReal) := by
  unfold step_main_v57_8
  dsimp only [id]
  pointwise
  rw [H.v166, H.D, ← EReal.coe_mul, Chunk.new, EReal.coe_add, coe_sum, mul_comm (Real.exp _)]
  refine congrArg (_ + ·) (Finset.sum_congr rfl fun t _ => ?_)
  rw [H.v89, H.v161, ← EReal.coe_mul]

theorem dq : step_main_v57_9 V (ix5 n d h t c) = ((X d h).dq t c : EReal) := by
  unfold step_main_v57_9
  refine (put_at _ _ _ n (start V n H.no) _ d h t c).trans ?_
  pointwise
  simp only [H.v200, H.v160, H.v214, H.v151_0, ← EReal.coe_mul, Finset.univ_unique, Finset.sum_singleton]
  rw [← coe_sum, ← EReal.coe_add, Chunk.dq, add_comm]

theorem dk : step_main_v57_10 V (ix5 n d h s c) = ((X d h).dk (D d h) s c : EReal) := by
  unfold step_main_v57_10
  refine (put_at _ _ _ n (start V n H.no) _ d h s c).trans ?_
  pointwise
  simp only [H.v179, H.v171, H.v154, H.v209, ← EReal.coe_mul, Finset.univ_unique, Finset.sum_singleton]
  rw [← coe_sum, ← EReal.coe_add, Chunk.dk, add_comm]
  refine congrArg (fun r : ℝ => ((r + _ : ℝ) : EReal)) (Finset.sum_congr rfl fun t _ => ?_)
  ring

theorem dv : step_main_v57_11 V (ix5 n d h s j) = ((X d h).dv (D d h) s j : EReal) := by
  unfold step_main_v57_11
  refine (put_at _ _ _ n (start V n H.no) _ d h s j).trans ?_
  pointwise
  simp only [H.v172, H.v89, H.D, H.v158, ← EReal.coe_mul]
  rw [← coe_sum, ← coe_sum, ← EReal.coe_add, Chunk.dv, add_comm]
  refine congrArg₂ (fun r r' : ℝ => ((r + r' : ℝ) : EReal)) (Finset.sum_congr rfl fun t _ => ?_) (Finset.sum_congr rfl fun c _ => ?_) <;> ring

theorem dP : step_main_v57_12 V (ix5 n d h t c) = ((X d h).dP (D d h) t c : EReal) := by
  rw [← Chunk.refDP_eq]
  unfold step_main_v57_12
  refine (put_at _ _ _ n (start V n H.no) _ d h t c).trans ?_
  pointwise
  rw [sum_from _ _ _ _ (fun i => by pointwise)]
  pointwise
  simp only [H.v182, H.D, H.v88, H.v164, H.v90, H.v200, H.v160, H.v226, H.v94, H.v107, bits_inf, EReal.coe_ne_top, if_false, bits_sixteen,
    ← EReal.coe_mul, ← EReal.coe_neg, Finset.univ_unique, Finset.sum_singleton, ← coe_sum, ← EReal.coe_add, dite_eq_ite, coe_ite,
    ← EReal.coe_sub, Ideal.exp_coe]
  rw [Ideal.div_coe (by norm_num), ← EReal.coe_mul, ← EReal.coe_neg, ← EReal.coe_mul, ← EReal.coe_neg]
  unfold Chunk.refDP Chunk.refDb Chunk.w
  have e : ∀ (i : Fin 64) (x : ℝ), (if 63 ≤ i.val ∧ i.val - 63 < 1 then x else 0) = if i = 63 then x else 0 := fun i x =>
    if_congr ⟨fun hi => Fin.ext (show i.val = 63 by omega), fun hi => by subst hi; exact ⟨le_rfl, Nat.one_pos⟩⟩ rfl rfl
  simp only [e, mul_assoc, neg_mul, neg_neg]
  refine congrArg Real.toEReal ?_
  rw [← mul_assoc, mul_one_div]

end Trip
end Cert.Gla
-- ==== Proof.RefLoop.lean ====
module
public import proofs.«01_k».proof.Proof.RefGrads

/-!
# The reference's loop

`Entry A V`: the loop's constant variables hold the data's chunks, both directions in the order of their
time. `Loop A i V`: moreover, `i` trips are done, the last `i` time chunks' cotangents among them.
-/

@[expose] public section
set_option maxRecDepth 16384
noncomputable section
namespace Cert.Gla
open Idealize.ShloMosaic Idealize.ShloMosaic.TcCoe Cert.ReferenceIdeal Cert.ReferenceIdeal.Gen Cert.ReferenceIdeal.Value

/-- The second direction reads the rows backwards. -/
def side (d : Fin 2) : Bool := decide (d = 1)

/-- The chunk at time `n` of direction `d`. -/
abbrev Data.at (A : Data) (n : ℕ) (d : Fin 2) (h : Fin 4) : Chunk := A.chunk (side d) (turnChunk (side d) (131 - n)) h.val h.isLt

/-- The cotangent of the state that chunk leaves. -/
abbrev Data.after (A : Data) (n : ℕ) (d : Fin 2) (h : Fin 4) : Fin 128 → Fin 64 → ℝ := A.carry (side d) (131 - n) h.val h.isLt

variable (A : Data)

structure Entry (V : Valuation τ sig (Elt Ideal)) : Prop where
  S : ∀ (n : Fin 132) d h c j, V (Proc.devRef .tc main_v57_0) (ix5 n d h c j) = ((A.at n.val d h).S j c : EReal)
  y : ∀ (n : Fin 132) d h t j, V (Proc.devRef .tc main_v57_1) (ix5 n d h t j) = ((A.at n.val d h).y t j : EReal)
  q : ∀ (n : Fin 132) d h t c, V (Proc.devRef .tc main_v57_2) (ix5 n d h t c) = ((A.at n.val d h).q t c : EReal)
  k : ∀ (n : Fin 132) d h t c, V (Proc.devRef .tc main_v57_3) (ix5 n d h t c) = ((A.at n.val d h).k t c : EReal)
  v : ∀ (n : Fin 132) d h t j, V (Proc.devRef .tc main_v57_4) (ix5 n d h t j) = ((A.at n.val d h).v t j : EReal)
  P : ∀ (n : Fin 132) d h t c, V (Proc.devRef .tc main_v57_5) (ix5 n d h t c) = ((A.at n.val d h).P t c : EReal)
  mask : ∀ d t s, V (Proc.devRef .tc main_v57_6) (ix3 d t s) = BitVec.ofBool (decide (s < t ∨ (side d = false ∧ s = t)))

structure Loop (i : ℕ) (V : Valuation τ sig (Elt Ideal)) : Prop extends Entry A V where
  ctr : V (Proc.devRef .tc main_v57_7) = fun _ => BitVec.ofNat 32 i
  D : ∀ d (h : Fin 4) c j, V (Proc.devRef .tc main_v57_8) (ix4 d h c j) = (A.carry (side d) i h.val h.isLt j c : EReal)
  dq : ∀ (n : Fin 132), 132 ≤ i + n.val → ∀ d h t c,
    V (Proc.devRef .tc main_v57_9) (ix5 n d h t c) = ((A.at n.val d h).dq t c : EReal)
  dk : ∀ (n : Fin 132), 132 ≤ i + n.val → ∀ d h t c,
    V (Proc.devRef .tc main_v57_10) (ix5 n d h t c) = ((A.at n.val d h).dk (A.after n.val d h) t c : EReal)
  dv : ∀ (n : Fin 132), 132 ≤ i + n.val → ∀ d h t j,
    V (Proc.devRef .tc main_v57_11) (ix5 n d h t j) = ((A.at n.val d h).dv (A.after n.val d h) t j : EReal)
  dP : ∀ (n : Fin 132), 132 ≤ i + n.val → ∀ d h t c,
    V (Proc.devRef .tc main_v57_12) (ix5 n d h t c) = ((A.at n.val d h).dP (A.after n.val d h) t c : EReal)

variable {A} {V : Valuation τ sig (Elt Ideal)} {i : ℕ}

theorem Loop.trip (L : Loop A i V) (n : Fin 132) (hn : i + n.val = 131) :
    Trip V (fun d h => A.at n.val d h) (fun d h => A.after n.val d h) n where
  no := by
    unfold res_main_while0b_v87
    rw [L.ctr]
    funext _
    show (132#32 - BitVec.ofNat 32 i - 1#32 : BitVec 32) = BitVec.ofNat 32 n.val
    apply BitVec.eq_of_toNat_eq
    simp only [BitVec.toNat_sub, BitVec.toNat_ofNat]
    omega
  S := L.S n
  y := L.y n
  q := L.q n
  k := L.k n
  v := L.v n
  P := L.P n
  mask d h t s := L.mask d t s
  D d h c j := by
    obtain rfl : i = 131 - n.val := by omega
    exact L.D d h c j

theorem Loop.step (L : Loop A i V) (hi : i < 132) : Loop A (i + 1) (STEP V) := by
  obtain ⟨n, hn⟩ : ∃ n : Fin 132, i + n.val = 131 := ⟨⟨131 - i, by omega⟩, by show i + (131 - i) = 131; omega⟩
  have T := L.trip n hn
  have hm : ∀ m : Fin 132, 132 ≤ i + 1 + m.val → m = n ∨ (m ≠ n ∧ 132 ≤ i + m.val) := fun m h => by
    by_cases e : m = n
    · exact Or.inl e
    · have : m.val ≠ n.val := fun h' => e (Fin.ext h')
      exact Or.inr ⟨e, by omega⟩
  refine { S := ?_, y := ?_, q := ?_, k := ?_, v := ?_, P := ?_, mask := ?_, ctr := ?_, D := ?_, dq := ?_, dk := ?_, dv := ?_, dP := ?_ }
  · rw [STEP_main_v57_0]; exact L.S
  · rw [STEP_main_v57_1]; exact L.y
  · rw [STEP_main_v57_2]; exact L.q
  · rw [STEP_main_v57_3]; exact L.k
  · rw [STEP_main_v57_4]; exact L.v
  · rw [STEP_main_v57_5]; exact L.P
  · rw [STEP_main_v57_6]; exact L.mask
  · rw [STEP_main_v57_7]
    unfold step_main_v57_7
    rw [L.ctr]
    funext _
    exact (BitVec.ofNat_add i 1).symm
  · intro d h c j
    rw [STEP_main_v57_8, T.new d h c j]
    obtain rfl : i = 131 - n.val := by omega
    rfl
  · intro m h1 d h t c
    rw [STEP_main_v57_9]
    unfold step_main_v57_9
    rcases hm m h1 with rfl | ⟨h2, h3⟩
    · exact T.dq d h t c
    · refine (put_off _ _ _ n (start V n T.no) _ d h t c m h2).trans ?_
      exact L.dq m h3 d h t c
  · intro m h1 d h t c
    rw [STEP_main_v57_10]
    unfold step_main_v57_10
    rcases hm m h1 with rfl | ⟨h2, h3⟩
    · exact T.dk d h t c
    · refine (put_off _ _ _ n (start V n T.no) _ d h t c m h2).trans ?_
      exact L.dk m h3 d h t c
  · intro m h1 d h t c
    rw [STEP_main_v57_11]
    unfold step_main_v57_11
    rcases hm m h1 with rfl | ⟨h2, h3⟩
    · exact T.dv d h t c
    · refine (put_off _ _ _ n (start V n T.no) _ d h t c m h2).trans ?_
      exact L.dv m h3 d h t c
  · intro m h1 d h t c
    rw [STEP_main_v57_12]
    unfold step_main_v57_12
    rcases hm m h1 with rfl | ⟨h2, h3⟩
    · exact T.dP d h t c
    · refine (put_off _ _ _ n (start V n T.no) _ d h t c m h2).trans ?_
      exact L.dP m h3 d h t c

theorem Loop.iter (L : Loop A 0 V) : ∀ i ≤ 132, Loop A i (STEP^[i] V)
  | 0, _ => L
  | i + 1, hi => by
    rw [Function.iterate_succ_apply']
    exact (Loop.iter L i (by omega)).step (by omega)

/-! ### Where a row's gradient stands after the loop -/

/-- The place of row `a` in the direction's time. -/
def rowAt (r : Bool) (a : ℕ) : ℕ := bif r then 8447 - a else a

theorem row_of (r : Bool) (a n : ℕ) (t : Fin 64) (hn : n < 132) (ha : a < 8448) (h : rowAt r a = 64 * n + t.val) :
    a = 64 * turnChunk r (131 - n) + (turn r t).val := by
  cases r
  · show a = 64 * (131 - (131 - n)) + t.val
    have : a = 64 * n + t.val := h
    omega
  · show a = 64 * (131 - n) + t.rev.val
    have : 8447 - a = 64 * n + t.val := h
    rw [Fin.val_rev]
    omega

section
variable (A) (a b n : ℕ) (d : Fin 2) (h : Fin 4) (t : Fin 64) (hn : n < 132) (ha : a < 8448) (hr : rowAt (side d) a = 64 * n + t.val)
include hn ha hr

theorem at_dq (c : Fin 64) (hb : b = 64 * h.val + c.val) : (A.at n d h).dq t c = A.dq (side d) a b := by
  rw [A.dq_eq (side d) a b _ h.val h.isLt _ c (row_of _ a n t hn ha hr) hb, turn_turn]

theorem at_dk (c : Fin 64) (hb : b = 64 * h.val + c.val) : (A.at n d h).dk (A.after n d h) t c = A.dk (side d) a b := by
  rw [A.dk_eq (side d) a b _ h.val h.isLt _ c (row_of _ a n t hn ha hr) hb, turn_turn, turnChunk_turnChunk _ _ (Nat.sub_le _ _)]

theorem at_dP (c : Fin 64) (hb : b = 64 * h.val + c.val) : (A.at n d h).dP (A.after n d h) t c = A.dP (side d) a b := by
  rw [A.dP_eq (side d) a b _ h.val h.isLt _ c (row_of _ a n t hn ha hr) hb, turn_turn, turnChunk_turnChunk _ _ (Nat.sub_le _ _)]

theorem at_dv (j : Fin 128) (hb : b = 128 * h.val + j.val) : (A.at n d h).dv (A.after n d h) t j = A.dv (side d) a b := by
  rw [A.dv_eq (side d) a b _ h.val h.isLt _ j (row_of _ a n t hn ha hr) hb, turn_turn, turnChunk_turnChunk _ _ (Nat.sub_le _ _)]

end

namespace Loop

variable (L : Loop A 132 V) (a : Fin 8448)
include L

theorem fwd_dq (b : Fin 256) : out_main_v67 V (ix2 a b) = (A.dq false a.val b.val : EReal) := by
  pointwise [out_main_v67]
  refine (L.dq ⟨a.val / 64, by omega⟩ (by show 132 ≤ 132 + _; omega) 0 ⟨b.val / 64, by omega⟩ ⟨a.val % 64, by omega⟩ ⟨b.val % 64, by omega⟩).trans ?_
  exact congrArg Real.toEReal (at_dq A a.val b.val (a.val / 64) 0 _ _ (by omega) a.isLt
    (by show a.val = 64 * (a.val / 64) + a.val % 64; omega) _ (by show b.val = 64 * (b.val / 64) + b.val % 64; omega))

theorem fwd_dk (b : Fin 256) : out_main_v69 V (ix2 a b) = (A.dk false a.val b.val : EReal) := by
  pointwise [out_main_v69]
  refine (L.dk ⟨a.val / 64, by omega⟩ (by show 132 ≤ 132 + _; omega) 0 ⟨b.val / 64, by omega⟩ ⟨a.val % 64, by omega⟩ ⟨b.val % 64, by omega⟩).trans ?_
  exact congrArg Real.toEReal (at_dk A a.val b.val (a.val / 64) 0 _ _ (by omega) a.isLt
    (by show a.val = 64 * (a.val / 64) + a.val % 64; omega) _ (by show b.val = 64 * (b.val / 64) + b.val % 64; omega))

theorem fwd_dv (b : Fin 512) : out_main_v71 V (ix2 a b) = (A.dv false a.val b.val : EReal) := by
  pointwise [out_main_v71]
  refine (L.dv ⟨a.val / 64, by omega⟩ (by show 132 ≤ 132 + _; omega) 0 ⟨b.val / 128, by omega⟩ ⟨a.val % 64, by omega⟩ ⟨b.val % 128, by omega⟩).trans ?_
  exact congrArg Real.toEReal (at_dv A a.val b.val (a.val / 64) 0 _ _ (by omega) a.isLt
    (by show a.val = 64 * (a.val / 64) + a.val % 64; omega) _ (by show b.val = 128 * (b.val / 128) + b.val % 128; omega))

theorem fwd_dP (b : Fin 256) : out_main_v73 V (ix2 a b) = (A.dP false a.val b.val : EReal) := by
  pointwise [out_main_v73]
  refine (L.dP ⟨a.val / 64, by omega⟩ (by show 132 ≤ 132 + _; omega) 0 ⟨b.val / 64, by omega⟩ ⟨a.val % 64, by omega⟩ ⟨b.val % 64, by omega⟩).trans ?_
  exact congrArg Real.toEReal (at_dP A a.val b.val (a.val / 64) 0 _ _ (by omega) a.isLt
    (by show a.val = 64 * (a.val / 64) + a.val % 64; omega) _ (by show b.val = 64 * (b.val / 64) + b.val % 64; omega))

theorem bwd_dq (b : Fin 256) : out_main_v76 V (ix2 a b) = (A.dq true a.val b.val : EReal) := by
  pointwise [out_main_v76]
  refine (L.dq ⟨a.rev.val / 64, by omega⟩ (by show 132 ≤ 132 + _; omega) 1 ⟨b.val / 64, by omega⟩ ⟨a.rev.val % 64, by omega⟩ ⟨b.val % 64, by omega⟩).trans ?_
  exact congrArg Real.toEReal (at_dq A a.val b.val (a.rev.val / 64) 1 _ _ (by omega) a.isLt
    (by have := Fin.val_rev a; show 8447 - a.val = 64 * (a.rev.val / 64) + a.rev.val % 64; omega) _ (by show b.val = 64 * (b.val / 64) + b.val % 64; omega))

theorem bwd_dk (b : Fin 256) : out_main_v79 V (ix2 a b) = (A.dk true a.val b.val : EReal) := by
  pointwise [out_main_v79]
  refine (L.dk ⟨a.rev.val / 64, by omega⟩ (by show 132 ≤ 132 + _; omega) 1 ⟨b.val / 64, by omega⟩ ⟨a.rev.val % 64, by omega⟩ ⟨b.val % 64, by omega⟩).trans ?_
  exact congrArg Real.toEReal (at_dk A a.val b.val (a.rev.val / 64) 1 _ _ (by omega) a.isLt
    (by have := Fin.val_rev a; show 8447 - a.val = 64 * (a.rev.val / 64) + a.rev.val % 64; omega) _ (by show b.val = 64 * (b.val / 64) + b.val % 64; omega))

theorem bwd_dv (b : Fin 512) : out_main_v82 V (ix2 a b) = (A.dv true a.val b.val : EReal) := by
  pointwise [out_main_v82]
  refine (L.dv ⟨a.rev.val / 64, by omega⟩ (by show 132 ≤ 132 + _; omega) 1 ⟨b.val / 128, by omega⟩ ⟨a.rev.val % 64, by omega⟩ ⟨b.val % 128, by omega⟩).trans ?_
  exact congrArg Real.toEReal (at_dv A a.val b.val (a.rev.val / 64) 1 _ _ (by omega) a.isLt
    (by have := Fin.val_rev a; show 8447 - a.val = 64 * (a.rev.val / 64) + a.rev.val % 64; omega) _ (by show b.val = 128 * (b.val / 128) + b.val % 128; omega))

theorem bwd_dP (b : Fin 256) : out_main_v85 V (ix2 a b) = (A.dP true a.val b.val : EReal) := by
  pointwise [out_main_v85]
  refine (L.dP ⟨a.rev.val / 64, by omega⟩ (by show 132 ≤ 132 + _; omega) 1 ⟨b.val / 64, by omega⟩ ⟨a.rev.val % 64, by omega⟩ ⟨b.val % 64, by omega⟩).trans ?_
  exact congrArg Real.toEReal (at_dP A a.val b.val (a.rev.val / 64) 1 _ _ (by omega) a.isLt
    (by have := Fin.val_rev a; show 8447 - a.val = 64 * (a.rev.val / 64) + a.rev.val % 64; omega) _ (by show b.val = 64 * (b.val / 64) + b.val % 64; omega))

end Loop

end Cert.Gla
-- ==== Proof.RefEntry.lean ====
module
public import proofs.«01_k».proof.Proof.RefLoop

/-!
# What the reference's loop starts from
-/

@[expose] public section
set_option maxRecDepth 16384
noncomputable section
namespace Cert.Gla
open Idealize.ShloMosaic Idealize.ShloMosaic.TcCoe Idealize.ShloMosaic.StableHlo Cert.ReferenceIdeal Cert.ReferenceIdeal.Gen Cert.ReferenceIdeal.Value

/-! ### The data at a time -/

section
variable (A : Data) (n : Fin 132) (d : Fin 2) (h : Fin 4) (t : Fin 64) (a b : ℕ)

theorem row_at (r : Bool) (ha : a = rowAt r (n.val * 64 + t.val)) : 64 * turnChunk r (131 - n.val) + (turn r t).val = a := by
  have hn := n.isLt
  cases r
  · show 64 * (131 - (131 - n.val)) + t.val = a
    have : a = n.val * 64 + t.val := ha
    omega
  · show 64 * (131 - n.val) + t.rev.val = a
    have : a = 8447 - (n.val * 64 + t.val) := ha
    rw [Fin.val_rev]
    omega

theorem row_fwd (x : ℕ) : x = rowAt (side 0) x := rfl

theorem rev_row (x : Fin 8448) : x.rev.val = rowAt (side 1) x.val := by
  show x.rev.val = 8447 - x.val
  rw [Fin.val_rev]
  omega

theorem eighth_of (x : ℝ) : (x : EReal) * Ideal.ofBits .f32 1040187392#32 = ((x * (1 / 8) : ℝ) : EReal) :=
  (congrArg ((x : EReal) * ·) bits_eighth).trans (EReal.coe_mul _ _).symm

theorem S_fwd (c : Fin 64) (j : Fin 128) : A.s false n.val h.val j.val c.val = (A.at n.val 0 h).S j c := by
  have hn : n.val = 131 - (131 - n.val) := by omega
  show _ = A.s false (131 - (131 - n.val)) h.val j.val c.val
  rw [← hn]

theorem S_bwd (c : Fin 64) (j : Fin 128) : A.s true n.rev.val h.val j.val c.val = (A.at n.val 1 h).S j c := by
  have hn : n.rev.val = 131 - n.val := by rw [Fin.val_rev]; omega
  rw [hn]
  rfl

variable (ha : a = rowAt (side d) (n.val * 64 + t.val))
include ha

theorem q_at (c : Fin 64) (hb : b = h.val * 64 + c.val) : A.z a b * (1 / 8) = (A.at n.val d h).q t c := by
  obtain rfl : b = 64 * h.val + c.val := by omega
  rw [← row_at n t a _ ha]
  rfl

theorem k_at (c : Fin 64) (hb : b = 256 + (h.val * 64 + c.val)) : A.z a b = (A.at n.val d h).k t c := by
  obtain rfl : b = 256 + (64 * h.val + c.val) := by omega
  rw [← row_at n t a _ ha]
  rfl

theorem v_at (j : Fin 128) (hb : b = h.val * 128 + j.val) : A.v a b = (A.at n.val d h).v t j := by
  obtain rfl : b = 128 * h.val + j.val := by omega
  rw [← row_at n t a _ ha]
  rfl

theorem y_at (j : Fin 128) (hb : b = h.val * 128 + j.val) : A.y a b = (A.at n.val d h).y t j := by
  obtain rfl : b = 128 * h.val + j.val := by omega
  rw [← row_at n t a _ ha]
  rfl

theorem P_at (c : Fin 64) (hb : b = (bif side d then 256 else 0) + (h.val * 64 + c.val)) : A.P a b = (A.at n.val d h).P t c := by
  obtain rfl : b = (bif side d then 256 else 0) + (64 * h.val + c.val) := by omega
  rw [← row_at n t a _ ha]
  rfl

end

/-! ### The loop's variables -/

variable (m : (ℓ : Loc nD τ sig) → Buf (Elt Ideal) ℓ) (p : Dev nD)

variable {A : Data} (H : A.Is (launchContents m p (Proc.devRef .tc main_arg0)) (launchContents m p (Proc.devRef .tc main_arg1))
  (launchContents m p (Proc.devRef .tc main_arg2)) (launchContents m p (Proc.devRef .tc main_arg3)) (launchContents m p (Proc.devRef .tc main_arg4))
  (launchContents m p (Proc.devRef .tc main_arg5)) (launchContents m p (Proc.devRef .tc main_arg6)) (launchContents m p (Proc.devRef .tc main_arg7)))
  (n : Fin 132) (h : Fin 4) (t s c : Fin 64) (j : Fin 128)
include H

theorem entry_q0 : entryContents preI m p (Proc.devRef .tc main_v57_2) (ix5 n (0 : Fin 2) h t c) = ((A.at n.val 0 h).q t c : EReal) := by
  simp only [entryContents, afterL_cons, afterL_nil]
  after_reads_simp
  dsimp only [id]
  pointwise
  after_reads_simp
  pointwise
  refine (congrArg (· * Ideal.ofBits FTy.f32 1040187392#32) (H.z _ _)).trans ((eighth_of _).trans (congrArg Real.toEReal ?_))
  refine q_at A n 0 h t _ _ ?_ c rfl
  exact row_fwd _

theorem entry_q1 : entryContents preI m p (Proc.devRef .tc main_v57_2) (ix5 n (1 : Fin 2) h t c) = ((A.at n.val 1 h).q t c : EReal) := by
  simp only [entryContents, afterL_cons, afterL_nil]
  after_reads_simp
  dsimp only [id]
  pointwise
  after_reads_simp
  pointwise
  refine (congrArg (· * Ideal.ofBits FTy.f32 1040187392#32) (H.z _ _)).trans ((eighth_of _).trans (congrArg Real.toEReal ?_))
  refine q_at A n 1 h t _ _ ?_ c rfl
  exact rev_row ⟨n.val * 64 + t.val, by omega⟩

theorem entry_k0 : entryContents preI m p (Proc.devRef .tc main_v57_3) (ix5 n (0 : Fin 2) h t c) = ((A.at n.val 0 h).k t c : EReal) := by
  simp only [entryContents, afterL_cons, afterL_nil]
  after_reads_simp
  dsimp only [id]
  pointwise
  after_reads_simp
  pointwise
  refine (H.z _ _).trans (congrArg Real.toEReal ?_)
  refine k_at A n 0 h t _ _ ?_ c rfl
  exact row_fwd _

theorem entry_k1 : entryContents preI m p (Proc.devRef .tc main_v57_3) (ix5 n (1 : Fin 2) h t c) = ((A.at n.val 1 h).k t c : EReal) := by
  simp only [entryContents, afterL_cons, afterL_nil]
  after_reads_simp
  dsimp only [id]
  pointwise
  after_reads_simp
  pointwise
  refine (H.z _ _).trans (congrArg Real.toEReal ?_)
  refine k_at A n 1 h t _ _ ?_ c rfl
  exact rev_row ⟨n.val * 64 + t.val, by omega⟩

theorem entry_v0 : entryContents preI m p (Proc.devRef .tc main_v57_4) (ix5 n (0 : Fin 2) h t j) = ((A.at n.val 0 h).v t j : EReal) := by
  simp only [entryContents, afterL_cons, afterL_nil]
  after_reads_simp
  dsimp only [id]
  pointwise
  after_reads_simp
  pointwise
  refine (H.v _ _).trans (congrArg Real.toEReal ?_)
  refine v_at A n 0 h t _ _ ?_ j rfl
  exact row_fwd _

theorem entry_v1 : entryContents preI m p (Proc.devRef .tc main_v57_4) (ix5 n (1 : Fin 2) h t j) = ((A.at n.val 1 h).v t j : EReal) := by
  simp only [entryContents, afterL_cons, afterL_nil]
  after_reads_simp
  dsimp only [id]
  pointwise
  after_reads_simp
  pointwise
  refine (H.v _ _).trans (congrArg Real.toEReal ?_)
  refine v_at A n 1 h t _ _ ?_ j rfl
  exact rev_row ⟨n.val * 64 + t.val, by omega⟩

theorem entry_y0 : entryContents preI m p (Proc.devRef .tc main_v57_1) (ix5 n (0 : Fin 2) h t j) = ((A.at n.val 0 h).y t j : EReal) := by
  simp only [entryContents, afterL_cons, afterL_nil]
  after_reads_simp
  dsimp only [id]
  pointwise
  after_reads_simp
  pointwise
  refine (H.y _ _).trans (congrArg Real.toEReal ?_)
  refine y_at A n 0 h t _ _ ?_ j rfl
  exact row_fwd _

theorem entry_y1 : entryContents preI m p (Proc.devRef .tc main_v57_1) (ix5 n (1 : Fin 2) h t j) = ((A.at n.val 1 h).y t j : EReal) := by
  simp only [entryContents, afterL_cons, afterL_nil]
  after_reads_simp
  dsimp only [id]
  pointwise
  after_reads_simp
  pointwise
  refine (H.y _ _).trans (congrArg Real.toEReal ?_)
  refine y_at A n 1 h t _ _ ?_ j rfl
  exact rev_row ⟨n.val * 64 + t.val, by omega⟩

theorem entry_P0 : entryContents preI m p (Proc.devRef .tc main_v57_5) (ix5 n (0 : Fin 2) h t c) = ((A.at n.val 0 h).P t c : EReal) := by
  simp only [entryContents, afterL_cons, afterL_nil]
  after_reads_simp
  dsimp only [id]
  pointwise
  after_reads_simp
  pointwise
  refine (H.P _ _).trans (congrArg Real.toEReal ?_)
  refine P_at A n 0 h t _ _ ?_ c ?_
  · exact row_fwd _
  · exact (Nat.zero_add _).symm

theorem entry_P1 : entryContents preI m p (Proc.devRef .tc main_v57_5) (ix5 n (1 : Fin 2) h t c) = ((A.at n.val 1 h).P t c : EReal) := by
  simp only [entryContents, afterL_cons, afterL_nil]
  after_reads_simp
  dsimp only [id]
  pointwise
  after_reads_simp
  pointwise
  refine (H.P _ _).trans (congrArg Real.toEReal ?_)
  refine P_at A n 1 h t _ _ ?_ c ?_
  · exact rev_row ⟨n.val * 64 + t.val, by omega⟩
  · exact rfl

theorem entry_S0 : entryContents preI m p (Proc.devRef .tc main_v57_0) (ix5 n (0 : Fin 2) h c j) = ((A.at n.val 0 h).S j c : EReal) := by
  simp only [entryContents, afterL_cons, afterL_nil]
  after_reads_simp
  dsimp only [id]
  pointwise
  after_reads_simp
  pointwise
  exact (H.sf _ _ _ _).trans (congrArg Real.toEReal (S_fwd A n h c j))

theorem entry_S1 : entryContents preI m p (Proc.devRef .tc main_v57_0) (ix5 n (1 : Fin 2) h c j) = ((A.at n.val 1 h).S j c : EReal) := by
  simp only [entryContents, afterL_cons, afterL_nil]
  after_reads_simp
  dsimp only [id]
  pointwise
  after_reads_simp
  pointwise
  exact (H.sb _ _ _ _).trans (congrArg Real.toEReal (S_bwd A n h c j))

end Cert.Gla
-- ==== Proof.RefStart.lean ====
module
public import proofs.«01_k».proof.Proof.Arr
public import proofs.«01_k».proof.Proof.RefEntry
public import Idealize.ShloMosaic.Lib.StableHlo.ReadAt

/-!
# The reference's loop starts from the data

The loop's mask holds the places each direction may look at, its carry is zero, its count is zero; with the arrays
of `RefEntry` this is `Loop A 0`, so after its 132 trips the results hold the gradients.
-/

@[expose] public section
set_option maxRecDepth 16384
noncomputable section
namespace Cert.Gla
open Idealize.ShloMosaic Idealize.ShloMosaic.TcCoe Idealize.ShloMosaic.StableHlo Cert.ReferenceIdeal Cert.ReferenceIdeal.Gen Cert.ReferenceIdeal.Value

variable (m : (ℓ : Loc nD τ sig) → Buf (Elt Ideal) ℓ) (p : Dev nD)

/-- The places direction 0 may look at, as the comparison of a place's two numbers. -/
theorem may_look0 : ∀ t s : Fin 64, Scalar.select (IntOp.cmpi CmpIPredicate.sge (IntOp.addi (BitVec.ofNat 32 t.val) 0#32) (BitVec.ofNat 32 s.val)) 1#1 0#1
    = BitVec.ofBool (decide (s < t ∨ (side 0 = false ∧ s = t))) := by
  decide +kernel

theorem entry_mask0 (t s : Fin 64) : entryContents preI m p (Proc.devRef .tc main_v57_6) (ix3 (0 : Fin 2) t s) = BitVec.ofBool (decide (s < t ∨ (side 0 = false ∧ s = t))) := by
  simp only [entryContents, afterL_cons, afterL_nil]
  after_reads_simp
  dsimp only [id]
  pointwise
  after_reads_simp
  simp -implicitDefEqProofs only [StableHlo.TRef.toBuf, StableHlo.TRef.ofBuf, cast_cast, cast_eq]
  clean_types
  pointwise
  exact may_look0 t s

/-- The places direction 1 may look at, as the comparison of a place's two numbers. -/
theorem may_look1 : ∀ t s : Fin 64, Scalar.select (IntOp.cmpi CmpIPredicate.sge (IntOp.addi (BitVec.ofNat 32 t.val) 4294967295#32) (BitVec.ofNat 32 s.val)) 1#1 0#1
    = BitVec.ofBool (decide (s < t ∨ (side 1 = false ∧ s = t))) := by
  decide +kernel

theorem entry_mask1 (t s : Fin 64) : entryContents preI m p (Proc.devRef .tc main_v57_6) (ix3 (1 : Fin 2) t s) = BitVec.ofBool (decide (s < t ∨ (side 1 = false ∧ s = t))) := by
  simp only [entryContents, afterL_cons, afterL_nil]
  after_reads_simp
  dsimp only [id]
  pointwise
  after_reads_simp
  simp -implicitDefEqProofs only [StableHlo.TRef.toBuf, StableHlo.TRef.ofBuf, cast_cast, cast_eq]
  clean_types
  pointwise
  exact may_look1 t s

theorem entry_D (d : Fin 2) (h : Fin 4) (c : Fin 64) (j : Fin 128) : entryContents preI m p (Proc.devRef .tc main_v57_8) (ix4 d h c j) = ((0 : ℝ) : EReal) := by
  simp only [entryContents, afterL_cons, afterL_nil]
  after_reads_simp
  dsimp only [id]
  pointwise
  exact EReal.coe_zero.symm

variable {A : Data} (H : A.Is (m ((p.tc : Thread nD τ).loc main_arg0)) (m ((p.tc : Thread nD τ).loc main_arg1))
  (m ((p.tc : Thread nD τ).loc main_arg2)) (m ((p.tc : Thread nD τ).loc main_arg3)) (m ((p.tc : Thread nD τ).loc main_arg4))
  (m ((p.tc : Thread nD τ).loc main_arg5)) (m ((p.tc : Thread nD τ).loc main_arg6)) (m ((p.tc : Thread nD τ).loc main_arg7)))
include H

theorem entry : Entry A (entryContents preI m p) where
  S n d h c j := by
    fin_cases d
    · exact entry_S0 m p H n h c j
    · exact entry_S1 m p H n h c j
  y n d h t j := by
    fin_cases d
    · exact entry_y0 m p H n h t j
    · exact entry_y1 m p H n h t j
  q n d h t c := by
    fin_cases d
    · exact entry_q0 m p H n h t c
    · exact entry_q1 m p H n h t c
  k n d h t c := by
    fin_cases d
    · exact entry_k0 m p H n h t c
    · exact entry_k1 m p H n h t c
  v n d h t j := by
    fin_cases d
    · exact entry_v0 m p H n h t j
    · exact entry_v1 m p H n h t j
  P n d h t c := by
    fin_cases d
    · exact entry_P0 m p H n h t c
    · exact entry_P1 m p H n h t c
  mask d t s := by
    fin_cases d
    · exact entry_mask0 m p t s
    · exact entry_mask1 m p t s

theorem begin : Loop A 0 (entryContents preI m p) where
  toEntry := entry m p H
  ctr := ctr_entry m p
  D := entry_D m p
  dq n hn := absurd hn (by omega)
  dk n hn := absurd hn (by omega)
  dv n hn := absurd hn (by omega)
  dP n hn := absurd hn (by omega)

theorem fwd_dq_is : out_main_v67 (STEP^[132] (entryContents preI m p)) = asArr 256 (A.dq false) :=
  arr_of _ _ fun a b => ((begin m p H).iter 132 le_rfl).fwd_dq a b

theorem fwd_dk_is : out_main_v69 (STEP^[132] (entryContents preI m p)) = asArr 256 (A.dk false) :=
  arr_of _ _ fun a b => ((begin m p H).iter 132 le_rfl).fwd_dk a b

theorem fwd_dv_is : out_main_v71 (STEP^[132] (entryContents preI m p)) = asArr 512 (A.dv false) :=
  arr_of _ _ fun a b => ((begin m p H).iter 132 le_rfl).fwd_dv a b

theorem fwd_dP_is : out_main_v73 (STEP^[132] (entryContents preI m p)) = asArr 256 (A.dP false) :=
  arr_of _ _ fun a b => ((begin m p H).iter 132 le_rfl).fwd_dP a b

theorem bwd_dq_is : out_main_v76 (STEP^[132] (entryContents preI m p)) = asArr 256 (A.dq true) :=
  arr_of _ _ fun a b => ((begin m p H).iter 132 le_rfl).bwd_dq a b

theorem bwd_dk_is : out_main_v79 (STEP^[132] (entryContents preI m p)) = asArr 256 (A.dk true) :=
  arr_of _ _ fun a b => ((begin m p H).iter 132 le_rfl).bwd_dk a b

theorem bwd_dv_is : out_main_v82 (STEP^[132] (entryContents preI m p)) = asArr 512 (A.dv true) :=
  arr_of _ _ fun a b => ((begin m p H).iter 132 le_rfl).bwd_dv a b

theorem bwd_dP_is : out_main_v85 (STEP^[132] (entryContents preI m p)) = asArr 256 (A.dP true) :=
  arr_of _ _ fun a b => ((begin m p H).iter 132 le_rfl).bwd_dP a b

end Cert.Gla
-- ==== Proof.Moderate.lean ====
module
public import proofs.«01_k».proof.Pre_moderate
public import proofs.«01_k».proof.Proof.DataIs
public import proofs.«01_k».proof.Proof.RunningSum
public import Idealize.ShloMosaic.Lib.ReduceAll
public import Idealize.ShloMosaic.Lib.Decide
public import Idealize.ShloMosaic.Lib.ValueIdx

/-!
# The precondition read back

`moderate` says that every argument is finite and that no gate logit lies below −39. So the arguments hold real
data, which is `Data.Is`.
-/

@[expose] public section
set_option maxRecDepth 16384
noncomputable section
namespace Cert.Gla
open Idealize.ShloMosaic Cert.Pre_moderate

/-- The shapes of the precondition fit. -/
instance facts : Cert.Pre_moderate.Facts where
  bitsLt_bf16_f32 := by decide
  bcast_S_S8448x512 := by decide
  reducesTo_S8448x512_S_d0_1 := by decide
  h_S_ := by decide
  bcast_S_S8448x128 := by decide
  reducesTo_S8448x128_S_d0_1 := by decide
  bcast_S_S128x512 := by decide
  reducesTo_S128x512_S_d0_1 := by decide
  bcast_S_S1x512 := by decide
  reducesTo_S1x512_S_d0_1 := by decide
  bcast_S_S132x4x128x64 := by decide
  reducesTo_S132x4x128x64_S_d0_1_2_3 := by decide
  bcast_S1x512_S8448x512_0_1 := by decide
  dot_S8448x128_S128x512_S8448x512_1_0_0_1_n_n_wf := by decide

theorem inf_bits : Ideal.ofBits .f32 0x7F800000#32 = (⊤ : EReal) := by
  simp only [Ideal.ofBits, Ideal.ieee]
  simp

theorem bits_39 : Ideal.ofBits .f32 0xC21C0000#32 = ((-39 : ℝ) : EReal) := by
  simp only [Ideal.ofBits, Ideal.ieee]
  simp
  rw [← EReal.coe_mul]
  norm_num

theorem of_bool (P : Prop) [Decidable P] (h : BitVec.ofBool (decide P) = 1#1) : P := by
  by_contra hc
  rw [decide_eq_false hc] at h
  exact absurd h (by decide)

/-- What is less than infinity in size is a real. -/
theorem real_of_abs (x : EReal) (h : max x (-x) < ⊤) : ∃ r : ℝ, x = r := by
  induction x with
  | bot => exact absurd h (by simp)
  | top => exact absurd h (by simp)
  | coe r => exact ⟨r, rfl⟩

theorem real_of_all {s : Shape} {axes : List (Fin s.rank)} {hb} {hr : s.ReducesTo axes S_} {hu} (x : FVec Ideal s .f32)
    (e : Host.reduce IntOp.andi (cmpf .olt (Host.absf x) (broadcastInDim s ![] hb (constant S_ .f32 0x7F800000#32)))
      (constantI S_ 1 1#1) hr hu ix0 = 1#1) (i : s.Idx) : ∃ r : ℝ, x i = r := by
  have h := Host.reduce_andi_all _ _ _ _ _ e i
  refine real_of_abs _ ?_
  have h' : (BitVec.ofBool (decide (max (x i) (-x i) < Ideal.ofBits .f32 0x7F800000#32))) = 1#1 := h
  rw [inf_bits] at h'
  exact of_bool _ h'

theorem parts (a0 a1 : FVec Ideal S8448x512 .f32) (a2 : FVec Ideal S8448x128 .f32) (a3 : FVec Ideal S128x512 .bf16)
    (a4 : FVec Ideal S1x512 .f32) (a5 : FVec Ideal S8448x512 .f32) (a6 a7 : FVec Ideal S132x4x128x64 .f32)
    (h : fn a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ ∀ a b, ((-39 : ℝ) : EReal) ≤ (∑ l : Fin 128, a2 (ix2 a l) * a3 (ix2 l b)) + a4 (ix2 0 b) := by
  have e := congrFun h ix0
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  refine ⟨real_of_all a0 h0, real_of_all a1 h1, real_of_all a2 h2, fun i => real_of_all (extf .f32 a3 facts.bitsLt_bf16_f32) h3 i, real_of_all a4 h4, real_of_all a5 h5,
    real_of_all a6 h6, real_of_all a7 h7, fun a b => ?_⟩
  have h := Host.reduce_andi_all _ _ _ _ _ h8 (ix2 a b)
  revert h
  pointwise
  rw [bits_39]
  exact of_bool _

/-- An entry of an array as a real, zero outside it. -/
def at2 {n w : ℕ} (x : FVec Ideal ⟨2, ![n, w]⟩ .f32) (a b : ℕ) : ℝ :=
  if h : a < n ∧ b < w then (x (ix2 ⟨a, h.1⟩ ⟨b, h.2⟩)).toReal else 0

theorem at2_eq {n w : ℕ} (x : FVec Ideal ⟨2, ![n, w]⟩ .f32) (hx : ∀ a b, ∃ r : ℝ, x (ix2 a b) = r) (a : Fin n) (b : Fin w) :
    x (ix2 a b) = (at2 x a.val b.val : EReal) := by
  obtain ⟨r, hr⟩ := hx a b
  rw [at2, dif_pos ⟨a.isLt, b.isLt⟩]
  exact hr.trans (congrArg Real.toEReal (congrArg EReal.toReal hr).symm)

def at4 {n0 n1 n2 n3 : ℕ} (x : FVec Ideal ⟨4, ![n0, n1, n2, n3]⟩ .f32) (a b c d : ℕ) : ℝ :=
  if h : a < n0 ∧ b < n1 ∧ c < n2 ∧ d < n3 then (x (ix4 ⟨a, h.1⟩ ⟨b, h.2.1⟩ ⟨c, h.2.2.1⟩ ⟨d, h.2.2.2⟩)).toReal else 0

theorem at4_eq {n0 n1 n2 n3 : ℕ} (x : FVec Ideal ⟨4, ![n0, n1, n2, n3]⟩ .f32) (hx : ∀ i, ∃ r : ℝ, x i = r)
    (a : Fin n0) (b : Fin n1) (c : Fin n2) (d : Fin n3) : x (ix4 a b c d) = (at4 x a.val b.val c.val d.val : EReal) := by
  obtain ⟨r, hr⟩ := hx (ix4 a b c d)
  rw [at4, dif_pos ⟨a.isLt, b.isLt, c.isLt, d.isLt⟩]
  exact hr.trans (congrArg Real.toEReal (congrArg EReal.toReal hr).symm)

/-- The gate's logits. -/
def logits (a2 : FVec Ideal S8448x128 .f32) (a3 : FVec Ideal S128x512 .bf16) (a4 : FVec Ideal S1x512 .f32) : FVec Ideal S8448x512 .f32 :=
  fun y => (∑ l : Fin 128, a2 (ix2 (y 0) l) * a3 (ix2 l (y 1))) + a4 (ix2 0 (y 1))

theorem real_logits (a2 : FVec Ideal S8448x128 .f32) (a3 : FVec Ideal S128x512 .bf16) (a4 : FVec Ideal S1x512 .f32)
    (h2 : ∀ i, ∃ r : ℝ, a2 i = r) (h3 : ∀ i, ∃ r : ℝ, a3 i = r) (h4 : ∀ i, ∃ r : ℝ, a4 i = r) (a : Fin 8448) (b : Fin 512) :
    ∃ r : ℝ, logits a2 a3 a4 (ix2 a b) = r := by
  choose f hf using h2
  choose g hg using h3
  obtain ⟨e, he⟩ := h4 (ix2 0 b)
  refine ⟨(∑ l : Fin 128, f (ix2 a l) * g (ix2 l b)) + e, ?_⟩
  show (∑ l : Fin 128, a2 (ix2 a l) * a3 (ix2 l b)) + a4 (ix2 0 b) = _
  simp only [hf, hg, he, EReal.coe_add, coe_sum, EReal.coe_mul]

/-- Where the precondition holds, the arguments hold real data. -/
theorem data_of (a0 a1 : FVec Ideal S8448x512 .f32) (a2 : FVec Ideal S8448x128 .f32) (a3 : FVec Ideal S128x512 .bf16)
    (a4 : FVec Ideal S1x512 .f32) (a5 : FVec Ideal S8448x512 .f32) (a6 a7 : FVec Ideal S132x4x128x64 .f32)
    (h : fn a0 a1 a2 a3 a4 a5 a6 a7 = fun _ => 1#1) : ∃ A : Data, A.Is a0 a1 a2 a3 a4 a5 a6 a7 := by
  obtain ⟨h0, h1, h2, h3, h4, h5, h6, h7, h8⟩ := parts a0 a1 a2 a3 a4 a5 a6 a7 h
  have hP := at2_eq (logits a2 a3 a4) (real_logits a2 a3 a4 h2 h3 h4)
  refine ⟨⟨at2 a0, at2 a1, at2 a5, at2 (logits a2 a3 a4), fun r => bif r then at4 a7 else at4 a6⟩, ?_⟩
  exact { z := at2_eq a0 fun a b => h0 _
          v := at2_eq a1 fun a b => h1 _
          y := at2_eq a5 fun a b => h5 _
          P := hP
          sf := at4_eq a6 h6
          sb := at4_eq a7 h7
          big := fun a ha b hb => EReal.coe_le_coe_iff.1 ((h8 ⟨a, ha⟩ ⟨b, hb⟩).trans (hP ⟨a, ha⟩ ⟨b, hb⟩).le) }

end Cert.Gla
-- ==== Proof.DAct.lean ====
module
public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Quiescent
public import Idealize.ShloMosaic.Lib.ValueIdx
public import Idealize.ShloMosaic.Lib.Pointwise
public import Idealize.ShloMosaic.Lib.StableHlo.ReadAt
public import Idealize.ShloMosaic.Lib.Pipeline.ValueKit

/-!
# The gradient of the hidden values

Each of the 12 grid points forms a 2816 × 1024 block of the product with `w_downᵀ` and scales it by
twice the positive part of the hidden values. The reference selects by the sign of the hidden value;
at the values where it selects zero, the positive part is zero.
-/

@[expose] public section
set_option maxRecDepth 16384
noncomputable section
namespace Cert.DAct
open Idealize.ShloMosaic Idealize.ShloMosaic.TcCoe Cert.Kernel2Ideal Cert.Kernel2Ideal.Gen

/-- The number two, as both programs write it. -/
abbrev two : EReal := Ideal.ofBits FTy.f32 0x40000000#32

/-- What a grid point leaves, at an index of its block. -/
theorem block_apply (x0 : Vec Ideal S2816x1024 .bf16) (x1 : Vec Ideal S1024x1024 .bf16) (x2 : Vec Ideal S2816x1024 .bf16)
    (a : Fin 2816) (b : Fin 1024) :
    out0_3 x0 x1 x2 (ix2 a b) = (∑ j : Fin 1024, x0 (ix2 a j) * x1 (ix2 b j)) * two * max (x2 (ix2 a b)) 0 := by
  unfold out0_3
  rw [View.canon_unit_zero (by funext a; fin_cases a <;> rfl)]
  pointwise [k0_pay1]

/-- The reference's result, at an index. -/
theorem ref_apply (x0 : FVec Ideal S8448x1024 .bf16) (x1 : FVec Ideal S1024x4096 .bf16) (x2 : FVec Ideal S4096x1024 .bf16)
    (x3 : FVec Ideal S8448x1024 .bf16) (a : Fin 8448) (b : Fin 4096) :
    Cert.Reference2Ideal.Read.val_main_v17 (F := Ideal) x0 x1 x2 x3 (ix2 a b)
      = (∑ j : Fin 1024, x3 (ix2 a j) * x2 (ix2 b j)) * two * max (∑ j : Fin 1024, x0 (ix2 a j) * x1 (ix2 j b)) 0 := by
  rw [← Cert.Reference2Ideal.Read.val_main_v17_eq]
  pointwise
  split_ifs with h
  · exact (mul_assoc _ _ _).symm
  · rw [max_eq_right (not_lt.mp h), mul_zero]

variable (m : (ℓ : Loc nD τ sig) → Buf (Elt Ideal) ℓ) (c : Dev nD)

/-- The arguments of the call: the normed rows, the two weights, and the gradient of the output. -/
abbrev n3 : FVec Ideal S8448x1024 .bf16 := m ((c : Thread nD τ).loc main_arg0)
abbrev wUp : FVec Ideal S1024x4096 .bf16 := m ((c : Thread nD τ).loc main_arg1)
abbrev wDown : FVec Ideal S4096x1024 .bf16 := m ((c : Thread nD τ).loc main_arg2)
abbrev dff : FVec Ideal S8448x1024 .bf16 := m ((c : Thread nD τ).loc main_arg3)

/-- The hidden values the host forms, at an index. -/
theorem hidden (a : Fin 8448) (b : Fin 4096) :
    (V m c main_v3 : FVec Ideal S8448x4096 .bf16) (ix2 a b) = ∑ j : Fin 1024, n3 m c (ix2 a j) * wUp m c (ix2 j b) := by
  unfold V
  after_reads_simp
  pointwise

/-- Where the windows lie. -/
theorem index_all : ∀ t : Fin grid0.N, win0_0.index t = ![t.val / 4, 0] ∧ win0_1.index t = ![t.val % 4, 0]
    ∧ win0_2.index t = ![t.val / 4, t.val % 4] ∧ win0_3.index t = ![t.val / 4, t.val % 4] := by
  decide +kernel

/-- What the windows read. -/
theorem reads (t : Fin cfg0.N) :
    (∀ (a : Fin 2816) (j : Fin 1024) (i : Fin 8448), i.val = 2816 * (t.val / 4) + a.val →
        iblk m c 0 t (ix2 a j) = dff m c (ix2 i j))
      ∧ (∀ (b : Fin 1024) (j : Fin 1024) (k : Fin 4096), k.val = 1024 * (t.val % 4) + b.val →
        iblk m c 1 t (ix2 b j) = wDown m c (ix2 k j))
      ∧ (∀ (a : Fin 2816) (b : Fin 1024) (i : Fin 8448) (k : Fin 4096), i.val = 2816 * (t.val / 4) + a.val →
        k.val = 1024 * (t.val % 4) + b.val → iblk m c 2 t (ix2 a b) = (V m c main_v3 : FVec Ideal S8448x4096 .bf16) (ix2 i k)) := by
  obtain ⟨e0, e1, e2, -⟩ := index_all t
  refine ⟨fun a j i hi => ?_, fun b j k hk => ?_, fun a b i k hi hk => ?_⟩
  · refine Eq.trans ?_ (congrFun (V_main_arg3 m c) (ix2 i j))
    blk_ext [iblk, e0]
  · refine Eq.trans ?_ (congrFun (V_main_arg2 m c) (ix2 k j))
    blk_ext [iblk, e1]
  · blk_ext [iblk, e2]

/-- The array the grid leaves is the reference's result of the same arguments. -/
theorem array : (dats m 0 c).arrAt 3 cfg0.N
    = Cert.Reference2Ideal.Read.val_main_v17 (F := Ideal) (n3 m c) (wUp m c) (wDown m c) (dff m c) := by
  refine (dats m 0 c).arrAt_eq_of_covers 3 _ (by decide +kernel) fun t hf y => ?_
  have e := (index_all t).2.2.2
  obtain ⟨r0, r1, r2⟩ := reads m c t
  have hy0 : (y 0).val < 2816 := (y 0).isLt
  have hy1 : (y 1).val < 1024 := (y 1).isLt
  have ht : t.val < 12 := t.isLt
  obtain ⟨i, hi⟩ : ∃ i : Fin 8448, i.val = 2816 * (t.val / 4) + (y 0).val := ⟨⟨_, by omega⟩, rfl⟩
  obtain ⟨k, hk⟩ : ∃ k : Fin 4096, k.val = 1024 * (t.val % 4) + (y 1).val := ⟨⟨_, by omega⟩, rfl⟩
  have key : out0_3 (iblk m c 0 t) (iblk m c 1 t) (iblk m c 2 t) (ix2 (⟨_, hy0⟩ : Fin 2816) (⟨_, hy1⟩ : Fin 1024))
      = Cert.Reference2Ideal.Read.val_main_v17 (F := Ideal) (n3 m c) (wUp m c) (wDown m c) (dff m c) (ix2 i k) := by
    refine (block_apply _ _ _ _ _).trans (Eq.trans ?_ (ref_apply _ _ _ _ i k).symm)
    refine congrArg₂ (· * ·) (congrArg (· * two) (Finset.sum_congr rfl fun j _ => congrArg₂ (· * ·) ?_ ?_)) (congrArg (max · 0) ?_)
    · exact r0 _ j i hi
    · exact r1 _ j k hk
    · exact (r2 _ _ i k hi hk).trans (hidden m c i k)
  rw [after0_3]
  refine Eq.trans ?_ (key.trans (congrArg _ ?_))
  · blk_simp
    exact congrArg _ (eq_ix2 y)
  · blk_ext [e]

open Idealize.SL.Sem

/-- The frame of the reference. -/
theorem ref_frame : quiescent_Reference2Ideal := fun m ρ _ => (θ_run Cert.Reference2Ideal.defs _ _).mono
  (fun r h => ⟨fun c => (h c).2, sem_eq_zero_of_no_sems (by decide) r.2⟩)
  (Cert.Reference2Ideal.Value.run (F := Ideal) m ρ)

/-- Both programs leave the same array. -/
theorem equal : algebraic_Kernel2Ideal_Reference2Ideal := by
  intro m ρ m' ρ' _ hargs
  refine ⟨fun c => Cert.Reference2Ideal.Read.val_main_v17 (F := Ideal) (n3 m c) (wUp m c) (wDown m c) (dff m c), ?_, ?_⟩
  · refine (θ_run Cert.Kernel2Ideal.defs _ _).mono (fun r h c => ?_) (Cert.Kernel2Ideal.Value.run_blocks (F := Ideal) m ρ)
    exact ⟨(h c).1.trans (array m c), (h c).2⟩
  · refine (θ_run Cert.Reference2Ideal.defs _ _).mono (fun r h c => ?_) (Cert.Reference2Ideal.Value.run (F := Ideal) m' ρ')
    obtain ⟨a0, a1, a2, a3⟩ := hargs c
    refine ⟨(h c).1.trans ((Cert.Reference2Ideal.Read.val_main_v17_eq ..).trans ?_), (h c).2⟩
    rw [a0, a1, a2, a3]

end Cert.DAct
-- ==== Proof.Product.lean ====
module
public import Idealize.ShloMosaic.Lib.ValueIdx
public import Idealize.ShloMosaic.Lib.Pointwise
public import Idealize.ShloMosaic.Lib.StableHlo.ReadAt
public import Idealize.ShloMosaic.Lib.Pipeline.ValueKit
public import Idealize.ShloMosaic.Lib.WholeRead
public import Mathlib.Algebra.BigOperators.Fin
public import Mathlib.Data.EReal.Basic

/-!
# What the matrix products have in common

A weight's gradient is a product over the 8448 rows, which its call adds up in three grid points of 2816
rows each: a sum of three sums. A load of a whole buffer reads what the buffer holds.
-/

@[expose] public section
noncomputable section
namespace Cert.Product
open Idealize.ShloMosaic

/-- Row `j` of the `n`-th third of the rows. -/
def row (n : ℕ) (h : n < 3) (j : Fin 2816) : Fin 8448 := ⟨2816 * n + j.val, by omega⟩

/-- A sum over the rows is the sum over the three thirds, the first added to zero. -/
theorem thirds (f : Fin 8448 → EReal) :
    ∑ r, f r = 0 + ∑ j, f (row 0 (by decide) j) + ∑ j, f (row 1 (by decide) j) + ∑ j, f (row 2 (by decide) j) := by
  refine (Fin.sum_univ_add (a := 5632) (b := 2816) f).trans ?_
  refine congrArg₂ (· + ·) ((Fin.sum_univ_add (a := 2816) (b := 2816) _).trans ?_) rfl
  refine congrArg₂ (· + ·) (Eq.trans ?_ (zero_add _).symm) rfl
  exact Finset.sum_congr rfl fun j _ => congrArg f (Fin.ext (by simp [row]))

variable {sig : RefSig} {κ : Kind} {sp : Space} {S : Shape} {e : EltTy} {Val : EltTy → Type}

/-- A load of a whole buffer reads what it holds. -/
theorem load_whole {b : Memref sig κ sp S e} (hb : b.IsWhole) (X : S.Idx → Val e) {off : Fin S.rank → ℕ} (h : off = fun _ => 0)
    (inb : ∀ a, off a + S.size a ≤ S.size a) :
    View.readAt Val b.view (Rect.unit off S.size inb).toLoadRect (hb.unread X) = X :=
  funext fun x => (hb.readAt_unread X _ x).trans (congrFun (View.ld_unit_zero h inb X) x)

/-- The zero offsets, as the programs write them. -/
theorem zeros : (![0, 0] : Fin 2 → ℕ) = fun _ => 0 := by
  funext a; fin_cases a <;> rfl

end Cert.Product
-- ==== Proof.DwDown.lean ====
module
public import proofs.«01_k».proof.Proof.Product
public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.Quiescent

/-!
# The gradient of `w_down`

For each of the four blocks of 1024 hidden values, three grid points add up the product of the squared
positive parts with the gradient of the output, a third of the rows each; the third point writes the block
back. The reference forms the product over all rows at once, transposed.
-/

@[expose] public section
set_option maxRecDepth 16384
noncomputable section
namespace Cert.DwDown
open Idealize.ShloMosaic Idealize.ShloMosaic.TcCoe Cert.Kernel3Ideal Cert.Kernel3Ideal.Gen Cert.Product

/-- A grid point adds its product to the accumulator. -/
theorem add_apply (acc : Vec Ideal S1024x1024 .f32) (x0 x1 : Vec Ideal S2816x1024 .bf16) (a b : Fin 1024) :
    k0_pay2 acc x0 x1 (ix2 a b) = acc (ix2 a b) + ∑ j : Fin 2816, x0 (ix2 j a) * x1 (ix2 j b) := by
  pointwise [k0_pay2]

/-- The accumulator starts at zero. -/
theorem start_apply (a b : Fin 1024) : k0_pay1 (F := Ideal) (ix2 a b) = 0 := by
  pointwise [k0_pay1]

section
variable (c : Dev nD) (i : grid0.Coords) (arg3 : Memref sig .tc .vmem S2816x1024 .bf16) (harg3 : arg3.IsWhole)
  (arg4 : Memref sig .tc .vmem S2816x1024 .bf16) (harg4 : arg4.IsWhole) (arg5 : Memref sig .tc .vmem S1024x1024 .f32) (harg5 : arg5.IsWhole)
  (arg6 : Memref sig .tc .vmem S1024x1024 .f32) (harg6 : arg6.IsWhole)
  (x0 : Vec Ideal S2816x1024 .bf16) (x1 : Vec Ideal S2816x1024 .bf16) (xs0 : Vec Ideal S1024x1024 .f32)

/-- The first of three points adds to zero, -/
theorem first (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  refine (View.canon_cons_unit_zero zeros _ _ _).trans ?_
  sl_unfold_run_names
  rw [View.readCov_unit_zero _ zeros, load_whole harg3 x0 zeros, load_whole harg4 x1 zeros]

/-- the second to what the first left, -/
theorem second (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_junk_eq_canon]
  refine (View.canon_unit_zero zeros _ _).trans ?_
  rw [load_whole harg6 xs0 zeros, load_whole harg3 x0 zeros, load_whole harg4 x1 zeros]

/-- and the third to what the second left, which goes to the output. -/
theorem third (hc0 : ¬cond0_0 i) (hc1 : cond0_1 i) :
    out0_C_2 c i arg3 harg3 arg4 harg4 arg5 harg5 arg6 harg6 hc0 hc1 x0 x1 xs0 = k0_pay2 xs0 x0 x1 := by
  unfold out0_C_2
  rw [View.read_writes_junk_eq_canon]
  refine (View.canon_unit_zero zeros _ _).trans ?_
  sl_unfold_run_names
  rw [View.readCov_unit_zero _ zeros, load_whole harg6 xs0 zeros, load_whole harg3 x0 zeros, load_whole harg4 x1 zeros]
end

/-- The reference's result, at an index. -/
theorem ref_apply (x0 : FVec Ideal S8448x1024 .bf16) (x1 : FVec Ideal S1024x4096 .bf16) (x2 : FVec Ideal S8448x1024 .bf16)
    (a : Fin 4096) (b : Fin 1024) :
    Cert.Reference3Ideal.Read.val_main_v9 (F := Ideal) x0 x1 x2 (ix2 a b)
      = ∑ r : Fin 8448, x2 (ix2 r b) * (max (∑ j : Fin 1024, x0 (ix2 r j) * x1 (ix2 j a)) 0 * max (∑ j : Fin 1024, x0 (ix2 r j) * x1 (ix2 j a)) 0) := by
  rw [← Cert.Reference3Ideal.Read.val_main_v9_eq]
  pointwise

variable (m : (ℓ : Loc nD τ sig) → Buf (Elt Ideal) ℓ) (c : Dev nD)

/-- The two blocks a point reads. -/
abbrev lhs (t : Fin cfg0.N) : Vec Ideal S2816x1024 .bf16 := iblk m c 0 t
abbrev rhs (t : Fin cfg0.N) : Vec Ideal S2816x1024 .bf16 := iblk m c 1 t

theorem same {n k : ℕ} (h : n = k) (hn : n < cfg0.N) (hk : k < cfg0.N) : outsAt0 m c n hn = outsAt0 m c k hk := by
  subst h; rfl

/-- What the last of three points leaves of the three points' blocks. -/
theorem left (t₀ t₁ t₂ : Fin cfg0.N) (h : t₀.val % 3 = 0) (h₁ : t₁.val = t₀.val + 1) (h₂ : t₂.val = t₀.val + 2) :
    (outsAt0 m c t₂.val t₂.isLt).1
      = k0_pay2 (k0_pay2 (k0_pay2 k0_pay1 (lhs m c t₀) (rhs m c t₀)) (lhs m c t₁) (rhs m c t₁)) (lhs m c t₂) (rhs m c t₂) := by
  rw [outsAt0_C m c t₂ (by omega) (by omega), same m c (show t₂.val - 1 = t₁.val by omega) _ t₁.isLt,
    outsAt0_B m c t₁ (by omega) (by omega), same m c (show t₁.val - 1 = t₀.val by omega) _ t₀.isLt, outsAt0_A m c t₀ h (by omega)]
  dsimp only
  rw [third, second, first]

/-- The arguments of the call: the normed rows, the weight into the hidden values, and the gradient of the output. -/
abbrev n3 : FVec Ideal S8448x1024 .bf16 := m ((c : Thread nD τ).loc main_arg0)
abbrev wUp : FVec Ideal S1024x4096 .bf16 := m ((c : Thread nD τ).loc main_arg1)
abbrev dff : FVec Ideal S8448x1024 .bf16 := m ((c : Thread nD τ).loc main_arg2)

/-- The activations the host forms, at an index. -/
theorem act (a : Fin 8448) (b : Fin 4096) :
    (V m c main_v5 : FVec Ideal S8448x4096 .bf16) (ix2 a b)
      = max (∑ j : Fin 1024, n3 m c (ix2 a j) * wUp m c (ix2 j b)) 0 * max (∑ j : Fin 1024, n3 m c (ix2 a j) * wUp m c (ix2 j b)) 0 := by
  unfold V
  after_reads_simp
  simp only [StableHlo.TRef.toBuf, StableHlo.TRef.ofBuf, cast_eq]
  pointwise

/-- Where the windows lie. -/
theorem index_all : ∀ t : Fin grid0.N, win0_0.index t = ![t.val % 3, t.val / 3] ∧ win0_1.index t = ![t.val % 3, 0]
    ∧ win0_2.index t = ![t.val / 3, 0] := by
  decide +kernel

/-- What the windows read. -/
theorem reads (t : Fin cfg0.N) (n : ℕ) (hn : n < 3) (ht : t.val % 3 = n) :
    (∀ (j : Fin 2816) (a : Fin 1024) (k : Fin 4096), k.val = 1024 * (t.val / 3) + a.val →
        iblk m c 0 t (ix2 j a) = (V m c main_v5 : FVec Ideal S8448x4096 .bf16) (ix2 (row n hn j) k))
      ∧ (∀ (j : Fin 2816) (b : Fin 1024), iblk m c 1 t (ix2 j b) = dff m c (ix2 (row n hn j) b)) := by
  obtain ⟨e0, e1, -⟩ := index_all t
  subst ht
  refine ⟨fun j a k hk => ?_, fun j b => ?_⟩
  · blk_ext [iblk, e0, row]
  · refine Eq.trans ?_ (congrFun (V_main_arg2 m c) (ix2 (row _ hn j) b))
    blk_ext [iblk, e1, row]

/-- The array the grid leaves is the reference's result of the same arguments. -/
theorem array : (dats m 0 c).arrAt 2 cfg0.N = Cert.Reference3Ideal.Read.val_main_v9 (F := Ideal) (n3 m c) (wUp m c) (dff m c) := by
  refine (dats m 0 c).arrAt_eq_of_covers 2 _ (by decide +kernel) fun t hf y => ?_
  have e := (index_all t).2.2
  have hy0 : (y 0).val < 1024 := (y 0).isLt
  have hy1 : (y 1).val < 1024 := (y 1).isLt
  have ht : t.val < 12 := t.isLt
  have hm : t.val % 3 = 2 := (by decide +kernel : ∀ t : Fin grid0.N, (cfg0.win 2).flush t = true → t.val % 3 = 2) t hf
  obtain ⟨k, hk⟩ : ∃ k : Fin 4096, k.val = 1024 * (t.val / 3) + (y 0).val := ⟨⟨_, by omega⟩, rfl⟩
  obtain ⟨t₀, h₀⟩ : ∃ t₀ : Fin cfg0.N, t₀.val = t.val - 2 := ⟨⟨t.val - 2, by show _ < 12; omega⟩, rfl⟩
  obtain ⟨t₁, h₁⟩ : ∃ t₁ : Fin cfg0.N, t₁.val = t.val - 1 := ⟨⟨t.val - 1, by show _ < 12; omega⟩, rfl⟩
  have term : ∀ (s : Fin cfg0.N) (n : ℕ) (hn : n < 3), s.val % 3 = n → s.val / 3 = t.val / 3 → ∀ j : Fin 2816,
      lhs m c s (ix2 j (⟨_, hy0⟩ : Fin 1024)) * rhs m c s (ix2 j (⟨_, hy1⟩ : Fin 1024))
        = dff m c (ix2 (row n hn j) (⟨_, hy1⟩ : Fin 1024)) * (max (∑ l : Fin 1024, n3 m c (ix2 (row n hn j) l) * wUp m c (ix2 l k)) 0
          * max (∑ l : Fin 1024, n3 m c (ix2 (row n hn j) l) * wUp m c (ix2 l k)) 0) := by
    intro s n hn hs hd j
    obtain ⟨r0, r1⟩ := reads m c s n hn hs
    refine Eq.trans (congrArg₂ (fun x y : EReal => x * y) ((r0 j _ k (by rw [hd]; exact hk)).trans (act m c _ k)) (r1 j _)) (mul_comm _ _)
  have key : (outsAt0 m c t.val t.isLt).1 (ix2 (⟨_, hy0⟩ : Fin 1024) (⟨_, hy1⟩ : Fin 1024))
      = Cert.Reference3Ideal.Read.val_main_v9 (F := Ideal) (n3 m c) (wUp m c) (dff m c) (ix2 k (⟨_, hy1⟩ : Fin 1024)) := by
    rw [left m c t₀ t₁ t (by omega) (by omega) (by omega), add_apply, add_apply, add_apply, start_apply]
    refine Eq.trans ?_ ((ref_apply _ _ _ k _).trans (thirds _)).symm
    refine congrArg₂ (· + ·) (congrArg₂ (· + ·) (congrArg (0 + ·) ?_) ?_) ?_
    · exact Finset.sum_congr rfl fun j _ => term t₀ 0 _ (by omega) (by omega) j
    · exact Finset.sum_congr rfl fun j _ => term t₁ 1 _ (by omega) (by omega) j
    · exact Finset.sum_congr rfl fun j _ => term t 2 _ (by omega) (by omega) j
  rw [after0_2]
  refine Eq.trans ?_ (key.trans (congrArg _ ?_))
  · blk_simp
    exact congrArg _ (eq_ix2 y)
  · blk_ext [e]

open Idealize.SL.Sem

/-- The frame of the reference. -/
theorem ref_frame : quiescent_Reference3Ideal := fun m ρ _ => (θ_run Cert.Reference3Ideal.defs _ _).mono
  (fun r h => ⟨fun c => (h c).2, sem_eq_zero_of_no_sems (by decide) r.2⟩)
  (Cert.Reference3Ideal.Value.run (F := Ideal) m ρ)

/-- Both programs leave the same array. -/
theorem equal : algebraic_Kernel3Ideal_Reference3Ideal := by
  intro m ρ m' ρ' _ hargs
  refine ⟨fun c => Cert.Reference3Ideal.Read.val_main_v9 (F := Ideal) (n3 m c) (wUp m c) (dff m c), ?_, ?_⟩
  · refine (θ_run Cert.Kernel3Ideal.defs _ _).mono (fun r h c => ?_) (Cert.Kernel3Ideal.Value.run_blocks (F := Ideal) m ρ)
    exact ⟨(h c).1.trans (array m c), (h c).2⟩
  · refine (θ_run Cert.Reference3Ideal.defs _ _).mono (fun r h c => ?_) (Cert.Reference3Ideal.Value.run (F := Ideal) m' ρ')
    obtain ⟨a0, a1, a2⟩ := hargs c
    refine ⟨(h c).1.trans ((Cert.Reference3Ideal.Read.val_main_v9_eq ..).trans ?_), (h c).2⟩
    rw [a0, a1, a2]

end Cert.DwDown
-- ==== Proof.DwUp.lean ====
module
public import proofs.«01_k».proof.Proof.Product
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Quiescent

/-!
# The gradient of `w_up`

For each of the four blocks of 1024 hidden values, three grid points add up the product of the normed rows
with the gradient of the hidden values, a third of the rows each; the third point writes the block back. The
call keeps its four column blocks apart, and so does the reference, which forms the whole product.
-/

@[expose] public section
set_option maxRecDepth 16384
noncomputable section
namespace Cert.DwUp
open Idealize.ShloMosaic Idealize.ShloMosaic.TcCoe Cert.Kernel4Ideal Cert.Kernel4Ideal.Gen Cert.Product

/-- A grid point adds its product to the accumulator. -/
theorem add_apply (acc : Vec Ideal S1024x1024 .f32) (x0 x1 : Vec Ideal S2816x1024 .bf16) (a b : Fin 1024) :
    k0_pay2 acc x0 x1 (ix2 a b) = acc (ix2 a b) + ∑ j : Fin 2816, x0 (ix2 j a) * x1 (ix2 j b) := by
  pointwise [k0_pay2]

/-- The accumulator starts at zero. -/
theorem start_apply (a b : Fin 1024) : k0_pay1 (F := Ideal) (ix2 a b) = 0 := by
  pointwise [k0_pay1]

section
variable (c : Dev nD) (i : grid0.Coords) (arg3 : Memref sig .tc .vmem S2816x1024 .bf16) (harg3 : arg3.IsWhole)
  (arg4 : Memref sig .tc .vmem S2816x1024 .bf16) (harg4 : arg4.IsWhole) (arg5 : Memref sig .tc .vmem S1x1024x1024 .f32) (harg5 : arg5.IsWhole)
  (arg6 : Memref sig .tc .vmem S1024x1024 .f32) (harg6 : arg6.IsWhole)
  (x0 : Vec Ideal S2816x1024 .bf16) (x1 : Vec Ideal S2816x1024 .bf16) (xs0 : Vec Ideal S1024x1024 .f32)

/-- The first of three points adds to zero, -/
theorem first (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  refine (View.canon_cons_unit_zero zeros _ _ _).trans ?_
  sl_unfold_run_names
  rw [View.readCov_unit_zero _ zeros, load_whole harg3 x0 zeros, load_whole harg4 x1 zeros]

/-- the second to what the first left, -/
theorem second (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_junk_eq_canon]
  refine (View.canon_unit_zero zeros _ _).trans ?_
  rw [load_whole harg6 xs0 zeros, load_whole harg3 x0 zeros, load_whole harg4 x1 zeros]

/-- and the third to what the second left, which goes to the output as its one column block. -/
theorem third (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_junk_eq_canon]
  refine (View.canon_unit_zero (by funext a; fin_cases a <;> rfl) _ _).trans ?_
  sl_unfold_run_names
  rw [View.readCov_unit_zero _ zeros, load_whole harg6 xs0 zeros, load_whole harg3 x0 zeros, load_whole harg4 x1 zeros]
end

/-- A column block holds the accumulator. -/
theorem block_apply (acc : Vec Ideal S1024x1024 .f32) (z : Fin 1) (a b : Fin 1024) : k0_pay3 acc (ix3 z a b) = acc (ix2 a b) := by
  pointwise [k0_pay3]

/-- The reference's result, at an index. -/
theorem ref_apply (x0 : FVec Ideal S8448x1024 .bf16) (x1 : FVec Ideal S8448x4096 .bf16)
    (n : Fin 4) (a b : Fin 1024) (k : Fin 4096) (hk : k.val = 1024 * n.val + b.val) :
    Cert.Reference4Ideal.Read.val_main_v7 (F := Ideal) x0 x1 (ix3 n a b) = ∑ r : Fin 8448, x1 (ix2 r k) * x0 (ix2 r a) := by
  rw [← Cert.Reference4Ideal.Read.val_main_v7_eq]
  pointwise
  refine Finset.sum_congr rfl fun r _ => congrArg (fun l => x1 (ix2 r l) * x0 (ix2 r a)) (Fin.ext ?_)
  show n.val * 1024 + b.val = k.val
  omega

variable (m : (ℓ : Loc nD τ sig) → Buf (Elt Ideal) ℓ) (c : Dev nD)

/-- The two blocks a point reads. -/
abbrev lhs (t : Fin cfg0.N) : Vec Ideal S2816x1024 .bf16 := iblk m c 0 t
abbrev rhs (t : Fin cfg0.N) : Vec Ideal S2816x1024 .bf16 := iblk m c 1 t

theorem same {n k : ℕ} (h : n = k) (hn : n < cfg0.N) (hk : k < cfg0.N) : outsAt0 m c n hn = outsAt0 m c k hk := by
  subst h; rfl

/-- What the last of three points leaves of the three points' blocks. -/
theorem left (t₀ t₁ t₂ : Fin cfg0.N) (h : t₀.val % 3 = 0) (h₁ : t₁.val = t₀.val + 1) (h₂ : t₂.val = t₀.val + 2) :
    (outsAt0 m c t₂.val t₂.isLt).1
      = k0_pay3 (k0_pay2 (k0_pay2 (k0_pay2 k0_pay1 (lhs m c t₀) (rhs m c t₀)) (lhs m c t₁) (rhs m c t₁)) (lhs m c t₂) (rhs m c t₂)) := by
  rw [outsAt0_C m c t₂ (by omega) (by omega), same m c (show t₂.val - 1 = t₁.val by omega) _ t₁.isLt,
    outsAt0_B m c t₁ (by omega) (by omega), same m c (show t₁.val - 1 = t₀.val by omega) _ t₀.isLt, outsAt0_A m c t₀ h (by omega)]
  dsimp only
  rw [third, second, first]

/-- The arguments of the call: the normed rows and the gradient of the hidden values. -/
abbrev n3 : FVec Ideal S8448x1024 .bf16 := m ((c : Thread nD τ).loc main_arg0)
abbrev du : FVec Ideal S8448x4096 .bf16 := m ((c : Thread nD τ).loc main_arg1)

/-- Where the windows lie. -/
theorem index_all : ∀ t : Fin grid0.N, win0_0.index t = ![t.val % 3, 0] ∧ win0_1.index t = ![t.val % 3, t.val / 3]
    ∧ win0_2.index t = ![t.val / 3, 0, 0] := by
  decide +kernel

/-- What the windows read. -/
theorem reads (t : Fin cfg0.N) (n : ℕ) (hn : n < 3) (ht : t.val % 3 = n) :
    (∀ (j : Fin 2816) (a : Fin 1024), lhs m c t (ix2 j a) = n3 m c (ix2 (row n hn j) a))
      ∧ (∀ (j : Fin 2816) (b : Fin 1024) (k : Fin 4096), k.val = 1024 * (t.val / 3) + b.val →
        rhs m c t (ix2 j b) = du m c (ix2 (row n hn j) k)) := by
  obtain ⟨e0, e1, -⟩ := index_all t
  subst ht
  refine ⟨fun j a => ?_, fun j b k hk => ?_⟩
  · blk_ext [iblk, V, e0, row]
  · blk_ext [iblk, V, e1, row]

/-- The array the grid leaves is the reference's result of the same arguments. -/
theorem array : (dats m 0 c).arrAt 2 cfg0.N = Cert.Reference4Ideal.Read.val_main_v7 (F := Ideal) (n3 m c) (du m c) := by
  refine (dats m 0 c).arrAt_eq_of_covers 2 _ (by decide +kernel) fun t hf y => ?_
  have e := (index_all t).2.2
  have hy0 : (y 0).val < 1 := (y 0).isLt
  have hy1 : (y 1).val < 1024 := (y 1).isLt
  have hy2 : (y 2).val < 1024 := (y 2).isLt
  have ht : t.val < 12 := t.isLt
  have hm : t.val % 3 = 2 := (by decide +kernel : ∀ t : Fin grid0.N, (cfg0.win 2).flush t = true → t.val % 3 = 2) t hf
  obtain ⟨k, hk⟩ : ∃ k : Fin 4096, k.val = 1024 * (t.val / 3) + (y 2).val := ⟨⟨_, by omega⟩, rfl⟩
  obtain ⟨p, hp⟩ : ∃ p : Fin 4, p.val = t.val / 3 := ⟨⟨_, by omega⟩, rfl⟩
  obtain ⟨t₀, h₀⟩ : ∃ t₀ : Fin cfg0.N, t₀.val = t.val - 2 := ⟨⟨t.val - 2, by show _ < 12; omega⟩, rfl⟩
  obtain ⟨t₁, h₁⟩ : ∃ t₁ : Fin cfg0.N, t₁.val = t.val - 1 := ⟨⟨t.val - 1, by show _ < 12; omega⟩, rfl⟩
  have term : ∀ (s : Fin cfg0.N) (n : ℕ) (hn : n < 3), s.val % 3 = n → s.val / 3 = t.val / 3 → ∀ j : Fin 2816,
      lhs m c s (ix2 j (⟨_, hy1⟩ : Fin 1024)) * rhs m c s (ix2 j (⟨_, hy2⟩ : Fin 1024))
        = du m c (ix2 (row n hn j) k) * n3 m c (ix2 (row n hn j) (⟨_, hy1⟩ : Fin 1024)) := by
    intro s n hn hs hd j
    obtain ⟨r0, r1⟩ := reads m c s n hn hs
    exact Eq.trans (congrArg₂ (fun x y : EReal => x * y) (r0 j _) (r1 j _ k (by rw [hd]; exact hk))) (mul_comm _ _)
  have key : (outsAt0 m c t.val t.isLt).1 (ix3 (⟨_, hy0⟩ : Fin 1) (⟨_, hy1⟩ : Fin 1024) (⟨_, hy2⟩ : Fin 1024))
      = Cert.Reference4Ideal.Read.val_main_v7 (F := Ideal) (n3 m c) (du m c) (ix3 p (⟨_, hy1⟩ : Fin 1024) (⟨_, hy2⟩ : Fin 1024)) := by
    rw [left m c t₀ t₁ t (by omega) (by omega) (by omega), block_apply, add_apply, add_apply, add_apply, start_apply]
    refine Eq.trans ?_ ((ref_apply _ _ p _ _ k (by rw [hp]; exact hk)).trans (thirds _)).symm
    refine congrArg₂ (· + ·) (congrArg₂ (· + ·) (congrArg (0 + ·) ?_) ?_) ?_
    · exact Finset.sum_congr rfl fun j _ => term t₀ 0 _ (by omega) (by omega) j
    · exact Finset.sum_congr rfl fun j _ => term t₁ 1 _ (by omega) (by omega) j
    · exact Finset.sum_congr rfl fun j _ => term t 2 _ (by omega) (by omega) j
  rw [after0_2]
  refine Eq.trans ?_ (key.trans (congrArg _ ?_))
  · blk_simp
    exact congrArg _ ((eq_ix3 y).trans (congrArg (fun z => ix3 z (y 1) (y 2)) (Subsingleton.elim (α := Fin 1) (y 0) 0)))
  · blk_ext [e]

open Idealize.SL.Sem

/-- The frame of the reference. -/
theorem ref_frame : quiescent_Reference4Ideal := fun m ρ _ => (θ_run Cert.Reference4Ideal.defs _ _).mono
  (fun r h => ⟨fun c => (h c).2, sem_eq_zero_of_no_sems (by decide) r.2⟩)
  (Cert.Reference4Ideal.Value.run (F := Ideal) m ρ)

/-- Both programs leave the same array. -/
theorem equal : algebraic_Kernel4Ideal_Reference4Ideal := by
  intro m ρ m' ρ' _ hargs
  refine ⟨fun c => Cert.Reference4Ideal.Read.val_main_v7 (F := Ideal) (n3 m c) (du m c), ?_, ?_⟩
  · refine (θ_run Cert.Kernel4Ideal.defs _ _).mono (fun r h c => ?_) (Cert.Kernel4Ideal.Value.run_blocks (F := Ideal) m ρ)
    exact ⟨(h c).1.trans (array m c), (h c).2⟩
  · refine (θ_run Cert.Reference4Ideal.defs _ _).mono (fun r h c => ?_) (Cert.Reference4Ideal.Value.run (F := Ideal) m' ρ')
    obtain ⟨a0, a1⟩ := hargs c
    refine ⟨(h c).1.trans ((Cert.Reference4Ideal.Read.val_main_v7_eq ..).trans ?_), (h c).2⟩
    rw [a0, a1]

end Cert.DwUp
-- ==== Proof.MlpUp.lean ====
module
public import proofs.«01_k».proof.Proof.Product
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Quiescent

/-!
# The hidden values of the MLP

Each of the 12 grid points forms a 2816 × 1024 block of the product with `w_up`, and the squares of its
positive parts. The reference forms both arrays whole.
-/

@[expose] public section
set_option maxRecDepth 16384
noncomputable section
namespace Cert.MlpUp
open Idealize.ShloMosaic Idealize.ShloMosaic.TcCoe Cert.Kernel5Ideal Cert.Kernel5Ideal.Gen Cert.Product

section
variable (x0 : Vec Ideal S2816x1024 .bf16) (x1 : Vec Ideal S1024x1024 .bf16) (a : Fin 2816) (b : Fin 1024)

/-- The hidden values a grid point leaves, at an index of their block, -/
theorem hidden_apply : out0_2 x0 x1 (ix2 a b) = ∑ j : Fin 1024, x0 (ix2 a j) * x1 (ix2 j b) := by
  unfold out0_2
  rw [View.canon_unit_zero zeros]
  pointwise [k0_pay2, k0_pay1]

/-- and the activations. -/
theorem act_apply : out0_3 x0 x1 (ix2 a b)
    = max (∑ j : Fin 1024, x0 (ix2 a j) * x1 (ix2 j b)) 0 * max (∑ j : Fin 1024, x0 (ix2 a j) * x1 (ix2 j b)) 0 := by
  unfold out0_3
  rw [View.canon_unit_zero zeros]
  pointwise [k0_pay3, k0_pay1]
end

section
variable (x0 : FVec Ideal S8448x1024 .bf16) (x1 : FVec Ideal S1024x4096 .bf16) (a : Fin 8448) (b : Fin 4096)

/-- The reference's hidden values, at an index, -/
theorem ref_hidden_apply :
    Cert.Reference5Ideal.Read.val_main_v3 (F := Ideal) x0 x1 (ix2 a b) = ∑ j : Fin 1024, x0 (ix2 a j) * x1 (ix2 j b) := by
  rw [← Cert.Reference5Ideal.Read.val_main_v3_eq]
  pointwise

/-- and its activations. -/
theorem ref_act_apply :
    Cert.Reference5Ideal.Read.val_main_v6 (F := Ideal) x0 x1 (ix2 a b)
      = max (∑ j : Fin 1024, x0 (ix2 a j) * x1 (ix2 j b)) 0 * max (∑ j : Fin 1024, x0 (ix2 a j) * x1 (ix2 j b)) 0 := by
  rw [← Cert.Reference5Ideal.Read.val_main_v6_eq]
  pointwise
end

variable (m : (ℓ : Loc nD τ sig) → Buf (Elt Ideal) ℓ) (c : Dev nD)

/-- The arguments of the call: the normed rows and the weight. -/
abbrev n3 : FVec Ideal S8448x1024 .bf16 := m ((c : Thread nD τ).loc main_arg0)
abbrev wUp : FVec Ideal S1024x4096 .bf16 := m ((c : Thread nD τ).loc main_arg1)

/-- Where the windows lie. -/
theorem index_all : ∀ t : Fin grid0.N, win0_0.index t = ![t.val / 4, 0] ∧ win0_1.index t = ![0, t.val % 4]
    ∧ win0_2.index t = ![t.val / 4, t.val % 4] ∧ win0_3.index t = ![t.val / 4, t.val % 4] := by
  decide +kernel

/-- What the windows read. -/
theorem reads (t : Fin cfg0.N) :
    (∀ (a : Fin 2816) (j : Fin 1024) (i : Fin 8448), i.val = 2816 * (t.val / 4) + a.val →
        iblk m c 0 t (ix2 a j) = n3 m c (ix2 i j))
      ∧ (∀ (j : Fin 1024) (b : Fin 1024) (k : Fin 4096), k.val = 1024 * (t.val % 4) + b.val →
        iblk m c 1 t (ix2 j b) = wUp m c (ix2 j k)) := by
  obtain ⟨e0, e1, -⟩ := index_all t
  refine ⟨fun a j i hi => ?_, fun j b k hk => ?_⟩
  · refine Eq.trans ?_ (congrFun (V_main_arg0 m c) (ix2 i j))
    blk_ext [iblk, e0]
  · refine Eq.trans ?_ (congrFun (V_main_arg1 m c) (ix2 j k))
    blk_ext [iblk, e1]

/-- The two blocks a point reads. -/
abbrev lhs (t : Fin cfg0.N) : Vec Ideal S2816x1024 .bf16 := iblk m c 0 t
abbrev rhs (t : Fin cfg0.N) : Vec Ideal S1024x1024 .bf16 := iblk m c 1 t

/-- The product of the blocks a point reads is the product of the arguments, at the entry's own place. -/
theorem product (t : Fin cfg0.N) (a : Fin 2816) (b : Fin 1024) (i : Fin 8448) (k : Fin 4096)
    (hi : i.val = 2816 * (t.val / 4) + a.val) (hk : k.val = 1024 * (t.val % 4) + b.val) :
    (∑ j : Fin 1024, lhs m c t (ix2 a j) * rhs m c t (ix2 j b))
      = ∑ j : Fin 1024, n3 m c (ix2 i j) * wUp m c (ix2 j k) :=
  Finset.sum_congr rfl fun j _ => congrArg₂ (fun x y : EReal => x * y) ((reads m c t).1 a j i hi) ((reads m c t).2 j b k hk)

/-- The hidden values the grid leaves are the reference's. -/
theorem hidden : (dats m 0 c).arrAt 2 cfg0.N = Cert.Reference5Ideal.Read.val_main_v3 (F := Ideal) (n3 m c) (wUp m c) := by
  refine (dats m 0 c).arrAt_eq_of_covers 2 _ (by decide +kernel) fun t hf y => ?_
  have e := (index_all t).2.2.1
  have hy0 : (y 0).val < 2816 := (y 0).isLt
  have hy1 : (y 1).val < 1024 := (y 1).isLt
  have ht : t.val < 12 := t.isLt
  obtain ⟨i, hi⟩ : ∃ i : Fin 8448, i.val = 2816 * (t.val / 4) + (y 0).val := ⟨⟨_, by omega⟩, rfl⟩
  obtain ⟨k, hk⟩ : ∃ k : Fin 4096, k.val = 1024 * (t.val % 4) + (y 1).val := ⟨⟨_, by omega⟩, rfl⟩
  have key : out0_2 (iblk m c 0 t) (iblk m c 1 t) (ix2 (⟨_, hy0⟩ : Fin 2816) (⟨_, hy1⟩ : Fin 1024))
      = Cert.Reference5Ideal.Read.val_main_v3 (F := Ideal) (n3 m c) (wUp m c) (ix2 i k) :=
    (hidden_apply _ _ _ _).trans ((product m c t _ _ i k hi hk).trans (ref_hidden_apply _ _ i k).symm)
  rw [after0_2]
  refine Eq.trans ?_ (key.trans (congrArg _ ?_))
  · blk_simp
    exact congrArg _ (eq_ix2 y)
  · blk_ext [e]

/-- The activations the grid leaves are the reference's. -/
theorem act : (dats m 0 c).arrAt 3 cfg0.N = Cert.Reference5Ideal.Read.val_main_v6 (F := Ideal) (n3 m c) (wUp m c) := by
  refine (dats m 0 c).arrAt_eq_of_covers 3 _ (by decide +kernel) fun t hf y => ?_
  have e := (index_all t).2.2.2
  have hy0 : (y 0).val < 2816 := (y 0).isLt
  have hy1 : (y 1).val < 1024 := (y 1).isLt
  have ht : t.val < 12 := t.isLt
  obtain ⟨i, hi⟩ : ∃ i : Fin 8448, i.val = 2816 * (t.val / 4) + (y 0).val := ⟨⟨_, by omega⟩, rfl⟩
  obtain ⟨k, hk⟩ : ∃ k : Fin 4096, k.val = 1024 * (t.val % 4) + (y 1).val := ⟨⟨_, by omega⟩, rfl⟩
  have key : out0_3 (iblk m c 0 t) (iblk m c 1 t) (ix2 (⟨_, hy0⟩ : Fin 2816) (⟨_, hy1⟩ : Fin 1024))
      = Cert.Reference5Ideal.Read.val_main_v6 (F := Ideal) (n3 m c) (wUp m c) (ix2 i k) :=
    (act_apply _ _ _ _).trans ((congrArg (fun x : EReal => max x 0 * max x 0) (product m c t _ _ i k hi hk)).trans
      (ref_act_apply _ _ i k).symm)
  rw [after0_3]
  refine Eq.trans ?_ (key.trans (congrArg _ ?_))
  · blk_simp
    exact congrArg _ (eq_ix2 y)
  · blk_ext [e]

open Idealize.SL.Sem

/-- The frame of the reference. -/
theorem ref_frame : quiescent_Reference5Ideal := fun m ρ _ => (θ_run Cert.Reference5Ideal.defs _ _).mono
  (fun r h => ⟨fun c => (h c).2.2, sem_eq_zero_of_no_sems (by decide) r.2⟩)
  (Cert.Reference5Ideal.Value.run (F := Ideal) m ρ)

/-- Both programs leave the same two arrays. -/
theorem equal : algebraic_Kernel5Ideal_Reference5Ideal := by
  intro m ρ m' ρ' _ hargs
  refine ⟨fun c => Cert.Reference5Ideal.Read.val_main_v3 (F := Ideal) (n3 m c) (wUp m c),
    fun c => Cert.Reference5Ideal.Read.val_main_v6 (F := Ideal) (n3 m c) (wUp m c), ?_, ?_⟩
  · refine (θ_run Cert.Kernel5Ideal.defs _ _).mono (fun r h c => ?_) (Cert.Kernel5Ideal.Value.run_blocks (F := Ideal) m ρ)
    exact ⟨(h c).1.trans (hidden m c), (h c).2.1.trans (act m c), (h c).2.2⟩
  · refine (θ_run Cert.Reference5Ideal.defs _ _).mono (fun r h c => ?_) (Cert.Reference5Ideal.Value.run (F := Ideal) m' ρ')
    obtain ⟨a0, a1⟩ := hargs c
    refine ⟨(h c).1.trans ((Cert.Reference5Ideal.Read.val_main_v3_eq ..).trans ?_),
      (h c).2.1.trans ((Cert.Reference5Ideal.Read.val_main_v6_eq ..).trans ?_), (h c).2.2⟩ <;> rw [a0, a1]

end Cert.MlpUp
-- ==== Proof.DwIn.lean ====
module
public import proofs.«01_k».proof.Proof.Product
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Quiescent

/-!
# The gradient of `w_in`

For each of the three blocks of 896 columns, three grid points add up the product of the normed rows with the
gradient of the projections, a third of the rows each; the third point writes the block back. The reference
forms the product over all rows at once, transposed.
-/

@[expose] public section
set_option maxRecDepth 16384
noncomputable section
namespace Cert.DwIn
open Idealize.ShloMosaic Idealize.ShloMosaic.TcCoe Cert.Kernel6Ideal Cert.Kernel6Ideal.Gen Cert.Product

/-- A grid point adds its product to the accumulator. -/
theorem add_apply (acc : Vec Ideal S1024x896 .f32) (x0 : Vec Ideal S2816x1024 .bf16) (x1 : Vec Ideal S2816x896 .bf16)
    (a : Fin 1024) (b : Fin 896) :
    k0_pay2 acc x0 x1 (ix2 a b) = acc (ix2 a b) + ∑ j : Fin 2816, x0 (ix2 j a) * x1 (ix2 j b) := by
  pointwise [k0_pay2]

/-- The accumulator starts at zero. -/
theorem start_apply (a : Fin 1024) (b : Fin 896) : k0_pay1 (F := Ideal) (ix2 a b) = 0 := by
  pointwise [k0_pay1]

section
variable (c : Dev nD) (i : grid0.Coords) (arg3 : Memref sig .tc .vmem S2816x1024 .bf16) (harg3 : arg3.IsWhole)
  (arg4 : Memref sig .tc .vmem S2816x896 .bf16) (harg4 : arg4.IsWhole) (arg5 : Memref sig .tc .vmem S1024x896 .f32) (harg5 : arg5.IsWhole)
  (arg6 : Memref sig .tc .vmem S1024x896 .f32) (harg6 : arg6.IsWhole)
  (x0 : Vec Ideal S2816x1024 .bf16) (x1 : Vec Ideal S2816x896 .bf16) (xs0 : Vec Ideal S1024x896 .f32)

/-- The first of three points adds to zero, -/
theorem first (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  refine (View.canon_cons_unit_zero zeros _ _ _).trans ?_
  sl_unfold_run_names
  rw [View.readCov_unit_zero _ zeros, load_whole harg3 x0 zeros, load_whole harg4 x1 zeros]

/-- the second to what the first left, -/
theorem second (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_junk_eq_canon]
  refine (View.canon_unit_zero zeros _ _).trans ?_
  rw [load_whole harg6 xs0 zeros, load_whole harg3 x0 zeros, load_whole harg4 x1 zeros]

/-- and the third to what the second left, which goes to the output. -/
theorem third (hc0 : ¬cond0_0 i) (hc1 : cond0_1 i) :
    out0_C_2 c i arg3 harg3 arg4 harg4 arg5 harg5 arg6 harg6 hc0 hc1 x0 x1 xs0 = k0_pay2 xs0 x0 x1 := by
  unfold out0_C_2
  rw [View.read_writes_junk_eq_canon]
  refine (View.canon_unit_zero zeros _ _).trans ?_
  sl_unfold_run_names
  rw [View.readCov_unit_zero _ zeros, load_whole harg6 xs0 zeros, load_whole harg3 x0 zeros, load_whole harg4 x1 zeros]
end

/-- The reference's result, at an index. -/
theorem ref_apply (x0 : FVec Ideal S8448x1024 .bf16) (x1 : FVec Ideal S8448x2688 .bf16) (a : Fin 1024) (b : Fin 2688) :
    Cert.Reference6Ideal.Read.val_main_v5 (F := Ideal) x0 x1 (ix2 a b) = ∑ r : Fin 8448, x1 (ix2 r b) * x0 (ix2 r a) := by
  rw [← Cert.Reference6Ideal.Read.val_main_v5_eq]
  pointwise

variable (m : (ℓ : Loc nD τ sig) → Buf (Elt Ideal) ℓ) (c : Dev nD)

/-- The two blocks a point reads. -/
abbrev lhs (t : Fin cfg0.N) : Vec Ideal S2816x1024 .bf16 := iblk m c 0 t
abbrev rhs (t : Fin cfg0.N) : Vec Ideal S2816x896 .bf16 := iblk m c 1 t

theorem same {n k : ℕ} (h : n = k) (hn : n < cfg0.N) (hk : k < cfg0.N) : outsAt0 m c n hn = outsAt0 m c k hk := by
  subst h; rfl

/-- What the last of three points leaves of the three points' blocks. -/
theorem left (t₀ t₁ t₂ : Fin cfg0.N) (h : t₀.val % 3 = 0) (h₁ : t₁.val = t₀.val + 1) (h₂ : t₂.val = t₀.val + 2) :
    (outsAt0 m c t₂.val t₂.isLt).1
      = k0_pay2 (k0_pay2 (k0_pay2 k0_pay1 (lhs m c t₀) (rhs m c t₀)) (lhs m c t₁) (rhs m c t₁)) (lhs m c t₂) (rhs m c t₂) := by
  rw [outsAt0_C m c t₂ (by omega) (by omega), same m c (show t₂.val - 1 = t₁.val by omega) _ t₁.isLt,
    outsAt0_B m c t₁ (by omega) (by omega), same m c (show t₁.val - 1 = t₀.val by omega) _ t₀.isLt, outsAt0_A m c t₀ h (by omega)]
  dsimp only
  rw [third, second, first]

/-- The arguments of the call: the normed rows, and the gradient of the projections. -/
abbrev n1 : FVec Ideal S8448x1024 .bf16 := m ((c : Thread nD τ).loc main_arg0)
abbrev dz : FVec Ideal S8448x2688 .bf16 := m ((c : Thread nD τ).loc main_arg1)

/-- Where the windows lie. -/
theorem index_all : ∀ t : Fin grid0.N, win0_0.index t = ![t.val % 3, 0] ∧ win0_1.index t = ![t.val % 3, t.val / 3]
    ∧ win0_2.index t = ![0, t.val / 3] := by
  decide +kernel

/-- What the windows read. -/
theorem reads (t : Fin cfg0.N) (n : ℕ) (hn : n < 3) (ht : t.val % 3 = n) :
    (∀ (j : Fin 2816) (a : Fin 1024), iblk m c 0 t (ix2 j a) = n1 m c (ix2 (row n hn j) a))
      ∧ (∀ (j : Fin 2816) (b : Fin 896) (k : Fin 2688), k.val = 896 * (t.val / 3) + b.val →
        iblk m c 1 t (ix2 j b) = dz m c (ix2 (row n hn j) k)) := by
  obtain ⟨e0, e1, -⟩ := index_all t
  subst ht
  refine ⟨fun j a => ?_, fun j b k hk => ?_⟩
  · refine Eq.trans ?_ (congrFun (V_main_arg0 m c) (ix2 (row _ hn j) a))
    blk_ext [iblk, e0, row]
  · refine Eq.trans ?_ (congrFun (V_main_arg1 m c) (ix2 (row _ hn j) k))
    blk_ext [iblk, e1, row]

/-- The array the grid leaves is the reference's result of the same arguments. -/
theorem array : (dats m 0 c).arrAt 2 cfg0.N = Cert.Reference6Ideal.Read.val_main_v5 (F := Ideal) (n1 m c) (dz m c) := by
  refine (dats m 0 c).arrAt_eq_of_covers 2 _ (by decide +kernel) fun t hf y => ?_
  have e := (index_all t).2.2
  have hy0 : (y 0).val < 1024 := (y 0).isLt
  have hy1 : (y 1).val < 896 := (y 1).isLt
  have ht : t.val < 9 := t.isLt
  have hm : t.val % 3 = 2 := (by decide +kernel : ∀ t : Fin grid0.N, (cfg0.win 2).flush t = true → t.val % 3 = 2) t hf
  obtain ⟨k, hk⟩ : ∃ k : Fin 2688, k.val = 896 * (t.val / 3) + (y 1).val := ⟨⟨_, by omega⟩, rfl⟩
  obtain ⟨t₀, h₀⟩ : ∃ t₀ : Fin cfg0.N, t₀.val = t.val - 2 := ⟨⟨t.val - 2, by show _ < 9; omega⟩, rfl⟩
  obtain ⟨t₁, h₁⟩ : ∃ t₁ : Fin cfg0.N, t₁.val = t.val - 1 := ⟨⟨t.val - 1, by show _ < 9; omega⟩, rfl⟩
  have term : ∀ (s : Fin cfg0.N) (n : ℕ) (hn : n < 3), s.val % 3 = n → s.val / 3 = t.val / 3 → ∀ j : Fin 2816,
      lhs m c s (ix2 j (⟨_, hy0⟩ : Fin 1024)) * rhs m c s (ix2 j (⟨_, hy1⟩ : Fin 896))
        = dz m c (ix2 (row n hn j) k) * n1 m c (ix2 (row n hn j) (⟨_, hy0⟩ : Fin 1024)) := by
    intro s n hn hs hd j
    obtain ⟨r0, r1⟩ := reads m c s n hn hs
    exact Eq.trans (congrArg₂ (fun x y : EReal => x * y) (r0 j _) (r1 j _ k (by rw [hd]; exact hk))) (mul_comm _ _)
  have key : (outsAt0 m c t.val t.isLt).1 (ix2 (⟨_, hy0⟩ : Fin 1024) (⟨_, hy1⟩ : Fin 896))
      = Cert.Reference6Ideal.Read.val_main_v5 (F := Ideal) (n1 m c) (dz m c) (ix2 (⟨_, hy0⟩ : Fin 1024) k) := by
    rw [left m c t₀ t₁ t (by omega) (by omega) (by omega), add_apply, add_apply, add_apply, start_apply]
    refine Eq.trans ?_ ((ref_apply _ _ _ k).trans (thirds _)).symm
    refine congrArg₂ (· + ·) (congrArg₂ (· + ·) (congrArg (0 + ·) ?_) ?_) ?_
    · exact Finset.sum_congr rfl fun j _ => term t₀ 0 _ (by omega) (by omega) j
    · exact Finset.sum_congr rfl fun j _ => term t₁ 1 _ (by omega) (by omega) j
    · exact Finset.sum_congr rfl fun j _ => term t 2 _ (by omega) (by omega) j
  rw [after0_2]
  refine Eq.trans ?_ (key.trans (congrArg _ ?_))
  · blk_simp
    exact congrArg _ (eq_ix2 y)
  · blk_ext [e]

open Idealize.SL.Sem

/-- The frame of the reference. -/
theorem ref_frame : quiescent_Reference6Ideal := fun m ρ _ => (θ_run Cert.Reference6Ideal.defs _ _).mono
  (fun r h => ⟨fun c => (h c).2, sem_eq_zero_of_no_sems (by decide) r.2⟩)
  (Cert.Reference6Ideal.Value.run (F := Ideal) m ρ)

/-- Both programs leave the same array. -/
theorem equal : algebraic_Kernel6Ideal_Reference6Ideal := by
  intro m ρ m' ρ' _ hargs
  refine ⟨fun c => Cert.Reference6Ideal.Read.val_main_v5 (F := Ideal) (n1 m c) (dz m c), ?_, ?_⟩
  · refine (θ_run Cert.Kernel6Ideal.defs _ _).mono (fun r h c => ?_) (Cert.Kernel6Ideal.Value.run_blocks (F := Ideal) m ρ)
    exact ⟨(h c).1.trans (array m c), (h c).2⟩
  · refine (θ_run Cert.Reference6Ideal.defs _ _).mono (fun r h c => ?_) (Cert.Reference6Ideal.Value.run (F := Ideal) m' ρ')
    obtain ⟨a0, a1⟩ := hargs c
    refine ⟨(h c).1.trans ((Cert.Reference6Ideal.Read.val_main_v5_eq ..).trans ?_), (h c).2⟩
    rw [a0, a1]

end Cert.DwIn
-- ==== Proof.InProj.lean ====
module
public import proofs.«01_k».proof.Proof.Product
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Quiescent

/-!
# The input projection

Each of the 11 grid points forms 768 rows of the product with `w_in` and stores its columns as five arrays.
The reference forms the product whole and splits its columns.
-/

@[expose] public section
set_option maxRecDepth 16384
noncomputable section
namespace Cert.InProj
open Idealize.ShloMosaic Idealize.ShloMosaic.TcCoe Cert.Kernel7Ideal Cert.Kernel7Ideal.Gen Cert.Product

/-- Column `b` of a slice of `w` columns that starts at `o`. -/
def col (o : ℕ) {w : ℕ} (h : o + w ≤ 2688) (b : Fin w) : Fin 2688 := ⟨o + b.val, by omega⟩

section
variable (x0 : Vec Ideal S768x1024 .bf16) (x1 : Vec Ideal S1024x2688 .bf16) (a : Fin 768)

/-! What a grid point leaves, at an index of each of its five blocks. -/

theorem zLru_apply (b : Fin 1024) :
    out0_2 x0 x1 (ix2 a b) = ∑ j : Fin 1024, x0 (ix2 a j) * x1 (ix2 j (col 0 (by decide) b)) := by
  unfold out0_2
  rw [View.canon_unit_zero zeros]
  pointwise [k0_pay2, k0_pay1, col]

theorem zQk_apply (b : Fin 512) :
    out0_3 x0 x1 (ix2 a b) = ∑ j : Fin 1024, x0 (ix2 a j) * x1 (ix2 j (col 1024 (by decide) b)) := by
  unfold out0_3
  rw [View.canon_unit_zero zeros]
  pointwise [k0_pay3, k0_pay1, col]

theorem zV_apply (b : Fin 512) :
    out0_4 x0 x1 (ix2 a b) = ∑ j : Fin 1024, x0 (ix2 a j) * x1 (ix2 j (col 1536 (by decide) b)) := by
  unfold out0_4
  rw [View.canon_unit_zero zeros]
  pointwise [k0_pay4, k0_pay1, col]

theorem zGo_apply (b : Fin 512) :
    out0_5 x0 x1 (ix2 a b) = ∑ j : Fin 1024, x0 (ix2 a j) * x1 (ix2 j (col 2048 (by decide) b)) := by
  unfold out0_5
  rw [View.canon_unit_zero zeros]
  pointwise [k0_pay5, k0_pay1, col]

theorem zZg_apply (b : Fin 128) :
    out0_6 x0 x1 (ix2 a b) = ∑ j : Fin 1024, x0 (ix2 a j) * x1 (ix2 j (col 2560 (by decide) b)) := by
  unfold out0_6
  rw [View.canon_unit_zero zeros]
  pointwise [k0_pay6, k0_pay1, col]

end

section
variable (x0 : FVec Ideal S8448x1024 .bf16) (x1 : FVec Ideal S1024x2688 .bf16) (a : Fin 8448)

/-! The reference's five results, at an index. -/

theorem ref_zLru_apply (b : Fin 1024) : Cert.Reference7Ideal.Read.val_main_v3 (F := Ideal) x0 x1 (ix2 a b)
    = ∑ j : Fin 1024, x0 (ix2 a j) * x1 (ix2 j (col 0 (by decide) b)) := by
  rw [← Cert.Reference7Ideal.Read.val_main_v3_eq]
  pointwise [col]

theorem ref_zQk_apply (b : Fin 512) : Cert.Reference7Ideal.Read.val_main_v4 (F := Ideal) x0 x1 (ix2 a b)
    = ∑ j : Fin 1024, x0 (ix2 a j) * x1 (ix2 j (col 1024 (by decide) b)) := by
  rw [← Cert.Reference7Ideal.Read.val_main_v4_eq]
  pointwise [col]

theorem ref_zV_apply (b : Fin 512) : Cert.Reference7Ideal.Read.val_main_v5 (F := Ideal) x0 x1 (ix2 a b)
    = ∑ j : Fin 1024, x0 (ix2 a j) * x1 (ix2 j (col 1536 (by decide) b)) := by
  rw [← Cert.Reference7Ideal.Read.val_main_v5_eq]
  pointwise [col]

theorem ref_zGo_apply (b : Fin 512) : Cert.Reference7Ideal.Read.val_main_v6 (F := Ideal) x0 x1 (ix2 a b)
    = ∑ j : Fin 1024, x0 (ix2 a j) * x1 (ix2 j (col 2048 (by decide) b)) := by
  rw [← Cert.Reference7Ideal.Read.val_main_v6_eq]
  pointwise [col]

theorem ref_zZg_apply (b : Fin 128) : Cert.Reference7Ideal.Read.val_main_v7 (F := Ideal) x0 x1 (ix2 a b)
    = ∑ j : Fin 1024, x0 (ix2 a j) * x1 (ix2 j (col 2560 (by decide) b)) := by
  rw [← Cert.Reference7Ideal.Read.val_main_v7_eq]
  pointwise [col]

end

variable (m : (ℓ : Loc nD τ sig) → Buf (Elt Ideal) ℓ) (c : Dev nD)

/-- The arguments of the call: the normed rows and the weight. -/
abbrev n1 : FVec Ideal S8448x1024 .bf16 := m ((c : Thread nD τ).loc main_arg0)
abbrev wIn : FVec Ideal S1024x2688 .bf16 := m ((c : Thread nD τ).loc main_arg1)

/-- The two blocks a point reads. -/
abbrev lhs (t : Fin cfg0.N) : Vec Ideal S768x1024 .bf16 := iblk m c 0 t
abbrev rhs (t : Fin cfg0.N) : Vec Ideal S1024x2688 .bf16 := iblk m c 1 t

/-- Where the windows lie. -/
theorem index_all : ∀ t : Fin grid0.N, win0_0.index t = ![t.val, 0] ∧ win0_1.index t = ![0, 0]
    ∧ win0_2.index t = ![t.val, 0] ∧ win0_3.index t = ![t.val, 0] ∧ win0_4.index t = ![t.val, 0] ∧ win0_5.index t = ![t.val, 0]
    ∧ win0_6.index t = ![t.val, 0] := by
  decide +kernel

/-- The product of the blocks a point reads is the product of the arguments, at the entry's own place. -/
theorem product (t : Fin cfg0.N) (a : Fin 768) (i : Fin 8448) (k : Fin 2688) (hi : i.val = 768 * t.val + a.val) :
    (∑ j : Fin 1024, lhs m c t (ix2 a j) * rhs m c t (ix2 j k)) = ∑ j : Fin 1024, n1 m c (ix2 i j) * wIn m c (ix2 j k) := by
  obtain ⟨e0, e1, -⟩ := index_all t
  refine Finset.sum_congr rfl fun j _ => congrArg₂ (fun x y : EReal => x * y) ?_ ?_
  · refine Eq.trans ?_ (congrFun (V_main_arg0 m c) (ix2 i j))
    blk_ext [iblk, e0]
  · refine Eq.trans ?_ (congrFun (V_main_arg1 m c) (ix2 j k))
    blk_ext [iblk, e1]

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- The array of the two branches of the recurrence. -/
theorem zLru : (dats m 0 c).arrAt 2 cfg0.N = Cert.Reference7Ideal.Read.val_main_v3 (F := Ideal) (n1 m c) (wIn m c) := by
  refine (dats m 0 c).arrAt_eq_of_covers 2 _ (by decide +kernel) fun t hf y => ?_
  have e := (index_all t).2.2.1
  have hy0 : (y 0).val < 768 := (y 0).isLt
  have hy1 : (y 1).val < 1024 := (y 1).isLt
  obtain ⟨i, hi⟩ := whole_row t hy0
  have key := (zLru_apply (iblk m c 0 t) (iblk m c 1 t) ⟨_, hy0⟩ ⟨_, hy1⟩).trans
    ((product m c t _ i _ hi).trans (ref_zLru_apply (n1 m c) (wIn m c) i ⟨_, hy1⟩).symm)
  rw [after0_2]
  refine Eq.trans ?_ (key.trans (congrArg _ ?_))
  · blk_simp
    exact congrArg _ (eq_ix2 y)
  · blk_ext [e]

/-- The array of the queries and keys. -/
theorem zQk : (dats m 0 c).arrAt 3 cfg0.N = Cert.Reference7Ideal.Read.val_main_v4 (F := Ideal) (n1 m c) (wIn m c) := by
  refine (dats m 0 c).arrAt_eq_of_covers 3 _ (by decide +kernel) fun t hf y => ?_
  have e := (index_all t).2.2.2.1
  have hy0 : (y 0).val < 768 := (y 0).isLt
  have hy1 : (y 1).val < 512 := (y 1).isLt
  obtain ⟨i, hi⟩ := whole_row t hy0
  have key := (zQk_apply (iblk m c 0 t) (iblk m c 1 t) ⟨_, hy0⟩ ⟨_, hy1⟩).trans
    ((product m c t _ i _ hi).trans (ref_zQk_apply (n1 m c) (wIn m c) i ⟨_, hy1⟩).symm)
  rw [after0_3]
  refine Eq.trans ?_ (key.trans (congrArg _ ?_))
  · blk_simp
    exact congrArg _ (eq_ix2 y)
  · blk_ext [e]

/-- The array of the values. -/
theorem zV : (dats m 0 c).arrAt 4 cfg0.N = Cert.Reference7Ideal.Read.val_main_v5 (F := Ideal) (n1 m c) (wIn m c) := by
  refine (dats m 0 c).arrAt_eq_of_covers 4 _ (by decide +kernel) fun t hf y => ?_
  have e := (index_all t).2.2.2.2.1
  have hy0 : (y 0).val < 768 := (y 0).isLt
  have hy1 : (y 1).val < 512 := (y 1).isLt
  obtain ⟨i, hi⟩ := whole_row t hy0
  have key := (zV_apply (iblk m c 0 t) (iblk m c 1 t) ⟨_, hy0⟩ ⟨_, hy1⟩).trans
    ((product m c t _ i _ hi).trans (ref_zV_apply (n1 m c) (wIn m c) i ⟨_, hy1⟩).symm)
  rw [after0_4]
  refine Eq.trans ?_ (key.trans (congrArg _ ?_))
  · blk_simp
    exact congrArg _ (eq_ix2 y)
  · blk_ext [e]

/-- The array of the output gate. -/
theorem zGo : (dats m 0 c).arrAt 5 cfg0.N = Cert.Reference7Ideal.Read.val_main_v6 (F := Ideal) (n1 m c) (wIn m c) := by
  refine (dats m 0 c).arrAt_eq_of_covers 5 _ (by decide +kernel) fun t hf y => ?_
  have e := (index_all t).2.2.2.2.2.1
  have hy0 : (y 0).val < 768 := (y 0).isLt
  have hy1 : (y 1).val < 512 := (y 1).isLt
  obtain ⟨i, hi⟩ := whole_row t hy0
  have key := (zGo_apply (iblk m c 0 t) (iblk m c 1 t) ⟨_, hy0⟩ ⟨_, hy1⟩).trans
    ((product m c t _ i _ hi).trans (ref_zGo_apply (n1 m c) (wIn m c) i ⟨_, hy1⟩).symm)
  rw [after0_5]
  refine Eq.trans ?_ (key.trans (congrArg _ ?_))
  · blk_simp
    exact congrArg _ (eq_ix2 y)
  · blk_ext [e]

/-- The array of the low-rank stage of the decay gates. -/
theorem zZg : (dats m 0 c).arrAt 6 cfg0.N = Cert.Reference7Ideal.Read.val_main_v7 (F := Ideal) (n1 m c) (wIn m c) := by
  refine (dats m 0 c).arrAt_eq_of_covers 6 _ (by decide +kernel) fun t hf y => ?_
  have e := (index_all t).2.2.2.2.2.2
  have hy0 : (y 0).val < 768 := (y 0).isLt
  have hy1 : (y 1).val < 128 := (y 1).isLt
  obtain ⟨i, hi⟩ := whole_row t hy0
  have key := (zZg_apply (iblk m c 0 t) (iblk m c 1 t) ⟨_, hy0⟩ ⟨_, hy1⟩).trans
    ((product m c t _ i _ hi).trans (ref_zZg_apply (n1 m c) (wIn m c) i ⟨_, hy1⟩).symm)
  rw [after0_6]
  refine Eq.trans ?_ (key.trans (congrArg _ ?_))
  · blk_simp
    exact congrArg _ (eq_ix2 y)
  · blk_ext [e]

open Idealize.SL.Sem

/-- The frame of the reference. -/
theorem ref_frame : quiescent_Reference7Ideal := fun m ρ _ => (θ_run Cert.Reference7Ideal.defs _ _).mono
  (fun r h => ⟨fun c => (h c).2.2.2.2.2, sem_eq_zero_of_no_sems (by decide) r.2⟩)
  (Cert.Reference7Ideal.Value.run (F := Ideal) m ρ)

/-- Both programs leave the same five arrays. -/
theorem equal : algebraic_Kernel7Ideal_Reference7Ideal := by
  intro m ρ m' ρ' _ hargs
  refine ⟨fun c => Cert.Reference7Ideal.Read.val_main_v3 (F := Ideal) (n1 m c) (wIn m c),
    fun c => Cert.Reference7Ideal.Read.val_main_v4 (F := Ideal) (n1 m c) (wIn m c),
    fun c => Cert.Reference7Ideal.Read.val_main_v5 (F := Ideal) (n1 m c) (wIn m c),
    fun c => Cert.Reference7Ideal.Read.val_main_v6 (F := Ideal) (n1 m c) (wIn m c),
    fun c => Cert.Reference7Ideal.Read.val_main_v7 (F := Ideal) (n1 m c) (wIn m c), ?_, ?_⟩
  · refine (θ_run Cert.Kernel7Ideal.defs _ _).mono (fun r h c => ?_) (Cert.Kernel7Ideal.Value.run_blocks (F := Ideal) m ρ)
    obtain ⟨e0, e1, e2, e3, e4, keep⟩ := h c
    exact ⟨e0.trans (zLru m c), e1.trans (zQk m c), e2.trans (zV m c), e3.trans (zGo m c), e4.trans (zZg m c), keep⟩
  · refine (θ_run Cert.Reference7Ideal.defs _ _).mono (fun r h c => ?_) (Cert.Reference7Ideal.Value.run (F := Ideal) m' ρ')
    obtain ⟨e0, e1, e2, e3, e4, keep⟩ := h c
    obtain ⟨a0, a1⟩ := hargs c
    refine ⟨e0.trans ((Cert.Reference7Ideal.Read.val_main_v3_eq ..).trans ?_),
      e1.trans ((Cert.Reference7Ideal.Read.val_main_v4_eq ..).trans ?_),
      e2.trans ((Cert.Reference7Ideal.Read.val_main_v5_eq ..).trans ?_),
      e3.trans ((Cert.Reference7Ideal.Read.val_main_v6_eq ..).trans ?_),
      e4.trans ((Cert.Reference7Ideal.Read.val_main_v7_eq ..).trans ?_), keep⟩ <;> rw [a0, a1]

end Cert.InProj
-- ==== Proof.Norm.lean ====
module
public import Idealize.ShloMosaic.Lib.ValueIdx

/-!
# The norm of a row

Both programs normalise a row of 1024 values by the root of its mean square and scale it by a gain; a
projection's result is normalised, added to the residual, and the sum normalised again for what comes next.
-/

@[expose] public section
noncomputable section
namespace Cert.Norm
open Idealize.ShloMosaic

/-- Entry `b` of a row, normalised and scaled. -/
def rms (f g : Fin 1024 → EReal) (b : Fin 1024) : EReal :=
  f b * Ideal.rsqrt (Ideal.div (∑ x, f x * f x) (Ideal.ofBits FTy.f32 0x44800000#32) + Ideal.ofBits FTy.f32 0x358637BD#32) * g b

/-- Entry `b` of the residual row behind a projection. -/
def behind (p r g : Fin 1024 → EReal) (b : Fin 1024) : EReal := r b + rms p g b

end Cert.Norm
-- ==== Proof.MlpDown.lean ====
module
public import proofs.«01_k».proof.Proof.Product
public import proofs.«01_k».proof.Proof.Norm
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Quiescent

/-!
# The MLP's output and the residual behind it

Each of the 11 grid points forms 768 rows of the product of the activations with `w_down`, normalises them, adds
them to the residual and normalises the sum for the next layer. The reference does the same over all rows at once.
-/

@[expose] public section
set_option maxRecDepth 16384
noncomputable section
namespace Cert.MlpDown
open Idealize.ShloMosaic Idealize.ShloMosaic.TcCoe Cert.Kernel8Ideal Cert.Kernel8Ideal.Gen Cert.Product Cert.Norm

section
variable (x0 : Vec Ideal S768x4096 .bf16) (x1 : Vec Ideal S4096x1024 .bf16) (x2 : Vec Ideal S768x1024 .f32)
  (x3 x4 : Vec Ideal S1x1024 .f32) (a : Fin 768) (b : Fin 1024)

/-- A grid point's product, -/
theorem pay1_apply : k0_pay1 x0 x1 (ix2 a b) = ∑ j : Fin 4096, x0 (ix2 a j) * x1 (ix2 j b) := by
  pointwise [k0_pay1]

/-- the residual behind it, -/
theorem pay2_apply : k0_pay2 x0 x1 x2 x3 (ix2 a b)
    = behind (fun k => ∑ j : Fin 4096, x0 (ix2 a j) * x1 (ix2 j k)) (fun k => x2 (ix2 a k)) (fun k => x3 (ix2 0 k)) b := by
  unfold behind rms
  pointwise [k0_pay2]
  simp only [pay1_apply]

/-- and its norm. -/
theorem pay3_apply : k0_pay3 x0 x1 x2 x3 x4 (ix2 a b)
    = rms (behind (fun k => ∑ j : Fin 4096, x0 (ix2 a j) * x1 (ix2 j k)) (fun k => x2 (ix2 a k)) (fun k => x3 (ix2 0 k)))
        (fun k => x4 (ix2 0 k)) b := by
  unfold rms
  simp only [← pay2_apply]
  pointwise [k0_pay3]

/-! What a grid point leaves in its three blocks. -/

theorem out_mm : out0_5 x0 x1 x2 x3 x4 (ix2 a b) = ∑ j : Fin 4096, x0 (ix2 a j) * x1 (ix2 j b) := by
  unfold out0_5
  rw [View.canon_unit_zero zeros, View.ld_unit_zero zeros, View.ld_unit_zero zeros, pay1_apply]

theorem out_h : out0_6 x0 x1 x2 x3 x4 (ix2 a b)
    = behind (fun k => ∑ j : Fin 4096, x0 (ix2 a j) * x1 (ix2 j k)) (fun k => x2 (ix2 a k)) (fun k => x3 (ix2 0 k)) b := by
  unfold out0_6
  rw [View.canon_unit_zero zeros, View.ld_unit_zero zeros, View.ld_unit_zero zeros, View.ld_unit_zero zeros, View.ld_unit_zero zeros,
    pay2_apply]

theorem out_n : out0_7 x0 x1 x2 x3 x4 (ix2 a b)
    = rms (behind (fun k => ∑ j : Fin 4096, x0 (ix2 a j) * x1 (ix2 j k)) (fun k => x2 (ix2 a k)) (fun k => x3 (ix2 0 k)))
        (fun k => x4 (ix2 0 k)) b := by
  unfold out0_7
  rw [View.canon_unit_zero zeros, View.ld_unit_zero zeros, View.ld_unit_zero zeros, View.ld_unit_zero zeros, View.ld_unit_zero zeros,
    View.ld_unit_zero zeros, pay3_apply]
end

section
variable (x0 : FVec Ideal S8448x4096 .bf16) (x1 : FVec Ideal S4096x1024 .bf16) (x2 : FVec Ideal S8448x1024 .f32)
  (x3 x4 : FVec Ideal S1x1024 .f32) (a : Fin 8448) (b : Fin 1024)

/-! The reference's three results, at an index. -/

theorem ref_mm : Cert.Reference8Ideal.Read.val_main_v2 (F := Ideal) x0 x1 (ix2 a b) = ∑ j : Fin 4096, x0 (ix2 a j) * x1 (ix2 j b) := by
  rw [← Cert.Reference8Ideal.Read.val_main_v2_eq]
  pointwise

theorem ref_h : Cert.Reference8Ideal.Read.val_main_v17 (F := Ideal) x0 x1 x2 x3 (ix2 a b)
    = behind (fun k => ∑ j : Fin 4096, x0 (ix2 a j) * x1 (ix2 j k)) (fun k => x2 (ix2 a k)) (fun k => x3 (ix2 0 k)) b := by
  unfold behind rms
  rw [← Cert.Reference8Ideal.Read.val_main_v17_eq]
  pointwise

theorem ref_n : Cert.Reference8Ideal.Read.val_main_v32 (F := Ideal) x0 x1 x2 x3 x4 (ix2 a b)
    = rms (behind (fun k => ∑ j : Fin 4096, x0 (ix2 a j) * x1 (ix2 j k)) (fun k => x2 (ix2 a k)) (fun k => x3 (ix2 0 k)))
        (fun k => x4 (ix2 0 k)) b := by
  unfold rms
  simp only [← ref_h]
  unfold Cert.Reference8Ideal.Read.val_main_v32 Cert.Reference8Ideal.Read.val_main_v31 Cert.Reference8Ideal.Read.val_main_v30 Cert.Reference8Ideal.Read.val_main_v29
    Cert.Reference8Ideal.Read.val_main_v28 Cert.Reference8Ideal.Read.val_main_v27 Cert.Reference8Ideal.Read.val_main_v26 Cert.Reference8Ideal.Read.val_main_v25
    Cert.Reference8Ideal.Read.val_main_v24 Cert.Reference8Ideal.Read.val_main_v23 Cert.Reference8Ideal.Read.val_main_v22 Cert.Reference8Ideal.Read.val_main_v21
    Cert.Reference8Ideal.Read.val_main_v20 Cert.Reference8Ideal.Read.val_main_v19 Cert.Reference8Ideal.Read.val_main_v18
    Cert.Reference8Ideal.Read.val_main_cst_2 Cert.Reference8Ideal.Read.val_main_cst_3 Cert.Reference8Ideal.Read.val_main_cst_4
  generalize Cert.Reference8Ideal.Read.val_main_v17 (F := Ideal) x0 x1 x2 x3 = h
  pointwise
end

variable (m : (ℓ : Loc nD τ sig) → Buf (Elt Ideal) ℓ) (c : Dev nD)

/-- The arguments of the call: the activations, the weight, the residual, and the gains of the two norms. -/
abbrev act : FVec Ideal S8448x4096 .bf16 := m ((c : Thread nD τ).loc main_arg0)
abbrev wDown : FVec Ideal S4096x1024 .bf16 := m ((c : Thread nD τ).loc main_arg1)
abbrev h1 : FVec Ideal S8448x1024 .f32 := m ((c : Thread nD τ).loc main_arg2)
abbrev g4 : FVec Ideal S1x1024 .f32 := m ((c : Thread nD τ).loc main_arg3)
abbrev g1 : FVec Ideal S1x1024 .f32 := m ((c : Thread nD τ).loc main_arg4)

/-- The blocks a point reads. -/
abbrev lhs (t : Fin cfg0.N) : Vec Ideal S768x4096 .bf16 := iblk m c 0 t
abbrev rhs (t : Fin cfg0.N) : Vec Ideal S4096x1024 .bf16 := iblk m c 1 t
abbrev res (t : Fin cfg0.N) : Vec Ideal S768x1024 .f32 := iblk m c 2 t
abbrev gain (t : Fin cfg0.N) : Vec Ideal S1x1024 .f32 := iblk m c 3 t
abbrev gain' (t : Fin cfg0.N) : Vec Ideal S1x1024 .f32 := iblk m c 4 t

/-- Where the windows lie. -/
theorem index_all : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] := by
  decide +kernel

section
variable (t : Fin cfg0.N) (a : Fin 768) (i : Fin 8448) (hi : i.val = 768 * t.val + a.val)
include hi

/-- A row of a point's product is the row of the arguments' product, -/
theorem product : (fun k : Fin 1024 => ∑ j : Fin 4096, lhs m c t (ix2 a j) * rhs m c t (ix2 j k))
    = fun k => ∑ j : Fin 4096, act m c (ix2 i j) * wDown m c (ix2 j k) := by
  obtain ⟨e0, e1, -⟩ := index_all t
  refine funext fun k => Finset.sum_congr rfl fun j _ => congrArg₂ (fun x y : EReal => x * y) ?_ ?_
  · refine Eq.trans ?_ (congrFun (V_main_arg0 m c) (ix2 i j))
    blk_ext [iblk, e0]
  · refine Eq.trans ?_ (congrFun (V_main_arg1 m c) (ix2 j k))
    blk_ext [iblk, e1]

/-- and a row of its residual is the arguments' row. -/
theorem residual : (fun k : Fin 1024 => res m c t (ix2 a k)) = fun k => h1 m c (ix2 i k) := by
  have e2 := (index_all t).2.2.1
  refine funext fun k => Eq.trans ?_ (congrFun (V_main_arg2 m c) (ix2 i k))
  blk_ext [iblk, e2]
end

/-- The gains are the same at every point. -/
theorem gains (t : Fin cfg0.N) : (fun k : Fin 1024 => gain m c t (ix2 0 k)) = (fun k => g4 m c (ix2 0 k))
    ∧ (fun k : Fin 1024 => gain' m c t (ix2 0 k)) = fun k => g1 m c (ix2 0 k) := by
  obtain ⟨-, -, -, e3, e4, -⟩ := index_all t
  constructor
  · refine funext fun k => Eq.trans ?_ (congrFun (V_main_arg3 m c) (ix2 0 k))
    blk_ext [iblk, e3]
  · refine funext fun k => Eq.trans ?_ (congrFun (V_main_arg4 m c) (ix2 0 k))
    blk_ext [iblk, e4]

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- The product the grid leaves is the reference's. -/
theorem array_mm : (dats m 0 c).arrAt 5 cfg0.N = Cert.Reference8Ideal.Read.val_main_v2 (F := Ideal) (act m c) (wDown m c) := by
  refine (dats m 0 c).arrAt_eq_of_covers 5 _ (by decide +kernel) fun t hf y => ?_
  have e := (index_all t).2.2.2.2.2.1
  have hy0 : (y 0).val < 768 := (y 0).isLt
  have hy1 : (y 1).val < 1024 := (y 1).isLt
  obtain ⟨i, hi⟩ := whole_row t hy0
  have key := (out_mm (lhs m c t) (rhs m c t) (res m c t) (gain m c t) (gain' m c t) ⟨_, hy0⟩ ⟨_, hy1⟩).trans
    ((congrFun (product m c t _ i hi) _).trans (ref_mm (act m c) (wDown m c) i _).symm)
  rw [after0_5]
  refine Eq.trans ?_ (key.trans (congrArg _ ?_))
  · blk_simp
    exact congrArg _ (eq_ix2 y)
  · blk_ext [e]

/-- The residual behind it the grid leaves is the reference's. -/
theorem array_h : (dats m 0 c).arrAt 6 cfg0.N = Cert.Reference8Ideal.Read.val_main_v17 (F := Ideal) (act m c) (wDown m c) (h1 m c) (g4 m c) := by
  refine (dats m 0 c).arrAt_eq_of_covers 6 _ (by decide +kernel) fun t hf y => ?_
  have e := (index_all t).2.2.2.2.2.2.1
  have hy0 : (y 0).val < 768 := (y 0).isLt
  have hy1 : (y 1).val < 1024 := (y 1).isLt
  obtain ⟨i, hi⟩ := whole_row t hy0
  have key : out0_6 (lhs m c t) (rhs m c t) (res m c t) (gain m c t) (gain' m c t) (ix2 (⟨_, hy0⟩ : Fin 768) (⟨_, hy1⟩ : Fin 1024))
      = Cert.Reference8Ideal.Read.val_main_v17 (F := Ideal) (act m c) (wDown m c) (h1 m c) (g4 m c) (ix2 i (⟨_, hy1⟩ : Fin 1024)) := by
    rw [out_h, ref_h, product m c t ⟨_, hy0⟩ i hi, residual m c t ⟨_, hy0⟩ i hi, (gains m c t).1]
  rw [after0_6]
  refine Eq.trans ?_ (key.trans (congrArg _ ?_))
  · blk_simp
    exact congrArg _ (eq_ix2 y)
  · blk_ext [e]

/-- Its norm the grid leaves is the reference's. -/
theorem array_n : (dats m 0 c).arrAt 7 cfg0.N = Cert.Reference8Ideal.Read.val_main_v32 (F := Ideal) (act m c) (wDown m c) (h1 m c) (g4 m c) (g1 m c) := by
  refine (dats m 0 c).arrAt_eq_of_covers 7 _ (by decide +kernel) fun t hf y => ?_
  have e := (index_all t).2.2.2.2.2.2.2
  have hy0 : (y 0).val < 768 := (y 0).isLt
  have hy1 : (y 1).val < 1024 := (y 1).isLt
  obtain ⟨i, hi⟩ := whole_row t hy0
  have key : out0_7 (lhs m c t) (rhs m c t) (res m c t) (gain m c t) (gain' m c t) (ix2 (⟨_, hy0⟩ : Fin 768) (⟨_, hy1⟩ : Fin 1024))
      = Cert.Reference8Ideal.Read.val_main_v32 (F := Ideal) (act m c) (wDown m c) (h1 m c) (g4 m c) (g1 m c) (ix2 i (⟨_, hy1⟩ : Fin 1024)) := by
    rw [out_n, ref_n, product m c t ⟨_, hy0⟩ i hi, residual m c t ⟨_, hy0⟩ i hi, (gains m c t).1, (gains m c t).2]
  rw [after0_7]
  refine Eq.trans ?_ (key.trans (congrArg _ ?_))
  · blk_simp
    exact congrArg _ (eq_ix2 y)
  · blk_ext [e]

open Idealize.SL.Sem

/-- The frame of the reference. -/
theorem ref_frame : quiescent_Reference8Ideal := fun m ρ _ => (θ_run Cert.Reference8Ideal.defs _ _).mono
  (fun r h => ⟨fun c => (h c).2.2.2, sem_eq_zero_of_no_sems (by decide) r.2⟩)
  (Cert.Reference8Ideal.Value.run (F := Ideal) m ρ)

/-- Both programs leave the same three arrays. -/
theorem equal : algebraic_Kernel8Ideal_Reference8Ideal := by
  intro m ρ m' ρ' _ hargs
  refine ⟨fun c => Cert.Reference8Ideal.Read.val_main_v2 (F := Ideal) (act m c) (wDown m c),
    fun c => Cert.Reference8Ideal.Read.val_main_v17 (F := Ideal) (act m c) (wDown m c) (h1 m c) (g4 m c),
    fun c => Cert.Reference8Ideal.Read.val_main_v32 (F := Ideal) (act m c) (wDown m c) (h1 m c) (g4 m c) (g1 m c), ?_, ?_⟩
  · refine (θ_run Cert.Kernel8Ideal.defs _ _).mono (fun r h c => ?_) (Cert.Kernel8Ideal.Value.run_blocks (F := Ideal) m ρ)
    obtain ⟨e0, e1, e2, keep⟩ := h c
    exact ⟨e0.trans (array_mm m c), e1.trans (array_h m c), e2.trans (array_n m c), keep⟩
  · refine (θ_run Cert.Reference8Ideal.defs _ _).mono (fun r h c => ?_) (Cert.Reference8Ideal.Value.run (F := Ideal) m' ρ')
    obtain ⟨e0, e1, e2, keep⟩ := h c
    obtain ⟨a0, a1, a2, a3, a4⟩ := hargs c
    refine ⟨e0.trans ((Cert.Reference8Ideal.Read.val_main_v2_eq ..).trans ?_), e1.trans ((Cert.Reference8Ideal.Read.val_main_v17_eq ..).trans ?_),
      e2.trans ((Cert.Reference8Ideal.Read.val_main_v32_eq ..).trans ?_), keep⟩
    · rw [a0, a1]
    · rw [a0, a1, a2, a3]
    · rw [a0, a1, a2, a3, a4]

end Cert.MlpDown
-- ==== Proof.OutProj.lean ====
module
public import proofs.«01_k».proof.Proof.Product
public import proofs.«01_k».proof.Proof.Norm
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Quiescent

/-!
# The output projection and the residual behind it

Each of the 11 grid points forms 768 rows of the product of the mixer's output with `w_out`, normalises them, adds
them to the residual and normalises the sum for the MLP. The reference does the same over all rows at once.
-/

@[expose] public section
set_option maxRecDepth 16384
noncomputable section
namespace Cert.OutProj
open Idealize.ShloMosaic Idealize.ShloMosaic.TcCoe Cert.Kernel9Ideal Cert.Kernel9Ideal.Gen Cert.Product Cert.Norm

section
variable (x0 : Vec Ideal S768x1024 .bf16) (x1 : Vec Ideal S1024x1024 .bf16) (x2 : Vec Ideal S768x1024 .f32)
  (x3 x4 : Vec Ideal S1x1024 .f32) (a : Fin 768) (b : Fin 1024)

/-- A grid point's product, -/
theorem pay1_apply : k0_pay1 x0 x1 (ix2 a b) = ∑ j : Fin 1024, x0 (ix2 a j) * x1 (ix2 j b) := by
  pointwise [k0_pay1]

/-- the residual behind it, -/
theorem pay2_apply : k0_pay2 x0 x1 x2 x3 (ix2 a b)
    = behind (fun k => ∑ j : Fin 1024, x0 (ix2 a j) * x1 (ix2 j k)) (fun k => x2 (ix2 a k)) (fun k => x3 (ix2 0 k)) b := by
  unfold behind rms
  pointwise [k0_pay2]
  simp only [pay1_apply]

/-- and its norm. -/
theorem pay3_apply : k0_pay3 x0 x1 x2 x3 x4 (ix2 a b)
    = rms (behind (fun k => ∑ j : Fin 1024, x0 (ix2 a j) * x1 (ix2 j k)) (fun k => x2 (ix2 a k)) (fun k => x3 (ix2 0 k)))
        (fun k => x4 (ix2 0 k)) b := by
  unfold rms
  simp only [← pay2_apply]
  pointwise [k0_pay3]

/-! What a grid point leaves in its three blocks. -/

theorem out_mm : out0_5 x0 x1 x2 x3 x4 (ix2 a b) = ∑ j : Fin 1024, x0 (ix2 a j) * x1 (ix2 j b) := by
  unfold out0_5
  rw [View.canon_unit_zero zeros, View.ld_unit_zero zeros, View.ld_unit_zero zeros, pay1_apply]

theorem out_h : out0_6 x0 x1 x2 x3 x4 (ix2 a b)
    = behind (fun k => ∑ j : Fin 1024, x0 (ix2 a j) * x1 (ix2 j k)) (fun k => x2 (ix2 a k)) (fun k => x3 (ix2 0 k)) b := by
  unfold out0_6
  rw [View.canon_unit_zero zeros, View.ld_unit_zero zeros, View.ld_unit_zero zeros, View.ld_unit_zero zeros, View.ld_unit_zero zeros,
    pay2_apply]

theorem out_n : out0_7 x0 x1 x2 x3 x4 (ix2 a b)
    = rms (behind (fun k => ∑ j : Fin 1024, x0 (ix2 a j) * x1 (ix2 j k)) (fun k => x2 (ix2 a k)) (fun k => x3 (ix2 0 k)))
        (fun k => x4 (ix2 0 k)) b := by
  unfold out0_7
  rw [View.canon_unit_zero zeros, View.ld_unit_zero zeros, View.ld_unit_zero zeros, View.ld_unit_zero zeros, View.ld_unit_zero zeros,
    View.ld_unit_zero zeros, pay3_apply]
end

section
variable (x0 : FVec Ideal S8448x1024 .bf16) (x1 : FVec Ideal S1024x1024 .bf16) (x2 : FVec Ideal S8448x1024 .f32)
  (x3 x4 : FVec Ideal S1x1024 .f32) (a : Fin 8448) (b : Fin 1024)

/-! The reference's three results, at an index. -/

theorem ref_mm : Cert.Reference9Ideal.Read.val_main_v2 (F := Ideal) x0 x1 (ix2 a b) = ∑ j : Fin 1024, x0 (ix2 a j) * x1 (ix2 j b) := by
  rw [← Cert.Reference9Ideal.Read.val_main_v2_eq]
  pointwise

theorem ref_h : Cert.Reference9Ideal.Read.val_main_v17 (F := Ideal) x0 x1 x2 x3 (ix2 a b)
    = behind (fun k => ∑ j : Fin 1024, x0 (ix2 a j) * x1 (ix2 j k)) (fun k => x2 (ix2 a k)) (fun k => x3 (ix2 0 k)) b := by
  unfold behind rms
  rw [← Cert.Reference9Ideal.Read.val_main_v17_eq]
  pointwise

theorem ref_n : Cert.Reference9Ideal.Read.val_main_v32 (F := Ideal) x0 x1 x2 x3 x4 (ix2 a b)
    = rms (behind (fun k => ∑ j : Fin 1024, x0 (ix2 a j) * x1 (ix2 j k)) (fun k => x2 (ix2 a k)) (fun k => x3 (ix2 0 k)))
        (fun k => x4 (ix2 0 k)) b := by
  unfold rms
  simp only [← ref_h]
  unfold Cert.Reference9Ideal.Read.val_main_v32 Cert.Reference9Ideal.Read.val_main_v31 Cert.Reference9Ideal.Read.val_main_v30 Cert.Reference9Ideal.Read.val_main_v29
    Cert.Reference9Ideal.Read.val_main_v28 Cert.Reference9Ideal.Read.val_main_v27 Cert.Reference9Ideal.Read.val_main_v26 Cert.Reference9Ideal.Read.val_main_v25
    Cert.Reference9Ideal.Read.val_main_v24 Cert.Reference9Ideal.Read.val_main_v23 Cert.Reference9Ideal.Read.val_main_v22 Cert.Reference9Ideal.Read.val_main_v21
    Cert.Reference9Ideal.Read.val_main_v20 Cert.Reference9Ideal.Read.val_main_v19 Cert.Reference9Ideal.Read.val_main_v18
    Cert.Reference9Ideal.Read.val_main_cst_2 Cert.Reference9Ideal.Read.val_main_cst_3 Cert.Reference9Ideal.Read.val_main_cst_4
  generalize Cert.Reference9Ideal.Read.val_main_v17 (F := Ideal) x0 x1 x2 x3 = h
  pointwise
end

variable (m : (ℓ : Loc nD τ sig) → Buf (Elt Ideal) ℓ) (c : Dev nD)

/-- The arguments of the call: the mixer's output, the weight, the residual, and the gains of the two norms. -/
abbrev ymix : FVec Ideal S8448x1024 .bf16 := m ((c : Thread nD τ).loc main_arg0)
abbrev wOut : FVec Ideal S1024x1024 .bf16 := m ((c : Thread nD τ).loc main_arg1)
abbrev h : FVec Ideal S8448x1024 .f32 := m ((c : Thread nD τ).loc main_arg2)
abbrev g2 : FVec Ideal S1x1024 .f32 := m ((c : Thread nD τ).loc main_arg3)
abbrev g3 : FVec Ideal S1x1024 .f32 := m ((c : Thread nD τ).loc main_arg4)

/-- The blocks a point reads. -/
abbrev lhs (t : Fin cfg0.N) : Vec Ideal S768x1024 .bf16 := iblk m c 0 t
abbrev rhs (t : Fin cfg0.N) : Vec Ideal S1024x1024 .bf16 := iblk m c 1 t
abbrev res (t : Fin cfg0.N) : Vec Ideal S768x1024 .f32 := iblk m c 2 t
abbrev gain (t : Fin cfg0.N) : Vec Ideal S1x1024 .f32 := iblk m c 3 t
abbrev gain' (t : Fin cfg0.N) : Vec Ideal S1x1024 .f32 := iblk m c 4 t

/-- Where the windows lie. -/
theorem index_all : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] := by
  decide +kernel

section
variable (t : Fin cfg0.N) (a : Fin 768) (i : Fin 8448) (hi : i.val = 768 * t.val + a.val)
include hi

/-- A row of a point's product is the row of the arguments' product, -/
theorem product : (fun k : Fin 1024 => ∑ j : Fin 1024, lhs m c t (ix2 a j) * rhs m c t (ix2 j k))
    = fun k => ∑ j : Fin 1024, ymix m c (ix2 i j) * wOut m c (ix2 j k) := by
  obtain ⟨e0, e1, -⟩ := index_all t
  refine funext fun k => Finset.sum_congr rfl fun j _ => congrArg₂ (fun x y : EReal => x * y) ?_ ?_
  · refine Eq.trans ?_ (congrFun (V_main_arg0 m c) (ix2 i j))
    blk_ext [iblk, e0]
  · refine Eq.trans ?_ (congrFun (V_main_arg1 m c) (ix2 j k))
    blk_ext [iblk, e1]

/-- and a row of its residual is the arguments' row. -/
theorem residual : (fun k : Fin 1024 => res m c t (ix2 a k)) = fun k => h m c (ix2 i k) := by
  have e2 := (index_all t).2.2.1
  refine funext fun k => Eq.trans ?_ (congrFun (V_main_arg2 m c) (ix2 i k))
  blk_ext [iblk, e2]
end

/-- The gains are the same at every point. -/
theorem gains (t : Fin cfg0.N) : (fun k : Fin 1024 => gain m c t (ix2 0 k)) = (fun k => g2 m c (ix2 0 k))
    ∧ (fun k : Fin 1024 => gain' m c t (ix2 0 k)) = fun k => g3 m c (ix2 0 k) := by
  obtain ⟨-, -, -, e3, e4, -⟩ := index_all t
  constructor
  · refine funext fun k => Eq.trans ?_ (congrFun (V_main_arg3 m c) (ix2 0 k))
    blk_ext [iblk, e3]
  · refine funext fun k => Eq.trans ?_ (congrFun (V_main_arg4 m c) (ix2 0 k))
    blk_ext [iblk, e4]

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- The product the grid leaves is the reference's. -/
theorem array_mm : (dats m 0 c).arrAt 5 cfg0.N = Cert.Reference9Ideal.Read.val_main_v2 (F := Ideal) (ymix m c) (wOut m c) := by
  refine (dats m 0 c).arrAt_eq_of_covers 5 _ (by decide +kernel) fun t hf y => ?_
  have e := (index_all t).2.2.2.2.2.1
  have hy0 : (y 0).val < 768 := (y 0).isLt
  have hy1 : (y 1).val < 1024 := (y 1).isLt
  obtain ⟨i, hi⟩ := whole_row t hy0
  have key := (out_mm (lhs m c t) (rhs m c t) (res m c t) (gain m c t) (gain' m c t) ⟨_, hy0⟩ ⟨_, hy1⟩).trans
    ((congrFun (product m c t _ i hi) _).trans (ref_mm (ymix m c) (wOut m c) i _).symm)
  rw [after0_5]
  refine Eq.trans ?_ (key.trans (congrArg _ ?_))
  · blk_simp
    exact congrArg _ (eq_ix2 y)
  · blk_ext [e]

/-- The residual behind it the grid leaves is the reference's. -/
theorem array_h : (dats m 0 c).arrAt 6 cfg0.N = Cert.Reference9Ideal.Read.val_main_v17 (F := Ideal) (ymix m c) (wOut m c) (h m c) (g2 m c) := by
  refine (dats m 0 c).arrAt_eq_of_covers 6 _ (by decide +kernel) fun t hf y => ?_
  have e := (index_all t).2.2.2.2.2.2.1
  have hy0 : (y 0).val < 768 := (y 0).isLt
  have hy1 : (y 1).val < 1024 := (y 1).isLt
  obtain ⟨i, hi⟩ := whole_row t hy0
  have key : out0_6 (lhs m c t) (rhs m c t) (res m c t) (gain m c t) (gain' m c t) (ix2 (⟨_, hy0⟩ : Fin 768) (⟨_, hy1⟩ : Fin 1024))
      = Cert.Reference9Ideal.Read.val_main_v17 (F := Ideal) (ymix m c) (wOut m c) (h m c) (g2 m c) (ix2 i (⟨_, hy1⟩ : Fin 1024)) := by
    rw [out_h, ref_h, product m c t ⟨_, hy0⟩ i hi, residual m c t ⟨_, hy0⟩ i hi, (gains m c t).1]
  rw [after0_6]
  refine Eq.trans ?_ (key.trans (congrArg _ ?_))
  · blk_simp
    exact congrArg _ (eq_ix2 y)
  · blk_ext [e]

/-- Its norm the grid leaves is the reference's. -/
theorem array_n : (dats m 0 c).arrAt 7 cfg0.N = Cert.Reference9Ideal.Read.val_main_v32 (F := Ideal) (ymix m c) (wOut m c) (h m c) (g2 m c) (g3 m c) := by
  refine (dats m 0 c).arrAt_eq_of_covers 7 _ (by decide +kernel) fun t hf y => ?_
  have e := (index_all t).2.2.2.2.2.2.2
  have hy0 : (y 0).val < 768 := (y 0).isLt
  have hy1 : (y 1).val < 1024 := (y 1).isLt
  obtain ⟨i, hi⟩ := whole_row t hy0
  have key : out0_7 (lhs m c t) (rhs m c t) (res m c t) (gain m c t) (gain' m c t) (ix2 (⟨_, hy0⟩ : Fin 768) (⟨_, hy1⟩ : Fin 1024))
      = Cert.Reference9Ideal.Read.val_main_v32 (F := Ideal) (ymix m c) (wOut m c) (h m c) (g2 m c) (g3 m c) (ix2 i (⟨_, hy1⟩ : Fin 1024)) := by
    rw [out_n, ref_n, product m c t ⟨_, hy0⟩ i hi, residual m c t ⟨_, hy0⟩ i hi, (gains m c t).1, (gains m c t).2]
  rw [after0_7]
  refine Eq.trans ?_ (key.trans (congrArg _ ?_))
  · blk_simp
    exact congrArg _ (eq_ix2 y)
  · blk_ext [e]

open Idealize.SL.Sem

/-- The frame of the reference. -/
theorem ref_frame : quiescent_Reference9Ideal := fun m ρ _ => (θ_run Cert.Reference9Ideal.defs _ _).mono
  (fun r h => ⟨fun c => (h c).2.2.2, sem_eq_zero_of_no_sems (by decide) r.2⟩)
  (Cert.Reference9Ideal.Value.run (F := Ideal) m ρ)

/-- Both programs leave the same three arrays. -/
theorem equal : algebraic_Kernel9Ideal_Reference9Ideal := by
  intro m ρ m' ρ' _ hargs
  refine ⟨fun c => Cert.Reference9Ideal.Read.val_main_v2 (F := Ideal) (ymix m c) (wOut m c),
    fun c => Cert.Reference9Ideal.Read.val_main_v17 (F := Ideal) (ymix m c) (wOut m c) (h m c) (g2 m c),
    fun c => Cert.Reference9Ideal.Read.val_main_v32 (F := Ideal) (ymix m c) (wOut m c) (h m c) (g2 m c) (g3 m c), ?_, ?_⟩
  · refine (θ_run Cert.Kernel9Ideal.defs _ _).mono (fun r h c => ?_) (Cert.Kernel9Ideal.Value.run_blocks (F := Ideal) m ρ)
    obtain ⟨e0, e1, e2, keep⟩ := h c
    exact ⟨e0.trans (array_mm m c), e1.trans (array_h m c), e2.trans (array_n m c), keep⟩
  · refine (θ_run Cert.Reference9Ideal.defs _ _).mono (fun r h c => ?_) (Cert.Reference9Ideal.Value.run (F := Ideal) m' ρ')
    obtain ⟨e0, e1, e2, keep⟩ := h c
    obtain ⟨a0, a1, a2, a3, a4⟩ := hargs c
    refine ⟨e0.trans ((Cert.Reference9Ideal.Read.val_main_v2_eq ..).trans ?_), e1.trans ((Cert.Reference9Ideal.Read.val_main_v17_eq ..).trans ?_),
      e2.trans ((Cert.Reference9Ideal.Read.val_main_v32_eq ..).trans ?_), keep⟩
    · rw [a0, a1]
    · rw [a0, a1, a2, a3]
    · rw [a0, a1, a2, a3, a4]

end Cert.OutProj
-- ==== Proof.DwOut.lean ====
module
public import proofs.«01_k».proof.Proof.Product
public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Quiescent

/-!
# The gradient of `w_out`

Three grid points add up the product of the mixer's output with the gradient behind the projection, a third of
the rows each; the third point writes the array back. The reference forms the product over all rows at once,
transposed.
-/

@[expose] public section
set_option maxRecDepth 16384
noncomputable section
namespace Cert.DwOut
open Idealize.ShloMosaic Idealize.ShloMosaic.TcCoe Cert.Kernel10Ideal Cert.Kernel10Ideal.Gen Cert.Product

/-- A grid point adds its product to the accumulator. -/
theorem add_apply (acc : Vec Ideal S1024x1024 .f32) (x0 x1 : Vec Ideal S2816x1024 .bf16) (a b : Fin 1024) :
    k0_pay2 acc x0 x1 (ix2 a b) = acc (ix2 a b) + ∑ j : Fin 2816, x0 (ix2 j a) * x1 (ix2 j b) := by
  pointwise [k0_pay2]

/-- The accumulator starts at zero. -/
theorem start_apply (a b : Fin 1024) : k0_pay1 (F := Ideal) (ix2 a b) = 0 := by
  pointwise [k0_pay1]

section
variable (c : Dev nD) (i : grid0.Coords) (arg3 : Memref sig .tc .vmem S2816x1024 .bf16) (harg3 : arg3.IsWhole)
  (arg4 : Memref sig .tc .vmem S2816x1024 .bf16) (harg4 : arg4.IsWhole) (arg5 : Memref sig .tc .vmem S1024x1024 .f32) (harg5 : arg5.IsWhole)
  (arg6 : Memref sig .tc .vmem S1024x1024 .f32) (harg6 : arg6.IsWhole)
  (x0 : Vec Ideal S2816x1024 .bf16) (x1 : Vec Ideal S2816x1024 .bf16) (xs0 : Vec Ideal S1024x1024 .f32)

/-- The first of three points adds to zero, -/
theorem first (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  refine (View.canon_cons_unit_zero zeros _ _ _).trans ?_
  sl_unfold_run_names
  rw [View.readCov_unit_zero _ zeros, load_whole harg3 x0 zeros, load_whole harg4 x1 zeros]

/-- the second to what the first left, -/
theorem second (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_junk_eq_canon]
  refine (View.canon_unit_zero zeros _ _).trans ?_
  rw [load_whole harg6 xs0 zeros, load_whole harg3 x0 zeros, load_whole harg4 x1 zeros]

/-- and the third to what the second left, which goes to the output. -/
theorem third (hc0 : ¬cond0_0 i) (hc1 : cond0_1 i) :
    out0_C_2 c i arg3 harg3 arg4 harg4 arg5 harg5 arg6 harg6 hc0 hc1 x0 x1 xs0 = k0_pay2 xs0 x0 x1 := by
  unfold out0_C_2
  rw [View.read_writes_junk_eq_canon]
  refine (View.canon_unit_zero zeros _ _).trans ?_
  sl_unfold_run_names
  rw [View.readCov_unit_zero _ zeros, load_whole harg6 xs0 zeros, load_whole harg3 x0 zeros, load_whole harg4 x1 zeros]
end

/-- The reference's result, at an index. -/
theorem ref_apply (x0 : FVec Ideal S8448x1024 .bf16) (x1 : FVec Ideal S8448x1024 .bf16) (a : Fin 1024) (b : Fin 1024) :
    Cert.Reference10Ideal.Read.val_main_v5 (F := Ideal) x0 x1 (ix2 a b) = ∑ r : Fin 8448, x1 (ix2 r b) * x0 (ix2 r a) := by
  rw [← Cert.Reference10Ideal.Read.val_main_v5_eq]
  pointwise

variable (m : (ℓ : Loc nD τ sig) → Buf (Elt Ideal) ℓ) (c : Dev nD)

/-- The two blocks a point reads. -/
abbrev lhs (t : Fin cfg0.N) : Vec Ideal S2816x1024 .bf16 := iblk m c 0 t
abbrev rhs (t : Fin cfg0.N) : Vec Ideal S2816x1024 .bf16 := iblk m c 1 t

theorem same {n k : ℕ} (h : n = k) (hn : n < cfg0.N) (hk : k < cfg0.N) : outsAt0 m c n hn = outsAt0 m c k hk := by
  subst h; rfl

/-- What the last of three points leaves of the three points' blocks. -/
theorem left (t₀ t₁ t₂ : Fin cfg0.N) (h : t₀.val % 3 = 0) (h₁ : t₁.val = t₀.val + 1) (h₂ : t₂.val = t₀.val + 2) :
    (outsAt0 m c t₂.val t₂.isLt).1
      = k0_pay2 (k0_pay2 (k0_pay2 k0_pay1 (lhs m c t₀) (rhs m c t₀)) (lhs m c t₁) (rhs m c t₁)) (lhs m c t₂) (rhs m c t₂) := by
  rw [outsAt0_C m c t₂ (by omega) (by omega), same m c (show t₂.val - 1 = t₁.val by omega) _ t₁.isLt,
    outsAt0_B m c t₁ (by omega) (by omega), same m c (show t₁.val - 1 = t₀.val by omega) _ t₀.isLt, outsAt0_A m c t₀ h (by omega)]
  dsimp only
  rw [third, second, first]

/-- The arguments of the call: the mixer's output, and the gradient behind its projection. -/
abbrev ymix : FVec Ideal S8448x1024 .bf16 := m ((c : Thread nD τ).loc main_arg0)
abbrev dmix : FVec Ideal S8448x1024 .bf16 := m ((c : Thread nD τ).loc main_arg1)

/-- Where the windows lie. -/
theorem index_all : ∀ t : Fin grid0.N, win0_0.index t = ![t.val, 0] ∧ win0_1.index t = ![t.val, 0] ∧ win0_2.index t = ![0, 0] := by
  decide +kernel

/-- What the windows read. -/
theorem reads (t : Fin cfg0.N) (n : ℕ) (hn : n < 3) (ht : t.val = n) (j : Fin 2816) (a : Fin 1024) :
    iblk m c 0 t (ix2 j a) = ymix m c (ix2 (row n hn j) a) ∧ iblk m c 1 t (ix2 j a) = dmix m c (ix2 (row n hn j) a) := by
  obtain ⟨e0, e1, -⟩ := index_all t
  subst ht
  constructor
  · refine Eq.trans ?_ (congrFun (V_main_arg0 m c) (ix2 (row _ hn j) a))
    blk_ext [iblk, e0, row]
  · refine Eq.trans ?_ (congrFun (V_main_arg1 m c) (ix2 (row _ hn j) a))
    blk_ext [iblk, e1, row]

/-- The array the grid leaves is the reference's result of the same arguments. -/
theorem array : (dats m 0 c).arrAt 2 cfg0.N = Cert.Reference10Ideal.Read.val_main_v5 (F := Ideal) (ymix m c) (dmix m c) := by
  refine (dats m 0 c).arrAt_eq_of_covers 2 _ (by decide +kernel) fun t hf y => ?_
  have e := (index_all t).2.2
  have hy0 : (y 0).val < 1024 := (y 0).isLt
  have hy1 : (y 1).val < 1024 := (y 1).isLt
  have hm : t.val = 2 := (by decide +kernel : ∀ t : Fin grid0.N, (cfg0.win 2).flush t = true → t.val = 2) t hf
  obtain ⟨t₀, h₀⟩ : ∃ t₀ : Fin cfg0.N, t₀.val = 0 := ⟨⟨0, by decide⟩, rfl⟩
  obtain ⟨t₁, h₁⟩ : ∃ t₁ : Fin cfg0.N, t₁.val = 1 := ⟨⟨1, by decide⟩, rfl⟩
  have term : ∀ (s : Fin cfg0.N) (n : ℕ) (hn : n < 3), s.val = n → ∀ j : Fin 2816,
      lhs m c s (ix2 j (⟨_, hy0⟩ : Fin 1024)) * rhs m c s (ix2 j (⟨_, hy1⟩ : Fin 1024))
        = dmix m c (ix2 (row n hn j) (⟨_, hy1⟩ : Fin 1024)) * ymix m c (ix2 (row n hn j) (⟨_, hy0⟩ : Fin 1024)) :=
    fun s n hn hs j => Eq.trans (congrArg₂ (fun x y : EReal => x * y) (reads m c s n hn hs j _).1 (reads m c s n hn hs j _).2) (mul_comm _ _)
  have key : (outsAt0 m c t.val t.isLt).1 (ix2 (⟨_, hy0⟩ : Fin 1024) (⟨_, hy1⟩ : Fin 1024))
      = Cert.Reference10Ideal.Read.val_main_v5 (F := Ideal) (ymix m c) (dmix m c) (ix2 (⟨_, hy0⟩ : Fin 1024) (⟨_, hy1⟩ : Fin 1024)) := by
    rw [left m c t₀ t₁ t (by omega) (by omega) (by omega), add_apply, add_apply, add_apply, start_apply]
    refine Eq.trans ?_ ((ref_apply _ _ _ _).trans (thirds _)).symm
    refine congrArg₂ (· + ·) (congrArg₂ (· + ·) (congrArg (0 + ·) ?_) ?_) ?_
    · exact Finset.sum_congr rfl fun j _ => term t₀ 0 _ h₀ j
    · exact Finset.sum_congr rfl fun j _ => term t₁ 1 _ h₁ j
    · exact Finset.sum_congr rfl fun j _ => term t 2 _ hm j
  rw [after0_2]
  refine Eq.trans ?_ (key.trans (congrArg _ ?_))
  · blk_simp
    exact congrArg _ (eq_ix2 y)
  · blk_ext [e]

open Idealize.SL.Sem

/-- The frame of the reference. -/
theorem ref_frame : quiescent_Reference10Ideal := fun m ρ _ => (θ_run Cert.Reference10Ideal.defs _ _).mono
  (fun r h => ⟨fun c => (h c).2, sem_eq_zero_of_no_sems (by decide) r.2⟩)
  (Cert.Reference10Ideal.Value.run (F := Ideal) m ρ)

/-- Both programs leave the same array. -/
theorem equal : algebraic_Kernel10Ideal_Reference10Ideal := by
  intro m ρ m' ρ' _ hargs
  refine ⟨fun c => Cert.Reference10Ideal.Read.val_main_v5 (F := Ideal) (ymix m c) (dmix m c), ?_, ?_⟩
  · refine (θ_run Cert.Kernel10Ideal.defs _ _).mono (fun r h c => ?_) (Cert.Kernel10Ideal.Value.run_blocks (F := Ideal) m ρ)
    exact ⟨(h c).1.trans (array m c), (h c).2⟩
  · refine (θ_run Cert.Reference10Ideal.defs _ _).mono (fun r h c => ?_) (Cert.Reference10Ideal.Value.run (F := Ideal) m' ρ')
    obtain ⟨a0, a1⟩ := hargs c
    refine ⟨(h c).1.trans ((Cert.Reference10Ideal.Read.val_main_v5_eq ..).trans ?_), (h c).2⟩
    rw [a0, a1]

end Cert.DwOut
-- ==== Proof.NormBack.lean ====
module
public import Idealize.ShloMosaic.Lib.ValueIdx
public import Mathlib.Data.EReal.Operations
public import Mathlib.Data.EReal.Inv
public import Mathlib.Algebra.BigOperators.Fin

/-!
# Back through the norm of a row

A row `x` of 1024 values is normalised by the root of its mean square and scaled by a gain `g`. From the gradient
`d` of the result the kernel takes the gradient of `x` in one step: the scaled gradient less its part along the
normalised row. The reference differentiates the norm term by term: through the product with the root, and twice,
since the square is a product of `x` with itself, through the root. Both agree for all extended reals: where the
row has an infinite entry, both are zero.
-/

@[expose] public section
noncomputable section
namespace Cert.NormBack
open Idealize.ShloMosaic

/-- The mean of a row's squares, kept away from zero. -/
def var (x : Fin 1024 → EReal) : EReal :=
  Ideal.div (∑ k, x k * x k) (Ideal.ofBits FTy.f32 0x44800000#32) + Ideal.ofBits FTy.f32 0x358637BD#32

/-- Entry `b` of the normalised row. -/
def unit (x : Fin 1024 → EReal) (b : Fin 1024) : EReal := x b * Ideal.rsqrt (var x)

/-- The gradient of entry `b`, as the kernel takes it. -/
def back (x g d : Fin 1024 → EReal) (b : Fin 1024) : EReal :=
  Ideal.rsqrt (var x) * (d b * g b
    - unit x b * Ideal.div (∑ k, d k * g k * unit x k) (Ideal.ofBits FTy.f32 0x44800000#32))

/-- The gradient of the mean square, as the reference takes it, divided among the entries. -/
def share (x g d : Fin 1024 → EReal) : EReal :=
  Ideal.div ((∑ k, x k * (d k * g k)) * (Ideal.ofBits FTy.f32 0xBF000000#32 * Ideal.div (Ideal.rsqrt (var x)) (var x)))
    (Ideal.ofBits FTy.f32 0x44800000#32)

theorem bits_1024 : Ideal.ofBits FTy.f32 0x44800000#32 = ((1024 : ℝ) : EReal) := by
  simp only [Ideal.ofBits, Ideal.ieee]
  simp
  rw [← EReal.coe_mul]
  norm_num

theorem bits_half : Ideal.ofBits FTy.f32 0xBF000000#32 = ((-(1 / 2) : ℝ) : EReal) := by
  simp only [Ideal.ofBits, Ideal.ieee]
  simp
  rw [← EReal.coe_mul]
  norm_num

theorem bits_eps : ∃ e : ℝ, 0 < e ∧ Ideal.ofBits FTy.f32 0x358637BD#32 = (e : EReal) := by
  refine ⟨8796093 * (2 : ℝ) ^ (-43 : ℤ), by positivity, ?_⟩
  simp only [Ideal.ofBits, Ideal.ieee]
  simp

theorem div_1024 (x : EReal) : Ideal.div x (Ideal.ofBits FTy.f32 0x44800000#32) = x * ((1024⁻¹ : ℝ) : EReal) := by
  rw [bits_1024, Ideal.div, if_neg (by simp), ← EReal.coe_inv]

/-- A real factor that is not negative goes into a sum. -/
theorem mul_sum_of_nonneg {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- Twice a value. -/
theorem add_self (x : EReal) : x + x = ((2 : ℝ) : EReal) * x := by
  have h : ((2 : ℝ) : EReal) = 1 + 1 := by norm_cast
  rw [h, EReal.right_distrib_of_nonneg zero_le_one zero_le_one, one_mul]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A row of reals has a real, positive mean square. -/
theorem var_real (y : Fin 1024 → ℝ) : ∃ v : ℝ, 0 < v ∧ var (fun k => (y k : EReal)) = (v : EReal) := by
  obtain ⟨e, he, hb⟩ := bits_eps
  refine ⟨(∑ k, y k * y k) * 1024⁻¹ + e, ?_, ?_⟩
  · have : 0 ≤ ∑ k, y k * y k := Finset.sum_nonneg fun k _ => mul_self_nonneg _
    positivity
  · unfold var
    rw [div_1024, hb, EReal.coe_add, EReal.coe_mul, coe_sum]
    simp only [EReal.coe_mul]

/-- A row with an infinite entry has an infinite one. -/
theorem var_top (x : Fin 1024 → EReal) (k : Fin 1024) (h : x k = ⊤ ∨ x k = ⊥) : var x = ⊤ := by
  obtain ⟨e, he, hb⟩ := bits_eps
  have hk : x k * x k = ⊤ := by rcases h with h | h <;> rw [h] <;> rfl
  have hn : ∀ z : EReal, 0 ≤ z * z := fun z => by
    induction z with
    | bot => simp
    | top => simp
    | coe r => exact_mod_cast mul_self_nonneg r
  have hs : ∑ k, x k * x k = ⊤ := top_le_iff.mp (hk ▸ Finset.single_le_sum (f := fun k => x k * x k) (fun i _ => hn _) (Finset.mem_univ k))
  unfold var
  rw [div_1024, hs, hb, EReal.top_mul_coe_of_pos (by norm_num), EReal.top_add_coe]

/-- The two gradients agree. -/
theorem back_eq (x g d : Fin 1024 → EReal) (b : Fin 1024) :
    d b * g b * Ideal.rsqrt (var x) + x b * share x g d + share x g d * x b = back x g d b := by
  by_cases hx : ∃ k, x k = ⊤ ∨ x k = ⊥
  · obtain ⟨k, hk⟩ := hx
    have hv := var_top x k hk
    have h0 : Ideal.div 0 ⊤ = 0 := by rw [Ideal.div, if_neg (by simp), zero_mul]
    unfold back share unit
    simp [hv, h0, div_1024]
  · obtain ⟨y, rfl⟩ : ∃ y : Fin 1024 → ℝ, x = fun k => (y k : EReal) := by
      refine ⟨fun k => (x k).toReal, funext fun k => (EReal.coe_toReal ?_ ?_).symm⟩
      · exact fun h => hx ⟨k, .inl h⟩
      · exact fun h => hx ⟨k, .inr h⟩
    obtain ⟨v, hv, e⟩ := var_real y
    have hr : Ideal.rsqrt (v : EReal) = (((Real.sqrt v)⁻¹ : ℝ) : EReal) := by
      rw [Ideal.rsqrt_coe, if_neg (not_lt.mpr hv.le), if_neg hv.ne']
    have hd : Ideal.div (((Real.sqrt v)⁻¹ : ℝ) : EReal) (v : EReal) = (((Real.sqrt v)⁻¹ * v⁻¹ : ℝ) : EReal) := by
      rw [Ideal.div, if_neg (by exact_mod_cast hv.ne'), ← EReal.coe_inv, EReal.coe_mul]
    have hsq : v⁻¹ = (Real.sqrt v)⁻¹ * (Real.sqrt v)⁻¹ := by
      rw [← mul_inv, Real.mul_self_sqrt hv.le]
    have h0 : 0 ≤ (Real.sqrt v)⁻¹ := inv_nonneg.mpr (Real.sqrt_nonneg v)
    unfold back share unit
    simp only [e, hr, hd, div_1024, bits_half]
    rw [hsq]
    generalize (Real.sqrt v)⁻¹ = r at h0
    have hS : ∑ k, d k * g k * ((y k : EReal) * (r : EReal)) = (r : EReal) * ∑ k, (y k : EReal) * (d k * g k) := by
      rw [mul_sum_of_nonneg _ r h0]
      exact Finset.sum_congr rfl fun k _ => by rw [← mul_assoc, mul_comm, mul_comm (d k * g k)]
    rw [hS]
    generalize ∑ k, (y k : EReal) * (d k * g k) = S
    generalize d b * g b = D
    have hA : (y b : EReal) * (S * (((-(1 / 2) : ℝ) : EReal) * ((r * (r * r) : ℝ) : EReal)) * ((1024⁻¹ : ℝ) : EReal))
        = ((y b * (-(1 / 2) * (r * (r * r))) * 1024⁻¹ : ℝ) : EReal) * S := by
      simp only [EReal.coe_mul]
      ac_rfl
    have hB : (r : EReal) * ((y b : EReal) * (r : EReal) * ((r : EReal) * S * ((1024⁻¹ : ℝ) : EReal)))
        = ((r * (y b * r * r) * 1024⁻¹ : ℝ) : EReal) * S := by
      simp only [EReal.coe_mul]
      ac_rfl
    rw [sub_eq_add_neg, EReal.left_distrib_of_nonneg_of_ne_top (EReal.coe_nonneg.mpr h0) (EReal.coe_ne_top r), mul_neg, hB,
      mul_comm _ (y b : EReal), hA, add_assoc, add_self, ← mul_assoc, ← EReal.coe_mul, ← EReal.neg_mul, ← EReal.coe_neg, mul_comm D]
    congr 3
    ring

/-! ## The rows of a call

A call's grid has 11 points of 768 rows each. The gradient of a gain is a sum over all 8448 rows, which the points add
up in turn, the first to zero. -/

/-- Row `a` of the rows of point `t`. -/
def row (t : ℕ) (h : t < 11) (a : Fin 768) : Fin 8448 := ⟨768 * t + a.val, by omega⟩

/-- What the points up to `n` add up. -/
def upTo (f : Fin 8448 → EReal) : ℕ → EReal
  | 0 => 0 + ∑ a, f (row 0 (by decide) a)
  | n + 1 => upTo f n + if h : n + 1 < 11 then ∑ a, f (row (n + 1) h a) else 0

/-- A sum over the rows is what the 11 points add up. -/
theorem upTo_all (f : Fin 8448 → EReal) : upTo f 10 = ∑ r, f r := by
  have step : ∀ n (h : n < 11), upTo f n = ∑ t : Fin (n + 1), ∑ a, f (row t.val (by omega) a) := by
    intro n
    induction n with
    | zero => intro h; simp [upTo]
    | succ n ih =>
      intro h
      rw [upTo, dif_pos h, ih (by omega), Fin.sum_univ_castSucc (n := n + 1)]
      rfl
  rw [step 10 (by decide), ← Fintype.sum_prod_type']
  refine Fintype.sum_equiv (finProdFinEquiv (m := 11) (n := 768)) _ _ fun p => congrArg f (Fin.ext ?_)
  simp [row, finProdFinEquiv, add_comm]

end Cert.NormBack
-- ==== Proof.DN3.lean ====
module
public import proofs.«01_k».proof.Proof.Product
public import proofs.«01_k».proof.Proof.NormBack
public import proofs.«01_k».proof.Proof.Gen.Kernel11Ideal.Value
public import proofs.«01_k».proof.Proof.Gen.Reference11Ideal.Run
public import proofs.«01_k».proof.Proof.Gen.Reference11Ideal.Read
public import proofs.«01_k».proof.Defs
public import Idealize.ShloMosaic.Lib.Quiescent

/-!
# The gradients before the MLP

Each of the 11 grid points forms 768 rows of the product of the hidden gradient with `w_up` transposed, takes it back
through the norm before the MLP, adds the residual's gradient, and takes the sum back through the norm behind the
mixer. The gradients of the two gains are sums over all rows, which the points add up in turn.
-/

@[expose] public section
set_option maxRecDepth 16384
noncomputable section
namespace Cert.DN3
open Idealize.ShloMosaic Idealize.ShloMosaic.TcCoe Cert.Kernel11Ideal Cert.Kernel11Ideal.Gen Cert.Product Cert.NormBack

section
variable (x0 : Vec Ideal S768x4096 .bf16) (x1 : Vec Ideal S1024x4096 .bf16) (x2 x3 x4 : Vec Ideal S768x1024 .f32)
  (x5 x6 acc : Vec Ideal S1x1024 .f32) (a : Fin 768) (b : Fin 1024)

/-- Row `a` of a grid point's product, -/
def dn (a : Fin 768) (b : Fin 1024) : EReal := ∑ j : Fin 4096, x0 (ix2 a j) * x1 (ix2 b j)

/-- and of its residual's gradient. -/
def dh (a : Fin 768) (b : Fin 1024) : EReal :=
  x3 (ix2 a b) + back (fun k => x2 (ix2 a k)) (fun k => x5 (ix2 0 k)) (dn x0 x1 a) b

theorem pay2_apply : k0_pay2 x0 x1 (ix2 a b) = dn x0 x1 a b := by
  unfold dn
  pointwise [k0_pay2]

theorem pay3_apply : k0_pay3 x2 (ix2 a 0) = Ideal.rsqrt (var fun k => x2 (ix2 a k)) := by
  unfold var
  pointwise [k0_pay3]

theorem pay4_apply : k0_pay4 x2 (ix2 a b) = unit (fun k => x2 (ix2 a k)) b := by
  unfold unit
  pointwise [k0_pay4]
  rw [pay3_apply]

theorem pay5_apply : k0_pay5 x0 x1 x2 (ix2 0 b) = ∑ a, dn x0 x1 a b * unit (fun k => x2 (ix2 a k)) b := by
  pointwise [k0_pay5]
  simp only [pay2_apply, pay4_apply]

theorem pay6_apply : k0_pay6 x0 x1 x2 x3 x5 (ix2 a b) = dh x0 x1 x2 x3 x5 a b := by
  unfold dh back
  pointwise [k0_pay6]
  simp only [pay2_apply, pay3_apply, pay4_apply]

theorem pay8_apply : k0_pay8 (k0_pay7 x4) (ix2 a 0) = Ideal.rsqrt (var fun k => x4 (ix2 a k)) := by
  unfold var
  pointwise [k0_pay8, k0_pay7]

theorem pay9_apply : k0_pay9 x4 (k0_pay7 x4) (ix2 a b) = unit (fun k => x4 (ix2 a k)) b := by
  unfold unit
  pointwise [k0_pay9]
  rw [pay8_apply]

theorem pay10_apply : k0_pay10 x4 (k0_pay6 x0 x1 x2 x3 x5) (k0_pay7 x4) (ix2 0 b)
    = ∑ a, dh x0 x1 x2 x3 x5 a b * unit (fun k => x4 (ix2 a k)) b := by
  pointwise [k0_pay10]
  simp only [pay6_apply, pay9_apply]

theorem pay11_apply : k0_pay11 x4 x6 (k0_pay6 x0 x1 x2 x3 x5) (k0_pay7 x4) (ix2 a b)
    = back (fun k => x4 (ix2 a k)) (fun k => x6 (ix2 0 k)) (dh x0 x1 x2 x3 x5 a) b := by
  unfold back
  pointwise [k0_pay11]
  simp only [pay6_apply, pay8_apply, pay9_apply]

/-- A gain's gradient starts at zero, and a point adds its rows' part. -/
theorem start_apply : k0_pay12 (F := Ideal) (ix2 0 b) = 0 ∧ k0_pay14 (F := Ideal) (ix2 0 b) = 0 := by
  constructor
  · pointwise [k0_pay12]
  · pointwise [k0_pay14]

theorem add_apply (x : Vec Ideal S1x1024 .f32) : k0_pay13 x acc (ix2 0 b) = acc (ix2 0 b) + x (ix2 0 b)
    ∧ k0_pay1 x acc (ix2 0 b) = acc (ix2 0 b) + x (ix2 0 b) := by
  constructor
  · pointwise [k0_pay13]
  · pointwise [k0_pay1]

/-! What a grid point leaves in its four blocks, in the first point (`A`) and behind it (`B`). -/

variable (c : Dev nD) (i : grid0.Coords) (arg3 : Memref sig .tc .vmem S768x4096 .bf16) (harg3 : arg3.IsWhole)
  (arg4 : Memref sig .tc .vmem S1024x4096 .bf16) (harg4 : arg4.IsWhole) (arg5 : Memref sig .tc .vmem S768x1024 .f32) (harg5 : arg5.IsWhole)
  (arg6 : Memref sig .tc .vmem S768x1024 .f32) (harg6 : arg6.IsWhole) (arg7 : Memref sig .tc .vmem S768x1024 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S768x1024 .f32) (harg10 : arg10.IsWhole) (arg11 : Memref sig .tc .vmem S768x1024 .bf16) (harg11 : arg11.IsWhole)
  (arg12 : Memref sig .tc .vmem S1x1024 .f32) (harg12 : arg12.IsWhole) (arg13 : Memref sig .tc .vmem S1x1024 .f32) (harg13 : arg13.IsWhole)
  (xo9 xo10 : Vec Ideal S1x1024 .f32)

theorem first_h (hc0 : cond0_0 i) (hc1 : cond0_1 i) :
    out0_A_7 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay6 x0 x1 x2 x3 x5 := by
  unfold out0_A_7
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg8 x5 zeros]

theorem first_p (hc0 : cond0_0 i) (hc1 : cond0_1 i) :
    out0_A_8 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay11 x4 x6 (k0_pay6 x0 x1 x2 x3 x5) (k0_pay7 x4) := by
  unfold out0_A_8
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros, load_whole harg9 x6 zeros]

theorem first_g (hc0 : cond0_0 i) (hc1 : cond0_1 i) :
    out0_A_9 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay13 (k0_pay5 x0 x1 x2) (k0_pay12 (F := Ideal)) := by
  unfold out0_A_9
  rw [View.read_writes_junk_eq_canon]
  refine (View.canon_cons_unit_zero zeros _ _ _).trans ?_
  sl_unfold_run_names
  rw [View.readCov_unit_zero _ zeros, load_whole harg3 x0 zeros, load_whole harg4 x1 zeros, load_whole harg5 x2 zeros]

theorem first_g' (hc0 : cond0_0 i) (hc1 : cond0_1 i) :
    out0_A_10 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay1 (k0_pay10 x4 (k0_pay6 x0 x1 x2 x3 x5) (k0_pay7 x4)) (k0_pay14 (F := Ideal)) := by
  unfold out0_A_10
  rw [View.read_writes_junk_eq_canon]
  refine (View.canon_cons_unit_zero zeros _ _ _).trans ?_
  sl_unfold_run_names
  rw [View.readCov_unit_zero _ zeros, load_whole harg3 x0 zeros, load_whole harg4 x1 zeros, load_whole harg5 x2 zeros, load_whole harg6 x3 zeros,
    load_whole harg7 x4 zeros, load_whole harg8 x5 zeros]

theorem next_h (hc0 : ¬cond0_0 i) (hc1 : ¬cond0_1 i) :
    out0_B_7 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay6 x0 x1 x2 x3 x5 := by
  unfold out0_B_7
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg8 x5 zeros]

theorem next_p (hc0 : ¬cond0_0 i) (hc1 : ¬cond0_1 i) :
    out0_B_8 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay11 x4 x6 (k0_pay6 x0 x1 x2 x3 x5) (k0_pay7 x4) := by
  unfold out0_B_8
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros, load_whole harg9 x6 zeros]

theorem next_g (hc0 : ¬cond0_0 i) (hc1 : ¬cond0_1 i) :
    out0_B_9 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay13 (k0_pay5 x0 x1 x2) xo9 := by
  unfold out0_B_9
  rw [View.read_writes_junk_eq_canon]
  refine (View.canon_unit_zero zeros _ _).trans ?_
  sl_unfold_run_names
  rw [load_whole harg3 x0 zeros, load_whole harg4 x1 zeros, load_whole harg5 x2 zeros, load_whole harg12 xo9 zeros]

theorem next_g' (hc0 : ¬cond0_0 i) (hc1 : ¬cond0_1 i) :
    out0_B_10 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay1 (k0_pay10 x4 (k0_pay6 x0 x1 x2 x3 x5) (k0_pay7 x4)) xo10 := by
  unfold out0_B_10
  rw [View.read_writes_junk_eq_canon]
  refine (View.canon_unit_zero zeros _ _).trans ?_
  sl_unfold_run_names
  rw [load_whole harg3 x0 zeros, load_whole harg4 x1 zeros, load_whole harg5 x2 zeros, load_whole harg6 x3 zeros,
    load_whole harg7 x4 zeros, load_whole harg8 x5 zeros, load_whole harg13 xo10 zeros]
end

section
variable (x0 : FVec Ideal S8448x4096 .bf16) (x1 : FVec Ideal S1024x4096 .bf16) (x2 x3 x4 : FVec Ideal S8448x1024 .f32)
  (x5 x6 : FVec Ideal S1x1024 .f32) (a : Fin 8448) (b : Fin 1024)

/-! The reference's rows, and its four results at an index. -/

/-- Row `a` of the product, -/
def rdn (a : Fin 8448) (b : Fin 1024) : EReal := ∑ j : Fin 4096, x0 (ix2 a j) * x1 (ix2 b j)

/-- and of the residual's gradient. -/
def rdh (a : Fin 8448) (b : Fin 1024) : EReal :=
  x3 (ix2 a b) + back (fun k => x2 (ix2 a k)) (fun k => x5 (ix2 0 k)) (rdn x0 x1 a) b

open Cert.Reference11Ideal.Read in
theorem ref_dn : val_main_v4 (F := Ideal) x0 x1 (ix2 a b) = rdn x0 x1 a b := by
  unfold rdn val_main_v4 val_main_v1 val_main_v0
  pointwise

open Cert.Reference11Ideal.Read in
theorem ref_var : val_main_v12 (F := Ideal) x2 (ix2 a 0) = var fun k => x2 (ix2 a k) := by
  unfold var val_main_v12 val_main_v11 val_main_v10 val_main_v9 val_main_v8 val_main_v7 val_main_v6 val_main_cst_0 val_main_cst_1 val_main_cst_2
  pointwise

open Cert.Reference11Ideal.Read in
theorem ref_h : val_main_v42 (F := Ideal) x0 x1 x2 x3 x5 (ix2 a b) = rdh x0 x1 x2 x3 x5 a b := by
  unfold rdh
  rw [← back_eq]
  unfold share
  simp only [← ref_dn, ← ref_var]
  unfold val_main_v42 val_main_v41 val_main_v40 val_main_v39 val_main_v38 val_main_v37 val_main_v36 val_main_v35 val_main_v34 val_main_v33
    val_main_v32 val_main_v31 val_main_v30 val_main_v29 val_main_v28 val_main_v26 val_main_v25 val_main_v19 val_main_v5 val_main_v16 val_main_v15
    val_main_v14 val_main_v13 val_main_cst_3 val_main_cst_6 val_main_cst_7 val_main_cst_8
  generalize val_main_v4 (F := Ideal) x0 x1 = d
  generalize val_main_v12 (F := Ideal) x2 = v
  pointwise
  simp only [Finset.univ_unique, Finset.sum_singleton]
  rfl

open Cert.Reference11Ideal.Read in
theorem ref_g : val_main_v81 (F := Ideal) x0 x1 x2 (ix2 0 b) = ∑ r, rdn x0 x1 r b * unit (fun k => x2 (ix2 r k)) b := by
  unfold unit
  simp only [← ref_dn, ← ref_var]
  unfold val_main_v81 val_main_v27 val_main_v24 val_main_v23 val_main_v22 val_main_v18 val_main_v17 val_main_v13 val_main_cst_4 val_main_cst_5
  generalize val_main_v4 (F := Ideal) x0 x1 = d
  generalize val_main_v12 (F := Ideal) x2 = v
  pointwise
  simp only [Finset.univ_unique, Finset.sum_singleton]
  exact Finset.sum_congr rfl fun r _ => mul_comm _ _

open Cert.Reference11Ideal.Read in
theorem ref_var' : val_main_v50 (F := Ideal) x4 (ix2 a 0) = var fun k => x4 (ix2 a k) := by
  unfold var val_main_v50 val_main_v49 val_main_v48 val_main_v47 val_main_v46 val_main_v45 val_main_v44 val_main_cst_9 val_main_cst_10 val_main_cst_11
  pointwise

open Cert.Reference11Ideal.Read in
theorem ref_p : val_main_v80 (F := Ideal) x0 x1 x2 x3 x4 x5 x6 (ix2 a b)
    = back (fun k => x4 (ix2 a k)) (fun k => x6 (ix2 0 k)) (rdh x0 x1 x2 x3 x5 a) b := by
  rw [← back_eq]
  unfold share
  simp only [← ref_h, ← ref_var']
  unfold val_main_v80 val_main_v79 val_main_v78 val_main_v77 val_main_v76 val_main_v75 val_main_v74 val_main_v73 val_main_v72 val_main_v71
    val_main_v70 val_main_v69 val_main_v68 val_main_v67 val_main_v66 val_main_v64 val_main_v63 val_main_v57 val_main_v43 val_main_v54 val_main_v53
    val_main_v52 val_main_v51 val_main_cst_12 val_main_cst_15 val_main_cst_16 val_main_cst_17
  generalize val_main_v42 (F := Ideal) x0 x1 x2 x3 x5 = d
  generalize val_main_v50 (F := Ideal) x4 = v
  pointwise
  simp only [Finset.univ_unique, Finset.sum_singleton]
  rfl

open Cert.Reference11Ideal.Read in
theorem ref_g' : val_main_v82 (F := Ideal) x0 x1 x2 x3 x4 x5 (ix2 0 b) = ∑ r, rdh x0 x1 x2 x3 x5 r b * unit (fun k => x4 (ix2 r k)) b := by
  unfold unit
  simp only [← ref_h, ← ref_var']
  unfold val_main_v82 val_main_v65 val_main_v62 val_main_v61 val_main_v60 val_main_v56 val_main_v55 val_main_v51 val_main_cst_13 val_main_cst_14
  generalize val_main_v42 (F := Ideal) x0 x1 x2 x3 x5 = d
  generalize val_main_v50 (F := Ideal) x4 = v
  pointwise
  simp only [Finset.univ_unique, Finset.sum_singleton]
  exact Finset.sum_congr rfl fun r _ => mul_comm _ _
end

variable (m : (ℓ : Loc nD τ sig) → Buf (Elt Ideal) ℓ) (c : Dev nD)

/-- The arguments of the call: the hidden gradient, the weight, the residual, its gradient, what the mixer's output norm
read, and the gains of the two norms. -/
abbrev du : FVec Ideal S8448x4096 .bf16 := m ((c : Thread nD τ).loc main_arg0)
abbrev wUp : FVec Ideal S1024x4096 .bf16 := m ((c : Thread nD τ).loc main_arg1)
abbrev h1 : FVec Ideal S8448x1024 .f32 := m ((c : Thread nD τ).loc main_arg2)
abbrev grad : FVec Ideal S8448x1024 .f32 := m ((c : Thread nD τ).loc main_arg3)
abbrev mix : FVec Ideal S8448x1024 .f32 := m ((c : Thread nD τ).loc main_arg4)
abbrev g3 : FVec Ideal S1x1024 .f32 := m ((c : Thread nD τ).loc main_arg5)
abbrev g2 : FVec Ideal S1x1024 .f32 := m ((c : Thread nD τ).loc main_arg6)

/-- The blocks a point reads. -/
abbrev blk0 (t : Fin cfg0.N) : Vec Ideal S768x4096 .bf16 := iblk m c 0 t
abbrev blk1 (t : Fin cfg0.N) : Vec Ideal S1024x4096 .bf16 := iblk m c 1 t
abbrev blk2 (t : Fin cfg0.N) : Vec Ideal S768x1024 .f32 := iblk m c 2 t
abbrev blk3 (t : Fin cfg0.N) : Vec Ideal S768x1024 .f32 := iblk m c 3 t
abbrev blk4 (t : Fin cfg0.N) : Vec Ideal S768x1024 .f32 := iblk m c 4 t
abbrev blk5 (t : Fin cfg0.N) : Vec Ideal S1x1024 .f32 := iblk m c 5 t
abbrev blk6 (t : Fin cfg0.N) : Vec Ideal S1x1024 .f32 := iblk m c 6 t

/-- Where the windows lie. -/
theorem index_in : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] := by
  decide +kernel

theorem index_out : ∀ t : Fin grid0.N, win0_7.index t = ![t.val, 0] ∧ win0_8.index t = ![t.val, 0] ∧ win0_9.index t = ![0, 0]
    ∧ win0_10.index t = ![0, 0] := by
  decide +kernel

section
variable (t : Fin cfg0.N) (a : Fin 768) (i : Fin 8448) (hi : i.val = 768 * t.val + a.val)

/-- The gains are the same at every point. -/
theorem gains : (fun k : Fin 1024 => blk5 m c t (ix2 0 k)) = (fun k => g3 m c (ix2 0 k))
    ∧ (fun k : Fin 1024 => blk6 m c t (ix2 0 k)) = fun k => g2 m c (ix2 0 k) := by
  obtain ⟨-, -, -, -, -, e5, e6⟩ := index_in t
  constructor
  · refine funext fun k => Eq.trans ?_ (congrFun (V_main_arg5 m c) (ix2 0 k))
    blk_ext [iblk, e5]
  · refine funext fun k => Eq.trans ?_ (congrFun (V_main_arg6 m c) (ix2 0 k))
    blk_ext [iblk, e6]

include hi

/-- A row of a point's product is the row of the arguments' product, -/
theorem row_dn : dn (blk0 m c t) (blk1 m c t) a = rdn (du m c) (wUp m c) i := by
  obtain ⟨e0, e1, -⟩ := index_in t
  refine funext fun k => Finset.sum_congr rfl fun j _ => congrArg₂ (fun x y : EReal => x * y) ?_ ?_
  · refine Eq.trans ?_ (congrFun (V_main_arg0 m c) (ix2 i j))
    blk_ext [iblk, e0]
  · refine Eq.trans ?_ (congrFun (V_main_arg1 m c) (ix2 k j))
    blk_ext [iblk, e1]

/-- and so are the rows of the other arguments -/
theorem row_args : (fun k : Fin 1024 => blk2 m c t (ix2 a k)) = (fun k => h1 m c (ix2 i k))
    ∧ (∀ k : Fin 1024, blk3 m c t (ix2 a k) = grad m c (ix2 i k))
    ∧ (fun k : Fin 1024 => blk4 m c t (ix2 a k)) = fun k => mix m c (ix2 i k) := by
  obtain ⟨-, -, e2, e3, e4, -⟩ := index_in t
  refine ⟨funext fun k => ?_, fun k => ?_, funext fun k => ?_⟩
  · refine Eq.trans ?_ (congrFun (V_main_arg2 m c) (ix2 i k))
    blk_ext [iblk, e2]
  · refine Eq.trans ?_ (congrFun (V_main_arg3 m c) (ix2 i k))
    blk_ext [iblk, e3]
  · refine Eq.trans ?_ (congrFun (V_main_arg4 m c) (ix2 i k))
    blk_ext [iblk, e4]

/-- and the row of the residual's gradient. -/
theorem row_dh : dh (blk0 m c t) (blk1 m c t) (blk2 m c t) (blk3 m c t) (blk5 m c t) a
    = rdh (du m c) (wUp m c) (h1 m c) (grad m c) (g3 m c) i := by
  obtain ⟨r2, r3, -⟩ := row_args m c t a i hi
  funext b
  unfold dh rdh
  rw [row_dn m c t a i hi, r2, r3, (gains m c t).1]
end

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- A point leaves in its first two blocks the same whether it is the first or not. -/
theorem left_rows (t : Fin cfg0.N) : (outsAt0 m c t.val t.isLt).1 = k0_pay6 (blk0 m c t) (blk1 m c t) (blk2 m c t) (blk3 m c t) (blk5 m c t)
    ∧ (outsAt0 m c t.val t.isLt).2.1 = k0_pay11 (blk4 m c t) (blk6 m c t)
      (k0_pay6 (blk0 m c t) (blk1 m c t) (blk2 m c t) (blk3 m c t) (blk5 m c t)) (k0_pay7 (blk4 m c t)) := by
  by_cases h : t.val % 11 = 0
  · rw [outsAt0_A m c t h h]
    dsimp only
    exact ⟨first_h .., first_p ..⟩
  · rw [outsAt0_B m c t h h]
    dsimp only
    exact ⟨next_h .., next_p ..⟩

/-- The terms of the gains' gradients. -/
def term (b : Fin 1024) (r : Fin 8448) : EReal := rdn (du m c) (wUp m c) r b * unit (fun k => h1 m c (ix2 r k)) b
def term' (b : Fin 1024) (r : Fin 8448) : EReal :=
  rdh (du m c) (wUp m c) (h1 m c) (grad m c) (g3 m c) r b * unit (fun k => mix m c (ix2 r k)) b

/-- A point's part of the two gradients. -/
theorem part (t : Fin cfg0.N) (h : t.val < 11) (b : Fin 1024) :
    k0_pay5 (blk0 m c t) (blk1 m c t) (blk2 m c t) (ix2 0 b) = ∑ a, term m c b (row t.val h a)
    ∧ k0_pay10 (blk4 m c t) (k0_pay6 (blk0 m c t) (blk1 m c t) (blk2 m c t) (blk3 m c t) (blk5 m c t)) (k0_pay7 (blk4 m c t)) (ix2 0 b)
      = ∑ a, term' m c b (row t.val h a) := by
  rw [pay5_apply, pay10_apply]
  constructor
  · refine Finset.sum_congr rfl fun a _ => ?_
    rw [row_dn m c t a (row t.val h a) rfl, (row_args m c t a (row t.val h a) rfl).1, term]
  · refine Finset.sum_congr rfl fun a _ => ?_
    rw [row_dh m c t a (row t.val h a) rfl, (row_args m c t a (row t.val h a) rfl).2.2, term']

/-- What the points up to `n` add up. -/
theorem sums (b : Fin 1024) (n : ℕ) (hn : n < cfg0.N) : (outsAt0 m c n hn).2.2.1 (ix2 0 b) = upTo (term m c b) n
    ∧ (outsAt0 m c n hn).2.2.2 (ix2 0 b) = upTo (term' m c b) n := by
  induction n with
  | zero =>
    obtain ⟨p, p'⟩ := part m c ⟨0, hn⟩ (show 0 < 11 by decide) b
    rw [outsAt0_A m c ⟨0, hn⟩ (Nat.zero_mod _) (Nat.zero_mod _)]
    dsimp only
    rw [first_g, first_g', (add_apply _ b _).1, (add_apply _ b _).2, (start_apply b).1, (start_apply b).2]
    exact ⟨congrArg (0 + ·) p, congrArg (0 + ·) p'⟩
  | succ n ih =>
    have h : n + 1 < 11 := hn
    obtain ⟨p, p'⟩ := part m c ⟨n + 1, hn⟩ h b
    obtain ⟨q, q'⟩ := ih (Nat.lt_of_succ_lt hn)
    have hm : ¬(n + 1) % 11 = 0 := by omega
    rw [outsAt0_B m c ⟨n + 1, hn⟩ hm hm]
    dsimp only
    rw [next_g, next_g', (add_apply _ b _).1, (add_apply _ b _).2, upTo, upTo, dif_pos h, dif_pos h]
    exact ⟨congrArg₂ (fun x y : EReal => x + y) q p, congrArg₂ (fun x y : EReal => x + y) q' p'⟩

/-! The four arrays the grid leaves are the reference's results. -/

theorem array_h : (dats m 0 c).arrAt 7 cfg0.N
    = Cert.Reference11Ideal.Read.val_main_v42 (F := Ideal) (du m c) (wUp m c) (h1 m c) (grad m c) (g3 m c) := by
  refine (dats m 0 c).arrAt_eq_of_covers 7 _ (by decide +kernel) fun t hf y => ?_
  have e := (index_out t).1
  have hy0 : (y 0).val < 768 := (y 0).isLt
  have hy1 : (y 1).val < 1024 := (y 1).isLt
  obtain ⟨i, hi⟩ := whole_row t hy0
  have key : (outsAt0 m c t.val t.isLt).1 (ix2 (⟨_, hy0⟩ : Fin 768) (⟨_, hy1⟩ : Fin 1024))
      = Cert.Reference11Ideal.Read.val_main_v42 (F := Ideal) (du m c) (wUp m c) (h1 m c) (grad m c) (g3 m c) (ix2 i (⟨_, hy1⟩ : Fin 1024)) := by
    rw [(left_rows m c t).1, pay6_apply, row_dh m c t ⟨_, hy0⟩ i hi, ref_h]
  rw [after0_7]
  refine Eq.trans ?_ (key.trans (congrArg _ ?_))
  · blk_simp
    exact congrArg _ (eq_ix2 y)
  · blk_ext [e]

theorem array_p : (dats m 0 c).arrAt 8 cfg0.N
    = Cert.Reference11Ideal.Read.val_main_v80 (F := Ideal) (du m c) (wUp m c) (h1 m c) (grad m c) (mix m c) (g3 m c) (g2 m c) := by
  refine (dats m 0 c).arrAt_eq_of_covers 8 _ (by decide +kernel) fun t hf y => ?_
  have e := (index_out t).2.1
  have hy0 : (y 0).val < 768 := (y 0).isLt
  have hy1 : (y 1).val < 1024 := (y 1).isLt
  obtain ⟨i, hi⟩ := whole_row t hy0
  have key : (outsAt0 m c t.val t.isLt).2.1 (ix2 (⟨_, hy0⟩ : Fin 768) (⟨_, hy1⟩ : Fin 1024))
      = Cert.Reference11Ideal.Read.val_main_v80 (F := Ideal) (du m c) (wUp m c) (h1 m c) (grad m c) (mix m c) (g3 m c) (g2 m c)
        (ix2 i (⟨_, hy1⟩ : Fin 1024)) := by
    rw [(left_rows m c t).2, pay11_apply, row_dh m c t ⟨_, hy0⟩ i hi, (row_args m c t ⟨_, hy0⟩ i hi).2.2, (gains m c t).2, ref_p]
  rw [after0_8]
  refine Eq.trans ?_ (key.trans (congrArg _ ?_))
  · blk_simp
    exact congrArg _ (eq_ix2 y)
  · blk_ext [e]

/-- The gains' gradients are written once, behind the last point. -/
theorem last : ∀ t : Fin grid0.N, ((cfg0.win 9).flush t = true → t.val = 10) ∧ ((cfg0.win 10).flush t = true → t.val = 10) := by
  decide +kernel

theorem array_g : (dats m 0 c).arrAt 9 cfg0.N = Cert.Reference11Ideal.Read.val_main_v81 (F := Ideal) (du m c) (wUp m c) (h1 m c) := by
  refine (dats m 0 c).arrAt_eq_of_covers 9 _ (by decide +kernel) fun t hf y => ?_
  have e := (index_out t).2.2.1
  have hy1 : (y 1).val < 1024 := (y 1).isLt
  have ht := (last t).1 hf
  have key : (outsAt0 m c t.val t.isLt).2.2.1 (ix2 (0 : Fin 1) (⟨_, hy1⟩ : Fin 1024))
      = Cert.Reference11Ideal.Read.val_main_v81 (F := Ideal) (du m c) (wUp m c) (h1 m c) (ix2 (0 : Fin 1) (⟨_, hy1⟩ : Fin 1024)) := by
    rw [(sums m c _ t.val t.isLt).1, ht, upTo_all, ref_g]
    rfl
  rw [after0_9]
  refine Eq.trans ?_ (key.trans (congrArg _ ?_))
  · blk_simp
    exact congrArg _ ((eq_ix2 y).trans (congrArg (fun z => ix2 z _) (Fin.eq_zero _)))
  · blk_ext [e]

theorem array_g' : (dats m 0 c).arrAt 10 cfg0.N
    = Cert.Reference11Ideal.Read.val_main_v82 (F := Ideal) (du m c) (wUp m c) (h1 m c) (grad m c) (mix m c) (g3 m c) := by
  refine (dats m 0 c).arrAt_eq_of_covers 10 _ (by decide +kernel) fun t hf y => ?_
  have e := (index_out t).2.2.2
  have hy1 : (y 1).val < 1024 := (y 1).isLt
  have ht := (last t).2 hf
  have key : (outsAt0 m c t.val t.isLt).2.2.2 (ix2 (0 : Fin 1) (⟨_, hy1⟩ : Fin 1024))
      = Cert.Reference11Ideal.Read.val_main_v82 (F := Ideal) (du m c) (wUp m c) (h1 m c) (grad m c) (mix m c) (g3 m c)
        (ix2 (0 : Fin 1) (⟨_, hy1⟩ : Fin 1024)) := by
    rw [(sums m c _ t.val t.isLt).2, ht, upTo_all, ref_g']
    rfl
  rw [after0_10]
  refine Eq.trans ?_ (key.trans (congrArg _ ?_))
  · blk_simp
    exact congrArg _ ((eq_ix2 y).trans (congrArg (fun z => ix2 z _) (Fin.eq_zero _)))
  · blk_ext [e]

open Idealize.SL.Sem

/-- The frame of the reference. -/
theorem ref_frame : quiescent_Reference11Ideal := fun m ρ _ => (θ_run Cert.Reference11Ideal.defs _ _).mono
  (fun r h => ⟨fun c => (h c).2.2.2.2, sem_eq_zero_of_no_sems (by decide) r.2⟩)
  (Cert.Reference11Ideal.Value.run (F := Ideal) m ρ)

open Cert.Reference11Ideal.Read in
/-- Both programs leave the same four arrays. -/
theorem equal : algebraic_Kernel11Ideal_Reference11Ideal := by
  intro m ρ m' ρ' _ hargs
  refine ⟨fun c => val_main_v42 (F := Ideal) (du m c) (wUp m c) (h1 m c) (grad m c) (g3 m c),
    fun c => val_main_v80 (F := Ideal) (du m c) (wUp m c) (h1 m c) (grad m c) (mix m c) (g3 m c) (g2 m c),
    fun c => val_main_v81 (F := Ideal) (du m c) (wUp m c) (h1 m c),
    fun c => val_main_v82 (F := Ideal) (du m c) (wUp m c) (h1 m c) (grad m c) (mix m c) (g3 m c), ?_, ?_⟩
  · refine (θ_run Cert.Kernel11Ideal.defs _ _).mono (fun r h c => ?_) (Cert.Kernel11Ideal.Value.run_blocks (F := Ideal) m ρ)
    obtain ⟨e0, e1, e2, e3, keep⟩ := h c
    exact ⟨e0.trans (array_h m c), e1.trans (array_p m c), e2.trans (array_g m c), e3.trans (array_g' m c), keep⟩
  · refine (θ_run Cert.Reference11Ideal.defs _ _).mono (fun r h c => ?_) (Cert.Reference11Ideal.Value.run (F := Ideal) m' ρ')
    obtain ⟨e0, e1, e2, e3, keep⟩ := h c
    obtain ⟨a0, a1, a2, a3, a4, a5, a6⟩ := hargs c
    refine ⟨e0.trans ((val_main_v42_eq ..).trans ?_), e1.trans ((val_main_v80_eq ..).trans ?_), e2.trans ((val_main_v81_eq ..).trans ?_),
      e3.trans ((val_main_v82_eq ..).trans ?_), keep⟩
    · rw [a0, a1, a2, a3, a5]
    · rw [a0, a1, a2, a3, a4, a5, a6]
    · rw [a0, a1, a2]
    · rw [a0, a1, a2, a3, a4, a5]

end Cert.DN3
-- ==== Proof.DN1.lean ====
module
public import proofs.«01_k».proof.Proof.Product
public import proofs.«01_k».proof.Proof.NormBack
public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Quiescent

/-!
# The gradients before the mixer

Each of the 11 grid points forms 768 rows of the product of the projection's gradient with `w_in` transposed, takes it
back through the norm before the mixer, adds the residual's gradient, and takes the sum back through the norm behind
the MLP of the layer before. The gradients of the two gains are sums over all rows, which the points add up in turn.
-/

@[expose] public section
set_option maxRecDepth 16384
noncomputable section
namespace Cert.DN1
open Idealize.ShloMosaic Idealize.ShloMosaic.TcCoe Cert.Kernel12Ideal Cert.Kernel12Ideal.Gen Cert.Product Cert.NormBack

section
variable (x0 : Vec Ideal S768x2688 .bf16) (x1 : Vec Ideal S1024x2688 .bf16) (x2 x3 x4 : Vec Ideal S768x1024 .f32)
  (x5 x6 acc : Vec Ideal S1x1024 .f32) (a : Fin 768) (b : Fin 1024)

/-- Row `a` of a grid point's product, -/
def dn (a : Fin 768) (b : Fin 1024) : EReal := ∑ j : Fin 2688, x0 (ix2 a j) * x1 (ix2 b j)

/-- and of its residual's gradient. -/
def dh (a : Fin 768) (b : Fin 1024) : EReal :=
  x3 (ix2 a b) + back (fun k => x2 (ix2 a k)) (fun k => x5 (ix2 0 k)) (dn x0 x1 a) b

theorem pay2_apply : k0_pay2 x0 x1 (ix2 a b) = dn x0 x1 a b := by
  unfold dn
  pointwise [k0_pay2]

theorem pay3_apply : k0_pay3 x2 (ix2 a 0) = Ideal.rsqrt (var fun k => x2 (ix2 a k)) := by
  unfold var
  pointwise [k0_pay3]

theorem pay4_apply : k0_pay4 x2 (ix2 a b) = unit (fun k => x2 (ix2 a k)) b := by
  unfold unit
  pointwise [k0_pay4]
  rw [pay3_apply]

theorem pay5_apply : k0_pay5 x0 x1 x2 (ix2 0 b) = ∑ a, dn x0 x1 a b * unit (fun k => x2 (ix2 a k)) b := by
  pointwise [k0_pay5]
  simp only [pay2_apply, pay4_apply]

theorem pay6_apply : k0_pay6 x0 x1 x2 x3 x5 (ix2 a b) = dh x0 x1 x2 x3 x5 a b := by
  unfold dh back
  pointwise [k0_pay6]
  simp only [pay2_apply, pay3_apply, pay4_apply]

theorem pay8_apply : k0_pay8 (k0_pay7 x4) (ix2 a 0) = Ideal.rsqrt (var fun k => x4 (ix2 a k)) := by
  unfold var
  pointwise [k0_pay8, k0_pay7]

theorem pay9_apply : k0_pay9 x4 (k0_pay7 x4) (ix2 a b) = unit (fun k => x4 (ix2 a k)) b := by
  unfold unit
  pointwise [k0_pay9]
  rw [pay8_apply]

theorem pay10_apply : k0_pay10 x4 (k0_pay6 x0 x1 x2 x3 x5) (k0_pay7 x4) (ix2 0 b)
    = ∑ a, dh x0 x1 x2 x3 x5 a b * unit (fun k => x4 (ix2 a k)) b := by
  pointwise [k0_pay10]
  simp only [pay6_apply, pay9_apply]

theorem pay11_apply : k0_pay11 x4 x6 (k0_pay6 x0 x1 x2 x3 x5) (k0_pay7 x4) (ix2 a b)
    = back (fun k => x4 (ix2 a k)) (fun k => x6 (ix2 0 k)) (dh x0 x1 x2 x3 x5 a) b := by
  unfold back
  pointwise [k0_pay11]
  simp only [pay6_apply, pay8_apply, pay9_apply]

/-- A gain's gradient starts at zero, and a point adds its rows' part. -/
theorem start_apply : k0_pay12 (F := Ideal) (ix2 0 b) = 0 ∧ k0_pay14 (F := Ideal) (ix2 0 b) = 0 := by
  constructor
  · pointwise [k0_pay12]
  · pointwise [k0_pay14]

theorem add_apply (x : Vec Ideal S1x1024 .f32) : k0_pay13 x acc (ix2 0 b) = acc (ix2 0 b) + x (ix2 0 b)
    ∧ k0_pay1 x acc (ix2 0 b) = acc (ix2 0 b) + x (ix2 0 b) := by
  constructor
  · pointwise [k0_pay13]
  · pointwise [k0_pay1]

/-! What a grid point leaves in its four blocks, in the first point (`A`) and behind it (`B`). -/

variable (c : Dev nD) (i : grid0.Coords) (arg3 : Memref sig .tc .vmem S768x2688 .bf16) (harg3 : arg3.IsWhole)
  (arg4 : Memref sig .tc .vmem S1024x2688 .bf16) (harg4 : arg4.IsWhole) (arg5 : Memref sig .tc .vmem S768x1024 .f32) (harg5 : arg5.IsWhole)
  (arg6 : Memref sig .tc .vmem S768x1024 .f32) (harg6 : arg6.IsWhole) (arg7 : Memref sig .tc .vmem S768x1024 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S768x1024 .f32) (harg10 : arg10.IsWhole) (arg11 : Memref sig .tc .vmem S768x1024 .bf16) (harg11 : arg11.IsWhole)
  (arg12 : Memref sig .tc .vmem S1x1024 .f32) (harg12 : arg12.IsWhole) (arg13 : Memref sig .tc .vmem S1x1024 .f32) (harg13 : arg13.IsWhole)
  (xo9 xo10 : Vec Ideal S1x1024 .f32)

theorem first_h (hc0 : cond0_0 i) (hc1 : cond0_1 i) :
    out0_A_7 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay6 x0 x1 x2 x3 x5 := by
  unfold out0_A_7
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg8 x5 zeros]

theorem first_p (hc0 : cond0_0 i) (hc1 : cond0_1 i) :
    out0_A_8 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay11 x4 x6 (k0_pay6 x0 x1 x2 x3 x5) (k0_pay7 x4) := by
  unfold out0_A_8
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros, load_whole harg9 x6 zeros]

theorem first_g (hc0 : cond0_0 i) (hc1 : cond0_1 i) :
    out0_A_9 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay13 (k0_pay5 x0 x1 x2) (k0_pay12 (F := Ideal)) := by
  unfold out0_A_9
  rw [View.read_writes_junk_eq_canon]
  refine (View.canon_cons_unit_zero zeros _ _ _).trans ?_
  sl_unfold_run_names
  rw [View.readCov_unit_zero _ zeros, load_whole harg3 x0 zeros, load_whole harg4 x1 zeros, load_whole harg5 x2 zeros]

theorem first_g' (hc0 : cond0_0 i) (hc1 : cond0_1 i) :
    out0_A_10 c i arg3 harg3 arg4 harg4 arg5 harg5 arg6 harg6 arg7 harg7 arg8 harg8 arg9 harg9 arg10 harg10 arg11 harg11 arg12 harg12 arg13 harg13
      hc0 hc1 x0 x1 x2 x3 x4 x5 x6 = k0_pay1 (k0_pay10 x4 (k0_pay6 x0 x1 x2 x3 x5) (k0_pay7 x4)) (k0_pay14 (F := Ideal)) := by
  unfold out0_A_10
  rw [View.read_writes_junk_eq_canon]
  refine (View.canon_cons_unit_zero zeros _ _ _).trans ?_
  sl_unfold_run_names
  rw [View.readCov_unit_zero _ zeros, load_whole harg3 x0 zeros, load_whole harg4 x1 zeros, load_whole harg5 x2 zeros, load_whole harg6 x3 zeros,
    load_whole harg7 x4 zeros, load_whole harg8 x5 zeros]

theorem next_h (hc0 : ¬cond0_0 i) (hc1 : ¬cond0_1 i) :
    out0_B_7 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay6 x0 x1 x2 x3 x5 := by
  unfold out0_B_7
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg8 x5 zeros]

theorem next_p (hc0 : ¬cond0_0 i) (hc1 : ¬cond0_1 i) :
    out0_B_8 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay11 x4 x6 (k0_pay6 x0 x1 x2 x3 x5) (k0_pay7 x4) := by
  unfold out0_B_8
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros, load_whole harg9 x6 zeros]

theorem next_g (hc0 : ¬cond0_0 i) (hc1 : ¬cond0_1 i) :
    out0_B_9 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay13 (k0_pay5 x0 x1 x2) xo9 := by
  unfold out0_B_9
  rw [View.read_writes_junk_eq_canon]
  refine (View.canon_unit_zero zeros _ _).trans ?_
  sl_unfold_run_names
  rw [load_whole harg3 x0 zeros, load_whole harg4 x1 zeros, load_whole harg5 x2 zeros, load_whole harg12 xo9 zeros]

theorem next_g' (hc0 : ¬cond0_0 i) (hc1 : ¬cond0_1 i) :
    out0_B_10 c i arg3 harg3 arg4 harg4 arg5 harg5 arg6 harg6 arg7 harg7 arg8 harg8 arg9 harg9 arg10 harg10 arg11 harg11 arg12 harg12 arg13 harg13
      hc0 hc1 x0 x1 x2 x3 x4 x5 x6 xo9 xo10 = k0_pay1 (k0_pay10 x4 (k0_pay6 x0 x1 x2 x3 x5) (k0_pay7 x4)) xo10 := by
  unfold out0_B_10
  rw [View.read_writes_junk_eq_canon]
  refine (View.canon_unit_zero zeros _ _).trans ?_
  sl_unfold_run_names
  rw [load_whole harg3 x0 zeros, load_whole harg4 x1 zeros, load_whole harg5 x2 zeros, load_whole harg6 x3 zeros,
    load_whole harg7 x4 zeros, load_whole harg8 x5 zeros, load_whole harg13 xo10 zeros]
end

section
variable (x0 : FVec Ideal S8448x2688 .bf16) (x1 : FVec Ideal S1024x2688 .bf16) (x2 x3 x4 : FVec Ideal S8448x1024 .f32)
  (x5 x6 : FVec Ideal S1x1024 .f32) (a : Fin 8448) (b : Fin 1024)

/-! The reference's rows, and its four results at an index. -/

/-- Row `a` of the product, -/
def rdn (a : Fin 8448) (b : Fin 1024) : EReal := ∑ j : Fin 2688, x0 (ix2 a j) * x1 (ix2 b j)

/-- and of the residual's gradient. -/
def rdh (a : Fin 8448) (b : Fin 1024) : EReal :=
  x3 (ix2 a b) + back (fun k => x2 (ix2 a k)) (fun k => x5 (ix2 0 k)) (rdn x0 x1 a) b

open Cert.Reference12Ideal.Read in
theorem ref_dn : val_main_v4 (F := Ideal) x0 x1 (ix2 a b) = rdn x0 x1 a b := by
  unfold rdn val_main_v4 val_main_v1 val_main_v0
  pointwise

open Cert.Reference12Ideal.Read in
theorem ref_var : val_main_v12 (F := Ideal) x2 (ix2 a 0) = var fun k => x2 (ix2 a k) := by
  unfold var val_main_v12 val_main_v11 val_main_v10 val_main_v9 val_main_v8 val_main_v7 val_main_v6 val_main_cst_0 val_main_cst_1 val_main_cst_2
  pointwise

open Cert.Reference12Ideal.Read in
theorem ref_h : val_main_v42 (F := Ideal) x0 x1 x2 x3 x5 (ix2 a b) = rdh x0 x1 x2 x3 x5 a b := by
  unfold rdh
  rw [← back_eq]
  unfold share
  simp only [← ref_dn, ← ref_var]
  unfold val_main_v42 val_main_v41 val_main_v40 val_main_v39 val_main_v38 val_main_v37 val_main_v36 val_main_v35 val_main_v34 val_main_v33
    val_main_v32 val_main_v31 val_main_v30 val_main_v29 val_main_v28 val_main_v26 val_main_v25 val_main_v19 val_main_v5 val_main_v16 val_main_v15
    val_main_v14 val_main_v13 val_main_cst_3 val_main_cst_6 val_main_cst_7 val_main_cst_8
  generalize val_main_v4 (F := Ideal) x0 x1 = d
  generalize val_main_v12 (F := Ideal) x2 = v
  pointwise
  simp only [Finset.univ_unique, Finset.sum_singleton]
  rfl

open Cert.Reference12Ideal.Read in
theorem ref_g : val_main_v81 (F := Ideal) x0 x1 x2 (ix2 0 b) = ∑ r, rdn x0 x1 r b * unit (fun k => x2 (ix2 r k)) b := by
  unfold unit
  simp only [← ref_dn, ← ref_var]
  unfold val_main_v81 val_main_v27 val_main_v24 val_main_v23 val_main_v22 val_main_v18 val_main_v17 val_main_v13 val_main_cst_4 val_main_cst_5
  generalize val_main_v4 (F := Ideal) x0 x1 = d
  generalize val_main_v12 (F := Ideal) x2 = v
  pointwise
  simp only [Finset.univ_unique, Finset.sum_singleton]
  exact Finset.sum_congr rfl fun r _ => mul_comm _ _

open Cert.Reference12Ideal.Read in
theorem ref_var' : val_main_v50 (F := Ideal) x4 (ix2 a 0) = var fun k => x4 (ix2 a k) := by
  unfold var val_main_v50 val_main_v49 val_main_v48 val_main_v47 val_main_v46 val_main_v45 val_main_v44 val_main_cst_9 val_main_cst_10 val_main_cst_11
  pointwise

open Cert.Reference12Ideal.Read in
theorem ref_p : val_main_v80 (F := Ideal) x0 x1 x2 x3 x4 x5 x6 (ix2 a b)
    = back (fun k => x4 (ix2 a k)) (fun k => x6 (ix2 0 k)) (rdh x0 x1 x2 x3 x5 a) b := by
  rw [← back_eq]
  unfold share
  simp only [← ref_h, ← ref_var']
  unfold val_main_v80 val_main_v79 val_main_v78 val_main_v77 val_main_v76 val_main_v75 val_main_v74 val_main_v73 val_main_v72 val_main_v71
    val_main_v70 val_main_v69 val_main_v68 val_main_v67 val_main_v66 val_main_v64 val_main_v63 val_main_v57 val_main_v43 val_main_v54 val_main_v53
    val_main_v52 val_main_v51 val_main_cst_12 val_main_cst_15 val_main_cst_16 val_main_cst_17
  generalize val_main_v42 (F := Ideal) x0 x1 x2 x3 x5 = d
  generalize val_main_v50 (F := Ideal) x4 = v
  pointwise
  simp only [Finset.univ_unique, Finset.sum_singleton]
  rfl

open Cert.Reference12Ideal.Read in
theorem ref_g' : val_main_v82 (F := Ideal) x0 x1 x2 x3 x4 x5 (ix2 0 b) = ∑ r, rdh x0 x1 x2 x3 x5 r b * unit (fun k => x4 (ix2 r k)) b := by
  unfold unit
  simp only [← ref_h, ← ref_var']
  unfold val_main_v82 val_main_v65 val_main_v62 val_main_v61 val_main_v60 val_main_v56 val_main_v55 val_main_v51 val_main_cst_13 val_main_cst_14
  generalize val_main_v42 (F := Ideal) x0 x1 x2 x3 x5 = d
  generalize val_main_v50 (F := Ideal) x4 = v
  pointwise
  simp only [Finset.univ_unique, Finset.sum_singleton]
  exact Finset.sum_congr rfl fun r _ => mul_comm _ _
end

variable (m : (ℓ : Loc nD τ sig) → Buf (Elt Ideal) ℓ) (c : Dev nD)

/-- The arguments of the call: the projection's gradient, the weight, the residual, its gradient, what the norm behind the
MLP read, and the gains of the two norms. -/
abbrev dz : FVec Ideal S8448x2688 .bf16 := m ((c : Thread nD τ).loc main_arg0)
abbrev wIn : FVec Ideal S1024x2688 .bf16 := m ((c : Thread nD τ).loc main_arg1)
abbrev h : FVec Ideal S8448x1024 .f32 := m ((c : Thread nD τ).loc main_arg2)
abbrev grad : FVec Ideal S8448x1024 .f32 := m ((c : Thread nD τ).loc main_arg3)
abbrev ff : FVec Ideal S8448x1024 .f32 := m ((c : Thread nD τ).loc main_arg4)
abbrev g1 : FVec Ideal S1x1024 .f32 := m ((c : Thread nD τ).loc main_arg5)
abbrev g4 : FVec Ideal S1x1024 .f32 := m ((c : Thread nD τ).loc main_arg6)

/-- The blocks a point reads. -/
abbrev blk0 (t : Fin cfg0.N) : Vec Ideal S768x2688 .bf16 := iblk m c 0 t
abbrev blk1 (t : Fin cfg0.N) : Vec Ideal S1024x2688 .bf16 := iblk m c 1 t
abbrev blk2 (t : Fin cfg0.N) : Vec Ideal S768x1024 .f32 := iblk m c 2 t
abbrev blk3 (t : Fin cfg0.N) : Vec Ideal S768x1024 .f32 := iblk m c 3 t
abbrev blk4 (t : Fin cfg0.N) : Vec Ideal S768x1024 .f32 := iblk m c 4 t
abbrev blk5 (t : Fin cfg0.N) : Vec Ideal S1x1024 .f32 := iblk m c 5 t
abbrev blk6 (t : Fin cfg0.N) : Vec Ideal S1x1024 .f32 := iblk m c 6 t

/-- Where the windows lie. -/
theorem index_in : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] := by
  decide +kernel

theorem index_out : ∀ t : Fin grid0.N, win0_7.index t = ![t.val, 0] ∧ win0_8.index t = ![t.val, 0] ∧ win0_9.index t = ![0, 0]
    ∧ win0_10.index t = ![0, 0] := by
  decide +kernel

section
variable (t : Fin cfg0.N) (a : Fin 768) (i : Fin 8448) (hi : i.val = 768 * t.val + a.val)

/-- The gains are the same at every point. -/
theorem gains : (fun k : Fin 1024 => blk5 m c t (ix2 0 k)) = (fun k => g1 m c (ix2 0 k))
    ∧ (fun k : Fin 1024 => blk6 m c t (ix2 0 k)) = fun k => g4 m c (ix2 0 k) := by
  obtain ⟨-, -, -, -, -, e5, e6⟩ := index_in t
  constructor
  · refine funext fun k => Eq.trans ?_ (congrFun (V_main_arg5 m c) (ix2 0 k))
    blk_ext [iblk, e5]
  · refine funext fun k => Eq.trans ?_ (congrFun (V_main_arg6 m c) (ix2 0 k))
    blk_ext [iblk, e6]

include hi

/-- A row of a point's product is the row of the arguments' product, -/
theorem row_dn : dn (blk0 m c t) (blk1 m c t) a = rdn (dz m c) (wIn m c) i := by
  obtain ⟨e0, e1, -⟩ := index_in t
  refine funext fun k => Finset.sum_congr rfl fun j _ => congrArg₂ (fun x y : EReal => x * y) ?_ ?_
  · refine Eq.trans ?_ (congrFun (V_main_arg0 m c) (ix2 i j))
    blk_ext [iblk, e0]
  · refine Eq.trans ?_ (congrFun (V_main_arg1 m c) (ix2 k j))
    blk_ext [iblk, e1]

/-- and so are the rows of the other arguments -/
theorem row_args : (fun k : Fin 1024 => blk2 m c t (ix2 a k)) = (fun k => h m c (ix2 i k))
    ∧ (∀ k : Fin 1024, blk3 m c t (ix2 a k) = grad m c (ix2 i k))
    ∧ (fun k : Fin 1024 => blk4 m c t (ix2 a k)) = fun k => ff m c (ix2 i k) := by
  obtain ⟨-, -, e2, e3, e4, -⟩ := index_in t
  refine ⟨funext fun k => ?_, fun k => ?_, funext fun k => ?_⟩
  · refine Eq.trans ?_ (congrFun (V_main_arg2 m c) (ix2 i k))
    blk_ext [iblk, e2]
  · refine Eq.trans ?_ (congrFun (V_main_arg3 m c) (ix2 i k))
    blk_ext [iblk, e3]
  · refine Eq.trans ?_ (congrFun (V_main_arg4 m c) (ix2 i k))
    blk_ext [iblk, e4]

/-- and the row of the residual's gradient. -/
theorem row_dh : dh (blk0 m c t) (blk1 m c t) (blk2 m c t) (blk3 m c t) (blk5 m c t) a
    = rdh (dz m c) (wIn m c) (h m c) (grad m c) (g1 m c) i := by
  obtain ⟨r2, r3, -⟩ := row_args m c t a i hi
  funext b
  unfold dh rdh
  rw [row_dn m c t a i hi, r2, r3, (gains m c t).1]
end

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- A point leaves in its first two blocks the same whether it is the first or not. -/
theorem left_rows (t : Fin cfg0.N) : (outsAt0 m c t.val t.isLt).1 = k0_pay6 (blk0 m c t) (blk1 m c t) (blk2 m c t) (blk3 m c t) (blk5 m c t)
    ∧ (outsAt0 m c t.val t.isLt).2.1 = k0_pay11 (blk4 m c t) (blk6 m c t)
      (k0_pay6 (blk0 m c t) (blk1 m c t) (blk2 m c t) (blk3 m c t) (blk5 m c t)) (k0_pay7 (blk4 m c t)) := by
  by_cases h : t.val % 11 = 0
  · rw [outsAt0_A m c t h h]
    dsimp only
    exact ⟨first_h .., first_p ..⟩
  · rw [outsAt0_B m c t h h]
    dsimp only
    exact ⟨next_h .., next_p ..⟩

/-- The terms of the gains' gradients. -/
def term (b : Fin 1024) (r : Fin 8448) : EReal := rdn (dz m c) (wIn m c) r b * unit (fun k => h m c (ix2 r k)) b
def term' (b : Fin 1024) (r : Fin 8448) : EReal :=
  rdh (dz m c) (wIn m c) (h m c) (grad m c) (g1 m c) r b * unit (fun k => ff m c (ix2 r k)) b

/-- A point's part of the two gradients. -/
theorem part (t : Fin cfg0.N) (h : t.val < 11) (b : Fin 1024) :
    k0_pay5 (blk0 m c t) (blk1 m c t) (blk2 m c t) (ix2 0 b) = ∑ a, term m c b (row t.val h a)
    ∧ k0_pay10 (blk4 m c t) (k0_pay6 (blk0 m c t) (blk1 m c t) (blk2 m c t) (blk3 m c t) (blk5 m c t)) (k0_pay7 (blk4 m c t)) (ix2 0 b)
      = ∑ a, term' m c b (row t.val h a) := by
  rw [pay5_apply, pay10_apply]
  constructor
  · refine Finset.sum_congr rfl fun a _ => ?_
    rw [row_dn m c t a (row t.val h a) rfl, (row_args m c t a (row t.val h a) rfl).1, term]
  · refine Finset.sum_congr rfl fun a _ => ?_
    rw [row_dh m c t a (row t.val h a) rfl, (row_args m c t a (row t.val h a) rfl).2.2, term']

/-- What the points up to `n` add up. -/
theorem sums (b : Fin 1024) (n : ℕ) (hn : n < cfg0.N) : (outsAt0 m c n hn).2.2.1 (ix2 0 b) = upTo (term m c b) n
    ∧ (outsAt0 m c n hn).2.2.2 (ix2 0 b) = upTo (term' m c b) n := by
  induction n with
  | zero =>
    obtain ⟨p, p'⟩ := part m c ⟨0, hn⟩ (show 0 < 11 by decide) b
    rw [outsAt0_A m c ⟨0, hn⟩ (Nat.zero_mod _) (Nat.zero_mod _)]
    dsimp only
    rw [first_g, first_g', (add_apply _ b _).1, (add_apply _ b _).2, (start_apply b).1, (start_apply b).2]
    exact ⟨congrArg (0 + ·) p, congrArg (0 + ·) p'⟩
  | succ n ih =>
    have h : n + 1 < 11 := hn
    obtain ⟨p, p'⟩ := part m c ⟨n + 1, hn⟩ h b
    obtain ⟨q, q'⟩ := ih (Nat.lt_of_succ_lt hn)
    have hm : ¬(n + 1) % 11 = 0 := by omega
    rw [outsAt0_B m c ⟨n + 1, hn⟩ hm hm]
    dsimp only
    rw [next_g, next_g', (add_apply _ b _).1, (add_apply _ b _).2, upTo, upTo, dif_pos h, dif_pos h]
    exact ⟨congrArg₂ (fun x y : EReal => x + y) q p, congrArg₂ (fun x y : EReal => x + y) q' p'⟩

/-! The four arrays the grid leaves are the reference's results. -/

theorem array_h : (dats m 0 c).arrAt 7 cfg0.N
    = Cert.Reference12Ideal.Read.val_main_v42 (F := Ideal) (dz m c) (wIn m c) (h m c) (grad m c) (g1 m c) := by
  refine (dats m 0 c).arrAt_eq_of_covers 7 _ (by decide +kernel) fun t hf y => ?_
  have e := (index_out t).1
  have hy0 : (y 0).val < 768 := (y 0).isLt
  have hy1 : (y 1).val < 1024 := (y 1).isLt
  obtain ⟨i, hi⟩ := whole_row t hy0
  have key : (outsAt0 m c t.val t.isLt).1 (ix2 (⟨_, hy0⟩ : Fin 768) (⟨_, hy1⟩ : Fin 1024))
      = Cert.Reference12Ideal.Read.val_main_v42 (F := Ideal) (dz m c) (wIn m c) (h m c) (grad m c) (g1 m c) (ix2 i (⟨_, hy1⟩ : Fin 1024)) := by
    rw [(left_rows m c t).1, pay6_apply, row_dh m c t ⟨_, hy0⟩ i hi, ref_h]
  rw [after0_7]
  refine Eq.trans ?_ (key.trans (congrArg _ ?_))
  · blk_simp
    exact congrArg _ (eq_ix2 y)
  · blk_ext [e]

theorem array_p : (dats m 0 c).arrAt 8 cfg0.N
    = Cert.Reference12Ideal.Read.val_main_v80 (F := Ideal) (dz m c) (wIn m c) (h m c) (grad m c) (ff m c) (g1 m c) (g4 m c) := by
  refine (dats m 0 c).arrAt_eq_of_covers 8 _ (by decide +kernel) fun t hf y => ?_
  have e := (index_out t).2.1
  have hy0 : (y 0).val < 768 := (y 0).isLt
  have hy1 : (y 1).val < 1024 := (y 1).isLt
  obtain ⟨i, hi⟩ := whole_row t hy0
  have key : (outsAt0 m c t.val t.isLt).2.1 (ix2 (⟨_, hy0⟩ : Fin 768) (⟨_, hy1⟩ : Fin 1024))
      = Cert.Reference12Ideal.Read.val_main_v80 (F := Ideal) (dz m c) (wIn m c) (h m c) (grad m c) (ff m c) (g1 m c) (g4 m c)
        (ix2 i (⟨_, hy1⟩ : Fin 1024)) := by
    rw [(left_rows m c t).2, pay11_apply, row_dh m c t ⟨_, hy0⟩ i hi, (row_args m c t ⟨_, hy0⟩ i hi).2.2, (gains m c t).2, ref_p]
  rw [after0_8]
  refine Eq.trans ?_ (key.trans (congrArg _ ?_))
  · blk_simp
    exact congrArg _ (eq_ix2 y)
  · blk_ext [e]

/-- The gains' gradients are written once, behind the last point. -/
theorem last : ∀ t : Fin grid0.N, ((cfg0.win 9).flush t = true → t.val = 10) ∧ ((cfg0.win 10).flush t = true → t.val = 10) := by
  decide +kernel

theorem array_g : (dats m 0 c).arrAt 9 cfg0.N = Cert.Reference12Ideal.Read.val_main_v81 (F := Ideal) (dz m c) (wIn m c) (h m c) := by
  refine (dats m 0 c).arrAt_eq_of_covers 9 _ (by decide +kernel) fun t hf y => ?_
  have e := (index_out t).2.2.1
  have hy1 : (y 1).val < 1024 := (y 1).isLt
  have ht := (last t).1 hf
  have key : (outsAt0 m c t.val t.isLt).2.2.1 (ix2 (0 : Fin 1) (⟨_, hy1⟩ : Fin 1024))
      = Cert.Reference12Ideal.Read.val_main_v81 (F := Ideal) (dz m c) (wIn m c) (h m c) (ix2 (0 : Fin 1) (⟨_, hy1⟩ : Fin 1024)) := by
    rw [(sums m c _ t.val t.isLt).1, ht, upTo_all, ref_g]
    rfl
  rw [after0_9]
  refine Eq.trans ?_ (key.trans (congrArg _ ?_))
  · blk_simp
    exact congrArg _ ((eq_ix2 y).trans (congrArg (fun z => ix2 z _) (Fin.eq_zero _)))
  · blk_ext [e]

theorem array_g' : (dats m 0 c).arrAt 10 cfg0.N
    = Cert.Reference12Ideal.Read.val_main_v82 (F := Ideal) (dz m c) (wIn m c) (h m c) (grad m c) (ff m c) (g1 m c) := by
  refine (dats m 0 c).arrAt_eq_of_covers 10 _ (by decide +kernel) fun t hf y => ?_
  have e := (index_out t).2.2.2
  have hy1 : (y 1).val < 1024 := (y 1).isLt
  have ht := (last t).2 hf
  have key : (outsAt0 m c t.val t.isLt).2.2.2 (ix2 (0 : Fin 1) (⟨_, hy1⟩ : Fin 1024))
      = Cert.Reference12Ideal.Read.val_main_v82 (F := Ideal) (dz m c) (wIn m c) (h m c) (grad m c) (ff m c) (g1 m c)
        (ix2 (0 : Fin 1) (⟨_, hy1⟩ : Fin 1024)) := by
    rw [(sums m c _ t.val t.isLt).2, ht, upTo_all, ref_g']
    rfl
  rw [after0_10]
  refine Eq.trans ?_ (key.trans (congrArg _ ?_))
  · blk_simp
    exact congrArg _ ((eq_ix2 y).trans (congrArg (fun z => ix2 z _) (Fin.eq_zero _)))
  · blk_ext [e]

open Idealize.SL.Sem

/-- The frame of the reference. -/
theorem ref_frame : quiescent_Reference12Ideal := fun m ρ _ => (θ_run Cert.Reference12Ideal.defs _ _).mono
  (fun r h => ⟨fun c => (h c).2.2.2.2, sem_eq_zero_of_no_sems (by decide) r.2⟩)
  (Cert.Reference12Ideal.Value.run (F := Ideal) m ρ)

open Cert.Reference12Ideal.Read in
/-- Both programs leave the same four arrays. -/
theorem equal : algebraic_Kernel12Ideal_Reference12Ideal := by
  intro m ρ m' ρ' _ hargs
  refine ⟨fun c => val_main_v42 (F := Ideal) (dz m c) (wIn m c) (h m c) (grad m c) (g1 m c),
    fun c => val_main_v80 (F := Ideal) (dz m c) (wIn m c) (h m c) (grad m c) (ff m c) (g1 m c) (g4 m c),
    fun c => val_main_v81 (F := Ideal) (dz m c) (wIn m c) (h m c),
    fun c => val_main_v82 (F := Ideal) (dz m c) (wIn m c) (h m c) (grad m c) (ff m c) (g1 m c), ?_, ?_⟩
  · refine (θ_run Cert.Kernel12Ideal.defs _ _).mono (fun r h c => ?_) (Cert.Kernel12Ideal.Value.run_blocks (F := Ideal) m ρ)
    obtain ⟨e0, e1, e2, e3, keep⟩ := h c
    exact ⟨e0.trans (array_h m c), e1.trans (array_p m c), e2.trans (array_g m c), e3.trans (array_g' m c), keep⟩
  · refine (θ_run Cert.Reference12Ideal.defs _ _).mono (fun r h c => ?_) (Cert.Reference12Ideal.Value.run (F := Ideal) m' ρ')
    obtain ⟨e0, e1, e2, e3, keep⟩ := h c
    obtain ⟨a0, a1, a2, a3, a4, a5, a6⟩ := hargs c
    refine ⟨e0.trans ((val_main_v42_eq ..).trans ?_), e1.trans ((val_main_v80_eq ..).trans ?_), e2.trans ((val_main_v81_eq ..).trans ?_),
      e3.trans ((val_main_v82_eq ..).trans ?_), keep⟩
    · rw [a0, a1, a2, a3, a5]
    · rw [a0, a1, a2, a3, a4, a5, a6]
    · rw [a0, a1, a2]
    · rw [a0, a1, a2, a3, a4, a5]

end Cert.DN1
-- ==== Proof.MlpLoss.lean ====
module
public import proofs.«01_k».proof.Proof.Product
public import proofs.«01_k».proof.Proof.Norm
public import proofs.«01_k».proof.Proof.NormBack
public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Quiescent

/-!
# The last layer's output, the loss, and the first step back

Each of the 11 grid points forms 768 rows of the product of the activations with `w_down`, normalises them, adds them
to the residual and takes the target away. The host lays the target between rows of zeros, and a column of ones between
zeros, by which the kernel clears the rows that do not belong to the sequence; the reference cuts the sequence out
instead. What is left, scaled, is the gradient of the residual, and goes back through the norm. The loss and the gradient
of the gain are sums over all rows, which the points add up in turn.
-/

@[expose] public section
set_option maxRecDepth 16384
noncomputable section
namespace Cert.MlpLoss
open Idealize.ShloMosaic Idealize.ShloMosaic.TcCoe Cert.Kernel13Ideal Cert.Kernel13Ideal.Gen Cert.Product Cert.Norm Cert.NormBack

/-! The constants. -/

theorem bits_two : Ideal.ofBits FTy.f32 0x40000000#32 = ((2 : ℝ) : EReal) := by
  simp only [Ideal.ofBits, Ideal.ieee]
  simp
  rw [← EReal.coe_mul]
  norm_num

theorem bits_half : Ideal.ofBits FTy.f32 0x3F000000#32 = ((1 / 2 : ℝ) : EReal) := by
  simp only [Ideal.ofBits, Ideal.ieee]
  simp
  rw [← EReal.coe_mul]
  norm_num

theorem bits_mean : Ideal.ofBits FTy.f32 0x3A800000#32 = ((1024⁻¹ : ℝ) : EReal) := by
  simp only [Ideal.ofBits, Ideal.ieee]
  simp
  rw [← EReal.coe_mul]
  norm_num

theorem bits_half_mean : Ideal.ofBits FTy.f32 0x3A000000#32 = ((2048⁻¹ : ℝ) : EReal) := by
  simp only [Ideal.ofBits, Ideal.ieee]
  simp
  rw [← EReal.coe_mul]
  norm_num

/-- The gradient of half the mean of squares. -/
theorem back_square (e : EReal) : Ideal.div (Ideal.ofBits FTy.f32 0x3F000000#32) (Ideal.ofBits FTy.f32 0x44800000#32)
    * (Ideal.ofBits FTy.f32 0x40000000#32 * e) = e * Ideal.ofBits FTy.f32 0x3A800000#32 := by
  rw [div_1024, bits_half, bits_two, bits_mean, ← mul_assoc, ← EReal.coe_mul, ← EReal.coe_mul, mul_comm e]
  norm_num

section
variable (x0 : Vec Ideal S768x4096 .bf16) (x1 : Vec Ideal S4096x1024 .bf16) (x2 x3 : Vec Ideal S768x1024 .f32)
  (x4 : Vec Ideal S768x128 .f32) (x5 acc : Vec Ideal S1x1024 .f32) (acc' : Vec Ideal S8x128 .f32) (a : Fin 768) (b : Fin 1024)

/-- Row `a` of a grid point's product, -/
def ff (a : Fin 768) (b : Fin 1024) : EReal := ∑ j : Fin 4096, x0 (ix2 a j) * x1 (ix2 j b)

/-- of its error, -/
def err (a : Fin 768) (b : Fin 1024) : EReal :=
  (behind (ff x0 x1 a) (fun k => x2 (ix2 a k)) (fun k => x5 (ix2 0 k)) b - x3 (ix2 a b)) * x4 (ix2 a 0)

/-- and of its residual's gradient. -/
def dh (a : Fin 768) (b : Fin 1024) : EReal := err x0 x1 x2 x3 x4 x5 a b * Ideal.ofBits FTy.f32 0x3A800000#32

theorem pay3_apply : k0_pay3 x0 x1 (ix2 a b) = ff x0 x1 a b := by
  unfold ff
  pointwise [k0_pay3]

theorem pay4_apply : k0_pay4 x0 x1 x2 x3 x4 x5 (ix2 a b) = err x0 x1 x2 x3 x4 x5 a b := by
  unfold err behind rms
  pointwise [k0_pay4]
  simp only [pay3_apply]

theorem pay5_apply : k0_pay5 x0 x1 x2 x3 x4 x5 (ix2 a b) = dh x0 x1 x2 x3 x4 x5 a b := by
  unfold dh
  pointwise [k0_pay5]
  rw [pay4_apply]

theorem pay6_apply : k0_pay6 x0 x1 (ix2 a 0) = Ideal.rsqrt (var (ff x0 x1 a)) := by
  unfold var
  pointwise [k0_pay6]
  simp only [pay3_apply]

theorem pay8_apply : k0_pay8 (k0_pay3 x0 x1) (k0_pay7 x0 x1) (ix2 a b) = unit (ff x0 x1 a) b := by
  unfold unit
  pointwise [k0_pay8, k0_pay7]
  rw [pay3_apply, pay6_apply]

theorem pay9_apply : k0_pay9 (k0_pay3 x0 x1) (k0_pay5 x0 x1 x2 x3 x4 x5) (k0_pay7 x0 x1) (ix2 0 b)
    = ∑ a, dh x0 x1 x2 x3 x4 x5 a b * unit (ff x0 x1 a) b := by
  pointwise [k0_pay9]
  simp only [pay5_apply, pay8_apply]

theorem pay10_apply : k0_pay10 (k0_pay3 x0 x1) x5 (k0_pay5 x0 x1 x2 x3 x4 x5) (k0_pay6 x0 x1) (k0_pay7 x0 x1) (ix2 a b)
    = back (ff x0 x1 a) (fun k => x5 (ix2 0 k)) (dh x0 x1 x2 x3 x4 x5 a) b := by
  unfold back
  pointwise [k0_pay10]
  simp only [pay5_apply, pay6_apply, pay8_apply]

/-- The loss and the gain's gradient start at zero, and a point adds its rows' part. -/
theorem start_apply (p : Fin 8) (q : Fin 128) : k0_pay11 (F := Ideal) (ix2 p q) = 0 ∧ k0_pay1 (F := Ideal) (ix2 0 b) = 0 := by
  constructor
  · pointwise [k0_pay11]
  · pointwise [k0_pay1]

theorem add_apply (x : Vec Ideal S1x1024 .f32) : k0_pay2 x acc (ix2 0 b) = acc (ix2 0 b) + x (ix2 0 b) := by
  pointwise [k0_pay2]

theorem loss_apply (x : Vec Ideal S768x1024 .f32) (p : Fin 8) (q : Fin 128) : k0_pay12 x acc' (ix2 p q)
    = acc' (ix2 p q) + ∑ a : Fin 768, (∑ k : Fin 1024, x (ix2 a k) * x (ix2 a k)) * Ideal.ofBits FTy.f32 0x3A000000#32 := by
  have e : (∑ a : Fin 768, ∑ k : Fin 1024, x (ix2 a k) * x (ix2 a k)) * Ideal.ofBits FTy.f32 0x3A000000#32
      = ∑ a : Fin 768, (∑ k : Fin 1024, x (ix2 a k) * x (ix2 a k)) * Ideal.ofBits FTy.f32 0x3A000000#32 := by
    simp only [bits_half_mean, mul_comm _ ((2048⁻¹ : ℝ) : EReal)]
    exact mul_sum_of_nonneg _ _ (by norm_num) _
  rw [← e]
  pointwise [k0_pay12]

/-! What a grid point leaves in its four blocks, in the first point (`A`) and behind it (`B`). -/

variable (c : Dev nD) (i : grid0.Coords) (arg3 : Memref sig .tc .vmem S768x4096 .bf16) (harg3 : arg3.IsWhole)
  (arg4 : Memref sig .tc .vmem S4096x1024 .bf16) (harg4 : arg4.IsWhole) (arg5 : Memref sig .tc .vmem S768x1024 .f32) (harg5 : arg5.IsWhole)
  (arg6 : Memref sig .tc .vmem S768x1024 .f32) (harg6 : arg6.IsWhole) (arg7 : Memref sig .tc .vmem S768x128 .f32) (harg7 : arg7.IsWhole)
  (arg8 : Memref sig .tc .vmem S1x1024 .f32) (harg8 : arg8.IsWhole) (arg9 : Memref sig .tc .vmem S768x1024 .f32) (harg9 : arg9.IsWhole)
  (arg10 : Memref sig .tc .vmem S768x1024 .bf16) (harg10 : arg10.IsWhole) (arg11 : Memref sig .tc .vmem S8x128 .f32) (harg11 : arg11.IsWhole)
  (arg12 : Memref sig .tc .vmem S1x1024 .f32) (harg12 : arg12.IsWhole) (xo8 : Vec Ideal S8x128 .f32) (xo9 : Vec Ideal S1x1024 .f32)

theorem first_h (hc0 : cond0_0 i) (hc1 : cond0_1 i) :
    out0_A_6 c i arg3 harg3 arg4 harg4 arg5 harg5 arg6 harg6 arg7 harg7 arg8 harg8 arg9 harg9 arg10 harg10 arg11 harg11 arg12 harg12
      hc0 hc1 x0 x1 x2 x3 x4 x5 = k0_pay5 x0 x1 x2 x3 x4 x5 := by
  unfold out0_A_6
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros]

theorem first_p (hc0 : cond0_0 i) (hc1 : cond0_1 i) :
    out0_A_7 c i arg3 harg3 arg4 harg4 arg5 harg5 arg6 harg6 arg7 harg7 arg8 harg8 arg9 harg9 arg10 harg10 arg11 harg11 arg12 harg12
      hc0 hc1 x0 x1 x2 x3 x4 x5
      = k0_pay10 (k0_pay3 x0 x1) x5 (k0_pay5 x0 x1 x2 x3 x4 x5) (k0_pay6 x0 x1) (k0_pay7 x0 x1) := by
  unfold out0_A_7
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros]

theorem first_l (hc0 : cond0_0 i) (hc1 : cond0_1 i) :
    out0_A_8 c i arg3 harg3 arg4 harg4 arg5 harg5 arg6 harg6 arg7 harg7 arg8 harg8 arg9 harg9 arg10 harg10 arg11 harg11 arg12 harg12
      hc0 hc1 x0 x1 x2 x3 x4 x5 = k0_pay12 (k0_pay4 x0 x1 x2 x3 x4 x5) (k0_pay11 (F := Ideal)) := by
  unfold out0_A_8
  rw [View.read_writes_junk_eq_canon]
  refine (View.canon_cons_unit_zero zeros _ _ _).trans ?_
  sl_unfold_run_names
  rw [View.readCov_unit_zero _ zeros, load_whole harg3 x0 zeros, load_whole harg4 x1 zeros, load_whole harg5 x2 zeros, load_whole harg6 x3 zeros,
    load_whole harg7 x4 zeros, load_whole harg8 x5 zeros]

theorem first_g (hc0 : cond0_0 i) (hc1 : cond0_1 i) :
    out0_A_9 c i arg3 harg3 arg4 harg4 arg5 harg5 arg6 harg6 arg7 harg7 arg8 harg8 arg9 harg9 arg10 harg10 arg11 harg11 arg12 harg12
      hc0 hc1 x0 x1 x2 x3 x4 x5
      = k0_pay2 (k0_pay9 (k0_pay3 x0 x1) (k0_pay5 x0 x1 x2 x3 x4 x5) (k0_pay7 x0 x1)) (k0_pay1 (F := Ideal)) := by
  unfold out0_A_9
  rw [View.read_writes_junk_eq_canon]
  refine (View.canon_cons_unit_zero zeros _ _ _).trans ?_
  sl_unfold_run_names
  rw [View.readCov_unit_zero _ zeros, load_whole harg3 x0 zeros, load_whole harg4 x1 zeros, load_whole harg5 x2 zeros, load_whole harg6 x3 zeros,
    load_whole harg7 x4 zeros, load_whole harg8 x5 zeros]

theorem next_h (hc0 : ¬cond0_0 i) (hc1 : ¬cond0_1 i) :
    out0_B_6 c i arg3 harg3 arg4 harg4 arg5 harg5 arg6 harg6 arg7 harg7 arg8 harg8 arg9 harg9 arg10 harg10 arg11 harg11 arg12 harg12
      hc0 hc1 x0 x1 x2 x3 x4 x5 xo8 xo9 = k0_pay5 x0 x1 x2 x3 x4 x5 := by
  unfold out0_B_6
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros]

theorem next_p (hc0 : ¬cond0_0 i) (hc1 : ¬cond0_1 i) :
    out0_B_7 c i arg3 harg3 arg4 harg4 arg5 harg5 arg6 harg6 arg7 harg7 arg8 harg8 arg9 harg9 arg10 harg10 arg11 harg11 arg12 harg12
      hc0 hc1 x0 x1 x2 x3 x4 x5 xo8 xo9
      = k0_pay10 (k0_pay3 x0 x1) x5 (k0_pay5 x0 x1 x2 x3 x4 x5) (k0_pay6 x0 x1) (k0_pay7 x0 x1) := by
  unfold out0_B_7
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros]

theorem next_l (hc0 : ¬cond0_0 i) (hc1 : ¬cond0_1 i) :
    out0_B_8 c i arg3 harg3 arg4 harg4 arg5 harg5 arg6 harg6 arg7 harg7 arg8 harg8 arg9 harg9 arg10 harg10 arg11 harg11 arg12 harg12
      hc0 hc1 x0 x1 x2 x3 x4 x5 xo8 xo9 = k0_pay12 (k0_pay4 x0 x1 x2 x3 x4 x5) xo8 := by
  unfold out0_B_8
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros, load_whole harg11 xo8 zeros]

theorem next_g (hc0 : ¬cond0_0 i) (hc1 : ¬cond0_1 i) :
    out0_B_9 c i arg3 harg3 arg4 harg4 arg5 harg5 arg6 harg6 arg7 harg7 arg8 harg8 arg9 harg9 arg10 harg10 arg11 harg11 arg12 harg12
      hc0 hc1 x0 x1 x2 x3 x4 x5 xo8 xo9
      = k0_pay2 (k0_pay9 (k0_pay3 x0 x1) (k0_pay5 x0 x1 x2 x3 x4 x5) (k0_pay7 x0 x1)) xo9 := by
  unfold out0_B_9
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros,
    load_whole harg8 x5 zeros, load_whole harg12 xo9 zeros]
end

section
variable (x0 : FVec Ideal S8448x4096 .bf16) (x1 : FVec Ideal S4096x1024 .bf16) (x2 : FVec Ideal S8448x1024 .f32)
  (x3 : FVec Ideal S8192x1024 .f32) (x4 : FVec Ideal S1x1024 .f32) (a : Fin 8448) (b : Fin 1024)

/-! The reference's rows, and its four results at an index. -/

/-- Row `a` of the product, -/
def rff (a : Fin 8448) (b : Fin 1024) : EReal := ∑ j : Fin 4096, x0 (ix2 a j) * x1 (ix2 j b)

/-- of the last residual, -/
def last2 (a : Fin 8448) (b : Fin 1024) : EReal := behind (rff x0 x1 a) (fun k => x2 (ix2 a k)) (fun k => x4 (ix2 0 k)) b

/-- of the error, which counts in the rows of the sequence only, -/
def rerr (a : Fin 8448) (b : Fin 1024) : EReal :=
  if h : 128 ≤ a.val ∧ a.val - 128 < 8192 then last2 x0 x1 x2 x4 a b - x3 (ix2 (⟨a.val - 128, h.2⟩ : Fin 8192) b) else 0

/-- and of the residual's gradient. -/
def rdh (a : Fin 8448) (b : Fin 1024) : EReal := rerr x0 x1 x2 x3 x4 a b * Ideal.ofBits FTy.f32 0x3A800000#32

/-- A row's part of the loss. -/
def part (a : Fin 8448) : EReal := (∑ k, rerr x0 x1 x2 x3 x4 a k * rerr x0 x1 x2 x3 x4 a k) * Ideal.ofBits FTy.f32 0x3A000000#32

open Cert.Reference13Ideal.Read in
theorem ref_ff : val_main_v2 (F := Ideal) x0 x1 (ix2 a b) = rff x0 x1 a b := by
  unfold rff val_main_v2 val_main_v1 val_main_v0
  pointwise

open Cert.Reference13Ideal.Read in
theorem ref_last : val_main_v17 (F := Ideal) x0 x1 x2 x4 (ix2 a b) = last2 x0 x1 x2 x4 a b := by
  unfold last2 behind rms
  simp only [← ref_ff]
  unfold val_main_v17 val_main_v16 val_main_v15 val_main_v14 val_main_v13 val_main_v12 val_main_v11 val_main_v10 val_main_v9 val_main_v8
    val_main_v7 val_main_v6 val_main_v5 val_main_v4 val_main_v3 val_main_cst val_main_cst_0 val_main_cst_1
  generalize val_main_v2 (F := Ideal) x0 x1 = d
  pointwise

open Cert.Reference13Ideal.Read in
theorem ref_h : val_main_v34 (F := Ideal) x0 x1 x2 x3 x4 (ix2 a b) = rdh x0 x1 x2 x3 x4 a b := by
  unfold rdh rerr
  simp only [← ref_last]
  unfold val_main_v34 val_main_v33 val_main_v32 val_main_v31 val_main_v30 val_main_v29 val_main_v28 val_main_v22 val_main_v21 val_main_v19
    val_main_v18 val_main_cst_10 val_main_cst_9 val_main_cst_8 val_main_cst_7 val_main_cst_2
  generalize val_main_v17 (F := Ideal) x0 x1 x2 x4 = h2
  pointwise
  by_cases h : 128 ≤ a.val ∧ a.val - 128 < 8192
  · rw [dif_pos h, dif_pos h, back_square]
    have e : (⟨128 + (a.val - 128), by omega⟩ : Fin 8448) = a := Fin.ext (by show 128 + (a.val - 128) = a.val; omega)
    rw [e]
  · rw [dif_neg h, dif_neg h, zero_mul]

open Cert.Reference13Ideal.Read in
theorem ref_var : val_main_v42 (F := Ideal) x0 x1 (ix2 a 0) = var (rff x0 x1 a) := by
  unfold var
  simp only [← ref_ff]
  unfold val_main_v42 val_main_v41 val_main_v40 val_main_v39 val_main_v38 val_main_v37 val_main_v36 val_main_cst_11 val_main_cst_12 val_main_cst_13
  generalize val_main_v2 (F := Ideal) x0 x1 = d
  pointwise

open Cert.Reference13Ideal.Read in
theorem ref_p : val_main_v72 (F := Ideal) x0 x1 x2 x3 x4 (ix2 a b)
    = back (rff x0 x1 a) (fun k => x4 (ix2 0 k)) (rdh x0 x1 x2 x3 x4 a) b := by
  rw [← back_eq]
  unfold share
  simp only [← ref_h, ← ref_var, ← ref_ff]
  unfold val_main_v72 val_main_v71 val_main_v70 val_main_v69 val_main_v68 val_main_v67 val_main_v66 val_main_v65 val_main_v64 val_main_v63
    val_main_v62 val_main_v61 val_main_v60 val_main_v59 val_main_v58 val_main_v56 val_main_v55 val_main_v49 val_main_v35 val_main_v46 val_main_v45
    val_main_v44 val_main_v43 val_main_cst_14 val_main_cst_17 val_main_cst_18 val_main_cst_19
  generalize val_main_v34 (F := Ideal) x0 x1 x2 x3 x4 = d
  generalize val_main_v42 (F := Ideal) x0 x1 = v
  generalize val_main_v2 (F := Ideal) x0 x1 = f
  pointwise
  simp only [Finset.univ_unique, Finset.sum_singleton]
  rfl

open Cert.Reference13Ideal.Read in
theorem ref_g : val_main_v74 (F := Ideal) x0 x1 x2 x3 x4 (ix2 0 b) = ∑ r, rdh x0 x1 x2 x3 x4 r b * unit (rff x0 x1 r) b := by
  unfold unit
  simp only [← ref_h, ← ref_var, ← ref_ff]
  unfold val_main_v74 val_main_v57 val_main_v54 val_main_v53 val_main_v52 val_main_v48 val_main_v47 val_main_v43 val_main_cst_15 val_main_cst_16
  generalize val_main_v34 (F := Ideal) x0 x1 x2 x3 x4 = d
  generalize val_main_v42 (F := Ideal) x0 x1 = v
  generalize val_main_v2 (F := Ideal) x0 x1 = f
  pointwise
  simp only [Finset.univ_unique, Finset.sum_singleton]
  exact Finset.sum_congr rfl fun r _ => mul_comm _ _

open Cert.Reference13Ideal.Read in
/-- The loss is the sum of all rows' parts: the rows outside the sequence have none. -/
theorem ref_l (p : Fin 8) (q : Fin 128) : val_main_v73 (F := Ideal) x0 x1 x2 x3 x4 (ix2 p q) = ∑ r, part x0 x1 x2 x3 x4 r := by
  unfold part rerr
  simp only [← ref_last]
  rw [val_main_v73_apply, val_main_v27_apply, val_main_v26_apply]
  unfold val_main_v25 val_main_v24 val_main_v23 val_main_v20 val_main_v19 val_main_v18 val_main_cst_3 val_main_cst_4 val_main_cst_5 val_main_cst_6
  generalize val_main_v17 (F := Ideal) x0 x1 x2 x4 = h2
  pointwise
  rw [bits_half, mul_sum_of_nonneg _ _ (by norm_num)]
  refine Fintype.sum_of_injective (fun x : Cert.Reference13Ideal.S8192.Idx => (⟨128 + (x 0).val, by have h : (x 0).val < 8192 := (x 0).isLt; omega⟩ : Fin 8448))
    (fun x y h => ?_) _ _ (fun r hr => ?_) (fun x => ?_)
  · refine funext fun d => ?_
    have h' : 128 + (x 0).val = 128 + (y 0).val := congrArg Fin.val h
    rw [Fin.eq_zero d]
    exact Fin.ext (by omega)
  · have hn : ¬(128 ≤ r.val ∧ r.val - 128 < 8192) := fun h =>
      hr ⟨ix1 (⟨r.val - 128, h.2⟩ : Fin 8192), Fin.ext (by show 128 + (r.val - 128) = r.val; omega)⟩
    simp only [dif_neg hn, mul_zero, zero_mul, Finset.sum_const_zero]
  · have h : (x 0).val < 8192 := (x 0).isLt
    have hp : 128 ≤ 128 + (x 0).val ∧ 128 + (x 0).val - 128 < 8192 := ⟨by omega, by omega⟩
    have ex : (⟨128 + (x 0).val - 128, hp.2⟩ : Fin 8192) = x 0 := Fin.ext (Nat.add_sub_cancel_left ..)
    refine Eq.trans ?_ (congrArg (· * _) (Finset.sum_congr rfl fun k _ => (congrArg (fun z : EReal => z * z) (dif_pos hp)).symm))
    simp only [ex]
    rw [bits_half_mean, div_1024, mul_comm, mul_assoc, ← EReal.coe_mul]
    norm_num
end

variable (m : (ℓ : Loc nD τ sig) → Buf (Elt Ideal) ℓ) (c : Dev nD)

/-- The arguments of the call: the activations, the weight, the residual, the target and the norm's gain. -/
abbrev act : FVec Ideal S8448x4096 .bf16 := m ((c : Thread nD τ).loc main_arg0)
abbrev wDown : FVec Ideal S4096x1024 .bf16 := m ((c : Thread nD τ).loc main_arg1)
abbrev h1 : FVec Ideal S8448x1024 .f32 := m ((c : Thread nD τ).loc main_arg2)
abbrev target : FVec Ideal S8192x1024 .f32 := m ((c : Thread nD τ).loc main_arg3)
abbrev g4 : FVec Ideal S1x1024 .f32 := m ((c : Thread nD τ).loc main_arg4)

/-- The target between rows of zeros, as the host lays it, -/
theorem wide (i : Fin 8448) (k : Fin 1024) : (V m c main_v2 : FVec Ideal S8448x1024 .f32) (ix2 i k)
    = if h : i.val < 128 then 0 else if h : i.val - 128 < 8192 then target m c (ix2 (⟨i.val - 128, h⟩ : Fin 8192) k) else 0 := by
  unfold V
  after_reads_simp
  change concatenate S8448x1024 0 [⟨S128x1024, StableHlo.upto hostOps0 (fun b => m (c, b)) 4 (Proc.tc.devRef main_v0)⟩,
    ⟨S8192x1024, StableHlo.upto hostOps0 (fun b => m (c, b)) 4 (Proc.tc.devRef main_arg3)⟩,
    ⟨S128x1024, StableHlo.upto hostOps0 (fun b => m (c, b)) 4 (Proc.tc.devRef main_v1)⟩]
    concatenates_S128x1024_S8192x1024_S128x1024_S8448x1024_d0 (ix2 i k) = _
  after_reads_simp
  pointwise

/-- and the column of ones between zeros. -/
theorem mask (i : Fin 8448) (k : Fin 128) : (V m c main_v6 : FVec Ideal S8448x128 .f32) (ix2 i k)
    = if i.val < 128 then 0 else if i.val - 128 < 8192 then (1 : EReal) else 0 := by
  unfold V
  after_reads_simp
  change concatenate S8448x128 0 [⟨S128x128, StableHlo.upto hostOps0 (fun b => m (c, b)) 11 (Proc.tc.devRef main_v3)⟩,
    ⟨S8192x128, StableHlo.upto hostOps0 (fun b => m (c, b)) 11 (Proc.tc.devRef main_v4)⟩,
    ⟨S128x128, StableHlo.upto hostOps0 (fun b => m (c, b)) 11 (Proc.tc.devRef main_v5)⟩]
    concatenates_S128x128_S8192x128_S128x128_S8448x128_d0 (ix2 i k) = _
  after_reads_simp
  pointwise
  rfl

/-- The blocks a point reads. -/
abbrev blk0 (t : Fin cfg0.N) : Vec Ideal S768x4096 .bf16 := iblk m c 0 t
abbrev blk1 (t : Fin cfg0.N) : Vec Ideal S4096x1024 .bf16 := iblk m c 1 t
abbrev blk2 (t : Fin cfg0.N) : Vec Ideal S768x1024 .f32 := iblk m c 2 t
abbrev blk3 (t : Fin cfg0.N) : Vec Ideal S768x1024 .f32 := iblk m c 3 t
abbrev blk4 (t : Fin cfg0.N) : Vec Ideal S768x128 .f32 := iblk m c 4 t
abbrev blk5 (t : Fin cfg0.N) : Vec Ideal S1x1024 .f32 := iblk m c 5 t

/-- Where the windows lie. -/
theorem index_in : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

theorem index_out : ∀ t : Fin grid0.N, win0_6.index t = ![t.val, 0] ∧ win0_7.index t = ![t.val, 0] ∧ win0_8.index t = ![0, 0]
    ∧ win0_9.index t = ![0, 0] := by
  decide +kernel

section
variable (t : Fin cfg0.N) (a : Fin 768) (i : Fin 8448) (hi : i.val = 768 * t.val + a.val)

/-- The gain is the same at every point. -/
theorem gain : (fun k : Fin 1024 => blk5 m c t (ix2 0 k)) = fun k => g4 m c (ix2 0 k) := by
  obtain ⟨-, -, -, -, -, e5⟩ := index_in t
  refine funext fun k => Eq.trans ?_ (congrFun (V_main_arg4 m c) (ix2 0 k))
  blk_ext [iblk, e5]

include hi

/-- A row of a point's product is the row of the arguments' product, -/
theorem row_ff : ff (blk0 m c t) (blk1 m c t) a = rff (act m c) (wDown m c) i := by
  obtain ⟨e0, e1, -⟩ := index_in t
  refine funext fun k => Finset.sum_congr rfl fun j _ => congrArg₂ (fun x y : EReal => x * y) ?_ ?_
  · refine Eq.trans ?_ (congrFun (V_main_arg0 m c) (ix2 i j))
    blk_ext [iblk, e0]
  · refine Eq.trans ?_ (congrFun (V_main_arg1 m c) (ix2 j k))
    blk_ext [iblk, e1]

/-- and so are the rows of the residual and of the host's two arrays, -/
theorem row_args : (fun k : Fin 1024 => blk2 m c t (ix2 a k)) = (fun k => h1 m c (ix2 i k))
    ∧ (∀ k : Fin 1024, blk3 m c t (ix2 a k) = (V m c main_v2 : FVec Ideal S8448x1024 .f32) (ix2 i k))
    ∧ blk4 m c t (ix2 a 0) = (V m c main_v6 : FVec Ideal S8448x128 .f32) (ix2 i 0) := by
  obtain ⟨-, -, e2, e3, e4, -⟩ := index_in t
  refine ⟨funext fun k => ?_, fun k => ?_, ?_⟩
  · refine Eq.trans ?_ (congrFun (V_main_arg2 m c) (ix2 i k))
    blk_ext [iblk, e2]
  · blk_ext [iblk, e3]
  · blk_ext [iblk, e4]

/-- and of the error, -/
theorem row_err : err (blk0 m c t) (blk1 m c t) (blk2 m c t) (blk3 m c t) (blk4 m c t) (blk5 m c t) a
    = rerr (act m c) (wDown m c) (h1 m c) (target m c) (g4 m c) i := by
  obtain ⟨r2, r3, r4⟩ := row_args m c t a i hi
  funext b
  unfold err rerr last2
  rw [row_ff m c t a i hi, r2, r3, r4, gain m c t, wide, mask]
  by_cases h : i.val < 128
  · have hn : ¬(128 ≤ i.val ∧ i.val - 128 < 8192) := fun p => absurd p.1 (by omega)
    rw [if_pos h, dif_neg hn, mul_zero]
  · by_cases h' : i.val - 128 < 8192
    · rw [dif_neg h, dif_pos h', if_neg h, if_pos h', dif_pos ⟨by omega, h'⟩, mul_one]
    · have hn : ¬(128 ≤ i.val ∧ i.val - 128 < 8192) := fun p => h' p.2
      rw [if_neg h, if_neg h', dif_neg hn, mul_zero]

/-- and of the residual's gradient. -/
theorem row_dh : dh (blk0 m c t) (blk1 m c t) (blk2 m c t) (blk3 m c t) (blk4 m c t) (blk5 m c t) a
    = rdh (act m c) (wDown m c) (h1 m c) (target m c) (g4 m c) i := by
  funext b
  unfold dh rdh
  rw [row_err m c t a i hi]
end

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- What a point leaves in its first block, -/
abbrev leftH (t : Fin cfg0.N) : Vec Ideal S768x1024 .f32 :=
  k0_pay5 (blk0 m c t) (blk1 m c t) (blk2 m c t) (blk3 m c t) (blk4 m c t) (blk5 m c t)

/-- and in its first two the same whether it is the first or not. -/
theorem left_rows (t : Fin cfg0.N) : (outsAt0 m c t.val t.isLt).1 = leftH m c t
    ∧ (outsAt0 m c t.val t.isLt).2.1 = k0_pay10 (k0_pay3 (blk0 m c t) (blk1 m c t)) (blk5 m c t) (leftH m c t)
      (k0_pay6 (blk0 m c t) (blk1 m c t)) (k0_pay7 (blk0 m c t) (blk1 m c t)) := by
  by_cases h : t.val % 11 = 0
  · rw [outsAt0_A m c t h h]
    dsimp only
    exact ⟨first_h .., first_p ..⟩
  · rw [outsAt0_B m c t h h]
    dsimp only
    exact ⟨next_h .., next_p ..⟩

/-- The terms of the loss and of the gain's gradient. -/
def term (r : Fin 8448) : EReal := part (act m c) (wDown m c) (h1 m c) (target m c) (g4 m c) r
def term' (b : Fin 1024) (r : Fin 8448) : EReal :=
  rdh (act m c) (wDown m c) (h1 m c) (target m c) (g4 m c) r b * unit (rff (act m c) (wDown m c) r) b

/-- What a point adds to the two. -/
theorem adds (t : Fin cfg0.N) (h : t.val < 11) (acc : Vec Ideal S8x128 .f32) (acc' : Vec Ideal S1x1024 .f32) (p : Fin 8) (q : Fin 128) (b : Fin 1024) :
    k0_pay12 (k0_pay4 (blk0 m c t) (blk1 m c t) (blk2 m c t) (blk3 m c t) (blk4 m c t) (blk5 m c t)) acc (ix2 p q)
      = acc (ix2 p q) + ∑ a, term m c (row t.val h a)
    ∧ k0_pay2 (k0_pay9 (k0_pay3 (blk0 m c t) (blk1 m c t)) (leftH m c t) (k0_pay7 (blk0 m c t) (blk1 m c t))) acc' (ix2 0 b)
      = acc' (ix2 0 b) + ∑ a, term' m c b (row t.val h a) := by
  rw [loss_apply, add_apply, pay9_apply]
  constructor
  · refine congrArg (acc (ix2 p q) + ·) (Finset.sum_congr rfl fun a _ => ?_)
    simp only [pay4_apply]
    rw [row_err m c t a (row t.val h a) rfl, term, part]
  · refine congrArg (acc' (ix2 0 b) + ·) (Finset.sum_congr rfl fun a _ => ?_)
    rw [row_dh m c t a (row t.val h a) rfl, row_ff m c t a (row t.val h a) rfl, term']

/-- What the points up to `n` add up. -/
theorem sums (p : Fin 8) (q : Fin 128) (b : Fin 1024) (n : ℕ) (hn : n < cfg0.N) :
    (outsAt0 m c n hn).2.2.1 (ix2 p q) = upTo (term m c) n ∧ (outsAt0 m c n hn).2.2.2 (ix2 0 b) = upTo (term' m c b) n := by
  induction n with
  | zero =>
    have s := fun x y => adds m c ⟨0, hn⟩ (show 0 < 11 by decide) x y p q b
    rw [outsAt0_A m c ⟨0, hn⟩ (Nat.zero_mod _) (Nat.zero_mod _)]
    dsimp only
    rw [first_l, first_g]
    refine ⟨(s _ (k0_pay1 (F := Ideal))).1.trans ?_, (s (k0_pay11 (F := Ideal)) _).2.trans ?_⟩
    · rw [(start_apply b p q).1, upTo]
    · rw [(start_apply b p q).2, upTo]
  | succ n ih =>
    have h : n + 1 < 11 := hn
    obtain ⟨s, s'⟩ := adds m c ⟨n + 1, hn⟩ h (outsAt0 m c n (Nat.lt_of_succ_lt hn)).2.2.1 (outsAt0 m c n (Nat.lt_of_succ_lt hn)).2.2.2 p q b
    obtain ⟨r, r'⟩ := ih (Nat.lt_of_succ_lt hn)
    have hm : ¬(n + 1) % 11 = 0 := by omega
    rw [outsAt0_B m c ⟨n + 1, hn⟩ hm hm]
    dsimp only
    rw [next_l, next_g, upTo, upTo, dif_pos h, dif_pos h]
    exact ⟨s.trans (congrArg (· + _) r), s'.trans (congrArg (· + _) r')⟩

/-! The four arrays the grid leaves are the reference's results. -/

theorem array_h : (dats m 0 c).arrAt 6 cfg0.N
    = Cert.Reference13Ideal.Read.val_main_v34 (F := Ideal) (act m c) (wDown m c) (h1 m c) (target m c) (g4 m c) := by
  refine (dats m 0 c).arrAt_eq_of_covers 6 _ (by decide +kernel) fun t hf y => ?_
  have e := (index_out t).1
  have hy0 : (y 0).val < 768 := (y 0).isLt
  have hy1 : (y 1).val < 1024 := (y 1).isLt
  obtain ⟨i, hi⟩ := whole_row t hy0
  have key : (outsAt0 m c t.val t.isLt).1 (ix2 (⟨_, hy0⟩ : Fin 768) (⟨_, hy1⟩ : Fin 1024))
      = Cert.Reference13Ideal.Read.val_main_v34 (F := Ideal) (act m c) (wDown m c) (h1 m c) (target m c) (g4 m c)
        (ix2 i (⟨_, hy1⟩ : Fin 1024)) := by
    rw [(left_rows m c t).1, leftH, pay5_apply, row_dh m c t ⟨_, hy0⟩ i hi, ref_h]
  rw [after0_6]
  refine Eq.trans ?_ (key.trans (congrArg _ ?_))
  · blk_simp
    exact congrArg _ (eq_ix2 y)
  · blk_ext [e]

theorem array_p : (dats m 0 c).arrAt 7 cfg0.N
    = Cert.Reference13Ideal.Read.val_main_v72 (F := Ideal) (act m c) (wDown m c) (h1 m c) (target m c) (g4 m c) := by
  refine (dats m 0 c).arrAt_eq_of_covers 7 _ (by decide +kernel) fun t hf y => ?_
  have e := (index_out t).2.1
  have hy0 : (y 0).val < 768 := (y 0).isLt
  have hy1 : (y 1).val < 1024 := (y 1).isLt
  obtain ⟨i, hi⟩ := whole_row t hy0
  have key : (outsAt0 m c t.val t.isLt).2.1 (ix2 (⟨_, hy0⟩ : Fin 768) (⟨_, hy1⟩ : Fin 1024))
      = Cert.Reference13Ideal.Read.val_main_v72 (F := Ideal) (act m c) (wDown m c) (h1 m c) (target m c) (g4 m c)
        (ix2 i (⟨_, hy1⟩ : Fin 1024)) := by
    rw [(left_rows m c t).2, pay10_apply, row_dh m c t ⟨_, hy0⟩ i hi, row_ff m c t ⟨_, hy0⟩ i hi, gain m c t, ref_p]
  rw [after0_7]
  refine Eq.trans ?_ (key.trans (congrArg _ ?_))
  · blk_simp
    exact congrArg _ (eq_ix2 y)
  · blk_ext [e]

/-- The loss and the gain's gradient are written once, behind the last point. -/
theorem last : ∀ t : Fin grid0.N, ((cfg0.win 8).flush t = true → t.val = 10) ∧ ((cfg0.win 9).flush t = true → t.val = 10) := by
  decide +kernel

theorem array_l : (dats m 0 c).arrAt 8 cfg0.N
    = Cert.Reference13Ideal.Read.val_main_v73 (F := Ideal) (act m c) (wDown m c) (h1 m c) (target m c) (g4 m c) := by
  refine (dats m 0 c).arrAt_eq_of_covers 8 _ (by decide +kernel) fun t hf y => ?_
  have e := (index_out t).2.2.1
  have hy0 : (y 0).val < 8 := (y 0).isLt
  have hy1 : (y 1).val < 128 := (y 1).isLt
  have ht := (last t).1 hf
  have key : (outsAt0 m c t.val t.isLt).2.2.1 (ix2 (⟨_, hy0⟩ : Fin 8) (⟨_, hy1⟩ : Fin 128))
      = Cert.Reference13Ideal.Read.val_main_v73 (F := Ideal) (act m c) (wDown m c) (h1 m c) (target m c) (g4 m c)
        (ix2 (⟨_, hy0⟩ : Fin 8) (⟨_, hy1⟩ : Fin 128)) := by
    rw [(sums m c _ _ 0 t.val t.isLt).1, ht, upTo_all, ref_l]
    rfl
  rw [after0_8]
  refine Eq.trans ?_ (key.trans (congrArg _ ?_))
  · blk_simp
    exact congrArg _ (eq_ix2 y)
  · blk_ext [e]

theorem array_g : (dats m 0 c).arrAt 9 cfg0.N
    = Cert.Reference13Ideal.Read.val_main_v74 (F := Ideal) (act m c) (wDown m c) (h1 m c) (target m c) (g4 m c) := by
  refine (dats m 0 c).arrAt_eq_of_covers 9 _ (by decide +kernel) fun t hf y => ?_
  have e := (index_out t).2.2.2
  have hy1 : (y 1).val < 1024 := (y 1).isLt
  have ht := (last t).2 hf
  have key : (outsAt0 m c t.val t.isLt).2.2.2 (ix2 (0 : Fin 1) (⟨_, hy1⟩ : Fin 1024))
      = Cert.Reference13Ideal.Read.val_main_v74 (F := Ideal) (act m c) (wDown m c) (h1 m c) (target m c) (g4 m c)
        (ix2 (0 : Fin 1) (⟨_, hy1⟩ : Fin 1024)) := by
    rw [(sums m c 0 0 _ t.val t.isLt).2, ht, upTo_all, ref_g]
    rfl
  rw [after0_9]
  refine Eq.trans ?_ (key.trans (congrArg _ ?_))
  · blk_simp
    exact congrArg _ ((eq_ix2 y).trans (congrArg (fun z => ix2 z _) (Fin.eq_zero _)))
  · blk_ext [e]

open Idealize.SL.Sem

/-- The frame of the reference. -/
theorem ref_frame : quiescent_Reference13Ideal := fun m ρ _ => (θ_run Cert.Reference13Ideal.defs _ _).mono
  (fun r h => ⟨fun c => (h c).2.2.2.2, sem_eq_zero_of_no_sems (by decide) r.2⟩)
  (Cert.Reference13Ideal.Value.run (F := Ideal) m ρ)

open Cert.Reference13Ideal.Read in
/-- Both programs leave the same four arrays. -/
theorem equal : algebraic_Kernel13Ideal_Reference13Ideal := by
  intro m ρ m' ρ' _ hargs
  refine ⟨fun c => val_main_v34 (F := Ideal) (act m c) (wDown m c) (h1 m c) (target m c) (g4 m c),
    fun c => val_main_v72 (F := Ideal) (act m c) (wDown m c) (h1 m c) (target m c) (g4 m c),
    fun c => val_main_v73 (F := Ideal) (act m c) (wDown m c) (h1 m c) (target m c) (g4 m c),
    fun c => val_main_v74 (F := Ideal) (act m c) (wDown m c) (h1 m c) (target m c) (g4 m c), ?_, ?_⟩
  · refine (θ_run Cert.Kernel13Ideal.defs _ _).mono (fun r h c => ?_) (Cert.Kernel13Ideal.Value.run_blocks (F := Ideal) m ρ)
    obtain ⟨e0, e1, e2, e3, keep⟩ := h c
    exact ⟨e0.trans (array_h m c), e1.trans (array_p m c), e2.trans (array_l m c), e3.trans (array_g m c), keep⟩
  · refine (θ_run Cert.Reference13Ideal.defs _ _).mono (fun r h c => ?_) (Cert.Reference13Ideal.Value.run (F := Ideal) m' ρ')
    obtain ⟨e0, e1, e2, e3, keep⟩ := h c
    obtain ⟨a0, a1, a2, a3, a4⟩ := hargs c
    refine ⟨e0.trans ((val_main_v34_eq ..).trans ?_), e1.trans ((val_main_v72_eq ..).trans ?_), e2.trans ((val_main_v73_eq ..).trans ?_),
      e3.trans ((val_main_v74_eq ..).trans ?_), keep⟩
    all_goals rw [a0, a1, a2, a3, a4]

end Cert.MlpLoss
-- ==== Proof.DN1First.lean ====
module
public import proofs.«01_k».proof.Proof.Product
public import proofs.«01_k».proof.Proof.NormBack
public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Quiescent

/-!
# The gradients before the first layer's mixer

Each of the 11 grid points forms 768 rows of the product of the projection's gradient with `w_in` transposed, takes it
back through the norm before the mixer and adds the residual's gradient. The gradient of the gain is a sum over all rows,
which the points add up in turn. No layer lies before this one, so nothing follows.
-/

@[expose] public section
set_option maxRecDepth 16384
noncomputable section
namespace Cert.DN1First
open Idealize.ShloMosaic Idealize.ShloMosaic.TcCoe Cert.Kernel14Ideal Cert.Kernel14Ideal.Gen Cert.Product Cert.NormBack

section
variable (x0 : Vec Ideal S768x2688 .bf16) (x1 : Vec Ideal S1024x2688 .bf16) (x2 x3 : Vec Ideal S768x1024 .f32)
  (x4 acc : Vec Ideal S1x1024 .f32) (a : Fin 768) (b : Fin 1024)

/-- Row `a` of a grid point's product, -/
def dn (a : Fin 768) (b : Fin 1024) : EReal := ∑ j : Fin 2688, x0 (ix2 a j) * x1 (ix2 b j)

/-- and of its residual's gradient. -/
def dh (a : Fin 768) (b : Fin 1024) : EReal :=
  x3 (ix2 a b) + back (fun k => x2 (ix2 a k)) (fun k => x4 (ix2 0 k)) (dn x0 x1 a) b

theorem pay3_apply : k0_pay3 x0 x1 (ix2 a b) = dn x0 x1 a b := by
  unfold dn
  pointwise [k0_pay3]

theorem pay4_apply : k0_pay4 x2 (ix2 a 0) = Ideal.rsqrt (var fun k => x2 (ix2 a k)) := by
  unfold var
  pointwise [k0_pay4]

theorem pay5_apply : k0_pay5 x2 (ix2 a b) = unit (fun k => x2 (ix2 a k)) b := by
  unfold unit
  pointwise [k0_pay5]
  rw [pay4_apply]

theorem pay6_apply : k0_pay6 x0 x1 x2 (ix2 0 b) = ∑ a, dn x0 x1 a b * unit (fun k => x2 (ix2 a k)) b := by
  pointwise [k0_pay6]
  simp only [pay3_apply, pay5_apply]

theorem pay7_apply : k0_pay7 x0 x1 x2 x3 x4 (ix2 a b) = dh x0 x1 x2 x3 x4 a b := by
  unfold dh back
  pointwise [k0_pay7]
  simp only [pay3_apply, pay4_apply, pay5_apply]

/-- The gain's gradient starts at zero, and a point adds its rows' part. -/
theorem start_apply : k0_pay1 (F := Ideal) (ix2 0 b) = 0 := by
  pointwise [k0_pay1]

theorem add_apply (x : Vec Ideal S1x1024 .f32) : k0_pay2 x acc (ix2 0 b) = acc (ix2 0 b) + x (ix2 0 b) := by
  pointwise [k0_pay2]

/-! What a grid point leaves in its two blocks, in the first point (`A`) and behind it (`B`). -/

variable (c : Dev nD) (i : grid0.Coords) (arg3 : Memref sig .tc .vmem S768x2688 .bf16) (harg3 : arg3.IsWhole)
  (arg4 : Memref sig .tc .vmem S1024x2688 .bf16) (harg4 : arg4.IsWhole) (arg5 : Memref sig .tc .vmem S768x1024 .f32) (harg5 : arg5.IsWhole)
  (arg6 : Memref sig .tc .vmem S768x1024 .f32) (harg6 : arg6.IsWhole) (arg7 : Memref sig .tc .vmem S1x1024 .f32) (harg7 : arg7.IsWhole)
  (arg8 : Memref sig .tc .vmem S768x1024 .f32) (harg8 : arg8.IsWhole) (arg9 : Memref sig .tc .vmem S1x1024 .f32) (harg9 : arg9.IsWhole)
  (xo6 : Vec Ideal S1x1024 .f32)

theorem first_h (hc0 : cond0_0 i) :
    out0_A_5 c i arg3 harg3 arg4 harg4 arg5 harg5 arg6 harg6 arg7 harg7 arg8 harg8 arg9 harg9 hc0 x0 x1 x2 x3 x4 = k0_pay7 x0 x1 x2 x3 x4 := by
  unfold out0_A_5
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros]

theorem first_g (hc0 : cond0_0 i) :
    out0_A_6 c i arg3 harg3 arg4 harg4 arg5 harg5 arg6 harg6 arg7 harg7 arg8 harg8 arg9 harg9 hc0 x0 x1 x2 x3 x4
      = k0_pay2 (k0_pay6 x0 x1 x2) (k0_pay1 (F := Ideal)) := by
  unfold out0_A_6
  rw [View.read_writes_junk_eq_canon]
  refine (View.canon_cons_unit_zero zeros _ _ _).trans ?_
  sl_unfold_run_names
  rw [View.readCov_unit_zero _ zeros, load_whole harg3 x0 zeros, load_whole harg4 x1 zeros, load_whole harg5 x2 zeros]

theorem next_h (hc0 : ¬cond0_0 i) :
    out0_B_5 c i arg3 harg3 arg4 harg4 arg5 harg5 arg6 harg6 arg7 harg7 arg8 harg8 arg9 harg9 hc0 x0 x1 x2 x3 x4 xo6 = k0_pay7 x0 x1 x2 x3 x4 := by
  unfold out0_B_5
  rw [View.read_writes_junk_eq_canon]
  refine (View.canon_unit_zero zeros _ _).trans ?_
  sl_unfold_run_names
  rw [load_whole harg3 x0 zeros, load_whole harg4 x1 zeros, load_whole harg5 x2 zeros, load_whole harg6 x3 zeros, load_whole harg7 x4 zeros]

theorem next_g (hc0 : ¬cond0_0 i) :
    out0_B_6 c i arg3 harg3 arg4 harg4 arg5 harg5 arg6 harg6 arg7 harg7 arg8 harg8 arg9 harg9 hc0 x0 x1 x2 x3 x4 xo6
      = k0_pay2 (k0_pay6 x0 x1 x2) xo6 := by
  unfold out0_B_6
  rw [View.read_writes_junk_eq_canon]
  refine (View.canon_unit_zero zeros _ _).trans ?_
  sl_unfold_run_names
  rw [load_whole harg3 x0 zeros, load_whole harg4 x1 zeros, load_whole harg5 x2 zeros, load_whole harg9 xo6 zeros]
end

section
variable (x0 : FVec Ideal S8448x2688 .bf16) (x1 : FVec Ideal S1024x2688 .bf16) (x2 x3 : FVec Ideal S8448x1024 .f32)
  (x4 : FVec Ideal S1x1024 .f32) (a : Fin 8448) (b : Fin 1024)

/-! The reference's rows, and its two results at an index. -/

/-- Row `a` of the product, -/
def rdn (a : Fin 8448) (b : Fin 1024) : EReal := ∑ j : Fin 2688, x0 (ix2 a j) * x1 (ix2 b j)

/-- and of the residual's gradient. -/
def rdh (a : Fin 8448) (b : Fin 1024) : EReal :=
  x3 (ix2 a b) + back (fun k => x2 (ix2 a k)) (fun k => x4 (ix2 0 k)) (rdn x0 x1 a) b

open Cert.Reference14Ideal.Read in
theorem ref_dn : val_main_v4 (F := Ideal) x0 x1 (ix2 a b) = rdn x0 x1 a b := by
  unfold rdn val_main_v4 val_main_v1 val_main_v0
  pointwise

open Cert.Reference14Ideal.Read in
theorem ref_var : val_main_v12 (F := Ideal) x2 (ix2 a 0) = var fun k => x2 (ix2 a k) := by
  unfold var val_main_v12 val_main_v11 val_main_v10 val_main_v9 val_main_v8 val_main_v7 val_main_v6 val_main_cst_0 val_main_cst_1 val_main_cst_2
  pointwise

open Cert.Reference14Ideal.Read in
theorem ref_h : val_main_v42 (F := Ideal) x0 x1 x2 x3 x4 (ix2 a b) = rdh x0 x1 x2 x3 x4 a b := by
  unfold rdh
  rw [← back_eq]
  unfold share
  simp only [← ref_dn, ← ref_var]
  unfold val_main_v42 val_main_v41 val_main_v40 val_main_v39 val_main_v38 val_main_v37 val_main_v36 val_main_v35 val_main_v34 val_main_v33
    val_main_v32 val_main_v31 val_main_v30 val_main_v29 val_main_v28 val_main_v26 val_main_v25 val_main_v19 val_main_v5 val_main_v16 val_main_v15
    val_main_v14 val_main_v13 val_main_cst_3 val_main_cst_6 val_main_cst_7 val_main_cst_8
  generalize val_main_v4 (F := Ideal) x0 x1 = d
  generalize val_main_v12 (F := Ideal) x2 = v
  pointwise
  simp only [Finset.univ_unique, Finset.sum_singleton]
  rfl

open Cert.Reference14Ideal.Read in
theorem ref_g : val_main_v43 (F := Ideal) x0 x1 x2 (ix2 0 b) = ∑ r, rdn x0 x1 r b * unit (fun k => x2 (ix2 r k)) b := by
  unfold unit
  simp only [← ref_dn, ← ref_var]
  unfold val_main_v43 val_main_v27 val_main_v24 val_main_v23 val_main_v22 val_main_v18 val_main_v17 val_main_v13 val_main_cst_4 val_main_cst_5
  generalize val_main_v4 (F := Ideal) x0 x1 = d
  generalize val_main_v12 (F := Ideal) x2 = v
  pointwise
  simp only [Finset.univ_unique, Finset.sum_singleton]
  exact Finset.sum_congr rfl fun r _ => mul_comm _ _
end

variable (m : (ℓ : Loc nD τ sig) → Buf (Elt Ideal) ℓ) (c : Dev nD)

/-- The arguments of the call: the projection's gradient, the weight, the residual, its gradient and the norm's gain. -/
abbrev dz : FVec Ideal S8448x2688 .bf16 := m ((c : Thread nD τ).loc main_arg0)
abbrev wIn : FVec Ideal S1024x2688 .bf16 := m ((c : Thread nD τ).loc main_arg1)
abbrev h : FVec Ideal S8448x1024 .f32 := m ((c : Thread nD τ).loc main_arg2)
abbrev grad : FVec Ideal S8448x1024 .f32 := m ((c : Thread nD τ).loc main_arg3)
abbrev g1 : FVec Ideal S1x1024 .f32 := m ((c : Thread nD τ).loc main_arg4)

/-- The blocks a point reads. -/
abbrev blk0 (t : Fin cfg0.N) : Vec Ideal S768x2688 .bf16 := iblk m c 0 t
abbrev blk1 (t : Fin cfg0.N) : Vec Ideal S1024x2688 .bf16 := iblk m c 1 t
abbrev blk2 (t : Fin cfg0.N) : Vec Ideal S768x1024 .f32 := iblk m c 2 t
abbrev blk3 (t : Fin cfg0.N) : Vec Ideal S768x1024 .f32 := iblk m c 3 t
abbrev blk4 (t : Fin cfg0.N) : Vec Ideal S1x1024 .f32 := iblk m c 4 t

/-- Where the windows lie. -/
theorem index : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] := by
  decide +kernel

section
variable (t : Fin cfg0.N) (a : Fin 768) (i : Fin 8448) (hi : i.val = 768 * t.val + a.val)

/-- The gain is the same at every point. -/
theorem gain : (fun k : Fin 1024 => blk4 m c t (ix2 0 k)) = fun k => g1 m c (ix2 0 k) := by
  obtain ⟨-, -, -, -, e4, -⟩ := index t
  refine funext fun k => Eq.trans ?_ (congrFun (V_main_arg4 m c) (ix2 0 k))
  blk_ext [iblk, e4]

include hi

/-- A row of a point's product is the row of the arguments' product, -/
theorem row_dn : dn (blk0 m c t) (blk1 m c t) a = rdn (dz m c) (wIn m c) i := by
  obtain ⟨e0, e1, -⟩ := index t
  refine funext fun k => Finset.sum_congr rfl fun j _ => congrArg₂ (fun x y : EReal => x * y) ?_ ?_
  · refine Eq.trans ?_ (congrFun (V_main_arg0 m c) (ix2 i j))
    blk_ext [iblk, e0]
  · refine Eq.trans ?_ (congrFun (V_main_arg1 m c) (ix2 k j))
    blk_ext [iblk, e1]

/-- and so is the row of what the norm read, -/
theorem row_h : (fun k : Fin 1024 => blk2 m c t (ix2 a k)) = fun k => h m c (ix2 i k) := by
  obtain ⟨-, -, e2, -⟩ := index t
  refine funext fun k => Eq.trans ?_ (congrFun (V_main_arg2 m c) (ix2 i k))
  blk_ext [iblk, e2]

/-- and the row of the residual's gradient. -/
theorem row_dh : dh (blk0 m c t) (blk1 m c t) (blk2 m c t) (blk3 m c t) (blk4 m c t) a
    = rdh (dz m c) (wIn m c) (h m c) (grad m c) (g1 m c) i := by
  obtain ⟨-, -, -, e3, -⟩ := index t
  funext b
  unfold dh rdh
  rw [row_dn m c t a i hi, row_h m c t a i hi, gain m c t]
  refine congrArg (· + _) (Eq.trans ?_ (congrFun (V_main_arg3 m c) (ix2 i b)))
  blk_ext [iblk, e3]
end

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- A point leaves in its first block the same whether it is the first or not. -/
theorem left_rows (t : Fin cfg0.N) :
    (outsAt0 m c t.val t.isLt).1 = k0_pay7 (blk0 m c t) (blk1 m c t) (blk2 m c t) (blk3 m c t) (blk4 m c t) := by
  by_cases h : t.val % 11 = 0
  · rw [outsAt0_A m c t h]
    dsimp only
    exact first_h ..
  · rw [outsAt0_B m c t h]
    dsimp only
    exact next_h ..

/-- The terms of the gain's gradient. -/
def term (b : Fin 1024) (r : Fin 8448) : EReal := rdn (dz m c) (wIn m c) r b * unit (fun k => h m c (ix2 r k)) b

/-- A point's part of it. -/
theorem part (t : Fin cfg0.N) (h : t.val < 11) (b : Fin 1024) :
    k0_pay6 (blk0 m c t) (blk1 m c t) (blk2 m c t) (ix2 0 b) = ∑ a, term m c b (row t.val h a) := by
  rw [pay6_apply]
  refine Finset.sum_congr rfl fun a _ => ?_
  rw [row_dn m c t a (row t.val h a) rfl, row_h m c t a (row t.val h a) rfl, term]

/-- What the points up to `n` add up. -/
theorem sums (b : Fin 1024) (n : ℕ) (hn : n < cfg0.N) : (outsAt0 m c n hn).2 (ix2 0 b) = upTo (term m c b) n := by
  induction n with
  | zero =>
    have p := part m c ⟨0, hn⟩ (show 0 < 11 by decide) b
    rw [outsAt0_A m c ⟨0, hn⟩ (Nat.zero_mod _)]
    dsimp only
    rw [first_g, add_apply _ b _, start_apply b]
    exact congrArg (0 + ·) p
  | succ n ih =>
    have h : n + 1 < 11 := hn
    have p := part m c ⟨n + 1, hn⟩ h b
    have q := ih (Nat.lt_of_succ_lt hn)
    have hm : ¬(n + 1) % 11 = 0 := by omega
    rw [outsAt0_B m c ⟨n + 1, hn⟩ hm]
    dsimp only
    rw [next_g, add_apply _ b _, upTo, dif_pos h]
    exact congrArg₂ (fun x y : EReal => x + y) q p

/-! The two arrays the grid leaves are the reference's results. -/

theorem array_h : (dats m 0 c).arrAt 5 cfg0.N
    = Cert.Reference14Ideal.Read.val_main_v42 (F := Ideal) (dz m c) (wIn m c) (h m c) (grad m c) (g1 m c) := by
  refine (dats m 0 c).arrAt_eq_of_covers 5 _ (by decide +kernel) fun t hf y => ?_
  obtain ⟨-, -, -, -, -, e, -⟩ := index t
  have hy0 : (y 0).val < 768 := (y 0).isLt
  have hy1 : (y 1).val < 1024 := (y 1).isLt
  obtain ⟨i, hi⟩ := whole_row t hy0
  have key : (outsAt0 m c t.val t.isLt).1 (ix2 (⟨_, hy0⟩ : Fin 768) (⟨_, hy1⟩ : Fin 1024))
      = Cert.Reference14Ideal.Read.val_main_v42 (F := Ideal) (dz m c) (wIn m c) (h m c) (grad m c) (g1 m c) (ix2 i (⟨_, hy1⟩ : Fin 1024)) := by
    rw [left_rows m c t, pay7_apply, row_dh m c t ⟨_, hy0⟩ i hi, ref_h]
  rw [after0_5]
  refine Eq.trans ?_ (key.trans (congrArg _ ?_))
  · blk_simp
    exact congrArg _ (eq_ix2 y)
  · blk_ext [e]

/-- The gain's gradient is written once, behind the last point. -/
theorem last : ∀ t : Fin grid0.N, (cfg0.win 6).flush t = true → t.val = 10 := by
  decide +kernel

theorem array_g : (dats m 0 c).arrAt 6 cfg0.N = Cert.Reference14Ideal.Read.val_main_v43 (F := Ideal) (dz m c) (wIn m c) (h m c) := by
  refine (dats m 0 c).arrAt_eq_of_covers 6 _ (by decide +kernel) fun t hf y => ?_
  obtain ⟨-, -, -, -, -, -, e⟩ := index t
  have hy1 : (y 1).val < 1024 := (y 1).isLt
  have ht := last t hf
  have key : (outsAt0 m c t.val t.isLt).2 (ix2 (0 : Fin 1) (⟨_, hy1⟩ : Fin 1024))
      = Cert.Reference14Ideal.Read.val_main_v43 (F := Ideal) (dz m c) (wIn m c) (h m c) (ix2 (0 : Fin 1) (⟨_, hy1⟩ : Fin 1024)) := by
    rw [sums m c _ t.val t.isLt, ht, upTo_all, ref_g]
    rfl
  rw [after0_6]
  refine Eq.trans ?_ (key.trans (congrArg _ ?_))
  · blk_simp
    exact congrArg _ ((eq_ix2 y).trans (congrArg (fun z => ix2 z _) (Fin.eq_zero _)))
  · blk_ext [e]

open Idealize.SL.Sem

/-- The frame of the reference. -/
theorem ref_frame : quiescent_Reference14Ideal := fun m ρ _ => (θ_run Cert.Reference14Ideal.defs _ _).mono
  (fun r h => ⟨fun c => (h c).2.2, sem_eq_zero_of_no_sems (by decide) r.2⟩)
  (Cert.Reference14Ideal.Value.run (F := Ideal) m ρ)

open Cert.Reference14Ideal.Read in
/-- Both programs leave the same two arrays. -/
theorem equal : algebraic_Kernel14Ideal_Reference14Ideal := by
  intro m ρ m' ρ' _ hargs
  refine ⟨fun c => val_main_v42 (F := Ideal) (dz m c) (wIn m c) (h m c) (grad m c) (g1 m c),
    fun c => val_main_v43 (F := Ideal) (dz m c) (wIn m c) (h m c), ?_, ?_⟩
  · refine (θ_run Cert.Kernel14Ideal.defs _ _).mono (fun r h c => ?_) (Cert.Kernel14Ideal.Value.run_blocks (F := Ideal) m ρ)
    obtain ⟨e0, e1, keep⟩ := h c
    exact ⟨e0.trans (array_h m c), e1.trans (array_g m c), keep⟩
  · refine (θ_run Cert.Reference14Ideal.defs _ _).mono (fun r h c => ?_) (Cert.Reference14Ideal.Value.run (F := Ideal) m' ρ')
    obtain ⟨e0, e1, keep⟩ := h c
    obtain ⟨a0, a1, a2, a3, a4⟩ := hargs c
    refine ⟨e0.trans ((val_main_v42_eq ..).trans ?_), e1.trans ((val_main_v43_eq ..).trans ?_), keep⟩
    · rw [a0, a1, a2, a3, a4]
    · rw [a0, a1, a2]

end Cert.DN1First
-- ==== Proof.GateBack.lean ====
module
public import proofs.«01_k».proof.Proof.NormBack
public import Mathlib.Tactic.Ring
public import Mathlib.Tactic.FieldSimp
public import Mathlib.Tactic.Linarith

/-!
# Back through the gates and the norm of a head

The mixer's result is two halves. The first is the scan's output times the GELU of a gate, the second the attention's
output, normalised in each head of 128 entries, times a gain and the SiLU of another gate. Here are the gradients of these
as the kernel forms them, each in one expression, and as the reference does, which differentiates one operation at a time.
Both agree on reals.
-/

@[expose] public section
noncomputable section
namespace Cert.GateBack
open Idealize.ShloMosaic Cert.NormBack

/-- The factor of the cube in the GELU, and three times that. -/
def cube : ℝ := 8943 / 200000
def cube3 : ℝ := 26829 / 200000

/-- The root of 2/π as the GELU has it, and a half. -/
abbrev root : EReal := Ideal.ofBits FTy.f32 0x3F4C422A#32
abbrev half : EReal := Ideal.ofBits FTy.f32 0x3F000000#32

/-- The GELU's tangent. -/
def bend (x : EReal) : EReal := Ideal.tanh (root * (x + (cube : EReal) * x * x * x))

/-- The GELU and its slope, as the kernel forms them. -/
def gelu (x : EReal) : EReal := half * x * (1 + bend x)
def geluSlope (x : EReal) : EReal :=
  half * (1 + bend x) + half * x * (1 - bend x * bend x) * root * (1 + (cube3 : EReal) * x * x)

/-- The logistic function, the SiLU and its slope, as the kernel forms them. -/
def sigma (x : EReal) : EReal := Ideal.div 1 (1 + Ideal.exp (0 - x))
def silu (x : EReal) : EReal := x * sigma x
def siluSlope (x : EReal) : EReal := sigma x * (1 + x * (1 - sigma x))

/-- The mean square of a head, kept away from zero, its normalised entries and their gradient as the kernel takes it. -/
def var (x : Fin 128 → EReal) : EReal :=
  Ideal.div (∑ k, x k * x k) (Ideal.ofBits FTy.f32 0x43000000#32) + Ideal.ofBits FTy.f32 0x358637BD#32
def unit (x : Fin 128 → EReal) (b : Fin 128) : EReal := x b * Ideal.rsqrt (var x)
def back (x d : Fin 128 → EReal) (b : Fin 128) : EReal :=
  Ideal.rsqrt (var x) * (d b - unit x b * Ideal.div (∑ k, d k * unit x k) (Ideal.ofBits FTy.f32 0x43000000#32))

/-- The gradient of the mean square, as the reference takes it, divided among the entries. -/
def share (x d : Fin 128 → EReal) : EReal :=
  Ideal.div ((∑ k, x k * d k) * (Ideal.ofBits FTy.f32 0xBF000000#32 * Ideal.div (Ideal.rsqrt (var x)) (var x)))
    (Ideal.ofBits FTy.f32 0x43000000#32)

theorem bits_128 : Ideal.ofBits FTy.f32 0x43000000#32 = ((128 : ℝ) : EReal) := by
  simp only [Ideal.ofBits, Ideal.ieee]
  simp
  rw [← EReal.coe_mul]
  norm_num

theorem bits_root : ∃ r : ℝ, root = (r : EReal) := by
  refine ⟨13386282 * (2 : ℝ) ^ (-24 : ℤ), ?_⟩
  simp only [Ideal.ofBits, Ideal.ieee]
  simp

theorem half_eq : half = ((1 / 2 : ℝ) : EReal) := by
  simp only [Ideal.ofBits, Ideal.ieee]
  simp
  rw [← EReal.coe_mul]
  norm_num

theorem three_eq : Ideal.ofBits FTy.f32 0x40400000#32 = ((3 : ℝ) : EReal) := by
  simp only [Ideal.ofBits, Ideal.ieee]
  simp
  rw [← EReal.coe_mul]
  norm_num

/-- The reference divides two whole numbers for the factor of the cube. -/
theorem cube_eq : Ideal.div (Ideal.ofBits FTy.f32 0x472EAB00#32) (Ideal.ofBits FTy.f32 0x49742400#32) = (cube : EReal) := by
  have hn : Ideal.ofBits FTy.f32 0x472EAB00#32 = ((44715 : ℝ) : EReal) := by
    simp only [Ideal.ofBits, Ideal.ieee]
    simp
    rw [← EReal.coe_mul]
    norm_num
  have hd : Ideal.ofBits FTy.f32 0x49742400#32 = ((1000000 : ℝ) : EReal) := by
    simp only [Ideal.ofBits, Ideal.ieee]
    simp
    rw [← EReal.coe_mul]
    norm_num
  rw [hn, hd, Ideal.div_coe (by norm_num), ← EReal.coe_mul, cube]
  norm_num

theorem one_coe : (1 : EReal) = ((1 : ℝ) : EReal) := rfl

/-- The tangent, its argument written with the cube first as the reference does. -/
theorem bend_cube (x : EReal) : Ideal.tanh (root * (x + (cube : EReal) * (x * x * x))) = bend x := by
  unfold bend
  rw [mul_assoc (cube : EReal), mul_assoc (cube : EReal)]

theorem bend_real (x : ℝ) : ∃ t : ℝ, bend x = t := by
  obtain ⟨r, hr⟩ := bits_root
  refine ⟨Real.tanh (r * (x + cube * x * x * x)), ?_⟩
  rw [bend, hr]
  exact (congrArg Ideal.tanh (by simp only [EReal.coe_mul, EReal.coe_add])).trans (Ideal.tanh_coe _)

/-- The gradient through the GELU: the reference's sum of the three ways in which the gate enters. -/
theorem slope_eq (d h x : ℝ) :
    root * (half * x * (((h : EReal) * d)) * ((1 + bend x) * (1 - bend x)))
      + (cube : EReal) * (root * (half * x * ((h : EReal) * d) * ((1 + bend x) * (1 - bend x))))
        * (Ideal.ofBits FTy.f32 0x40400000#32 * ((x : EReal) * x))
      + half * ((h : EReal) * d * (1 + bend x)) = (d : EReal) * h * geluSlope x := by
  obtain ⟨r, hr⟩ := bits_root
  obtain ⟨t, ht⟩ := bend_real x
  unfold geluSlope
  rw [hr, ht, half_eq, three_eq, one_coe, cube, cube3]
  simp only [← EReal.coe_mul, ← EReal.coe_add, ← EReal.coe_sub]
  exact congrArg _ (by ring)

theorem sigma_real (x : ℝ) : ∃ s : ℝ, sigma x = s := by
  refine ⟨1 / (1 + Real.exp (0 - x)), ?_⟩
  have h : (1 + Real.exp (0 - x)) ≠ 0 := by positivity
  unfold sigma
  rw [one_coe, ← EReal.coe_zero, ← EReal.coe_sub, Ideal.exp_coe, ← EReal.coe_add, Ideal.div_coe h, ← EReal.coe_mul, one_mul]

/-- The gradient through the SiLU, in the reference a sum as the gate enters twice. -/
theorem silu_eq (u g d x : ℝ) : (u : EReal) * g * d * sigma x + (x : EReal) * ((u : EReal) * g * d) * (sigma x * (1 - sigma x))
    = (d : EReal) * u * g * siluSlope x := by
  obtain ⟨s, hs⟩ := sigma_real x
  unfold siluSlope
  rw [hs, one_coe]
  simp only [← EReal.coe_mul, ← EReal.coe_add, ← EReal.coe_sub]
  exact congrArg _ (by ring)

theorem div_128 (x : EReal) : Ideal.div x (Ideal.ofBits FTy.f32 0x43000000#32) = x * ((128⁻¹ : ℝ) : EReal) := by
  rw [bits_128, Ideal.div_coe (by norm_num), one_div]

theorem var_real (y : Fin 128 → ℝ) : ∃ v : ℝ, 0 < v ∧ var (fun k => (y k : EReal)) = (v : EReal) := by
  obtain ⟨e, he, hb⟩ := bits_eps
  refine ⟨(∑ k, y k * y k) * 128⁻¹ + e, ?_, ?_⟩
  · have : 0 ≤ ∑ k, y k * y k := Finset.sum_nonneg fun k _ => mul_self_nonneg _
    positivity
  · unfold var
    rw [div_128, hb, EReal.coe_add, EReal.coe_mul, coe_sum]
    simp only [EReal.coe_mul]

theorem rsqrt_real {v : ℝ} (h : 0 < v) : Ideal.rsqrt (v : EReal) = (((Real.sqrt v)⁻¹ : ℝ) : EReal) := by
  rw [Ideal.rsqrt_coe, if_neg h.le.not_gt, if_neg h.ne']

theorem unit_real (y : Fin 128 → ℝ) : ∃ u : Fin 128 → ℝ, ∀ b, unit (fun k => (y k : EReal)) b = (u b : EReal) := by
  obtain ⟨v, hv, h⟩ := var_real y
  refine ⟨fun b => y b * (Real.sqrt v)⁻¹, fun b => ?_⟩
  rw [unit, h, rsqrt_real hv, EReal.coe_mul]

/-- The gradient through the norm of a head. -/
theorem back_eq (x d : Fin 128 → ℝ) (b : Fin 128) :
    (d b : EReal) * Ideal.rsqrt (var fun k => (x k : EReal)) + (x b : EReal) * share (fun k => (x k : EReal)) (fun k => (d k : EReal))
      + share (fun k => (x k : EReal)) (fun k => (d k : EReal)) * (x b : EReal)
      = back (fun k => (x k : EReal)) (fun k => (d k : EReal)) b := by
  obtain ⟨v, hv, h⟩ := var_real x
  unfold back share unit
  simp only [h, rsqrt_real hv, div_128, bits_half, Ideal.div_coe hv.ne', ← EReal.coe_mul, ← EReal.coe_add, ← EReal.coe_sub, ← coe_sum]
  refine congrArg _ ?_
  have e1 : ∑ k, d k * (x k * (Real.sqrt v)⁻¹) = (∑ k, x k * d k) * (Real.sqrt v)⁻¹ := by
    rw [Finset.sum_mul]
    exact Finset.sum_congr rfl fun k _ => by ring
  have e2 : (Real.sqrt v)⁻¹ * (1 / v) = (Real.sqrt v)⁻¹ * ((Real.sqrt v)⁻¹ * (Real.sqrt v)⁻¹) := by
    rw [one_div, ← mul_inv (Real.sqrt v) (Real.sqrt v), Real.mul_self_sqrt hv.le]
  rw [e1, e2]
  ring

end Cert.GateBack
-- ==== Proof.DYMixKernel.lean ====
module
public import proofs.«01_k».proof.Proof.Product
public import proofs.«01_k».proof.Proof.GateBack
public import proofs.«01_k».proof.Proof.Gen.Kernel15Ideal.Skeleton
public import Idealize.ShloMosaic.PureOps.IdealRules

/-!
# The gradients behind the mixer's result: what a grid point computes

A grid point forms 768 rows of the product of the residual's gradient with `w_out` transposed, which is the gradient of
the mixer's result, and takes each row back through the gates and the norm of the heads. The kernel cuts the row's second
half into four heads of 128 columns and glues the four gradients together.
-/

@[expose] public section
set_option maxRecDepth 16384
noncomputable section
namespace Cert.DYMix
open Idealize.ShloMosaic Idealize.ShloMosaic.TcCoe Cert.Kernel15Ideal Cert.Kernel15Ideal.Gen Cert.GateBack

/-- Column `k` of head `q`, and the columns of the two halves of a row of 1024. -/
def col (q : Fin 4) (k : Fin 128) : Fin 512 := ⟨128 * q.val + k.val, by omega⟩
def low (b : Fin 512) : Fin 1024 := ⟨b.val, by omega⟩
def high (b : Fin 512) : Fin 1024 := ⟨512 + b.val, by omega⟩

theorem col_zero (k : Fin 128) : col 0 k = ⟨k.val, by omega⟩ := Fin.ext (by show 128 * 0 + k.val = k.val; omega)

/-- Every column lies in a head. -/
theorem col_surj (b : Fin 512) : ∃ q k, b = col q k :=
  ⟨⟨b.val / 128, by omega⟩, ⟨b.val % 128, by omega⟩, Fin.ext (Nat.div_add_mod b.val 128).symm⟩

theorem of_four {p : Fin 4 → Prop} (h0 : p 0) (h1 : p 1) (h2 : p 2) (h3 : p 3) (q : Fin 4) : p q := by
  fin_cases q <;> assumption

/-- Four heads glued together. -/
theorem glue (w : Fin 4 → Fin 128 → EReal) (q : Fin 4) (k : Fin 128) :
    (if h : (col q k).val < 128 then w 0 ⟨(col q k).val, h⟩
      else if h : (col q k).val - 128 < 128 then w 1 ⟨(col q k).val - 128, h⟩
      else if h : (col q k).val - 128 - 128 < 128 then w 2 ⟨(col q k).val - 128 - 128, h⟩
      else w 3 ⟨(col q k).val - 128 - 128 - 128, by omega⟩) = w q k := by
  have e : ∀ q : Fin 4, (col q k).val = 128 * q.val + k.val := fun _ => rfl
  revert q
  refine of_four ?_ ?_ ?_ ?_
  · have h : (col 0 k).val < 128 := by have := e 0; omega
    rw [dif_pos h]
    exact congrArg (w 0) (Fin.ext (by have := e 0; dsimp only; omega))
  · have g : (col 1 k).val = 128 * 1 + k.val := e 1
    rw [dif_neg (by omega), dif_pos (by omega)]
    exact congrArg (w 1) (Fin.ext (by dsimp only; omega))
  · have g : (col 2 k).val = 128 * 2 + k.val := e 2
    rw [dif_neg (by omega), dif_neg (by omega), dif_pos (by omega)]
    exact congrArg (w 2) (Fin.ext (by dsimp only; omega))
  · have g : (col 3 k).val = 128 * 3 + k.val := e 3
    rw [dif_neg (by omega), dif_neg (by omega), dif_neg (by omega)]
    exact congrArg (w 3) (Fin.ext (by dsimp only; omega))

/-- The rows that enter a row of the gradients: of the gradient of the mixer's result, of the two scans, of the input
projection that holds the gate in its second half, of the attention's two directions and of its gate; and the gain. -/
@[ext] structure Row where
  d : Fin 1024 → EReal
  h1 : Fin 512 → EReal
  h2 : Fin 512 → EReal
  z : Fin 1024 → EReal
  o1 : Fin 512 → EReal
  o2 : Fin 512 → EReal
  g : Fin 512 → EReal
  n : Fin 512 → EReal

namespace Row
variable (R : Row) (b : Fin 512) (q : Fin 4) (k : Fin 128)

/-- A head of the attention's output, and the gradient of its normalised values. -/
def head (k : Fin 128) : EReal := R.o1 (col q k) + R.o2 (col q k)
def into (k : Fin 128) : EReal := R.d (high (col q k)) * R.n (col q k) * silu (R.g (col q k))

/-- The gradients of the scan's output, of its gate, of the attention's output and of its gate, and a row's part of the
gain's gradient. -/
def dh : EReal := R.d (low b) * gelu (R.z (high b))
def dz : EReal := R.d (low b) * (R.h1 b + R.h2 b) * geluSlope (R.z (high b))
def dO : EReal := back (R.head q) (R.into q) k
def dg : EReal := R.d (high (col q k)) * unit (R.head q) k * R.n (col q k) * siluSlope (R.g (col q k))
def dn : EReal := R.d (high (col q k)) * unit (R.head q) k * silu (R.g (col q k))
end Row

theorem cube_named : Named.named (F := Ideal) κ "gelu_a" (φ := .f32) 0x3D372713#32 = (cube : EReal) :=
  IdealRules.named_const.ideal_named_scalar _ _ _ _ rfl

theorem cube3_named : Named.named (F := Ideal) κ "gelu_3a" (φ := .f32) 0x3E095D4F#32 = (cube3 : EReal) :=
  IdealRules.named_const.ideal_named_scalar _ _ _ _ rfl

variable (x0 : Vec Ideal S768x1024 .bf16) (x1 : Vec Ideal S1024x1024 .bf16) (x2 x3 : Vec Ideal S768x512 .f32)
  (x4 : Vec Ideal S768x1024 .f32) (x5 x6 x7 : Vec Ideal S768x512 .f32) (x8 : Vec Ideal S1x512 .f32) (v : FVec Ideal S768x512 .f32)
  (a : Fin 768) (b : Fin 512) (q : Fin 4) (k : Fin 128)

/-- Row `a` of a grid point's blocks. -/
def rowOf : Row where
  d := fun b => ∑ j : Fin 1024, x0 (ix2 a j) * x1 (ix2 b j)
  h1 := fun b => x2 (ix2 a b)
  h2 := fun b => x3 (ix2 a b)
  z := fun b => x4 (ix2 a b)
  o1 := fun b => x5 (ix2 a b)
  o2 := fun b => x6 (ix2 a b)
  g := fun b => x7 (ix2 a b)
  n := fun b => x8 (ix2 0 b)

/-! The payloads of the first half. -/

theorem pay3_apply (b : Fin 1024) : k0_pay3 x0 x1 (ix2 a b) = ∑ j : Fin 1024, x0 (ix2 a j) * x1 (ix2 b j) := by
  pointwise [k0_pay3]

theorem pay5_apply : k0_pay5 x0 x1 (ix2 a b) = k0_pay3 x0 x1 (ix2 a (high b)) := by
  pointwise [k0_pay5]
  rfl

theorem pay6_apply : k0_pay6 x4 (ix2 a b) = x4 (ix2 a (high b)) := by
  pointwise [k0_pay6]
  rfl

theorem pay7_apply : k0_pay7 x0 x1 x4 (ix2 a b) = (rowOf x0 x1 x2 x3 x4 x5 x6 x7 x8 a).dh b := by
  show _ = (∑ j : Fin 1024, x0 (ix2 a j) * x1 (ix2 (low b) j)) * gelu (x4 (ix2 a (high b)))
  rw [← pay6_apply x4 a b, ← pay3_apply x0 x1 a (low b)]
  unfold gelu bend
  rw [← cube_named]
  pointwise [k0_pay7, k0_pay4]
  rfl

theorem pay10_apply : k0_pay10 (k0_pay6 x4) (k0_pay8 x0 x1 x2 x3) (k0_pay9 x4) (ix2 a b)
    = (rowOf x0 x1 x2 x3 x4 x5 x6 x7 x8 a).dz b := by
  show _ = (∑ j : Fin 1024, x0 (ix2 a j) * x1 (ix2 (low b) j)) * (x2 (ix2 a b) + x3 (ix2 a b)) * geluSlope (x4 (ix2 a (high b)))
  rw [← pay6_apply x4 a b, ← pay3_apply x0 x1 a (low b)]
  unfold geluSlope bend
  rw [← cube_named, ← cube3_named]
  pointwise [k0_pay10, k0_pay9, k0_pay8, k0_pay4]
  rfl

theorem pay11_apply : k0_pay11 x5 x6 (ix2 a b) = x5 (ix2 a b) + x6 (ix2 a b) := by
  pointwise [k0_pay11]

theorem silu_apply : k0_pay26 x7 (ix2 a b) = silu (x7 (ix2 a b)) := by
  unfold silu sigma
  pointwise [k0_pay26, k0_pay25]

theorem siluSlope_apply : k0_pay27 x7 (ix2 a b) = siluSlope (x7 (ix2 a b)) := by
  unfold siluSlope sigma
  pointwise [k0_pay27, k0_pay25]

/-! The root of each head's mean square and its normalised values. -/

theorem root_0 : k0_pay13 x5 x6 (ix2 a 0) = Ideal.rsqrt (var fun k => k0_pay11 x5 x6 (ix2 a (col 0 k))) := by
  unfold var
  pointwise [k0_pay13, k0_pay12]
  rfl

theorem root_1 : k0_pay16 x5 x6 (ix2 a 0) = Ideal.rsqrt (var fun k => k0_pay11 x5 x6 (ix2 a (col 1 k))) := by
  unfold var
  pointwise [k0_pay16, k0_pay15]
  rfl

theorem root_2 : k0_pay20 v (ix2 a 0) = Ideal.rsqrt (var fun k => v (ix2 a (col 2 k))) := by
  unfold var
  pointwise [k0_pay20, k0_pay19]
  rfl

theorem root_3 : k0_pay23 v (ix2 a 0) = Ideal.rsqrt (var fun k => v (ix2 a (col 3 k))) := by
  unfold var
  pointwise [k0_pay23, k0_pay22]
  rfl

theorem unit_0 : k0_pay14 x5 x6 (ix2 a k) = unit (fun k => k0_pay11 x5 x6 (ix2 a (col 0 k))) k := by
  unfold unit
  rw [← root_0]
  pointwise [k0_pay14, k0_pay12]
  rw [col_zero]

theorem unit_1 : k0_pay18 (k0_pay15 x5 x6) (k0_pay17 x5 x6) (ix2 a k) = unit (fun k => k0_pay11 x5 x6 (ix2 a (col 1 k))) k := by
  unfold unit
  rw [← root_1]
  pointwise [k0_pay18, k0_pay17, k0_pay15]
  rfl

theorem unit_2 : k0_pay21 v (ix2 a k) = unit (fun k => v (ix2 a (col 2 k))) k := by
  unfold unit
  rw [← root_2]
  pointwise [k0_pay21, k0_pay19]
  rfl

theorem unit_3 : k0_pay24 v (ix2 a k) = unit (fun k => v (ix2 a (col 3 k))) k := by
  unfold unit
  rw [← root_3]
  pointwise [k0_pay24, k0_pay22]
  rfl

/-- The gradient of a normalised value from the blocks the kernel has computed. -/
def given (q : Fin 4) (k : Fin 128) : EReal := v (ix2 a (col q k)) * x8 (ix2 0 (col q k)) * k0_pay26 x7 (ix2 a (col q k))

/-- Entry `k` of head `q` of what the kernel glues together for the attention's output. -/
theorem heads_o (r0 r1 r2 r3 : FVec Ideal S768x1 .f32) (u0 u1 u2 u3 : FVec Ideal S768x128 .f32) (r : Fin 4 → EReal) (u : Fin 4 → Fin 128 → EReal)
    (hr0 : r0 (ix2 a 0) = r 0) (hr1 : r1 (ix2 a 0) = r 1) (hr2 : r2 (ix2 a 0) = r 2) (hr3 : r3 (ix2 a 0) = r 3)
    (hu0 : ∀ k, u0 (ix2 a k) = u 0 k) (hu1 : ∀ k, u1 (ix2 a k) = u 1 k) (hu2 : ∀ k, u2 (ix2 a k) = u 2 k) (hu3 : ∀ k, u3 (ix2 a k) = u 3 k) :
    k0_pay44 x8 v r2 u2 r3 u3 (k0_pay26 x7) (k0_pay32 r0 u0 (k0_pay29 x7 x8 v) (k0_pay30 x7 x8 v u0) k0_pay31)
      (k0_pay36 x8 v r1 u1 (k0_pay26 x7)) (k0_pay40 x8 v (k0_pay26 x7)) (k0_pay41 x8 v u2 (k0_pay26 x7)) k0_pay42 (ix2 a (col q k))
      = r q * (given x7 x8 v a q k - u q k * Ideal.div (∑ k, given x7 x8 v a q k * u q k) (Ideal.ofBits FTy.f32 0x43000000#32)) := by
  refine Eq.trans ?_ (glue (fun q k => r q * (given x7 x8 v a q k - u q k * Ideal.div (∑ k, given x7 x8 v a q k * u q k) (Ideal.ofBits FTy.f32 0x43000000#32))) q k)
  unfold given
  simp only [← hr0, ← hr1, ← hr2, ← hr3, ← hu0, ← hu1, ← hu2, ← hu3, col_zero]
  pointwise [k0_pay44, k0_pay43, k0_pay32, k0_pay36, k0_pay28, k0_pay29, k0_pay30, k0_pay31, k0_pay35, k0_pay39, k0_pay40, k0_pay41, k0_pay42]
  rfl

/-- Entry `k` of head `q` of what it glues together for the gate of the attention's output. -/
theorem heads_g (u0 u1 u2 u3 : FVec Ideal S768x128 .f32) (u : Fin 4 → Fin 128 → EReal)
    (hu0 : ∀ k, u0 (ix2 a k) = u 0 k) (hu1 : ∀ k, u1 (ix2 a k) = u 1 k) (hu2 : ∀ k, u2 (ix2 a k) = u 2 k) (hu3 : ∀ k, u3 (ix2 a k) = u 3 k) :
    k0_pay45 x8 v u2 u3 (k0_pay27 x7) (k0_pay33 x8 u0 (k0_pay27 x7) (k0_pay28 v)) (k0_pay37 x8 v u1 (k0_pay27 x7)) (k0_pay39 v) (ix2 a (col q k))
      = v (ix2 a (col q k)) * u q k * x8 (ix2 0 (col q k)) * k0_pay27 x7 (ix2 a (col q k)) := by
  refine Eq.trans ?_ (glue (fun q k => v (ix2 a (col q k)) * u q k * x8 (ix2 0 (col q k)) * k0_pay27 x7 (ix2 a (col q k))) q k)
  simp only [← hu0, ← hu1, ← hu2, ← hu3, col_zero]
  pointwise [k0_pay45, k0_pay43, k0_pay33, k0_pay37, k0_pay28, k0_pay35, k0_pay39]
  rfl

/-- And of the gain's gradient, the sum over the point's rows. -/
theorem heads_n (u0 u1 u2 u3 : FVec Ideal S768x128 .f32) (u : Fin 768 → Fin 4 → Fin 128 → EReal)
    (hu0 : ∀ a k, u0 (ix2 a k) = u a 0 k) (hu1 : ∀ a k, u1 (ix2 a k) = u a 1 k) (hu2 : ∀ a k, u2 (ix2 a k) = u a 2 k)
    (hu3 : ∀ a k, u3 (ix2 a k) = u a 3 k) :
    k0_pay46 v u2 u3 (k0_pay26 x7) (k0_pay34 u0 (k0_pay26 x7) (k0_pay28 v)) (k0_pay38 v u1 (k0_pay26 x7)) (k0_pay39 v) (ix2 0 (col q k))
      = ∑ a, v (ix2 a (col q k)) * u a q k * k0_pay26 x7 (ix2 a (col q k)) := by
  refine Eq.trans ?_ (glue (fun q k => ∑ a : Fin 768, v (ix2 a (col q k)) * u a q k * k0_pay26 x7 (ix2 a (col q k))) q k)
  simp only [← hu0, ← hu1, ← hu2, ← hu3, col_zero]
  pointwise [k0_pay46, k0_pay43, k0_pay34, k0_pay38, k0_pay28, k0_pay35, k0_pay39]
  rfl

/-! What a grid point leaves in its five blocks, all four heads together. -/

/-- The gradient of the attention's output, -/
def leftO : FVec Ideal S768x512 .f32 :=
  k0_pay44 x8 (k0_pay5 x0 x1) (k0_pay20 (k0_pay11 x5 x6)) (k0_pay21 (k0_pay11 x5 x6)) (k0_pay23 (k0_pay11 x5 x6)) (k0_pay24 (k0_pay11 x5 x6))
    (k0_pay26 x7) (k0_pay32 (k0_pay13 x5 x6) (k0_pay14 x5 x6) (k0_pay29 x7 x8 (k0_pay5 x0 x1)) (k0_pay30 x7 x8 (k0_pay5 x0 x1) (k0_pay14 x5 x6)) k0_pay31)
    (k0_pay36 x8 (k0_pay5 x0 x1) (k0_pay16 x5 x6) (k0_pay18 (k0_pay15 x5 x6) (k0_pay17 x5 x6)) (k0_pay26 x7))
    (k0_pay40 x8 (k0_pay5 x0 x1) (k0_pay26 x7)) (k0_pay41 x8 (k0_pay5 x0 x1) (k0_pay21 (k0_pay11 x5 x6)) (k0_pay26 x7)) k0_pay42

/-- of its gate, -/
def leftG : FVec Ideal S768x512 .f32 :=
  k0_pay45 x8 (k0_pay5 x0 x1) (k0_pay21 (k0_pay11 x5 x6)) (k0_pay24 (k0_pay11 x5 x6)) (k0_pay27 x7)
    (k0_pay33 x8 (k0_pay14 x5 x6) (k0_pay27 x7) (k0_pay28 (k0_pay5 x0 x1)))
    (k0_pay37 x8 (k0_pay5 x0 x1) (k0_pay18 (k0_pay15 x5 x6) (k0_pay17 x5 x6)) (k0_pay27 x7)) (k0_pay39 (k0_pay5 x0 x1))

/-- and the point's part of the gain's. -/
def leftN : FVec Ideal S1x512 .f32 :=
  k0_pay46 (k0_pay5 x0 x1) (k0_pay21 (k0_pay11 x5 x6)) (k0_pay24 (k0_pay11 x5 x6)) (k0_pay26 x7)
    (k0_pay34 (k0_pay14 x5 x6) (k0_pay26 x7) (k0_pay28 (k0_pay5 x0 x1)))
    (k0_pay38 (k0_pay5 x0 x1) (k0_pay18 (k0_pay15 x5 x6) (k0_pay17 x5 x6)) (k0_pay26 x7)) (k0_pay39 (k0_pay5 x0 x1))

/-- The heads of a row as the kernel reads them. -/
theorem head_eq (q : Fin 4) : (fun k => k0_pay11 x5 x6 (ix2 a (col q k))) = (rowOf x0 x1 x2 x3 x4 x5 x6 x7 x8 a).head q :=
  funext fun k => pay11_apply x5 x6 a (col q k)

theorem into_eq (q : Fin 4) (k : Fin 128) : given x7 x8 (k0_pay5 x0 x1) a q k = (rowOf x0 x1 x2 x3 x4 x5 x6 x7 x8 a).into q k := by
  unfold given
  rw [pay5_apply, pay3_apply, silu_apply]
  rfl

theorem leftO_apply : leftO x0 x1 x5 x6 x7 x8 (ix2 a (col q k)) = (rowOf x0 x1 x2 x3 x4 x5 x6 x7 x8 a).dO q k := by
  unfold leftO Row.dO back
  rw [heads_o x7 x8 _ a q k _ _ _ _ _ _ _ _ (fun q => Ideal.rsqrt (var fun k => k0_pay11 x5 x6 (ix2 a (col q k))))
    (fun q => unit fun k => k0_pay11 x5 x6 (ix2 a (col q k))) (root_0 ..) (root_1 ..) (root_2 ..) (root_3 ..)
    (unit_0 x5 x6 a) (unit_1 x5 x6 a) (unit_2 _ a) (unit_3 _ a)]
  simp only [head_eq x0 x1 x2 x3 x4 x5 x6 x7 x8 a, into_eq x0 x1 x2 x3 x4 x5 x6 x7 x8 a]

theorem leftG_apply : leftG x0 x1 x5 x6 x7 x8 (ix2 a (col q k)) = (rowOf x0 x1 x2 x3 x4 x5 x6 x7 x8 a).dg q k := by
  unfold leftG Row.dg
  rw [heads_g x7 x8 _ a q k _ _ _ _ (fun q => unit fun k => k0_pay11 x5 x6 (ix2 a (col q k)))
    (unit_0 x5 x6 a) (unit_1 x5 x6 a) (unit_2 _ a) (unit_3 _ a)]
  simp only [head_eq x0 x1 x2 x3 x4 x5 x6 x7 x8 a, pay5_apply, pay3_apply, siluSlope_apply]
  rfl

theorem leftN_apply : leftN x0 x1 x5 x6 x7 (ix2 0 (col q k)) = ∑ a, (rowOf x0 x1 x2 x3 x4 x5 x6 x7 x8 a).dn q k := by
  unfold leftN
  rw [heads_n x7 _ q k _ _ _ _ (fun a q => unit fun k => k0_pay11 x5 x6 (ix2 a (col q k)))
    (unit_0 x5 x6) (unit_1 x5 x6) (unit_2 _) (unit_3 _)]
  refine Finset.sum_congr rfl fun a _ => ?_
  unfold Row.dn
  simp only [head_eq x0 x1 x2 x3 x4 x5 x6 x7 x8 a, pay5_apply, pay3_apply, silu_apply]
  rfl

/-- The gain's gradient starts at zero, and a point adds its rows' part. -/
theorem start_apply : k0_pay1 (F := Ideal) (ix2 0 b) = 0 := by
  pointwise [k0_pay1]

theorem add_apply (x acc : Vec Ideal S1x512 .f32) : k0_pay2 x acc (ix2 0 b) = acc (ix2 0 b) + x (ix2 0 b) := by
  pointwise [k0_pay2]

end Cert.DYMix
-- ==== Proof.DYMixReference.lean ====
module
public import proofs.«01_k».proof.Proof.DYMixKernel
public import proofs.«01_k».proof.Proof.Gen.Reference15Ideal.Read

/-!
# The gradients behind the mixer's result: the reference

The reference writes the gates and the norm plainly and differentiates them. On a row of reals its five results are the
kernel's expressions.
-/

@[expose] public section
set_option maxRecDepth 16384
noncomputable section
namespace Cert.DYMix
open Idealize.ShloMosaic Idealize.ShloMosaic.TcCoe Cert.Reference15Ideal Cert.GateBack

/-- A row of reals. -/
structure Row.IsReal (R : Row) : Prop where
  d : ∀ b, ∃ r : ℝ, R.d b = r
  h1 : ∀ b, ∃ r : ℝ, R.h1 b = r
  h2 : ∀ b, ∃ r : ℝ, R.h2 b = r
  z : ∀ b, ∃ r : ℝ, R.z b = r
  o1 : ∀ b, ∃ r : ℝ, R.o1 b = r
  o2 : ∀ b, ∃ r : ℝ, R.o2 b = r
  g : ∀ b, ∃ r : ℝ, R.g b = r
  n : ∀ b, ∃ r : ℝ, R.n b = r

namespace Row.IsReal
variable {R : Row} (H : R.IsReal)
include H

theorem head (q : Fin 4) : ∃ y : Fin 128 → ℝ, R.head q = fun k => (y k : EReal) := by
  choose y1 h1 using H.o1
  choose y2 h2 using H.o2
  refine ⟨fun k => y1 (col q k) + y2 (col q k), funext fun k => ?_⟩
  rw [Row.head, h1, h2, EReal.coe_add]

theorem into (q : Fin 4) : ∃ y : Fin 128 → ℝ, R.into q = fun k => (y k : EReal) := by
  choose d hd using H.d
  choose n hn using H.n
  choose g hg using H.g
  choose s hs using sigma_real
  refine ⟨fun k => d (high (col q k)) * n (col q k) * (g (col q k) * s (g (col q k))), funext fun k => ?_⟩
  rw [Row.into, hd, hn, hg, silu, hs, EReal.coe_mul, EReal.coe_mul, EReal.coe_mul]
end Row.IsReal

theorem col_mul (q : Fin 4) (k : Fin 128) (h : q.val * 128 + k.val < 512) : (⟨q.val * 128 + k.val, h⟩ : Fin 512) = col q k :=
  Fin.ext (by show q.val * 128 + k.val = 128 * q.val + k.val; omega)

theorem col_div (q : Fin 4) (k : Fin 128) (h : (col q k).val / 128 < 4) : (⟨(col q k).val / 128, h⟩ : Fin 4) = q :=
  Fin.ext (by show (128 * q.val + k.val) / 128 = q.val; omega)

theorem col_mod (q : Fin 4) (k : Fin 128) (h : (col q k).val % 128 < 128) : (⟨(col q k).val % 128, h⟩ : Fin 128) = k :=
  Fin.ext (by show (128 * q.val + k.val) % 128 = k.val; omega)

variable (x0 : FVec Ideal S8448x1024 .bf16) (x1 : FVec Ideal S1024x1024 .bf16) (x2 x3 : FVec Ideal S8448x512 .f32)
  (x4 : FVec Ideal S8448x1024 .f32) (x5 x6 x7 : FVec Ideal S8448x512 .f32) (x8 : FVec Ideal S1x512 .f32)
  (i : Fin 8448) (b : Fin 512) (q : Fin 4) (k : Fin 128)

/-- Row `i` of the arguments. -/
def argRow : Row where
  d := fun b => ∑ j : Fin 1024, x0 (ix2 i j) * x1 (ix2 b j)
  h1 := fun b => x2 (ix2 i b)
  h2 := fun b => x3 (ix2 i b)
  z := fun b => x4 (ix2 i b)
  o1 := fun b => x5 (ix2 i b)
  o2 := fun b => x6 (ix2 i b)
  g := fun b => x7 (ix2 i b)
  n := fun b => x8 (ix2 0 b)

open Cert.Reference15Ideal.Read

/-! The reference's steps at an index. -/

theorem ref_d (b : Fin 1024) : val_main_v4 (F := Ideal) x0 x1 (ix2 i b) = ∑ j : Fin 1024, x0 (ix2 i j) * x1 (ix2 b j) := by
  unfold val_main_v4 val_main_v1 val_main_v0
  pointwise

theorem ref_low : val_main_v62 (F := Ideal) x0 x1 (ix2 i b) = ∑ j : Fin 1024, x0 (ix2 i j) * x1 (ix2 (low b) j) := by
  rw [← ref_d]
  unfold val_main_v62
  pointwise
  rfl

theorem ref_high : val_main_v63 (F := Ideal) x0 x1 (ix2 i b) = ∑ j : Fin 1024, x0 (ix2 i j) * x1 (ix2 (high b) j) := by
  rw [← ref_d]
  unfold val_main_v63
  pointwise
  rfl

theorem ref_z : val_main_v6 (F := Ideal) x4 (ix2 i b) = x4 (ix2 i (high b)) := by
  unfold val_main_v6
  pointwise
  rfl

theorem ref_bend : val_main_v22 (F := Ideal) x4 (ix2 i b) = bend (x4 (ix2 i (high b))) := by
  rw [← ref_z x4 i b, ← bend_cube, ← cube_eq]
  unfold val_main_v22 val_main_v21 val_main_v20 val_main_v19 val_main_v18 val_main_v17 val_main_v13 val_main_v12 val_main_v9 val_main_cst_0 val_main_cst_1 val_main_cst_4
  generalize val_main_v6 (F := Ideal) x4 = z
  pointwise

theorem ref_o : val_main_v32 (F := Ideal) x5 x6 (ix3 i q k) = x5 (ix2 i (col q k)) + x6 (ix2 i (col q k)) := by
  unfold val_main_v32 val_main_v7
  pointwise
  rw [col_mul]

theorem ref_var : val_main_v39 (F := Ideal) x5 x6 (ix3 i q 0) = var fun k => x5 (ix2 i (col q k)) + x6 (ix2 i (col q k)) := by
  unfold var
  simp only [← ref_o]
  unfold val_main_v39 val_main_v38 val_main_v37 val_main_v36 val_main_v35 val_main_v34 val_main_v33 val_main_cst_8 val_main_cst_9 val_main_cst_10
  generalize val_main_v32 (F := Ideal) x5 x6 = o
  pointwise

theorem ref_unit : val_main_v46 (F := Ideal) x5 x6 (ix2 i (col q k)) = unit (fun k => x5 (ix2 i (col q k)) + x6 (ix2 i (col q k))) k := by
  unfold unit
  dsimp only
  rw [← ref_o, ← ref_var]
  unfold val_main_v46 val_main_v45 val_main_v44 val_main_v40
  generalize val_main_v32 (F := Ideal) x5 x6 = o
  generalize val_main_v39 (F := Ideal) x5 x6 = v
  pointwise
  rw [col_div, col_mod]

theorem ref_sigma : val_main_v55 (F := Ideal) x7 (ix2 i b) = sigma (x7 (ix2 i b)) := by
  unfold sigma val_main_v55 val_main_v54 val_main_v53 val_main_v52 val_main_v51 val_main_v50 val_main_cst_12 val_main_cst_13
  rw [zero_sub]
  pointwise

theorem ref_into : val_main_v76 (F := Ideal) x0 x1 x7 x8 (ix3 i q k) = (argRow x0 x1 x2 x3 x4 x5 x6 x7 x8 i).into q k := by
  show _ = (∑ j : Fin 1024, x0 (ix2 i j) * x1 (ix2 (high (col q k)) j)) * x8 (ix2 0 (col q k)) * (x7 (ix2 i (col q k)) * sigma (x7 (ix2 i (col q k))))
  rw [← ref_high, ← ref_sigma]
  unfold val_main_v76 val_main_v74 val_main_v73 val_main_v65 val_main_v59 val_main_v47 val_main_v8
  generalize val_main_v63 (F := Ideal) x0 x1 = d
  generalize val_main_v55 (F := Ideal) x7 = s
  pointwise
  rw [col_mul]
  exact mul_right_comm _ _ _

/-! Its five results. -/

theorem ref_dh : val_main_v93 (F := Ideal) x0 x1 x4 (ix2 i b) = (argRow x0 x1 x2 x3 x4 x5 x6 x7 x8 i).dh b := by
  show _ = (∑ j : Fin 1024, x0 (ix2 i j) * x1 (ix2 (low b) j)) * (half * x4 (ix2 i (high b)) * (1 + bend (x4 (ix2 i (high b)))))
  rw [← ref_low, ← ref_bend, ← ref_z x4 i b]
  unfold val_main_v93 val_main_v30 val_main_v29 val_main_v28 val_main_v11 val_main_v10 val_main_cst_2 val_main_cst_7
  generalize val_main_v62 (F := Ideal) x0 x1 = d
  generalize val_main_v22 (F := Ideal) x4 = t
  generalize val_main_v6 (F := Ideal) x4 = z
  pointwise

theorem ref_dz (H : (argRow x0 x1 x2 x3 x4 x5 x6 x7 x8 i).IsReal) :
    val_main_v105 (F := Ideal) x0 x1 x2 x3 x4 (ix2 i b) = (argRow x0 x1 x2 x3 x4 x5 x6 x7 x8 i).dz b := by
  obtain ⟨d, hd⟩ := H.d (low b)
  obtain ⟨h1, e1⟩ := H.h1 b
  obtain ⟨h2, e2⟩ := H.h2 b
  obtain ⟨z, hz⟩ := H.z (high b)
  have e : (argRow x0 x1 x2 x3 x4 x5 x6 x7 x8 i).h1 b + (argRow x0 x1 x2 x3 x4 x5 x6 x7 x8 i).h2 b = ((h1 + h2 : ℝ) : EReal) := by
    rw [e1, e2, EReal.coe_add]
  unfold Row.dz
  rw [hd, e, hz, ← slope_eq, ← hd, ← e, ← hz, ← cube_eq]
  unfold argRow
  dsimp only
  rw [← ref_low, ← ref_bend, ← ref_z x4 i b]
  unfold val_main_v105 val_main_v104 val_main_v103 val_main_v102 val_main_v101 val_main_v100 val_main_v99 val_main_v98 val_main_v97 val_main_v96 val_main_v95
    val_main_v94 val_main_v92 val_main_v29 val_main_v28 val_main_v27 val_main_v26 val_main_v25 val_main_v24 val_main_v23 val_main_v16 val_main_v15 val_main_v14
    val_main_v11 val_main_v10 val_main_v9 val_main_v5 val_main_cst_0 val_main_cst_1 val_main_cst_2 val_main_cst_3 val_main_cst_5 val_main_cst_6 val_main_cst_7
    val_main_cst_20 val_main_cst_21
  generalize val_main_v62 (F := Ideal) x0 x1 = d
  generalize val_main_v22 (F := Ideal) x4 = t
  generalize val_main_v6 (F := Ideal) x4 = z
  pointwise

theorem ref_dO (H : (argRow x0 x1 x2 x3 x4 x5 x6 x7 x8 i).IsReal) :
    val_main_v91 (F := Ideal) x0 x1 x5 x6 x7 x8 (ix2 i (col q k)) = (argRow x0 x1 x2 x3 x4 x5 x6 x7 x8 i).dO q k := by
  obtain ⟨o, ho⟩ := H.head q
  obtain ⟨e, he⟩ := H.into q
  unfold Row.dO
  rw [ho, he, ← back_eq, ← congrFun he k, ← congrFun ho k, ← ho, ← he]
  unfold share
  simp only [← ref_into x0 x1 x2 x3 x4 x5 x6 x7 x8]
  have hv : var ((argRow x0 x1 x2 x3 x4 x5 x6 x7 x8 i).head q) = val_main_v39 (F := Ideal) x5 x6 (ix3 i q 0) := (ref_var x5 x6 i q).symm
  have hh : ∀ k, (argRow x0 x1 x2 x3 x4 x5 x6 x7 x8 i).head q k = val_main_v32 (F := Ideal) x5 x6 (ix3 i q k) := fun k => (ref_o x5 x6 i q k).symm
  simp only [hv, hh]
  unfold val_main_v91 val_main_v90 val_main_v89 val_main_v88 val_main_v87 val_main_v86 val_main_v85 val_main_v84 val_main_v83 val_main_v82 val_main_v81 val_main_v80
    val_main_v79 val_main_v78 val_main_v77 val_main_v43 val_main_v42 val_main_v41 val_main_v40 val_main_cst_11 val_main_cst_17 val_main_cst_18 val_main_cst_19
  generalize val_main_v32 (F := Ideal) x5 x6 = o
  generalize val_main_v39 (F := Ideal) x5 x6 = v
  generalize val_main_v76 (F := Ideal) x0 x1 x7 x8 = e
  pointwise
  simp only [Finset.univ_unique, Finset.sum_singleton]
  rw [col_div, col_mod]
  rfl

theorem ref_dg (H : (argRow x0 x1 x2 x3 x4 x5 x6 x7 x8 i).IsReal) :
    val_main_v69 (F := Ideal) x0 x1 x5 x6 x7 x8 (ix2 i (col q k)) = (argRow x0 x1 x2 x3 x4 x5 x6 x7 x8 i).dg q k := by
  obtain ⟨d, hd⟩ := H.d (high (col q k))
  obtain ⟨n, hn⟩ := H.n (col q k)
  obtain ⟨g, hg⟩ := H.g (col q k)
  obtain ⟨o, ho⟩ := H.head q
  obtain ⟨u, hu⟩ := unit_real o
  unfold Row.dg
  rw [hd, hn, hg, ho, hu, ← silu_eq, ← hd, ← hn, ← hg, ← hu, ← ho]
  have hh : unit ((argRow x0 x1 x2 x3 x4 x5 x6 x7 x8 i).head q) k = val_main_v46 (F := Ideal) x5 x6 (ix2 i (col q k)) := (ref_unit x5 x6 i q k).symm
  rw [hh]
  unfold argRow
  dsimp only
  rw [← ref_high, ← ref_sigma]
  unfold val_main_v69 val_main_v68 val_main_v67 val_main_v66 val_main_v64 val_main_v58 val_main_v57 val_main_v56 val_main_v49 val_main_v48 val_main_v47 val_main_v8
    val_main_cst_14
  generalize val_main_v63 (F := Ideal) x0 x1 = d
  generalize val_main_v55 (F := Ideal) x7 = s
  generalize val_main_v46 (F := Ideal) x5 x6 = u
  pointwise

theorem ref_dn : val_main_v106 (F := Ideal) x0 x1 x5 x6 x7 (ix2 0 (col q k)) = ∑ r, (argRow x0 x1 x2 x3 x4 x5 x6 x7 x8 r).dn q k := by
  have h : ∀ r, (argRow x0 x1 x2 x3 x4 x5 x6 x7 x8 r).dn q k = val_main_v46 (F := Ideal) x5 x6 (ix2 r (col q k))
      * (val_main_v63 (F := Ideal) x0 x1 (ix2 r (col q k)) * (x7 (ix2 r (col q k)) * val_main_v55 (F := Ideal) x7 (ix2 r (col q k)))) := fun r => by
    rw [ref_unit, ref_high, ref_sigma, mul_left_comm, ← mul_assoc]
    rfl
  simp only [h]
  unfold val_main_v106 val_main_v75 val_main_v72 val_main_v71 val_main_v70 val_main_v65 val_main_v59 val_main_cst_15 val_main_cst_16
  generalize val_main_v63 (F := Ideal) x0 x1 = d
  generalize val_main_v55 (F := Ideal) x7 = s
  generalize val_main_v46 (F := Ideal) x5 x6 = u
  pointwise
  simp only [Finset.univ_unique, Finset.sum_singleton]

end Cert.DYMix
-- ==== Proof.Finite.lean ====
module
public import proofs.«01_k».proof.Pre_finite
public import proofs.«01_k».proof.Proof.Moderate

/-!
# The precondition of the mixer's gradient read back

`finite` says that every argument is finite, so each entry is a real.
-/

@[expose] public section
set_option maxRecDepth 16384
noncomputable section
namespace Cert.Finite
open Idealize.ShloMosaic Cert.Pre_finite Cert.Gla

/-- The shapes of the precondition fit. -/
instance facts : Cert.Pre_finite.Facts where
  bitsLt_bf16_f32 := by decide
  bcast_S_S8448x1024 := by decide
  reducesTo_S8448x1024_S_d0_1 := by decide
  h_S_ := by decide
  bcast_S_S1024x1024 := by decide
  reducesTo_S1024x1024_S_d0_1 := by decide
  bcast_S_S8448x512 := by decide
  reducesTo_S8448x512_S_d0_1 := by decide
  bcast_S_S1x512 := by decide
  reducesTo_S1x512_S_d0_1 := by decide

theorem reals (a0 : FVec Ideal S8448x1024 .bf16) (a1 : FVec Ideal S1024x1024 .bf16) (a2 a3 : FVec Ideal S8448x512 .f32)
    (a4 : FVec Ideal S8448x1024 .f32) (a5 a6 a7 : FVec Ideal S8448x512 .f32) (a8 : FVec Ideal S1x512 .f32)
    (h : fn a0 a1 a2 a3 a4 a5 a6 a7 a8 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ ∀ i, ∃ r : ℝ, a8 i = r := by
  have e := congrFun h ix0
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => real_of_all (extf .f32 a0 facts.bitsLt_bf16_f32) h0 i, fun i => real_of_all (extf .f32 a1 facts.bitsLt_bf16_f32) h1 i,
    real_of_all a2 h2, real_of_all a3 h3, real_of_all a4 h4, real_of_all a5 h5, real_of_all a6 h6, real_of_all a7 h7, real_of_all a8 h8⟩

end Cert.Finite
-- ==== Proof.DYMix.lean ====
module
public import proofs.«01_k».proof.Proof.DYMixReference
public import proofs.«01_k».proof.Proof.Finite
public import proofs.«01_k».proof.Proof.Gen.Kernel15Ideal.Value
public import proofs.«01_k».proof.Proof.Gen.Reference15Ideal.Run
public import proofs.«01_k».proof.Defs
public import Idealize.ShloMosaic.Lib.Quiescent

/-!
# The gradients behind the mixer's result

Each of the 11 grid points leaves 768 rows of four gradients. The gradient of the heads' gain is a sum over all rows,
which the points add up in turn. Where the arguments are finite, the five arrays are the reference's.
-/

@[expose] public section
set_option maxRecDepth 16384
noncomputable section
namespace Cert.DYMix
open Idealize.ShloMosaic Idealize.ShloMosaic.TcCoe Cert.Kernel15Ideal Cert.Kernel15Ideal.Gen Cert.Product
open Cert.NormBack (upTo upTo_all row coe_sum)

section
variable (x0 : Vec Ideal S768x1024 .bf16) (x1 : Vec Ideal S1024x1024 .bf16) (x2 x3 : Vec Ideal S768x512 .f32)
  (x4 : Vec Ideal S768x1024 .f32) (x5 x6 x7 : Vec Ideal S768x512 .f32) (x8 xo13 : Vec Ideal S1x512 .f32)
  (c : Dev nD) (i : grid0.Coords)
  (arg3 : Memref sig .tc .vmem S768x1024 .bf16) (harg3 : arg3.IsWhole) (arg4 : Memref sig .tc .vmem S1024x1024 .bf16) (harg4 : arg4.IsWhole)
  (arg5 : Memref sig .tc .vmem S768x512 .f32) (harg5 : arg5.IsWhole) (arg6 : Memref sig .tc .vmem S768x512 .f32) (harg6 : arg6.IsWhole)
  (arg7 : Memref sig .tc .vmem S768x1024 .f32) (harg7 : arg7.IsWhole) (arg8 : Memref sig .tc .vmem S768x512 .f32) (harg8 : arg8.IsWhole)
  (arg9 : Memref sig .tc .vmem S768x512 .f32) (harg9 : arg9.IsWhole) (arg10 : Memref sig .tc .vmem S768x512 .f32) (harg10 : arg10.IsWhole)
  (arg11 : Memref sig .tc .vmem S1x512 .f32) (harg11 : arg11.IsWhole) (arg12 : Memref sig .tc .vmem S768x512 .f32) (harg12 : arg12.IsWhole)
  (arg13 : Memref sig .tc .vmem S768x512 .f32) (harg13 : arg13.IsWhole) (arg14 : Memref sig .tc .vmem S768x512 .f32) (harg14 : arg14.IsWhole)
  (arg15 : Memref sig .tc .vmem S768x512 .f32) (harg15 : arg15.IsWhole) (arg16 : Memref sig .tc .vmem S1x512 .f32) (harg16 : arg16.IsWhole)

/-! What a grid point leaves in its blocks, in the first point (`A`) and behind it (`B`). -/

theorem first (hc0 : cond0_0 i) :
    (out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8,
      out0_A_10 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8,
      out0_A_11 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8,
      out0_A_12 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8,
      out0_A_13 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)
      = (k0_pay7 x0 x1 x4, k0_pay10 (k0_pay6 x4) (k0_pay8 x0 x1 x2 x3) (k0_pay9 x4), leftO x0 x1 x5 x6 x7 x8, leftG x0 x1 x5 x6 x7 x8,
        k0_pay2 (leftN x0 x1 x5 x6 x7) (k0_pay1 (F := Ideal))) := by
  unfold out0_A_9 out0_A_10 out0_A_11 out0_A_12 out0_A_13
  refine Prod.ext ?_ (Prod.ext ?_ (Prod.ext ?_ (Prod.ext ?_ ?_)))
  all_goals
    dsimp only
    rw [View.read_writes_junk_eq_canon]
    first | refine (View.canon_unit_zero zeros _ _).trans ?_ | refine (View.canon_cons_unit_zero zeros _ _ _).trans ?_
    sl_unfold_run_names
    try rw [View.readCov_unit_zero _ zeros]
    simp only [load_whole harg3 x0 zeros, load_whole harg4 x1 zeros, load_whole harg5 x2 zeros, load_whole harg6 x3 zeros, load_whole harg7 x4 zeros, load_whole harg8 x5 zeros, load_whole harg9 x6 zeros, load_whole harg10 x7 zeros, load_whole harg11 x8 zeros]
  all_goals rfl

theorem next (hc0 : ¬cond0_0 i) :
    (out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13,
      out0_B_10 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13,
      out0_B_11 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13,
      out0_B_12 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13,
      out0_B_13 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13)
      = (k0_pay7 x0 x1 x4, k0_pay10 (k0_pay6 x4) (k0_pay8 x0 x1 x2 x3) (k0_pay9 x4), leftO x0 x1 x5 x6 x7 x8, leftG x0 x1 x5 x6 x7 x8,
        k0_pay2 (leftN x0 x1 x5 x6 x7) xo13) := by
  unfold out0_B_9 out0_B_10 out0_B_11 out0_B_12 out0_B_13
  refine Prod.ext ?_ (Prod.ext ?_ (Prod.ext ?_ (Prod.ext ?_ ?_)))
  all_goals
    dsimp only
    rw [View.read_writes_junk_eq_canon]
    refine (View.canon_unit_zero zeros _ _).trans ?_
    sl_unfold_run_names
    simp only [load_whole harg3 x0 zeros, load_whole harg4 x1 zeros, load_whole harg5 x2 zeros, load_whole harg6 x3 zeros, load_whole harg7 x4 zeros, load_whole harg8 x5 zeros, load_whole harg9 x6 zeros, load_whole harg10 x7 zeros, load_whole harg11 x8 zeros, load_whole harg16 xo13 zeros]
  all_goals rfl
end

variable (m : (ℓ : Loc nD τ sig) → Buf (Elt Ideal) ℓ) (c : Dev nD)

/-- The arguments of the call: the residual's gradient, the weight, the two scans, the input projection, the attention's two
directions, its gate and the heads' gain. -/
abbrev dy : FVec Ideal S8448x1024 .bf16 := m ((c : Thread nD τ).loc main_arg0)
abbrev wOut : FVec Ideal S1024x1024 .bf16 := m ((c : Thread nD τ).loc main_arg1)
abbrev hF : FVec Ideal S8448x512 .f32 := m ((c : Thread nD τ).loc main_arg2)
abbrev hB : FVec Ideal S8448x512 .f32 := m ((c : Thread nD τ).loc main_arg3)
abbrev z : FVec Ideal S8448x1024 .f32 := m ((c : Thread nD τ).loc main_arg4)
abbrev oF : FVec Ideal S8448x512 .f32 := m ((c : Thread nD τ).loc main_arg5)
abbrev oB : FVec Ideal S8448x512 .f32 := m ((c : Thread nD τ).loc main_arg6)
abbrev gO : FVec Ideal S8448x512 .f32 := m ((c : Thread nD τ).loc main_arg7)
abbrev gain : FVec Ideal S1x512 .f32 := m ((c : Thread nD τ).loc main_arg8)

/-- The blocks a point reads. -/
abbrev blk0 (t : Fin cfg0.N) : Vec Ideal S768x1024 .bf16 := iblk m c 0 t
abbrev blk1 (t : Fin cfg0.N) : Vec Ideal S1024x1024 .bf16 := iblk m c 1 t
abbrev blk2 (t : Fin cfg0.N) : Vec Ideal S768x512 .f32 := iblk m c 2 t
abbrev blk3 (t : Fin cfg0.N) : Vec Ideal S768x512 .f32 := iblk m c 3 t
abbrev blk4 (t : Fin cfg0.N) : Vec Ideal S768x1024 .f32 := iblk m c 4 t
abbrev blk5 (t : Fin cfg0.N) : Vec Ideal S768x512 .f32 := iblk m c 5 t
abbrev blk6 (t : Fin cfg0.N) : Vec Ideal S768x512 .f32 := iblk m c 6 t
abbrev blk7 (t : Fin cfg0.N) : Vec Ideal S768x512 .f32 := iblk m c 7 t
abbrev blk8 (t : Fin cfg0.N) : Vec Ideal S1x512 .f32 := iblk m c 8 t

/-- Where the windows lie. -/
theorem index : ∀ t : Fin grid0.N, win0_0.index t = ![t.val, 0] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![0, 0] ∧ win0_9.index t = ![t.val, 0]
    ∧ win0_10.index t = ![t.val, 0] ∧ win0_11.index t = ![t.val, 0] ∧ win0_12.index t = ![t.val, 0] ∧ win0_13.index t = ![0, 0] := by
  decide +kernel

/-- Row `r` of the arguments. -/
abbrev args (r : Fin 8448) : Row := argRow (dy m c) (wOut m c) (hF m c) (hB m c) (z m c) (oF m c) (oB m c) (gO m c) (gain m c) r

/-- Row `a` of a point's blocks is a row of the arguments. -/
theorem row_eq (t : Fin cfg0.N) (a : Fin 768) (r : Fin 8448) (hr : r.val = 768 * t.val + a.val) :
    rowOf (blk0 m c t) (blk1 m c t) (blk2 m c t) (blk3 m c t) (blk4 m c t) (blk5 m c t) (blk6 m c t) (blk7 m c t) (blk8 m c t) a = args m c r := by
  obtain ⟨e0, e1, e2, e3, e4, e5, e6, e7, e8, -⟩ := index t
  refine Row.ext ?_ ?_ ?_ ?_ ?_ ?_ ?_ ?_
  · funext k
    show (∑ j : Fin 1024, blk0 m c t (ix2 a j) * blk1 m c t (ix2 k j)) = ∑ j : Fin 1024, dy m c (ix2 r j) * wOut m c (ix2 k j)
    refine Finset.sum_congr rfl fun j _ => congrArg₂ (fun x y : EReal => x * y) ?_ ?_
    · refine Eq.trans ?_ (congrFun (V_main_arg0 m c) (ix2 r j))
      blk_ext [iblk, e0]
    · refine Eq.trans ?_ (congrFun (V_main_arg1 m c) (ix2 k j))
      blk_ext [iblk, e1]
  · funext k
    show blk2 m c t (ix2 a k) = hF m c (ix2 r k)
    refine Eq.trans ?_ (congrFun (V_main_arg2 m c) (ix2 r k))
    blk_ext [iblk, e2]
  · funext k
    show blk3 m c t (ix2 a k) = hB m c (ix2 r k)
    refine Eq.trans ?_ (congrFun (V_main_arg3 m c) (ix2 r k))
    blk_ext [iblk, e3]
  · funext k
    show blk4 m c t (ix2 a k) = z m c (ix2 r k)
    refine Eq.trans ?_ (congrFun (V_main_arg4 m c) (ix2 r k))
    blk_ext [iblk, e4]
  · funext k
    show blk5 m c t (ix2 a k) = oF m c (ix2 r k)
    refine Eq.trans ?_ (congrFun (V_main_arg5 m c) (ix2 r k))
    blk_ext [iblk, e5]
  · funext k
    show blk6 m c t (ix2 a k) = oB m c (ix2 r k)
    refine Eq.trans ?_ (congrFun (V_main_arg6 m c) (ix2 r k))
    blk_ext [iblk, e6]
  · funext k
    show blk7 m c t (ix2 a k) = gO m c (ix2 r k)
    refine Eq.trans ?_ (congrFun (V_main_arg7 m c) (ix2 r k))
    blk_ext [iblk, e7]
  · funext k
    show blk8 m c t (ix2 0 k) = gain m c (ix2 0 k)
    refine Eq.trans ?_ (congrFun (V_main_arg8 m c) (ix2 0 k))
    blk_ext [iblk, e8]

/-- The row of the whole array that row `a` of a point's block is. -/
theorem whole_row (t : Fin cfg0.N) {a : ℕ} (h : a < 768) : ∃ i : Fin 8448, i.val = 768 * t.val + a := by
  have ht : t.val < 11 := t.isLt
  exact ⟨⟨_, by omega⟩, rfl⟩

/-- What a point leaves in its first four blocks is the same in the first point as behind it. -/
theorem left_rows (t : Fin cfg0.N) :
    (outsAt0 m c t.val t.isLt).1 = k0_pay7 (blk0 m c t) (blk1 m c t) (blk4 m c t)
    ∧ (outsAt0 m c t.val t.isLt).2.1 = k0_pay10 (k0_pay6 (blk4 m c t)) (k0_pay8 (blk0 m c t) (blk1 m c t) (blk2 m c t) (blk3 m c t)) (k0_pay9 (blk4 m c t))
    ∧ (outsAt0 m c t.val t.isLt).2.2.1 = leftO (blk0 m c t) (blk1 m c t) (blk5 m c t) (blk6 m c t) (blk7 m c t) (blk8 m c t)
    ∧ (outsAt0 m c t.val t.isLt).2.2.2.1 = leftG (blk0 m c t) (blk1 m c t) (blk5 m c t) (blk6 m c t) (blk7 m c t) (blk8 m c t) := by
  by_cases h : t.val % 11 = 0
  · rw [(outsAt0_A m c t h).trans (first ..)]
    exact ⟨rfl, rfl, rfl, rfl⟩
  · rw [(outsAt0_B m c t h).trans (next ..)]
    exact ⟨rfl, rfl, rfl, rfl⟩

/-- A point's part of the gain's gradient. -/
theorem part (t : Fin cfg0.N) (h : t.val < 11) (q : Fin 4) (k : Fin 128) :
    leftN (blk0 m c t) (blk1 m c t) (blk5 m c t) (blk6 m c t) (blk7 m c t) (ix2 0 (col q k)) = ∑ a, (args m c (row t.val h a)).dn q k := by
  rw [leftN_apply _ _ (blk2 m c t) (blk3 m c t) (blk4 m c t) _ _ _ (blk8 m c t)]
  exact Finset.sum_congr rfl fun a _ => congrArg (fun R : Row => R.dn q k) (row_eq m c t a (row t.val h a) rfl)

/-- What the points up to `n` add up. -/
theorem sums (q : Fin 4) (k : Fin 128) (n : ℕ) (hn : n < cfg0.N) :
    (outsAt0 m c n hn).2.2.2.2 (ix2 0 (col q k)) = upTo (fun r => (args m c r).dn q k) n := by
  induction n with
  | zero =>
    have p := part m c ⟨0, hn⟩ (show 0 < 11 by decide) q k
    rw [(outsAt0_A m c ⟨0, hn⟩ (Nat.zero_mod _)).trans (first ..)]
    dsimp only
    rw [add_apply, start_apply]
    exact congrArg (0 + ·) p
  | succ n ih =>
    have h : n + 1 < 11 := hn
    have p := part m c ⟨n + 1, hn⟩ h q k
    have r := ih (Nat.lt_of_succ_lt hn)
    have hm : ¬(n + 1) % 11 = 0 := by omega
    rw [(outsAt0_B m c ⟨n + 1, hn⟩ hm).trans (next ..)]
    dsimp only
    rw [add_apply, upTo, dif_pos h]
    exact congrArg₂ (fun x y : EReal => x + y) r p

/-! The five arrays the grid leaves are the reference's results. -/

open Cert.Reference15Ideal.Read

theorem array_h : (dats m 0 c).arrAt 9 cfg0.N = val_main_v93 (F := Ideal) (dy m c) (wOut m c) (z m c) := by
  refine (dats m 0 c).arrAt_eq_of_covers 9 _ (by decide +kernel) fun t hf y => ?_
  obtain ⟨-, -, -, -, -, -, -, -, -, e, -⟩ := index t
  have hy0 : (y 0).val < 768 := (y 0).isLt
  have hy1 : (y 1).val < 512 := (y 1).isLt
  obtain ⟨i, hi⟩ := whole_row t hy0
  have key : (outsAt0 m c t.val t.isLt).1 (ix2 (⟨_, hy0⟩ : Fin 768) (⟨_, hy1⟩ : Fin 512))
      = val_main_v93 (F := Ideal) (dy m c) (wOut m c) (z m c) (ix2 i (⟨_, hy1⟩ : Fin 512)) := by
    rw [(left_rows m c t).1, pay7_apply _ _ (blk2 m c t) (blk3 m c t) _ (blk5 m c t) (blk6 m c t) (blk7 m c t) (blk8 m c t), row_eq m c t ⟨_, hy0⟩ i hi,
      ref_dh _ _ (hF m c) (hB m c) _ (oF m c) (oB m c) (gO m c) (gain m c)]
  rw [after0_9]
  refine Eq.trans ?_ (key.trans (congrArg _ ?_))
  · blk_simp
    exact congrArg _ (eq_ix2 y)
  · blk_ext [e]

section
variable (H : ∀ r, (args m c r).IsReal)
include H

theorem array_z : (dats m 0 c).arrAt 10 cfg0.N = val_main_v105 (F := Ideal) (dy m c) (wOut m c) (hF m c) (hB m c) (z m c) := by
  refine (dats m 0 c).arrAt_eq_of_covers 10 _ (by decide +kernel) fun t hf y => ?_
  obtain ⟨-, -, -, -, -, -, -, -, -, -, e, -⟩ := index t
  have hy0 : (y 0).val < 768 := (y 0).isLt
  have hy1 : (y 1).val < 512 := (y 1).isLt
  obtain ⟨i, hi⟩ := whole_row t hy0
  have key : (outsAt0 m c t.val t.isLt).2.1 (ix2 (⟨_, hy0⟩ : Fin 768) (⟨_, hy1⟩ : Fin 512))
      = val_main_v105 (F := Ideal) (dy m c) (wOut m c) (hF m c) (hB m c) (z m c) (ix2 i (⟨_, hy1⟩ : Fin 512)) := by
    rw [(left_rows m c t).2.1, pay10_apply _ _ _ _ _ (blk5 m c t) (blk6 m c t) (blk7 m c t) (blk8 m c t), row_eq m c t ⟨_, hy0⟩ i hi,
      ref_dz _ _ _ _ _ (oF m c) (oB m c) (gO m c) (gain m c) i _ (H i)]
  rw [after0_10]
  refine Eq.trans ?_ (key.trans (congrArg _ ?_))
  · blk_simp
    exact congrArg _ (eq_ix2 y)
  · blk_ext [e]

theorem array_o : (dats m 0 c).arrAt 11 cfg0.N = val_main_v91 (F := Ideal) (dy m c) (wOut m c) (oF m c) (oB m c) (gO m c) (gain m c) := by
  refine (dats m 0 c).arrAt_eq_of_covers 11 _ (by decide +kernel) fun t hf y => ?_
  obtain ⟨-, -, -, -, -, -, -, -, -, -, -, e, -⟩ := index t
  have hy0 : (y 0).val < 768 := (y 0).isLt
  have hy1 : (y 1).val < 512 := (y 1).isLt
  obtain ⟨i, hi⟩ := whole_row t hy0
  obtain ⟨q, k, hq⟩ := col_surj ⟨_, hy1⟩
  have key : (outsAt0 m c t.val t.isLt).2.2.1 (ix2 (⟨_, hy0⟩ : Fin 768) (⟨_, hy1⟩ : Fin 512))
      = val_main_v91 (F := Ideal) (dy m c) (wOut m c) (oF m c) (oB m c) (gO m c) (gain m c) (ix2 i (⟨_, hy1⟩ : Fin 512)) := by
    rw [hq, (left_rows m c t).2.2.1, leftO_apply _ _ (blk2 m c t) (blk3 m c t) (blk4 m c t), row_eq m c t ⟨_, hy0⟩ i hi,
      ref_dO _ _ (hF m c) (hB m c) (z m c) _ _ _ _ i q k (H i)]
  rw [after0_11]
  refine Eq.trans ?_ (key.trans (congrArg _ ?_))
  · blk_simp
    exact congrArg _ (eq_ix2 y)
  · blk_ext [e]

theorem array_g : (dats m 0 c).arrAt 12 cfg0.N = val_main_v69 (F := Ideal) (dy m c) (wOut m c) (oF m c) (oB m c) (gO m c) (gain m c) := by
  refine (dats m 0 c).arrAt_eq_of_covers 12 _ (by decide +kernel) fun t hf y => ?_
  obtain ⟨-, -, -, -, -, -, -, -, -, -, -, -, e, -⟩ := index t
  have hy0 : (y 0).val < 768 := (y 0).isLt
  have hy1 : (y 1).val < 512 := (y 1).isLt
  obtain ⟨i, hi⟩ := whole_row t hy0
  obtain ⟨q, k, hq⟩ := col_surj ⟨_, hy1⟩
  have key : (outsAt0 m c t.val t.isLt).2.2.2.1 (ix2 (⟨_, hy0⟩ : Fin 768) (⟨_, hy1⟩ : Fin 512))
      = val_main_v69 (F := Ideal) (dy m c) (wOut m c) (oF m c) (oB m c) (gO m c) (gain m c) (ix2 i (⟨_, hy1⟩ : Fin 512)) := by
    rw [hq, (left_rows m c t).2.2.2, leftG_apply _ _ (blk2 m c t) (blk3 m c t) (blk4 m c t), row_eq m c t ⟨_, hy0⟩ i hi,
      ref_dg _ _ (hF m c) (hB m c) (z m c) _ _ _ _ i q k (H i)]
  rw [after0_12]
  refine Eq.trans ?_ (key.trans (congrArg _ ?_))
  · blk_simp
    exact congrArg _ (eq_ix2 y)
  · blk_ext [e]
end

/-- The gain's gradient is written once, behind the last point. -/
theorem last : ∀ t : Fin grid0.N, (cfg0.win 13).flush t = true → t.val = 10 := by
  decide +kernel

theorem array_n : (dats m 0 c).arrAt 13 cfg0.N = val_main_v106 (F := Ideal) (dy m c) (wOut m c) (oF m c) (oB m c) (gO m c) := by
  refine (dats m 0 c).arrAt_eq_of_covers 13 _ (by decide +kernel) fun t hf y => ?_
  obtain ⟨-, -, -, -, -, -, -, -, -, -, -, -, -, e⟩ := index t
  have hy1 : (y 1).val < 512 := (y 1).isLt
  have ht := last t hf
  obtain ⟨q, k, hq⟩ := col_surj ⟨_, hy1⟩
  have key : (outsAt0 m c t.val t.isLt).2.2.2.2 (ix2 (0 : Fin 1) (⟨_, hy1⟩ : Fin 512))
      = val_main_v106 (F := Ideal) (dy m c) (wOut m c) (oF m c) (oB m c) (gO m c) (ix2 (0 : Fin 1) (⟨_, hy1⟩ : Fin 512)) := by
    rw [hq, sums m c q k t.val t.isLt, ht, upTo_all, ref_dn _ _ (hF m c) (hB m c) (z m c) _ _ _ (gain m c)]
  rw [after0_13]
  refine Eq.trans ?_ (key.trans (congrArg _ ?_))
  · blk_simp
    exact congrArg _ ((eq_ix2 y).trans (congrArg (fun z => ix2 z _) (Fin.eq_zero _)))
  · blk_ext [e]

/-- Finite arguments are rows of reals. -/
theorem real_rows (h : Pre_Kernel15Ideal_finite m) (r : Fin 8448) : (args m c r).IsReal := by
  obtain ⟨h0, h1, h2, h3, h4, h5, h6, h7, h8⟩ := Cert.Finite.reals _ _ _ _ _ _ _ _ _ (h c)
  choose y0 e0 using h0
  choose y1 e1 using h1
  exact { d := fun b => ⟨∑ j : Fin 1024, y0 (ix2 r j) * y1 (ix2 b j), by
            rw [coe_sum]
            show (∑ j : Fin 1024, dy m c (ix2 r j) * wOut m c (ix2 b j)) = _
            exact Finset.sum_congr rfl fun j _ => (congrArg₂ (fun x y : EReal => x * y) (e0 _) (e1 _)).trans (EReal.coe_mul _ _).symm⟩
          h1 := fun b => h2 _
          h2 := fun b => h3 _
          z := fun b => h4 _
          o1 := fun b => h5 _
          o2 := fun b => h6 _
          g := fun b => h7 _
          n := fun b => h8 _ }

open Idealize.SL.Sem

/-- The frame of the reference. -/
theorem ref_frame : quiescent_Reference15Ideal := fun m ρ _ => (θ_run Cert.Reference15Ideal.defs _ _).mono
  (fun r h => ⟨fun c => (h c).2.2.2.2.2, sem_eq_zero_of_no_sems (by decide) r.2⟩)
  (Cert.Reference15Ideal.Value.run (F := Ideal) m ρ)

/-- Both programs leave the same five arrays. -/
theorem equal : algebraic_Kernel15Ideal_Reference15Ideal_pre_finite := by
  intro m ρ m' ρ' hpre hargs
  refine ⟨fun c => val_main_v93 (F := Ideal) (dy m c) (wOut m c) (z m c), fun c => val_main_v105 (F := Ideal) (dy m c) (wOut m c) (hF m c) (hB m c) (z m c),
    fun c => val_main_v91 (F := Ideal) (dy m c) (wOut m c) (oF m c) (oB m c) (gO m c) (gain m c), fun c => val_main_v69 (F := Ideal) (dy m c) (wOut m c) (oF m c) (oB m c) (gO m c) (gain m c),
    fun c => val_main_v106 (F := Ideal) (dy m c) (wOut m c) (oF m c) (oB m c) (gO m c), ?_, ?_⟩
  · refine (θ_run Cert.Kernel15Ideal.defs _ _).mono (fun r h c => ?_) (Cert.Kernel15Ideal.Value.run_blocks (F := Ideal) m ρ)
    have H := real_rows m c hpre
    obtain ⟨e0, e1, e2, e3, e4, keep⟩ := h c
    exact ⟨e0.trans (array_h m c), e1.trans (array_z m c H), e2.trans (array_o m c H), e3.trans (array_g m c H), e4.trans (array_n m c), keep⟩
  · refine (θ_run Cert.Reference15Ideal.defs _ _).mono (fun r h c => ?_) (Cert.Reference15Ideal.Value.run (F := Ideal) m' ρ')
    obtain ⟨e0, e1, e2, e3, e4, keep⟩ := h c
    obtain ⟨a0, a1, a2, a3, a4, a5, a6, a7, a8⟩ := hargs c
    refine ⟨e0.trans ((val_main_v93_eq ..).trans ?_), e1.trans ((val_main_v105_eq ..).trans ?_), e2.trans ((val_main_v91_eq ..).trans ?_),
      e3.trans ((val_main_v69_eq ..).trans ?_), e4.trans ((val_main_v106_eq ..).trans ?_), keep⟩
    · rw [a0, a1, a4]
    · rw [a0, a1, a2, a3, a4]
    · rw [a0, a1, a5, a6, a7, a8]
    · rw [a0, a1, a5, a6, a7, a8]
    · rw [a0, a1, a5, a6, a7]

end Cert.DYMix
-- ==== Proof.Adam.lean ====
module
public import Idealize.ShloMosaic.Lib.Pointwise

/-!
# One entry of the weights' update

Both programs update every entry of a weight from the entry's gradient and its two moments alone: the moments
move towards the gradient and its square, and the step is the ratio of the first moment to the root of the
second, both divided by what the bias correction asks for, plus the decay of the weight.
-/

@[expose] public section
noncomputable section
namespace Cert.Adam
open Idealize.ShloMosaic

/-- The first moment behind the step, from the moment before it and the gradient. -/
def moment (m g : EReal) : EReal := Ideal.ofBits FTy.f32 0x3F666666#32 * m + Ideal.ofBits FTy.f32 0x3DCCCCCD#32 * g

/-- The second moment behind the step. -/
def square (v g : EReal) : EReal := Ideal.ofBits FTy.f32 0x3F7FBE77#32 * v + Ideal.ofBits FTy.f32 0x3A83126F#32 * (g * g)

/-- What is added to the weight. -/
def step (w m v g : EReal) : EReal :=
  Ideal.ofBits FTy.f32 0xBA83126F#32 *
    (Ideal.div (Ideal.div (moment m g) (Ideal.ofBits FTy.f32 0x3F26BD02#32))
        (Ideal.sqrt (Ideal.div (square v g) (Ideal.ofBits FTy.f32 0x3C231ACC#32)) + Ideal.ofBits FTy.f32 0x322BCC77#32)
      + Ideal.ofBits FTy.f32 0x3C23D70A#32 * w)

/-- The gradient of the layer at hand, of two. -/
def pick (l : Fin 2) (g₀ g₁ : EReal) : EReal := if l = 0 then g₀ else g₁

section
variable {n k : ℕ} (w m v : FVec Ideal ⟨3, ![2, n, k]⟩ .f32) (g₀ g₁ : FVec Ideal ⟨2, ![n, k]⟩ .f32)

/-- The two layers' gradients in one array, -/
def grads : FVec Ideal ⟨3, ![2, n, k]⟩ .f32 := fun i => pick (i 0) (g₀ (ix2 (i 1) (i 2))) (g₁ (ix2 (i 1) (i 2)))

/-- the first moments of all entries of both layers, -/
def moments : FVec Ideal ⟨3, ![2, n, k]⟩ .f32 := fun i => moment (m i) (grads g₀ g₁ i)

/-- the second, -/
def squares : FVec Ideal ⟨3, ![2, n, k]⟩ .f32 := fun i => square (v i) (grads g₀ g₁ i)

/-- and the steps. -/
def steps : FVec Ideal ⟨3, ![2, n, k]⟩ .f32 := fun i => step (w i) (m i) (v i) (grads g₀ g₁ i)
end

/-- A grid point's place along the two layers of `q` blocks of 256 rows each. -/
theorem place (t q n : ℕ) (hq : 0 < q) (ht : t < 2 * q) (hn : n < 256) :
    ∃ (l : Fin 2) (i : Fin (256 * q)), l.val = t / q ∧ i.val = 256 * (t % q) + n := by
  have h := Nat.mod_lt t hq
  exact ⟨⟨_, Nat.div_lt_of_lt_mul (by rw [mul_comm]; exact ht)⟩, ⟨256 * (t % q) + n, by omega⟩, rfl, rfl⟩

/-- A whole block starts at its origin. -/
theorem zeros3 : (![0, 0, 0] : Fin 3 → Nat) = fun _ => 0 := by funext a; fin_cases a <;> rfl

end Cert.Adam
-- ==== Proof.UpdateMlp.lean ====
module
public import proofs.«01_k».proof.Proof.Adam
public import proofs.«01_k».proof.Proof.Product
public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.Quiescent

/-!
# The update of the MLP's weights

Each of the eight grid points updates 256 rows of one of the two layers, with that layer's gradient. The
reference stacks the two gradients and updates all entries at once.
-/

@[expose] public section
set_option maxRecDepth 16384
noncomputable section
namespace Cert.UpdateMlp
open Idealize.ShloMosaic Idealize.ShloMosaic.TcCoe Cert.Kernel16Ideal Cert.Kernel16Ideal.Gen Cert.Adam
open Cert.Product (zeros)

section
variable (i : grid0.Coords) (x0 x1 x2 : Vec Ideal S1x256x1024 .f32) (x3 x4 : Vec Ideal S256x1024 .f32) (l : Fin 2)
  (a : Fin 256) (b : Fin 1024)

/-- The gradient a grid point takes, at an index. -/
theorem grad_apply (hl : (i 0).val = l.val) : k0_pay5 i x3 x4 (ix2 a b) = pick l (x3 (ix2 a b)) (x4 (ix2 a b)) := by
  unfold k0_pay5
  dsimp only
  rw [hl]
  fin_cases l <;> rfl

/-- What it leaves: the gradient as it is, the step and the two moments. -/
theorem left : out0_5 i x0 x1 x2 x3 x4 (ix3 0 a b) = k0_pay5 i x3 x4 (ix2 a b)
    ∧ out0_6 i x0 x1 x2 x3 x4 (ix3 0 a b)
      = step (x0 (ix3 0 a b)) (x1 (ix3 0 a b)) (x2 (ix3 0 a b)) (k0_pay5 i x3 x4 (ix2 a b))
    ∧ out0_7 i x0 x1 x2 x3 x4 (ix3 0 a b) = moment (x1 (ix3 0 a b)) (k0_pay5 i x3 x4 (ix2 a b))
    ∧ out0_8 i x0 x1 x2 x3 x4 (ix3 0 a b) = square (x2 (ix3 0 a b)) (k0_pay5 i x3 x4 (ix2 a b)) := by
  refine ⟨?_, ?_, ?_, ?_⟩
  · unfold out0_5
    rw [View.canon_unit_zero zeros3, View.ld_unit_zero zeros, View.ld_unit_zero zeros]
    pointwise [k0_pay1]
  · unfold out0_6 k0_pay8 k0_pay7 k0_pay6
    rw [View.canon_unit_zero zeros3]
    repeat first | rw [View.ld_unit_zero zeros] | rw [View.ld_unit_zero zeros3]
    generalize k0_pay5 i x3 x4 = g
    pointwise [k0_pay2]
    rfl
  · unfold out0_7 k0_pay6
    rw [View.canon_unit_zero zeros3]
    repeat first | rw [View.ld_unit_zero zeros] | rw [View.ld_unit_zero zeros3]
    generalize k0_pay5 i x3 x4 = g
    pointwise [k0_pay3]
    rfl
  · unfold out0_8 k0_pay7
    rw [View.canon_unit_zero zeros3]
    repeat first | rw [View.ld_unit_zero zeros] | rw [View.ld_unit_zero zeros3]
    generalize k0_pay5 i x3 x4 = g
    pointwise [k0_pay4]
    rfl
end

section
variable (x0 x1 x2 : FVec Ideal S2x1024x1024 .f32) (x3 x4 : FVec Ideal S1024x1024 .f32)
open Cert.Reference16Ideal.Read

/-- The reference stacks the gradients, -/
theorem ref_grads : val_main_v2 (F := Ideal) x3 x4 = grads x3 x4 := by
  funext i
  obtain ⟨l, a, b, rfl⟩ : ∃ l a b, i = ix3 l a b := ⟨_, _, _, eq_ix3 i⟩
  rw [← val_main_v2_eq]
  fin_cases l
  · pointwise
    rfl
  · pointwise
    rfl

/-- and forms the moments and the steps of all entries. -/
theorem ref_moments : val_main_v7 (F := Ideal) x1 x3 x4 = moments x1 x3 x4 := by
  unfold moments
  rw [← ref_grads]
  rfl

theorem ref_squares : val_main_v13 (F := Ideal) x2 x3 x4 = squares x2 x3 x4 := by
  unfold squares
  rw [← ref_grads]
  rfl

theorem ref_steps : val_main_v26 (F := Ideal) x0 x1 x2 x3 x4 = steps x0 x1 x2 x3 x4 := by
  unfold steps
  rw [← ref_grads]
  rfl
end

variable (m : (ℓ : Loc nD τ sig) → Buf (Elt Ideal) ℓ) (c : Dev nD)

/-- The arguments of the call: the weight, its two moments, and the two layers' gradients. -/
abbrev w : FVec Ideal S2x1024x1024 .f32 := m ((c : Thread nD τ).loc main_arg0)
abbrev m₁ : FVec Ideal S2x1024x1024 .f32 := m ((c : Thread nD τ).loc main_arg1)
abbrev m₂ : FVec Ideal S2x1024x1024 .f32 := m ((c : Thread nD τ).loc main_arg2)
abbrev g₀ : FVec Ideal S1024x1024 .f32 := m ((c : Thread nD τ).loc main_arg3)
abbrev g₁ : FVec Ideal S1024x1024 .f32 := m ((c : Thread nD τ).loc main_arg4)

/-- The blocks a point reads. -/
abbrev bw (t : Fin cfg0.N) : Vec Ideal S1x256x1024 .f32 := iblk m c 0 t
abbrev bm₁ (t : Fin cfg0.N) : Vec Ideal S1x256x1024 .f32 := iblk m c 1 t
abbrev bm₂ (t : Fin cfg0.N) : Vec Ideal S1x256x1024 .f32 := iblk m c 2 t
abbrev bg₀ (t : Fin cfg0.N) : Vec Ideal S256x1024 .f32 := iblk m c 3 t
abbrev bg₁ (t : Fin cfg0.N) : Vec Ideal S256x1024 .f32 := iblk m c 4 t

/-- Where a point lies and where its windows lie. -/
theorem index_all : ∀ t : Fin grid0.N, (grid0.coords t 0).val = t.val / 4
    ∧ win0_0.index t = ![t.val / 4, t.val % 4, 0] ∧ win0_1.index t = ![t.val / 4, t.val % 4, 0]
    ∧ win0_2.index t = ![t.val / 4, t.val % 4, 0] ∧ win0_3.index t = ![t.val % 4, 0] ∧ win0_4.index t = ![t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] := by
  decide +kernel

/-- A point reads the layer's rows of the weight and its moments, and the same rows of the layer's gradient: what it
    leaves are the entries' own gradients, steps and moments. -/
theorem point (t : Fin cfg0.N) (l : Fin 2) (hl : l.val = t.val / 4) (a : Fin 256) (i : Fin 1024)
    (hi : i.val = 256 * (t.val % 4) + a.val) (b : Fin 1024) :
    out0_5 (grid0.coords t) (bw m c t) (bm₁ m c t) (bm₂ m c t) (bg₀ m c t) (bg₁ m c t) (ix3 0 a b) = grads (g₀ m c) (g₁ m c) (ix3 l i b)
    ∧ out0_6 (grid0.coords t) (bw m c t) (bm₁ m c t) (bm₂ m c t) (bg₀ m c t) (bg₁ m c t) (ix3 0 a b)
      = steps (w m c) (m₁ m c) (m₂ m c) (g₀ m c) (g₁ m c) (ix3 l i b)
    ∧ out0_7 (grid0.coords t) (bw m c t) (bm₁ m c t) (bm₂ m c t) (bg₀ m c t) (bg₁ m c t) (ix3 0 a b)
      = moments (m₁ m c) (g₀ m c) (g₁ m c) (ix3 l i b)
    ∧ out0_8 (grid0.coords t) (bw m c t) (bm₁ m c t) (bm₂ m c t) (bg₀ m c t) (bg₁ m c t) (ix3 0 a b)
      = squares (m₂ m c) (g₀ m c) (g₁ m c) (ix3 l i b) := by
  obtain ⟨e, e0, e1, e2, e3, e4, -⟩ := index_all t
  have r0 : bw m c t (ix3 (0 : Fin 1) a b) = w m c (ix3 l i b) := by blk_ext [iblk, V, e0]
  have r1 : bm₁ m c t (ix3 (0 : Fin 1) a b) = m₁ m c (ix3 l i b) := by blk_ext [iblk, V, e1]
  have r2 : bm₂ m c t (ix3 (0 : Fin 1) a b) = m₂ m c (ix3 l i b) := by blk_ext [iblk, V, e2]
  have r3 : bg₀ m c t (ix2 a b) = g₀ m c (ix2 i b) := by blk_ext [iblk, V, e3]
  have r4 : bg₁ m c t (ix2 a b) = g₁ m c (ix2 i b) := by blk_ext [iblk, V, e4]
  obtain ⟨h5, h6, h7, h8⟩ := left (grid0.coords t) (bw m c t) (bm₁ m c t) (bm₂ m c t) (bg₀ m c t) (bg₁ m c t) a b
  rw [h5, h6, h7, h8, grad_apply _ _ _ l a b (e.trans hl.symm), r0, r1, r2, r3, r4]
  exact ⟨rfl, rfl, rfl, rfl⟩

/-- The gradients the grid leaves are the stacked ones, -/
theorem array_grads : (dats m 0 c).arrAt 5 cfg0.N = grads (g₀ m c) (g₁ m c) := by
  refine (dats m 0 c).arrAt_eq_of_covers 5 _ (by decide +kernel) fun t _ y => ?_
  have e := (index_all t).2.2.2.2.2.2.1
  obtain ⟨l, i, hl, hi⟩ := place t.val 4 (y 1).val (by decide) t.isLt (y 1).isLt
  rw [after0_5]
  refine Eq.trans ?_ ((point m c t l hl (⟨_, (y 1).isLt⟩ : Fin 256) i hi (⟨_, (y 2).isLt⟩ : Fin 1024)).1.trans (congrArg _ ?_))
  · blk_simp
    exact congrArg _ ((eq_ix3 y).trans (congrArg (fun z => ix3 z (y 1) (y 2)) (Subsingleton.elim (α := Fin 1) (y 0) 0)))
  · blk_ext [e]

/-- so are the steps those of all entries, -/
theorem array_steps : (dats m 0 c).arrAt 6 cfg0.N = steps (w m c) (m₁ m c) (m₂ m c) (g₀ m c) (g₁ m c) := by
  refine (dats m 0 c).arrAt_eq_of_covers 6 _ (by decide +kernel) fun t _ y => ?_
  have e := (index_all t).2.2.2.2.2.2.2.1
  obtain ⟨l, i, hl, hi⟩ := place t.val 4 (y 1).val (by decide) t.isLt (y 1).isLt
  rw [after0_6]
  refine Eq.trans ?_ ((point m c t l hl (⟨_, (y 1).isLt⟩ : Fin 256) i hi (⟨_, (y 2).isLt⟩ : Fin 1024)).2.1.trans (congrArg _ ?_))
  · blk_simp
    exact congrArg _ ((eq_ix3 y).trans (congrArg (fun z => ix3 z (y 1) (y 2)) (Subsingleton.elim (α := Fin 1) (y 0) 0)))
  · blk_ext [e]

/-- the first moments, -/
theorem array_moments : (dats m 0 c).arrAt 7 cfg0.N = moments (m₁ m c) (g₀ m c) (g₁ m c) := by
  refine (dats m 0 c).arrAt_eq_of_covers 7 _ (by decide +kernel) fun t _ y => ?_
  have e := (index_all t).2.2.2.2.2.2.2.2.1
  obtain ⟨l, i, hl, hi⟩ := place t.val 4 (y 1).val (by decide) t.isLt (y 1).isLt
  rw [after0_7]
  refine Eq.trans ?_ ((point m c t l hl (⟨_, (y 1).isLt⟩ : Fin 256) i hi (⟨_, (y 2).isLt⟩ : Fin 1024)).2.2.1.trans (congrArg _ ?_))
  · blk_simp
    exact congrArg _ ((eq_ix3 y).trans (congrArg (fun z => ix3 z (y 1) (y 2)) (Subsingleton.elim (α := Fin 1) (y 0) 0)))
  · blk_ext [e]

/-- and the second. -/
theorem array_squares : (dats m 0 c).arrAt 8 cfg0.N = squares (m₂ m c) (g₀ m c) (g₁ m c) := by
  refine (dats m 0 c).arrAt_eq_of_covers 8 _ (by decide +kernel) fun t _ y => ?_
  have e := (index_all t).2.2.2.2.2.2.2.2.2
  obtain ⟨l, i, hl, hi⟩ := place t.val 4 (y 1).val (by decide) t.isLt (y 1).isLt
  rw [after0_8]
  refine Eq.trans ?_ ((point m c t l hl (⟨_, (y 1).isLt⟩ : Fin 256) i hi (⟨_, (y 2).isLt⟩ : Fin 1024)).2.2.2.trans (congrArg _ ?_))
  · blk_simp
    exact congrArg _ ((eq_ix3 y).trans (congrArg (fun z => ix3 z (y 1) (y 2)) (Subsingleton.elim (α := Fin 1) (y 0) 0)))
  · blk_ext [e]

open Idealize.SL.Sem

/-- The frame of the reference. -/
theorem ref_frame : quiescent_Reference16Ideal := fun m ρ _ => (θ_run Cert.Reference16Ideal.defs _ _).mono
  (fun r h => ⟨fun c => (h c).2.2.2.2, sem_eq_zero_of_no_sems (by decide) r.2⟩)
  (Cert.Reference16Ideal.Value.run (F := Ideal) m ρ)

/-- Both programs leave the same four arrays. -/
theorem equal : algebraic_Kernel16Ideal_Reference16Ideal := by
  intro m ρ m' ρ' _ hargs
  refine ⟨fun c => grads (g₀ m c) (g₁ m c), fun c => steps (w m c) (m₁ m c) (m₂ m c) (g₀ m c) (g₁ m c),
    fun c => moments (m₁ m c) (g₀ m c) (g₁ m c), fun c => squares (m₂ m c) (g₀ m c) (g₁ m c), ?_, ?_⟩
  · refine (θ_run Cert.Kernel16Ideal.defs _ _).mono (fun r h c => ?_) (Cert.Kernel16Ideal.Value.run_blocks (F := Ideal) m ρ)
    obtain ⟨h0, h1, h2, h3, h⟩ := h c
    exact ⟨h0.trans (array_grads m c), h1.trans (array_steps m c), h2.trans (array_moments m c), h3.trans (array_squares m c), h⟩
  · refine (θ_run Cert.Reference16Ideal.defs _ _).mono (fun r h c => ?_) (Cert.Reference16Ideal.Value.run (F := Ideal) m' ρ')
    obtain ⟨a0, a1, a2, a3, a4⟩ := hargs c
    obtain ⟨h0, h1, h2, h3, h⟩ := h c
    rw [Cert.Reference16Ideal.Read.val_main_v2_eq, ref_grads] at h0
    rw [Cert.Reference16Ideal.Read.val_main_v26_eq, ref_steps] at h1
    rw [Cert.Reference16Ideal.Read.val_main_v7_eq, ref_moments] at h2
    rw [Cert.Reference16Ideal.Read.val_main_v13_eq, ref_squares] at h3
    refine ⟨h0.trans ?_, h1.trans ?_, h2.trans ?_, h3.trans ?_, h⟩ <;> simp only [a0, a1, a2, a3, a4]

end Cert.UpdateMlp
-- ==== Proof.UpdateIn.lean ====
module
public import proofs.«01_k».proof.Proof.Adam
public import proofs.«01_k».proof.Proof.Product
public import proofs.«01_k».proof.Proof.Gen.Kernel17Ideal.Value
public import proofs.«01_k».proof.Proof.Gen.Reference17Ideal.Run
public import proofs.«01_k».proof.Proof.Gen.Reference17Ideal.Read
public import proofs.«01_k».proof.Defs
public import Idealize.ShloMosaic.Lib.Quiescent

/-!
# The update of `w_in`

Each of the eight grid points updates 256 rows of one of the two layers, with that layer's gradient. The
reference stacks the two gradients and updates all entries at once.
-/

@[expose] public section
set_option maxRecDepth 16384
noncomputable section
namespace Cert.UpdateIn
open Idealize.ShloMosaic Idealize.ShloMosaic.TcCoe Cert.Kernel17Ideal Cert.Kernel17Ideal.Gen Cert.Adam
open Cert.Product (zeros)

section
variable (i : grid0.Coords) (x0 x1 x2 : Vec Ideal S1x256x648 .f32) (x3 x4 : Vec Ideal S256x648 .f32) (l : Fin 2)
  (a : Fin 256) (b : Fin 648)

/-- The gradient a grid point takes, at an index. -/
theorem grad_apply (hl : (i 0).val = l.val) : k0_pay5 i x3 x4 (ix2 a b) = pick l (x3 (ix2 a b)) (x4 (ix2 a b)) := by
  unfold k0_pay5
  dsimp only
  rw [hl]
  fin_cases l <;> rfl

/-- What it leaves: the gradient as it is, the step and the two moments. -/
theorem left : out0_5 i x0 x1 x2 x3 x4 (ix3 0 a b) = k0_pay5 i x3 x4 (ix2 a b)
    ∧ out0_6 i x0 x1 x2 x3 x4 (ix3 0 a b)
      = step (x0 (ix3 0 a b)) (x1 (ix3 0 a b)) (x2 (ix3 0 a b)) (k0_pay5 i x3 x4 (ix2 a b))
    ∧ out0_7 i x0 x1 x2 x3 x4 (ix3 0 a b) = moment (x1 (ix3 0 a b)) (k0_pay5 i x3 x4 (ix2 a b))
    ∧ out0_8 i x0 x1 x2 x3 x4 (ix3 0 a b) = square (x2 (ix3 0 a b)) (k0_pay5 i x3 x4 (ix2 a b)) := by
  refine ⟨?_, ?_, ?_, ?_⟩
  · unfold out0_5
    rw [View.canon_unit_zero zeros3, View.ld_unit_zero zeros, View.ld_unit_zero zeros]
    pointwise [k0_pay1]
  · unfold out0_6 k0_pay8 k0_pay7 k0_pay6
    rw [View.canon_unit_zero zeros3]
    repeat first | rw [View.ld_unit_zero zeros] | rw [View.ld_unit_zero zeros3]
    generalize k0_pay5 i x3 x4 = g
    pointwise [k0_pay2]
    rfl
  · unfold out0_7 k0_pay6
    rw [View.canon_unit_zero zeros3]
    repeat first | rw [View.ld_unit_zero zeros] | rw [View.ld_unit_zero zeros3]
    generalize k0_pay5 i x3 x4 = g
    pointwise [k0_pay3]
    rfl
  · unfold out0_8 k0_pay7
    rw [View.canon_unit_zero zeros3]
    repeat first | rw [View.ld_unit_zero zeros] | rw [View.ld_unit_zero zeros3]
    generalize k0_pay5 i x3 x4 = g
    pointwise [k0_pay4]
    rfl
end

section
variable (x0 x1 x2 : FVec Ideal S2x1024x648 .f32) (x3 x4 : FVec Ideal S1024x648 .f32)
open Cert.Reference17Ideal.Read

/-- The reference stacks the gradients, -/
theorem ref_grads : val_main_v2 (F := Ideal) x3 x4 = grads x3 x4 := by
  funext i
  obtain ⟨l, a, b, rfl⟩ : ∃ l a b, i = ix3 l a b := ⟨_, _, _, eq_ix3 i⟩
  rw [← val_main_v2_eq]
  fin_cases l
  · pointwise
    rfl
  · pointwise
    rfl

/-- and forms the moments and the steps of all entries. -/
theorem ref_moments : val_main_v7 (F := Ideal) x1 x3 x4 = moments x1 x3 x4 := by
  unfold moments
  rw [← ref_grads]
  rfl

theorem ref_squares : val_main_v13 (F := Ideal) x2 x3 x4 = squares x2 x3 x4 := by
  unfold squares
  rw [← ref_grads]
  rfl

theorem ref_steps : val_main_v26 (F := Ideal) x0 x1 x2 x3 x4 = steps x0 x1 x2 x3 x4 := by
  unfold steps
  rw [← ref_grads]
  rfl
end

variable (m : (ℓ : Loc nD τ sig) → Buf (Elt Ideal) ℓ) (c : Dev nD)

/-- The arguments of the call: the weight, its two moments, and the two layers' gradients. -/
abbrev w : FVec Ideal S2x1024x648 .f32 := m ((c : Thread nD τ).loc main_arg0)
abbrev m₁ : FVec Ideal S2x1024x648 .f32 := m ((c : Thread nD τ).loc main_arg1)
abbrev m₂ : FVec Ideal S2x1024x648 .f32 := m ((c : Thread nD τ).loc main_arg2)
abbrev g₀ : FVec Ideal S1024x648 .f32 := m ((c : Thread nD τ).loc main_arg3)
abbrev g₁ : FVec Ideal S1024x648 .f32 := m ((c : Thread nD τ).loc main_arg4)

/-- The blocks a point reads. -/
abbrev bw (t : Fin cfg0.N) : Vec Ideal S1x256x648 .f32 := iblk m c 0 t
abbrev bm₁ (t : Fin cfg0.N) : Vec Ideal S1x256x648 .f32 := iblk m c 1 t
abbrev bm₂ (t : Fin cfg0.N) : Vec Ideal S1x256x648 .f32 := iblk m c 2 t
abbrev bg₀ (t : Fin cfg0.N) : Vec Ideal S256x648 .f32 := iblk m c 3 t
abbrev bg₁ (t : Fin cfg0.N) : Vec Ideal S256x648 .f32 := iblk m c 4 t

/-- Where a point lies and where its windows lie. -/
theorem index_all : ∀ t : Fin grid0.N, (grid0.coords t 0).val = t.val / 4
    ∧ win0_0.index t = ![t.val / 4, t.val % 4, 0] ∧ win0_1.index t = ![t.val / 4, t.val % 4, 0]
    ∧ win0_2.index t = ![t.val / 4, t.val % 4, 0] ∧ win0_3.index t = ![t.val % 4, 0] ∧ win0_4.index t = ![t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] := by
  decide +kernel

/-- A point reads the layer's rows of the weight and its moments, and the same rows of the layer's gradient: what it
    leaves are the entries' own gradients, steps and moments. -/
theorem point (t : Fin cfg0.N) (l : Fin 2) (hl : l.val = t.val / 4) (a : Fin 256) (i : Fin 1024)
    (hi : i.val = 256 * (t.val % 4) + a.val) (b : Fin 648) :
    out0_5 (grid0.coords t) (bw m c t) (bm₁ m c t) (bm₂ m c t) (bg₀ m c t) (bg₁ m c t) (ix3 0 a b) = grads (g₀ m c) (g₁ m c) (ix3 l i b)
    ∧ out0_6 (grid0.coords t) (bw m c t) (bm₁ m c t) (bm₂ m c t) (bg₀ m c t) (bg₁ m c t) (ix3 0 a b)
      = steps (w m c) (m₁ m c) (m₂ m c) (g₀ m c) (g₁ m c) (ix3 l i b)
    ∧ out0_7 (grid0.coords t) (bw m c t) (bm₁ m c t) (bm₂ m c t) (bg₀ m c t) (bg₁ m c t) (ix3 0 a b)
      = moments (m₁ m c) (g₀ m c) (g₁ m c) (ix3 l i b)
    ∧ out0_8 (grid0.coords t) (bw m c t) (bm₁ m c t) (bm₂ m c t) (bg₀ m c t) (bg₁ m c t) (ix3 0 a b)
      = squares (m₂ m c) (g₀ m c) (g₁ m c) (ix3 l i b) := by
  obtain ⟨e, e0, e1, e2, e3, e4, -⟩ := index_all t
  have r0 : bw m c t (ix3 (0 : Fin 1) a b) = w m c (ix3 l i b) := by blk_ext [iblk, V, e0]
  have r1 : bm₁ m c t (ix3 (0 : Fin 1) a b) = m₁ m c (ix3 l i b) := by blk_ext [iblk, V, e1]
  have r2 : bm₂ m c t (ix3 (0 : Fin 1) a b) = m₂ m c (ix3 l i b) := by blk_ext [iblk, V, e2]
  have r3 : bg₀ m c t (ix2 a b) = g₀ m c (ix2 i b) := by blk_ext [iblk, V, e3]
  have r4 : bg₁ m c t (ix2 a b) = g₁ m c (ix2 i b) := by blk_ext [iblk, V, e4]
  obtain ⟨h5, h6, h7, h8⟩ := left (grid0.coords t) (bw m c t) (bm₁ m c t) (bm₂ m c t) (bg₀ m c t) (bg₁ m c t) a b
  rw [h5, h6, h7, h8, grad_apply _ _ _ l a b (e.trans hl.symm), r0, r1, r2, r3, r4]
  exact ⟨rfl, rfl, rfl, rfl⟩

/-- The gradients the grid leaves are the stacked ones, -/
theorem array_grads : (dats m 0 c).arrAt 5 cfg0.N = grads (g₀ m c) (g₁ m c) := by
  refine (dats m 0 c).arrAt_eq_of_covers 5 _ (by decide +kernel) fun t _ y => ?_
  have e := (index_all t).2.2.2.2.2.2.1
  obtain ⟨l, i, hl, hi⟩ := place t.val 4 (y 1).val (by decide) t.isLt (y 1).isLt
  rw [after0_5]
  refine Eq.trans ?_ ((point m c t l hl (⟨_, (y 1).isLt⟩ : Fin 256) i hi (⟨_, (y 2).isLt⟩ : Fin 648)).1.trans (congrArg _ ?_))
  · blk_simp
    exact congrArg _ ((eq_ix3 y).trans (congrArg (fun z => ix3 z (y 1) (y 2)) (Subsingleton.elim (α := Fin 1) (y 0) 0)))
  · blk_ext [e]

/-- so are the steps those of all entries, -/
theorem array_steps : (dats m 0 c).arrAt 6 cfg0.N = steps (w m c) (m₁ m c) (m₂ m c) (g₀ m c) (g₁ m c) := by
  refine (dats m 0 c).arrAt_eq_of_covers 6 _ (by decide +kernel) fun t _ y => ?_
  have e := (index_all t).2.2.2.2.2.2.2.1
  obtain ⟨l, i, hl, hi⟩ := place t.val 4 (y 1).val (by decide) t.isLt (y 1).isLt
  rw [after0_6]
  refine Eq.trans ?_ ((point m c t l hl (⟨_, (y 1).isLt⟩ : Fin 256) i hi (⟨_, (y 2).isLt⟩ : Fin 648)).2.1.trans (congrArg _ ?_))
  · blk_simp
    exact congrArg _ ((eq_ix3 y).trans (congrArg (fun z => ix3 z (y 1) (y 2)) (Subsingleton.elim (α := Fin 1) (y 0) 0)))
  · blk_ext [e]

/-- the first moments, -/
theorem array_moments : (dats m 0 c).arrAt 7 cfg0.N = moments (m₁ m c) (g₀ m c) (g₁ m c) := by
  refine (dats m 0 c).arrAt_eq_of_covers 7 _ (by decide +kernel) fun t _ y => ?_
  have e := (index_all t).2.2.2.2.2.2.2.2.1
  obtain ⟨l, i, hl, hi⟩ := place t.val 4 (y 1).val (by decide) t.isLt (y 1).isLt
  rw [after0_7]
  refine Eq.trans ?_ ((point m c t l hl (⟨_, (y 1).isLt⟩ : Fin 256) i hi (⟨_, (y 2).isLt⟩ : Fin 648)).2.2.1.trans (congrArg _ ?_))
  · blk_simp
    exact congrArg _ ((eq_ix3 y).trans (congrArg (fun z => ix3 z (y 1) (y 2)) (Subsingleton.elim (α := Fin 1) (y 0) 0)))
  · blk_ext [e]

/-- and the second. -/
theorem array_squares : (dats m 0 c).arrAt 8 cfg0.N = squares (m₂ m c) (g₀ m c) (g₁ m c) := by
  refine (dats m 0 c).arrAt_eq_of_covers 8 _ (by decide +kernel) fun t _ y => ?_
  have e := (index_all t).2.2.2.2.2.2.2.2.2
  obtain ⟨l, i, hl, hi⟩ := place t.val 4 (y 1).val (by decide) t.isLt (y 1).isLt
  rw [after0_8]
  refine Eq.trans ?_ ((point m c t l hl (⟨_, (y 1).isLt⟩ : Fin 256) i hi (⟨_, (y 2).isLt⟩ : Fin 648)).2.2.2.trans (congrArg _ ?_))
  · blk_simp
    exact congrArg _ ((eq_ix3 y).trans (congrArg (fun z => ix3 z (y 1) (y 2)) (Subsingleton.elim (α := Fin 1) (y 0) 0)))
  · blk_ext [e]

open Idealize.SL.Sem

/-- The frame of the reference. -/
theorem ref_frame : quiescent_Reference17Ideal := fun m ρ _ => (θ_run Cert.Reference17Ideal.defs _ _).mono
  (fun r h => ⟨fun c => (h c).2.2.2.2, sem_eq_zero_of_no_sems (by decide) r.2⟩)
  (Cert.Reference17Ideal.Value.run (F := Ideal) m ρ)

/-- Both programs leave the same four arrays. -/
theorem equal : algebraic_Kernel17Ideal_Reference17Ideal := by
  intro m ρ m' ρ' _ hargs
  refine ⟨fun c => grads (g₀ m c) (g₁ m c), fun c => steps (w m c) (m₁ m c) (m₂ m c) (g₀ m c) (g₁ m c),
    fun c => moments (m₁ m c) (g₀ m c) (g₁ m c), fun c => squares (m₂ m c) (g₀ m c) (g₁ m c), ?_, ?_⟩
  · refine (θ_run Cert.Kernel17Ideal.defs _ _).mono (fun r h c => ?_) (Cert.Kernel17Ideal.Value.run_blocks (F := Ideal) m ρ)
    obtain ⟨h0, h1, h2, h3, h⟩ := h c
    exact ⟨h0.trans (array_grads m c), h1.trans (array_steps m c), h2.trans (array_moments m c), h3.trans (array_squares m c), h⟩
  · refine (θ_run Cert.Reference17Ideal.defs _ _).mono (fun r h c => ?_) (Cert.Reference17Ideal.Value.run (F := Ideal) m' ρ')
    obtain ⟨a0, a1, a2, a3, a4⟩ := hargs c
    obtain ⟨h0, h1, h2, h3, h⟩ := h c
    rw [Cert.Reference17Ideal.Read.val_main_v2_eq, ref_grads] at h0
    rw [Cert.Reference17Ideal.Read.val_main_v26_eq, ref_steps] at h1
    rw [Cert.Reference17Ideal.Read.val_main_v7_eq, ref_moments] at h2
    rw [Cert.Reference17Ideal.Read.val_main_v13_eq, ref_squares] at h3
    refine ⟨h0.trans ?_, h1.trans ?_, h2.trans ?_, h3.trans ?_, h⟩ <;> simp only [a0, a1, a2, a3, a4]

end Cert.UpdateIn
-- ==== Proof.UpdateOut.lean ====
module
public import proofs.«01_k».proof.Proof.Adam
public import proofs.«01_k».proof.Proof.Product
public import proofs.«01_k».proof.Proof.Gen.Kernel18Ideal.Value
public import proofs.«01_k».proof.Proof.Gen.Reference18Ideal.Run
public import proofs.«01_k».proof.Proof.Gen.Reference18Ideal.Read
public import proofs.«01_k».proof.Defs
public import Idealize.ShloMosaic.Lib.Quiescent

/-!
# The update of `w_out`

Each of the two grid points updates the 256 rows of one of the two layers, with that layer's gradient. The
reference stacks the two gradients and updates all entries at once.
-/

@[expose] public section
set_option maxRecDepth 16384
noncomputable section
namespace Cert.UpdateOut
open Idealize.ShloMosaic Idealize.ShloMosaic.TcCoe Cert.Kernel18Ideal Cert.Kernel18Ideal.Gen Cert.Adam
open Cert.Product (zeros)

section
variable (i : grid0.Coords) (x0 x1 x2 : Vec Ideal S1x256x1024 .f32) (x3 x4 : Vec Ideal S256x1024 .f32) (l : Fin 2)
  (a : Fin 256) (b : Fin 1024)

/-- The gradient a grid point takes, at an index. -/
theorem grad_apply (hl : (i 0).val = l.val) : k0_pay5 i x3 x4 (ix2 a b) = pick l (x3 (ix2 a b)) (x4 (ix2 a b)) := by
  unfold k0_pay5
  dsimp only
  rw [hl]
  fin_cases l <;> rfl

/-- What it leaves: the gradient as it is, the step and the two moments. -/
theorem left : out0_5 i x0 x1 x2 x3 x4 (ix3 0 a b) = k0_pay5 i x3 x4 (ix2 a b)
    ∧ out0_6 i x0 x1 x2 x3 x4 (ix3 0 a b)
      = step (x0 (ix3 0 a b)) (x1 (ix3 0 a b)) (x2 (ix3 0 a b)) (k0_pay5 i x3 x4 (ix2 a b))
    ∧ out0_7 i x0 x1 x2 x3 x4 (ix3 0 a b) = moment (x1 (ix3 0 a b)) (k0_pay5 i x3 x4 (ix2 a b))
    ∧ out0_8 i x0 x1 x2 x3 x4 (ix3 0 a b) = square (x2 (ix3 0 a b)) (k0_pay5 i x3 x4 (ix2 a b)) := by
  refine ⟨?_, ?_, ?_, ?_⟩
  · unfold out0_5
    rw [View.canon_unit_zero zeros3, View.ld_unit_zero zeros, View.ld_unit_zero zeros]
    pointwise [k0_pay1]
  · unfold out0_6 k0_pay8 k0_pay7 k0_pay6
    rw [View.canon_unit_zero zeros3]
    repeat first | rw [View.ld_unit_zero zeros] | rw [View.ld_unit_zero zeros3]
    generalize k0_pay5 i x3 x4 = g
    pointwise [k0_pay2]
    rfl
  · unfold out0_7 k0_pay6
    rw [View.canon_unit_zero zeros3]
    repeat first | rw [View.ld_unit_zero zeros] | rw [View.ld_unit_zero zeros3]
    generalize k0_pay5 i x3 x4 = g
    pointwise [k0_pay3]
    rfl
  · unfold out0_8 k0_pay7
    rw [View.canon_unit_zero zeros3]
    repeat first | rw [View.ld_unit_zero zeros] | rw [View.ld_unit_zero zeros3]
    generalize k0_pay5 i x3 x4 = g
    pointwise [k0_pay4]
    rfl
end

section
variable (x0 x1 x2 : FVec Ideal S2x256x1024 .f32) (x3 x4 : FVec Ideal S256x1024 .f32)
open Cert.Reference18Ideal.Read

/-- The reference stacks the gradients, -/
theorem ref_grads : val_main_v2 (F := Ideal) x3 x4 = grads x3 x4 := by
  funext i
  obtain ⟨l, a, b, rfl⟩ : ∃ l a b, i = ix3 l a b := ⟨_, _, _, eq_ix3 i⟩
  rw [← val_main_v2_eq]
  fin_cases l
  · pointwise
    rfl
  · pointwise
    rfl

/-- and forms the moments and the steps of all entries. -/
theorem ref_moments : val_main_v7 (F := Ideal) x1 x3 x4 = moments x1 x3 x4 := by
  unfold moments
  rw [← ref_grads]
  rfl

theorem ref_squares : val_main_v13 (F := Ideal) x2 x3 x4 = squares x2 x3 x4 := by
  unfold squares
  rw [← ref_grads]
  rfl

theorem ref_steps : val_main_v26 (F := Ideal) x0 x1 x2 x3 x4 = steps x0 x1 x2 x3 x4 := by
  unfold steps
  rw [← ref_grads]
  rfl
end

variable (m : (ℓ : Loc nD τ sig) → Buf (Elt Ideal) ℓ) (c : Dev nD)

/-- The arguments of the call: the weight, its two moments, and the two layers' gradients. -/
abbrev w : FVec Ideal S2x256x1024 .f32 := m ((c : Thread nD τ).loc main_arg0)
abbrev m₁ : FVec Ideal S2x256x1024 .f32 := m ((c : Thread nD τ).loc main_arg1)
abbrev m₂ : FVec Ideal S2x256x1024 .f32 := m ((c : Thread nD τ).loc main_arg2)
abbrev g₀ : FVec Ideal S256x1024 .f32 := m ((c : Thread nD τ).loc main_arg3)
abbrev g₁ : FVec Ideal S256x1024 .f32 := m ((c : Thread nD τ).loc main_arg4)

/-- The blocks a point reads. -/
abbrev bw (t : Fin cfg0.N) : Vec Ideal S1x256x1024 .f32 := iblk m c 0 t
abbrev bm₁ (t : Fin cfg0.N) : Vec Ideal S1x256x1024 .f32 := iblk m c 1 t
abbrev bm₂ (t : Fin cfg0.N) : Vec Ideal S1x256x1024 .f32 := iblk m c 2 t
abbrev bg₀ (t : Fin cfg0.N) : Vec Ideal S256x1024 .f32 := iblk m c 3 t
abbrev bg₁ (t : Fin cfg0.N) : Vec Ideal S256x1024 .f32 := iblk m c 4 t

/-- Where a point lies and where its windows lie. -/
theorem index_all : ∀ t : Fin grid0.N, (grid0.coords t 0).val = t.val / 1
    ∧ win0_0.index t = ![t.val / 1, t.val % 1, 0] ∧ win0_1.index t = ![t.val / 1, t.val % 1, 0]
    ∧ win0_2.index t = ![t.val / 1, t.val % 1, 0] ∧ win0_3.index t = ![t.val % 1, 0] ∧ win0_4.index t = ![t.val % 1, 0]
    ∧ win0_5.index t = ![t.val / 1, t.val % 1, 0] ∧ win0_6.index t = ![t.val / 1, t.val % 1, 0]
    ∧ win0_7.index t = ![t.val / 1, t.val % 1, 0] ∧ win0_8.index t = ![t.val / 1, t.val % 1, 0] := by
  decide +kernel

/-- A point reads the layer's rows of the weight and its moments, and the same rows of the layer's gradient: what it
    leaves are the entries' own gradients, steps and moments. -/
theorem point (t : Fin cfg0.N) (l : Fin 2) (hl : l.val = t.val / 1) (a : Fin 256) (i : Fin 256)
    (hi : i.val = 256 * (t.val % 1) + a.val) (b : Fin 1024) :
    out0_5 (grid0.coords t) (bw m c t) (bm₁ m c t) (bm₂ m c t) (bg₀ m c t) (bg₁ m c t) (ix3 0 a b) = grads (g₀ m c) (g₁ m c) (ix3 l i b)
    ∧ out0_6 (grid0.coords t) (bw m c t) (bm₁ m c t) (bm₂ m c t) (bg₀ m c t) (bg₁ m c t) (ix3 0 a b)
      = steps (w m c) (m₁ m c) (m₂ m c) (g₀ m c) (g₁ m c) (ix3 l i b)
    ∧ out0_7 (grid0.coords t) (bw m c t) (bm₁ m c t) (bm₂ m c t) (bg₀ m c t) (bg₁ m c t) (ix3 0 a b)
      = moments (m₁ m c) (g₀ m c) (g₁ m c) (ix3 l i b)
    ∧ out0_8 (grid0.coords t) (bw m c t) (bm₁ m c t) (bm₂ m c t) (bg₀ m c t) (bg₁ m c t) (ix3 0 a b)
      = squares (m₂ m c) (g₀ m c) (g₁ m c) (ix3 l i b) := by
  obtain ⟨e, e0, e1, e2, e3, e4, -⟩ := index_all t
  have r0 : bw m c t (ix3 (0 : Fin 1) a b) = w m c (ix3 l i b) := by blk_ext [iblk, V, e0]
  have r1 : bm₁ m c t (ix3 (0 : Fin 1) a b) = m₁ m c (ix3 l i b) := by blk_ext [iblk, V, e1]
  have r2 : bm₂ m c t (ix3 (0 : Fin 1) a b) = m₂ m c (ix3 l i b) := by blk_ext [iblk, V, e2]
  have r3 : bg₀ m c t (ix2 a b) = g₀ m c (ix2 i b) := by blk_ext [iblk, V, e3]
  have r4 : bg₁ m c t (ix2 a b) = g₁ m c (ix2 i b) := by blk_ext [iblk, V, e4]
  obtain ⟨h5, h6, h7, h8⟩ := left (grid0.coords t) (bw m c t) (bm₁ m c t) (bm₂ m c t) (bg₀ m c t) (bg₁ m c t) a b
  rw [h5, h6, h7, h8, grad_apply _ _ _ l a b (e.trans hl.symm), r0, r1, r2, r3, r4]
  exact ⟨rfl, rfl, rfl, rfl⟩

/-- The gradients the grid leaves are the stacked ones, -/
theorem array_grads : (dats m 0 c).arrAt 5 cfg0.N = grads (g₀ m c) (g₁ m c) := by
  refine (dats m 0 c).arrAt_eq_of_covers 5 _ (by decide +kernel) fun t _ y => ?_
  have e := (index_all t).2.2.2.2.2.2.1
  obtain ⟨l, i, hl, hi⟩ := place t.val 1 (y 1).val (by decide) t.isLt (y 1).isLt
  rw [after0_5]
  refine Eq.trans ?_ ((point m c t l hl (⟨_, (y 1).isLt⟩ : Fin 256) i hi (⟨_, (y 2).isLt⟩ : Fin 1024)).1.trans (congrArg _ ?_))
  · blk_simp
    exact congrArg _ ((eq_ix3 y).trans (congrArg (fun z => ix3 z (y 1) (y 2)) (Subsingleton.elim (α := Fin 1) (y 0) 0)))
  · blk_ext [e]

/-- so are the steps those of all entries, -/
theorem array_steps : (dats m 0 c).arrAt 6 cfg0.N = steps (w m c) (m₁ m c) (m₂ m c) (g₀ m c) (g₁ m c) := by
  refine (dats m 0 c).arrAt_eq_of_covers 6 _ (by decide +kernel) fun t _ y => ?_
  have e := (index_all t).2.2.2.2.2.2.2.1
  obtain ⟨l, i, hl, hi⟩ := place t.val 1 (y 1).val (by decide) t.isLt (y 1).isLt
  rw [after0_6]
  refine Eq.trans ?_ ((point m c t l hl (⟨_, (y 1).isLt⟩ : Fin 256) i hi (⟨_, (y 2).isLt⟩ : Fin 1024)).2.1.trans (congrArg _ ?_))
  · blk_simp
    exact congrArg _ ((eq_ix3 y).trans (congrArg (fun z => ix3 z (y 1) (y 2)) (Subsingleton.elim (α := Fin 1) (y 0) 0)))
  · blk_ext [e]

/-- the first moments, -/
theorem array_moments : (dats m 0 c).arrAt 7 cfg0.N = moments (m₁ m c) (g₀ m c) (g₁ m c) := by
  refine (dats m 0 c).arrAt_eq_of_covers 7 _ (by decide +kernel) fun t _ y => ?_
  have e := (index_all t).2.2.2.2.2.2.2.2.1
  obtain ⟨l, i, hl, hi⟩ := place t.val 1 (y 1).val (by decide) t.isLt (y 1).isLt
  rw [after0_7]
  refine Eq.trans ?_ ((point m c t l hl (⟨_, (y 1).isLt⟩ : Fin 256) i hi (⟨_, (y 2).isLt⟩ : Fin 1024)).2.2.1.trans (congrArg _ ?_))
  · blk_simp
    exact congrArg _ ((eq_ix3 y).trans (congrArg (fun z => ix3 z (y 1) (y 2)) (Subsingleton.elim (α := Fin 1) (y 0) 0)))
  · blk_ext [e]

/-- and the second. -/
theorem array_squares : (dats m 0 c).arrAt 8 cfg0.N = squares (m₂ m c) (g₀ m c) (g₁ m c) := by
  refine (dats m 0 c).arrAt_eq_of_covers 8 _ (by decide +kernel) fun t _ y => ?_
  have e := (index_all t).2.2.2.2.2.2.2.2.2
  obtain ⟨l, i, hl, hi⟩ := place t.val 1 (y 1).val (by decide) t.isLt (y 1).isLt
  rw [after0_8]
  refine Eq.trans ?_ ((point m c t l hl (⟨_, (y 1).isLt⟩ : Fin 256) i hi (⟨_, (y 2).isLt⟩ : Fin 1024)).2.2.2.trans (congrArg _ ?_))
  · blk_simp
    exact congrArg _ ((eq_ix3 y).trans (congrArg (fun z => ix3 z (y 1) (y 2)) (Subsingleton.elim (α := Fin 1) (y 0) 0)))
  · blk_ext [e]

open Idealize.SL.Sem

/-- The frame of the reference. -/
theorem ref_frame : quiescent_Reference18Ideal := fun m ρ _ => (θ_run Cert.Reference18Ideal.defs _ _).mono
  (fun r h => ⟨fun c => (h c).2.2.2.2, sem_eq_zero_of_no_sems (by decide) r.2⟩)
  (Cert.Reference18Ideal.Value.run (F := Ideal) m ρ)

/-- Both programs leave the same four arrays. -/
theorem equal : algebraic_Kernel18Ideal_Reference18Ideal := by
  intro m ρ m' ρ' _ hargs
  refine ⟨fun c => grads (g₀ m c) (g₁ m c), fun c => steps (w m c) (m₁ m c) (m₂ m c) (g₀ m c) (g₁ m c),
    fun c => moments (m₁ m c) (g₀ m c) (g₁ m c), fun c => squares (m₂ m c) (g₀ m c) (g₁ m c), ?_, ?_⟩
  · refine (θ_run Cert.Kernel18Ideal.defs _ _).mono (fun r h c => ?_) (Cert.Kernel18Ideal.Value.run_blocks (F := Ideal) m ρ)
    obtain ⟨h0, h1, h2, h3, h⟩ := h c
    exact ⟨h0.trans (array_grads m c), h1.trans (array_steps m c), h2.trans (array_moments m c), h3.trans (array_squares m c), h⟩
  · refine (θ_run Cert.Reference18Ideal.defs _ _).mono (fun r h c => ?_) (Cert.Reference18Ideal.Value.run (F := Ideal) m' ρ')
    obtain ⟨a0, a1, a2, a3, a4⟩ := hargs c
    obtain ⟨h0, h1, h2, h3, h⟩ := h c
    rw [Cert.Reference18Ideal.Read.val_main_v2_eq, ref_grads] at h0
    rw [Cert.Reference18Ideal.Read.val_main_v26_eq, ref_steps] at h1
    rw [Cert.Reference18Ideal.Read.val_main_v7_eq, ref_moments] at h2
    rw [Cert.Reference18Ideal.Read.val_main_v13_eq, ref_squares] at h3
    refine ⟨h0.trans ?_, h1.trans ?_, h2.trans ?_, h3.trans ?_, h⟩ <;> simp only [a0, a1, a2, a3, a4]

end Cert.UpdateOut
-- ==== Proof.MixFwd.lean ====
module
public import proofs.«01_k».proof.Proof.DYMixReference
public import proofs.«01_k».proof.Proof.Gen.Kernel19Ideal.Value
public import proofs.«01_k».proof.Proof.Gen.Reference19Ideal.Run
public import proofs.«01_k».proof.Proof.Gen.Reference19Ideal.Read
public import proofs.«01_k».proof.Defs
public import Idealize.ShloMosaic.Lib.Quiescent

/-!
# The mixer's result

Each of the 22 grid points forms 384 rows of the mixer's result: in the first 512 columns the two scans' sum times the GELU
of their gate, behind them four heads of 128 columns, each the attention's output normalised, times a gain and the SiLU of
a gate. The kernel stores the first half and each head by itself; the reference glues the two halves together.
-/

@[expose] public section
set_option maxRecDepth 16384
noncomputable section
namespace Cert.MixFwd
open Idealize.ShloMosaic Idealize.ShloMosaic.TcCoe Cert.Kernel19Ideal Cert.Kernel19Ideal.Gen Cert.GateBack
open Cert.Product (zeros load_whole)
open Cert.DYMix (col high col_zero col_surj of_four col_mul col_div col_mod)

/-- The rows that enter a row of the result: of the two scans, of their gate, of the attention's two directions and of its
gate; and the gain. -/
@[ext] structure Row where
  h1 : Fin 512 → EReal
  h2 : Fin 512 → EReal
  z : Fin 512 → EReal
  o1 : Fin 512 → EReal
  o2 : Fin 512 → EReal
  g : Fin 512 → EReal
  n : Fin 512 → EReal

namespace Row
variable (R : Row)

/-- The result's first half, a head of the second, and the whole row. -/
def scan (b : Fin 512) : EReal := (R.h1 b + R.h2 b) * gelu (R.z b)
def head (q : Fin 4) (k : Fin 128) : EReal :=
  unit (fun k => R.o1 (col q k) + R.o2 (col q k)) k * R.n (col q k) * silu (R.g (col q k))
def mix (b : Fin 1024) : EReal :=
  if h : b.val < 512 then R.scan ⟨b.val, h⟩ else R.head ⟨(b.val - 512) / 128, by omega⟩ ⟨(b.val - 512) % 128, by omega⟩

theorem mix_low (b : Fin 512) (h : b.val < 1024) : R.mix ⟨b.val, h⟩ = R.scan b := dif_pos b.isLt

theorem mix_high (q : Fin 4) (k : Fin 128) (b : Fin 1024) (h : b.val = 512 + (col q k).val) : R.mix b = R.head q k := by
  have e : (col q k).val = 128 * q.val + k.val := rfl
  unfold mix
  rw [dif_neg (by omega)]
  congr 1
  · exact Fin.ext (by dsimp only; omega)
  · exact Fin.ext (by dsimp only; omega)
end Row

section
variable (x0 x1 x2 x3 x4 x5 : Vec Ideal S384x512 .f32) (x6 : Vec Ideal S1x512 .f32) (v : FVec Ideal S384x512 .f32)
  (a : Fin 384) (b : Fin 512) (k : Fin 128)

/-- Row `a` of a grid point's blocks. -/
def rowOf : Row where
  h1 := fun b => x0 (ix2 a b)
  h2 := fun b => x1 (ix2 a b)
  z := fun b => x2 (ix2 a b)
  o1 := fun b => x3 (ix2 a b)
  o2 := fun b => x4 (ix2 a b)
  g := fun b => x5 (ix2 a b)
  n := fun b => x6 (ix2 0 b)

theorem cube_named : Named.named (F := Ideal) κ "gelu_a" (φ := .f32) 0x3D372713#32 = (cube : EReal) :=
  IdealRules.named_const.ideal_named_scalar _ _ _ _ rfl

theorem pay4_apply : k0_pay4 x0 x1 x2 (ix2 a b) = (rowOf x0 x1 x2 x3 x4 x5 x6 a).scan b := by
  show _ = (x0 (ix2 a b) + x1 (ix2 a b)) * gelu (x2 (ix2 a b))
  unfold gelu bend
  rw [← cube_named]
  pointwise [k0_pay4]

theorem pay5_apply : k0_pay5 x3 x4 (ix2 a b) = x3 (ix2 a b) + x4 (ix2 a b) := by
  pointwise [k0_pay5]

theorem silu_apply : k0_pay11 x5 (ix2 a b) = silu (x5 (ix2 a b)) := by
  unfold silu sigma
  pointwise [k0_pay11]

/-! The normalised values of each head, and what is stored of them. -/

theorem unit_0 : k0_pay6 x3 x4 (ix2 a k) * k0_pay7 x3 x4 (ix2 a k) = unit (fun k => k0_pay5 x3 x4 (ix2 a (col 0 k))) k := by
  unfold unit var
  simp only [col_zero]
  pointwise [k0_pay7, k0_pay6]

theorem unit_1 : k0_pay8 v (ix2 a k) = unit (fun k => v (ix2 a (col 1 k))) k := by
  unfold unit var
  pointwise [k0_pay8]
  rfl

theorem unit_2 : k0_pay9 v (ix2 a k) = unit (fun k => v (ix2 a (col 2 k))) k := by
  unfold unit var
  pointwise [k0_pay9]
  rfl

theorem unit_3 : k0_pay10 v (ix2 a k) = unit (fun k => v (ix2 a (col 3 k))) k := by
  unfold unit var
  pointwise [k0_pay10]
  rfl

theorem head_eq (q : Fin 4) : unit (fun k => k0_pay5 x3 x4 (ix2 a (col q k))) k * x6 (ix2 0 (col q k)) * k0_pay11 x5 (ix2 a (col q k))
    = (rowOf x0 x1 x2 x3 x4 x5 x6 a).head q k := by
  rw [silu_apply]
  simp only [pay5_apply]
  rfl

theorem left_0 : k0_pay12 x5 x6 (k0_pay6 x3 x4) (k0_pay7 x3 x4) (ix2 a k) = (rowOf x0 x1 x2 x3 x4 x5 x6 a).head 0 k := by
  rw [← head_eq, ← unit_0, col_zero]
  pointwise [k0_pay12]

theorem left_1 : k0_pay1 x6 (k0_pay8 (k0_pay5 x3 x4)) (k0_pay11 x5) (ix2 a k) = (rowOf x0 x1 x2 x3 x4 x5 x6 a).head 1 k := by
  rw [← head_eq, ← unit_1]
  generalize k0_pay8 (k0_pay5 x3 x4) = u
  pointwise [k0_pay1]
  rfl

theorem left_2 : k0_pay2 x6 (k0_pay9 (k0_pay5 x3 x4)) (k0_pay11 x5) (ix2 a k) = (rowOf x0 x1 x2 x3 x4 x5 x6 a).head 2 k := by
  rw [← head_eq, ← unit_2]
  generalize k0_pay9 (k0_pay5 x3 x4) = u
  pointwise [k0_pay2]
  rfl

theorem left_3 : k0_pay3 x6 (k0_pay10 (k0_pay5 x3 x4)) (k0_pay11 x5) (ix2 a k) = (rowOf x0 x1 x2 x3 x4 x5 x6 a).head 3 k := by
  rw [← head_eq, ← unit_3]
  generalize k0_pay10 (k0_pay5 x3 x4) = u
  pointwise [k0_pay3]
  rfl

end

section
variable (x0 x1 : FVec Ideal S8448x512 .f32) (x2 : FVec Ideal S8448x1024 .f32) (x3 x4 x5 : FVec Ideal S8448x512 .f32)
  (x6 : FVec Ideal S1x512 .f32) (i : Fin 8448) (b : Fin 512) (q : Fin 4) (k : Fin 128)

/-- Row `i` of the arguments. -/
def argRow : Row where
  h1 := fun b => x0 (ix2 i b)
  h2 := fun b => x1 (ix2 i b)
  z := fun b => x2 (ix2 i (high b))
  o1 := fun b => x3 (ix2 i b)
  o2 := fun b => x4 (ix2 i b)
  g := fun b => x5 (ix2 i b)
  n := fun b => x6 (ix2 0 b)

open Cert.Reference19Ideal.Read

/-! The reference's steps at an index. -/

theorem ref_z : val_main_v1 (F := Ideal) x2 (ix2 i b) = x2 (ix2 i (high b)) := by
  unfold val_main_v1
  pointwise
  rfl

theorem ref_bend : val_main_v14 (F := Ideal) x2 (ix2 i b) = bend (x2 (ix2 i (high b))) := by
  rw [← ref_z x2 i b, ← bend_cube, ← cube_eq]
  unfold val_main_v14 val_main_v13 val_main_v12 val_main_v11 val_main_v10 val_main_v9 val_main_v8 val_main_v7 val_main_v4 val_main_cst val_main_cst_0 val_main_cst_2
  generalize val_main_v1 (F := Ideal) x2 = z
  pointwise

theorem ref_scan : val_main_v18 (F := Ideal) x0 x1 x2 (ix2 i b) = (argRow x0 x1 x2 x3 x4 x5 x6 i).scan b := by
  show _ = (x0 (ix2 i b) + x1 (ix2 i b)) * (half * x2 (ix2 i (high b)) * (1 + bend (x2 (ix2 i (high b)))))
  rw [← ref_bend, ← ref_z x2 i b]
  unfold val_main_v18 val_main_v17 val_main_v16 val_main_v15 val_main_v6 val_main_v5 val_main_v0 val_main_cst_1 val_main_cst_3
  generalize val_main_v14 (F := Ideal) x2 = t
  generalize val_main_v1 (F := Ideal) x2 = z
  pointwise

theorem ref_o : val_main_v19 (F := Ideal) x3 x4 (ix3 i q k) = x3 (ix2 i (col q k)) + x4 (ix2 i (col q k)) := by
  unfold val_main_v19 val_main_v2
  pointwise
  rw [col_mul]

theorem ref_var : val_main_v26 (F := Ideal) x3 x4 (ix3 i q 0) = var fun k => x3 (ix2 i (col q k)) + x4 (ix2 i (col q k)) := by
  unfold var
  simp only [← ref_o]
  unfold val_main_v26 val_main_v25 val_main_v24 val_main_v23 val_main_v22 val_main_v21 val_main_v20 val_main_cst_4 val_main_cst_5 val_main_cst_6
  generalize val_main_v19 (F := Ideal) x3 x4 = o
  pointwise

theorem ref_unit : val_main_v30 (F := Ideal) x3 x4 (ix2 i (col q k)) = unit (fun k => x3 (ix2 i (col q k)) + x4 (ix2 i (col q k))) k := by
  unfold unit
  dsimp only
  rw [← ref_o, ← ref_var]
  unfold val_main_v30 val_main_v29 val_main_v28 val_main_v27
  generalize val_main_v19 (F := Ideal) x3 x4 = o
  generalize val_main_v26 (F := Ideal) x3 x4 = v
  pointwise
  rw [col_div, col_mod]

theorem ref_sigma : val_main_v39 (F := Ideal) x5 (ix2 i b) = sigma (x5 (ix2 i b)) := by
  unfold sigma val_main_v39 val_main_v38 val_main_v37 val_main_v36 val_main_v35 val_main_v34 val_main_cst_7 val_main_cst_8
  rw [zero_sub]
  pointwise

theorem ref_head : val_main_v41 (F := Ideal) x3 x4 x5 x6 (ix2 i (col q k)) = (argRow x0 x1 x2 x3 x4 x5 x6 i).head q k := by
  show _ = unit (fun k => x3 (ix2 i (col q k)) + x4 (ix2 i (col q k))) k * x6 (ix2 0 (col q k)) * (x5 (ix2 i (col q k)) * sigma (x5 (ix2 i (col q k))))
  rw [← ref_unit, ← ref_sigma]
  unfold val_main_v41 val_main_v40 val_main_v33 val_main_v32 val_main_v31 val_main_v3
  generalize val_main_v30 (F := Ideal) x3 x4 = u
  generalize val_main_v39 (F := Ideal) x5 = s
  pointwise

/-- The reference's result, at an index. -/
theorem ref_mix (b : Fin 1024) : val_main_v43 (F := Ideal) x0 x1 x2 x3 x4 x5 x6 (ix2 i b) = (argRow x0 x1 x2 x3 x4 x5 x6 i).mix b := by
  by_cases h : b.val < 512
  · have e := (argRow x0 x1 x2 x3 x4 x5 x6 i).mix_low ⟨b.val, h⟩ b.isLt
    rw [show (⟨b.val, b.isLt⟩ : Fin 1024) = b from rfl] at e
    rw [e, ← ref_scan]
    unfold val_main_v43 val_main_v42
    generalize val_main_v18 (F := Ideal) x0 x1 x2 = s
    pointwise
    rw [dif_pos h]
  · obtain ⟨q, k, hq⟩ := col_surj ⟨b.val - 512, by omega⟩
    have hv : b.val - 512 = (col q k).val := congrArg Fin.val hq
    rw [(argRow x0 x1 x2 x3 x4 x5 x6 i).mix_high q k b (by omega), ← ref_head, ← hq]
    unfold val_main_v43 val_main_v42
    generalize val_main_v41 (F := Ideal) x3 x4 x5 x6 = s
    pointwise
    rw [dif_neg h]
end

/-! What a grid point leaves: the pieces it stored agree with the row, and cover the block. -/

/-- The five pieces, the last stored first. -/
abbrev pile (low : Vec Ideal S384x512 .bf16) (p0 p1 p2 p3 : Vec Ideal S384x128 .bf16) : List (View.Piece (Elt Ideal) S384x1024 .bf16) :=
  [⟨Rect.unit (s := S384x1024) ![0, 896] S384x128.size inb_S384x1024_S384x128_0_896, p3⟩,
    ⟨Rect.unit (s := S384x1024) ![0, 768] S384x128.size inb_S384x1024_S384x128_0_768, p2⟩,
    ⟨Rect.unit (s := S384x1024) ![0, 640] S384x128.size inb_S384x1024_S384x128_0_640, p1⟩,
    ⟨Rect.unit (s := S384x1024) ![0, 512] S384x128.size inb_S384x1024_S384x128_0_512, p0⟩,
    ⟨Rect.unit (s := S384x1024) ![0, 0] S384x512.size inb_S384x1024_S384x512_0_0, low⟩]

/-- An index whose column lies in a band of columns lies in the band's rectangle. -/
theorem band (y : S384x1024.Idx) (o n : ℕ) (inb : ∀ a, (![0, o] : Fin 2 → ℕ) a + (![384, n] : Fin 2 → ℕ) a ≤ S384x1024.size a)
    (b0 : (y 0).val < 384) (h : o ≤ (y 1).val) (h' : (y 1).val < o + n) : y ∈ (Rect.unit (s := S384x1024) ![0, o] ![384, n] inb).set :=
  Rect.mem_set_unit.mpr (Fin.forall_fin_two.mpr ⟨⟨Nat.zero_le _, lt_of_lt_of_eq b0 (Nat.zero_add 384).symm⟩, ⟨h, h'⟩⟩)

/-- They cover the block; so if each agrees with a row, so does what they leave. -/
theorem canon_pile (G : Vec Ideal S384x1024 .bf16) (low : Vec Ideal S384x512 .bf16) (p0 p1 p2 p3 : Vec Ideal S384x128 .bf16)
    (hl : ∀ (a : Fin 384) (b : Fin 512) (y : S384x1024.Idx), (y 0).val = a.val → (y 1).val = b.val → low (ix2 a b) = G y)
    (h0 : ∀ (a : Fin 384) (k : Fin 128) (y : S384x1024.Idx), (y 0).val = a.val → (y 1).val = 512 + k.val → p0 (ix2 a k) = G y)
    (h1 : ∀ (a : Fin 384) (k : Fin 128) (y : S384x1024.Idx), (y 0).val = a.val → (y 1).val = 640 + k.val → p1 (ix2 a k) = G y)
    (h2 : ∀ (a : Fin 384) (k : Fin 128) (y : S384x1024.Idx), (y 0).val = a.val → (y 1).val = 768 + k.val → p2 (ix2 a k) = G y)
    (h3 : ∀ (a : Fin 384) (k : Fin 128) (y : S384x1024.Idx), (y 0).val = a.val → (y 1).val = 896 + k.val → p3 (ix2 a k) = G y) :
    View.canon (pile low p0 p1 p2 p3) = G := by
  funext y
  refine View.canon_apply_of_pieces G _ ?_ y ?_
  · refine List.forall_mem_cons.mpr ⟨fun x => ?_, List.forall_mem_cons.mpr ⟨fun x => ?_, List.forall_mem_cons.mpr ⟨fun x => ?_,
      List.forall_mem_cons.mpr ⟨fun x => ?_, List.forall_mem_cons.mpr ⟨fun x => ?_, fun p hp => absurd hp List.not_mem_nil⟩⟩⟩⟩⟩
    · exact (congrArg p3 (eq_ix2 x)).trans (h3 _ _ _ ((Nat.zero_add _).trans (Nat.one_mul _)) (congrArg (896 + ·) (Nat.one_mul _)))
    · exact (congrArg p2 (eq_ix2 x)).trans (h2 _ _ _ ((Nat.zero_add _).trans (Nat.one_mul _)) (congrArg (768 + ·) (Nat.one_mul _)))
    · exact (congrArg p1 (eq_ix2 x)).trans (h1 _ _ _ ((Nat.zero_add _).trans (Nat.one_mul _)) (congrArg (640 + ·) (Nat.one_mul _)))
    · exact (congrArg p0 (eq_ix2 x)).trans (h0 _ _ _ ((Nat.zero_add _).trans (Nat.one_mul _)) (congrArg (512 + ·) (Nat.one_mul _)))
    · exact (congrArg low (eq_ix2 x)).trans (hl _ _ _ ((Nat.zero_add _).trans (Nat.one_mul _)) ((Nat.zero_add _).trans (Nat.one_mul _)))
  · have b0 : (y 0).val < 384 := (y 0).isLt
    have b1 : (y 1).val < 1024 := (y 1).isLt
    by_cases c0 : (y 1).val < 512
    · exact ⟨_, List.mem_cons_of_mem _ (List.mem_cons_of_mem _ (List.mem_cons_of_mem _ (List.mem_cons_of_mem _ List.mem_cons_self))),
        band y 0 512 inb_S384x1024_S384x512_0_0 b0 (Nat.zero_le _) (by omega)⟩
    by_cases c1 : (y 1).val < 640
    · exact ⟨_, List.mem_cons_of_mem _ (List.mem_cons_of_mem _ (List.mem_cons_of_mem _ List.mem_cons_self)), band y 512 128 inb_S384x1024_S384x128_0_512 b0 (by omega) (by omega)⟩
    by_cases c2 : (y 1).val < 768
    · exact ⟨_, List.mem_cons_of_mem _ (List.mem_cons_of_mem _ List.mem_cons_self), band y 640 128 inb_S384x1024_S384x128_0_640 b0 (by omega) (by omega)⟩
    by_cases c3 : (y 1).val < 896
    · exact ⟨_, List.mem_cons_of_mem _ List.mem_cons_self, band y 768 128 inb_S384x1024_S384x128_0_768 b0 (by omega) (by omega)⟩
    · exact ⟨_, List.mem_cons_self, band y 896 128 inb_S384x1024_S384x128_0_896 b0 (by omega) (by omega)⟩

section
variable (x0 x1 x2 x3 x4 x5 : Vec Ideal S384x512 .f32) (x6 : Vec Ideal S1x512 .f32)

/-- The block the pieces are pieces of. -/
def whole : Vec Ideal S384x1024 .bf16 := fun y => (rowOf x0 x1 x2 x3 x4 x5 x6 ⟨(y 0).val, (y 0).isLt⟩).mix ⟨(y 1).val, (y 1).isLt⟩

/-- It at an index of a head, and at one of the first half. -/
theorem whole_high (y : S384x1024.Idx) (a : Fin 384) (q : Fin 4) (k : Fin 128) (h0 : (y 0).val = a.val)
    (h1 : (y 1).val = 512 + (128 * q.val + k.val)) : (rowOf x0 x1 x2 x3 x4 x5 x6 a).head q k = whole x0 x1 x2 x3 x4 x5 x6 y := by
  unfold whole
  rw [Row.mix_high _ q k ⟨(y 1).val, (y 1).isLt⟩ h1, show (⟨(y 0).val, (y 0).isLt⟩ : Fin 384) = a from Fin.ext h0]

theorem whole_low (y : S384x1024.Idx) (a : Fin 384) (b : Fin 512) (h0 : (y 0).val = a.val) (h1 : (y 1).val = b.val) :
    (rowOf x0 x1 x2 x3 x4 x5 x6 a).scan b = whole x0 x1 x2 x3 x4 x5 x6 y := by
  unfold whole
  rw [show (⟨(y 1).val, (y 1).isLt⟩ : Fin 1024) = ⟨b.val, by omega⟩ from Fin.ext h1, Row.mix_low,
    show (⟨(y 0).val, (y 0).isLt⟩ : Fin 384) = a from Fin.ext h0]

variable (c : Dev nD) (i : grid0.Coords) (arg1 : Memref sig .tc .vmem S384x512 .f32) (harg1 : arg1.IsWhole) (arg2 : Memref sig .tc .vmem S384x512 .f32) (harg2 : arg2.IsWhole)
  (arg3 : Memref sig .tc .vmem S384x512 .f32) (harg3 : arg3.IsWhole) (arg4 : Memref sig .tc .vmem S384x512 .f32) (harg4 : arg4.IsWhole)
  (arg5 : Memref sig .tc .vmem S384x512 .f32) (harg5 : arg5.IsWhole) (arg6 : Memref sig .tc .vmem S384x512 .f32) (harg6 : arg6.IsWhole)
  (arg7 : Memref sig .tc .vmem S1x512 .f32) (harg7 : arg7.IsWhole) (arg8 : Memref sig .tc .vmem S384x1024 .bf16) (harg8 : arg8.IsWhole)

/-- What a point leaves is that block. -/
theorem left : out0_A_7 c i arg1 harg1 arg2 harg2 arg3 harg3 arg4 harg4 arg5 harg5 arg6 harg6 arg7 harg7 arg8 harg8 x0 x1 x2 x3 x4 x5 x6
    = whole x0 x1 x2 x3 x4 x5 x6 := by
  unfold out0_A_7
  rw [View.read_writes_junk_eq_canon]
  sl_unfold_run_names
  refine canon_pile (whole x0 x1 x2 x3 x4 x5 x6) _ _ _ _ _ ?_ ?_ ?_ ?_ ?_
  all_goals
    intro a k y h0 h1
    sl_unfold_run_names
    simp only [load_whole harg1 x0 zeros, load_whole harg2 x1 zeros, load_whole harg3 x2 zeros, load_whole harg4 x3 zeros,
      load_whole harg5 x4 zeros, load_whole harg6 x5 zeros, load_whole harg7 x6 zeros]
  · exact (pay4_apply x0 x1 x2 x3 x4 x5 x6 a k).trans (whole_low x0 x1 x2 x3 x4 x5 x6 y a k h0 h1)
  · exact (left_0 x0 x1 x2 x3 x4 x5 x6 a k).trans (whole_high x0 x1 x2 x3 x4 x5 x6 y a 0 k h0 (h1.trans (Nat.add_assoc 512 0 k.val)))
  · exact (left_1 x0 x1 x2 x3 x4 x5 x6 a k).trans (whole_high x0 x1 x2 x3 x4 x5 x6 y a 1 k h0 (h1.trans (Nat.add_assoc 512 128 k.val)))
  · exact (left_2 x0 x1 x2 x3 x4 x5 x6 a k).trans (whole_high x0 x1 x2 x3 x4 x5 x6 y a 2 k h0 (h1.trans (Nat.add_assoc 512 256 k.val)))
  · exact (left_3 x0 x1 x2 x3 x4 x5 x6 a k).trans (whole_high x0 x1 x2 x3 x4 x5 x6 y a 3 k h0 (h1.trans (Nat.add_assoc 512 384 k.val)))
end

variable (m : (ℓ : Loc nD τ sig) → Buf (Elt Ideal) ℓ) (c : Dev nD)

/-- The arguments of the call: the two scans, the input projection, the attention's two directions, its gate and the heads'
gain. -/
abbrev hF : FVec Ideal S8448x512 .f32 := m ((c : Thread nD τ).loc main_arg0)
abbrev hB : FVec Ideal S8448x512 .f32 := m ((c : Thread nD τ).loc main_arg1)
abbrev z : FVec Ideal S8448x1024 .f32 := m ((c : Thread nD τ).loc main_arg2)
abbrev oF : FVec Ideal S8448x512 .f32 := m ((c : Thread nD τ).loc main_arg3)
abbrev oB : FVec Ideal S8448x512 .f32 := m ((c : Thread nD τ).loc main_arg4)
abbrev gO : FVec Ideal S8448x512 .f32 := m ((c : Thread nD τ).loc main_arg5)
abbrev gain : FVec Ideal S1x512 .f32 := m ((c : Thread nD τ).loc main_arg6)

/-- The blocks a point reads. -/
abbrev blk0 (t : Fin cfg0.N) : Vec Ideal S384x512 .f32 := iblk m c 0 t
abbrev blk1 (t : Fin cfg0.N) : Vec Ideal S384x512 .f32 := iblk m c 1 t
abbrev blk2 (t : Fin cfg0.N) : Vec Ideal S384x512 .f32 := iblk m c 2 t
abbrev blk3 (t : Fin cfg0.N) : Vec Ideal S384x512 .f32 := iblk m c 3 t
abbrev blk4 (t : Fin cfg0.N) : Vec Ideal S384x512 .f32 := iblk m c 4 t
abbrev blk5 (t : Fin cfg0.N) : Vec Ideal S384x512 .f32 := iblk m c 5 t
abbrev blk6 (t : Fin cfg0.N) : Vec Ideal S1x512 .f32 := iblk m c 6 t

/-- Where the windows lie: the gate's reads the right half of the input projection. -/
theorem index : ∀ t : Fin grid0.N, win0_0.index t = ![t.val, 0] ∧ win0_1.index t = ![t.val, 0] ∧ win0_2.index t = ![t.val, 1]
    ∧ win0_3.index t = ![t.val, 0] ∧ win0_4.index t = ![t.val, 0] ∧ win0_5.index t = ![t.val, 0] ∧ win0_6.index t = ![0, 0]
    ∧ win0_7.index t = ![t.val, 0] := by
  decide +kernel

/-- Row `a` of a point's blocks is a row of the arguments. -/
theorem row_eq (t : Fin cfg0.N) (a : Fin 384) (r : Fin 8448) (hr : r.val = 384 * t.val + a.val) :
    rowOf (blk0 m c t) (blk1 m c t) (blk2 m c t) (blk3 m c t) (blk4 m c t) (blk5 m c t) (blk6 m c t) a
      = argRow (hF m c) (hB m c) (z m c) (oF m c) (oB m c) (gO m c) (gain m c) r := by
  obtain ⟨e0, e1, e2, e3, e4, e5, e6, -⟩ := index t
  refine Row.ext ?_ ?_ ?_ ?_ ?_ ?_ ?_ <;> funext k
  · show blk0 m c t (ix2 a k) = hF m c (ix2 r k)
    refine Eq.trans ?_ (congrFun (V_main_arg0 m c) (ix2 r k))
    blk_ext [iblk, e0]
  · show blk1 m c t (ix2 a k) = hB m c (ix2 r k)
    refine Eq.trans ?_ (congrFun (V_main_arg1 m c) (ix2 r k))
    blk_ext [iblk, e1]
  · show blk2 m c t (ix2 a k) = z m c (ix2 r (high k))
    refine Eq.trans ?_ (congrFun (V_main_arg2 m c) (ix2 r (high k)))
    blk_ext [iblk, e2]
    rfl
  · show blk3 m c t (ix2 a k) = oF m c (ix2 r k)
    refine Eq.trans ?_ (congrFun (V_main_arg3 m c) (ix2 r k))
    blk_ext [iblk, e3]
  · show blk4 m c t (ix2 a k) = oB m c (ix2 r k)
    refine Eq.trans ?_ (congrFun (V_main_arg4 m c) (ix2 r k))
    blk_ext [iblk, e4]
  · show blk5 m c t (ix2 a k) = gO m c (ix2 r k)
    refine Eq.trans ?_ (congrFun (V_main_arg5 m c) (ix2 r k))
    blk_ext [iblk, e5]
  · show blk6 m c t (ix2 0 k) = gain m c (ix2 0 k)
    refine Eq.trans ?_ (congrFun (V_main_arg6 m c) (ix2 0 k))
    blk_ext [iblk, e6]

/-- The row of the whole array that row `a` of a point's block is. -/
theorem whole_row (t : Fin cfg0.N) {a : ℕ} (h : a < 384) : ∃ i : Fin 8448, i.val = 384 * t.val + a := by
  have ht : t.val < 22 := t.isLt
  exact ⟨⟨_, by omega⟩, rfl⟩

/-- The array the grid leaves is the reference's. -/
theorem array : (dats m 0 c).arrAt 7 cfg0.N = Cert.Reference19Ideal.Read.val_main_v43 (F := Ideal) (hF m c) (hB m c) (z m c) (oF m c) (oB m c) (gO m c) (gain m c) := by
  refine (dats m 0 c).arrAt_eq_of_covers 7 _ (by decide +kernel) fun t hf y => ?_
  have e := (index t).2.2.2.2.2.2.2
  have hy0 : (y 0).val < 384 := (y 0).isLt
  have hy1 : (y 1).val < 1024 := (y 1).isLt
  obtain ⟨i, hi⟩ := whole_row t hy0
  have key : whole (blk0 m c t) (blk1 m c t) (blk2 m c t) (blk3 m c t) (blk4 m c t) (blk5 m c t) (blk6 m c t) (ix2 (⟨_, hy0⟩ : Fin 384) (⟨_, hy1⟩ : Fin 1024))
      = Cert.Reference19Ideal.Read.val_main_v43 (F := Ideal) (hF m c) (hB m c) (z m c) (oF m c) (oB m c) (gO m c) (gain m c) (ix2 i (⟨_, hy1⟩ : Fin 1024)) :=
    (congrArg (fun R : Row => R.mix ⟨_, hy1⟩) (row_eq m c t ⟨_, hy0⟩ i hi)).trans (ref_mix (hF m c) (hB m c) (z m c) (oF m c) (oB m c) (gO m c) (gain m c) i ⟨_, hy1⟩).symm
  rw [after0_7]
  unfold outsAt0
  rw [left]
  refine Eq.trans ?_ (key.trans (congrArg _ ?_))
  · blk_simp
    exact congrArg _ (eq_ix2 y)
  · blk_ext [e]

open Idealize.SL.Sem

/-- The frame of the reference. -/
theorem ref_frame : quiescent_Reference19Ideal := fun m ρ _ => (θ_run Cert.Reference19Ideal.defs _ _).mono
  (fun r h => ⟨fun c => (h c).2, sem_eq_zero_of_no_sems (by decide) r.2⟩)
  (Cert.Reference19Ideal.Value.run (F := Ideal) m ρ)

/-- Both programs leave the same array. -/
theorem equal : algebraic_Kernel19Ideal_Reference19Ideal := by
  intro m ρ m' ρ' _ hargs
  refine ⟨fun c => Cert.Reference19Ideal.Read.val_main_v43 (F := Ideal) (hF m c) (hB m c) (z m c) (oF m c) (oB m c) (gO m c) (gain m c), ?_, ?_⟩
  · exact (θ_run Cert.Kernel19Ideal.defs _ _).mono (fun r h c => ⟨(h c).1.trans (array m c), (h c).2⟩)
      (Cert.Kernel19Ideal.Value.run_blocks (F := Ideal) m ρ)
  · refine (θ_run Cert.Reference19Ideal.defs _ _).mono (fun r h c => ?_) (Cert.Reference19Ideal.Value.run (F := Ideal) m' ρ')
    obtain ⟨e, keep⟩ := h c
    obtain ⟨a0, a1, a2, a3, a4, a5, a6⟩ := hargs c
    refine ⟨e.trans ((Cert.Reference19Ideal.Read.val_main_v43_eq ..).trans ?_), keep⟩
    rw [a0, a1, a2, a3, a4, a5, a6]

end Cert.MixFwd
-- ==== Proof.DZ.lean ====
module
public import proofs.«01_k».proof.Proof.Product
public import proofs.«01_k».proof.Proof.Gen.Kernel20Ideal.Value
public import proofs.«01_k».proof.Proof.Gen.Reference20Ideal.Run
public import proofs.«01_k».proof.Proof.Gen.Reference20Ideal.Read
public import proofs.«01_k».proof.Defs
public import Idealize.ShloMosaic.Lib.Quiescent

/-!
# The gradient of the input projection

Each of the 22 grid points lays 384 rows of the gradients of the projection's parts beside each other, with the product
that leads back from the gate's logits; and adds its rows' part to the gradients of the gate's weight and bias, which are
sums over all rows.
-/

@[expose] public section
set_option maxRecDepth 16384
noncomputable section
namespace Cert.DZ
open Idealize.ShloMosaic Idealize.ShloMosaic.TcCoe Cert.Kernel20Ideal Cert.Kernel20Ideal.Gen
open Cert.Product (zeros load_whole)

/-- The scale of the queries. -/
abbrev eighth : EReal := Ideal.ofBits FTy.f32 0x3E000000#32

/-- The rows that enter a row of the result, and the weight. -/
@[ext] structure Row where
  dx : Fin 512 → EReal
  dgate : Fin 512 → EReal
  q1 : Fin 256 → EReal
  q2 : Fin 256 → EReal
  k1 : Fin 256 → EReal
  k2 : Fin 256 → EReal
  v1 : Fin 512 → EReal
  v2 : Fin 512 → EReal
  g : Fin 512 → EReal
  p1 : Fin 256 → EReal
  p2 : Fin 256 → EReal
  zg : Fin 128 → EReal
  w : Fin 128 → Fin 512 → EReal

namespace Row
variable (R : Row)

/-- The gradient of the gate's logits, both directions beside each other, and the whole row of the result. -/
def pre (b : Fin 512) : EReal := if h : b.val < 256 then R.p1 ⟨b.val, h⟩ else R.p2 ⟨b.val - 256, by omega⟩
def partA (k : Fin 512) : EReal := R.dx k
def partB (k : Fin 512) : EReal := R.dgate k
def partC (k : Fin 256) : EReal := (R.q1 k + R.q2 k) * eighth
def partD (k : Fin 256) : EReal := R.k1 k + R.k2 k
def partE (k : Fin 512) : EReal := R.v1 k + R.v2 k
def partF (k : Fin 512) : EReal := R.g k
def partG (k : Fin 128) : EReal := ∑ j, R.pre j * R.w k j
def out (b : Fin 2688) : EReal :=
  if h : b.val < 512 then R.partA ⟨b.val, h⟩
  else if h : b.val - 512 < 512 then R.partB ⟨b.val - 512, h⟩
  else if h : b.val - 512 - 512 < 256 then R.partC ⟨b.val - 512 - 512, h⟩
  else if h : b.val - 512 - 512 - 256 < 256 then R.partD ⟨b.val - 512 - 512 - 256, h⟩
  else if h : b.val - 512 - 512 - 256 - 256 < 512 then R.partE ⟨b.val - 512 - 512 - 256 - 256, h⟩
  else if h : b.val - 512 - 512 - 256 - 256 - 512 < 512 then R.partF ⟨b.val - 512 - 512 - 256 - 256 - 512, h⟩
  else R.partG ⟨b.val - 512 - 512 - 256 - 256 - 512 - 512, by omega⟩

/-! The row, part by part. -/

theorem out_0 (b : Fin 2688) (k : Fin 512) (h : b.val = 0 + k.val) : R.out b = R.partA k := by
  unfold out
  rw [dif_pos (by omega)]
  exact congrArg R.partA (Fin.ext (by dsimp only; omega))

theorem out_1 (b : Fin 2688) (k : Fin 512) (h : b.val = 512 + k.val) : R.out b = R.partB k := by
  unfold out
  rw [dif_neg (by omega), dif_pos (by omega)]
  exact congrArg R.partB (Fin.ext (by dsimp only; omega))

theorem out_2 (b : Fin 2688) (k : Fin 256) (h : b.val = 1024 + k.val) : R.out b = R.partC k := by
  unfold out
  rw [dif_neg (by omega), dif_neg (by omega), dif_pos (by omega)]
  exact congrArg R.partC (Fin.ext (by dsimp only; omega))

theorem out_3 (b : Fin 2688) (k : Fin 256) (h : b.val = 1280 + k.val) : R.out b = R.partD k := by
  unfold out
  rw [dif_neg (by omega), dif_neg (by omega), dif_neg (by omega), dif_pos (by omega)]
  exact congrArg R.partD (Fin.ext (by dsimp only; omega))

theorem out_4 (b : Fin 2688) (k : Fin 512) (h : b.val = 1536 + k.val) : R.out b = R.partE k := by
  unfold out
  rw [dif_neg (by omega), dif_neg (by omega), dif_neg (by omega), dif_neg (by omega), dif_pos (by omega)]
  exact congrArg R.partE (Fin.ext (by dsimp only; omega))

theorem out_5 (b : Fin 2688) (k : Fin 512) (h : b.val = 2048 + k.val) : R.out b = R.partF k := by
  unfold out
  rw [dif_neg (by omega), dif_neg (by omega), dif_neg (by omega), dif_neg (by omega), dif_neg (by omega), dif_pos (by omega)]
  exact congrArg R.partF (Fin.ext (by dsimp only; omega))

theorem out_6 (b : Fin 2688) (k : Fin 128) (h : b.val = 2560 + k.val) : R.out b = R.partG k := by
  unfold out
  rw [dif_neg (by omega), dif_neg (by omega), dif_neg (by omega), dif_neg (by omega), dif_neg (by omega), dif_neg (by omega)]
  exact congrArg R.partG (Fin.ext (by dsimp only; omega))
end Row

/-- Row `a` of the rows of point `t`. -/
def row (t : ℕ) (h : t < 22) (a : Fin 384) : Fin 8448 := ⟨384 * t + a.val, by omega⟩

/-- What the points up to `n` add up. -/
def upTo (f : Fin 8448 → EReal) : ℕ → EReal
  | 0 => 0 + ∑ a, f (row 0 (by decide) a)
  | n + 1 => upTo f n + if h : n + 1 < 22 then ∑ a, f (row (n + 1) h a) else 0

/-- A sum over the rows is what the 22 points add up. -/
theorem upTo_all (f : Fin 8448 → EReal) : upTo f 21 = ∑ r, f r := by
  have step : ∀ n (h : n < 22), upTo f n = ∑ t : Fin (n + 1), ∑ a, f (row t.val (by omega) a) := by
    intro n
    induction n with
    | zero => intro h; simp [upTo]
    | succ n ih =>
      intro h
      rw [upTo, dif_pos h, ih (by omega), Fin.sum_univ_castSucc (n := n + 1)]
      rfl
  rw [step 21 (by decide), ← Fintype.sum_prod_type']
  refine Fintype.sum_equiv (finProdFinEquiv (m := 22) (n := 384)) _ _ fun p => congrArg f (Fin.ext ?_)
  simp [row, finProdFinEquiv, add_comm]

section
variable (x0 : Vec Ideal S384x512 .f32) (x1 : Vec Ideal S384x512 .f32) (x2 : Vec Ideal S384x256 .f32) (x3 : Vec Ideal S384x256 .f32) (x4 : Vec Ideal S384x256 .f32) (x5 : Vec Ideal S384x256 .f32) (x6 : Vec Ideal S384x512 .f32) (x7 : Vec Ideal S384x512 .f32) (x8 : Vec Ideal S384x512 .f32) (x9 : Vec Ideal S384x256 .f32) (x10 : Vec Ideal S384x256 .f32) (x11 : Vec Ideal S384x128 .f32) (x12 : Vec Ideal S128x512 .bf16) (a : Fin 384)

/-- Row `a` of a grid point's blocks. -/
def rowOf : Row where
  dx := fun b => x0 (ix2 a b)
  dgate := fun b => x1 (ix2 a b)
  q1 := fun b => x2 (ix2 a b)
  q2 := fun b => x3 (ix2 a b)
  k1 := fun b => x4 (ix2 a b)
  k2 := fun b => x5 (ix2 a b)
  v1 := fun b => x6 (ix2 a b)
  v2 := fun b => x7 (ix2 a b)
  g := fun b => x8 (ix2 a b)
  p1 := fun b => x9 (ix2 a b)
  p2 := fun b => x10 (ix2 a b)
  zg := fun b => x11 (ix2 a b)
  w := fun k j => x12 (ix2 k j)

/-! What a grid point computes, at an index. -/

theorem pre_apply (b : Fin 512) : k0_pay8 x9 x10 (ix2 a b) = (rowOf x0 x1 x2 x3 x4 x5 x6 x7 x8 x9 x10 x11 x12 a).pre b := by
  show _ = if h : b.val < 256 then x9 (ix2 a ⟨b.val, h⟩) else x10 (ix2 a ⟨b.val - 256, _⟩)
  pointwise [k0_pay8]

theorem pay3_apply (k : Fin 256) : k0_pay3 x2 x3 (ix2 a k) = (rowOf x0 x1 x2 x3 x4 x5 x6 x7 x8 x9 x10 x11 x12 a).partC k := by
  show _ = (x2 (ix2 a k) + x3 (ix2 a k)) * eighth
  pointwise [k0_pay3]

theorem pay5_apply (k : Fin 256) : k0_pay5 (k0_pay4 x4 x5) (ix2 a k) = (rowOf x0 x1 x2 x3 x4 x5 x6 x7 x8 x9 x10 x11 x12 a).partD k := by
  show _ = x4 (ix2 a k) + x5 (ix2 a k)
  pointwise [k0_pay5, k0_pay4]

theorem pay6_apply (k : Fin 512) : k0_pay6 x6 x7 (ix2 a k) = (rowOf x0 x1 x2 x3 x4 x5 x6 x7 x8 x9 x10 x11 x12 a).partE k := by
  show _ = x6 (ix2 a k) + x7 (ix2 a k)
  pointwise [k0_pay6]

theorem pay10_apply (k : Fin 128) : k0_pay10 x9 x10 x12 (ix2 a k) = (rowOf x0 x1 x2 x3 x4 x5 x6 x7 x8 x9 x10 x11 x12 a).partG k := by
  show _ = ∑ j : Fin 512, (rowOf x0 x1 x2 x3 x4 x5 x6 x7 x8 x9 x10 x11 x12 a).pre j * x12 (ix2 k j)
  simp only [← pre_apply]
  unfold k0_pay10 k0_pay9
  generalize k0_pay8 x9 x10 = p
  pointwise

theorem pay12_apply (acc : Vec Ideal S128x512 .f32) (k : Fin 128) (b : Fin 512) :
    k0_pay12 x9 x10 x11 acc (ix2 k b) = acc (ix2 k b) + ∑ a, (rowOf x0 x1 x2 x3 x4 x5 x6 x7 x8 x9 x10 x11 x12 a).zg k * (rowOf x0 x1 x2 x3 x4 x5 x6 x7 x8 x9 x10 x11 x12 a).pre b := by
  simp only [← pre_apply]
  show _ = acc (ix2 k b) + ∑ a : Fin 384, x11 (ix2 a k) * k0_pay8 x9 x10 (ix2 a b)
  unfold k0_pay12 k0_pay9
  generalize k0_pay8 x9 x10 = p
  pointwise

theorem pay14_apply (acc : Vec Ideal S1x512 .f32) (b : Fin 512) :
    k0_pay14 x9 x10 acc (ix2 0 b) = acc (ix2 0 b) + ∑ a, (rowOf x0 x1 x2 x3 x4 x5 x6 x7 x8 x9 x10 x11 x12 a).pre b := by
  simp only [← pre_apply]
  unfold k0_pay14
  generalize k0_pay8 x9 x10 = p
  pointwise

theorem pay11_apply (k : Fin 128) (b : Fin 512) : k0_pay11 (F := Ideal) (ix2 k b) = 0 := by
  pointwise [k0_pay11]

theorem pay13_apply (b : Fin 512) : k0_pay13 (F := Ideal) (ix2 0 b) = 0 := by
  pointwise [k0_pay13]
end

section
variable (x0 : FVec Ideal S8448x512 .f32) (x1 : FVec Ideal S8448x512 .f32) (x2 : FVec Ideal S8448x256 .f32) (x3 : FVec Ideal S8448x256 .f32) (x4 : FVec Ideal S8448x512 .f32) (x5 : FVec Ideal S8448x256 .f32) (x6 : FVec Ideal S8448x256 .f32) (x7 : FVec Ideal S8448x256 .f32) (x8 : FVec Ideal S8448x512 .f32) (x9 : FVec Ideal S8448x256 .f32) (x10 : FVec Ideal S8448x512 .f32) (x11 : FVec Ideal S8448x128 .f32) (x12 : FVec Ideal S128x512 .bf16) (i : Fin 8448)

/-- Row `i` of the arguments. -/
def argRow : Row where
  dx := fun b => x0 (ix2 i b)
  dgate := fun b => x1 (ix2 i b)
  q1 := fun b => x2 (ix2 i b)
  q2 := fun b => x6 (ix2 i b)
  k1 := fun b => x3 (ix2 i b)
  k2 := fun b => x7 (ix2 i b)
  v1 := fun b => x4 (ix2 i b)
  v2 := fun b => x8 (ix2 i b)
  g := fun b => x10 (ix2 i b)
  p1 := fun b => x5 (ix2 i b)
  p2 := fun b => x9 (ix2 i b)
  zg := fun b => x11 (ix2 i b)
  w := fun k j => x12 (ix2 k j)

open Cert.Reference20Ideal.Read

/-! The reference's steps at an index. -/

theorem ref_pre (b : Fin 512) : val_main_v0 (F := Ideal) x5 x9 (ix2 i b) = (argRow x0 x1 x2 x3 x4 x5 x6 x7 x8 x9 x10 x11 x12 i).pre b := by
  show _ = if h : b.val < 256 then x5 (ix2 i ⟨b.val, h⟩) else x9 (ix2 i ⟨b.val - 256, _⟩)
  unfold val_main_v0
  pointwise

theorem ref_zg (k : Fin 128) : val_main_v10 (F := Ideal) x5 x9 x12 (ix2 i k) = (argRow x0 x1 x2 x3 x4 x5 x6 x7 x8 x9 x10 x11 x12 i).partG k := by
  show _ = ∑ j : Fin 512, (argRow x0 x1 x2 x3 x4 x5 x6 x7 x8 x9 x10 x11 x12 i).pre j * x12 (ix2 k j)
  simp only [← ref_pre]
  unfold val_main_v10 val_main_v1
  generalize val_main_v0 (F := Ideal) x5 x9 = p
  pointwise

theorem ref_q (k : Fin 256) : val_main_v13 (F := Ideal) x2 x6 (ix2 i k) = (argRow x0 x1 x2 x3 x4 x5 x6 x7 x8 x9 x10 x11 x12 i).partC k := by
  show _ = (x2 (ix2 i k) + x6 (ix2 i k)) * eighth
  unfold val_main_v13 val_main_v12 val_main_v11 val_main_cst_1
  pointwise

/-- The reference's first result, at an index. -/
theorem ref_out (b : Fin 2688) : val_main_v17 (F := Ideal) x0 x1 x2 x3 x4 x5 x6 x7 x8 x9 x10 x12 (ix2 i b) = (argRow x0 x1 x2 x3 x4 x5 x6 x7 x8 x9 x10 x11 x12 i).out b := by
  unfold Row.out
  simp only [← ref_zg, ← ref_q]
  unfold val_main_v17 val_main_v16 val_main_v15 val_main_v14
  generalize val_main_v13 (F := Ideal) x2 x6 = q
  generalize val_main_v10 (F := Ideal) x5 x9 x12 = z
  pointwise
  rfl

/-- The gradient of the gate's weight, and of its bias. -/
theorem ref_w (k : Fin 128) (b : Fin 512) : val_main_v9 (F := Ideal) x5 x9 x11 (ix2 k b) = ∑ r, (argRow x0 x1 x2 x3 x4 x5 x6 x7 x8 x9 x10 x11 x12 r).zg k * (argRow x0 x1 x2 x3 x4 x5 x6 x7 x8 x9 x10 x11 x12 r).pre b := by
  simp only [← ref_pre]
  show _ = ∑ r, x11 (ix2 r k) * val_main_v0 (F := Ideal) x5 x9 (ix2 r b)
  unfold val_main_v9 val_main_v8
  generalize val_main_v0 (F := Ideal) x5 x9 = p
  pointwise
  exact Finset.sum_congr rfl fun r _ => mul_comm _ _

theorem ref_b (b : Fin 512) : val_main_v7 (F := Ideal) x5 x9 (ix2 0 b) = ∑ r, (argRow x0 x1 x2 x3 x4 x5 x6 x7 x8 x9 x10 x11 x12 r).pre b := by
  simp only [← ref_pre]
  unfold val_main_v7 val_main_v6 val_main_cst_0
  generalize val_main_v0 (F := Ideal) x5 x9 = p
  pointwise
end

/-! What a grid point leaves: the pieces of the first block agree with the row, and cover it. -/

/-- The seven pieces, the last stored first. -/
abbrev pile (p0 p1 : Vec Ideal S384x512 .bf16) (p2 p3 : Vec Ideal S384x256 .bf16) (p4 p5 : Vec Ideal S384x512 .bf16)
    (p6 : Vec Ideal S384x128 .bf16) : List (View.Piece (Elt Ideal) S384x2688 .bf16) :=
  [⟨Rect.unit (s := S384x2688) ![0, 2560] S384x128.size inb_S384x2688_S384x128_0_2560, p6⟩,
    ⟨Rect.unit (s := S384x2688) ![0, 2048] S384x512.size inb_S384x2688_S384x512_0_2048, p5⟩,
    ⟨Rect.unit (s := S384x2688) ![0, 1536] S384x512.size inb_S384x2688_S384x512_0_1536, p4⟩,
    ⟨Rect.unit (s := S384x2688) ![0, 1280] S384x256.size inb_S384x2688_S384x256_0_1280, p3⟩,
    ⟨Rect.unit (s := S384x2688) ![0, 1024] S384x256.size inb_S384x2688_S384x256_0_1024, p2⟩,
    ⟨Rect.unit (s := S384x2688) ![0, 512] S384x512.size inb_S384x2688_S384x512_0_512, p1⟩,
    ⟨Rect.unit (s := S384x2688) ![0, 0] S384x512.size inb_S384x2688_S384x512_0_0, p0⟩]

/-- An index whose column lies in a band of columns lies in the band's rectangle. -/
theorem band (y : S384x2688.Idx) (o n : ℕ) (inb : ∀ a, (![0, o] : Fin 2 → ℕ) a + (![384, n] : Fin 2 → ℕ) a ≤ S384x2688.size a)
    (b0 : (y 0).val < 384) (h : o ≤ (y 1).val) (h' : (y 1).val < o + n) : y ∈ (Rect.unit (s := S384x2688) ![0, o] ![384, n] inb).set :=
  Rect.mem_set_unit.mpr (Fin.forall_fin_two.mpr ⟨⟨Nat.zero_le _, lt_of_lt_of_eq b0 (Nat.zero_add 384).symm⟩, ⟨h, h'⟩⟩)

/-- They cover the block; so if each agrees with a row, so does what they leave. -/
theorem canon_pile (G : Vec Ideal S384x2688 .bf16) (p0 p1 : Vec Ideal S384x512 .bf16) (p2 p3 : Vec Ideal S384x256 .bf16)
    (p4 p5 : Vec Ideal S384x512 .bf16) (p6 : Vec Ideal S384x128 .bf16)
    (h0 : ∀ (a : Fin 384) (k : Fin 512) (y : S384x2688.Idx), (y 0).val = a.val → (y 1).val = 0 + k.val → p0 (ix2 a k) = G y)
    (h1 : ∀ (a : Fin 384) (k : Fin 512) (y : S384x2688.Idx), (y 0).val = a.val → (y 1).val = 512 + k.val → p1 (ix2 a k) = G y)
    (h2 : ∀ (a : Fin 384) (k : Fin 256) (y : S384x2688.Idx), (y 0).val = a.val → (y 1).val = 1024 + k.val → p2 (ix2 a k) = G y)
    (h3 : ∀ (a : Fin 384) (k : Fin 256) (y : S384x2688.Idx), (y 0).val = a.val → (y 1).val = 1280 + k.val → p3 (ix2 a k) = G y)
    (h4 : ∀ (a : Fin 384) (k : Fin 512) (y : S384x2688.Idx), (y 0).val = a.val → (y 1).val = 1536 + k.val → p4 (ix2 a k) = G y)
    (h5 : ∀ (a : Fin 384) (k : Fin 512) (y : S384x2688.Idx), (y 0).val = a.val → (y 1).val = 2048 + k.val → p5 (ix2 a k) = G y)
    (h6 : ∀ (a : Fin 384) (k : Fin 128) (y : S384x2688.Idx), (y 0).val = a.val → (y 1).val = 2560 + k.val → p6 (ix2 a k) = G y) :
    View.canon (pile p0 p1 p2 p3 p4 p5 p6) = G := by
  funext y
  refine View.canon_apply_of_pieces G _ ?_ y ?_
  · refine List.forall_mem_cons.mpr ⟨fun x => ?_,
      List.forall_mem_cons.mpr ⟨fun x => ?_,
      List.forall_mem_cons.mpr ⟨fun x => ?_,
      List.forall_mem_cons.mpr ⟨fun x => ?_,
      List.forall_mem_cons.mpr ⟨fun x => ?_,
      List.forall_mem_cons.mpr ⟨fun x => ?_,
      List.forall_mem_cons.mpr ⟨fun x => ?_, fun p hp => absurd hp List.not_mem_nil⟩⟩⟩⟩⟩⟩⟩
    · exact (congrArg p6 (eq_ix2 x)).trans (h6 _ _ _ ((Nat.zero_add _).trans (Nat.one_mul _)) (congrArg (2560 + ·) (Nat.one_mul _)))
    · exact (congrArg p5 (eq_ix2 x)).trans (h5 _ _ _ ((Nat.zero_add _).trans (Nat.one_mul _)) (congrArg (2048 + ·) (Nat.one_mul _)))
    · exact (congrArg p4 (eq_ix2 x)).trans (h4 _ _ _ ((Nat.zero_add _).trans (Nat.one_mul _)) (congrArg (1536 + ·) (Nat.one_mul _)))
    · exact (congrArg p3 (eq_ix2 x)).trans (h3 _ _ _ ((Nat.zero_add _).trans (Nat.one_mul _)) (congrArg (1280 + ·) (Nat.one_mul _)))
    · exact (congrArg p2 (eq_ix2 x)).trans (h2 _ _ _ ((Nat.zero_add _).trans (Nat.one_mul _)) (congrArg (1024 + ·) (Nat.one_mul _)))
    · exact (congrArg p1 (eq_ix2 x)).trans (h1 _ _ _ ((Nat.zero_add _).trans (Nat.one_mul _)) (congrArg (512 + ·) (Nat.one_mul _)))
    · exact (congrArg p0 (eq_ix2 x)).trans (h0 _ _ _ ((Nat.zero_add _).trans (Nat.one_mul _)) (congrArg (0 + ·) (Nat.one_mul _)))
  · have b0 : (y 0).val < 384 := (y 0).isLt
    have b1 : (y 1).val < 2688 := (y 1).isLt
    by_cases c0 : (y 1).val < 512
    · exact ⟨_, List.mem_cons_of_mem _ (List.mem_cons_of_mem _ (List.mem_cons_of_mem _ (List.mem_cons_of_mem _ (List.mem_cons_of_mem _ (List.mem_cons_of_mem _ List.mem_cons_self))))),
        band y 0 512 inb_S384x2688_S384x512_0_0 b0 (by omega) (by omega)⟩
    by_cases c1 : (y 1).val < 1024
    · exact ⟨_, List.mem_cons_of_mem _ (List.mem_cons_of_mem _ (List.mem_cons_of_mem _ (List.mem_cons_of_mem _ (List.mem_cons_of_mem _ List.mem_cons_self)))),
        band y 512 512 inb_S384x2688_S384x512_0_512 b0 (by omega) (by omega)⟩
    by_cases c2 : (y 1).val < 1280
    · exact ⟨_, List.mem_cons_of_mem _ (List.mem_cons_of_mem _ (List.mem_cons_of_mem _ (List.mem_cons_of_mem _ List.mem_cons_self))),
        band y 1024 256 inb_S384x2688_S384x256_0_1024 b0 (by omega) (by omega)⟩
    by_cases c3 : (y 1).val < 1536
    · exact ⟨_, List.mem_cons_of_mem _ (List.mem_cons_of_mem _ (List.mem_cons_of_mem _ List.mem_cons_self)),
        band y 1280 256 inb_S384x2688_S384x256_0_1280 b0 (by omega) (by omega)⟩
    by_cases c4 : (y 1).val < 2048
    · exact ⟨_, List.mem_cons_of_mem _ (List.mem_cons_of_mem _ List.mem_cons_self),
        band y 1536 512 inb_S384x2688_S384x512_0_1536 b0 (by omega) (by omega)⟩
    by_cases c5 : (y 1).val < 2560
    · exact ⟨_, List.mem_cons_of_mem _ List.mem_cons_self,
        band y 2048 512 inb_S384x2688_S384x512_0_2048 b0 (by omega) (by omega)⟩
    · exact ⟨_, List.mem_cons_self,
        band y 2560 128 inb_S384x2688_S384x128_0_2560 b0 (by omega) (by omega)⟩

section
variable (x0 : Vec Ideal S384x512 .f32) (x1 : Vec Ideal S384x512 .f32) (x2 : Vec Ideal S384x256 .f32) (x3 : Vec Ideal S384x256 .f32) (x4 : Vec Ideal S384x256 .f32) (x5 : Vec Ideal S384x256 .f32) (x6 : Vec Ideal S384x512 .f32) (x7 : Vec Ideal S384x512 .f32) (x8 : Vec Ideal S384x512 .f32) (x9 : Vec Ideal S384x256 .f32) (x10 : Vec Ideal S384x256 .f32) (x11 : Vec Ideal S384x128 .f32) (x12 : Vec Ideal S128x512 .bf16)

/-- The block the pieces are pieces of. -/
def whole : Vec Ideal S384x2688 .bf16 := fun y => (rowOf x0 x1 x2 x3 x4 x5 x6 x7 x8 x9 x10 x11 x12 ⟨(y 0).val, (y 0).isLt⟩).out ⟨(y 1).val, (y 1).isLt⟩

/-- It at an index of a row. -/
theorem whole_eq (y : S384x2688.Idx) (a : Fin 384) (h0 : (y 0).val = a.val) :
    (rowOf x0 x1 x2 x3 x4 x5 x6 x7 x8 x9 x10 x11 x12 a).out ⟨(y 1).val, (y 1).isLt⟩ = whole x0 x1 x2 x3 x4 x5 x6 x7 x8 x9 x10 x11 x12 y := by
  unfold whole
  rw [show (⟨(y 0).val, (y 0).isLt⟩ : Fin 384) = a from Fin.ext h0]

variable (c : Dev nD) (i : grid0.Coords)
  (arg1 : Memref sig .tc .vmem S384x512 .f32) (harg1 : arg1.IsWhole) (arg2 : Memref sig .tc .vmem S384x512 .f32) (harg2 : arg2.IsWhole)
  (arg3 : Memref sig .tc .vmem S384x256 .f32) (harg3 : arg3.IsWhole) (arg4 : Memref sig .tc .vmem S384x256 .f32) (harg4 : arg4.IsWhole)
  (arg5 : Memref sig .tc .vmem S384x256 .f32) (harg5 : arg5.IsWhole) (arg6 : Memref sig .tc .vmem S384x256 .f32) (harg6 : arg6.IsWhole)
  (arg7 : Memref sig .tc .vmem S384x512 .f32) (harg7 : arg7.IsWhole) (arg8 : Memref sig .tc .vmem S384x512 .f32) (harg8 : arg8.IsWhole)
  (arg9 : Memref sig .tc .vmem S384x512 .f32) (harg9 : arg9.IsWhole) (arg10 : Memref sig .tc .vmem S384x256 .f32) (harg10 : arg10.IsWhole)
  (arg11 : Memref sig .tc .vmem S384x256 .f32) (harg11 : arg11.IsWhole) (arg12 : Memref sig .tc .vmem S384x128 .f32) (harg12 : arg12.IsWhole)
  (arg13 : Memref sig .tc .vmem S128x512 .bf16) (harg13 : arg13.IsWhole) (arg14 : Memref sig .tc .vmem S384x2688 .bf16) (harg14 : arg14.IsWhole)
  (arg15 : Memref sig .tc .vmem S128x512 .f32) (harg15 : arg15.IsWhole) (arg16 : Memref sig .tc .vmem S1x512 .f32) (harg16 : arg16.IsWhole)

/-! What a grid point leaves in its three blocks, in the first point (`A`) and behind it (`B`). -/

theorem first_13 (hc0 : cond0_0 i) (hc1 : cond0_1 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12
      = whole x0 x1 x2 x3 x4 x5 x6 x7 x8 x9 x10 x11 x12 := by
  unfold out0_A_13
  rw [View.read_writes_junk_eq_canon]
  sl_unfold_run_names
  refine canon_pile (whole x0 x1 x2 x3 x4 x5 x6 x7 x8 x9 x10 x11 x12) _ _ _ _ _ _ _ ?_ ?_ ?_ ?_ ?_ ?_ ?_
  all_goals
    intro a k y h0 h1
    rw [← whole_eq x0 x1 x2 x3 x4 x5 x6 x7 x8 x9 x10 x11 x12 y a h0]
    sl_unfold_run_names
    simp only [load_whole harg1 x0 zeros, load_whole harg2 x1 zeros, load_whole harg3 x2 zeros, load_whole harg4 x3 zeros, load_whole harg5 x4 zeros, load_whole harg6 x5 zeros, load_whole harg7 x6 zeros, load_whole harg8 x7 zeros, load_whole harg9 x8 zeros, load_whole harg10 x9 zeros, load_whole harg11 x10 zeros, load_whole harg12 x11 zeros, load_whole harg13 x12 zeros]
  · exact (show k0_pay1 x0 (ix2 a k) = (rowOf x0 x1 x2 x3 x4 x5 x6 x7 x8 x9 x10 x11 x12 a).partA k from rfl).trans (Row.out_0 _ ⟨(y 1).val, (y 1).isLt⟩ k h1).symm
  · exact (show k0_pay2 x1 (ix2 a k) = (rowOf x0 x1 x2 x3 x4 x5 x6 x7 x8 x9 x10 x11 x12 a).partB k from rfl).trans (Row.out_1 _ ⟨(y 1).val, (y 1).isLt⟩ k h1).symm
  · exact (pay3_apply x0 x1 x2 x3 x4 x5 x6 x7 x8 x9 x10 x11 x12 a k).trans (Row.out_2 _ ⟨(y 1).val, (y 1).isLt⟩ k h1).symm
  · exact (pay5_apply x0 x1 x2 x3 x4 x5 x6 x7 x8 x9 x10 x11 x12 a k).trans (Row.out_3 _ ⟨(y 1).val, (y 1).isLt⟩ k h1).symm
  · exact (pay6_apply x0 x1 x2 x3 x4 x5 x6 x7 x8 x9 x10 x11 x12 a k).trans (Row.out_4 _ ⟨(y 1).val, (y 1).isLt⟩ k h1).symm
  · exact (show k0_pay7 x8 (ix2 a k) = (rowOf x0 x1 x2 x3 x4 x5 x6 x7 x8 x9 x10 x11 x12 a).partF k from rfl).trans (Row.out_5 _ ⟨(y 1).val, (y 1).isLt⟩ k h1).symm
  · exact (pay10_apply x0 x1 x2 x3 x4 x5 x6 x7 x8 x9 x10 x11 x12 a k).trans (Row.out_6 _ ⟨(y 1).val, (y 1).isLt⟩ k h1).symm

theorem first_14 (hc0 : cond0_0 i) (hc1 : cond0_1 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12
      = k0_pay12 x9 x10 x11 (k0_pay11 (F := Ideal)) := by
  unfold out0_A_14
  rw [View.read_writes_junk_eq_canon]
  refine (View.canon_cons_unit_zero zeros _ _ _).trans ?_
  sl_unfold_run_names
  rw [View.readCov_unit_zero _ zeros]
  simp only [load_whole harg1 x0 zeros, load_whole harg2 x1 zeros, load_whole harg3 x2 zeros, load_whole harg4 x3 zeros, load_whole harg5 x4 zeros, load_whole harg6 x5 zeros, load_whole harg7 x6 zeros, load_whole harg8 x7 zeros, load_whole harg9 x8 zeros, load_whole harg10 x9 zeros, load_whole harg11 x10 zeros, load_whole harg12 x11 zeros, load_whole harg13 x12 zeros]

theorem first_15 (hc0 : cond0_0 i) (hc1 : cond0_1 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12
      = k0_pay14 x9 x10 (k0_pay13 (F := Ideal)) := by
  unfold out0_A_15
  rw [View.read_writes_junk_eq_canon]
  refine (View.canon_cons_unit_zero zeros _ _ _).trans ?_
  sl_unfold_run_names
  rw [View.readCov_unit_zero _ zeros]
  simp only [load_whole harg1 x0 zeros, load_whole harg2 x1 zeros, load_whole harg3 x2 zeros, load_whole harg4 x3 zeros, load_whole harg5 x4 zeros, load_whole harg6 x5 zeros, load_whole harg7 x6 zeros, load_whole harg8 x7 zeros, load_whole harg9 x8 zeros, load_whole harg10 x9 zeros, load_whole harg11 x10 zeros, load_whole harg12 x11 zeros, load_whole harg13 x12 zeros]

theorem first (hc0 : cond0_0 i) (hc1 : cond0_1 i) :
    (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12,
      out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12,
      out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12)
      = (whole x0 x1 x2 x3 x4 x5 x6 x7 x8 x9 x10 x11 x12, k0_pay12 x9 x10 x11 (k0_pay11 (F := Ideal)), k0_pay14 x9 x10 (k0_pay13 (F := Ideal))) :=
  congrArg₂ Prod.mk (first_13 ..) (congrArg₂ Prod.mk (first_14 ..) (first_15 ..))

theorem next_13 (hc0 : ¬cond0_0 i) (hc1 : ¬cond0_1 i) (xo14 : Vec Ideal S128x512 .f32) (xo15 : Vec Ideal S1x512 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15
      = whole x0 x1 x2 x3 x4 x5 x6 x7 x8 x9 x10 x11 x12 := by
  unfold out0_B_13
  rw [View.read_writes_junk_eq_canon]
  sl_unfold_run_names
  refine canon_pile (whole x0 x1 x2 x3 x4 x5 x6 x7 x8 x9 x10 x11 x12) _ _ _ _ _ _ _ ?_ ?_ ?_ ?_ ?_ ?_ ?_
  all_goals
    intro a k y h0 h1
    rw [← whole_eq x0 x1 x2 x3 x4 x5 x6 x7 x8 x9 x10 x11 x12 y a h0]
    sl_unfold_run_names
    simp only [load_whole harg1 x0 zeros, load_whole harg2 x1 zeros, load_whole harg3 x2 zeros, load_whole harg4 x3 zeros, load_whole harg5 x4 zeros, load_whole harg6 x5 zeros, load_whole harg7 x6 zeros, load_whole harg8 x7 zeros, load_whole harg9 x8 zeros, load_whole harg10 x9 zeros, load_whole harg11 x10 zeros, load_whole harg12 x11 zeros, load_whole harg13 x12 zeros]
  · exact (show k0_pay1 x0 (ix2 a k) = (rowOf x0 x1 x2 x3 x4 x5 x6 x7 x8 x9 x10 x11 x12 a).partA k from rfl).trans (Row.out_0 _ ⟨(y 1).val, (y 1).isLt⟩ k h1).symm
  · exact (show k0_pay2 x1 (ix2 a k) = (rowOf x0 x1 x2 x3 x4 x5 x6 x7 x8 x9 x10 x11 x12 a).partB k from rfl).trans (Row.out_1 _ ⟨(y 1).val, (y 1).isLt⟩ k h1).symm
  · exact (pay3_apply x0 x1 x2 x3 x4 x5 x6 x7 x8 x9 x10 x11 x12 a k).trans (Row.out_2 _ ⟨(y 1).val, (y 1).isLt⟩ k h1).symm
  · exact (pay5_apply x0 x1 x2 x3 x4 x5 x6 x7 x8 x9 x10 x11 x12 a k).trans (Row.out_3 _ ⟨(y 1).val, (y 1).isLt⟩ k h1).symm
  · exact (pay6_apply x0 x1 x2 x3 x4 x5 x6 x7 x8 x9 x10 x11 x12 a k).trans (Row.out_4 _ ⟨(y 1).val, (y 1).isLt⟩ k h1).symm
  · exact (show k0_pay7 x8 (ix2 a k) = (rowOf x0 x1 x2 x3 x4 x5 x6 x7 x8 x9 x10 x11 x12 a).partF k from rfl).trans (Row.out_5 _ ⟨(y 1).val, (y 1).isLt⟩ k h1).symm
  · exact (pay10_apply x0 x1 x2 x3 x4 x5 x6 x7 x8 x9 x10 x11 x12 a k).trans (Row.out_6 _ ⟨(y 1).val, (y 1).isLt⟩ k h1).symm

theorem next_14 (hc0 : ¬cond0_0 i) (hc1 : ¬cond0_1 i) (xo14 : Vec Ideal S128x512 .f32) (xo15 : Vec Ideal S1x512 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15
      = k0_pay12 x9 x10 x11 xo14 := by
  unfold out0_B_14
  rw [View.read_writes_junk_eq_canon]
  refine (View.canon_unit_zero zeros _ _).trans ?_
  sl_unfold_run_names
  simp only [load_whole harg1 x0 zeros, load_whole harg2 x1 zeros, load_whole harg3 x2 zeros, load_whole harg4 x3 zeros, load_whole harg5 x4 zeros, load_whole harg6 x5 zeros, load_whole harg7 x6 zeros, load_whole harg8 x7 zeros, load_whole harg9 x8 zeros, load_whole harg10 x9 zeros, load_whole harg11 x10 zeros, load_whole harg12 x11 zeros, load_whole harg13 x12 zeros, load_whole harg15 xo14 zeros, load_whole harg16 xo15 zeros]

theorem next_15 (hc0 : ¬cond0_0 i) (hc1 : ¬cond0_1 i) (xo14 : Vec Ideal S128x512 .f32) (xo15 : Vec Ideal S1x512 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15
      = k0_pay14 x9 x10 xo15 := by
  unfold out0_B_15
  rw [View.read_writes_junk_eq_canon]
  refine (View.canon_unit_zero zeros _ _).trans ?_
  sl_unfold_run_names
  simp only [load_whole harg1 x0 zeros, load_whole harg2 x1 zeros, load_whole harg3 x2 zeros, load_whole harg4 x3 zeros, load_whole harg5 x4 zeros, load_whole harg6 x5 zeros, load_whole harg7 x6 zeros, load_whole harg8 x7 zeros, load_whole harg9 x8 zeros, load_whole harg10 x9 zeros, load_whole harg11 x10 zeros, load_whole harg12 x11 zeros, load_whole harg13 x12 zeros, load_whole harg15 xo14 zeros, load_whole harg16 xo15 zeros]

theorem next (hc0 : ¬cond0_0 i) (hc1 : ¬cond0_1 i) (xo14 : Vec Ideal S128x512 .f32) (xo15 : Vec Ideal S1x512 .f32) :
    (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15,
      out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15,
      out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15)
      = (whole x0 x1 x2 x3 x4 x5 x6 x7 x8 x9 x10 x11 x12, k0_pay12 x9 x10 x11 xo14, k0_pay14 x9 x10 xo15) :=
  congrArg₂ Prod.mk (next_13 ..) (congrArg₂ Prod.mk (next_14 ..) (next_15 ..))

end

variable (m : (ℓ : Loc nD τ sig) → Buf (Elt Ideal) ℓ) (c : Dev nD)

/-! The arguments of the call: the gradients of the projection's parts, the gate's input and its weight. -/
abbrev dX : FVec Ideal S8448x512 .f32 := m ((c : Thread nD τ).loc main_arg0)
abbrev dGate : FVec Ideal S8448x512 .f32 := m ((c : Thread nD τ).loc main_arg1)
abbrev dQF : FVec Ideal S8448x256 .f32 := m ((c : Thread nD τ).loc main_arg2)
abbrev dKF : FVec Ideal S8448x256 .f32 := m ((c : Thread nD τ).loc main_arg3)
abbrev dVF : FVec Ideal S8448x512 .f32 := m ((c : Thread nD τ).loc main_arg4)
abbrev dPF : FVec Ideal S8448x256 .f32 := m ((c : Thread nD τ).loc main_arg5)
abbrev dQB : FVec Ideal S8448x256 .f32 := m ((c : Thread nD τ).loc main_arg6)
abbrev dKB : FVec Ideal S8448x256 .f32 := m ((c : Thread nD τ).loc main_arg7)
abbrev dVB : FVec Ideal S8448x512 .f32 := m ((c : Thread nD τ).loc main_arg8)
abbrev dPB : FVec Ideal S8448x256 .f32 := m ((c : Thread nD τ).loc main_arg9)
abbrev dGo : FVec Ideal S8448x512 .f32 := m ((c : Thread nD τ).loc main_arg10)
abbrev zG : FVec Ideal S8448x128 .f32 := m ((c : Thread nD τ).loc main_arg11)
abbrev wG : FVec Ideal S128x512 .bf16 := m ((c : Thread nD τ).loc main_arg12)

/-! The blocks a point reads. -/
abbrev blk0 (t : Fin cfg0.N) : Vec Ideal S384x512 .f32 := iblk m c 0 t
abbrev blk1 (t : Fin cfg0.N) : Vec Ideal S384x512 .f32 := iblk m c 1 t
abbrev blk2 (t : Fin cfg0.N) : Vec Ideal S384x256 .f32 := iblk m c 2 t
abbrev blk3 (t : Fin cfg0.N) : Vec Ideal S384x256 .f32 := iblk m c 3 t
abbrev blk4 (t : Fin cfg0.N) : Vec Ideal S384x256 .f32 := iblk m c 4 t
abbrev blk5 (t : Fin cfg0.N) : Vec Ideal S384x256 .f32 := iblk m c 5 t
abbrev blk6 (t : Fin cfg0.N) : Vec Ideal S384x512 .f32 := iblk m c 6 t
abbrev blk7 (t : Fin cfg0.N) : Vec Ideal S384x512 .f32 := iblk m c 7 t
abbrev blk8 (t : Fin cfg0.N) : Vec Ideal S384x512 .f32 := iblk m c 8 t
abbrev blk9 (t : Fin cfg0.N) : Vec Ideal S384x256 .f32 := iblk m c 9 t
abbrev blk10 (t : Fin cfg0.N) : Vec Ideal S384x256 .f32 := iblk m c 10 t
abbrev blk11 (t : Fin cfg0.N) : Vec Ideal S384x128 .f32 := iblk m c 11 t
abbrev blk12 (t : Fin cfg0.N) : Vec Ideal S128x512 .bf16 := iblk m c 12 t

/-- Where the windows lie. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![0, 0] ∧ win0_13.index t = ![t.val, 0] ∧ win0_14.index t = ![0, 0] ∧ win0_15.index t = ![0, 0] := by
  decide +kernel

/-- Row `r` of the arguments. -/
abbrev args (r : Fin 8448) : Row := argRow (dX m c) (dGate m c) (dQF m c) (dKF m c) (dVF m c) (dPF m c) (dQB m c) (dKB m c) (dVB m c) (dPB m c) (dGo m c) (zG m c) (wG m c) r

/-- Row `a` of a point's blocks is a row of the arguments. -/
theorem row_eq (t : Fin cfg0.N) (a : Fin 384) (r : Fin 8448) (hr : r.val = 384 * t.val + a.val) :
    rowOf (blk0 m c t) (blk1 m c t) (blk2 m c t) (blk3 m c t) (blk4 m c t) (blk5 m c t) (blk6 m c t) (blk7 m c t) (blk8 m c t) (blk9 m c t) (blk10 m c t) (blk11 m c t) (blk12 m c t) a = args m c r := by
  obtain ⟨e0, e1, e2, e3, e4, e5, e6, e7, e8, e9, e10, e11, e12, -⟩ := index t
  refine Row.ext ?_ ?_ ?_ ?_ ?_ ?_ ?_ ?_ ?_ ?_ ?_ ?_ ?_ <;> funext k
  · show blk0 m c t (ix2 a k) = dX m c (ix2 r k)
    refine Eq.trans ?_ (congrFun (V_main_arg0 m c) (ix2 r k))
    blk_ext [iblk, e0]
  · show blk1 m c t (ix2 a k) = dGate m c (ix2 r k)
    refine Eq.trans ?_ (congrFun (V_main_arg1 m c) (ix2 r k))
    blk_ext [iblk, e1]
  · show blk2 m c t (ix2 a k) = dQF m c (ix2 r k)
    refine Eq.trans ?_ (congrFun (V_main_arg2 m c) (ix2 r k))
    blk_ext [iblk, e2]
  · show blk3 m c t (ix2 a k) = dQB m c (ix2 r k)
    refine Eq.trans ?_ (congrFun (V_main_arg6 m c) (ix2 r k))
    blk_ext [iblk, e3]
  · show blk4 m c t (ix2 a k) = dKF m c (ix2 r k)
    refine Eq.trans ?_ (congrFun (V_main_arg3 m c) (ix2 r k))
    blk_ext [iblk, e4]
  · show blk5 m c t (ix2 a k) = dKB m c (ix2 r k)
    refine Eq.trans ?_ (congrFun (V_main_arg7 m c) (ix2 r k))
    blk_ext [iblk, e5]
  · show blk6 m c t (ix2 a k) = dVF m c (ix2 r k)
    refine Eq.trans ?_ (congrFun (V_main_arg4 m c) (ix2 r k))
    blk_ext [iblk, e6]
  · show blk7 m c t (ix2 a k) = dVB m c (ix2 r k)
    refine Eq.trans ?_ (congrFun (V_main_arg8 m c) (ix2 r k))
    blk_ext [iblk, e7]
  · show blk8 m c t (ix2 a k) = dGo m c (ix2 r k)
    refine Eq.trans ?_ (congrFun (V_main_arg10 m c) (ix2 r k))
    blk_ext [iblk, e8]
  · show blk9 m c t (ix2 a k) = dPF m c (ix2 r k)
    refine Eq.trans ?_ (congrFun (V_main_arg5 m c) (ix2 r k))
    blk_ext [iblk, e9]
  · show blk10 m c t (ix2 a k) = dPB m c (ix2 r k)
    refine Eq.trans ?_ (congrFun (V_main_arg9 m c) (ix2 r k))
    blk_ext [iblk, e10]
  · show blk11 m c t (ix2 a k) = zG m c (ix2 r k)
    refine Eq.trans ?_ (congrFun (V_main_arg11 m c) (ix2 r k))
    blk_ext [iblk, e11]
  · funext j
    show blk12 m c t (ix2 k j) = wG m c (ix2 k j)
    refine Eq.trans ?_ (congrFun (V_main_arg12 m c) (ix2 k j))
    blk_ext [iblk, e12]

/-- The row of the whole array that row `a` of a point's block is. -/
theorem whole_row (t : Fin cfg0.N) {a : ℕ} (h : a < 384) : ∃ i : Fin 8448, i.val = 384 * t.val + a := by
  have ht : t.val < 22 := t.isLt
  exact ⟨⟨_, by omega⟩, rfl⟩

/-- What a point leaves in its first block is the same in the first point as behind it. -/
theorem left_rows (t : Fin cfg0.N) : (outsAt0 m c t.val t.isLt).1 = whole (blk0 m c t) (blk1 m c t) (blk2 m c t) (blk3 m c t) (blk4 m c t) (blk5 m c t) (blk6 m c t) (blk7 m c t) (blk8 m c t) (blk9 m c t) (blk10 m c t) (blk11 m c t) (blk12 m c t) := by
  by_cases h : t.val % 22 = 0
  · rw [(outsAt0_A m c t h h).trans (first ..)]
  · rw [(outsAt0_B m c t h h).trans (next ..)]

/-- What the points up to `n` add up of the weight's gradient, and of the bias's. -/
theorem sums (k : Fin 128) (b : Fin 512) (n : ℕ) (hn : n < cfg0.N) :
    (outsAt0 m c n hn).2.1 (ix2 k b) = upTo (fun r => (args m c r).zg k * (args m c r).pre b) n
    ∧ (outsAt0 m c n hn).2.2 (ix2 0 b) = upTo (fun r => (args m c r).pre b) n := by
  induction n with
  | zero =>
    have e : ∀ a, rowOf (blk0 m c ⟨0, hn⟩) (blk1 m c ⟨0, hn⟩) (blk2 m c ⟨0, hn⟩) (blk3 m c ⟨0, hn⟩) (blk4 m c ⟨0, hn⟩) (blk5 m c ⟨0, hn⟩) (blk6 m c ⟨0, hn⟩) (blk7 m c ⟨0, hn⟩) (blk8 m c ⟨0, hn⟩) (blk9 m c ⟨0, hn⟩) (blk10 m c ⟨0, hn⟩) (blk11 m c ⟨0, hn⟩) (blk12 m c ⟨0, hn⟩) a = args m c (row 0 (by decide) a) :=
      fun a => row_eq m c ⟨0, hn⟩ a _ rfl
    rw [(outsAt0_A m c ⟨0, hn⟩ (Nat.zero_mod _) (Nat.zero_mod _)).trans (first ..)]
    dsimp only
    rw [pay12_apply (blk0 m c ⟨0, hn⟩) (blk1 m c ⟨0, hn⟩) (blk2 m c ⟨0, hn⟩) (blk3 m c ⟨0, hn⟩) (blk4 m c ⟨0, hn⟩) (blk5 m c ⟨0, hn⟩) (blk6 m c ⟨0, hn⟩) (blk7 m c ⟨0, hn⟩) (blk8 m c ⟨0, hn⟩) (blk9 m c ⟨0, hn⟩) (blk10 m c ⟨0, hn⟩) (blk11 m c ⟨0, hn⟩) (blk12 m c ⟨0, hn⟩), pay14_apply (blk0 m c ⟨0, hn⟩) (blk1 m c ⟨0, hn⟩) (blk2 m c ⟨0, hn⟩) (blk3 m c ⟨0, hn⟩) (blk4 m c ⟨0, hn⟩) (blk5 m c ⟨0, hn⟩) (blk6 m c ⟨0, hn⟩) (blk7 m c ⟨0, hn⟩) (blk8 m c ⟨0, hn⟩) (blk9 m c ⟨0, hn⟩) (blk10 m c ⟨0, hn⟩) (blk11 m c ⟨0, hn⟩) (blk12 m c ⟨0, hn⟩), pay11_apply, pay13_apply]
    simp only [e]
    exact ⟨rfl, rfl⟩
  | succ n ih =>
    have h : n + 1 < 22 := hn
    have e : ∀ a, rowOf (blk0 m c ⟨n + 1, hn⟩) (blk1 m c ⟨n + 1, hn⟩) (blk2 m c ⟨n + 1, hn⟩) (blk3 m c ⟨n + 1, hn⟩) (blk4 m c ⟨n + 1, hn⟩) (blk5 m c ⟨n + 1, hn⟩) (blk6 m c ⟨n + 1, hn⟩) (blk7 m c ⟨n + 1, hn⟩) (blk8 m c ⟨n + 1, hn⟩) (blk9 m c ⟨n + 1, hn⟩) (blk10 m c ⟨n + 1, hn⟩) (blk11 m c ⟨n + 1, hn⟩) (blk12 m c ⟨n + 1, hn⟩) a = args m c (row (n + 1) h a) :=
      fun a => row_eq m c ⟨n + 1, hn⟩ a _ rfl
    have r := ih (Nat.lt_of_succ_lt hn)
    have hm : ¬(n + 1) % 22 = 0 := by omega
    rw [(outsAt0_B m c ⟨n + 1, hn⟩ hm hm).trans (next ..)]
    dsimp only
    rw [pay12_apply (blk0 m c ⟨n + 1, hn⟩) (blk1 m c ⟨n + 1, hn⟩) (blk2 m c ⟨n + 1, hn⟩) (blk3 m c ⟨n + 1, hn⟩) (blk4 m c ⟨n + 1, hn⟩) (blk5 m c ⟨n + 1, hn⟩) (blk6 m c ⟨n + 1, hn⟩) (blk7 m c ⟨n + 1, hn⟩) (blk8 m c ⟨n + 1, hn⟩) (blk9 m c ⟨n + 1, hn⟩) (blk10 m c ⟨n + 1, hn⟩) (blk11 m c ⟨n + 1, hn⟩) (blk12 m c ⟨n + 1, hn⟩), pay14_apply (blk0 m c ⟨n + 1, hn⟩) (blk1 m c ⟨n + 1, hn⟩) (blk2 m c ⟨n + 1, hn⟩) (blk3 m c ⟨n + 1, hn⟩) (blk4 m c ⟨n + 1, hn⟩) (blk5 m c ⟨n + 1, hn⟩) (blk6 m c ⟨n + 1, hn⟩) (blk7 m c ⟨n + 1, hn⟩) (blk8 m c ⟨n + 1, hn⟩) (blk9 m c ⟨n + 1, hn⟩) (blk10 m c ⟨n + 1, hn⟩) (blk11 m c ⟨n + 1, hn⟩) (blk12 m c ⟨n + 1, hn⟩)]
    simp only [e]
    rw [upTo, upTo, dif_pos h, dif_pos h]
    exact ⟨congrArg₂ (fun x y : EReal => x + y) r.1 rfl, congrArg₂ (fun x y : EReal => x + y) r.2 rfl⟩

/-! The three arrays the grid leaves are the reference's results. -/

open Cert.Reference20Ideal.Read

theorem array_z : (dats m 0 c).arrAt 13 cfg0.N = val_main_v17 (F := Ideal) (dX m c) (dGate m c) (dQF m c) (dKF m c) (dVF m c) (dPF m c) (dQB m c) (dKB m c) (dVB m c) (dPB m c) (dGo m c) (wG m c) := by
  refine (dats m 0 c).arrAt_eq_of_covers 13 _ (by decide +kernel) fun t hf y => ?_
  obtain ⟨-, -, -, -, -, -, -, -, -, -, -, -, -, e, -⟩ := index t
  have hy0 : (y 0).val < 384 := (y 0).isLt
  have hy1 : (y 1).val < 2688 := (y 1).isLt
  obtain ⟨i, hi⟩ := whole_row t hy0
  have key : whole (blk0 m c t) (blk1 m c t) (blk2 m c t) (blk3 m c t) (blk4 m c t) (blk5 m c t) (blk6 m c t) (blk7 m c t) (blk8 m c t) (blk9 m c t) (blk10 m c t) (blk11 m c t) (blk12 m c t) (ix2 (⟨_, hy0⟩ : Fin 384) (⟨_, hy1⟩ : Fin 2688))
      = val_main_v17 (F := Ideal) (dX m c) (dGate m c) (dQF m c) (dKF m c) (dVF m c) (dPF m c) (dQB m c) (dKB m c) (dVB m c) (dPB m c) (dGo m c) (wG m c) (ix2 i (⟨_, hy1⟩ : Fin 2688)) :=
    (congrArg (fun R : Row => R.out ⟨_, hy1⟩) (row_eq m c t ⟨_, hy0⟩ i hi)).trans (ref_out (dX m c) (dGate m c) (dQF m c) (dKF m c) (dVF m c) (dPF m c) (dQB m c) (dKB m c) (dVB m c) (dPB m c) (dGo m c) (zG m c) (wG m c) i ⟨_, hy1⟩).symm
  rw [after0_13, left_rows]
  refine Eq.trans ?_ (key.trans (congrArg _ ?_))
  · blk_simp
    exact congrArg _ (eq_ix2 y)
  · blk_ext [e]

/-- The two sums are written once, behind the last point. -/
theorem last : ∀ t : Fin grid0.N, ((cfg0.win 14).flush t = true → t.val = 21) ∧ ((cfg0.win 15).flush t = true → t.val = 21) := by
  decide +kernel

theorem array_w : (dats m 0 c).arrAt 14 cfg0.N = val_main_v9 (F := Ideal) (dPF m c) (dPB m c) (zG m c) := by
  refine (dats m 0 c).arrAt_eq_of_covers 14 _ (by decide +kernel) fun t hf y => ?_
  obtain ⟨-, -, -, -, -, -, -, -, -, -, -, -, -, -, e, -⟩ := index t
  have hy0 : (y 0).val < 128 := (y 0).isLt
  have hy1 : (y 1).val < 512 := (y 1).isLt
  have ht := (last t).1 hf
  have key : (outsAt0 m c t.val t.isLt).2.1 (ix2 (⟨_, hy0⟩ : Fin 128) (⟨_, hy1⟩ : Fin 512))
      = val_main_v9 (F := Ideal) (dPF m c) (dPB m c) (zG m c) (ix2 (⟨_, hy0⟩ : Fin 128) (⟨_, hy1⟩ : Fin 512)) := by
    rw [(sums m c _ _ t.val t.isLt).1, ht, upTo_all, ref_w (dX m c) (dGate m c) (dQF m c) (dKF m c) (dVF m c) (dPF m c) (dQB m c) (dKB m c) (dVB m c) (dPB m c) (dGo m c) (zG m c) (wG m c)]
  rw [after0_14]
  refine Eq.trans ?_ (key.trans (congrArg _ ?_))
  · blk_simp
    exact congrArg _ (eq_ix2 y)
  · blk_ext [e]

theorem array_b : (dats m 0 c).arrAt 15 cfg0.N = val_main_v7 (F := Ideal) (dPF m c) (dPB m c) := by
  refine (dats m 0 c).arrAt_eq_of_covers 15 _ (by decide +kernel) fun t hf y => ?_
  obtain ⟨-, -, -, -, -, -, -, -, -, -, -, -, -, -, -, e⟩ := index t
  have hy1 : (y 1).val < 512 := (y 1).isLt
  have ht := (last t).2 hf
  have key : (outsAt0 m c t.val t.isLt).2.2 (ix2 (0 : Fin 1) (⟨_, hy1⟩ : Fin 512))
      = val_main_v7 (F := Ideal) (dPF m c) (dPB m c) (ix2 (0 : Fin 1) (⟨_, hy1⟩ : Fin 512)) := by
    rw [(sums m c 0 _ t.val t.isLt).2, ht, upTo_all, ref_b (dX m c) (dGate m c) (dQF m c) (dKF m c) (dVF m c) (dPF m c) (dQB m c) (dKB m c) (dVB m c) (dPB m c) (dGo m c) (zG m c) (wG m c)]
  rw [after0_15]
  refine Eq.trans ?_ (key.trans (congrArg _ ?_))
  · blk_simp
    exact congrArg _ ((eq_ix2 y).trans (congrArg (fun z => ix2 z _) (Fin.eq_zero _)))
  · blk_ext [e]

open Idealize.SL.Sem

/-- The frame of the reference. -/
theorem ref_frame : quiescent_Reference20Ideal := fun m ρ _ => (θ_run Cert.Reference20Ideal.defs _ _).mono
  (fun r h => ⟨fun c => (h c).2.2.2, sem_eq_zero_of_no_sems (by decide) r.2⟩)
  (Cert.Reference20Ideal.Value.run (F := Ideal) m ρ)

/-- Both programs leave the same three arrays. -/
theorem equal : algebraic_Kernel20Ideal_Reference20Ideal := by
  intro m ρ m' ρ' _ hargs
  refine ⟨fun c => val_main_v17 (F := Ideal) (dX m c) (dGate m c) (dQF m c) (dKF m c) (dVF m c) (dPF m c) (dQB m c) (dKB m c) (dVB m c) (dPB m c) (dGo m c) (wG m c), fun c => val_main_v9 (F := Ideal) (dPF m c) (dPB m c) (zG m c),
    fun c => val_main_v7 (F := Ideal) (dPF m c) (dPB m c), ?_, ?_⟩
  · refine (θ_run Cert.Kernel20Ideal.defs _ _).mono (fun r h c => ?_) (Cert.Kernel20Ideal.Value.run_blocks (F := Ideal) m ρ)
    obtain ⟨e0, e1, e2, keep⟩ := h c
    exact ⟨e0.trans (array_z m c), e1.trans (array_w m c), e2.trans (array_b m c), keep⟩
  · refine (θ_run Cert.Reference20Ideal.defs _ _).mono (fun r h c => ?_) (Cert.Reference20Ideal.Value.run (F := Ideal) m' ρ')
    obtain ⟨e0, e1, e2, keep⟩ := h c
    obtain ⟨a0, a1, a2, a3, a4, a5, a6, a7, a8, a9, a10, a11, a12⟩ := hargs c
    refine ⟨e0.trans ((val_main_v17_eq ..).trans ?_), e1.trans ((val_main_v9_eq ..).trans ?_), e2.trans ((val_main_v7_eq ..).trans ?_), keep⟩
    · rw [a0, a1, a2, a3, a4, a5, a6, a7, a8, a9, a10, a12]
    · rw [a5, a9, a11]
    · rw [a5, a9]

end Cert.DZ
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Grid
public import proofs.«01_k».proof.Proof.RefStart
public import proofs.«01_k».proof.Proof.Moderate
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.DAct
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.DwDown
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.DwUp
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MlpUp
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.DwIn
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.InProj
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MlpDown
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.OutProj
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.DwOut
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.DN3
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.DN1
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.MlpLoss
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.DN1First
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.DYMix
public import proofs.«01_k».proof.Proof.Finite
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.UpdateMlp
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.UpdateIn
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.UpdateOut
public import proofs.«01_k».proof.Proof.MixFwd
public import proofs.«01_k».proof.Proof.DZ
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Quiescent
public import Idealize.ShloMosaic.Adequacy
public import Idealize.ShloMosaic.Init

@[expose] public section

noncomputable section

namespace Cert.Proof

open Idealize.ShloMosaic Idealize.SL.Sem

/-- The frame of the reference. -/
theorem ref_frame : quiescent_ReferenceIdeal := fun m ρ _ => (θ_run Cert.ReferenceIdeal.defs _ _).mono
  (fun r h => ⟨fun c => (h c).2.2.2.2.2.2.2.2, sem_eq_zero_of_no_sems (by decide) r.2⟩)
  (Cert.ReferenceIdeal.Value.run (F := Ideal) m ρ)

/-- Both programs leave the gradients of the data the arguments hold. -/
theorem equal : algebraic_KernelIdeal_ReferenceIdeal_pre_moderate := by
  intro m ρ m' ρ' hpre hargs
  have hA : ∀ c, ∃ A : Gla.Data, Gla.Holds m c A := fun c => Gla.data_of _ _ _ _ _ _ _ _ (hpre c)
  choose A H using hA
  refine ⟨fun c => Gla.asArr 256 ((A c).dq false), fun c => Gla.asArr 256 ((A c).dk false), fun c => Gla.asArr 512 ((A c).dv false),
    fun c => Gla.asArr 256 ((A c).dP false), fun c => Gla.asArr 256 ((A c).dq true), fun c => Gla.asArr 256 ((A c).dk true),
    fun c => Gla.asArr 512 ((A c).dv true), fun c => Gla.asArr 256 ((A c).dP true), ?_, ?_⟩
  · refine (θ_run Cert.KernelIdeal.defs _ _).mono (fun r h c => ?_) (Cert.KernelIdeal.Value.run_blocks (F := Ideal) m ρ)
    obtain ⟨e0, e1, e2, e3, e4, e5, e6, e7, keep⟩ := h c
    obtain ⟨f0, f1, f2, f3, f4, f5, f6, f7⟩ := Gla.arrays (H c)
    exact ⟨e0.trans f0, e1.trans f1, e2.trans f2, e3.trans f3, e4.trans f4, e5.trans f5, e6.trans f6, e7.trans f7, keep⟩
  · refine (θ_run Cert.ReferenceIdeal.defs _ _).mono (fun r h c => ?_) (Cert.ReferenceIdeal.Value.run (F := Ideal) m' ρ')
    obtain ⟨e0, e1, e2, e3, e4, e5, e6, e7, keep⟩ := h c
    have K : (A c).Is (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) := by
      obtain ⟨a0, a1, a2, a3, a4, a5, a6, a7⟩ := hargs c
      rw [a0, a1, a2, a3, a4, a5, a6, a7]
      exact H c
    exact ⟨e0.trans (Gla.fwd_dq_is m' c K), e1.trans (Gla.fwd_dk_is m' c K), e2.trans (Gla.fwd_dv_is m' c K),
      e3.trans (Gla.fwd_dP_is m' c K), e4.trans (Gla.bwd_dq_is m' c K), e5.trans (Gla.bwd_dk_is m' c K),
      e6.trans (Gla.bwd_dv_is m' c K), e7.trans (Gla.bwd_dP_is m' c K), keep⟩

/-- All that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Gla.facts, Finite.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial,
  fun m ρ _ => Cert.Kernel2.Gen.frame m ρ, fun m ρ _ => Cert.Kernel2Ideal.Gen.frame m ρ, DAct.ref_frame,
  fun m ρ _ => Cert.Kernel3.Gen.frame m ρ, fun m ρ _ => Cert.Kernel3Ideal.Gen.frame m ρ, DwDown.ref_frame,
  fun m ρ _ => Cert.Kernel4.Gen.frame m ρ, fun m ρ _ => Cert.Kernel4Ideal.Gen.frame m ρ, DwUp.ref_frame,
  fun m ρ _ => Cert.Kernel5.Gen.frame m ρ, fun m ρ _ => Cert.Kernel5Ideal.Gen.frame m ρ, MlpUp.ref_frame,
  fun m ρ _ => Cert.Kernel6.Gen.frame m ρ, fun m ρ _ => Cert.Kernel6Ideal.Gen.frame m ρ, DwIn.ref_frame,
  fun m ρ _ => Cert.Kernel7.Gen.frame m ρ, fun m ρ _ => Cert.Kernel7Ideal.Gen.frame m ρ, InProj.ref_frame,
  fun m ρ _ => Cert.Kernel8.Gen.frame m ρ, fun m ρ _ => Cert.Kernel8Ideal.Gen.frame m ρ, MlpDown.ref_frame,
  fun m ρ _ => Cert.Kernel9.Gen.frame m ρ, fun m ρ _ => Cert.Kernel9Ideal.Gen.frame m ρ, OutProj.ref_frame,
  fun m ρ _ => Cert.Kernel10.Gen.frame m ρ, fun m ρ _ => Cert.Kernel10Ideal.Gen.frame m ρ, DwOut.ref_frame,
  fun m ρ _ => Cert.Kernel11.Gen.frame m ρ, fun m ρ _ => Cert.Kernel11Ideal.Gen.frame m ρ, DN3.ref_frame,
  fun m ρ _ => Cert.Kernel12.Gen.frame m ρ, fun m ρ _ => Cert.Kernel12Ideal.Gen.frame m ρ, DN1.ref_frame,
  fun m ρ _ => Cert.Kernel13.Gen.frame m ρ, fun m ρ _ => Cert.Kernel13Ideal.Gen.frame m ρ, MlpLoss.ref_frame,
  fun m ρ _ => Cert.Kernel14.Gen.frame m ρ, fun m ρ _ => Cert.Kernel14Ideal.Gen.frame m ρ, DN1First.ref_frame,
  fun m ρ _ => Cert.Kernel15.Gen.frame m ρ, fun m ρ _ => Cert.Kernel15Ideal.Gen.frame m ρ,
  fun m ρ _ => Cert.Kernel15Ideal.Gen.frame m ρ, DYMix.ref_frame,
  fun m ρ _ => DYMix.ref_frame m ρ trivial,
  fun m ρ _ => Cert.Kernel16.Gen.frame m ρ, fun m ρ _ => Cert.Kernel16Ideal.Gen.frame m ρ, UpdateMlp.ref_frame,
  fun m ρ _ => Cert.Kernel17.Gen.frame m ρ, fun m ρ _ => Cert.Kernel17Ideal.Gen.frame m ρ, UpdateIn.ref_frame,
  fun m ρ _ => Cert.Kernel18.Gen.frame m ρ, fun m ρ _ => Cert.Kernel18Ideal.Gen.frame m ρ, UpdateOut.ref_frame,
  fun m ρ _ => Cert.Kernel19.Gen.frame m ρ, fun m ρ _ => Cert.Kernel19Ideal.Gen.frame m ρ, MixFwd.ref_frame,
  fun m ρ _ => Cert.Kernel20.Gen.frame m ρ, fun m ρ _ => Cert.Kernel20Ideal.Gen.frame m ρ, DZ.ref_frame,
  trivial, equal, trivial, DAct.equal,
  trivial, DwDown.equal,
  trivial, DwUp.equal,
  trivial, MlpUp.equal,
  trivial, DwIn.equal,
  trivial, InProj.equal,
  trivial, MlpDown.equal,
  trivial, OutProj.equal,
  trivial, DwOut.equal,
  trivial, DN3.equal,
  trivial, DN1.equal,
  trivial, MlpLoss.equal,
  trivial, DN1First.equal,
  ⟨IdealRules.named_const.statement Cert.Kernel15Ideal.κ "gelu_a" .f32 0x3D372713#32
      ((8943 / 200000 : ℝ) : EReal) rfl,
    IdealRules.named_const.statement Cert.Kernel15Ideal.κ "gelu_3a" .f32 0x3E095D4F#32
      ((26829 / 200000 : ℝ) : EReal) rfl⟩, DYMix.equal, trivial, UpdateMlp.equal, trivial, UpdateIn.equal, trivial, UpdateOut.equal,
  IdealRules.named_const.statement Cert.Kernel19Ideal.κ "gelu_a" .f32 0x3D372713#32
    ((8943 / 200000 : ℝ) : EReal) rfl, MixFwd.equal, trivial, DZ.equal⟩

end Cert.Proof

end
